-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_keys_and_areas [hPre_keys_and_areas : Cert.Pre_keys_and_areas.Facts] (m : (ℓ : Loc Cert.KernelIdeal.nD Cert.KernelIdeal.τ Cert.KernelIdeal.sig) → Buf (Elt Ideal) ℓ) : Prop :=
  ∀ c : Dev Cert.KernelIdeal.nD,
    (Cert.Pre_keys_and_areas.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_keys_and_areas [hPre_keys_and_areas : Cert.Pre_keys_and_areas.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_keys_and_areas.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Gather [hPre_indices_in_range : Cert.Pre_indices_in_range.Facts] (m : (ℓ : Loc Cert.Gather.nD Cert.Gather.τ Cert.Gather.sig) → Buf (Elt Bits) ℓ) : Prop :=
  ∀ c : Dev Cert.Gather.nD,
    (Cert.Pre_indices_in_range.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2)) (m ((c.tc : Thread Cert.Gather.nD Cert.Gather.τ).loc Cert.Gather.main_arg3)) (m ((c.tc : Thread Cert.Gather.nD Cert.Gather.τ).loc Cert.Gather.main_arg4)) (m ((c.tc : Thread Cert.Gather.nD Cert.Gather.τ).loc Cert.Gather.main_arg5)) (m ((c.tc : Thread Cert.Gather.nD Cert.Gather.τ).loc Cert.Gather.main_arg6))) = (fun _ => 1#1)

def Pre_GatherIdeal [hPre_indices_in_range : Cert.Pre_indices_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_indices_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2)) (m ((c.tc : Thread Cert.GatherIdeal.nD Cert.GatherIdeal.τ).loc Cert.GatherIdeal.main_arg3)) (m ((c.tc : Thread Cert.GatherIdeal.nD Cert.GatherIdeal.τ).loc Cert.GatherIdeal.main_arg4)) (m ((c.tc : Thread Cert.GatherIdeal.nD Cert.GatherIdeal.τ).loc Cert.GatherIdeal.main_arg5)) (m ((c.tc : Thread Cert.GatherIdeal.nD Cert.GatherIdeal.τ).loc Cert.GatherIdeal.main_arg6))) = (fun _ => 1#1)

def Pre_GatherReferenceIdeal (m : (ℓ : Loc Cert.GatherReferenceIdeal.nD Cert.GatherReferenceIdeal.τ Cert.GatherReferenceIdeal.sig) → Buf (Elt Ideal) ℓ) : Prop :=
  True

def Pre_GatherReferenceIdeal_indices_in_range [hPre_indices_in_range : Cert.Pre_indices_in_range.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_indices_in_range.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1)) (m ((c.tc : Thread Cert.GatherReferenceIdeal.nD Cert.GatherReferenceIdeal.τ).loc Cert.GatherReferenceIdeal.main_arg2)) (m ((c.tc : Thread Cert.GatherReferenceIdeal.nD Cert.GatherReferenceIdeal.τ).loc Cert.GatherReferenceIdeal.main_arg3)) (m ((c.tc : Thread Cert.GatherReferenceIdeal.nD Cert.GatherReferenceIdeal.τ).loc Cert.GatherReferenceIdeal.main_arg4)) (m ((c.tc : Thread Cert.GatherReferenceIdeal.nD Cert.GatherReferenceIdeal.τ).loc Cert.GatherReferenceIdeal.main_arg5)) (m ((c.tc : Thread Cert.GatherReferenceIdeal.nD Cert.GatherReferenceIdeal.τ).loc Cert.GatherReferenceIdeal.main_arg6))) = (fun _ => 1#1)

def Pre_Count (m : (ℓ : Loc Cert.Count.nD Cert.Count.τ Cert.Count.sig) → Buf (Elt Bits) ℓ) : Prop :=
  True

def Pre_CountIdeal (m : (ℓ : Loc Cert.CountIdeal.nD Cert.CountIdeal.τ Cert.CountIdeal.sig) → Buf (Elt Ideal) ℓ) : Prop :=
  True

def Pre_CountReferenceIdeal (m : (ℓ : Loc Cert.CountReferenceIdeal.nD Cert.CountReferenceIdeal.τ Cert.CountReferenceIdeal.sig) → Buf (Elt Ideal) ℓ) : Prop :=
  True

def Pre_Place [hPre_counts_of_keys : Cert.Pre_counts_of_keys.Facts] (m : (ℓ : Loc Cert.Place.nD Cert.Place.τ Cert.Place.sig) → Buf (Elt Bits) ℓ) : Prop :=
  ∀ c : Dev Cert.Place.nD,
    (Cert.Pre_counts_of_keys.fn (F := Bits) (m ((c.tc : Thread Cert.Place.nD Cert.Place.τ).loc Cert.Place.main_arg0)) (m ((c.tc : Thread Cert.Place.nD Cert.Place.τ).loc Cert.Place.main_arg1)) (m ((c.tc : Thread Cert.Place.nD Cert.Place.τ).loc Cert.Place.main_arg2)) (m ((c.tc : Thread Cert.Place.nD Cert.Place.τ).loc Cert.Place.main_arg3))) = (fun _ => 1#1)

def Pre_PlaceIdeal [hPre_counts_of_keys : Cert.Pre_counts_of_keys.Facts] (m : (ℓ : Loc Cert.PlaceIdeal.nD Cert.PlaceIdeal.τ Cert.PlaceIdeal.sig) → Buf (Elt Ideal) ℓ) : Prop :=
  ∀ c : Dev Cert.PlaceIdeal.nD,
    (Cert.Pre_counts_of_keys.fn (F := Ideal) (m ((c.tc : Thread Cert.PlaceIdeal.nD Cert.PlaceIdeal.τ).loc Cert.PlaceIdeal.main_arg0)) (m ((c.tc : Thread Cert.PlaceIdeal.nD Cert.PlaceIdeal.τ).loc Cert.PlaceIdeal.main_arg1)) (m ((c.tc : Thread Cert.PlaceIdeal.nD Cert.PlaceIdeal.τ).loc Cert.PlaceIdeal.main_arg2)) (m ((c.tc : Thread Cert.PlaceIdeal.nD Cert.PlaceIdeal.τ).loc Cert.PlaceIdeal.main_arg3))) = (fun _ => 1#1)

def Pre_PlaceReferenceIdeal (m : (ℓ : Loc Cert.PlaceReferenceIdeal.nD Cert.PlaceReferenceIdeal.τ Cert.PlaceReferenceIdeal.sig) → Buf (Elt Ideal) ℓ) : Prop :=
  True

def Pre_PlaceReferenceIdeal_counts_of_keys [hPre_counts_of_keys : Cert.Pre_counts_of_keys.Facts] (m : (ℓ : Loc Cert.PlaceReferenceIdeal.nD Cert.PlaceReferenceIdeal.τ Cert.PlaceReferenceIdeal.sig) → Buf (Elt Ideal) ℓ) : Prop :=
  ∀ c : Dev Cert.PlaceReferenceIdeal.nD,
    (Cert.Pre_counts_of_keys.fn (F := Ideal) (m ((c.tc : Thread Cert.PlaceReferenceIdeal.nD Cert.PlaceReferenceIdeal.τ).loc Cert.PlaceReferenceIdeal.main_arg0)) (m ((c.tc : Thread Cert.PlaceReferenceIdeal.nD Cert.PlaceReferenceIdeal.τ).loc Cert.PlaceReferenceIdeal.main_arg1)) (m ((c.tc : Thread Cert.PlaceReferenceIdeal.nD Cert.PlaceReferenceIdeal.τ).loc Cert.PlaceReferenceIdeal.main_arg2)) (m ((c.tc : Thread Cert.PlaceReferenceIdeal.nD Cert.PlaceReferenceIdeal.τ).loc Cert.PlaceReferenceIdeal.main_arg3))) = (fun _ => 1#1)

def Pre_Thr (m : (ℓ : Loc Cert.Thr.nD Cert.Thr.τ Cert.Thr.sig) → Buf (Elt Bits) ℓ) : Prop :=
  True

def Pre_ThrIdeal (m : (ℓ : Loc Cert.ThrIdeal.nD Cert.ThrIdeal.τ Cert.ThrIdeal.sig) → Buf (Elt Ideal) ℓ) : Prop :=
  True

def Pre_ThrIdeal_buckets_hold_keys [hPre_buckets_hold_keys : Cert.Pre_buckets_hold_keys.Facts] (m : (ℓ : Loc Cert.ThrIdeal.nD Cert.ThrIdeal.τ Cert.ThrIdeal.sig) → Buf (Elt Ideal) ℓ) : Prop :=
  ∀ c : Dev Cert.ThrIdeal.nD,
    (Cert.Pre_buckets_hold_keys.fn (F := Ideal) (m ((c.tc : Thread Cert.ThrIdeal.nD Cert.ThrIdeal.τ).loc Cert.ThrIdeal.main_arg0)) (m ((c.tc : Thread Cert.ThrIdeal.nD Cert.ThrIdeal.τ).loc Cert.ThrIdeal.main_arg1)) (m ((c.tc : Thread Cert.ThrIdeal.nD Cert.ThrIdeal.τ).loc Cert.ThrIdeal.main_arg2))) = (fun _ => 1#1)

def Pre_ThrReferenceIdeal (m : (ℓ : Loc Cert.ThrReferenceIdeal.nD Cert.ThrReferenceIdeal.τ Cert.ThrReferenceIdeal.sig) → Buf (Elt Ideal) ℓ) : Prop :=
  True

def Pre_ThrReferenceIdeal_buckets_hold_keys [hPre_buckets_hold_keys : Cert.Pre_buckets_hold_keys.Facts] (m : (ℓ : Loc Cert.ThrReferenceIdeal.nD Cert.ThrReferenceIdeal.τ Cert.ThrReferenceIdeal.sig) → Buf (Elt Ideal) ℓ) : Prop :=
  ∀ c : Dev Cert.ThrReferenceIdeal.nD,
    (Cert.Pre_buckets_hold_keys.fn (F := Ideal) (m ((c.tc : Thread Cert.ThrReferenceIdeal.nD Cert.ThrReferenceIdeal.τ).loc Cert.ThrReferenceIdeal.main_arg0)) (m ((c.tc : Thread Cert.ThrReferenceIdeal.nD Cert.ThrReferenceIdeal.τ).loc Cert.ThrReferenceIdeal.main_arg1)) (m ((c.tc : Thread Cert.ThrReferenceIdeal.nD Cert.ThrReferenceIdeal.τ).loc Cert.ThrReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_keys_and_areas [hKernelIdeal : Cert.KernelIdeal.Facts] [hPre_keys_and_areas : Cert.Pre_keys_and_areas.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_keys_and_areas m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_keys_and_areas [hReferenceIdeal : Cert.ReferenceIdeal.Facts] [hPre_keys_and_areas : Cert.Pre_keys_and_areas.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_keys_and_areas m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Gather [hGather : Cert.Gather.Facts] [hPre_indices_in_range : Cert.Pre_indices_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5)
      ∧ r.2.mem ((c.tc : Thread Cert.Gather.nD Cert.Gather.τ).loc Cert.Gather.main_arg6) = m ((c.tc : Thread Cert.Gather.nD Cert.Gather.τ).loc Cert.Gather.main_arg6))
      ∧ r.2.sem = fun _ => 0)

def quiescent_GatherIdeal [hGatherIdeal : Cert.GatherIdeal.Facts] [hPre_indices_in_range : Cert.Pre_indices_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
      ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2)
      ∧ r.2.mem ((c.tc : Thread Cert.GatherReferenceIdeal.nD Cert.GatherReferenceIdeal.τ).loc Cert.GatherReferenceIdeal.main_arg3) = m ((c.tc : Thread Cert.GatherReferenceIdeal.nD Cert.GatherReferenceIdeal.τ).loc Cert.GatherReferenceIdeal.main_arg3)
      ∧ r.2.mem ((c.tc : Thread Cert.GatherReferenceIdeal.nD Cert.GatherReferenceIdeal.τ).loc Cert.GatherReferenceIdeal.main_arg4) = m ((c.tc : Thread Cert.GatherReferenceIdeal.nD Cert.GatherReferenceIdeal.τ).loc Cert.GatherReferenceIdeal.main_arg4)
      ∧ r.2.mem ((c.tc : Thread Cert.GatherReferenceIdeal.nD Cert.GatherReferenceIdeal.τ).loc Cert.GatherReferenceIdeal.main_arg5) = m ((c.tc : Thread Cert.GatherReferenceIdeal.nD Cert.GatherReferenceIdeal.τ).loc Cert.GatherReferenceIdeal.main_arg5)
      ∧ r.2.mem ((c.tc : Thread Cert.GatherReferenceIdeal.nD Cert.GatherReferenceIdeal.τ).loc Cert.GatherReferenceIdeal.main_arg6) = m ((c.tc : Thread Cert.GatherReferenceIdeal.nD Cert.GatherReferenceIdeal.τ).loc Cert.GatherReferenceIdeal.main_arg6))
      ∧ r.2.sem = fun _ => 0)

def quiescent_GatherReferenceIdeal_pre_indices_in_range [hGatherReferenceIdeal : Cert.GatherReferenceIdeal.Facts] [hPre_indices_in_range : Cert.Pre_indices_in_range.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal_indices_in_range m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2)
      ∧ r.2.mem ((c.tc : Thread Cert.GatherReferenceIdeal.nD Cert.GatherReferenceIdeal.τ).loc Cert.GatherReferenceIdeal.main_arg3) = m ((c.tc : Thread Cert.GatherReferenceIdeal.nD Cert.GatherReferenceIdeal.τ).loc Cert.GatherReferenceIdeal.main_arg3)
      ∧ r.2.mem ((c.tc : Thread Cert.GatherReferenceIdeal.nD Cert.GatherReferenceIdeal.τ).loc Cert.GatherReferenceIdeal.main_arg4) = m ((c.tc : Thread Cert.GatherReferenceIdeal.nD Cert.GatherReferenceIdeal.τ).loc Cert.GatherReferenceIdeal.main_arg4)
      ∧ r.2.mem ((c.tc : Thread Cert.GatherReferenceIdeal.nD Cert.GatherReferenceIdeal.τ).loc Cert.GatherReferenceIdeal.main_arg5) = m ((c.tc : Thread Cert.GatherReferenceIdeal.nD Cert.GatherReferenceIdeal.τ).loc Cert.GatherReferenceIdeal.main_arg5)
      ∧ r.2.mem ((c.tc : Thread Cert.GatherReferenceIdeal.nD Cert.GatherReferenceIdeal.τ).loc Cert.GatherReferenceIdeal.main_arg6) = m ((c.tc : Thread Cert.GatherReferenceIdeal.nD Cert.GatherReferenceIdeal.τ).loc Cert.GatherReferenceIdeal.main_arg6))
      ∧ r.2.sem = fun _ => 0)

def quiescent_Count [hCount : Cert.Count.Facts] : Prop :=
  ∀ (m : (ℓ : Loc Cert.Count.nD Cert.Count.τ Cert.Count.sig) → Buf (Elt Bits) ℓ) (g : Dev Cert.Count.nD → PrngReg), Pre_Count m →
    θ_run (Cert.Count.defs (F := Bits)) (Cert.Count.threads (F := Bits)) ⟨m, fun _ => 0, g⟩ (fun r => (∀ c : Dev Cert.Count.nD,
      r.2.mem ((c.tc : Thread Cert.Count.nD Cert.Count.τ).loc Cert.Count.main_arg0) = m ((c.tc : Thread Cert.Count.nD Cert.Count.τ).loc Cert.Count.main_arg0)
      ∧ r.2.mem ((c.tc : Thread Cert.Count.nD Cert.Count.τ).loc Cert.Count.main_arg1) = m ((c.tc : Thread Cert.Count.nD Cert.Count.τ).loc Cert.Count.main_arg1))
      ∧ r.2.sem = fun _ => 0)

def quiescent_CountIdeal [hCountIdeal : Cert.CountIdeal.Facts] : Prop :=
  ∀ (m : (ℓ : Loc Cert.CountIdeal.nD Cert.CountIdeal.τ Cert.CountIdeal.sig) → Buf (Elt Ideal) ℓ) (g : Dev Cert.CountIdeal.nD → PrngReg), Pre_CountIdeal m →
    θ_run (Cert.CountIdeal.defs (F := Ideal)) (Cert.CountIdeal.threads (F := Ideal)) ⟨m, fun _ => 0, g⟩ (fun r => (∀ c : Dev Cert.CountIdeal.nD,
      r.2.mem ((c.tc : Thread Cert.CountIdeal.nD Cert.CountIdeal.τ).loc Cert.CountIdeal.main_arg0) = m ((c.tc : Thread Cert.CountIdeal.nD Cert.CountIdeal.τ).loc Cert.CountIdeal.main_arg0)
      ∧ r.2.mem ((c.tc : Thread Cert.CountIdeal.nD Cert.CountIdeal.τ).loc Cert.CountIdeal.main_arg1) = m ((c.tc : Thread Cert.CountIdeal.nD Cert.CountIdeal.τ).loc Cert.CountIdeal.main_arg1))
      ∧ r.2.sem = fun _ => 0)

def quiescent_CountReferenceIdeal [hCountReferenceIdeal : Cert.CountReferenceIdeal.Facts] : Prop :=
  ∀ (m : (ℓ : Loc Cert.CountReferenceIdeal.nD Cert.CountReferenceIdeal.τ Cert.CountReferenceIdeal.sig) → Buf (Elt Ideal) ℓ) (g : Dev Cert.CountReferenceIdeal.nD → PrngReg), Pre_CountReferenceIdeal m →
    θ_run (Cert.CountReferenceIdeal.defs (F := Ideal)) (onTc (τ := Cert.CountReferenceIdeal.τ) (Cert.CountReferenceIdeal.main (F := Ideal))) ⟨m, fun _ => 0, g⟩ (fun r => (∀ c : Dev Cert.CountReferenceIdeal.nD,
      r.2.mem ((c.tc : Thread Cert.CountReferenceIdeal.nD Cert.CountReferenceIdeal.τ).loc Cert.CountReferenceIdeal.main_arg0) = m ((c.tc : Thread Cert.CountReferenceIdeal.nD Cert.CountReferenceIdeal.τ).loc Cert.CountReferenceIdeal.main_arg0)
      ∧ r.2.mem ((c.tc : Thread Cert.CountReferenceIdeal.nD Cert.CountReferenceIdeal.τ).loc Cert.CountReferenceIdeal.main_arg1) = m ((c.tc : Thread Cert.CountReferenceIdeal.nD Cert.CountReferenceIdeal.τ).loc Cert.CountReferenceIdeal.main_arg1))
      ∧ r.2.sem = fun _ => 0)

def quiescent_Place [hPlace : Cert.Place.Facts] [hPre_counts_of_keys : Cert.Pre_counts_of_keys.Facts] : Prop :=
  ∀ (m : (ℓ : Loc Cert.Place.nD Cert.Place.τ Cert.Place.sig) → Buf (Elt Bits) ℓ) (g : Dev Cert.Place.nD → PrngReg), Pre_Place m →
    θ_run (Cert.Place.defs (F := Bits)) (Cert.Place.threads (F := Bits)) ⟨m, fun _ => 0, g⟩ (fun r => (∀ c : Dev Cert.Place.nD,
      r.2.mem ((c.tc : Thread Cert.Place.nD Cert.Place.τ).loc Cert.Place.main_arg0) = m ((c.tc : Thread Cert.Place.nD Cert.Place.τ).loc Cert.Place.main_arg0)
      ∧ r.2.mem ((c.tc : Thread Cert.Place.nD Cert.Place.τ).loc Cert.Place.main_arg1) = m ((c.tc : Thread Cert.Place.nD Cert.Place.τ).loc Cert.Place.main_arg1)
      ∧ r.2.mem ((c.tc : Thread Cert.Place.nD Cert.Place.τ).loc Cert.Place.main_arg2) = m ((c.tc : Thread Cert.Place.nD Cert.Place.τ).loc Cert.Place.main_arg2)
      ∧ r.2.mem ((c.tc : Thread Cert.Place.nD Cert.Place.τ).loc Cert.Place.main_arg3) = m ((c.tc : Thread Cert.Place.nD Cert.Place.τ).loc Cert.Place.main_arg3))
      ∧ r.2.sem = fun _ => 0)

def quiescent_PlaceIdeal [hPlaceIdeal : Cert.PlaceIdeal.Facts] [hPre_counts_of_keys : Cert.Pre_counts_of_keys.Facts] : Prop :=
  ∀ (m : (ℓ : Loc Cert.PlaceIdeal.nD Cert.PlaceIdeal.τ Cert.PlaceIdeal.sig) → Buf (Elt Ideal) ℓ) (g : Dev Cert.PlaceIdeal.nD → PrngReg), Pre_PlaceIdeal m →
    θ_run (Cert.PlaceIdeal.defs (F := Ideal)) (Cert.PlaceIdeal.threads (F := Ideal)) ⟨m, fun _ => 0, g⟩ (fun r => (∀ c : Dev Cert.PlaceIdeal.nD,
      r.2.mem ((c.tc : Thread Cert.PlaceIdeal.nD Cert.PlaceIdeal.τ).loc Cert.PlaceIdeal.main_arg0) = m ((c.tc : Thread Cert.PlaceIdeal.nD Cert.PlaceIdeal.τ).loc Cert.PlaceIdeal.main_arg0)
      ∧ r.2.mem ((c.tc : Thread Cert.PlaceIdeal.nD Cert.PlaceIdeal.τ).loc Cert.PlaceIdeal.main_arg1) = m ((c.tc : Thread Cert.PlaceIdeal.nD Cert.PlaceIdeal.τ).loc Cert.PlaceIdeal.main_arg1)
      ∧ r.2.mem ((c.tc : Thread Cert.PlaceIdeal.nD Cert.PlaceIdeal.τ).loc Cert.PlaceIdeal.main_arg2) = m ((c.tc : Thread Cert.PlaceIdeal.nD Cert.PlaceIdeal.τ).loc Cert.PlaceIdeal.main_arg2)
      ∧ r.2.mem ((c.tc : Thread Cert.PlaceIdeal.nD Cert.PlaceIdeal.τ).loc Cert.PlaceIdeal.main_arg3) = m ((c.tc : Thread Cert.PlaceIdeal.nD Cert.PlaceIdeal.τ).loc Cert.PlaceIdeal.main_arg3))
      ∧ r.2.sem = fun _ => 0)

def quiescent_PlaceReferenceIdeal [hPlaceReferenceIdeal : Cert.PlaceReferenceIdeal.Facts] : Prop :=
  ∀ (m : (ℓ : Loc Cert.PlaceReferenceIdeal.nD Cert.PlaceReferenceIdeal.τ Cert.PlaceReferenceIdeal.sig) → Buf (Elt Ideal) ℓ) (g : Dev Cert.PlaceReferenceIdeal.nD → PrngReg), Pre_PlaceReferenceIdeal m →
    θ_run (Cert.PlaceReferenceIdeal.defs (F := Ideal)) (onTc (τ := Cert.PlaceReferenceIdeal.τ) (Cert.PlaceReferenceIdeal.main (F := Ideal))) ⟨m, fun _ => 0, g⟩ (fun r => (∀ c : Dev Cert.PlaceReferenceIdeal.nD,
      r.2.mem ((c.tc : Thread Cert.PlaceReferenceIdeal.nD Cert.PlaceReferenceIdeal.τ).loc Cert.PlaceReferenceIdeal.main_arg0) = m ((c.tc : Thread Cert.PlaceReferenceIdeal.nD Cert.PlaceReferenceIdeal.τ).loc Cert.PlaceReferenceIdeal.main_arg0)
      ∧ r.2.mem ((c.tc : Thread Cert.PlaceReferenceIdeal.nD Cert.PlaceReferenceIdeal.τ).loc Cert.PlaceReferenceIdeal.main_arg1) = m ((c.tc : Thread Cert.PlaceReferenceIdeal.nD Cert.PlaceReferenceIdeal.τ).loc Cert.PlaceReferenceIdeal.main_arg1)
      ∧ r.2.mem ((c.tc : Thread Cert.PlaceReferenceIdeal.nD Cert.PlaceReferenceIdeal.τ).loc Cert.PlaceReferenceIdeal.main_arg2) = m ((c.tc : Thread Cert.PlaceReferenceIdeal.nD Cert.PlaceReferenceIdeal.τ).loc Cert.PlaceReferenceIdeal.main_arg2)
      ∧ r.2.mem ((c.tc : Thread Cert.PlaceReferenceIdeal.nD Cert.PlaceReferenceIdeal.τ).loc Cert.PlaceReferenceIdeal.main_arg3) = m ((c.tc : Thread Cert.PlaceReferenceIdeal.nD Cert.PlaceReferenceIdeal.τ).loc Cert.PlaceReferenceIdeal.main_arg3))
      ∧ r.2.sem = fun _ => 0)

def quiescent_PlaceReferenceIdeal_pre_counts_of_keys [hPlaceReferenceIdeal : Cert.PlaceReferenceIdeal.Facts] [hPre_counts_of_keys : Cert.Pre_counts_of_keys.Facts] : Prop :=
  ∀ (m : (ℓ : Loc Cert.PlaceReferenceIdeal.nD Cert.PlaceReferenceIdeal.τ Cert.PlaceReferenceIdeal.sig) → Buf (Elt Ideal) ℓ) (g : Dev Cert.PlaceReferenceIdeal.nD → PrngReg), Pre_PlaceReferenceIdeal_counts_of_keys m →
    θ_run (Cert.PlaceReferenceIdeal.defs (F := Ideal)) (onTc (τ := Cert.PlaceReferenceIdeal.τ) (Cert.PlaceReferenceIdeal.main (F := Ideal))) ⟨m, fun _ => 0, g⟩ (fun r => (∀ c : Dev Cert.PlaceReferenceIdeal.nD,
      r.2.mem ((c.tc : Thread Cert.PlaceReferenceIdeal.nD Cert.PlaceReferenceIdeal.τ).loc Cert.PlaceReferenceIdeal.main_arg0) = m ((c.tc : Thread Cert.PlaceReferenceIdeal.nD Cert.PlaceReferenceIdeal.τ).loc Cert.PlaceReferenceIdeal.main_arg0)
      ∧ r.2.mem ((c.tc : Thread Cert.PlaceReferenceIdeal.nD Cert.PlaceReferenceIdeal.τ).loc Cert.PlaceReferenceIdeal.main_arg1) = m ((c.tc : Thread Cert.PlaceReferenceIdeal.nD Cert.PlaceReferenceIdeal.τ).loc Cert.PlaceReferenceIdeal.main_arg1)
      ∧ r.2.mem ((c.tc : Thread Cert.PlaceReferenceIdeal.nD Cert.PlaceReferenceIdeal.τ).loc Cert.PlaceReferenceIdeal.main_arg2) = m ((c.tc : Thread Cert.PlaceReferenceIdeal.nD Cert.PlaceReferenceIdeal.τ).loc Cert.PlaceReferenceIdeal.main_arg2)
      ∧ r.2.mem ((c.tc : Thread Cert.PlaceReferenceIdeal.nD Cert.PlaceReferenceIdeal.τ).loc Cert.PlaceReferenceIdeal.main_arg3) = m ((c.tc : Thread Cert.PlaceReferenceIdeal.nD Cert.PlaceReferenceIdeal.τ).loc Cert.PlaceReferenceIdeal.main_arg3))
      ∧ r.2.sem = fun _ => 0)

def quiescent_Thr [hThr : Cert.Thr.Facts] : Prop :=
  ∀ (m : (ℓ : Loc Cert.Thr.nD Cert.Thr.τ Cert.Thr.sig) → Buf (Elt Bits) ℓ) (g : Dev Cert.Thr.nD → PrngReg), Pre_Thr m →
    θ_run (Cert.Thr.defs (F := Bits)) (Cert.Thr.threads (F := Bits)) ⟨m, fun _ => 0, g⟩ (fun r => (∀ c : Dev Cert.Thr.nD,
      r.2.mem ((c.tc : Thread Cert.Thr.nD Cert.Thr.τ).loc Cert.Thr.main_arg0) = m ((c.tc : Thread Cert.Thr.nD Cert.Thr.τ).loc Cert.Thr.main_arg0)
      ∧ r.2.mem ((c.tc : Thread Cert.Thr.nD Cert.Thr.τ).loc Cert.Thr.main_arg1) = m ((c.tc : Thread Cert.Thr.nD Cert.Thr.τ).loc Cert.Thr.main_arg1)
      ∧ r.2.mem ((c.tc : Thread Cert.Thr.nD Cert.Thr.τ).loc Cert.Thr.main_arg2) = m ((c.tc : Thread Cert.Thr.nD Cert.Thr.τ).loc Cert.Thr.main_arg2))
      ∧ r.2.sem = fun _ => 0)

def quiescent_ThrIdeal [hThrIdeal : Cert.ThrIdeal.Facts] : Prop :=
  ∀ (m : (ℓ : Loc Cert.ThrIdeal.nD Cert.ThrIdeal.τ Cert.ThrIdeal.sig) → Buf (Elt Ideal) ℓ) (g : Dev Cert.ThrIdeal.nD → PrngReg), Pre_ThrIdeal m →
    θ_run (Cert.ThrIdeal.defs (F := Ideal)) (Cert.ThrIdeal.threads (F := Ideal)) ⟨m, fun _ => 0, g⟩ (fun r => (∀ c : Dev Cert.ThrIdeal.nD,
      r.2.mem ((c.tc : Thread Cert.ThrIdeal.nD Cert.ThrIdeal.τ).loc Cert.ThrIdeal.main_arg0) = m ((c.tc : Thread Cert.ThrIdeal.nD Cert.ThrIdeal.τ).loc Cert.ThrIdeal.main_arg0)
      ∧ r.2.mem ((c.tc : Thread Cert.ThrIdeal.nD Cert.ThrIdeal.τ).loc Cert.ThrIdeal.main_arg1) = m ((c.tc : Thread Cert.ThrIdeal.nD Cert.ThrIdeal.τ).loc Cert.ThrIdeal.main_arg1)
      ∧ r.2.mem ((c.tc : Thread Cert.ThrIdeal.nD Cert.ThrIdeal.τ).loc Cert.ThrIdeal.main_arg2) = m ((c.tc : Thread Cert.ThrIdeal.nD Cert.ThrIdeal.τ).loc Cert.ThrIdeal.main_arg2))
      ∧ r.2.sem = fun _ => 0)

def quiescent_ThrIdeal_pre_buckets_hold_keys [hThrIdeal : Cert.ThrIdeal.Facts] [hPre_buckets_hold_keys : Cert.Pre_buckets_hold_keys.Facts] : Prop :=
  ∀ (m : (ℓ : Loc Cert.ThrIdeal.nD Cert.ThrIdeal.τ Cert.ThrIdeal.sig) → Buf (Elt Ideal) ℓ) (g : Dev Cert.ThrIdeal.nD → PrngReg), Pre_ThrIdeal_buckets_hold_keys m →
    θ_run (Cert.ThrIdeal.defs (F := Ideal)) (Cert.ThrIdeal.threads (F := Ideal)) ⟨m, fun _ => 0, g⟩ (fun r => (∀ c : Dev Cert.ThrIdeal.nD,
      r.2.mem ((c.tc : Thread Cert.ThrIdeal.nD Cert.ThrIdeal.τ).loc Cert.ThrIdeal.main_arg0) = m ((c.tc : Thread Cert.ThrIdeal.nD Cert.ThrIdeal.τ).loc Cert.ThrIdeal.main_arg0)
      ∧ r.2.mem ((c.tc : Thread Cert.ThrIdeal.nD Cert.ThrIdeal.τ).loc Cert.ThrIdeal.main_arg1) = m ((c.tc : Thread Cert.ThrIdeal.nD Cert.ThrIdeal.τ).loc Cert.ThrIdeal.main_arg1)
      ∧ r.2.mem ((c.tc : Thread Cert.ThrIdeal.nD Cert.ThrIdeal.τ).loc Cert.ThrIdeal.main_arg2) = m ((c.tc : Thread Cert.ThrIdeal.nD Cert.ThrIdeal.τ).loc Cert.ThrIdeal.main_arg2))
      ∧ r.2.sem = fun _ => 0)

def quiescent_ThrReferenceIdeal [hThrReferenceIdeal : Cert.ThrReferenceIdeal.Facts] : Prop :=
  ∀ (m : (ℓ : Loc Cert.ThrReferenceIdeal.nD Cert.ThrReferenceIdeal.τ Cert.ThrReferenceIdeal.sig) → Buf (Elt Ideal) ℓ) (g : Dev Cert.ThrReferenceIdeal.nD → PrngReg), Pre_ThrReferenceIdeal m →
    θ_run (Cert.ThrReferenceIdeal.defs (F := Ideal)) (onTc (τ := Cert.ThrReferenceIdeal.τ) (Cert.ThrReferenceIdeal.main (F := Ideal))) ⟨m, fun _ => 0, g⟩ (fun r => (∀ c : Dev Cert.ThrReferenceIdeal.nD,
      r.2.mem ((c.tc : Thread Cert.ThrReferenceIdeal.nD Cert.ThrReferenceIdeal.τ).loc Cert.ThrReferenceIdeal.main_arg0) = m ((c.tc : Thread Cert.ThrReferenceIdeal.nD Cert.ThrReferenceIdeal.τ).loc Cert.ThrReferenceIdeal.main_arg0)
      ∧ r.2.mem ((c.tc : Thread Cert.ThrReferenceIdeal.nD Cert.ThrReferenceIdeal.τ).loc Cert.ThrReferenceIdeal.main_arg1) = m ((c.tc : Thread Cert.ThrReferenceIdeal.nD Cert.ThrReferenceIdeal.τ).loc Cert.ThrReferenceIdeal.main_arg1)
      ∧ r.2.mem ((c.tc : Thread Cert.ThrReferenceIdeal.nD Cert.ThrReferenceIdeal.τ).loc Cert.ThrReferenceIdeal.main_arg2) = m ((c.tc : Thread Cert.ThrReferenceIdeal.nD Cert.ThrReferenceIdeal.τ).loc Cert.ThrReferenceIdeal.main_arg2))
      ∧ r.2.sem = fun _ => 0)

def quiescent_ThrReferenceIdeal_pre_buckets_hold_keys [hThrReferenceIdeal : Cert.ThrReferenceIdeal.Facts] [hPre_buckets_hold_keys : Cert.Pre_buckets_hold_keys.Facts] : Prop :=
  ∀ (m : (ℓ : Loc Cert.ThrReferenceIdeal.nD Cert.ThrReferenceIdeal.τ Cert.ThrReferenceIdeal.sig) → Buf (Elt Ideal) ℓ) (g : Dev Cert.ThrReferenceIdeal.nD → PrngReg), Pre_ThrReferenceIdeal_buckets_hold_keys m →
    θ_run (Cert.ThrReferenceIdeal.defs (F := Ideal)) (onTc (τ := Cert.ThrReferenceIdeal.τ) (Cert.ThrReferenceIdeal.main (F := Ideal))) ⟨m, fun _ => 0, g⟩ (fun r => (∀ c : Dev Cert.ThrReferenceIdeal.nD,
      r.2.mem ((c.tc : Thread Cert.ThrReferenceIdeal.nD Cert.ThrReferenceIdeal.τ).loc Cert.ThrReferenceIdeal.main_arg0) = m ((c.tc : Thread Cert.ThrReferenceIdeal.nD Cert.ThrReferenceIdeal.τ).loc Cert.ThrReferenceIdeal.main_arg0)
      ∧ r.2.mem ((c.tc : Thread Cert.ThrReferenceIdeal.nD Cert.ThrReferenceIdeal.τ).loc Cert.ThrReferenceIdeal.main_arg1) = m ((c.tc : Thread Cert.ThrReferenceIdeal.nD Cert.ThrReferenceIdeal.τ).loc Cert.ThrReferenceIdeal.main_arg1)
      ∧ r.2.mem ((c.tc : Thread Cert.ThrReferenceIdeal.nD Cert.ThrReferenceIdeal.τ).loc Cert.ThrReferenceIdeal.main_arg2) = m ((c.tc : Thread Cert.ThrReferenceIdeal.nD Cert.ThrReferenceIdeal.τ).loc Cert.ThrReferenceIdeal.main_arg2))
      ∧ r.2.sem = fun _ => 0)

def preserves_Kernel_KernelIdeal : Prop :=
  True

def algebraic_KernelIdeal_ReferenceIdeal_pre_keys_and_areas [hKernelIdeal : Cert.KernelIdeal.Facts] [hReferenceIdeal : Cert.ReferenceIdeal.Facts] [hPre_keys_and_areas : Cert.Pre_keys_and_areas.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_keys_and_areas m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v31)) (v3 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_v33) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Gather_GatherIdeal : Prop :=
  True

def algebraic_GatherIdeal_GatherReferenceIdeal [hGatherIdeal : Cert.GatherIdeal.Facts] [hGatherReferenceIdeal : Cert.GatherReferenceIdeal.Facts] [hPre_indices_in_range : Cert.Pre_indices_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)
      ∧ m' ((c.tc : Thread Cert.GatherReferenceIdeal.nD Cert.GatherReferenceIdeal.τ).loc Cert.GatherReferenceIdeal.main_arg2) = m ((c.tc : Thread Cert.GatherIdeal.nD Cert.GatherIdeal.τ).loc Cert.GatherIdeal.main_arg2)
      ∧ m' ((c.tc : Thread Cert.GatherReferenceIdeal.nD Cert.GatherReferenceIdeal.τ).loc Cert.GatherReferenceIdeal.main_arg3) = m ((c.tc : Thread Cert.GatherIdeal.nD Cert.GatherIdeal.τ).loc Cert.GatherIdeal.main_arg3)
      ∧ m' ((c.tc : Thread Cert.GatherReferenceIdeal.nD Cert.GatherReferenceIdeal.τ).loc Cert.GatherReferenceIdeal.main_arg4) = m ((c.tc : Thread Cert.GatherIdeal.nD Cert.GatherIdeal.τ).loc Cert.GatherIdeal.main_arg4)
      ∧ m' ((c.tc : Thread Cert.GatherReferenceIdeal.nD Cert.GatherReferenceIdeal.τ).loc Cert.GatherReferenceIdeal.main_arg5) = m ((c.tc : Thread Cert.GatherIdeal.nD Cert.GatherIdeal.τ).loc Cert.GatherIdeal.main_arg5)
      ∧ m' ((c.tc : Thread Cert.GatherReferenceIdeal.nD Cert.GatherReferenceIdeal.τ).loc Cert.GatherReferenceIdeal.main_arg6) = m ((c.tc : Thread Cert.GatherIdeal.nD Cert.GatherIdeal.τ).loc Cert.GatherIdeal.main_arg6)) →
    ∃ (v0 : (c : Dev Cert.GatherIdeal.nD) → Buf (Elt Ideal) ((c.tc : Thread Cert.GatherIdeal.nD Cert.GatherIdeal.τ).loc Cert.GatherIdeal.main_v4_0)) (v1 : (c : Dev Cert.GatherIdeal.nD) → Buf (Elt Ideal) ((c.tc : Thread Cert.GatherIdeal.nD Cert.GatherIdeal.τ).loc Cert.GatherIdeal.main_v4_1)) (v2 : (c : Dev Cert.GatherIdeal.nD) → Buf (Elt Ideal) ((c.tc : Thread Cert.GatherIdeal.nD Cert.GatherIdeal.τ).loc Cert.GatherIdeal.main_v4_2)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v4_0) = v0 c
          ∧ r.2.mem ((c.tc : Thread Cert.GatherIdeal.nD Cert.GatherIdeal.τ).loc Cert.GatherIdeal.main_v4_1) = v1 c
          ∧ r.2.mem ((c.tc : Thread Cert.GatherIdeal.nD Cert.GatherIdeal.τ).loc Cert.GatherIdeal.main_v4_2) = v2 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
          ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v14) = v0 c
          ∧ r.2.mem ((c.tc : Thread Cert.GatherReferenceIdeal.nD Cert.GatherReferenceIdeal.τ).loc Cert.GatherReferenceIdeal.main_v15) = v1 c
          ∧ r.2.mem ((c.tc : Thread Cert.GatherReferenceIdeal.nD Cert.GatherReferenceIdeal.τ).loc Cert.GatherReferenceIdeal.main_v17) = v2 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1)
          ∧ r.2.mem ((c.tc : Thread Cert.GatherReferenceIdeal.nD Cert.GatherReferenceIdeal.τ).loc Cert.GatherReferenceIdeal.main_arg2) = m' ((c.tc : Thread Cert.GatherReferenceIdeal.nD Cert.GatherReferenceIdeal.τ).loc Cert.GatherReferenceIdeal.main_arg2)
          ∧ r.2.mem ((c.tc : Thread Cert.GatherReferenceIdeal.nD Cert.GatherReferenceIdeal.τ).loc Cert.GatherReferenceIdeal.main_arg3) = m' ((c.tc : Thread Cert.GatherReferenceIdeal.nD Cert.GatherReferenceIdeal.τ).loc Cert.GatherReferenceIdeal.main_arg3)
          ∧ r.2.mem ((c.tc : Thread Cert.GatherReferenceIdeal.nD Cert.GatherReferenceIdeal.τ).loc Cert.GatherReferenceIdeal.main_arg4) = m' ((c.tc : Thread Cert.GatherReferenceIdeal.nD Cert.GatherReferenceIdeal.τ).loc Cert.GatherReferenceIdeal.main_arg4)
          ∧ r.2.mem ((c.tc : Thread Cert.GatherReferenceIdeal.nD Cert.GatherReferenceIdeal.τ).loc Cert.GatherReferenceIdeal.main_arg5) = m' ((c.tc : Thread Cert.GatherReferenceIdeal.nD Cert.GatherReferenceIdeal.τ).loc Cert.GatherReferenceIdeal.main_arg5)
          ∧ r.2.mem ((c.tc : Thread Cert.GatherReferenceIdeal.nD Cert.GatherReferenceIdeal.τ).loc Cert.GatherReferenceIdeal.main_arg6) = m' ((c.tc : Thread Cert.GatherReferenceIdeal.nD Cert.GatherReferenceIdeal.τ).loc Cert.GatherReferenceIdeal.main_arg6))

def preserves_Count_CountIdeal : Prop :=
  True

def algebraic_CountIdeal_CountReferenceIdeal [hCountIdeal : Cert.CountIdeal.Facts] [hCountReferenceIdeal : Cert.CountReferenceIdeal.Facts] : Prop :=
  ∀ (m : (ℓ : Loc Cert.CountIdeal.nD Cert.CountIdeal.τ Cert.CountIdeal.sig) → Buf (Elt Ideal) ℓ) (g : Dev Cert.CountIdeal.nD → PrngReg)
    (m' : (ℓ : Loc Cert.CountReferenceIdeal.nD Cert.CountReferenceIdeal.τ Cert.CountReferenceIdeal.sig) → Buf (Elt Ideal) ℓ) (g' : Dev Cert.CountReferenceIdeal.nD → PrngReg), Pre_CountIdeal m →
    (∀ c : Dev Cert.CountIdeal.nD,
      m' ((c.tc : Thread Cert.CountReferenceIdeal.nD Cert.CountReferenceIdeal.τ).loc Cert.CountReferenceIdeal.main_arg0) = m ((c.tc : Thread Cert.CountIdeal.nD Cert.CountIdeal.τ).loc Cert.CountIdeal.main_arg0)
      ∧ m' ((c.tc : Thread Cert.CountReferenceIdeal.nD Cert.CountReferenceIdeal.τ).loc Cert.CountReferenceIdeal.main_arg1) = m ((c.tc : Thread Cert.CountIdeal.nD Cert.CountIdeal.τ).loc Cert.CountIdeal.main_arg1)) →
    ∃ (v0 : (c : Dev Cert.CountIdeal.nD) → Buf (Elt Ideal) ((c.tc : Thread Cert.CountIdeal.nD Cert.CountIdeal.τ).loc Cert.CountIdeal.main_v3)),
      θ_run (Cert.CountIdeal.defs (F := Ideal)) (Cert.CountIdeal.threads (F := Ideal)) ⟨m, fun _ => 0, g⟩ (fun r => ∀ c : Dev Cert.CountIdeal.nD,
          r.2.mem ((c.tc : Thread Cert.CountIdeal.nD Cert.CountIdeal.τ).loc Cert.CountIdeal.main_v3) = v0 c
          ∧ r.2.mem ((c.tc : Thread Cert.CountIdeal.nD Cert.CountIdeal.τ).loc Cert.CountIdeal.main_arg0) = m ((c.tc : Thread Cert.CountIdeal.nD Cert.CountIdeal.τ).loc Cert.CountIdeal.main_arg0)
          ∧ r.2.mem ((c.tc : Thread Cert.CountIdeal.nD Cert.CountIdeal.τ).loc Cert.CountIdeal.main_arg1) = m ((c.tc : Thread Cert.CountIdeal.nD Cert.CountIdeal.τ).loc Cert.CountIdeal.main_arg1))
      ∧ θ_run (Cert.CountReferenceIdeal.defs (F := Ideal)) (onTc (τ := Cert.CountReferenceIdeal.τ) (Cert.CountReferenceIdeal.main (F := Ideal))) ⟨m', fun _ => 0, g'⟩ (fun r => ∀ c : Dev Cert.CountReferenceIdeal.nD,
          r.2.mem ((c.tc : Thread Cert.CountReferenceIdeal.nD Cert.CountReferenceIdeal.τ).loc Cert.CountReferenceIdeal.main_v18) = v0 c
          ∧ r.2.mem ((c.tc : Thread Cert.CountReferenceIdeal.nD Cert.CountReferenceIdeal.τ).loc Cert.CountReferenceIdeal.main_arg0) = m' ((c.tc : Thread Cert.CountReferenceIdeal.nD Cert.CountReferenceIdeal.τ).loc Cert.CountReferenceIdeal.main_arg0)
          ∧ r.2.mem ((c.tc : Thread Cert.CountReferenceIdeal.nD Cert.CountReferenceIdeal.τ).loc Cert.CountReferenceIdeal.main_arg1) = m' ((c.tc : Thread Cert.CountReferenceIdeal.nD Cert.CountReferenceIdeal.τ).loc Cert.CountReferenceIdeal.main_arg1))

def preserves_Place_PlaceIdeal : Prop :=
  True

def algebraic_PlaceIdeal_PlaceReferenceIdeal [hPlaceIdeal : Cert.PlaceIdeal.Facts] [hPlaceReferenceIdeal : Cert.PlaceReferenceIdeal.Facts] [hPre_counts_of_keys : Cert.Pre_counts_of_keys.Facts] : Prop :=
  ∀ (m : (ℓ : Loc Cert.PlaceIdeal.nD Cert.PlaceIdeal.τ Cert.PlaceIdeal.sig) → Buf (Elt Ideal) ℓ) (g : Dev Cert.PlaceIdeal.nD → PrngReg)
    (m' : (ℓ : Loc Cert.PlaceReferenceIdeal.nD Cert.PlaceReferenceIdeal.τ Cert.PlaceReferenceIdeal.sig) → Buf (Elt Ideal) ℓ) (g' : Dev Cert.PlaceReferenceIdeal.nD → PrngReg), Pre_PlaceIdeal m →
    (∀ c : Dev Cert.PlaceIdeal.nD,
      m' ((c.tc : Thread Cert.PlaceReferenceIdeal.nD Cert.PlaceReferenceIdeal.τ).loc Cert.PlaceReferenceIdeal.main_arg0) = m ((c.tc : Thread Cert.PlaceIdeal.nD Cert.PlaceIdeal.τ).loc Cert.PlaceIdeal.main_arg0)
      ∧ m' ((c.tc : Thread Cert.PlaceReferenceIdeal.nD Cert.PlaceReferenceIdeal.τ).loc Cert.PlaceReferenceIdeal.main_arg1) = m ((c.tc : Thread Cert.PlaceIdeal.nD Cert.PlaceIdeal.τ).loc Cert.PlaceIdeal.main_arg1)
      ∧ m' ((c.tc : Thread Cert.PlaceReferenceIdeal.nD Cert.PlaceReferenceIdeal.τ).loc Cert.PlaceReferenceIdeal.main_arg2) = m ((c.tc : Thread Cert.PlaceIdeal.nD Cert.PlaceIdeal.τ).loc Cert.PlaceIdeal.main_arg2)
      ∧ m' ((c.tc : Thread Cert.PlaceReferenceIdeal.nD Cert.PlaceReferenceIdeal.τ).loc Cert.PlaceReferenceIdeal.main_arg3) = m ((c.tc : Thread Cert.PlaceIdeal.nD Cert.PlaceIdeal.τ).loc Cert.PlaceIdeal.main_arg3)) →
    ∃ (v0 : (c : Dev Cert.PlaceIdeal.nD) → Buf (Elt Ideal) ((c.tc : Thread Cert.PlaceIdeal.nD Cert.PlaceIdeal.τ).loc Cert.PlaceIdeal.main_v6)),
      θ_run (Cert.PlaceIdeal.defs (F := Ideal)) (Cert.PlaceIdeal.threads (F := Ideal)) ⟨m, fun _ => 0, g⟩ (fun r => ∀ c : Dev Cert.PlaceIdeal.nD,
          r.2.mem ((c.tc : Thread Cert.PlaceIdeal.nD Cert.PlaceIdeal.τ).loc Cert.PlaceIdeal.main_v6) = v0 c
          ∧ r.2.mem ((c.tc : Thread Cert.PlaceIdeal.nD Cert.PlaceIdeal.τ).loc Cert.PlaceIdeal.main_arg0) = m ((c.tc : Thread Cert.PlaceIdeal.nD Cert.PlaceIdeal.τ).loc Cert.PlaceIdeal.main_arg0)
          ∧ r.2.mem ((c.tc : Thread Cert.PlaceIdeal.nD Cert.PlaceIdeal.τ).loc Cert.PlaceIdeal.main_arg1) = m ((c.tc : Thread Cert.PlaceIdeal.nD Cert.PlaceIdeal.τ).loc Cert.PlaceIdeal.main_arg1)
          ∧ r.2.mem ((c.tc : Thread Cert.PlaceIdeal.nD Cert.PlaceIdeal.τ).loc Cert.PlaceIdeal.main_arg2) = m ((c.tc : Thread Cert.PlaceIdeal.nD Cert.PlaceIdeal.τ).loc Cert.PlaceIdeal.main_arg2)
          ∧ r.2.mem ((c.tc : Thread Cert.PlaceIdeal.nD Cert.PlaceIdeal.τ).loc Cert.PlaceIdeal.main_arg3) = m ((c.tc : Thread Cert.PlaceIdeal.nD Cert.PlaceIdeal.τ).loc Cert.PlaceIdeal.main_arg3))
      ∧ θ_run (Cert.PlaceReferenceIdeal.defs (F := Ideal)) (onTc (τ := Cert.PlaceReferenceIdeal.τ) (Cert.PlaceReferenceIdeal.main (F := Ideal))) ⟨m', fun _ => 0, g'⟩ (fun r => ∀ c : Dev Cert.PlaceReferenceIdeal.nD,
          r.2.mem ((c.tc : Thread Cert.PlaceReferenceIdeal.nD Cert.PlaceReferenceIdeal.τ).loc Cert.PlaceReferenceIdeal.main_v64) = v0 c
          ∧ r.2.mem ((c.tc : Thread Cert.PlaceReferenceIdeal.nD Cert.PlaceReferenceIdeal.τ).loc Cert.PlaceReferenceIdeal.main_arg0) = m' ((c.tc : Thread Cert.PlaceReferenceIdeal.nD Cert.PlaceReferenceIdeal.τ).loc Cert.PlaceReferenceIdeal.main_arg0)
          ∧ r.2.mem ((c.tc : Thread Cert.PlaceReferenceIdeal.nD Cert.PlaceReferenceIdeal.τ).loc Cert.PlaceReferenceIdeal.main_arg1) = m' ((c.tc : Thread Cert.PlaceReferenceIdeal.nD Cert.PlaceReferenceIdeal.τ).loc Cert.PlaceReferenceIdeal.main_arg1)
          ∧ r.2.mem ((c.tc : Thread Cert.PlaceReferenceIdeal.nD Cert.PlaceReferenceIdeal.τ).loc Cert.PlaceReferenceIdeal.main_arg2) = m' ((c.tc : Thread Cert.PlaceReferenceIdeal.nD Cert.PlaceReferenceIdeal.τ).loc Cert.PlaceReferenceIdeal.main_arg2)
          ∧ r.2.mem ((c.tc : Thread Cert.PlaceReferenceIdeal.nD Cert.PlaceReferenceIdeal.τ).loc Cert.PlaceReferenceIdeal.main_arg3) = m' ((c.tc : Thread Cert.PlaceReferenceIdeal.nD Cert.PlaceReferenceIdeal.τ).loc Cert.PlaceReferenceIdeal.main_arg3))

def preserves_Thr_ThrIdeal : Prop :=
  True

def algebraic_ThrIdeal_ThrReferenceIdeal_pre_buckets_hold_keys [hThrIdeal : Cert.ThrIdeal.Facts] [hThrReferenceIdeal : Cert.ThrReferenceIdeal.Facts] [hPre_buckets_hold_keys : Cert.Pre_buckets_hold_keys.Facts] : Prop :=
  ∀ (m : (ℓ : Loc Cert.ThrIdeal.nD Cert.ThrIdeal.τ Cert.ThrIdeal.sig) → Buf (Elt Ideal) ℓ) (g : Dev Cert.ThrIdeal.nD → PrngReg)
    (m' : (ℓ : Loc Cert.ThrReferenceIdeal.nD Cert.ThrReferenceIdeal.τ Cert.ThrReferenceIdeal.sig) → Buf (Elt Ideal) ℓ) (g' : Dev Cert.ThrReferenceIdeal.nD → PrngReg), Pre_ThrIdeal_buckets_hold_keys m →
    (∀ c : Dev Cert.ThrIdeal.nD,
      m' ((c.tc : Thread Cert.ThrReferenceIdeal.nD Cert.ThrReferenceIdeal.τ).loc Cert.ThrReferenceIdeal.main_arg0) = m ((c.tc : Thread Cert.ThrIdeal.nD Cert.ThrIdeal.τ).loc Cert.ThrIdeal.main_arg0)
      ∧ m' ((c.tc : Thread Cert.ThrReferenceIdeal.nD Cert.ThrReferenceIdeal.τ).loc Cert.ThrReferenceIdeal.main_arg1) = m ((c.tc : Thread Cert.ThrIdeal.nD Cert.ThrIdeal.τ).loc Cert.ThrIdeal.main_arg1)
      ∧ m' ((c.tc : Thread Cert.ThrReferenceIdeal.nD Cert.ThrReferenceIdeal.τ).loc Cert.ThrReferenceIdeal.main_arg2) = m ((c.tc : Thread Cert.ThrIdeal.nD Cert.ThrIdeal.τ).loc Cert.ThrIdeal.main_arg2)) →
    ∃ (v0 : (c : Dev Cert.ThrIdeal.nD) → Buf (Elt Ideal) ((c.tc : Thread Cert.ThrIdeal.nD Cert.ThrIdeal.τ).loc Cert.ThrIdeal.main_v0)),
      θ_run (Cert.ThrIdeal.defs (F := Ideal)) (Cert.ThrIdeal.threads (F := Ideal)) ⟨m, fun _ => 0, g⟩ (fun r => ∀ c : Dev Cert.ThrIdeal.nD,
          r.2.mem ((c.tc : Thread Cert.ThrIdeal.nD Cert.ThrIdeal.τ).loc Cert.ThrIdeal.main_v0) = v0 c
          ∧ r.2.mem ((c.tc : Thread Cert.ThrIdeal.nD Cert.ThrIdeal.τ).loc Cert.ThrIdeal.main_arg0) = m ((c.tc : Thread Cert.ThrIdeal.nD Cert.ThrIdeal.τ).loc Cert.ThrIdeal.main_arg0)
          ∧ r.2.mem ((c.tc : Thread Cert.ThrIdeal.nD Cert.ThrIdeal.τ).loc Cert.ThrIdeal.main_arg1) = m ((c.tc : Thread Cert.ThrIdeal.nD Cert.ThrIdeal.τ).loc Cert.ThrIdeal.main_arg1)
          ∧ r.2.mem ((c.tc : Thread Cert.ThrIdeal.nD Cert.ThrIdeal.τ).loc Cert.ThrIdeal.main_arg2) = m ((c.tc : Thread Cert.ThrIdeal.nD Cert.ThrIdeal.τ).loc Cert.ThrIdeal.main_arg2))
      ∧ θ_run (Cert.ThrReferenceIdeal.defs (F := Ideal)) (onTc (τ := Cert.ThrReferenceIdeal.τ) (Cert.ThrReferenceIdeal.main (F := Ideal))) ⟨m', fun _ => 0, g'⟩ (fun r => ∀ c : Dev Cert.ThrReferenceIdeal.nD,
          r.2.mem ((c.tc : Thread Cert.ThrReferenceIdeal.nD Cert.ThrReferenceIdeal.τ).loc Cert.ThrReferenceIdeal.main_v70) = v0 c
          ∧ r.2.mem ((c.tc : Thread Cert.ThrReferenceIdeal.nD Cert.ThrReferenceIdeal.τ).loc Cert.ThrReferenceIdeal.main_arg0) = m' ((c.tc : Thread Cert.ThrReferenceIdeal.nD Cert.ThrReferenceIdeal.τ).loc Cert.ThrReferenceIdeal.main_arg0)
          ∧ r.2.mem ((c.tc : Thread Cert.ThrReferenceIdeal.nD Cert.ThrReferenceIdeal.τ).loc Cert.ThrReferenceIdeal.main_arg1) = m' ((c.tc : Thread Cert.ThrReferenceIdeal.nD Cert.ThrReferenceIdeal.τ).loc Cert.ThrReferenceIdeal.main_arg1)
          ∧ r.2.mem ((c.tc : Thread Cert.ThrReferenceIdeal.nD Cert.ThrReferenceIdeal.τ).loc Cert.ThrReferenceIdeal.main_arg2) = m' ((c.tc : Thread Cert.ThrReferenceIdeal.nD Cert.ThrReferenceIdeal.τ).loc Cert.ThrReferenceIdeal.main_arg2))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hCount : Cert.Count.Facts) (hCountIdeal : Cert.CountIdeal.Facts) (hCountReferenceIdeal : Cert.CountReferenceIdeal.Facts) (hPlace : Cert.Place.Facts) (hPlaceIdeal : Cert.PlaceIdeal.Facts) (hPlaceReferenceIdeal : Cert.PlaceReferenceIdeal.Facts) (hThr : Cert.Thr.Facts) (hThrIdeal : Cert.ThrIdeal.Facts) (hThrReferenceIdeal : Cert.ThrReferenceIdeal.Facts) (hPre_keys_and_areas : Cert.Pre_keys_and_areas.Facts) (hPre_indices_in_range : Cert.Pre_indices_in_range.Facts) (hPre_counts_of_keys : Cert.Pre_counts_of_keys.Facts) (hPre_buckets_hold_keys : Cert.Pre_buckets_hold_keys.Facts),
    quiescent_Kernel (hKernel := hKernel)
    ∧ quiescent_KernelIdeal (hKernelIdeal := hKernelIdeal)
    ∧ quiescent_KernelIdeal_pre_keys_and_areas (hKernelIdeal := hKernelIdeal) (hPre_keys_and_areas := hPre_keys_and_areas)
    ∧ quiescent_ReferenceIdeal (hReferenceIdeal := hReferenceIdeal)
    ∧ quiescent_ReferenceIdeal_pre_keys_and_areas (hReferenceIdeal := hReferenceIdeal) (hPre_keys_and_areas := hPre_keys_and_areas)
    ∧ quiescent_Gather (hGather := hGather) (hPre_indices_in_range := hPre_indices_in_range)
    ∧ quiescent_GatherIdeal (hGatherIdeal := hGatherIdeal) (hPre_indices_in_range := hPre_indices_in_range)
    ∧ quiescent_GatherReferenceIdeal (hGatherReferenceIdeal := hGatherReferenceIdeal)
    ∧ quiescent_GatherReferenceIdeal_pre_indices_in_range (hGatherReferenceIdeal := hGatherReferenceIdeal) (hPre_indices_in_range := hPre_indices_in_range)
    ∧ quiescent_Count (hCount := hCount)
    ∧ quiescent_CountIdeal (hCountIdeal := hCountIdeal)
    ∧ quiescent_CountReferenceIdeal (hCountReferenceIdeal := hCountReferenceIdeal)
    ∧ quiescent_Place (hPlace := hPlace) (hPre_counts_of_keys := hPre_counts_of_keys)
    ∧ quiescent_PlaceIdeal (hPlaceIdeal := hPlaceIdeal) (hPre_counts_of_keys := hPre_counts_of_keys)
    ∧ quiescent_PlaceReferenceIdeal (hPlaceReferenceIdeal := hPlaceReferenceIdeal)
    ∧ quiescent_PlaceReferenceIdeal_pre_counts_of_keys (hPlaceReferenceIdeal := hPlaceReferenceIdeal) (hPre_counts_of_keys := hPre_counts_of_keys)
    ∧ quiescent_Thr (hThr := hThr)
    ∧ quiescent_ThrIdeal (hThrIdeal := hThrIdeal)
    ∧ quiescent_ThrIdeal_pre_buckets_hold_keys (hThrIdeal := hThrIdeal) (hPre_buckets_hold_keys := hPre_buckets_hold_keys)
    ∧ quiescent_ThrReferenceIdeal (hThrReferenceIdeal := hThrReferenceIdeal)
    ∧ quiescent_ThrReferenceIdeal_pre_buckets_hold_keys (hThrReferenceIdeal := hThrReferenceIdeal) (hPre_buckets_hold_keys := hPre_buckets_hold_keys)
    ∧ preserves_Kernel_KernelIdeal
    ∧ algebraic_KernelIdeal_ReferenceIdeal_pre_keys_and_areas (hKernelIdeal := hKernelIdeal) (hReferenceIdeal := hReferenceIdeal) (hPre_keys_and_areas := hPre_keys_and_areas)
    ∧ preserves_Gather_GatherIdeal
    ∧ algebraic_GatherIdeal_GatherReferenceIdeal (hGatherIdeal := hGatherIdeal) (hGatherReferenceIdeal := hGatherReferenceIdeal) (hPre_indices_in_range := hPre_indices_in_range)
    ∧ preserves_Count_CountIdeal
    ∧ algebraic_CountIdeal_CountReferenceIdeal (hCountIdeal := hCountIdeal) (hCountReferenceIdeal := hCountReferenceIdeal)
    ∧ preserves_Place_PlaceIdeal
    ∧ algebraic_PlaceIdeal_PlaceReferenceIdeal (hPlaceIdeal := hPlaceIdeal) (hPlaceReferenceIdeal := hPlaceReferenceIdeal) (hPre_counts_of_keys := hPre_counts_of_keys)
    ∧ preserves_Thr_ThrIdeal
    ∧ algebraic_ThrIdeal_ThrReferenceIdeal_pre_buckets_hold_keys (hThrIdeal := hThrIdeal) (hThrReferenceIdeal := hThrReferenceIdeal) (hPre_buckets_hold_keys := hPre_buckets_hold_keys)
-- ==== Pre_buckets_hold_keys.lean ====
abbrev S2048 : Shape := ⟨1, ![2048]⟩
abbrev S1024 : Shape := ⟨1, ![1024]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg2 : IVec S1024 32) (main_v12 : IVec S_ 1) (main_v14 : IVec S1024 1) (main_v15 : IVec S1024 32) : IVec S_ 1 :=
  let main_v16 : IVec S1024 1 := cmpi .sle main_arg2 main_v15
  let main_v17 : IVec S1024 1 := andi main_v14 main_v16
  let main_c_7 : IVec S_ 1 := constantI S_ 1 1#1
  let main_v18 : IVec S_ 1 := (fun x v => Host.reduce IntOp.andi x v reducesTo_S1024_S_d0 h_S_) main_v17 main_c_7
  let main_v19 : IVec S_ 1 := andi main_v12 main_v18
  main_v19

def fn {F : FTy → Type} [FloatOps F] (main_arg0 : IVec S2048 32) (main_arg1 : IVec S1024 32) (main_arg2 : IVec S1024 32) : IVec S_ 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 100352#32
  let main_v2 : IVec S2048 32 := broadcastInDim S2048 ![] bcast_S_S2048 main_c_0
  let main_v3 : IVec S2048 1 := cmpi .sle main_arg0 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  let main_c_2 : IVec S_ 32 := constantI S_ 32 0#32
  let main_v6 : IVec S1024 32 := broadcastInDim S1024 ![] bcast_S_S1024 main_c_2
  let main_v7 : IVec S1024 1 := cmpi .sge main_arg1 main_v6
  let main_c_3 : IVec S_ 32 := constantI S_ 32 100352#32
  let main_v8 : IVec S1024 32 := broadcastInDim S1024 ![] bcast_S_S1024 main_c_3
  let main_v9 : IVec S1024 1 := cmpi .sle main_arg1 main_v8
  let main_v10 : IVec S1024 1 := andi main_v7 main_v9
  let main_c_4 : IVec S_ 1 := constantI S_ 1 1#1
  let main_v11 : IVec S_ 1 := (fun x v => Host.reduce IntOp.andi x v reducesTo_S1024_S_d0 h_S_) main_v10 main_c_4
  let main_v12 : IVec S_ 1 := andi main_v5 main_v11
  let main_c_5 : IVec S_ 32 := constantI S_ 32 0#32
  let main_v13 : IVec S1024 32 := broadcastInDim S1024 ![] bcast_S_S1024 main_c_5
  let main_v14 : IVec S1024 1 := cmpi .sge main_arg2 main_v13
  let main_c_6 : IVec S_ 32 := constantI S_ 32 100352#32
  let main_v15 : IVec S1024 32 := broadcastInDim S1024 ![] bcast_S_S1024 main_c_6
  fn_part1 (F := F) main_arg2 main_v12 main_v14 main_v15
-- ==== Pre_counts_of_keys.lean ====
abbrev S100000 : Shape := ⟨1, ![100000]⟩
abbrev S1 : Shape := ⟨1, ![1]⟩
abbrev S256 : Shape := ⟨1, ![256]⟩
abbrev S_ : Shape := ⟨0, ![]⟩
abbrev S352 : Shape := ⟨1, ![352]⟩
abbrev S100352 : Shape := ⟨1, ![100352]⟩
abbrev S16x6272 : Shape := ⟨2, ![16, 6272]⟩
abbrev S16x16 : Shape := ⟨2, ![16, 16]⟩
abbrev S16 : Shape := ⟨1, ![16]⟩
abbrev S16x1 : Shape := ⟨2, ![16, 1]⟩

class Facts : Prop where
  bcast_S_S352 : S_.BroadcastsInDim S352 (![] : Fin 0 → Fin S352.rank)
  concatenates_S100000_S352_S100352_d0 : Shape.Concatenates [S100000, S352] S100352 0
  shapeCasts_S100352_S16x6272 : S100352.ShapeCasts S16x6272
  shapeCasts_S256_S16x16 : S256.ShapeCasts S16x16
  shapeCasts_S1_S_ : S1.ShapeCasts S_
  bcast_S_S16x6272 : S_.BroadcastsInDim S16x6272 (![] : Fin 0 → Fin S16x6272.rank)
  natLt_1_32 : 1 < 32
  reducesTo_S16x6272_S16_d1 : S16x6272.ReducesTo [1] S16
  h_S_ : 0 < S_.numel
  slices_S16x16_S16x1_0_0 : S16x16.Slices ![0, 0] S16x1
  shapeCasts_S16x1_S16 : S16x1.ShapeCasts S16
  reducesTo_S16_S_d0 : S16.ReducesTo [0] S_
  slices_S16x16_S16x1_0_1 : S16x16.Slices ![0, 1] S16x1

variable [Facts]

def fn_part1 {F : FTy → Type} [FloatOps F] (main_arg2 : IVec S1 32) (main_v8 : IVec S16 32) (main_v13 : IVec S16 32) (main_v17 : IVec S_ 1) (main_v19 : IVec S16 32) : IVec S_ 1 :=
  let main_v20 : IVec S16 1 := cmpi .eq main_v19 main_v13
  let main_c_3 : IVec S_ 1 := constantI S_ 1 1#1
  let main_v21 : IVec S_ 1 := (fun x v => Host.reduce IntOp.andi x v reducesTo_S16_S_d0 h_S_) main_v20 main_c_3
  let main_v22 : IVec S_ 1 := andi main_v17 main_v21
  let main_v23 : IVec S_ 32 := shapeCast S_ main_arg2 shapeCasts_S1_S_
  let main_c_4 : IVec S_ 32 := constantI S_ 32 0#32
  let main_v24 : IVec S_ 32 := (fun x v => Host.reduce IntOp.addi x v reducesTo_S16_S_d0 h_S_) main_v8 main_c_4
  let main_v25 : IVec S_ 1 := cmpi .eq main_v23 main_v24
  let main_v26 : IVec S_ 1 := andi main_v22 main_v25
  let main_v27 : IVec S_ 32 := shapeCast S_ main_arg2 shapeCasts_S1_S_
  let main_c_5 : IVec S_ 32 := constantI S_ 32 2000#32
  let main_v28 : IVec S_ 1 := cmpi .slt main_v27 main_c_5
  let main_v29 : IVec S_ 1 := andi main_v26 main_v28
  let main_v30 : IVec S_ 32 := shapeCast S_ main_arg2 shapeCasts_S1_S_
  let main_c_6 : IVec S_ 32 := constantI S_ 32 0#32
  let main_v31 : IVec S_ 32 := (fun x v => Host.reduce IntOp.addi x v reducesTo_S16_S_d0 h_S_) main_v13 main_c_6
  let main_v32 : IVec S_ 32 := addi main_v30 main_v31
  let main_c_7 : IVec S_ 32 := constantI S_ 32 2000#32
  let main_v33 : IVec S_ 1 := cmpi .sge main_v32 main_c_7
  let main_v34 : IVec S_ 1 := andi main_v29 main_v33
  main_v34

def fn {F : FTy → Type} [FloatOps F] (main_arg0 : IVec S100000 32) (main_arg1 : IVec S1 32) (main_arg2 : IVec S1 32) (main_arg3 : IVec S256 32) : IVec S_ 1 :=
  let main_c : IVec S_ 32 := constantI S_ 32 4294967295#32
  let main_v0 : IVec S352 32 := broadcastInDim S352 ![] bcast_S_S352 main_c
  let main_v1 : IVec S100352 32 := (fun a b => concatenate S100352 0 [⟨S100000, a⟩, ⟨S352, b⟩] concatenates_S100000_S352_S100352_d0) main_arg0 main_v0
  let main_v2 : IVec S16x6272 32 := shapeCast S16x6272 main_v1 shapeCasts_S100352_S16x6272
  let main_v3 : IVec S16x16 32 := shapeCast S16x16 main_arg3 shapeCasts_S256_S16x16
  let main_v4 : IVec S_ 32 := shapeCast S_ main_arg1 shapeCasts_S1_S_
  let main_v5 : IVec S16x6272 32 := broadcastInDim S16x6272 ![] bcast_S_S16x6272 main_v4
  let main_v6 : IVec S16x6272 1 := cmpi .sgt main_v2 main_v5
  let main_v7 : IVec S16x6272 32 := (extui 32 · natLt_1_32) main_v6
  let main_c_0 : IVec S_ 32 := constantI S_ 32 0#32
  let main_v8 : IVec S16 32 := (fun x v => Host.reduce IntOp.addi x v reducesTo_S16x6272_S16_d1 h_S_) main_v7 main_c_0
  let main_v9 : IVec S_ 32 := shapeCast S_ main_arg1 shapeCasts_S1_S_
  let main_v10 : IVec S16x6272 32 := broadcastInDim S16x6272 ![] bcast_S_S16x6272 main_v9
  let main_v11 : IVec S16x6272 1 := cmpi .eq main_v2 main_v10
  let main_v12 : IVec S16x6272 32 := (extui 32 · natLt_1_32) main_v11
  let main_c_1 : IVec S_ 32 := constantI S_ 32 0#32
  let main_v13 : IVec S16 32 := (fun x v => Host.reduce IntOp.addi x v reducesTo_S16x6272_S16_d1 h_S_) main_v12 main_c_1
  let main_v14 : IVec S16x1 32 := (extractStridedSlice S16x1 ![0, 0] · slices_S16x16_S16x1_0_0) main_v3
  let main_v15 : IVec S16 32 := shapeCast S16 main_v14 shapeCasts_S16x1_S16
  let main_v16 : IVec S16 1 := cmpi .eq main_v15 main_v8
  let main_c_2 : IVec S_ 1 := constantI S_ 1 1#1
  let main_v17 : IVec S_ 1 := (fun x v => Host.reduce IntOp.andi x v reducesTo_S16_S_d0 h_S_) main_v16 main_c_2
  let main_v18 : IVec S16x1 32 := (extractStridedSlice S16x1 ![0, 1] · slices_S16x16_S16x1_0_1) main_v3
  let main_v19 : IVec S16 32 := shapeCast S16 main_v18 shapeCasts_S16x1_S16
  fn_part1 (F := F) main_arg2 main_v8 main_v13 main_v17 main_v19
-- ==== Pre_indices_in_range.lean ====
abbrev S100000 : Shape := ⟨1, ![100000]⟩
abbrev S20000x5 : Shape := ⟨2, ![20000, 5]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S100000 32) (main_arg1 : FVec F S20000x5 .f32) (main_arg2 : FVec F S20000x5 .f32) (main_arg3 : FVec F S20000x5 .f32) (main_arg4 : FVec F S20000x5 .f32) (main_arg5 : FVec F S20000x5 .f32) (main_arg6 : IVec S2048 32) : IVec S_ 1 :=
  let main_c : IVec S_ 32 := constantI S_ 32 0#32
  let main_v0 : IVec S2048 32 := broadcastInDim S2048 ![] bcast_S_S2048 main_c
  let main_v1 : IVec S2048 1 := cmpi .sge main_arg6 main_v0
  let main_c_0 : IVec S_ 32 := constantI S_ 32 100000#32
  let main_v2 : IVec S2048 32 := broadcastInDim S2048 ![] bcast_S_S2048 main_c_0
  let main_v3 : IVec S2048 1 := cmpi .slt main_arg6 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Pre_keys_and_areas.lean ====
abbrev S2048 : Shape := ⟨1, ![2048]⟩
abbrev S2048x5 : Shape := ⟨2, ![2048, 5]⟩
abbrev S1x3 : Shape := ⟨2, ![1, 3]⟩
abbrev S3x4096 : Shape := ⟨2, ![3, 4096]⟩
abbrev S3x1 : Shape := ⟨2, ![3, 1]⟩
abbrev S3 : Shape := ⟨1, ![3]⟩
abbrev S2000 : Shape := ⟨1, ![2000]⟩
abbrev S_ : Shape := ⟨0, ![]⟩
abbrev S2000x5 : Shape := ⟨2, ![2000, 5]⟩
abbrev S2000x1 : Shape := ⟨2, ![2000, 1]⟩
abbrev S1x1 : Shape := ⟨2, ![1, 1]⟩
abbrev S2000x3 : Shape := ⟨2, ![2000, 3]⟩

class Facts : Prop where
  slices_S2048_S2000_0 : S2048.Slices ![0] S2000
  bcast_S_S2000 : S_.BroadcastsInDim S2000 (![] : Fin 0 → Fin S2000.rank)
  reducesTo_S2000_S_d0 : S2000.ReducesTo [0] S_
  h_S_ : 0 < S_.numel
  slices_S2048x5_S2000x5_0_0 : S2048x5.Slices ![0, 0] S2000x5
  slices_S2000x5_S2000x1_0_3 : S2000x5.Slices ![0, 3] S2000x1
  shapeCasts_S2000x1_S2000 : S2000x1.ShapeCasts S2000
  slices_S2000x5_S2000x1_0_1 : S2000x5.Slices ![0, 1] S2000x1
  slices_S2000x5_S2000x1_0_4 : S2000x5.Slices ![0, 4] S2000x1
  slices_S2000x5_S2000x1_0_2 : S2000x5.Slices ![0, 2] S2000x1
  slices_S1x3_S1x1_0_0 : S1x3.Slices ![0, 0] S1x1
  shapeCasts_S1x1_S_ : S1x1.ShapeCasts S_
  bcast_S_S3x4096 : S_.BroadcastsInDim S3x4096 (![] : Fin 0 → Fin S3x4096.rank)
  bcast_S3x1_S3x4096_0_1 : S3x1.BroadcastsInDim S3x4096 (![0, 1] : Fin 2 → Fin S3x4096.rank)
  reducesTo_S3x4096_S3_d1 : S3x4096.ReducesTo [1] S3
  bcast_S2000_S2000x1_0 : S2000.BroadcastsInDim S2000x1 (![0] : Fin 1 → Fin S2000x1.rank)
  bcast_S3_S1x3_1 : S3.BroadcastsInDim S1x3 (![1] : Fin 1 → Fin S1x3.rank)
  bcast_S2000x1_S2000x3_0_1 : S2000x1.BroadcastsInDim S2000x3 (![0, 1] : Fin 2 → Fin S2000x3.rank)
  bcast_S1x3_S2000x3_0_1 : S1x3.BroadcastsInDim S2000x3 (![0, 1] : Fin 2 → Fin S2000x3.rank)
  reducesTo_S2000x3_S_d0_1 : S2000x3.ReducesTo [0, 1] S_

variable [Facts]

noncomputable abbrev lit0t0_0 (i : Nat) : BitVec 32 := match i % 128 with
  | 0 => 0x4643F7C9#32
  | 1 => 0x4643F7CA#32
  | 2 => 0x4643F7CB#32
  | 3 => 0x4643F7CC#32
  | 4 => 0x4643F7CD#32
  | 5 => 0x4643F7CE#32
  | 6 => 0x4643F7CF#32
  | 7 => 0x4643F7D0#32
  | 8 => 0x4643F7D1#32
  | 9 => 0x4643F7D2#32
  | 10 => 0x4643F7D3#32
  | 11 => 0x4643F7D4#32
  | 12 => 0x4643F7D5#32
  | 13 => 0x4643F7D6#32
  | 14 => 0x4643F7D7#32
  | 15 => 0x4643F7D8#32
  | 16 => 0x4643F7D9#32
  | 17 => 0x4643F7DA#32
  | 18 => 0x4643F7DB#32
  | 19 => 0x4643F7DC#32
  | 20 => 0x4643F7DD#32
  | 21 => 0x4643F7DE#32
  | 22 => 0x4643F7DF#32
  | 23 => 0x4643F7E0#32
  | 24 => 0x4643F7E1#32
  | 25 => 0x4643F7E2#32
  | 26 => 0x4643F7E3#32
  | 27 => 0x4643F7E4#32
  | 28 => 0x4643F7E5#32
  | 29 => 0x4643F7E6#32
  | 30 => 0x4643F7E7#32
  | 31 => 0x4643F7E8#32
  | 32 => 0x4643F7E9#32
  | 33 => 0x4643F7EA#32
  | 34 => 0x4643F7EB#32
  | 35 => 0x4643F7EC#32
  | 36 => 0x4643F7ED#32
  | 37 => 0x4643F7EE#32
  | 38 => 0x4643F7EF#32
  | 39 => 0x4643F7F0#32
  | 40 => 0x4643F7F1#32
  | 41 => 0x4643F7F2#32
  | 42 => 0x4643F7F3#32
  | 43 => 0x4643F7F4#32
  | 44 => 0x4643F7F5#32
  | 45 => 0x4643F7F6#32
  | 46 => 0x4643F7F7#32
  | 47 => 0x4643F7F8#32
  | 48 => 0x4643F7F9#32
  | 49 => 0x4643F7FA#32
  | 50 => 0x4643F7FB#32
  | 51 => 0x4643F7FC#32
  | 52 => 0x4643F7FD#32
  | 53 => 0x4643F7FE#32
  | 54 => 0x4643F7FF#32
  | 55 => 0x4643F800#32
  | 56 => 0x4643F801#32
  | 57 => 0x4643F802#32
  | 58 => 0x4643F803#32
  | 59 => 0x4643F804#32
  | 60 => 0x4643F805#32
  | 61 => 0x4643F806#32
  | 62 => 0x4643F807#32
  | 63 => 0x4643F808#32
  | 64 => 0x4643F809#32
  | 65 => 0x4643F80A#32
  | 66 => 0x4643F80B#32
  | 67 => 0x4643F80C#32
  | 68 => 0x4643F80D#32
  | 69 => 0x4643F80E#32
  | 70 => 0x4643F80F#32
  | 71 => 0x4643F810#32
  | 72 => 0x4643F811#32
  | 73 => 0x4643F812#32
  | 74 => 0x4643F813#32
  | 75 => 0x4643F814#32
  | 76 => 0x4643F815#32
  | 77 => 0x4643F816#32
  | 78 => 0x4643F817#32
  | 79 => 0x4643F818#32
  | 80 => 0x4643F819#32
  | 81 => 0x4643F81A#32
  | 82 => 0x4643F81B#32
  | 83 => 0x4643F81C#32
  | 84 => 0x4643F81D#32
  | 85 => 0x4643F81E#32
  | 86 => 0x4643F81F#32
  | 87 => 0x4643F820#32
  | 88 => 0x4643F821#32
  | 89 => 0x4643F822#32
  | 90 => 0x4643F823#32
  | 91 => 0x4643F824#32
  | 92 => 0x4643F825#32
  | 93 => 0x4643F826#32
  | 94 => 0x4643F827#32
  | 95 => 0x4643F828#32
  | 96 => 0x4643F829#32
  | 97 => 0x4643F82A#32
  | 98 => 0x4643F82B#32
  | 99 => 0x4643F82C#32
  | 100 => 0x4643F82D#32
  | 101 => 0x4643F82E#32
  | 102 => 0x4643F82F#32
  | 103 => 0x4643F830#32
  | 104 => 0x4643F831#32
  | 105 => 0x4643F832#32
  | 106 => 0x4643F833#32
  | 107 => 0x4643F834#32
  | 108 => 0x4643F835#32
  | 109 => 0x4643F836#32
  | 110 => 0x4643F837#32
  | 111 => 0x4643F838#32
  | 112 => 0x4643F839#32
  | 113 => 0x4643F83A#32
  | 114 => 0x4643F83B#32
  | 115 => 0x4643F83C#32
  | 116 => 0x4643F83D#32
  | 117 => 0x4643F83E#32
  | 118 => 0x4643F83F#32
  | 119 => 0x4643F840#32
  | 120 => 0x4643F841#32
  | 121 => 0x4643F842#32
  | 122 => 0x4643F843#32
  | 123 => 0x4643F844#32
  | 124 => 0x4643F845#32
  | 125 => 0x4643F846#32
  | 126 => 0x4643F847#32
  | 127 => 0x4643F848#32
  | _ => 0#32

noncomputable abbrev lit0t0_1 (i : Nat) : BitVec 32 := match i % 128 with
  | 0 => 0x4643F849#32
  | 1 => 0x4643F84A#32
  | 2 => 0x4643F84B#32
  | 3 => 0x4643F84C#32
  | 4 => 0x4643F84D#32
  | 5 => 0x4643F84E#32
  | 6 => 0x4643F84F#32
  | 7 => 0x4643F850#32
  | 8 => 0x4643F851#32
  | 9 => 0x4643F852#32
  | 10 => 0x4643F853#32
  | 11 => 0x4643F854#32
  | 12 => 0x4643F855#32
  | 13 => 0x4643F856#32
  | 14 => 0x4643F857#32
  | 15 => 0x4643F858#32
  | 16 => 0x4643F859#32
  | 17 => 0x4643F85A#32
  | 18 => 0x4643F85B#32
  | 19 => 0x4643F85C#32
  | 20 => 0x4643F85D#32
  | 21 => 0x4643F85E#32
  | 22 => 0x4643F85F#32
  | 23 => 0x4643F860#32
  | 24 => 0x4643F861#32
  | 25 => 0x4643F862#32
  | 26 => 0x4643F863#32
  | 27 => 0x4643F864#32
  | 28 => 0x4643F865#32
  | 29 => 0x4643F866#32
  | 30 => 0x4643F867#32
  | 31 => 0x4643F868#32
  | 32 => 0x4643F869#32
  | 33 => 0x4643F86A#32
  | 34 => 0x4643F86B#32
  | 35 => 0x4643F86C#32
  | 36 => 0x4643F86D#32
  | 37 => 0x4643F86E#32
  | 38 => 0x4643F86F#32
  | 39 => 0x4643F870#32
  | 40 => 0x4643F871#32
  | 41 => 0x4643F872#32
  | 42 => 0x4643F873#32
  | 43 => 0x4643F874#32
  | 44 => 0x4643F875#32
  | 45 => 0x4643F876#32
  | 46 => 0x4643F877#32
  | 47 => 0x4643F878#32
  | 48 => 0x4643F879#32
  | 49 => 0x4643F87A#32
  | 50 => 0x4643F87B#32
  | 51 => 0x4643F87C#32
  | 52 => 0x4643F87D#32
  | 53 => 0x4643F87E#32
  | 54 => 0x4643F87F#32
  | 55 => 0x4643F880#32
  | 56 => 0x4643F881#32
  | 57 => 0x4643F882#32
  | 58 => 0x4643F883#32
  | 59 => 0x4643F884#32
  | 60 => 0x4643F885#32
  | 61 => 0x4643F886#32
  | 62 => 0x4643F887#32
  | 63 => 0x4643F888#32
  | 64 => 0x4643F889#32
  | 65 => 0x4643F88A#32
  | 66 => 0x4643F88B#32
  | 67 => 0x4643F88C#32
  | 68 => 0x4643F88D#32
  | 69 => 0x4643F88E#32
  | 70 => 0x4643F88F#32
  | 71 => 0x4643F890#32
  | 72 => 0x4643F891#32
  | 73 => 0x4643F892#32
  | 74 => 0x4643F893#32
  | 75 => 0x4643F894#32
  | 76 => 0x4643F895#32
  | 77 => 0x4643F896#32
  | 78 => 0x4643F897#32
  | 79 => 0x4643F898#32
  | 80 => 0x4643F899#32
  | 81 => 0x4643F89A#32
  | 82 => 0x4643F89B#32
  | 83 => 0x4643F89C#32
  | 84 => 0x4643F89D#32
  | 85 => 0x4643F89E#32
  | 86 => 0x4643F89F#32
  | 87 => 0x4643F8A0#32
  | 88 => 0x4643F8A1#32
  | 89 => 0x4643F8A2#32
  | 90 => 0x4643F8A3#32
  | 91 => 0x4643F8A4#32
  | 92 => 0x4643F8A5#32
  | 93 => 0x4643F8A6#32
  | 94 => 0x4643F8A7#32
  | 95 => 0x4643F8A8#32
  | 96 => 0x4643F8A9#32
  | 97 => 0x4643F8AA#32
  | 98 => 0x4643F8AB#32
  | 99 => 0x4643F8AC#32
  | 100 => 0x4643F8AD#32
  | 101 => 0x4643F8AE#32
  | 102 => 0x4643F8AF#32
  | 103 => 0x4643F8B0#32
  | 104 => 0x4643F8B1#32
  | 105 => 0x4643F8B2#32
  | 106 => 0x4643F8B3#32
  | 107 => 0x4643F8B4#32
  | 108 => 0x4643F8B5#32
  | 109 => 0x4643F8B6#32
  | 110 => 0x4643F8B7#32
  | 111 => 0x4643F8B8#32
  | 112 => 0x4643F8B9#32
  | 113 => 0x4643F8BA#32
  | 114 => 0x4643F8BB#32
  | 115 => 0x4643F8BC#32
  | 116 => 0x4643F8BD#32
  | 117 => 0x4643F8BE#32
  | 118 => 0x4643F8BF#32
  | 119 => 0x4643F8C0#32
  | 120 => 0x4643F8C1#32
  | 121 => 0x4643F8C2#32
  | 122 => 0x4643F8C3#32
  | 123 => 0x4643F8C4#32
  | 124 => 0x4643F8C5#32
  | 125 => 0x4643F8C6#32
  | 126 => 0x4643F8C7#32
  | 127 => 0x4643F8C8#32
  | _ => 0#32

noncomputable abbrev lit0t0_2 (i : Nat) : BitVec 32 := match i % 128 with
  | 0 => 0x4643F8C9#32
  | 1 => 0x4643F8CA#32
  | 2 => 0x4643F8CB#32
  | 3 => 0x4643F8CC#32
  | 4 => 0x4643F8CD#32
  | 5 => 0x4643F8CE#32
  | 6 => 0x4643F8CF#32
  | 7 => 0x4643F8D0#32
  | 8 => 0x4643F8D1#32
  | 9 => 0x4643F8D2#32
  | 10 => 0x4643F8D3#32
  | 11 => 0x4643F8D4#32
  | 12 => 0x4643F8D5#32
  | 13 => 0x4643F8D6#32
  | 14 => 0x4643F8D7#32
  | 15 => 0x4643F8D8#32
  | 16 => 0x4643F8D9#32
  | 17 => 0x4643F8DA#32
  | 18 => 0x4643F8DB#32
  | 19 => 0x4643F8DC#32
  | 20 => 0x4643F8DD#32
  | 21 => 0x4643F8DE#32
  | 22 => 0x4643F8DF#32
  | 23 => 0x4643F8E0#32
  | 24 => 0x4643F8E1#32
  | 25 => 0x4643F8E2#32
  | 26 => 0x4643F8E3#32
  | 27 => 0x4643F8E4#32
  | 28 => 0x4643F8E5#32
  | 29 => 0x4643F8E6#32
  | 30 => 0x4643F8E7#32
  | 31 => 0x4643F8E8#32
  | 32 => 0x4643F8E9#32
  | 33 => 0x4643F8EA#32
  | 34 => 0x4643F8EB#32
  | 35 => 0x4643F8EC#32
  | 36 => 0x4643F8ED#32
  | 37 => 0x4643F8EE#32
  | 38 => 0x4643F8EF#32
  | 39 => 0x4643F8F0#32
  | 40 => 0x4643F8F1#32
  | 41 => 0x4643F8F2#32
  | 42 => 0x4643F8F3#32
  | 43 => 0x4643F8F4#32
  | 44 => 0x4643F8F5#32
  | 45 => 0x4643F8F6#32
  | 46 => 0x4643F8F7#32
  | 47 => 0x4643F8F8#32
  | 48 => 0x4643F8F9#32
  | 49 => 0x4643F8FA#32
  | 50 => 0x4643F8FB#32
  | 51 => 0x4643F8FC#32
  | 52 => 0x4643F8FD#32
  | 53 => 0x4643F8FE#32
  | 54 => 0x4643F8FF#32
  | 55 => 0x4643F900#32
  | 56 => 0x4643F901#32
  | 57 => 0x4643F902#32
  | 58 => 0x4643F903#32
  | 59 => 0x4643F904#32
  | 60 => 0x4643F905#32
  | 61 => 0x4643F906#32
  | 62 => 0x4643F907#32
  | 63 => 0x4643F908#32
  | 64 => 0x4643F909#32
  | 65 => 0x4643F90A#32
  | 66 => 0x4643F90B#32
  | 67 => 0x4643F90C#32
  | 68 => 0x4643F90D#32
  | 69 => 0x4643F90E#32
  | 70 => 0x4643F90F#32
  | 71 => 0x4643F910#32
  | 72 => 0x4643F911#32
  | 73 => 0x4643F912#32
  | 74 => 0x4643F913#32
  | 75 => 0x4643F914#32
  | 76 => 0x4643F915#32
  | 77 => 0x4643F916#32
  | 78 => 0x4643F917#32
  | 79 => 0x4643F918#32
  | 80 => 0x4643F919#32
  | 81 => 0x4643F91A#32
  | 82 => 0x4643F91B#32
  | 83 => 0x4643F91C#32
  | 84 => 0x4643F91D#32
  | 85 => 0x4643F91E#32
  | 86 => 0x4643F91F#32
  | 87 => 0x4643F920#32
  | 88 => 0x4643F921#32
  | 89 => 0x4643F922#32
  | 90 => 0x4643F923#32
  | 91 => 0x4643F924#32
  | 92 => 0x4643F925#32
  | 93 => 0x4643F926#32
  | 94 => 0x4643F927#32
  | 95 => 0x4643F928#32
  | 96 => 0x4643F929#32
  | 97 => 0x4643F92A#32
  | 98 => 0x4643F92B#32
  | 99 => 0x4643F92C#32
  | 100 => 0x4643F92D#32
  | 101 => 0x4643F92E#32
  | 102 => 0x4643F92F#32
  | 103 => 0x4643F930#32
  | 104 => 0x4643F931#32
  | 105 => 0x4643F932#32
  | 106 => 0x4643F933#32
  | 107 => 0x4643F934#32
  | 108 => 0x4643F935#32
  | 109 => 0x4643F936#32
  | 110 => 0x4643F937#32
  | 111 => 0x4643F938#32
  | 112 => 0x4643F939#32
  | 113 => 0x4643F93A#32
  | 114 => 0x4643F93B#32
  | 115 => 0x4643F93C#32
  | 116 => 0x4643F93D#32
  | 117 => 0x4643F93E#32
  | 118 => 0x4643F93F#32
  | 119 => 0x4643F940#32
  | 120 => 0x4643F941#32
  | 121 => 0x4643F942#32
  | 122 => 0x4643F943#32
  | 123 => 0x4643F944#32
  | 124 => 0x4643F945#32
  | 125 => 0x4643F946#32
  | 126 => 0x4643F947#32
  | 127 => 0x4643F948#32
  | _ => 0#32

noncomputable abbrev lit0t0_3 (i : Nat) : BitVec 32 := match i % 128 with
  | 0 => 0x4643F949#32
  | 1 => 0x4643F94A#32
  | 2 => 0x4643F94B#32
  | 3 => 0x4643F94C#32
  | 4 => 0x4643F94D#32
  | 5 => 0x4643F94E#32
  | 6 => 0x4643F94F#32
  | 7 => 0x4643F950#32
  | 8 => 0x4643F951#32
  | 9 => 0x4643F952#32
  | 10 => 0x4643F953#32
  | 11 => 0x4643F954#32
  | 12 => 0x4643F955#32
  | 13 => 0x4643F956#32
  | 14 => 0x4643F957#32
  | 15 => 0x4643F958#32
  | 16 => 0x4643F959#32
  | 17 => 0x4643F95A#32
  | 18 => 0x4643F95B#32
  | 19 => 0x4643F95C#32
  | 20 => 0x4643F95D#32
  | 21 => 0x4643F95E#32
  | 22 => 0x4643F95F#32
  | 23 => 0x4643F960#32
  | 24 => 0x4643F961#32
  | 25 => 0x4643F962#32
  | 26 => 0x4643F963#32
  | 27 => 0x4643F964#32
  | 28 => 0x4643F965#32
  | 29 => 0x4643F966#32
  | 30 => 0x4643F967#32
  | 31 => 0x4643F968#32
  | 32 => 0x4643F969#32
  | 33 => 0x4643F96A#32
  | 34 => 0x4643F96B#32
  | 35 => 0x4643F96C#32
  | 36 => 0x4643F96D#32
  | 37 => 0x4643F96E#32
  | 38 => 0x4643F96F#32
  | 39 => 0x4643F970#32
  | 40 => 0x4643F971#32
  | 41 => 0x4643F972#32
  | 42 => 0x4643F973#32
  | 43 => 0x4643F974#32
  | 44 => 0x4643F975#32
  | 45 => 0x4643F976#32
  | 46 => 0x4643F977#32
  | 47 => 0x4643F978#32
  | 48 => 0x4643F979#32
  | 49 => 0x4643F97A#32
  | 50 => 0x4643F97B#32
  | 51 => 0x4643F97C#32
  | 52 => 0x4643F97D#32
  | 53 => 0x4643F97E#32
  | 54 => 0x4643F97F#32
  | 55 => 0x4643F980#32
  | 56 => 0x4643F981#32
  | 57 => 0x4643F982#32
  | 58 => 0x4643F983#32
  | 59 => 0x4643F984#32
  | 60 => 0x4643F985#32
  | 61 => 0x4643F986#32
  | 62 => 0x4643F987#32
  | 63 => 0x4643F988#32
  | 64 => 0x4643F989#32
  | 65 => 0x4643F98A#32
  | 66 => 0x4643F98B#32
  | 67 => 0x4643F98C#32
  | 68 => 0x4643F98D#32
  | 69 => 0x4643F98E#32
  | 70 => 0x4643F98F#32
  | 71 => 0x4643F990#32
  | 72 => 0x4643F991#32
  | 73 => 0x4643F992#32
  | 74 => 0x4643F993#32
  | 75 => 0x4643F994#32
  | 76 => 0x4643F995#32
  | 77 => 0x4643F996#32
  | 78 => 0x4643F997#32
  | 79 => 0x4643F998#32
  | 80 => 0x4643F999#32
  | 81 => 0x4643F99A#32
  | 82 => 0x4643F99B#32
  | 83 => 0x4643F99C#32
  | 84 => 0x4643F99D#32
  | 85 => 0x4643F99E#32
  | 86 => 0x4643F99F#32
  | 87 => 0x4643F9A0#32
  | 88 => 0x4643F9A1#32
  | 89 => 0x4643F9A2#32
  | 90 => 0x4643F9A3#32
  | 91 => 0x4643F9A4#32
  | 92 => 0x4643F9A5#32
  | 93 => 0x4643F9A6#32
  | 94 => 0x4643F9A7#32
  | 95 => 0x4643F9A8#32
  | 96 => 0x4643F9A9#32
  | 97 => 0x4643F9AA#32
  | 98 => 0x4643F9AB#32
  | 99 => 0x4643F9AC#32
  | 100 => 0x4643F9AD#32
  | 101 => 0x4643F9AE#32
  | 102 => 0x4643F9AF#32
  | 103 => 0x4643F9B0#32
  | 104 => 0x4643F9B1#32
  | 105 => 0x4643F9B2#32
  | 106 => 0x4643F9B3#32
  | 107 => 0x4643F9B4#32
  | 108 => 0x4643F9B5#32
  | 109 => 0x4643F9B6#32
  | 110 => 0x4643F9B7#32
  | 111 => 0x4643F9B8#32
  | 112 => 0x4643F9B9#32
  | 113 => 0x4643F9BA#32
  | 114 => 0x4643F9BB#32
  | 115 => 0x4643F9BC#32
  | 116 => 0x4643F9BD#32
  | 117 => 0x4643F9BE#32
  | 118 => 0x4643F9BF#32
  | 119 => 0x4643F9C0#32
  | 120 => 0x4643F9C1#32
  | 121 => 0x4643F9C2#32
  | 122 => 0x4643F9C3#32
  | 123 => 0x4643F9C4#32
  | 124 => 0x4643F9C5#32
  | 125 => 0x4643F9C6#32
  | 126 => 0x4643F9C7#32
  | 127 => 0x4643F9C8#32
  | _ => 0#32

noncomputable abbrev lit0t0_4 (i : Nat) : BitVec 32 := match i % 128 with
  | 0 => 0x4643F9C9#32
  | 1 => 0x4643F9CA#32
  | 2 => 0x4643F9CB#32
  | 3 => 0x4643F9CC#32
  | 4 => 0x4643F9CD#32
  | 5 => 0x4643F9CE#32
  | 6 => 0x4643F9CF#32
  | 7 => 0x4643F9D0#32
  | 8 => 0x4643F9D1#32
  | 9 => 0x4643F9D2#32
  | 10 => 0x4643F9D3#32
  | 11 => 0x4643F9D4#32
  | 12 => 0x4643F9D5#32
  | 13 => 0x4643F9D6#32
  | 14 => 0x4643F9D7#32
  | 15 => 0x4643F9D8#32
  | 16 => 0x4643F9D9#32
  | 17 => 0x4643F9DA#32
  | 18 => 0x4643F9DB#32
  | 19 => 0x4643F9DC#32
  | 20 => 0x4643F9DD#32
  | 21 => 0x4643F9DE#32
  | 22 => 0x4643F9DF#32
  | 23 => 0x4643F9E0#32
  | 24 => 0x4643F9E1#32
  | 25 => 0x4643F9E2#32
  | 26 => 0x4643F9E3#32
  | 27 => 0x4643F9E4#32
  | 28 => 0x4643F9E5#32
  | 29 => 0x4643F9E6#32
  | 30 => 0x4643F9E7#32
  | 31 => 0x4643F9E8#32
  | 32 => 0x4643F9E9#32
  | 33 => 0x4643F9EA#32
  | 34 => 0x4643F9EB#32
  | 35 => 0x4643F9EC#32
  | 36 => 0x4643F9ED#32
  | 37 => 0x4643F9EE#32
  | 38 => 0x4643F9EF#32
  | 39 => 0x4643F9F0#32
  | 40 => 0x4643F9F1#32
  | 41 => 0x4643F9F2#32
  | 42 => 0x4643F9F3#32
  | 43 => 0x4643F9F4#32
  | 44 => 0x4643F9F5#32
  | 45 => 0x4643F9F6#32
  | 46 => 0x4643F9F7#32
  | 47 => 0x4643F9F8#32
  | 48 => 0x4643F9F9#32
  | 49 => 0x4643F9FA#32
  | 50 => 0x4643F9FB#32
  | 51 => 0x4643F9FC#32
  | 52 => 0x4643F9FD#32
  | 53 => 0x4643F9FE#32
  | 54 => 0x4643F9FF#32
  | 55 => 0x4643FA00#32
  | 56 => 0x4643FA01#32
  | 57 => 0x4643FA02#32
  | 58 => 0x4643FA03#32
  | 59 => 0x4643FA04#32
  | 60 => 0x4643FA05#32
  | 61 => 0x4643FA06#32
  | 62 => 0x4643FA07#32
  | 63 => 0x4643FA08#32
  | 64 => 0x4643FA09#32
  | 65 => 0x4643FA0A#32
  | 66 => 0x4643FA0B#32
  | 67 => 0x4643FA0C#32
  | 68 => 0x4643FA0D#32
  | 69 => 0x4643FA0E#32
  | 70 => 0x4643FA0F#32
  | 71 => 0x4643FA10#32
  | 72 => 0x4643FA11#32
  | 73 => 0x4643FA12#32
  | 74 => 0x4643FA13#32
  | 75 => 0x4643FA14#32
  | 76 => 0x4643FA15#32
  | 77 => 0x4643FA16#32
  | 78 => 0x4643FA17#32
  | 79 => 0x4643FA18#32
  | 80 => 0x4643FA19#32
  | 81 => 0x4643FA1A#32
  | 82 => 0x4643FA1B#32
  | 83 => 0x4643FA1C#32
  | 84 => 0x4643FA1D#32
  | 85 => 0x4643FA1E#32
  | 86 => 0x4643FA1F#32
  | 87 => 0x4643FA20#32
  | 88 => 0x4643FA21#32
  | 89 => 0x4643FA22#32
  | 90 => 0x4643FA23#32
  | 91 => 0x4643FA24#32
  | 92 => 0x4643FA25#32
  | 93 => 0x4643FA26#32
  | 94 => 0x4643FA27#32
  | 95 => 0x4643FA28#32
  | 96 => 0x4643FA29#32
  | 97 => 0x4643FA2A#32
  | 98 => 0x4643FA2B#32
  | 99 => 0x4643FA2C#32
  | 100 => 0x4643FA2D#32
  | 101 => 0x4643FA2E#32
  | 102 => 0x4643FA2F#32
  | 103 => 0x4643FA30#32
  | 104 => 0x4643FA31#32
  | 105 => 0x4643FA32#32
  | 106 => 0x4643FA33#32
  | 107 => 0x4643FA34#32
  | 108 => 0x4643FA35#32
  | 109 => 0x4643FA36#32
  | 110 => 0x4643FA37#32
  | 111 => 0x4643FA38#32
  | 112 => 0x4643FA39#32
  | 113 => 0x4643FA3A#32
  | 114 => 0x4643FA3B#32
  | 115 => 0x4643FA3C#32
  | 116 => 0x4643FA3D#32
  | 117 => 0x4643FA3E#32
  | 118 => 0x4643FA3F#32
  | 119 => 0x4643FA40#32
  | 120 => 0x4643FA41#32
  | 121 => 0x4643FA42#32
  | 122 => 0x4643FA43#32
  | 123 => 0x4643FA44#32
  | 124 => 0x4643FA45#32
  | 125 => 0x4643FA46#32
  | 126 => 0x4643FA47#32
  | 127 => 0x4643FA48#32
  | _ => 0#32

noncomputable abbrev lit0t0_5 (i : Nat) : BitVec 32 := match i % 128 with
  | 0 => 0x4643FA49#32
  | 1 => 0x4643FA4A#32
  | 2 => 0x4643FA4B#32
  | 3 => 0x4643FA4C#32
  | 4 => 0x4643FA4D#32
  | 5 => 0x4643FA4E#32
  | 6 => 0x4643FA4F#32
  | 7 => 0x4643FA50#32
  | 8 => 0x4643FA51#32
  | 9 => 0x4643FA52#32
  | 10 => 0x4643FA53#32
  | 11 => 0x4643FA54#32
  | 12 => 0x4643FA55#32
  | 13 => 0x4643FA56#32
  | 14 => 0x4643FA57#32
  | 15 => 0x4643FA58#32
  | 16 => 0x4643FA59#32
  | 17 => 0x4643FA5A#32
  | 18 => 0x4643FA5B#32
  | 19 => 0x4643FA5C#32
  | 20 => 0x4643FA5D#32
  | 21 => 0x4643FA5E#32
  | 22 => 0x4643FA5F#32
  | 23 => 0x4643FA60#32
  | 24 => 0x4643FA61#32
  | 25 => 0x4643FA62#32
  | 26 => 0x4643FA63#32
  | 27 => 0x4643FA64#32
  | 28 => 0x4643FA65#32
  | 29 => 0x4643FA66#32
  | 30 => 0x4643FA67#32
  | 31 => 0x4643FA68#32
  | 32 => 0x4643FA69#32
  | 33 => 0x4643FA6A#32
  | 34 => 0x4643FA6B#32
  | 35 => 0x4643FA6C#32
  | 36 => 0x4643FA6D#32
  | 37 => 0x4643FA6E#32
  | 38 => 0x4643FA6F#32
  | 39 => 0x4643FA70#32
  | 40 => 0x4643FA71#32
  | 41 => 0x4643FA72#32
  | 42 => 0x4643FA73#32
  | 43 => 0x4643FA74#32
  | 44 => 0x4643FA75#32
  | 45 => 0x4643FA76#32
  | 46 => 0x4643FA77#32
  | 47 => 0x4643FA78#32
  | 48 => 0x4643FA79#32
  | 49 => 0x4643FA7A#32
  | 50 => 0x4643FA7B#32
  | 51 => 0x4643FA7C#32
  | 52 => 0x4643FA7D#32
  | 53 => 0x4643FA7E#32
  | 54 => 0x4643FA7F#32
  | 55 => 0x4643FA80#32
  | 56 => 0x4643FA81#32
  | 57 => 0x4643FA82#32
  | 58 => 0x4643FA83#32
  | 59 => 0x4643FA84#32
  | 60 => 0x4643FA85#32
  | 61 => 0x4643FA86#32
  | 62 => 0x4643FA87#32
  | 63 => 0x4643FA88#32
  | 64 => 0x4643FA89#32
  | 65 => 0x4643FA8A#32
  | 66 => 0x4643FA8B#32
  | 67 => 0x4643FA8C#32
  | 68 => 0x4643FA8D#32
  | 69 => 0x4643FA8E#32
  | 70 => 0x4643FA8F#32
  | 71 => 0x4643FA90#32
  | 72 => 0x4643FA91#32
  | 73 => 0x4643FA92#32
  | 74 => 0x4643FA93#32
  | 75 => 0x4643FA94#32
  | 76 => 0x4643FA95#32
  | 77 => 0x4643FA96#32
  | 78 => 0x4643FA97#32
  | 79 => 0x4643FA98#32
  | 80 => 0x4643FA99#32
  | 81 => 0x4643FA9A#32
  | 82 => 0x4643FA9B#32
  | 83 => 0x4643FA9C#32
  | 84 => 0x4643FA9D#32
  | 85 => 0x4643FA9E#32
  | 86 => 0x4643FA9F#32
  | 87 => 0x4643FAA0#32
  | 88 => 0x4643FAA1#32
  | 89 => 0x4643FAA2#32
  | 90 => 0x4643FAA3#32
  | 91 => 0x4643FAA4#32
  | 92 => 0x4643FAA5#32
  | 93 => 0x4643FAA6#32
  | 94 => 0x4643FAA7#32
  | 95 => 0x4643FAA8#32
  | 96 => 0x4643FAA9#32
  | 97 => 0x4643FAAA#32
  | 98 => 0x4643FAAB#32
  | 99 => 0x4643FAAC#32
  | 100 => 0x4643FAAD#32
  | 101 => 0x4643FAAE#32
  | 102 => 0x4643FAAF#32
  | 103 => 0x4643FAB0#32
  | 104 => 0x4643FAB1#32
  | 105 => 0x4643FAB2#32
  | 106 => 0x4643FAB3#32
  | 107 => 0x4643FAB4#32
  | 108 => 0x4643FAB5#32
  | 109 => 0x4643FAB6#32
  | 110 => 0x4643FAB7#32
  | 111 => 0x4643FAB8#32
  | 112 => 0x4643FAB9#32
  | 113 => 0x4643FABA#32
  | 114 => 0x4643FABB#32
  | 115 => 0x4643FABC#32
  | 116 => 0x4643FABD#32
  | 117 => 0x4643FABE#32
  | 118 => 0x4643FABF#32
  | 119 => 0x4643FAC0#32
  | 120 => 0x4643FAC1#32
  | 121 => 0x4643FAC2#32
  | 122 => 0x4643FAC3#32
  | 123 => 0x4643FAC4#32
  | 124 => 0x4643FAC5#32
  | 125 => 0x4643FAC6#32
  | 126 => 0x4643FAC7#32
  | 127 => 0x4643FAC8#32
  | _ => 0#32

noncomputable abbrev lit0t0_6 (i : Nat) : BitVec 32 := match i % 128 with
  | 0 => 0x4643FAC9#32
  | 1 => 0x4643FACA#32
  | 2 => 0x4643FACB#32
  | 3 => 0x4643FACC#32
  | 4 => 0x4643FACD#32
  | 5 => 0x4643FACE#32
  | 6 => 0x4643FACF#32
  | 7 => 0x4643FAD0#32
  | 8 => 0x4643FAD1#32
  | 9 => 0x4643FAD2#32
  | 10 => 0x4643FAD3#32
  | 11 => 0x4643FAD4#32
  | 12 => 0x4643FAD5#32
  | 13 => 0x4643FAD6#32
  | 14 => 0x4643FAD7#32
  | 15 => 0x4643FAD8#32
  | 16 => 0x4643FAD9#32
  | 17 => 0x4643FADA#32
  | 18 => 0x4643FADB#32
  | 19 => 0x4643FADC#32
  | 20 => 0x4643FADD#32
  | 21 => 0x4643FADE#32
  | 22 => 0x4643FADF#32
  | 23 => 0x4643FAE0#32
  | 24 => 0x4643FAE1#32
  | 25 => 0x4643FAE2#32
  | 26 => 0x4643FAE3#32
  | 27 => 0x4643FAE4#32
  | 28 => 0x4643FAE5#32
  | 29 => 0x4643FAE6#32
  | 30 => 0x4643FAE7#32
  | 31 => 0x4643FAE8#32
  | 32 => 0x4643FAE9#32
  | 33 => 0x4643FAEA#32
  | 34 => 0x4643FAEB#32
  | 35 => 0x4643FAEC#32
  | 36 => 0x4643FAED#32
  | 37 => 0x4643FAEE#32
  | 38 => 0x4643FAEF#32
  | 39 => 0x4643FAF0#32
  | 40 => 0x4643FAF1#32
  | 41 => 0x4643FAF2#32
  | 42 => 0x4643FAF3#32
  | 43 => 0x4643FAF4#32
  | 44 => 0x4643FAF5#32
  | 45 => 0x4643FAF6#32
  | 46 => 0x4643FAF7#32
  | 47 => 0x4643FAF8#32
  | 48 => 0x4643FAF9#32
  | 49 => 0x4643FAFA#32
  | 50 => 0x4643FAFB#32
  | 51 => 0x4643FAFC#32
  | 52 => 0x4643FAFD#32
  | 53 => 0x4643FAFE#32
  | 54 => 0x4643FAFF#32
  | 55 => 0x4643FB00#32
  | 56 => 0x4643FB01#32
  | 57 => 0x4643FB02#32
  | 58 => 0x4643FB03#32
  | 59 => 0x4643FB04#32
  | 60 => 0x4643FB05#32
  | 61 => 0x4643FB06#32
  | 62 => 0x4643FB07#32
  | 63 => 0x4643FB08#32
  | 64 => 0x4643FB09#32
  | 65 => 0x4643FB0A#32
  | 66 => 0x4643FB0B#32
  | 67 => 0x4643FB0C#32
  | 68 => 0x4643FB0D#32
  | 69 => 0x4643FB0E#32
  | 70 => 0x4643FB0F#32
  | 71 => 0x4643FB10#32
  | 72 => 0x4643FB11#32
  | 73 => 0x4643FB12#32
  | 74 => 0x4643FB13#32
  | 75 => 0x4643FB14#32
  | 76 => 0x4643FB15#32
  | 77 => 0x4643FB16#32
  | 78 => 0x4643FB17#32
  | 79 => 0x4643FB18#32
  | 80 => 0x4643FB19#32
  | 81 => 0x4643FB1A#32
  | 82 => 0x4643FB1B#32
  | 83 => 0x4643FB1C#32
  | 84 => 0x4643FB1D#32
  | 85 => 0x4643FB1E#32
  | 86 => 0x4643FB1F#32
  | 87 => 0x4643FB20#32
  | 88 => 0x4643FB21#32
  | 89 => 0x4643FB22#32
  | 90 => 0x4643FB23#32
  | 91 => 0x4643FB24#32
  | 92 => 0x4643FB25#32
  | 93 => 0x4643FB26#32
  | 94 => 0x4643FB27#32
  | 95 => 0x4643FB28#32
  | 96 => 0x4643FB29#32
  | 97 => 0x4643FB2A#32
  | 98 => 0x4643FB2B#32
  | 99 => 0x4643FB2C#32
  | 100 => 0x4643FB2D#32
  | 101 => 0x4643FB2E#32
  | 102 => 0x4643FB2F#32
  | 103 => 0x4643FB30#32
  | 104 => 0x4643FB31#32
  | 105 => 0x4643FB32#32
  | 106 => 0x4643FB33#32
  | 107 => 0x4643FB34#32
  | 108 => 0x4643FB35#32
  | 109 => 0x4643FB36#32
  | 110 => 0x4643FB37#32
  | 111 => 0x4643FB38#32
  | 112 => 0x4643FB39#32
  | 113 => 0x4643FB3A#32
  | 114 => 0x4643FB3B#32
  | 115 => 0x4643FB3C#32
  | 116 => 0x4643FB3D#32
  | 117 => 0x4643FB3E#32
  | 118 => 0x4643FB3F#32
  | 119 => 0x4643FB40#32
  | 120 => 0x4643FB41#32
  | 121 => 0x4643FB42#32
  | 122 => 0x4643FB43#32
  | 123 => 0x4643FB44#32
  | 124 => 0x4643FB45#32
  | 125 => 0x4643FB46#32
  | 126 => 0x4643FB47#32
  | 127 => 0x4643FB48#32
  | _ => 0#32

noncomputable abbrev lit0t0_7 (i : Nat) : BitVec 32 := match i % 128 with
  | 0 => 0x4643FB49#32
  | 1 => 0x4643FB4A#32
  | 2 => 0x4643FB4B#32
  | 3 => 0x4643FB4C#32
  | 4 => 0x4643FB4D#32
  | 5 => 0x4643FB4E#32
  | 6 => 0x4643FB4F#32
  | 7 => 0x4643FB50#32
  | 8 => 0x4643FB51#32
  | 9 => 0x4643FB52#32
  | 10 => 0x4643FB53#32
  | 11 => 0x4643FB54#32
  | 12 => 0x4643FB55#32
  | 13 => 0x4643FB56#32
  | 14 => 0x4643FB57#32
  | 15 => 0x4643FB58#32
  | 16 => 0x4643FB59#32
  | 17 => 0x4643FB5A#32
  | 18 => 0x4643FB5B#32
  | 19 => 0x4643FB5C#32
  | 20 => 0x4643FB5D#32
  | 21 => 0x4643FB5E#32
  | 22 => 0x4643FB5F#32
  | 23 => 0x4643FB60#32
  | 24 => 0x4643FB61#32
  | 25 => 0x4643FB62#32
  | 26 => 0x4643FB63#32
  | 27 => 0x4643FB64#32
  | 28 => 0x4643FB65#32
  | 29 => 0x4643FB66#32
  | 30 => 0x4643FB67#32
  | 31 => 0x4643FB68#32
  | 32 => 0x4643FB69#32
  | 33 => 0x4643FB6A#32
  | 34 => 0x4643FB6B#32
  | 35 => 0x4643FB6C#32
  | 36 => 0x4643FB6D#32
  | 37 => 0x4643FB6E#32
  | 38 => 0x4643FB6F#32
  | 39 => 0x4643FB70#32
  | 40 => 0x4643FB71#32
  | 41 => 0x4643FB72#32
  | 42 => 0x4643FB73#32
  | 43 => 0x4643FB74#32
  | 44 => 0x4643FB75#32
  | 45 => 0x4643FB76#32
  | 46 => 0x4643FB77#32
  | 47 => 0x4643FB78#32
  | 48 => 0x4643FB79#32
  | 49 => 0x4643FB7A#32
  | 50 => 0x4643FB7B#32
  | 51 => 0x4643FB7C#32
  | 52 => 0x4643FB7D#32
  | 53 => 0x4643FB7E#32
  | 54 => 0x4643FB7F#32
  | 55 => 0x4643FB80#32
  | 56 => 0x4643FB81#32
  | 57 => 0x4643FB82#32
  | 58 => 0x4643FB83#32
  | 59 => 0x4643FB84#32
  | 60 => 0x4643FB85#32
  | 61 => 0x4643FB86#32
  | 62 => 0x4643FB87#32
  | 63 => 0x4643FB88#32
  | 64 => 0x4643FB89#32
  | 65 => 0x4643FB8A#32
  | 66 => 0x4643FB8B#32
  | 67 => 0x4643FB8C#32
  | 68 => 0x4643FB8D#32
  | 69 => 0x4643FB8E#32
  | 70 => 0x4643FB8F#32
  | 71 => 0x4643FB90#32
  | 72 => 0x4643FB91#32
  | 73 => 0x4643FB92#32
  | 74 => 0x4643FB93#32
  | 75 => 0x4643FB94#32
  | 76 => 0x4643FB95#32
  | 77 => 0x4643FB96#32
  | 78 => 0x4643FB97#32
  | 79 => 0x4643FB98#32
  | 80 => 0x4643FB99#32
  | 81 => 0x4643FB9A#32
  | 82 => 0x4643FB9B#32
  | 83 => 0x4643FB9C#32
  | 84 => 0x4643FB9D#32
  | 85 => 0x4643FB9E#32
  | 86 => 0x4643FB9F#32
  | 87 => 0x4643FBA0#32
  | 88 => 0x4643FBA1#32
  | 89 => 0x4643FBA2#32
  | 90 => 0x4643FBA3#32
  | 91 => 0x4643FBA4#32
  | 92 => 0x4643FBA5#32
  | 93 => 0x4643FBA6#32
  | 94 => 0x4643FBA7#32
  | 95 => 0x4643FBA8#32
  | 96 => 0x4643FBA9#32
  | 97 => 0x4643FBAA#32
  | 98 => 0x4643FBAB#32
  | 99 => 0x4643FBAC#32
  | 100 => 0x4643FBAD#32
  | 101 => 0x4643FBAE#32
  | 102 => 0x4643FBAF#32
  | 103 => 0x4643FBB0#32
  | 104 => 0x4643FBB1#32
  | 105 => 0x4643FBB2#32
  | 106 => 0x4643FBB3#32
  | 107 => 0x4643FBB4#32
  | 108 => 0x4643FBB5#32
  | 109 => 0x4643FBB6#32
  | 110 => 0x4643FBB7#32
  | 111 => 0x4643FBB8#32
  | 112 => 0x4643FBB9#32
  | 113 => 0x4643FBBA#32
  | 114 => 0x4643FBBB#32
  | 115 => 0x4643FBBC#32
  | 116 => 0x4643FBBD#32
  | 117 => 0x4643FBBE#32
  | 118 => 0x4643FBBF#32
  | 119 => 0x4643FBC0#32
  | 120 => 0x4643FBC1#32
  | 121 => 0x4643FBC2#32
  | 122 => 0x4643FBC3#32
  | 123 => 0x4643FBC4#32
  | 124 => 0x4643FBC5#32
  | 125 => 0x4643FBC6#32
  | 126 => 0x4643FBC7#32
  | 127 => 0x4643FBC8#32
  | _ => 0#32

noncomputable abbrev lit0t0_8 (i : Nat) : BitVec 32 := match i % 128 with
  | 0 => 0x4643FBC9#32
  | 1 => 0x4643FBCA#32
  | 2 => 0x4643FBCB#32
  | 3 => 0x4643FBCC#32
  | 4 => 0x4643FBCD#32
  | 5 => 0x4643FBCE#32
  | 6 => 0x4643FBCF#32
  | 7 => 0x4643FBD0#32
  | 8 => 0x4643FBD1#32
  | 9 => 0x4643FBD2#32
  | 10 => 0x4643FBD3#32
  | 11 => 0x4643FBD4#32
  | 12 => 0x4643FBD5#32
  | 13 => 0x4643FBD6#32
  | 14 => 0x4643FBD7#32
  | 15 => 0x4643FBD8#32
  | 16 => 0x4643FBD9#32
  | 17 => 0x4643FBDA#32
  | 18 => 0x4643FBDB#32
  | 19 => 0x4643FBDC#32
  | 20 => 0x4643FBDD#32
  | 21 => 0x4643FBDE#32
  | 22 => 0x4643FBDF#32
  | 23 => 0x4643FBE0#32
  | 24 => 0x4643FBE1#32
  | 25 => 0x4643FBE2#32
  | 26 => 0x4643FBE3#32
  | 27 => 0x4643FBE4#32
  | 28 => 0x4643FBE5#32
  | 29 => 0x4643FBE6#32
  | 30 => 0x4643FBE7#32
  | 31 => 0x4643FBE8#32
  | 32 => 0x4643FBE9#32
  | 33 => 0x4643FBEA#32
  | 34 => 0x4643FBEB#32
  | 35 => 0x4643FBEC#32
  | 36 => 0x4643FBED#32
  | 37 => 0x4643FBEE#32
  | 38 => 0x4643FBEF#32
  | 39 => 0x4643FBF0#32
  | 40 => 0x4643FBF1#32
  | 41 => 0x4643FBF2#32
  | 42 => 0x4643FBF3#32
  | 43 => 0x4643FBF4#32
  | 44 => 0x4643FBF5#32
  | 45 => 0x4643FBF6#32
  | 46 => 0x4643FBF7#32
  | 47 => 0x4643FBF8#32
  | 48 => 0x4643FBF9#32
  | 49 => 0x4643FBFA#32
  | 50 => 0x4643FBFB#32
  | 51 => 0x4643FBFC#32
  | 52 => 0x4643FBFD#32
  | 53 => 0x4643FBFE#32
  | 54 => 0x4643FBFF#32
  | 55 => 0x4643FC00#32
  | 56 => 0x4643FC01#32
  | 57 => 0x4643FC02#32
  | 58 => 0x4643FC03#32
  | 59 => 0x4643FC04#32
  | 60 => 0x4643FC05#32
  | 61 => 0x4643FC06#32
  | 62 => 0x4643FC07#32
  | 63 => 0x4643FC08#32
  | 64 => 0x4643FC09#32
  | 65 => 0x4643FC0A#32
  | 66 => 0x4643FC0B#32
  | 67 => 0x4643FC0C#32
  | 68 => 0x4643FC0D#32
  | 69 => 0x4643FC0E#32
  | 70 => 0x4643FC0F#32
  | 71 => 0x4643FC10#32
  | 72 => 0x4643FC11#32
  | 73 => 0x4643FC12#32
  | 74 => 0x4643FC13#32
  | 75 => 0x4643FC14#32
  | 76 => 0x4643FC15#32
  | 77 => 0x4643FC16#32
  | 78 => 0x4643FC17#32
  | 79 => 0x4643FC18#32
  | 80 => 0x4643FC19#32
  | 81 => 0x4643FC1A#32
  | 82 => 0x4643FC1B#32
  | 83 => 0x4643FC1C#32
  | 84 => 0x4643FC1D#32
  | 85 => 0x4643FC1E#32
  | 86 => 0x4643FC1F#32
  | 87 => 0x4643FC20#32
  | 88 => 0x4643FC21#32
  | 89 => 0x4643FC22#32
  | 90 => 0x4643FC23#32
  | 91 => 0x4643FC24#32
  | 92 => 0x4643FC25#32
  | 93 => 0x4643FC26#32
  | 94 => 0x4643FC27#32
  | 95 => 0x4643FC28#32
  | 96 => 0x4643FC29#32
  | 97 => 0x4643FC2A#32
  | 98 => 0x4643FC2B#32
  | 99 => 0x4643FC2C#32
  | 100 => 0x4643FC2D#32
  | 101 => 0x4643FC2E#32
  | 102 => 0x4643FC2F#32
  | 103 => 0x4643FC30#32
  | 104 => 0x4643FC31#32
  | 105 => 0x4643FC32#32
  | 106 => 0x4643FC33#32
  | 107 => 0x4643FC34#32
  | 108 => 0x4643FC35#32
  | 109 => 0x4643FC36#32
  | 110 => 0x4643FC37#32
  | 111 => 0x4643FC38#32
  | 112 => 0x4643FC39#32
  | 113 => 0x4643FC3A#32
  | 114 => 0x4643FC3B#32
  | 115 => 0x4643FC3C#32
  | 116 => 0x4643FC3D#32
  | 117 => 0x4643FC3E#32
  | 118 => 0x4643FC3F#32
  | 119 => 0x4643FC40#32
  | 120 => 0x4643FC41#32
  | 121 => 0x4643FC42#32
  | 122 => 0x4643FC43#32
  | 123 => 0x4643FC44#32
  | 124 => 0x4643FC45#32
  | 125 => 0x4643FC46#32
  | 126 => 0x4643FC47#32
  | 127 => 0x4643FC48#32
  | _ => 0#32

noncomputable abbrev lit0t0_9 (i : Nat) : BitVec 32 := match i % 128 with
  | 0 => 0x4643FC49#32
  | 1 => 0x4643FC4A#32
  | 2 => 0x4643FC4B#32
  | 3 => 0x4643FC4C#32
  | 4 => 0x4643FC4D#32
  | 5 => 0x4643FC4E#32
  | 6 => 0x4643FC4F#32
  | 7 => 0x4643FC50#32
  | 8 => 0x4643FC51#32
  | 9 => 0x4643FC52#32
  | 10 => 0x4643FC53#32
  | 11 => 0x4643FC54#32
  | 12 => 0x4643FC55#32
  | 13 => 0x4643FC56#32
  | 14 => 0x4643FC57#32
  | 15 => 0x4643FC58#32
  | 16 => 0x4643FC59#32
  | 17 => 0x4643FC5A#32
  | 18 => 0x4643FC5B#32
  | 19 => 0x4643FC5C#32
  | 20 => 0x4643FC5D#32
  | 21 => 0x4643FC5E#32
  | 22 => 0x4643FC5F#32
  | 23 => 0x4643FC60#32
  | 24 => 0x4643FC61#32
  | 25 => 0x4643FC62#32
  | 26 => 0x4643FC63#32
  | 27 => 0x4643FC64#32
  | 28 => 0x4643FC65#32
  | 29 => 0x4643FC66#32
  | 30 => 0x4643FC67#32
  | 31 => 0x4643FC68#32
  | 32 => 0x4643FC69#32
  | 33 => 0x4643FC6A#32
  | 34 => 0x4643FC6B#32
  | 35 => 0x4643FC6C#32
  | 36 => 0x4643FC6D#32
  | 37 => 0x4643FC6E#32
  | 38 => 0x4643FC6F#32
  | 39 => 0x4643FC70#32
  | 40 => 0x4643FC71#32
  | 41 => 0x4643FC72#32
  | 42 => 0x4643FC73#32
  | 43 => 0x4643FC74#32
  | 44 => 0x4643FC75#32
  | 45 => 0x4643FC76#32
  | 46 => 0x4643FC77#32
  | 47 => 0x4643FC78#32
  | 48 => 0x4643FC79#32
  | 49 => 0x4643FC7A#32
  | 50 => 0x4643FC7B#32
  | 51 => 0x4643FC7C#32
  | 52 => 0x4643FC7D#32
  | 53 => 0x4643FC7E#32
  | 54 => 0x4643FC7F#32
  | 55 => 0x4643FC80#32
  | 56 => 0x4643FC81#32
  | 57 => 0x4643FC82#32
  | 58 => 0x4643FC83#32
  | 59 => 0x4643FC84#32
  | 60 => 0x4643FC85#32
  | 61 => 0x4643FC86#32
  | 62 => 0x4643FC87#32
  | 63 => 0x4643FC88#32
  | 64 => 0x4643FC89#32
  | 65 => 0x4643FC8A#32
  | 66 => 0x4643FC8B#32
  | 67 => 0x4643FC8C#32
  | 68 => 0x4643FC8D#32
  | 69 => 0x4643FC8E#32
  | 70 => 0x4643FC8F#32
  | 71 => 0x4643FC90#32
  | 72 => 0x4643FC91#32
  | 73 => 0x4643FC92#32
  | 74 => 0x4643FC93#32
  | 75 => 0x4643FC94#32
  | 76 => 0x4643FC95#32
  | 77 => 0x4643FC96#32
  | 78 => 0x4643FC97#32
  | 79 => 0x4643FC98#32
  | 80 => 0x4643FC99#32
  | 81 => 0x4643FC9A#32
  | 82 => 0x4643FC9B#32
  | 83 => 0x4643FC9C#32
  | 84 => 0x4643FC9D#32
  | 85 => 0x4643FC9E#32
  | 86 => 0x4643FC9F#32
  | 87 => 0x4643FCA0#32
  | 88 => 0x4643FCA1#32
  | 89 => 0x4643FCA2#32
  | 90 => 0x4643FCA3#32
  | 91 => 0x4643FCA4#32
  | 92 => 0x4643FCA5#32
  | 93 => 0x4643FCA6#32
  | 94 => 0x4643FCA7#32
  | 95 => 0x4643FCA8#32
  | 96 => 0x4643FCA9#32
  | 97 => 0x4643FCAA#32
  | 98 => 0x4643FCAB#32
  | 99 => 0x4643FCAC#32
  | 100 => 0x4643FCAD#32
  | 101 => 0x4643FCAE#32
  | 102 => 0x4643FCAF#32
  | 103 => 0x4643FCB0#32
  | 104 => 0x4643FCB1#32
  | 105 => 0x4643FCB2#32
  | 106 => 0x4643FCB3#32
  | 107 => 0x4643FCB4#32
  | 108 => 0x4643FCB5#32
  | 109 => 0x4643FCB6#32
  | 110 => 0x4643FCB7#32
  | 111 => 0x4643FCB8#32
  | 112 => 0x4643FCB9#32
  | 113 => 0x4643FCBA#32
  | 114 => 0x4643FCBB#32
  | 115 => 0x4643FCBC#32
  | 116 => 0x4643FCBD#32
  | 117 => 0x4643FCBE#32
  | 118 => 0x4643FCBF#32
  | 119 => 0x4643FCC0#32
  | 120 => 0x4643FCC1#32
  | 121 => 0x4643FCC2#32
  | 122 => 0x4643FCC3#32
  | 123 => 0x4643FCC4#32
  | 124 => 0x4643FCC5#32
  | 125 => 0x4643FCC6#32
  | 126 => 0x4643FCC7#32
  | 127 => 0x4643FCC8#32
  | _ => 0#32

noncomputable abbrev lit0t0_10 (i : Nat) : BitVec 32 := match i % 128 with
  | 0 => 0x4643FCC9#32
  | 1 => 0x4643FCCA#32
  | 2 => 0x4643FCCB#32
  | 3 => 0x4643FCCC#32
  | 4 => 0x4643FCCD#32
  | 5 => 0x4643FCCE#32
  | 6 => 0x4643FCCF#32
  | 7 => 0x4643FCD0#32
  | 8 => 0x4643FCD1#32
  | 9 => 0x4643FCD2#32
  | 10 => 0x4643FCD3#32
  | 11 => 0x4643FCD4#32
  | 12 => 0x4643FCD5#32
  | 13 => 0x4643FCD6#32
  | 14 => 0x4643FCD7#32
  | 15 => 0x4643FCD8#32
  | 16 => 0x4643FCD9#32
  | 17 => 0x4643FCDA#32
  | 18 => 0x4643FCDB#32
  | 19 => 0x4643FCDC#32
  | 20 => 0x4643FCDD#32
  | 21 => 0x4643FCDE#32
  | 22 => 0x4643FCDF#32
  | 23 => 0x4643FCE0#32
  | 24 => 0x4643FCE1#32
  | 25 => 0x4643FCE2#32
  | 26 => 0x4643FCE3#32
  | 27 => 0x4643FCE4#32
  | 28 => 0x4643FCE5#32
  | 29 => 0x4643FCE6#32
  | 30 => 0x4643FCE7#32
  | 31 => 0x4643FCE8#32
  | 32 => 0x4643FCE9#32
  | 33 => 0x4643FCEA#32
  | 34 => 0x4643FCEB#32
  | 35 => 0x4643FCEC#32
  | 36 => 0x4643FCED#32
  | 37 => 0x4643FCEE#32
  | 38 => 0x4643FCEF#32
  | 39 => 0x4643FCF0#32
  | 40 => 0x4643FCF1#32
  | 41 => 0x4643FCF2#32
  | 42 => 0x4643FCF3#32
  | 43 => 0x4643FCF4#32
  | 44 => 0x4643FCF5#32
  | 45 => 0x4643FCF6#32
  | 46 => 0x4643FCF7#32
  | 47 => 0x4643FCF8#32
  | 48 => 0x4643FCF9#32
  | 49 => 0x4643FCFA#32
  | 50 => 0x4643FCFB#32
  | 51 => 0x4643FCFC#32
  | 52 => 0x4643FCFD#32
  | 53 => 0x4643FCFE#32
  | 54 => 0x4643FCFF#32
  | 55 => 0x4643FD00#32
  | 56 => 0x4643FD01#32
  | 57 => 0x4643FD02#32
  | 58 => 0x4643FD03#32
  | 59 => 0x4643FD04#32
  | 60 => 0x4643FD05#32
  | 61 => 0x4643FD06#32
  | 62 => 0x4643FD07#32
  | 63 => 0x4643FD08#32
  | 64 => 0x4643FD09#32
  | 65 => 0x4643FD0A#32
  | 66 => 0x4643FD0B#32
  | 67 => 0x4643FD0C#32
  | 68 => 0x4643FD0D#32
  | 69 => 0x4643FD0E#32
  | 70 => 0x4643FD0F#32
  | 71 => 0x4643FD10#32
  | 72 => 0x4643FD11#32
  | 73 => 0x4643FD12#32
  | 74 => 0x4643FD13#32
  | 75 => 0x4643FD14#32
  | 76 => 0x4643FD15#32
  | 77 => 0x4643FD16#32
  | 78 => 0x4643FD17#32
  | 79 => 0x4643FD18#32
  | 80 => 0x4643FD19#32
  | 81 => 0x4643FD1A#32
  | 82 => 0x4643FD1B#32
  | 83 => 0x4643FD1C#32
  | 84 => 0x4643FD1D#32
  | 85 => 0x4643FD1E#32
  | 86 => 0x4643FD1F#32
  | 87 => 0x4643FD20#32
  | 88 => 0x4643FD21#32
  | 89 => 0x4643FD22#32
  | 90 => 0x4643FD23#32
  | 91 => 0x4643FD24#32
  | 92 => 0x4643FD25#32
  | 93 => 0x4643FD26#32
  | 94 => 0x4643FD27#32
  | 95 => 0x4643FD28#32
  | 96 => 0x4643FD29#32
  | 97 => 0x4643FD2A#32
  | 98 => 0x4643FD2B#32
  | 99 => 0x4643FD2C#32
  | 100 => 0x4643FD2D#32
  | 101 => 0x4643FD2E#32
  | 102 => 0x4643FD2F#32
  | 103 => 0x4643FD30#32
  | 104 => 0x4643FD31#32
  | 105 => 0x4643FD32#32
  | 106 => 0x4643FD33#32
  | 107 => 0x4643FD34#32
  | 108 => 0x4643FD35#32
  | 109 => 0x4643FD36#32
  | 110 => 0x4643FD37#32
  | 111 => 0x4643FD38#32
  | 112 => 0x4643FD39#32
  | 113 => 0x4643FD3A#32
  | 114 => 0x4643FD3B#32
  | 115 => 0x4643FD3C#32
  | 116 => 0x4643FD3D#32
  | 117 => 0x4643FD3E#32
  | 118 => 0x4643FD3F#32
  | 119 => 0x4643FD40#32
  | 120 => 0x4643FD41#32
  | 121 => 0x4643FD42#32
  | 122 => 0x4643FD43#32
  | 123 => 0x4643FD44#32
  | 124 => 0x4643FD45#32
  | 125 => 0x4643FD46#32
  | 126 => 0x4643FD47#32
  | 127 => 0x4643FD48#32
  | _ => 0#32

noncomputable abbrev lit0t0_11 (i : Nat) : BitVec 32 := match i % 128 with
  | 0 => 0x4643FD49#32
  | 1 => 0x4643FD4A#32
  | 2 => 0x4643FD4B#32
  | 3 => 0x4643FD4C#32
  | 4 => 0x4643FD4D#32
  | 5 => 0x4643FD4E#32
  | 6 => 0x4643FD4F#32
  | 7 => 0x4643FD50#32
  | 8 => 0x4643FD51#32
  | 9 => 0x4643FD52#32
  | 10 => 0x4643FD53#32
  | 11 => 0x4643FD54#32
  | 12 => 0x4643FD55#32
  | 13 => 0x4643FD56#32
  | 14 => 0x4643FD57#32
  | 15 => 0x4643FD58#32
  | 16 => 0x4643FD59#32
  | 17 => 0x4643FD5A#32
  | 18 => 0x4643FD5B#32
  | 19 => 0x4643FD5C#32
  | 20 => 0x4643FD5D#32
  | 21 => 0x4643FD5E#32
  | 22 => 0x4643FD5F#32
  | 23 => 0x4643FD60#32
  | 24 => 0x4643FD61#32
  | 25 => 0x4643FD62#32
  | 26 => 0x4643FD63#32
  | 27 => 0x4643FD64#32
  | 28 => 0x4643FD65#32
  | 29 => 0x4643FD66#32
  | 30 => 0x4643FD67#32
  | 31 => 0x4643FD68#32
  | 32 => 0x4643FD69#32
  | 33 => 0x4643FD6A#32
  | 34 => 0x4643FD6B#32
  | 35 => 0x4643FD6C#32
  | 36 => 0x4643FD6D#32
  | 37 => 0x4643FD6E#32
  | 38 => 0x4643FD6F#32
  | 39 => 0x4643FD70#32
  | 40 => 0x4643FD71#32
  | 41 => 0x4643FD72#32
  | 42 => 0x4643FD73#32
  | 43 => 0x4643FD74#32
  | 44 => 0x4643FD75#32
  | 45 => 0x4643FD76#32
  | 46 => 0x4643FD77#32
  | 47 => 0x4643FD78#32
  | 48 => 0x4643FD79#32
  | 49 => 0x4643FD7A#32
  | 50 => 0x4643FD7B#32
  | 51 => 0x4643FD7C#32
  | 52 => 0x4643FD7D#32
  | 53 => 0x4643FD7E#32
  | 54 => 0x4643FD7F#32
  | 55 => 0x4643FD80#32
  | 56 => 0x4643FD81#32
  | 57 => 0x4643FD82#32
  | 58 => 0x4643FD83#32
  | 59 => 0x4643FD84#32
  | 60 => 0x4643FD85#32
  | 61 => 0x4643FD86#32
  | 62 => 0x4643FD87#32
  | 63 => 0x4643FD88#32
  | 64 => 0x4643FD89#32
  | 65 => 0x4643FD8A#32
  | 66 => 0x4643FD8B#32
  | 67 => 0x4643FD8C#32
  | 68 => 0x4643FD8D#32
  | 69 => 0x4643FD8E#32
  | 70 => 0x4643FD8F#32
  | 71 => 0x4643FD90#32
  | 72 => 0x4643FD91#32
  | 73 => 0x4643FD92#32
  | 74 => 0x4643FD93#32
  | 75 => 0x4643FD94#32
  | 76 => 0x4643FD95#32
  | 77 => 0x4643FD96#32
  | 78 => 0x4643FD97#32
  | 79 => 0x4643FD98#32
  | 80 => 0x4643FD99#32
  | 81 => 0x4643FD9A#32
  | 82 => 0x4643FD9B#32
  | 83 => 0x4643FD9C#32
  | 84 => 0x4643FD9D#32
  | 85 => 0x4643FD9E#32
  | 86 => 0x4643FD9F#32
  | 87 => 0x4643FDA0#32
  | 88 => 0x4643FDA1#32
  | 89 => 0x4643FDA2#32
  | 90 => 0x4643FDA3#32
  | 91 => 0x4643FDA4#32
  | 92 => 0x4643FDA5#32
  | 93 => 0x4643FDA6#32
  | 94 => 0x4643FDA7#32
  | 95 => 0x4643FDA8#32
  | 96 => 0x4643FDA9#32
  | 97 => 0x4643FDAA#32
  | 98 => 0x4643FDAB#32
  | 99 => 0x4643FDAC#32
  | 100 => 0x4643FDAD#32
  | 101 => 0x4643FDAE#32
  | 102 => 0x4643FDAF#32
  | 103 => 0x4643FDB0#32
  | 104 => 0x4643FDB1#32
  | 105 => 0x4643FDB2#32
  | 106 => 0x4643FDB3#32
  | 107 => 0x4643FDB4#32
  | 108 => 0x4643FDB5#32
  | 109 => 0x4643FDB6#32
  | 110 => 0x4643FDB7#32
  | 111 => 0x4643FDB8#32
  | 112 => 0x4643FDB9#32
  | 113 => 0x4643FDBA#32
  | 114 => 0x4643FDBB#32
  | 115 => 0x4643FDBC#32
  | 116 => 0x4643FDBD#32
  | 117 => 0x4643FDBE#32
  | 118 => 0x4643FDBF#32
  | 119 => 0x4643FDC0#32
  | 120 => 0x4643FDC1#32
  | 121 => 0x4643FDC2#32
  | 122 => 0x4643FDC3#32
  | 123 => 0x4643FDC4#32
  | 124 => 0x4643FDC5#32
  | 125 => 0x4643FDC6#32
  | 126 => 0x4643FDC7#32
  | 127 => 0x4643FDC8#32
  | _ => 0#32

noncomputable abbrev lit0t0_12 (i : Nat) : BitVec 32 := match i % 128 with
  | 0 => 0x4643FDC9#32
  | 1 => 0x4643FDCA#32
  | 2 => 0x4643FDCB#32
  | 3 => 0x4643FDCC#32
  | 4 => 0x4643FDCD#32
  | 5 => 0x4643FDCE#32
  | 6 => 0x4643FDCF#32
  | 7 => 0x4643FDD0#32
  | 8 => 0x4643FDD1#32
  | 9 => 0x4643FDD2#32
  | 10 => 0x4643FDD3#32
  | 11 => 0x4643FDD4#32
  | 12 => 0x4643FDD5#32
  | 13 => 0x4643FDD6#32
  | 14 => 0x4643FDD7#32
  | 15 => 0x4643FDD8#32
  | 16 => 0x4643FDD9#32
  | 17 => 0x4643FDDA#32
  | 18 => 0x4643FDDB#32
  | 19 => 0x4643FDDC#32
  | 20 => 0x4643FDDD#32
  | 21 => 0x4643FDDE#32
  | 22 => 0x4643FDDF#32
  | 23 => 0x4643FDE0#32
  | 24 => 0x4643FDE1#32
  | 25 => 0x4643FDE2#32
  | 26 => 0x4643FDE3#32
  | 27 => 0x4643FDE4#32
  | 28 => 0x4643FDE5#32
  | 29 => 0x4643FDE6#32
  | 30 => 0x4643FDE7#32
  | 31 => 0x4643FDE8#32
  | 32 => 0x4643FDE9#32
  | 33 => 0x4643FDEA#32
  | 34 => 0x4643FDEB#32
  | 35 => 0x4643FDEC#32
  | 36 => 0x4643FDED#32
  | 37 => 0x4643FDEE#32
  | 38 => 0x4643FDEF#32
  | 39 => 0x4643FDF0#32
  | 40 => 0x4643FDF1#32
  | 41 => 0x4643FDF2#32
  | 42 => 0x4643FDF3#32
  | 43 => 0x4643FDF4#32
  | 44 => 0x4643FDF5#32
  | 45 => 0x4643FDF6#32
  | 46 => 0x4643FDF7#32
  | 47 => 0x4643FDF8#32
  | 48 => 0x4643FDF9#32
  | 49 => 0x4643FDFA#32
  | 50 => 0x4643FDFB#32
  | 51 => 0x4643FDFC#32
  | 52 => 0x4643FDFD#32
  | 53 => 0x4643FDFE#32
  | 54 => 0x4643FDFF#32
  | 55 => 0x4643FE00#32
  | 56 => 0x4643FE01#32
  | 57 => 0x4643FE02#32
  | 58 => 0x4643FE03#32
  | 59 => 0x4643FE04#32
  | 60 => 0x4643FE05#32
  | 61 => 0x4643FE06#32
  | 62 => 0x4643FE07#32
  | 63 => 0x4643FE08#32
  | 64 => 0x4643FE09#32
  | 65 => 0x4643FE0A#32
  | 66 => 0x4643FE0B#32
  | 67 => 0x4643FE0C#32
  | 68 => 0x4643FE0D#32
  | 69 => 0x4643FE0E#32
  | 70 => 0x4643FE0F#32
  | 71 => 0x4643FE10#32
  | 72 => 0x4643FE11#32
  | 73 => 0x4643FE12#32
  | 74 => 0x4643FE13#32
  | 75 => 0x4643FE14#32
  | 76 => 0x4643FE15#32
  | 77 => 0x4643FE16#32
  | 78 => 0x4643FE17#32
  | 79 => 0x4643FE18#32
  | 80 => 0x4643FE19#32
  | 81 => 0x4643FE1A#32
  | 82 => 0x4643FE1B#32
  | 83 => 0x4643FE1C#32
  | 84 => 0x4643FE1D#32
  | 85 => 0x4643FE1E#32
  | 86 => 0x4643FE1F#32
  | 87 => 0x4643FE20#32
  | 88 => 0x4643FE21#32
  | 89 => 0x4643FE22#32
  | 90 => 0x4643FE23#32
  | 91 => 0x4643FE24#32
  | 92 => 0x4643FE25#32
  | 93 => 0x4643FE26#32
  | 94 => 0x4643FE27#32
  | 95 => 0x4643FE28#32
  | 96 => 0x4643FE29#32
  | 97 => 0x4643FE2A#32
  | 98 => 0x4643FE2B#32
  | 99 => 0x4643FE2C#32
  | 100 => 0x4643FE2D#32
  | 101 => 0x4643FE2E#32
  | 102 => 0x4643FE2F#32
  | 103 => 0x4643FE30#32
  | 104 => 0x4643FE31#32
  | 105 => 0x4643FE32#32
  | 106 => 0x4643FE33#32
  | 107 => 0x4643FE34#32
  | 108 => 0x4643FE35#32
  | 109 => 0x4643FE36#32
  | 110 => 0x4643FE37#32
  | 111 => 0x4643FE38#32
  | 112 => 0x4643FE39#32
  | 113 => 0x4643FE3A#32
  | 114 => 0x4643FE3B#32
  | 115 => 0x4643FE3C#32
  | 116 => 0x4643FE3D#32
  | 117 => 0x4643FE3E#32
  | 118 => 0x4643FE3F#32
  | 119 => 0x4643FE40#32
  | 120 => 0x4643FE41#32
  | 121 => 0x4643FE42#32
  | 122 => 0x4643FE43#32
  | 123 => 0x4643FE44#32
  | 124 => 0x4643FE45#32
  | 125 => 0x4643FE46#32
  | 126 => 0x4643FE47#32
  | 127 => 0x4643FE48#32
  | _ => 0#32

noncomputable abbrev lit0t0_13 (i : Nat) : BitVec 32 := match i % 128 with
  | 0 => 0x4643FE49#32
  | 1 => 0x4643FE4A#32
  | 2 => 0x4643FE4B#32
  | 3 => 0x4643FE4C#32
  | 4 => 0x4643FE4D#32
  | 5 => 0x4643FE4E#32
  | 6 => 0x4643FE4F#32
  | 7 => 0x4643FE50#32
  | 8 => 0x4643FE51#32
  | 9 => 0x4643FE52#32
  | 10 => 0x4643FE53#32
  | 11 => 0x4643FE54#32
  | 12 => 0x4643FE55#32
  | 13 => 0x4643FE56#32
  | 14 => 0x4643FE57#32
  | 15 => 0x4643FE58#32
  | 16 => 0x4643FE59#32
  | 17 => 0x4643FE5A#32
  | 18 => 0x4643FE5B#32
  | 19 => 0x4643FE5C#32
  | 20 => 0x4643FE5D#32
  | 21 => 0x4643FE5E#32
  | 22 => 0x4643FE5F#32
  | 23 => 0x4643FE60#32
  | 24 => 0x4643FE61#32
  | 25 => 0x4643FE62#32
  | 26 => 0x4643FE63#32
  | 27 => 0x4643FE64#32
  | 28 => 0x4643FE65#32
  | 29 => 0x4643FE66#32
  | 30 => 0x4643FE67#32
  | 31 => 0x4643FE68#32
  | 32 => 0x4643FE69#32
  | 33 => 0x4643FE6A#32
  | 34 => 0x4643FE6B#32
  | 35 => 0x4643FE6C#32
  | 36 => 0x4643FE6D#32
  | 37 => 0x4643FE6E#32
  | 38 => 0x4643FE6F#32
  | 39 => 0x4643FE70#32
  | 40 => 0x4643FE71#32
  | 41 => 0x4643FE72#32
  | 42 => 0x4643FE73#32
  | 43 => 0x4643FE74#32
  | 44 => 0x4643FE75#32
  | 45 => 0x4643FE76#32
  | 46 => 0x4643FE77#32
  | 47 => 0x4643FE78#32
  | 48 => 0x4643FE79#32
  | 49 => 0x4643FE7A#32
  | 50 => 0x4643FE7B#32
  | 51 => 0x4643FE7C#32
  | 52 => 0x4643FE7D#32
  | 53 => 0x4643FE7E#32
  | 54 => 0x4643FE7F#32
  | 55 => 0x4643FE80#32
  | 56 => 0x4643FE81#32
  | 57 => 0x4643FE82#32
  | 58 => 0x4643FE83#32
  | 59 => 0x4643FE84#32
  | 60 => 0x4643FE85#32
  | 61 => 0x4643FE86#32
  | 62 => 0x4643FE87#32
  | 63 => 0x4643FE88#32
  | 64 => 0x4643FE89#32
  | 65 => 0x4643FE8A#32
  | 66 => 0x4643FE8B#32
  | 67 => 0x4643FE8C#32
  | 68 => 0x4643FE8D#32
  | 69 => 0x4643FE8E#32
  | 70 => 0x4643FE8F#32
  | 71 => 0x4643FE90#32
  | 72 => 0x4643FE91#32
  | 73 => 0x4643FE92#32
  | 74 => 0x4643FE93#32
  | 75 => 0x4643FE94#32
  | 76 => 0x4643FE95#32
  | 77 => 0x4643FE96#32
  | 78 => 0x4643FE97#32
  | 79 => 0x4643FE98#32
  | 80 => 0x4643FE99#32
  | 81 => 0x4643FE9A#32
  | 82 => 0x4643FE9B#32
  | 83 => 0x4643FE9C#32
  | 84 => 0x4643FE9D#32
  | 85 => 0x4643FE9E#32
  | 86 => 0x4643FE9F#32
  | 87 => 0x4643FEA0#32
  | 88 => 0x4643FEA1#32
  | 89 => 0x4643FEA2#32
  | 90 => 0x4643FEA3#32
  | 91 => 0x4643FEA4#32
  | 92 => 0x4643FEA5#32
  | 93 => 0x4643FEA6#32
  | 94 => 0x4643FEA7#32
  | 95 => 0x4643FEA8#32
  | 96 => 0x4643FEA9#32
  | 97 => 0x4643FEAA#32
  | 98 => 0x4643FEAB#32
  | 99 => 0x4643FEAC#32
  | 100 => 0x4643FEAD#32
  | 101 => 0x4643FEAE#32
  | 102 => 0x4643FEAF#32
  | 103 => 0x4643FEB0#32
  | 104 => 0x4643FEB1#32
  | 105 => 0x4643FEB2#32
  | 106 => 0x4643FEB3#32
  | 107 => 0x4643FEB4#32
  | 108 => 0x4643FEB5#32
  | 109 => 0x4643FEB6#32
  | 110 => 0x4643FEB7#32
  | 111 => 0x4643FEB8#32
  | 112 => 0x4643FEB9#32
  | 113 => 0x4643FEBA#32
  | 114 => 0x4643FEBB#32
  | 115 => 0x4643FEBC#32
  | 116 => 0x4643FEBD#32
  | 117 => 0x4643FEBE#32
  | 118 => 0x4643FEBF#32
  | 119 => 0x4643FEC0#32
  | 120 => 0x4643FEC1#32
  | 121 => 0x4643FEC2#32
  | 122 => 0x4643FEC3#32
  | 123 => 0x4643FEC4#32
  | 124 => 0x4643FEC5#32
  | 125 => 0x4643FEC6#32
  | 126 => 0x4643FEC7#32
  | 127 => 0x4643FEC8#32
  | _ => 0#32

noncomputable abbrev lit0t0_14 (i : Nat) : BitVec 32 := match i % 128 with
  | 0 => 0x4643FEC9#32
  | 1 => 0x4643FECA#32
  | 2 => 0x4643FECB#32
  | 3 => 0x4643FECC#32
  | 4 => 0x4643FECD#32
  | 5 => 0x4643FECE#32
  | 6 => 0x4643FECF#32
  | 7 => 0x4643FED0#32
  | 8 => 0x4643FED1#32
  | 9 => 0x4643FED2#32
  | 10 => 0x4643FED3#32
  | 11 => 0x4643FED4#32
  | 12 => 0x4643FED5#32
  | 13 => 0x4643FED6#32
  | 14 => 0x4643FED7#32
  | 15 => 0x4643FED8#32
  | 16 => 0x4643FED9#32
  | 17 => 0x4643FEDA#32
  | 18 => 0x4643FEDB#32
  | 19 => 0x4643FEDC#32
  | 20 => 0x4643FEDD#32
  | 21 => 0x4643FEDE#32
  | 22 => 0x4643FEDF#32
  | 23 => 0x4643FEE0#32
  | 24 => 0x4643FEE1#32
  | 25 => 0x4643FEE2#32
  | 26 => 0x4643FEE3#32
  | 27 => 0x4643FEE4#32
  | 28 => 0x4643FEE5#32
  | 29 => 0x4643FEE6#32
  | 30 => 0x4643FEE7#32
  | 31 => 0x4643FEE8#32
  | 32 => 0x4643FEE9#32
  | 33 => 0x4643FEEA#32
  | 34 => 0x4643FEEB#32
  | 35 => 0x4643FEEC#32
  | 36 => 0x4643FEED#32
  | 37 => 0x4643FEEE#32
  | 38 => 0x4643FEEF#32
  | 39 => 0x4643FEF0#32
  | 40 => 0x4643FEF1#32
  | 41 => 0x4643FEF2#32
  | 42 => 0x4643FEF3#32
  | 43 => 0x4643FEF4#32
  | 44 => 0x4643FEF5#32
  | 45 => 0x4643FEF6#32
  | 46 => 0x4643FEF7#32
  | 47 => 0x4643FEF8#32
  | 48 => 0x4643FEF9#32
  | 49 => 0x4643FEFA#32
  | 50 => 0x4643FEFB#32
  | 51 => 0x4643FEFC#32
  | 52 => 0x4643FEFD#32
  | 53 => 0x4643FEFE#32
  | 54 => 0x4643FEFF#32
  | 55 => 0x4643FF00#32
  | 56 => 0x4643FF01#32
  | 57 => 0x4643FF02#32
  | 58 => 0x4643FF03#32
  | 59 => 0x4643FF04#32
  | 60 => 0x4643FF05#32
  | 61 => 0x4643FF06#32
  | 62 => 0x4643FF07#32
  | 63 => 0x4643FF08#32
  | 64 => 0x4643FF09#32
  | 65 => 0x4643FF0A#32
  | 66 => 0x4643FF0B#32
  | 67 => 0x4643FF0C#32
  | 68 => 0x4643FF0D#32
  | 69 => 0x4643FF0E#32
  | 70 => 0x4643FF0F#32
  | 71 => 0x4643FF10#32
  | 72 => 0x4643FF11#32
  | 73 => 0x4643FF12#32
  | 74 => 0x4643FF13#32
  | 75 => 0x4643FF14#32
  | 76 => 0x4643FF15#32
  | 77 => 0x4643FF16#32
  | 78 => 0x4643FF17#32
  | 79 => 0x4643FF18#32
  | 80 => 0x4643FF19#32
  | 81 => 0x4643FF1A#32
  | 82 => 0x4643FF1B#32
  | 83 => 0x4643FF1C#32
  | 84 => 0x4643FF1D#32
  | 85 => 0x4643FF1E#32
  | 86 => 0x4643FF1F#32
  | 87 => 0x4643FF20#32
  | 88 => 0x4643FF21#32
  | 89 => 0x4643FF22#32
  | 90 => 0x4643FF23#32
  | 91 => 0x4643FF24#32
  | 92 => 0x4643FF25#32
  | 93 => 0x4643FF26#32
  | 94 => 0x4643FF27#32
  | 95 => 0x4643FF28#32
  | 96 => 0x4643FF29#32
  | 97 => 0x4643FF2A#32
  | 98 => 0x4643FF2B#32
  | 99 => 0x4643FF2C#32
  | 100 => 0x4643FF2D#32
  | 101 => 0x4643FF2E#32
  | 102 => 0x4643FF2F#32
  | 103 => 0x4643FF30#32
  | 104 => 0x4643FF31#32
  | 105 => 0x4643FF32#32
  | 106 => 0x4643FF33#32
  | 107 => 0x4643FF34#32
  | 108 => 0x4643FF35#32
  | 109 => 0x4643FF36#32
  | 110 => 0x4643FF37#32
  | 111 => 0x4643FF38#32
  | 112 => 0x4643FF39#32
  | 113 => 0x4643FF3A#32
  | 114 => 0x4643FF3B#32
  | 115 => 0x4643FF3C#32
  | 116 => 0x4643FF3D#32
  | 117 => 0x4643FF3E#32
  | 118 => 0x4643FF3F#32
  | 119 => 0x4643FF40#32
  | 120 => 0x4643FF41#32
  | 121 => 0x4643FF42#32
  | 122 => 0x4643FF43#32
  | 123 => 0x4643FF44#32
  | 124 => 0x4643FF45#32
  | 125 => 0x4643FF46#32
  | 126 => 0x4643FF47#32
  | 127 => 0x4643FF48#32
  | _ => 0#32

noncomputable abbrev lit0t0_15 (i : Nat) : BitVec 32 := match i % 128 with
  | 0 => 0x4643FF49#32
  | 1 => 0x4643FF4A#32
  | 2 => 0x4643FF4B#32
  | 3 => 0x4643FF4C#32
  | 4 => 0x4643FF4D#32
  | 5 => 0x4643FF4E#32
  | 6 => 0x4643FF4F#32
  | 7 => 0x4643FF50#32
  | 8 => 0x4643FF51#32
  | 9 => 0x4643FF52#32
  | 10 => 0x4643FF53#32
  | 11 => 0x4643FF54#32
  | 12 => 0x4643FF55#32
  | 13 => 0x4643FF56#32
  | 14 => 0x4643FF57#32
  | 15 => 0x4643FF58#32
  | 16 => 0x4643FF59#32
  | 17 => 0x4643FF5A#32
  | 18 => 0x4643FF5B#32
  | 19 => 0x4643FF5C#32
  | 20 => 0x4643FF5D#32
  | 21 => 0x4643FF5E#32
  | 22 => 0x4643FF5F#32
  | 23 => 0x4643FF60#32
  | 24 => 0x4643FF61#32
  | 25 => 0x4643FF62#32
  | 26 => 0x4643FF63#32
  | 27 => 0x4643FF64#32
  | 28 => 0x4643FF65#32
  | 29 => 0x4643FF66#32
  | 30 => 0x4643FF67#32
  | 31 => 0x4643FF68#32
  | 32 => 0x4643FF69#32
  | 33 => 0x4643FF6A#32
  | 34 => 0x4643FF6B#32
  | 35 => 0x4643FF6C#32
  | 36 => 0x4643FF6D#32
  | 37 => 0x4643FF6E#32
  | 38 => 0x4643FF6F#32
  | 39 => 0x4643FF70#32
  | 40 => 0x4643FF71#32
  | 41 => 0x4643FF72#32
  | 42 => 0x4643FF73#32
  | 43 => 0x4643FF74#32
  | 44 => 0x4643FF75#32
  | 45 => 0x4643FF76#32
  | 46 => 0x4643FF77#32
  | 47 => 0x4643FF78#32
  | 48 => 0x4643FF79#32
  | 49 => 0x4643FF7A#32
  | 50 => 0x4643FF7B#32
  | 51 => 0x4643FF7C#32
  | 52 => 0x4643FF7D#32
  | 53 => 0x4643FF7E#32
  | 54 => 0x4643FF7F#32
  | 55 => 0x4643FF80#32
  | 56 => 0x4643FF81#32
  | 57 => 0x4643FF82#32
  | 58 => 0x4643FF83#32
  | 59 => 0x4643FF84#32
  | 60 => 0x4643FF85#32
  | 61 => 0x4643FF86#32
  | 62 => 0x4643FF87#32
  | 63 => 0x4643FF88#32
  | 64 => 0x4643FF89#32
  | 65 => 0x4643FF8A#32
  | 66 => 0x4643FF8B#32
  | 67 => 0x4643FF8C#32
  | 68 => 0x4643FF8D#32
  | 69 => 0x4643FF8E#32
  | 70 => 0x4643FF8F#32
  | 71 => 0x4643FF90#32
  | 72 => 0x4643FF91#32
  | 73 => 0x4643FF92#32
  | 74 => 0x4643FF93#32
  | 75 => 0x4643FF94#32
  | 76 => 0x4643FF95#32
  | 77 => 0x4643FF96#32
  | 78 => 0x4643FF97#32
  | 79 => 0x4643FF98#32
  | 80 => 0x4643FF99#32
  | 81 => 0x4643FF9A#32
  | 82 => 0x4643FF9B#32
  | 83 => 0x4643FF9C#32
  | 84 => 0x4643FF9D#32
  | 85 => 0x4643FF9E#32
  | 86 => 0x4643FF9F#32
  | 87 => 0x4643FFA0#32
  | 88 => 0x4643FFA1#32
  | 89 => 0x4643FFA2#32
  | 90 => 0x4643FFA3#32
  | 91 => 0x4643FFA4#32
  | 92 => 0x4643FFA5#32
  | 93 => 0x4643FFA6#32
  | 94 => 0x4643FFA7#32
  | 95 => 0x4643FFA8#32
  | 96 => 0x4643FFA9#32
  | 97 => 0x4643FFAA#32
  | 98 => 0x4643FFAB#32
  | 99 => 0x4643FFAC#32
  | 100 => 0x4643FFAD#32
  | 101 => 0x4643FFAE#32
  | 102 => 0x4643FFAF#32
  | 103 => 0x4643FFB0#32
  | 104 => 0x4643FFB1#32
  | 105 => 0x4643FFB2#32
  | 106 => 0x4643FFB3#32
  | 107 => 0x4643FFB4#32
  | 108 => 0x4643FFB5#32
  | 109 => 0x4643FFB6#32
  | 110 => 0x4643FFB7#32
  | 111 => 0x4643FFB8#32
  | 112 => 0x4643FFB9#32
  | 113 => 0x4643FFBA#32
  | 114 => 0x4643FFBB#32
  | 115 => 0x4643FFBC#32
  | 116 => 0x4643FFBD#32
  | 117 => 0x4643FFBE#32
  | 118 => 0x4643FFBF#32
  | 119 => 0x4643FFC0#32
  | 120 => 0x4643FFC1#32
  | 121 => 0x4643FFC2#32
  | 122 => 0x4643FFC3#32
  | 123 => 0x4643FFC4#32
  | 124 => 0x4643FFC5#32
  | 125 => 0x4643FFC6#32
  | 126 => 0x4643FFC7#32
  | 127 => 0x4643FFC8#32
  | _ => 0#32

noncomputable abbrev lit0t0_16 (i : Nat) : BitVec 32 := match i % 128 with
  | 0 => 0x4643FFC9#32
  | 1 => 0x4643FFCA#32
  | 2 => 0x4643FFCB#32
  | 3 => 0x4643FFCC#32
  | 4 => 0x4643FFCD#32
  | 5 => 0x4643FFCE#32
  | 6 => 0x4643FFCF#32
  | 7 => 0x4643FFD0#32
  | 8 => 0x4643FFD1#32
  | 9 => 0x4643FFD2#32
  | 10 => 0x4643FFD3#32
  | 11 => 0x4643FFD4#32
  | 12 => 0x4643FFD5#32
  | 13 => 0x4643FFD6#32
  | 14 => 0x4643FFD7#32
  | 15 => 0x4643FFD8#32
  | 16 => 0x4643FFD9#32
  | 17 => 0x4643FFDA#32
  | 18 => 0x4643FFDB#32
  | 19 => 0x4643FFDC#32
  | 20 => 0x4643FFDD#32
  | 21 => 0x4643FFDE#32
  | 22 => 0x4643FFDF#32
  | 23 => 0x4643FFE0#32
  | 24 => 0x4643FFE1#32
  | 25 => 0x4643FFE2#32
  | 26 => 0x4643FFE3#32
  | 27 => 0x4643FFE4#32
  | 28 => 0x4643FFE5#32
  | 29 => 0x4643FFE6#32
  | 30 => 0x4643FFE7#32
  | 31 => 0x4643FFE8#32
  | 32 => 0x4643FFE9#32
  | 33 => 0x4643FFEA#32
  | 34 => 0x4643FFEB#32
  | 35 => 0x4643FFEC#32
  | 36 => 0x4643FFED#32
  | 37 => 0x4643FFEE#32
  | 38 => 0x4643FFEF#32
  | 39 => 0x4643FFF0#32
  | 40 => 0x4643FFF1#32
  | 41 => 0x4643FFF2#32
  | 42 => 0x4643FFF3#32
  | 43 => 0x4643FFF4#32
  | 44 => 0x4643FFF5#32
  | 45 => 0x4643FFF6#32
  | 46 => 0x4643FFF7#32
  | 47 => 0x4643FFF8#32
  | 48 => 0x4643FFF9#32
  | 49 => 0x4643FFFA#32
  | 50 => 0x4643FFFB#32
  | 51 => 0x4643FFFC#32
  | 52 => 0x4643FFFD#32
  | 53 => 0x4643FFFE#32
  | 54 => 0x4643FFFF#32
  | 55 => 0x46440000#32
  | 56 => 0x46440001#32
  | 57 => 0x46440002#32
  | 58 => 0x46440003#32
  | 59 => 0x46440004#32
  | 60 => 0x46440005#32
  | 61 => 0x46440006#32
  | 62 => 0x46440007#32
  | 63 => 0x46440008#32
  | 64 => 0x46440009#32
  | 65 => 0x4644000A#32
  | 66 => 0x4644000B#32
  | 67 => 0x4644000C#32
  | 68 => 0x4644000D#32
  | 69 => 0x4644000E#32
  | 70 => 0x4644000F#32
  | 71 => 0x46440010#32
  | 72 => 0x46440011#32
  | 73 => 0x46440012#32
  | 74 => 0x46440013#32
  | 75 => 0x46440014#32
  | 76 => 0x46440015#32
  | 77 => 0x46440016#32
  | 78 => 0x46440017#32
  | 79 => 0x46440018#32
  | 80 => 0x46440019#32
  | 81 => 0x4644001A#32
  | 82 => 0x4644001B#32
  | 83 => 0x4644001C#32
  | 84 => 0x4644001D#32
  | 85 => 0x4644001E#32
  | 86 => 0x4644001F#32
  | 87 => 0x46440020#32
  | 88 => 0x46440021#32
  | 89 => 0x46440022#32
  | 90 => 0x46440023#32
  | 91 => 0x46440024#32
  | 92 => 0x46440025#32
  | 93 => 0x46440026#32
  | 94 => 0x46440027#32
  | 95 => 0x46440028#32
  | 96 => 0x46440029#32
  | 97 => 0x4644002A#32
  | 98 => 0x4644002B#32
  | 99 => 0x4644002C#32
  | 100 => 0x4644002D#32
  | 101 => 0x4644002E#32
  | 102 => 0x4644002F#32
  | 103 => 0x46440030#32
  | 104 => 0x46440031#32
  | 105 => 0x46440032#32
  | 106 => 0x46440033#32
  | 107 => 0x46440034#32
  | 108 => 0x46440035#32
  | 109 => 0x46440036#32
  | 110 => 0x46440037#32
  | 111 => 0x46440038#32
  | 112 => 0x46440039#32
  | 113 => 0x4644003A#32
  | 114 => 0x4644003B#32
  | 115 => 0x4644003C#32
  | 116 => 0x4644003D#32
  | 117 => 0x4644003E#32
  | 118 => 0x4644003F#32
  | 119 => 0x46440040#32
  | 120 => 0x46440041#32
  | 121 => 0x46440042#32
  | 122 => 0x46440043#32
  | 123 => 0x46440044#32
  | 124 => 0x46440045#32
  | 125 => 0x46440046#32
  | 126 => 0x46440047#32
  | 127 => 0x46440048#32
  | _ => 0#32

noncomputable abbrev lit0t0_17 (i : Nat) : BitVec 32 := match i % 128 with
  | 0 => 0x46440049#32
  | 1 => 0x4644004A#32
  | 2 => 0x4644004B#32
  | 3 => 0x4644004C#32
  | 4 => 0x4644004D#32
  | 5 => 0x4644004E#32
  | 6 => 0x4644004F#32
  | 7 => 0x46440050#32
  | 8 => 0x46440051#32
  | 9 => 0x46440052#32
  | 10 => 0x46440053#32
  | 11 => 0x46440054#32
  | 12 => 0x46440055#32
  | 13 => 0x46440056#32
  | 14 => 0x46440057#32
  | 15 => 0x46440058#32
  | 16 => 0x46440059#32
  | 17 => 0x4644005A#32
  | 18 => 0x4644005B#32
  | 19 => 0x4644005C#32
  | 20 => 0x4644005D#32
  | 21 => 0x4644005E#32
  | 22 => 0x4644005F#32
  | 23 => 0x46440060#32
  | 24 => 0x46440061#32
  | 25 => 0x46440062#32
  | 26 => 0x46440063#32
  | 27 => 0x46440064#32
  | 28 => 0x46440065#32
  | 29 => 0x46440066#32
  | 30 => 0x46440067#32
  | 31 => 0x46440068#32
  | 32 => 0x46440069#32
  | 33 => 0x4644006A#32
  | 34 => 0x4644006B#32
  | 35 => 0x4644006C#32
  | 36 => 0x4644006D#32
  | 37 => 0x4644006E#32
  | 38 => 0x4644006F#32
  | 39 => 0x46440070#32
  | 40 => 0x46440071#32
  | 41 => 0x46440072#32
  | 42 => 0x46440073#32
  | 43 => 0x46440074#32
  | 44 => 0x46440075#32
  | 45 => 0x46440076#32
  | 46 => 0x46440077#32
  | 47 => 0x46440078#32
  | 48 => 0x46440079#32
  | 49 => 0x4644007A#32
  | 50 => 0x4644007B#32
  | 51 => 0x4644007C#32
  | 52 => 0x4644007D#32
  | 53 => 0x4644007E#32
  | 54 => 0x4644007F#32
  | 55 => 0x46440080#32
  | 56 => 0x46440081#32
  | 57 => 0x46440082#32
  | 58 => 0x46440083#32
  | 59 => 0x46440084#32
  | 60 => 0x46440085#32
  | 61 => 0x46440086#32
  | 62 => 0x46440087#32
  | 63 => 0x46440088#32
  | 64 => 0x46440089#32
  | 65 => 0x4644008A#32
  | 66 => 0x4644008B#32
  | 67 => 0x4644008C#32
  | 68 => 0x4644008D#32
  | 69 => 0x4644008E#32
  | 70 => 0x4644008F#32
  | 71 => 0x46440090#32
  | 72 => 0x46440091#32
  | 73 => 0x46440092#32
  | 74 => 0x46440093#32
  | 75 => 0x46440094#32
  | 76 => 0x46440095#32
  | 77 => 0x46440096#32
  | 78 => 0x46440097#32
  | 79 => 0x46440098#32
  | 80 => 0x46440099#32
  | 81 => 0x4644009A#32
  | 82 => 0x4644009B#32
  | 83 => 0x4644009C#32
  | 84 => 0x4644009D#32
  | 85 => 0x4644009E#32
  | 86 => 0x4644009F#32
  | 87 => 0x464400A0#32
  | 88 => 0x464400A1#32
  | 89 => 0x464400A2#32
  | 90 => 0x464400A3#32
  | 91 => 0x464400A4#32
  | 92 => 0x464400A5#32
  | 93 => 0x464400A6#32
  | 94 => 0x464400A7#32
  | 95 => 0x464400A8#32
  | 96 => 0x464400A9#32
  | 97 => 0x464400AA#32
  | 98 => 0x464400AB#32
  | 99 => 0x464400AC#32
  | 100 => 0x464400AD#32
  | 101 => 0x464400AE#32
  | 102 => 0x464400AF#32
  | 103 => 0x464400B0#32
  | 104 => 0x464400B1#32
  | 105 => 0x464400B2#32
  | 106 => 0x464400B3#32
  | 107 => 0x464400B4#32
  | 108 => 0x464400B5#32
  | 109 => 0x464400B6#32
  | 110 => 0x464400B7#32
  | 111 => 0x464400B8#32
  | 112 => 0x464400B9#32
  | 113 => 0x464400BA#32
  | 114 => 0x464400BB#32
  | 115 => 0x464400BC#32
  | 116 => 0x464400BD#32
  | 117 => 0x464400BE#32
  | 118 => 0x464400BF#32
  | 119 => 0x464400C0#32
  | 120 => 0x464400C1#32
  | 121 => 0x464400C2#32
  | 122 => 0x464400C3#32
  | 123 => 0x464400C4#32
  | 124 => 0x464400C5#32
  | 125 => 0x464400C6#32
  | 126 => 0x464400C7#32
  | 127 => 0x464400C8#32
  | _ => 0#32

noncomputable abbrev lit0t0_18 (i : Nat) : BitVec 32 := match i % 128 with
  | 0 => 0x464400C9#32
  | 1 => 0x464400CA#32
  | 2 => 0x464400CB#32
  | 3 => 0x464400CC#32
  | 4 => 0x464400CD#32
  | 5 => 0x464400CE#32
  | 6 => 0x464400CF#32
  | 7 => 0x464400D0#32
  | 8 => 0x464400D1#32
  | 9 => 0x464400D2#32
  | 10 => 0x464400D3#32
  | 11 => 0x464400D4#32
  | 12 => 0x464400D5#32
  | 13 => 0x464400D6#32
  | 14 => 0x464400D7#32
  | 15 => 0x464400D8#32
  | 16 => 0x464400D9#32
  | 17 => 0x464400DA#32
  | 18 => 0x464400DB#32
  | 19 => 0x464400DC#32
  | 20 => 0x464400DD#32
  | 21 => 0x464400DE#32
  | 22 => 0x464400DF#32
  | 23 => 0x464400E0#32
  | 24 => 0x464400E1#32
  | 25 => 0x464400E2#32
  | 26 => 0x464400E3#32
  | 27 => 0x464400E4#32
  | 28 => 0x464400E5#32
  | 29 => 0x464400E6#32
  | 30 => 0x464400E7#32
  | 31 => 0x464400E8#32
  | 32 => 0x464400E9#32
  | 33 => 0x464400EA#32
  | 34 => 0x464400EB#32
  | 35 => 0x464400EC#32
  | 36 => 0x464400ED#32
  | 37 => 0x464400EE#32
  | 38 => 0x464400EF#32
  | 39 => 0x464400F0#32
  | 40 => 0x464400F1#32
  | 41 => 0x464400F2#32
  | 42 => 0x464400F3#32
  | 43 => 0x464400F4#32
  | 44 => 0x464400F5#32
  | 45 => 0x464400F6#32
  | 46 => 0x464400F7#32
  | 47 => 0x464400F8#32
  | 48 => 0x464400F9#32
  | 49 => 0x464400FA#32
  | 50 => 0x464400FB#32
  | 51 => 0x464400FC#32
  | 52 => 0x464400FD#32
  | 53 => 0x464400FE#32
  | 54 => 0x464400FF#32
  | 55 => 0x46440100#32
  | 56 => 0x46440101#32
  | 57 => 0x46440102#32
  | 58 => 0x46440103#32
  | 59 => 0x46440104#32
  | 60 => 0x46440105#32
  | 61 => 0x46440106#32
  | 62 => 0x46440107#32
  | 63 => 0x46440108#32
  | 64 => 0x46440109#32
  | 65 => 0x4644010A#32
  | 66 => 0x4644010B#32
  | 67 => 0x4644010C#32
  | 68 => 0x4644010D#32
  | 69 => 0x4644010E#32
  | 70 => 0x4644010F#32
  | 71 => 0x46440110#32
  | 72 => 0x46440111#32
  | 73 => 0x46440112#32
  | 74 => 0x46440113#32
  | 75 => 0x46440114#32
  | 76 => 0x46440115#32
  | 77 => 0x46440116#32
  | 78 => 0x46440117#32
  | 79 => 0x46440118#32
  | 80 => 0x46440119#32
  | 81 => 0x4644011A#32
  | 82 => 0x4644011B#32
  | 83 => 0x4644011C#32
  | 84 => 0x4644011D#32
  | 85 => 0x4644011E#32
  | 86 => 0x4644011F#32
  | 87 => 0x46440120#32
  | 88 => 0x46440121#32
  | 89 => 0x46440122#32
  | 90 => 0x46440123#32
  | 91 => 0x46440124#32
  | 92 => 0x46440125#32
  | 93 => 0x46440126#32
  | 94 => 0x46440127#32
  | 95 => 0x46440128#32
  | 96 => 0x46440129#32
  | 97 => 0x4644012A#32
  | 98 => 0x4644012B#32
  | 99 => 0x4644012C#32
  | 100 => 0x4644012D#32
  | 101 => 0x4644012E#32
  | 102 => 0x4644012F#32
  | 103 => 0x46440130#32
  | 104 => 0x46440131#32
  | 105 => 0x46440132#32
  | 106 => 0x46440133#32
  | 107 => 0x46440134#32
  | 108 => 0x46440135#32
  | 109 => 0x46440136#32
  | 110 => 0x46440137#32
  | 111 => 0x46440138#32
  | 112 => 0x46440139#32
  | 113 => 0x4644013A#32
  | 114 => 0x4644013B#32
  | 115 => 0x4644013C#32
  | 116 => 0x4644013D#32
  | 117 => 0x4644013E#32
  | 118 => 0x4644013F#32
  | 119 => 0x46440140#32
  | 120 => 0x46440141#32
  | 121 => 0x46440142#32
  | 122 => 0x46440143#32
  | 123 => 0x46440144#32
  | 124 => 0x46440145#32
  | 125 => 0x46440146#32
  | 126 => 0x46440147#32
  | 127 => 0x46440148#32
  | _ => 0#32

noncomputable abbrev lit0t0_19 (i : Nat) : BitVec 32 := match i % 128 with
  | 0 => 0x46440149#32
  | 1 => 0x4644014A#32
  | 2 => 0x4644014B#32
  | 3 => 0x4644014C#32
  | 4 => 0x4644014D#32
  | 5 => 0x4644014E#32
  | 6 => 0x4644014F#32
  | 7 => 0x46440150#32
  | 8 => 0x46440151#32
  | 9 => 0x46440152#32
  | 10 => 0x46440153#32
  | 11 => 0x46440154#32
  | 12 => 0x46440155#32
  | 13 => 0x46440156#32
  | 14 => 0x46440157#32
  | 15 => 0x46440158#32
  | 16 => 0x46440159#32
  | 17 => 0x4644015A#32
  | 18 => 0x4644015B#32
  | 19 => 0x4644015C#32
  | 20 => 0x4644015D#32
  | 21 => 0x4644015E#32
  | 22 => 0x4644015F#32
  | 23 => 0x46440160#32
  | 24 => 0x46440161#32
  | 25 => 0x46440162#32
  | 26 => 0x46440163#32
  | 27 => 0x46440164#32
  | 28 => 0x46440165#32
  | 29 => 0x46440166#32
  | 30 => 0x46440167#32
  | 31 => 0x46440168#32
  | 32 => 0x46440169#32
  | 33 => 0x4644016A#32
  | 34 => 0x4644016B#32
  | 35 => 0x4644016C#32
  | 36 => 0x4644016D#32
  | 37 => 0x4644016E#32
  | 38 => 0x4644016F#32
  | 39 => 0x46440170#32
  | 40 => 0x46440171#32
  | 41 => 0x46440172#32
  | 42 => 0x46440173#32
  | 43 => 0x46440174#32
  | 44 => 0x46440175#32
  | 45 => 0x46440176#32
  | 46 => 0x46440177#32
  | 47 => 0x46440178#32
  | 48 => 0x46440179#32
  | 49 => 0x4644017A#32
  | 50 => 0x4644017B#32
  | 51 => 0x4644017C#32
  | 52 => 0x4644017D#32
  | 53 => 0x4644017E#32
  | 54 => 0x4644017F#32
  | 55 => 0x46440180#32
  | 56 => 0x46440181#32
  | 57 => 0x46440182#32
  | 58 => 0x46440183#32
  | 59 => 0x46440184#32
  | 60 => 0x46440185#32
  | 61 => 0x46440186#32
  | 62 => 0x46440187#32
  | 63 => 0x46440188#32
  | 64 => 0x46440189#32
  | 65 => 0x4644018A#32
  | 66 => 0x4644018B#32
  | 67 => 0x4644018C#32
  | 68 => 0x4644018D#32
  | 69 => 0x4644018E#32
  | 70 => 0x4644018F#32
  | 71 => 0x46440190#32
  | 72 => 0x46440191#32
  | 73 => 0x46440192#32
  | 74 => 0x46440193#32
  | 75 => 0x46440194#32
  | 76 => 0x46440195#32
  | 77 => 0x46440196#32
  | 78 => 0x46440197#32
  | 79 => 0x46440198#32
  | 80 => 0x46440199#32
  | 81 => 0x4644019A#32
  | 82 => 0x4644019B#32
  | 83 => 0x4644019C#32
  | 84 => 0x4644019D#32
  | 85 => 0x4644019E#32
  | 86 => 0x4644019F#32
  | 87 => 0x464401A0#32
  | 88 => 0x464401A1#32
  | 89 => 0x464401A2#32
  | 90 => 0x464401A3#32
  | 91 => 0x464401A4#32
  | 92 => 0x464401A5#32
  | 93 => 0x464401A6#32
  | 94 => 0x464401A7#32
  | 95 => 0x464401A8#32
  | 96 => 0x464401A9#32
  | 97 => 0x464401AA#32
  | 98 => 0x464401AB#32
  | 99 => 0x464401AC#32
  | 100 => 0x464401AD#32
  | 101 => 0x464401AE#32
  | 102 => 0x464401AF#32
  | 103 => 0x464401B0#32
  | 104 => 0x464401B1#32
  | 105 => 0x464401B2#32
  | 106 => 0x464401B3#32
  | 107 => 0x464401B4#32
  | 108 => 0x464401B5#32
  | 109 => 0x464401B6#32
  | 110 => 0x464401B7#32
  | 111 => 0x464401B8#32
  | 112 => 0x464401B9#32
  | 113 => 0x464401BA#32
  | 114 => 0x464401BB#32
  | 115 => 0x464401BC#32
  | 116 => 0x464401BD#32
  | 117 => 0x464401BE#32
  | 118 => 0x464401BF#32
  | 119 => 0x464401C0#32
  | 120 => 0x464401C1#32
  | 121 => 0x464401C2#32
  | 122 => 0x464401C3#32
  | 123 => 0x464401C4#32
  | 124 => 0x464401C5#32
  | 125 => 0x464401C6#32
  | 126 => 0x464401C7#32
  | 127 => 0x464401C8#32
  | _ => 0#32

noncomputable abbrev lit0t0_20 (i : Nat) : BitVec 32 := match i % 128 with
  | 0 => 0x464401C9#32
  | 1 => 0x464401CA#32
  | 2 => 0x464401CB#32
  | 3 => 0x464401CC#32
  | 4 => 0x464401CD#32
  | 5 => 0x464401CE#32
  | 6 => 0x464401CF#32
  | 7 => 0x464401D0#32
  | 8 => 0x464401D1#32
  | 9 => 0x464401D2#32
  | 10 => 0x464401D3#32
  | 11 => 0x464401D4#32
  | 12 => 0x464401D5#32
  | 13 => 0x464401D6#32
  | 14 => 0x464401D7#32
  | 15 => 0x464401D8#32
  | 16 => 0x464401D9#32
  | 17 => 0x464401DA#32
  | 18 => 0x464401DB#32
  | 19 => 0x464401DC#32
  | 20 => 0x464401DD#32
  | 21 => 0x464401DE#32
  | 22 => 0x464401DF#32
  | 23 => 0x464401E0#32
  | 24 => 0x464401E1#32
  | 25 => 0x464401E2#32
  | 26 => 0x464401E3#32
  | 27 => 0x464401E4#32
  | 28 => 0x464401E5#32
  | 29 => 0x464401E6#32
  | 30 => 0x464401E7#32
  | 31 => 0x464401E8#32
  | 32 => 0x464401E9#32
  | 33 => 0x464401EA#32
  | 34 => 0x464401EB#32
  | 35 => 0x464401EC#32
  | 36 => 0x464401ED#32
  | 37 => 0x464401EE#32
  | 38 => 0x464401EF#32
  | 39 => 0x464401F0#32
  | 40 => 0x464401F1#32
  | 41 => 0x464401F2#32
  | 42 => 0x464401F3#32
  | 43 => 0x464401F4#32
  | 44 => 0x464401F5#32
  | 45 => 0x464401F6#32
  | 46 => 0x464401F7#32
  | 47 => 0x464401F8#32
  | 48 => 0x464401F9#32
  | 49 => 0x464401FA#32
  | 50 => 0x464401FB#32
  | 51 => 0x464401FC#32
  | 52 => 0x464401FD#32
  | 53 => 0x464401FE#32
  | 54 => 0x464401FF#32
  | 55 => 0x46440200#32
  | 56 => 0x46440201#32
  | 57 => 0x46440202#32
  | 58 => 0x46440203#32
  | 59 => 0x46440204#32
  | 60 => 0x46440205#32
  | 61 => 0x46440206#32
  | 62 => 0x46440207#32
  | 63 => 0x46440208#32
  | 64 => 0x46440209#32
  | 65 => 0x4644020A#32
  | 66 => 0x4644020B#32
  | 67 => 0x4644020C#32
  | 68 => 0x4644020D#32
  | 69 => 0x4644020E#32
  | 70 => 0x4644020F#32
  | 71 => 0x46440210#32
  | 72 => 0x46440211#32
  | 73 => 0x46440212#32
  | 74 => 0x46440213#32
  | 75 => 0x46440214#32
  | 76 => 0x46440215#32
  | 77 => 0x46440216#32
  | 78 => 0x46440217#32
  | 79 => 0x46440218#32
  | 80 => 0x46440219#32
  | 81 => 0x4644021A#32
  | 82 => 0x4644021B#32
  | 83 => 0x4644021C#32
  | 84 => 0x4644021D#32
  | 85 => 0x4644021E#32
  | 86 => 0x4644021F#32
  | 87 => 0x46440220#32
  | 88 => 0x46440221#32
  | 89 => 0x46440222#32
  | 90 => 0x46440223#32
  | 91 => 0x46440224#32
  | 92 => 0x46440225#32
  | 93 => 0x46440226#32
  | 94 => 0x46440227#32
  | 95 => 0x46440228#32
  | 96 => 0x46440229#32
  | 97 => 0x4644022A#32
  | 98 => 0x4644022B#32
  | 99 => 0x4644022C#32
  | 100 => 0x4644022D#32
  | 101 => 0x4644022E#32
  | 102 => 0x4644022F#32
  | 103 => 0x46440230#32
  | 104 => 0x46440231#32
  | 105 => 0x46440232#32
  | 106 => 0x46440233#32
  | 107 => 0x46440234#32
  | 108 => 0x46440235#32
  | 109 => 0x46440236#32
  | 110 => 0x46440237#32
  | 111 => 0x46440238#32
  | 112 => 0x46440239#32
  | 113 => 0x4644023A#32
  | 114 => 0x4644023B#32
  | 115 => 0x4644023C#32
  | 116 => 0x4644023D#32
  | 117 => 0x4644023E#32
  | 118 => 0x4644023F#32
  | 119 => 0x46440240#32
  | 120 => 0x46440241#32
  | 121 => 0x46440242#32
  | 122 => 0x46440243#32
  | 123 => 0x46440244#32
  | 124 => 0x46440245#32
  | 125 => 0x46440246#32
  | 126 => 0x46440247#32
  | 127 => 0x46440248#32
  | _ => 0#32

noncomputable abbrev lit0t0_21 (i : Nat) : BitVec 32 := match i % 128 with
  | 0 => 0x46440249#32
  | 1 => 0x4644024A#32
  | 2 => 0x4644024B#32
  | 3 => 0x4644024C#32
  | 4 => 0x4644024D#32
  | 5 => 0x4644024E#32
  | 6 => 0x4644024F#32
  | 7 => 0x46440250#32
  | 8 => 0x46440251#32
  | 9 => 0x46440252#32
  | 10 => 0x46440253#32
  | 11 => 0x46440254#32
  | 12 => 0x46440255#32
  | 13 => 0x46440256#32
  | 14 => 0x46440257#32
  | 15 => 0x46440258#32
  | 16 => 0x46440259#32
  | 17 => 0x4644025A#32
  | 18 => 0x4644025B#32
  | 19 => 0x4644025C#32
  | 20 => 0x4644025D#32
  | 21 => 0x4644025E#32
  | 22 => 0x4644025F#32
  | 23 => 0x46440260#32
  | 24 => 0x46440261#32
  | 25 => 0x46440262#32
  | 26 => 0x46440263#32
  | 27 => 0x46440264#32
  | 28 => 0x46440265#32
  | 29 => 0x46440266#32
  | 30 => 0x46440267#32
  | 31 => 0x46440268#32
  | 32 => 0x46440269#32
  | 33 => 0x4644026A#32
  | 34 => 0x4644026B#32
  | 35 => 0x4644026C#32
  | 36 => 0x4644026D#32
  | 37 => 0x4644026E#32
  | 38 => 0x4644026F#32
  | 39 => 0x46440270#32
  | 40 => 0x46440271#32
  | 41 => 0x46440272#32
  | 42 => 0x46440273#32
  | 43 => 0x46440274#32
  | 44 => 0x46440275#32
  | 45 => 0x46440276#32
  | 46 => 0x46440277#32
  | 47 => 0x46440278#32
  | 48 => 0x46440279#32
  | 49 => 0x4644027A#32
  | 50 => 0x4644027B#32
  | 51 => 0x4644027C#32
  | 52 => 0x4644027D#32
  | 53 => 0x4644027E#32
  | 54 => 0x4644027F#32
  | 55 => 0x46440280#32
  | 56 => 0x46440281#32
  | 57 => 0x46440282#32
  | 58 => 0x46440283#32
  | 59 => 0x46440284#32
  | 60 => 0x46440285#32
  | 61 => 0x46440286#32
  | 62 => 0x46440287#32
  | 63 => 0x46440288#32
  | 64 => 0x46440289#32
  | 65 => 0x4644028A#32
  | 66 => 0x4644028B#32
  | 67 => 0x4644028C#32
  | 68 => 0x4644028D#32
  | 69 => 0x4644028E#32
  | 70 => 0x4644028F#32
  | 71 => 0x46440290#32
  | 72 => 0x46440291#32
  | 73 => 0x46440292#32
  | 74 => 0x46440293#32
  | 75 => 0x46440294#32
  | 76 => 0x46440295#32
  | 77 => 0x46440296#32
  | 78 => 0x46440297#32
  | 79 => 0x46440298#32
  | 80 => 0x46440299#32
  | 81 => 0x4644029A#32
  | 82 => 0x4644029B#32
  | 83 => 0x4644029C#32
  | 84 => 0x4644029D#32
  | 85 => 0x4644029E#32
  | 86 => 0x4644029F#32
  | 87 => 0x464402A0#32
  | 88 => 0x464402A1#32
  | 89 => 0x464402A2#32
  | 90 => 0x464402A3#32
  | 91 => 0x464402A4#32
  | 92 => 0x464402A5#32
  | 93 => 0x464402A6#32
  | 94 => 0x464402A7#32
  | 95 => 0x464402A8#32
  | 96 => 0x464402A9#32
  | 97 => 0x464402AA#32
  | 98 => 0x464402AB#32
  | 99 => 0x464402AC#32
  | 100 => 0x464402AD#32
  | 101 => 0x464402AE#32
  | 102 => 0x464402AF#32
  | 103 => 0x464402B0#32
  | 104 => 0x464402B1#32
  | 105 => 0x464402B2#32
  | 106 => 0x464402B3#32
  | 107 => 0x464402B4#32
  | 108 => 0x464402B5#32
  | 109 => 0x464402B6#32
  | 110 => 0x464402B7#32
  | 111 => 0x464402B8#32
  | 112 => 0x464402B9#32
  | 113 => 0x464402BA#32
  | 114 => 0x464402BB#32
  | 115 => 0x464402BC#32
  | 116 => 0x464402BD#32
  | 117 => 0x464402BE#32
  | 118 => 0x464402BF#32
  | 119 => 0x464402C0#32
  | 120 => 0x464402C1#32
  | 121 => 0x464402C2#32
  | 122 => 0x464402C3#32
  | 123 => 0x464402C4#32
  | 124 => 0x464402C5#32
  | 125 => 0x464402C6#32
  | 126 => 0x464402C7#32
  | 127 => 0x464402C8#32
  | _ => 0#32

noncomputable abbrev lit0t0_22 (i : Nat) : BitVec 32 := match i % 128 with
  | 0 => 0x464402C9#32
  | 1 => 0x464402CA#32
  | 2 => 0x464402CB#32
  | 3 => 0x464402CC#32
  | 4 => 0x464402CD#32
  | 5 => 0x464402CE#32
  | 6 => 0x464402CF#32
  | 7 => 0x464402D0#32
  | 8 => 0x464402D1#32
  | 9 => 0x464402D2#32
  | 10 => 0x464402D3#32
  | 11 => 0x464402D4#32
  | 12 => 0x464402D5#32
  | 13 => 0x464402D6#32
  | 14 => 0x464402D7#32
  | 15 => 0x464402D8#32
  | 16 => 0x464402D9#32
  | 17 => 0x464402DA#32
  | 18 => 0x464402DB#32
  | 19 => 0x464402DC#32
  | 20 => 0x464402DD#32
  | 21 => 0x464402DE#32
  | 22 => 0x464402DF#32
  | 23 => 0x464402E0#32
  | 24 => 0x464402E1#32
  | 25 => 0x464402E2#32
  | 26 => 0x464402E3#32
  | 27 => 0x464402E4#32
  | 28 => 0x464402E5#32
  | 29 => 0x464402E6#32
  | 30 => 0x464402E7#32
  | 31 => 0x464402E8#32
  | 32 => 0x464402E9#32
  | 33 => 0x464402EA#32
  | 34 => 0x464402EB#32
  | 35 => 0x464402EC#32
  | 36 => 0x464402ED#32
  | 37 => 0x464402EE#32
  | 38 => 0x464402EF#32
  | 39 => 0x464402F0#32
  | 40 => 0x464402F1#32
  | 41 => 0x464402F2#32
  | 42 => 0x464402F3#32
  | 43 => 0x464402F4#32
  | 44 => 0x464402F5#32
  | 45 => 0x464402F6#32
  | 46 => 0x464402F7#32
  | 47 => 0x464402F8#32
  | 48 => 0x464402F9#32
  | 49 => 0x464402FA#32
  | 50 => 0x464402FB#32
  | 51 => 0x464402FC#32
  | 52 => 0x464402FD#32
  | 53 => 0x464402FE#32
  | 54 => 0x464402FF#32
  | 55 => 0x46440300#32
  | 56 => 0x46440301#32
  | 57 => 0x46440302#32
  | 58 => 0x46440303#32
  | 59 => 0x46440304#32
  | 60 => 0x46440305#32
  | 61 => 0x46440306#32
  | 62 => 0x46440307#32
  | 63 => 0x46440308#32
  | 64 => 0x46440309#32
  | 65 => 0x4644030A#32
  | 66 => 0x4644030B#32
  | 67 => 0x4644030C#32
  | 68 => 0x4644030D#32
  | 69 => 0x4644030E#32
  | 70 => 0x4644030F#32
  | 71 => 0x46440310#32
  | 72 => 0x46440311#32
  | 73 => 0x46440312#32
  | 74 => 0x46440313#32
  | 75 => 0x46440314#32
  | 76 => 0x46440315#32
  | 77 => 0x46440316#32
  | 78 => 0x46440317#32
  | 79 => 0x46440318#32
  | 80 => 0x46440319#32
  | 81 => 0x4644031A#32
  | 82 => 0x4644031B#32
  | 83 => 0x4644031C#32
  | 84 => 0x4644031D#32
  | 85 => 0x4644031E#32
  | 86 => 0x4644031F#32
  | 87 => 0x46440320#32
  | 88 => 0x46440321#32
  | 89 => 0x46440322#32
  | 90 => 0x46440323#32
  | 91 => 0x46440324#32
  | 92 => 0x46440325#32
  | 93 => 0x46440326#32
  | 94 => 0x46440327#32
  | 95 => 0x46440328#32
  | 96 => 0x46440329#32
  | 97 => 0x4644032A#32
  | 98 => 0x4644032B#32
  | 99 => 0x4644032C#32
  | 100 => 0x4644032D#32
  | 101 => 0x4644032E#32
  | 102 => 0x4644032F#32
  | 103 => 0x46440330#32
  | 104 => 0x46440331#32
  | 105 => 0x46440332#32
  | 106 => 0x46440333#32
  | 107 => 0x46440334#32
  | 108 => 0x46440335#32
  | 109 => 0x46440336#32
  | 110 => 0x46440337#32
  | 111 => 0x46440338#32
  | 112 => 0x46440339#32
  | 113 => 0x4644033A#32
  | 114 => 0x4644033B#32
  | 115 => 0x4644033C#32
  | 116 => 0x4644033D#32
  | 117 => 0x4644033E#32
  | 118 => 0x4644033F#32
  | 119 => 0x46440340#32
  | 120 => 0x46440341#32
  | 121 => 0x46440342#32
  | 122 => 0x46440343#32
  | 123 => 0x46440344#32
  | 124 => 0x46440345#32
  | 125 => 0x46440346#32
  | 126 => 0x46440347#32
  | 127 => 0x46440348#32
  | _ => 0#32

noncomputable abbrev lit0t0_23 (i : Nat) : BitVec 32 := match i % 128 with
  | 0 => 0x46440349#32
  | 1 => 0x4644034A#32
  | 2 => 0x4644034B#32
  | 3 => 0x4644034C#32
  | 4 => 0x4644034D#32
  | 5 => 0x4644034E#32
  | 6 => 0x4644034F#32
  | 7 => 0x46440350#32
  | 8 => 0x46440351#32
  | 9 => 0x46440352#32
  | 10 => 0x46440353#32
  | 11 => 0x46440354#32
  | 12 => 0x46440355#32
  | 13 => 0x46440356#32
  | 14 => 0x46440357#32
  | 15 => 0x46440358#32
  | 16 => 0x46440359#32
  | 17 => 0x4644035A#32
  | 18 => 0x4644035B#32
  | 19 => 0x4644035C#32
  | 20 => 0x4644035D#32
  | 21 => 0x4644035E#32
  | 22 => 0x4644035F#32
  | 23 => 0x46440360#32
  | 24 => 0x46440361#32
  | 25 => 0x46440362#32
  | 26 => 0x46440363#32
  | 27 => 0x46440364#32
  | 28 => 0x46440365#32
  | 29 => 0x46440366#32
  | 30 => 0x46440367#32
  | 31 => 0x46440368#32
  | 32 => 0x46440369#32
  | 33 => 0x4644036A#32
  | 34 => 0x4644036B#32
  | 35 => 0x4644036C#32
  | 36 => 0x4644036D#32
  | 37 => 0x4644036E#32
  | 38 => 0x4644036F#32
  | 39 => 0x46440370#32
  | 40 => 0x46440371#32
  | 41 => 0x46440372#32
  | 42 => 0x46440373#32
  | 43 => 0x46440374#32
  | 44 => 0x46440375#32
  | 45 => 0x46440376#32
  | 46 => 0x46440377#32
  | 47 => 0x46440378#32
  | 48 => 0x46440379#32
  | 49 => 0x4644037A#32
  | 50 => 0x4644037B#32
  | 51 => 0x4644037C#32
  | 52 => 0x4644037D#32
  | 53 => 0x4644037E#32
  | 54 => 0x4644037F#32
  | 55 => 0x46440380#32
  | 56 => 0x46440381#32
  | 57 => 0x46440382#32
  | 58 => 0x46440383#32
  | 59 => 0x46440384#32
  | 60 => 0x46440385#32
  | 61 => 0x46440386#32
  | 62 => 0x46440387#32
  | 63 => 0x46440388#32
  | 64 => 0x46440389#32
  | 65 => 0x4644038A#32
  | 66 => 0x4644038B#32
  | 67 => 0x4644038C#32
  | 68 => 0x4644038D#32
  | 69 => 0x4644038E#32
  | 70 => 0x4644038F#32
  | 71 => 0x46440390#32
  | 72 => 0x46440391#32
  | 73 => 0x46440392#32
  | 74 => 0x46440393#32
  | 75 => 0x46440394#32
  | 76 => 0x46440395#32
  | 77 => 0x46440396#32
  | 78 => 0x46440397#32
  | 79 => 0x46440398#32
  | 80 => 0x46440399#32
  | 81 => 0x4644039A#32
  | 82 => 0x4644039B#32
  | 83 => 0x4644039C#32
  | 84 => 0x4644039D#32
  | 85 => 0x4644039E#32
  | 86 => 0x4644039F#32
  | 87 => 0x464403A0#32
  | 88 => 0x464403A1#32
  | 89 => 0x464403A2#32
  | 90 => 0x464403A3#32
  | 91 => 0x464403A4#32
  | 92 => 0x464403A5#32
  | 93 => 0x464403A6#32
  | 94 => 0x464403A7#32
  | 95 => 0x464403A8#32
  | 96 => 0x464403A9#32
  | 97 => 0x464403AA#32
  | 98 => 0x464403AB#32
  | 99 => 0x464403AC#32
  | 100 => 0x464403AD#32
  | 101 => 0x464403AE#32
  | 102 => 0x464403AF#32
  | 103 => 0x464403B0#32
  | 104 => 0x464403B1#32
  | 105 => 0x464403B2#32
  | 106 => 0x464403B3#32
  | 107 => 0x464403B4#32
  | 108 => 0x464403B5#32
  | 109 => 0x464403B6#32
  | 110 => 0x464403B7#32
  | 111 => 0x464403B8#32
  | 112 => 0x464403B9#32
  | 113 => 0x464403BA#32
  | 114 => 0x464403BB#32
  | 115 => 0x464403BC#32
  | 116 => 0x464403BD#32
  | 117 => 0x464403BE#32
  | 118 => 0x464403BF#32
  | 119 => 0x464403C0#32
  | 120 => 0x464403C1#32
  | 121 => 0x464403C2#32
  | 122 => 0x464403C3#32
  | 123 => 0x464403C4#32
  | 124 => 0x464403C5#32
  | 125 => 0x464403C6#32
  | 126 => 0x464403C7#32
  | 127 => 0x464403C8#32
  | _ => 0#32

noncomputable abbrev lit0t0_24 (i : Nat) : BitVec 32 := match i % 128 with
  | 0 => 0x464403C9#32
  | 1 => 0x464403CA#32
  | 2 => 0x464403CB#32
  | 3 => 0x464403CC#32
  | 4 => 0x464403CD#32
  | 5 => 0x464403CE#32
  | 6 => 0x464403CF#32
  | 7 => 0x464403D0#32
  | 8 => 0x464403D1#32
  | 9 => 0x464403D2#32
  | 10 => 0x464403D3#32
  | 11 => 0x464403D4#32
  | 12 => 0x464403D5#32
  | 13 => 0x464403D6#32
  | 14 => 0x464403D7#32
  | 15 => 0x464403D8#32
  | 16 => 0x464403D9#32
  | 17 => 0x464403DA#32
  | 18 => 0x464403DB#32
  | 19 => 0x464403DC#32
  | 20 => 0x464403DD#32
  | 21 => 0x464403DE#32
  | 22 => 0x464403DF#32
  | 23 => 0x464403E0#32
  | 24 => 0x464403E1#32
  | 25 => 0x464403E2#32
  | 26 => 0x464403E3#32
  | 27 => 0x464403E4#32
  | 28 => 0x464403E5#32
  | 29 => 0x464403E6#32
  | 30 => 0x464403E7#32
  | 31 => 0x464403E8#32
  | 32 => 0x464403E9#32
  | 33 => 0x464403EA#32
  | 34 => 0x464403EB#32
  | 35 => 0x464403EC#32
  | 36 => 0x464403ED#32
  | 37 => 0x464403EE#32
  | 38 => 0x464403EF#32
  | 39 => 0x464403F0#32
  | 40 => 0x464403F1#32
  | 41 => 0x464403F2#32
  | 42 => 0x464403F3#32
  | 43 => 0x464403F4#32
  | 44 => 0x464403F5#32
  | 45 => 0x464403F6#32
  | 46 => 0x464403F7#32
  | 47 => 0x464403F8#32
  | 48 => 0x464403F9#32
  | 49 => 0x464403FA#32
  | 50 => 0x464403FB#32
  | 51 => 0x464403FC#32
  | 52 => 0x464403FD#32
  | 53 => 0x464403FE#32
  | 54 => 0x464403FF#32
  | 55 => 0x46440400#32
  | 56 => 0x46440401#32
  | 57 => 0x46440402#32
  | 58 => 0x46440403#32
  | 59 => 0x46440404#32
  | 60 => 0x46440405#32
  | 61 => 0x46440406#32
  | 62 => 0x46440407#32
  | 63 => 0x46440408#32
  | 64 => 0x46440409#32
  | 65 => 0x4644040A#32
  | 66 => 0x4644040B#32
  | 67 => 0x4644040C#32
  | 68 => 0x4644040D#32
  | 69 => 0x4644040E#32
  | 70 => 0x4644040F#32
  | 71 => 0x46440410#32
  | 72 => 0x46440411#32
  | 73 => 0x46440412#32
  | 74 => 0x46440413#32
  | 75 => 0x46440414#32
  | 76 => 0x46440415#32
  | 77 => 0x46440416#32
  | 78 => 0x46440417#32
  | 79 => 0x46440418#32
  | 80 => 0x46440419#32
  | 81 => 0x4644041A#32
  | 82 => 0x4644041B#32
  | 83 => 0x4644041C#32
  | 84 => 0x4644041D#32
  | 85 => 0x4644041E#32
  | 86 => 0x4644041F#32
  | 87 => 0x46440420#32
  | 88 => 0x46440421#32
  | 89 => 0x46440422#32
  | 90 => 0x46440423#32
  | 91 => 0x46440424#32
  | 92 => 0x46440425#32
  | 93 => 0x46440426#32
  | 94 => 0x46440427#32
  | 95 => 0x46440428#32
  | 96 => 0x46440429#32
  | 97 => 0x4644042A#32
  | 98 => 0x4644042B#32
  | 99 => 0x4644042C#32
  | 100 => 0x4644042D#32
  | 101 => 0x4644042E#32
  | 102 => 0x4644042F#32
  | 103 => 0x46440430#32
  | 104 => 0x46440431#32
  | 105 => 0x46440432#32
  | 106 => 0x46440433#32
  | 107 => 0x46440434#32
  | 108 => 0x46440435#32
  | 109 => 0x46440436#32
  | 110 => 0x46440437#32
  | 111 => 0x46440438#32
  | 112 => 0x46440439#32
  | 113 => 0x4644043A#32
  | 114 => 0x4644043B#32
  | 115 => 0x4644043C#32
  | 116 => 0x4644043D#32
  | 117 => 0x4644043E#32
  | 118 => 0x4644043F#32
  | 119 => 0x46440440#32
  | 120 => 0x46440441#32
  | 121 => 0x46440442#32
  | 122 => 0x46440443#32
  | 123 => 0x46440444#32
  | 124 => 0x46440445#32
  | 125 => 0x46440446#32
  | 126 => 0x46440447#32
  | 127 => 0x46440448#32
  | _ => 0#32

noncomputable abbrev lit0t0_25 (i : Nat) : BitVec 32 := match i % 128 with
  | 0 => 0x46440449#32
  | 1 => 0x4644044A#32
  | 2 => 0x4644044B#32
  | 3 => 0x4644044C#32
  | 4 => 0x4644044D#32
  | 5 => 0x4644044E#32
  | 6 => 0x4644044F#32
  | 7 => 0x46440450#32
  | 8 => 0x46440451#32
  | 9 => 0x46440452#32
  | 10 => 0x46440453#32
  | 11 => 0x46440454#32
  | 12 => 0x46440455#32
  | 13 => 0x46440456#32
  | 14 => 0x46440457#32
  | 15 => 0x46440458#32
  | 16 => 0x46440459#32
  | 17 => 0x4644045A#32
  | 18 => 0x4644045B#32
  | 19 => 0x4644045C#32
  | 20 => 0x4644045D#32
  | 21 => 0x4644045E#32
  | 22 => 0x4644045F#32
  | 23 => 0x46440460#32
  | 24 => 0x46440461#32
  | 25 => 0x46440462#32
  | 26 => 0x46440463#32
  | 27 => 0x46440464#32
  | 28 => 0x46440465#32
  | 29 => 0x46440466#32
  | 30 => 0x46440467#32
  | 31 => 0x46440468#32
  | 32 => 0x46440469#32
  | 33 => 0x4644046A#32
  | 34 => 0x4644046B#32
  | 35 => 0x4644046C#32
  | 36 => 0x4644046D#32
  | 37 => 0x4644046E#32
  | 38 => 0x4644046F#32
  | 39 => 0x46440470#32
  | 40 => 0x46440471#32
  | 41 => 0x46440472#32
  | 42 => 0x46440473#32
  | 43 => 0x46440474#32
  | 44 => 0x46440475#32
  | 45 => 0x46440476#32
  | 46 => 0x46440477#32
  | 47 => 0x46440478#32
  | 48 => 0x46440479#32
  | 49 => 0x4644047A#32
  | 50 => 0x4644047B#32
  | 51 => 0x4644047C#32
  | 52 => 0x4644047D#32
  | 53 => 0x4644047E#32
  | 54 => 0x4644047F#32
  | 55 => 0x46440480#32
  | 56 => 0x46440481#32
  | 57 => 0x46440482#32
  | 58 => 0x46440483#32
  | 59 => 0x46440484#32
  | 60 => 0x46440485#32
  | 61 => 0x46440486#32
  | 62 => 0x46440487#32
  | 63 => 0x46440488#32
  | 64 => 0x46440489#32
  | 65 => 0x4644048A#32
  | 66 => 0x4644048B#32
  | 67 => 0x4644048C#32
  | 68 => 0x4644048D#32
  | 69 => 0x4644048E#32
  | 70 => 0x4644048F#32
  | 71 => 0x46440490#32
  | 72 => 0x46440491#32
  | 73 => 0x46440492#32
  | 74 => 0x46440493#32
  | 75 => 0x46440494#32
  | 76 => 0x46440495#32
  | 77 => 0x46440496#32
  | 78 => 0x46440497#32
  | 79 => 0x46440498#32
  | 80 => 0x46440499#32
  | 81 => 0x4644049A#32
  | 82 => 0x4644049B#32
  | 83 => 0x4644049C#32
  | 84 => 0x4644049D#32
  | 85 => 0x4644049E#32
  | 86 => 0x4644049F#32
  | 87 => 0x464404A0#32
  | 88 => 0x464404A1#32
  | 89 => 0x464404A2#32
  | 90 => 0x464404A3#32
  | 91 => 0x464404A4#32
  | 92 => 0x464404A5#32
  | 93 => 0x464404A6#32
  | 94 => 0x464404A7#32
  | 95 => 0x464404A8#32
  | 96 => 0x464404A9#32
  | 97 => 0x464404AA#32
  | 98 => 0x464404AB#32
  | 99 => 0x464404AC#32
  | 100 => 0x464404AD#32
  | 101 => 0x464404AE#32
  | 102 => 0x464404AF#32
  | 103 => 0x464404B0#32
  | 104 => 0x464404B1#32
  | 105 => 0x464404B2#32
  | 106 => 0x464404B3#32
  | 107 => 0x464404B4#32
  | 108 => 0x464404B5#32
  | 109 => 0x464404B6#32
  | 110 => 0x464404B7#32
  | 111 => 0x464404B8#32
  | 112 => 0x464404B9#32
  | 113 => 0x464404BA#32
  | 114 => 0x464404BB#32
  | 115 => 0x464404BC#32
  | 116 => 0x464404BD#32
  | 117 => 0x464404BE#32
  | 118 => 0x464404BF#32
  | 119 => 0x464404C0#32
  | 120 => 0x464404C1#32
  | 121 => 0x464404C2#32
  | 122 => 0x464404C3#32
  | 123 => 0x464404C4#32
  | 124 => 0x464404C5#32
  | 125 => 0x464404C6#32
  | 126 => 0x464404C7#32
  | 127 => 0x464404C8#32
  | _ => 0#32

noncomputable abbrev lit0t0_26 (i : Nat) : BitVec 32 := match i % 128 with
  | 0 => 0x464404C9#32
  | 1 => 0x464404CA#32
  | 2 => 0x464404CB#32
  | 3 => 0x464404CC#32
  | 4 => 0x464404CD#32
  | 5 => 0x464404CE#32
  | 6 => 0x464404CF#32
  | 7 => 0x464404D0#32
  | 8 => 0x464404D1#32
  | 9 => 0x464404D2#32
  | 10 => 0x464404D3#32
  | 11 => 0x464404D4#32
  | 12 => 0x464404D5#32
  | 13 => 0x464404D6#32
  | 14 => 0x464404D7#32
  | 15 => 0x464404D8#32
  | 16 => 0x464404D9#32
  | 17 => 0x464404DA#32
  | 18 => 0x464404DB#32
  | 19 => 0x464404DC#32
  | 20 => 0x464404DD#32
  | 21 => 0x464404DE#32
  | 22 => 0x464404DF#32
  | 23 => 0x464404E0#32
  | 24 => 0x464404E1#32
  | 25 => 0x464404E2#32
  | 26 => 0x464404E3#32
  | 27 => 0x464404E4#32
  | 28 => 0x464404E5#32
  | 29 => 0x464404E6#32
  | 30 => 0x464404E7#32
  | 31 => 0x464404E8#32
  | 32 => 0x464404E9#32
  | 33 => 0x464404EA#32
  | 34 => 0x464404EB#32
  | 35 => 0x464404EC#32
  | 36 => 0x464404ED#32
  | 37 => 0x464404EE#32
  | 38 => 0x464404EF#32
  | 39 => 0x464404F0#32
  | 40 => 0x464404F1#32
  | 41 => 0x464404F2#32
  | 42 => 0x464404F3#32
  | 43 => 0x464404F4#32
  | 44 => 0x464404F5#32
  | 45 => 0x464404F6#32
  | 46 => 0x464404F7#32
  | 47 => 0x464404F8#32
  | 48 => 0x464404F9#32
  | 49 => 0x464404FA#32
  | 50 => 0x464404FB#32
  | 51 => 0x464404FC#32
  | 52 => 0x464404FD#32
  | 53 => 0x464404FE#32
  | 54 => 0x464404FF#32
  | 55 => 0x46440500#32
  | 56 => 0x46440501#32
  | 57 => 0x46440502#32
  | 58 => 0x46440503#32
  | 59 => 0x46440504#32
  | 60 => 0x46440505#32
  | 61 => 0x46440506#32
  | 62 => 0x46440507#32
  | 63 => 0x46440508#32
  | 64 => 0x46440509#32
  | 65 => 0x4644050A#32
  | 66 => 0x4644050B#32
  | 67 => 0x4644050C#32
  | 68 => 0x4644050D#32
  | 69 => 0x4644050E#32
  | 70 => 0x4644050F#32
  | 71 => 0x46440510#32
  | 72 => 0x46440511#32
  | 73 => 0x46440512#32
  | 74 => 0x46440513#32
  | 75 => 0x46440514#32
  | 76 => 0x46440515#32
  | 77 => 0x46440516#32
  | 78 => 0x46440517#32
  | 79 => 0x46440518#32
  | 80 => 0x46440519#32
  | 81 => 0x4644051A#32
  | 82 => 0x4644051B#32
  | 83 => 0x4644051C#32
  | 84 => 0x4644051D#32
  | 85 => 0x4644051E#32
  | 86 => 0x4644051F#32
  | 87 => 0x46440520#32
  | 88 => 0x46440521#32
  | 89 => 0x46440522#32
  | 90 => 0x46440523#32
  | 91 => 0x46440524#32
  | 92 => 0x46440525#32
  | 93 => 0x46440526#32
  | 94 => 0x46440527#32
  | 95 => 0x46440528#32
  | 96 => 0x46440529#32
  | 97 => 0x4644052A#32
  | 98 => 0x4644052B#32
  | 99 => 0x4644052C#32
  | 100 => 0x4644052D#32
  | 101 => 0x4644052E#32
  | 102 => 0x4644052F#32
  | 103 => 0x46440530#32
  | 104 => 0x46440531#32
  | 105 => 0x46440532#32
  | 106 => 0x46440533#32
  | 107 => 0x46440534#32
  | 108 => 0x46440535#32
  | 109 => 0x46440536#32
  | 110 => 0x46440537#32
  | 111 => 0x46440538#32
  | 112 => 0x46440539#32
  | 113 => 0x4644053A#32
  | 114 => 0x4644053B#32
  | 115 => 0x4644053C#32
  | 116 => 0x4644053D#32
  | 117 => 0x4644053E#32
  | 118 => 0x4644053F#32
  | 119 => 0x46440540#32
  | 120 => 0x46440541#32
  | 121 => 0x46440542#32
  | 122 => 0x46440543#32
  | 123 => 0x46440544#32
  | 124 => 0x46440545#32
  | 125 => 0x46440546#32
  | 126 => 0x46440547#32
  | 127 => 0x46440548#32
  | _ => 0#32

noncomputable abbrev lit0t0_27 (i : Nat) : BitVec 32 := match i % 128 with
  | 0 => 0x46440549#32
  | 1 => 0x4644054A#32
  | 2 => 0x4644054B#32
  | 3 => 0x4644054C#32
  | 4 => 0x4644054D#32
  | 5 => 0x4644054E#32
  | 6 => 0x4644054F#32
  | 7 => 0x46440550#32
  | 8 => 0x46440551#32
  | 9 => 0x46440552#32
  | 10 => 0x46440553#32
  | 11 => 0x46440554#32
  | 12 => 0x46440555#32
  | 13 => 0x46440556#32
  | 14 => 0x46440557#32
  | 15 => 0x46440558#32
  | 16 => 0x46440559#32
  | 17 => 0x4644055A#32
  | 18 => 0x4644055B#32
  | 19 => 0x4644055C#32
  | 20 => 0x4644055D#32
  | 21 => 0x4644055E#32
  | 22 => 0x4644055F#32
  | 23 => 0x46440560#32
  | 24 => 0x46440561#32
  | 25 => 0x46440562#32
  | 26 => 0x46440563#32
  | 27 => 0x46440564#32
  | 28 => 0x46440565#32
  | 29 => 0x46440566#32
  | 30 => 0x46440567#32
  | 31 => 0x46440568#32
  | 32 => 0x46440569#32
  | 33 => 0x4644056A#32
  | 34 => 0x4644056B#32
  | 35 => 0x4644056C#32
  | 36 => 0x4644056D#32
  | 37 => 0x4644056E#32
  | 38 => 0x4644056F#32
  | 39 => 0x46440570#32
  | 40 => 0x46440571#32
  | 41 => 0x46440572#32
  | 42 => 0x46440573#32
  | 43 => 0x46440574#32
  | 44 => 0x46440575#32
  | 45 => 0x46440576#32
  | 46 => 0x46440577#32
  | 47 => 0x46440578#32
  | 48 => 0x46440579#32
  | 49 => 0x4644057A#32
  | 50 => 0x4644057B#32
  | 51 => 0x4644057C#32
  | 52 => 0x4644057D#32
  | 53 => 0x4644057E#32
  | 54 => 0x4644057F#32
  | 55 => 0x46440580#32
  | 56 => 0x46440581#32
  | 57 => 0x46440582#32
  | 58 => 0x46440583#32
  | 59 => 0x46440584#32
  | 60 => 0x46440585#32
  | 61 => 0x46440586#32
  | 62 => 0x46440587#32
  | 63 => 0x46440588#32
  | 64 => 0x46440589#32
  | 65 => 0x4644058A#32
  | 66 => 0x4644058B#32
  | 67 => 0x4644058C#32
  | 68 => 0x4644058D#32
  | 69 => 0x4644058E#32
  | 70 => 0x4644058F#32
  | 71 => 0x46440590#32
  | 72 => 0x46440591#32
  | 73 => 0x46440592#32
  | 74 => 0x46440593#32
  | 75 => 0x46440594#32
  | 76 => 0x46440595#32
  | 77 => 0x46440596#32
  | 78 => 0x46440597#32
  | 79 => 0x46440598#32
  | 80 => 0x46440599#32
  | 81 => 0x4644059A#32
  | 82 => 0x4644059B#32
  | 83 => 0x4644059C#32
  | 84 => 0x4644059D#32
  | 85 => 0x4644059E#32
  | 86 => 0x4644059F#32
  | 87 => 0x464405A0#32
  | 88 => 0x464405A1#32
  | 89 => 0x464405A2#32
  | 90 => 0x464405A3#32
  | 91 => 0x464405A4#32
  | 92 => 0x464405A5#32
  | 93 => 0x464405A6#32
  | 94 => 0x464405A7#32
  | 95 => 0x464405A8#32
  | 96 => 0x464405A9#32
  | 97 => 0x464405AA#32
  | 98 => 0x464405AB#32
  | 99 => 0x464405AC#32
  | 100 => 0x464405AD#32
  | 101 => 0x464405AE#32
  | 102 => 0x464405AF#32
  | 103 => 0x464405B0#32
  | 104 => 0x464405B1#32
  | 105 => 0x464405B2#32
  | 106 => 0x464405B3#32
  | 107 => 0x464405B4#32
  | 108 => 0x464405B5#32
  | 109 => 0x464405B6#32
  | 110 => 0x464405B7#32
  | 111 => 0x464405B8#32
  | 112 => 0x464405B9#32
  | 113 => 0x464405BA#32
  | 114 => 0x464405BB#32
  | 115 => 0x464405BC#32
  | 116 => 0x464405BD#32
  | 117 => 0x464405BE#32
  | 118 => 0x464405BF#32
  | 119 => 0x464405C0#32
  | 120 => 0x464405C1#32
  | 121 => 0x464405C2#32
  | 122 => 0x464405C3#32
  | 123 => 0x464405C4#32
  | 124 => 0x464405C5#32
  | 125 => 0x464405C6#32
  | 126 => 0x464405C7#32
  | 127 => 0x464405C8#32
  | _ => 0#32

noncomputable abbrev lit0t0_28 (i : Nat) : BitVec 32 := match i % 128 with
  | 0 => 0x464405C9#32
  | 1 => 0x464405CA#32
  | 2 => 0x464405CB#32
  | 3 => 0x464405CC#32
  | 4 => 0x464405CD#32
  | 5 => 0x464405CE#32
  | 6 => 0x464405CF#32
  | 7 => 0x464405D0#32
  | 8 => 0x464405D1#32
  | 9 => 0x464405D2#32
  | 10 => 0x464405D3#32
  | 11 => 0x464405D4#32
  | 12 => 0x464405D5#32
  | 13 => 0x464405D6#32
  | 14 => 0x464405D7#32
  | 15 => 0x464405D8#32
  | 16 => 0x464405D9#32
  | 17 => 0x464405DA#32
  | 18 => 0x464405DB#32
  | 19 => 0x464405DC#32
  | 20 => 0x464405DD#32
  | 21 => 0x464405DE#32
  | 22 => 0x464405DF#32
  | 23 => 0x464405E0#32
  | 24 => 0x464405E1#32
  | 25 => 0x464405E2#32
  | 26 => 0x464405E3#32
  | 27 => 0x464405E4#32
  | 28 => 0x464405E5#32
  | 29 => 0x464405E6#32
  | 30 => 0x464405E7#32
  | 31 => 0x464405E8#32
  | 32 => 0x464405E9#32
  | 33 => 0x464405EA#32
  | 34 => 0x464405EB#32
  | 35 => 0x464405EC#32
  | 36 => 0x464405ED#32
  | 37 => 0x464405EE#32
  | 38 => 0x464405EF#32
  | 39 => 0x464405F0#32
  | 40 => 0x464405F1#32
  | 41 => 0x464405F2#32
  | 42 => 0x464405F3#32
  | 43 => 0x464405F4#32
  | 44 => 0x464405F5#32
  | 45 => 0x464405F6#32
  | 46 => 0x464405F7#32
  | 47 => 0x464405F8#32
  | 48 => 0x464405F9#32
  | 49 => 0x464405FA#32
  | 50 => 0x464405FB#32
  | 51 => 0x464405FC#32
  | 52 => 0x464405FD#32
  | 53 => 0x464405FE#32
  | 54 => 0x464405FF#32
  | 55 => 0x46440600#32
  | 56 => 0x46440601#32
  | 57 => 0x46440602#32
  | 58 => 0x46440603#32
  | 59 => 0x46440604#32
  | 60 => 0x46440605#32
  | 61 => 0x46440606#32
  | 62 => 0x46440607#32
  | 63 => 0x46440608#32
  | 64 => 0x46440609#32
  | 65 => 0x4644060A#32
  | 66 => 0x4644060B#32
  | 67 => 0x4644060C#32
  | 68 => 0x4644060D#32
  | 69 => 0x4644060E#32
  | 70 => 0x4644060F#32
  | 71 => 0x46440610#32
  | 72 => 0x46440611#32
  | 73 => 0x46440612#32
  | 74 => 0x46440613#32
  | 75 => 0x46440614#32
  | 76 => 0x46440615#32
  | 77 => 0x46440616#32
  | 78 => 0x46440617#32
  | 79 => 0x46440618#32
  | 80 => 0x46440619#32
  | 81 => 0x4644061A#32
  | 82 => 0x4644061B#32
  | 83 => 0x4644061C#32
  | 84 => 0x4644061D#32
  | 85 => 0x4644061E#32
  | 86 => 0x4644061F#32
  | 87 => 0x46440620#32
  | 88 => 0x46440621#32
  | 89 => 0x46440622#32
  | 90 => 0x46440623#32
  | 91 => 0x46440624#32
  | 92 => 0x46440625#32
  | 93 => 0x46440626#32
  | 94 => 0x46440627#32
  | 95 => 0x46440628#32
  | 96 => 0x46440629#32
  | 97 => 0x4644062A#32
  | 98 => 0x4644062B#32
  | 99 => 0x4644062C#32
  | 100 => 0x4644062D#32
  | 101 => 0x4644062E#32
  | 102 => 0x4644062F#32
  | 103 => 0x46440630#32
  | 104 => 0x46440631#32
  | 105 => 0x46440632#32
  | 106 => 0x46440633#32
  | 107 => 0x46440634#32
  | 108 => 0x46440635#32
  | 109 => 0x46440636#32
  | 110 => 0x46440637#32
  | 111 => 0x46440638#32
  | 112 => 0x46440639#32
  | 113 => 0x4644063A#32
  | 114 => 0x4644063B#32
  | 115 => 0x4644063C#32
  | 116 => 0x4644063D#32
  | 117 => 0x4644063E#32
  | 118 => 0x4644063F#32
  | 119 => 0x46440640#32
  | 120 => 0x46440641#32
  | 121 => 0x46440642#32
  | 122 => 0x46440643#32
  | 123 => 0x46440644#32
  | 124 => 0x46440645#32
  | 125 => 0x46440646#32
  | 126 => 0x46440647#32
  | 127 => 0x46440648#32
  | _ => 0#32

noncomputable abbrev lit0t0_29 (i : Nat) : BitVec 32 := match i % 128 with
  | 0 => 0x46440649#32
  | 1 => 0x4644064A#32
  | 2 => 0x4644064B#32
  | 3 => 0x4644064C#32
  | 4 => 0x4644064D#32
  | 5 => 0x4644064E#32
  | 6 => 0x4644064F#32
  | 7 => 0x46440650#32
  | 8 => 0x46440651#32
  | 9 => 0x46440652#32
  | 10 => 0x46440653#32
  | 11 => 0x46440654#32
  | 12 => 0x46440655#32
  | 13 => 0x46440656#32
  | 14 => 0x46440657#32
  | 15 => 0x46440658#32
  | 16 => 0x46440659#32
  | 17 => 0x4644065A#32
  | 18 => 0x4644065B#32
  | 19 => 0x4644065C#32
  | 20 => 0x4644065D#32
  | 21 => 0x4644065E#32
  | 22 => 0x4644065F#32
  | 23 => 0x46440660#32
  | 24 => 0x46440661#32
  | 25 => 0x46440662#32
  | 26 => 0x46440663#32
  | 27 => 0x46440664#32
  | 28 => 0x46440665#32
  | 29 => 0x46440666#32
  | 30 => 0x46440667#32
  | 31 => 0x46440668#32
  | 32 => 0x46440669#32
  | 33 => 0x4644066A#32
  | 34 => 0x4644066B#32
  | 35 => 0x4644066C#32
  | 36 => 0x4644066D#32
  | 37 => 0x4644066E#32
  | 38 => 0x4644066F#32
  | 39 => 0x46440670#32
  | 40 => 0x46440671#32
  | 41 => 0x46440672#32
  | 42 => 0x46440673#32
  | 43 => 0x46440674#32
  | 44 => 0x46440675#32
  | 45 => 0x46440676#32
  | 46 => 0x46440677#32
  | 47 => 0x46440678#32
  | 48 => 0x46440679#32
  | 49 => 0x4644067A#32
  | 50 => 0x4644067B#32
  | 51 => 0x4644067C#32
  | 52 => 0x4644067D#32
  | 53 => 0x4644067E#32
  | 54 => 0x4644067F#32
  | 55 => 0x46440680#32
  | 56 => 0x46440681#32
  | 57 => 0x46440682#32
  | 58 => 0x46440683#32
  | 59 => 0x46440684#32
  | 60 => 0x46440685#32
  | 61 => 0x46440686#32
  | 62 => 0x46440687#32
  | 63 => 0x46440688#32
  | 64 => 0x46440689#32
  | 65 => 0x4644068A#32
  | 66 => 0x4644068B#32
  | 67 => 0x4644068C#32
  | 68 => 0x4644068D#32
  | 69 => 0x4644068E#32
  | 70 => 0x4644068F#32
  | 71 => 0x46440690#32
  | 72 => 0x46440691#32
  | 73 => 0x46440692#32
  | 74 => 0x46440693#32
  | 75 => 0x46440694#32
  | 76 => 0x46440695#32
  | 77 => 0x46440696#32
  | 78 => 0x46440697#32
  | 79 => 0x46440698#32
  | 80 => 0x46440699#32
  | 81 => 0x4644069A#32
  | 82 => 0x4644069B#32
  | 83 => 0x4644069C#32
  | 84 => 0x4644069D#32
  | 85 => 0x4644069E#32
  | 86 => 0x4644069F#32
  | 87 => 0x464406A0#32
  | 88 => 0x464406A1#32
  | 89 => 0x464406A2#32
  | 90 => 0x464406A3#32
  | 91 => 0x464406A4#32
  | 92 => 0x464406A5#32
  | 93 => 0x464406A6#32
  | 94 => 0x464406A7#32
  | 95 => 0x464406A8#32
  | 96 => 0x464406A9#32
  | 97 => 0x464406AA#32
  | 98 => 0x464406AB#32
  | 99 => 0x464406AC#32
  | 100 => 0x464406AD#32
  | 101 => 0x464406AE#32
  | 102 => 0x464406AF#32
  | 103 => 0x464406B0#32
  | 104 => 0x464406B1#32
  | 105 => 0x464406B2#32
  | 106 => 0x464406B3#32
  | 107 => 0x464406B4#32
  | 108 => 0x464406B5#32
  | 109 => 0x464406B6#32
  | 110 => 0x464406B7#32
  | 111 => 0x464406B8#32
  | 112 => 0x464406B9#32
  | 113 => 0x464406BA#32
  | 114 => 0x464406BB#32
  | 115 => 0x464406BC#32
  | 116 => 0x464406BD#32
  | 117 => 0x464406BE#32
  | 118 => 0x464406BF#32
  | 119 => 0x464406C0#32
  | 120 => 0x464406C1#32
  | 121 => 0x464406C2#32
  | 122 => 0x464406C3#32
  | 123 => 0x464406C4#32
  | 124 => 0x464406C5#32
  | 125 => 0x464406C6#32
  | 126 => 0x464406C7#32
  | 127 => 0x464406C8#32
  | _ => 0#32

noncomputable abbrev lit0t0_30 (i : Nat) : BitVec 32 := match i % 128 with
  | 0 => 0x464406C9#32
  | 1 => 0x464406CA#32
  | 2 => 0x464406CB#32
  | 3 => 0x464406CC#32
  | 4 => 0x464406CD#32
  | 5 => 0x464406CE#32
  | 6 => 0x464406CF#32
  | 7 => 0x464406D0#32
  | 8 => 0x464406D1#32
  | 9 => 0x464406D2#32
  | 10 => 0x464406D3#32
  | 11 => 0x464406D4#32
  | 12 => 0x464406D5#32
  | 13 => 0x464406D6#32
  | 14 => 0x464406D7#32
  | 15 => 0x464406D8#32
  | 16 => 0x464406D9#32
  | 17 => 0x464406DA#32
  | 18 => 0x464406DB#32
  | 19 => 0x464406DC#32
  | 20 => 0x464406DD#32
  | 21 => 0x464406DE#32
  | 22 => 0x464406DF#32
  | 23 => 0x464406E0#32
  | 24 => 0x464406E1#32
  | 25 => 0x464406E2#32
  | 26 => 0x464406E3#32
  | 27 => 0x464406E4#32
  | 28 => 0x464406E5#32
  | 29 => 0x464406E6#32
  | 30 => 0x464406E7#32
  | 31 => 0x464406E8#32
  | 32 => 0x464406E9#32
  | 33 => 0x464406EA#32
  | 34 => 0x464406EB#32
  | 35 => 0x464406EC#32
  | 36 => 0x464406ED#32
  | 37 => 0x464406EE#32
  | 38 => 0x464406EF#32
  | 39 => 0x464406F0#32
  | 40 => 0x464406F1#32
  | 41 => 0x464406F2#32
  | 42 => 0x464406F3#32
  | 43 => 0x464406F4#32
  | 44 => 0x464406F5#32
  | 45 => 0x464406F6#32
  | 46 => 0x464406F7#32
  | 47 => 0x464406F8#32
  | 48 => 0x464406F9#32
  | 49 => 0x464406FA#32
  | 50 => 0x464406FB#32
  | 51 => 0x464406FC#32
  | 52 => 0x464406FD#32
  | 53 => 0x464406FE#32
  | 54 => 0x464406FF#32
  | 55 => 0x46440700#32
  | 56 => 0x46440701#32
  | 57 => 0x46440702#32
  | 58 => 0x46440703#32
  | 59 => 0x46440704#32
  | 60 => 0x46440705#32
  | 61 => 0x46440706#32
  | 62 => 0x46440707#32
  | 63 => 0x46440708#32
  | 64 => 0x46440709#32
  | 65 => 0x4644070A#32
  | 66 => 0x4644070B#32
  | 67 => 0x4644070C#32
  | 68 => 0x4644070D#32
  | 69 => 0x4644070E#32
  | 70 => 0x4644070F#32
  | 71 => 0x46440710#32
  | 72 => 0x46440711#32
  | 73 => 0x46440712#32
  | 74 => 0x46440713#32
  | 75 => 0x46440714#32
  | 76 => 0x46440715#32
  | 77 => 0x46440716#32
  | 78 => 0x46440717#32
  | 79 => 0x46440718#32
  | 80 => 0x46440719#32
  | 81 => 0x4644071A#32
  | 82 => 0x4644071B#32
  | 83 => 0x4644071C#32
  | 84 => 0x4644071D#32
  | 85 => 0x4644071E#32
  | 86 => 0x4644071F#32
  | 87 => 0x46440720#32
  | 88 => 0x46440721#32
  | 89 => 0x46440722#32
  | 90 => 0x46440723#32
  | 91 => 0x46440724#32
  | 92 => 0x46440725#32
  | 93 => 0x46440726#32
  | 94 => 0x46440727#32
  | 95 => 0x46440728#32
  | 96 => 0x46440729#32
  | 97 => 0x4644072A#32
  | 98 => 0x4644072B#32
  | 99 => 0x4644072C#32
  | 100 => 0x4644072D#32
  | 101 => 0x4644072E#32
  | 102 => 0x4644072F#32
  | 103 => 0x46440730#32
  | 104 => 0x46440731#32
  | 105 => 0x46440732#32
  | 106 => 0x46440733#32
  | 107 => 0x46440734#32
  | 108 => 0x46440735#32
  | 109 => 0x46440736#32
  | 110 => 0x46440737#32
  | 111 => 0x46440738#32
  | 112 => 0x46440739#32
  | 113 => 0x4644073A#32
  | 114 => 0x4644073B#32
  | 115 => 0x4644073C#32
  | 116 => 0x4644073D#32
  | 117 => 0x4644073E#32
  | 118 => 0x4644073F#32
  | 119 => 0x46440740#32
  | 120 => 0x46440741#32
  | 121 => 0x46440742#32
  | 122 => 0x46440743#32
  | 123 => 0x46440744#32
  | 124 => 0x46440745#32
  | 125 => 0x46440746#32
  | 126 => 0x46440747#32
  | 127 => 0x46440748#32
  | _ => 0#32

noncomputable abbrev lit0t0_31 (i : Nat) : BitVec 32 := match i % 128 with
  | 0 => 0x46440749#32
  | 1 => 0x4644074A#32
  | 2 => 0x4644074B#32
  | 3 => 0x4644074C#32
  | 4 => 0x4644074D#32
  | 5 => 0x4644074E#32
  | 6 => 0x4644074F#32
  | 7 => 0x46440750#32
  | 8 => 0x46440751#32
  | 9 => 0x46440752#32
  | 10 => 0x46440753#32
  | 11 => 0x46440754#32
  | 12 => 0x46440755#32
  | 13 => 0x46440756#32
  | 14 => 0x46440757#32
  | 15 => 0x46440758#32
  | 16 => 0x46440759#32
  | 17 => 0x4644075A#32
  | 18 => 0x4644075B#32
  | 19 => 0x4644075C#32
  | 20 => 0x4644075D#32
  | 21 => 0x4644075E#32
  | 22 => 0x4644075F#32
  | 23 => 0x46440760#32
  | 24 => 0x46440761#32
  | 25 => 0x46440762#32
  | 26 => 0x46440763#32
  | 27 => 0x46440764#32
  | 28 => 0x46440765#32
  | 29 => 0x46440766#32
  | 30 => 0x46440767#32
  | 31 => 0x46440768#32
  | 32 => 0x46440769#32
  | 33 => 0x4644076A#32
  | 34 => 0x4644076B#32
  | 35 => 0x4644076C#32
  | 36 => 0x4644076D#32
  | 37 => 0x4644076E#32
  | 38 => 0x4644076F#32
  | 39 => 0x46440770#32
  | 40 => 0x46440771#32
  | 41 => 0x46440772#32
  | 42 => 0x46440773#32
  | 43 => 0x46440774#32
  | 44 => 0x46440775#32
  | 45 => 0x46440776#32
  | 46 => 0x46440777#32
  | 47 => 0x46440778#32
  | 48 => 0x46440779#32
  | 49 => 0x4644077A#32
  | 50 => 0x4644077B#32
  | 51 => 0x4644077C#32
  | 52 => 0x4644077D#32
  | 53 => 0x4644077E#32
  | 54 => 0x4644077F#32
  | 55 => 0x46440780#32
  | 56 => 0x46440781#32
  | 57 => 0x46440782#32
  | 58 => 0x46440783#32
  | 59 => 0x46440784#32
  | 60 => 0x46440785#32
  | 61 => 0x46440786#32
  | 62 => 0x46440787#32
  | 63 => 0x46440788#32
  | 64 => 0x46440789#32
  | 65 => 0x4644078A#32
  | 66 => 0x4644078B#32
  | 67 => 0x4644078C#32
  | 68 => 0x4644078D#32
  | 69 => 0x4644078E#32
  | 70 => 0x4644078F#32
  | 71 => 0x46440790#32
  | 72 => 0x46440791#32
  | 73 => 0x46440792#32
  | 74 => 0x46440793#32
  | 75 => 0x46440794#32
  | 76 => 0x46440795#32
  | 77 => 0x46440796#32
  | 78 => 0x46440797#32
  | 79 => 0x46440798#32
  | 80 => 0x46440799#32
  | 81 => 0x4644079A#32
  | 82 => 0x4644079B#32
  | 83 => 0x4644079C#32
  | 84 => 0x4644079D#32
  | 85 => 0x4644079E#32
  | 86 => 0x4644079F#32
  | 87 => 0x464407A0#32
  | 88 => 0x464407A1#32
  | 89 => 0x464407A2#32
  | 90 => 0x464407A3#32
  | 91 => 0x464407A4#32
  | 92 => 0x464407A5#32
  | 93 => 0x464407A6#32
  | 94 => 0x464407A7#32
  | 95 => 0x464407A8#32
  | 96 => 0x464407A9#32
  | 97 => 0x464407AA#32
  | 98 => 0x464407AB#32
  | 99 => 0x464407AC#32
  | 100 => 0x464407AD#32
  | 101 => 0x464407AE#32
  | 102 => 0x464407AF#32
  | 103 => 0x464407B0#32
  | 104 => 0x464407B1#32
  | 105 => 0x464407B2#32
  | 106 => 0x464407B3#32
  | 107 => 0x464407B4#32
  | 108 => 0x464407B5#32
  | 109 => 0x464407B6#32
  | 110 => 0x464407B7#32
  | 111 => 0x464407B8#32
  | 112 => 0x464407B9#32
  | 113 => 0x464407BA#32
  | 114 => 0x464407BB#32
  | 115 => 0x464407BC#32
  | 116 => 0x464407BD#32
  | 117 => 0x464407BE#32
  | 118 => 0x464407BF#32
  | 119 => 0x464407C0#32
  | 120 => 0x464407C1#32
  | 121 => 0x464407C2#32
  | 122 => 0x464407C3#32
  | 123 => 0x464407C4#32
  | 124 => 0x464407C5#32
  | 125 => 0x464407C6#32
  | 126 => 0x464407C7#32
  | 127 => 0x464407C8#32
  | _ => 0#32

noncomputable abbrev lit0t0_32 (i : Nat) : BitVec 32 := match i % 128 with
  | 0 => 0x4743F7E4#32
  | 1 => 0x4743F7E5#32
  | 2 => 0x4743F7E6#32
  | 3 => 0x4743F7E7#32
  | 4 => 0x4743F7E8#32
  | 5 => 0x4743F7E9#32
  | 6 => 0x4743F7EA#32
  | 7 => 0x4743F7EB#32
  | 8 => 0x4743F7EC#32
  | 9 => 0x4743F7ED#32
  | 10 => 0x4743F7EE#32
  | 11 => 0x4743F7EF#32
  | 12 => 0x4743F7F0#32
  | 13 => 0x4743F7F1#32
  | 14 => 0x4743F7F2#32
  | 15 => 0x4743F7F3#32
  | 16 => 0x4743F7F4#32
  | 17 => 0x4743F7F5#32
  | 18 => 0x4743F7F6#32
  | 19 => 0x4743F7F7#32
  | 20 => 0x4743F7F8#32
  | 21 => 0x4743F7F9#32
  | 22 => 0x4743F7FA#32
  | 23 => 0x4743F7FB#32
  | 24 => 0x4743F7FC#32
  | 25 => 0x4743F7FD#32
  | 26 => 0x4743F7FE#32
  | 27 => 0x4743F7FF#32
  | 28 => 0x4743F800#32
  | 29 => 0x4743F801#32
  | 30 => 0x4743F802#32
  | 31 => 0x4743F803#32
  | 32 => 0x4743F804#32
  | 33 => 0x4743F805#32
  | 34 => 0x4743F806#32
  | 35 => 0x4743F807#32
  | 36 => 0x4743F808#32
  | 37 => 0x4743F809#32
  | 38 => 0x4743F80A#32
  | 39 => 0x4743F80B#32
  | 40 => 0x4743F80C#32
  | 41 => 0x4743F80D#32
  | 42 => 0x4743F80E#32
  | 43 => 0x4743F80F#32
  | 44 => 0x4743F810#32
  | 45 => 0x4743F811#32
  | 46 => 0x4743F812#32
  | 47 => 0x4743F813#32
  | 48 => 0x4743F814#32
  | 49 => 0x4743F815#32
  | 50 => 0x4743F816#32
  | 51 => 0x4743F817#32
  | 52 => 0x4743F818#32
  | 53 => 0x4743F819#32
  | 54 => 0x4743F81A#32
  | 55 => 0x4743F81B#32
  | 56 => 0x4743F81C#32
  | 57 => 0x4743F81D#32
  | 58 => 0x4743F81E#32
  | 59 => 0x4743F81F#32
  | 60 => 0x4743F820#32
  | 61 => 0x4743F821#32
  | 62 => 0x4743F822#32
  | 63 => 0x4743F823#32
  | 64 => 0x4743F824#32
  | 65 => 0x4743F825#32
  | 66 => 0x4743F826#32
  | 67 => 0x4743F827#32
  | 68 => 0x4743F828#32
  | 69 => 0x4743F829#32
  | 70 => 0x4743F82A#32
  | 71 => 0x4743F82B#32
  | 72 => 0x4743F82C#32
  | 73 => 0x4743F82D#32
  | 74 => 0x4743F82E#32
  | 75 => 0x4743F82F#32
  | 76 => 0x4743F830#32
  | 77 => 0x4743F831#32
  | 78 => 0x4743F832#32
  | 79 => 0x4743F833#32
  | 80 => 0x4743F834#32
  | 81 => 0x4743F835#32
  | 82 => 0x4743F836#32
  | 83 => 0x4743F837#32
  | 84 => 0x4743F838#32
  | 85 => 0x4743F839#32
  | 86 => 0x4743F83A#32
  | 87 => 0x4743F83B#32
  | 88 => 0x4743F83C#32
  | 89 => 0x4743F83D#32
  | 90 => 0x4743F83E#32
  | 91 => 0x4743F83F#32
  | 92 => 0x4743F840#32
  | 93 => 0x4743F841#32
  | 94 => 0x4743F842#32
  | 95 => 0x4743F843#32
  | 96 => 0x4743F844#32
  | 97 => 0x4743F845#32
  | 98 => 0x4743F846#32
  | 99 => 0x4743F847#32
  | 100 => 0x4743F848#32
  | 101 => 0x4743F849#32
  | 102 => 0x4743F84A#32
  | 103 => 0x4743F84B#32
  | 104 => 0x4743F84C#32
  | 105 => 0x4743F84D#32
  | 106 => 0x4743F84E#32
  | 107 => 0x4743F84F#32
  | 108 => 0x4743F850#32
  | 109 => 0x4743F851#32
  | 110 => 0x4743F852#32
  | 111 => 0x4743F853#32
  | 112 => 0x4743F854#32
  | 113 => 0x4743F855#32
  | 114 => 0x4743F856#32
  | 115 => 0x4743F857#32
  | 116 => 0x4743F858#32
  | 117 => 0x4743F859#32
  | 118 => 0x4743F85A#32
  | 119 => 0x4743F85B#32
  | 120 => 0x4743F85C#32
  | 121 => 0x4743F85D#32
  | 122 => 0x4743F85E#32
  | 123 => 0x4743F85F#32
  | 124 => 0x4743F860#32
  | 125 => 0x4743F861#32
  | 126 => 0x4743F862#32
  | 127 => 0x4743F863#32
  | _ => 0#32

noncomputable abbrev lit0t0_33 (i : Nat) : BitVec 32 := match i % 128 with
  | 0 => 0x4743F864#32
  | 1 => 0x4743F865#32
  | 2 => 0x4743F866#32
  | 3 => 0x4743F867#32
  | 4 => 0x4743F868#32
  | 5 => 0x4743F869#32
  | 6 => 0x4743F86A#32
  | 7 => 0x4743F86B#32
  | 8 => 0x4743F86C#32
  | 9 => 0x4743F86D#32
  | 10 => 0x4743F86E#32
  | 11 => 0x4743F86F#32
  | 12 => 0x4743F870#32
  | 13 => 0x4743F871#32
  | 14 => 0x4743F872#32
  | 15 => 0x4743F873#32
  | 16 => 0x4743F874#32
  | 17 => 0x4743F875#32
  | 18 => 0x4743F876#32
  | 19 => 0x4743F877#32
  | 20 => 0x4743F878#32
  | 21 => 0x4743F879#32
  | 22 => 0x4743F87A#32
  | 23 => 0x4743F87B#32
  | 24 => 0x4743F87C#32
  | 25 => 0x4743F87D#32
  | 26 => 0x4743F87E#32
  | 27 => 0x4743F87F#32
  | 28 => 0x4743F880#32
  | 29 => 0x4743F881#32
  | 30 => 0x4743F882#32
  | 31 => 0x4743F883#32
  | 32 => 0x4743F884#32
  | 33 => 0x4743F885#32
  | 34 => 0x4743F886#32
  | 35 => 0x4743F887#32
  | 36 => 0x4743F888#32
  | 37 => 0x4743F889#32
  | 38 => 0x4743F88A#32
  | 39 => 0x4743F88B#32
  | 40 => 0x4743F88C#32
  | 41 => 0x4743F88D#32
  | 42 => 0x4743F88E#32
  | 43 => 0x4743F88F#32
  | 44 => 0x4743F890#32
  | 45 => 0x4743F891#32
  | 46 => 0x4743F892#32
  | 47 => 0x4743F893#32
  | 48 => 0x4743F894#32
  | 49 => 0x4743F895#32
  | 50 => 0x4743F896#32
  | 51 => 0x4743F897#32
  | 52 => 0x4743F898#32
  | 53 => 0x4743F899#32
  | 54 => 0x4743F89A#32
  | 55 => 0x4743F89B#32
  | 56 => 0x4743F89C#32
  | 57 => 0x4743F89D#32
  | 58 => 0x4743F89E#32
  | 59 => 0x4743F89F#32
  | 60 => 0x4743F8A0#32
  | 61 => 0x4743F8A1#32
  | 62 => 0x4743F8A2#32
  | 63 => 0x4743F8A3#32
  | 64 => 0x4743F8A4#32
  | 65 => 0x4743F8A5#32
  | 66 => 0x4743F8A6#32
  | 67 => 0x4743F8A7#32
  | 68 => 0x4743F8A8#32
  | 69 => 0x4743F8A9#32
  | 70 => 0x4743F8AA#32
  | 71 => 0x4743F8AB#32
  | 72 => 0x4743F8AC#32
  | 73 => 0x4743F8AD#32
  | 74 => 0x4743F8AE#32
  | 75 => 0x4743F8AF#32
  | 76 => 0x4743F8B0#32
  | 77 => 0x4743F8B1#32
  | 78 => 0x4743F8B2#32
  | 79 => 0x4743F8B3#32
  | 80 => 0x4743F8B4#32
  | 81 => 0x4743F8B5#32
  | 82 => 0x4743F8B6#32
  | 83 => 0x4743F8B7#32
  | 84 => 0x4743F8B8#32
  | 85 => 0x4743F8B9#32
  | 86 => 0x4743F8BA#32
  | 87 => 0x4743F8BB#32
  | 88 => 0x4743F8BC#32
  | 89 => 0x4743F8BD#32
  | 90 => 0x4743F8BE#32
  | 91 => 0x4743F8BF#32
  | 92 => 0x4743F8C0#32
  | 93 => 0x4743F8C1#32
  | 94 => 0x4743F8C2#32
  | 95 => 0x4743F8C3#32
  | 96 => 0x4743F8C4#32
  | 97 => 0x4743F8C5#32
  | 98 => 0x4743F8C6#32
  | 99 => 0x4743F8C7#32
  | 100 => 0x4743F8C8#32
  | 101 => 0x4743F8C9#32
  | 102 => 0x4743F8CA#32
  | 103 => 0x4743F8CB#32
  | 104 => 0x4743F8CC#32
  | 105 => 0x4743F8CD#32
  | 106 => 0x4743F8CE#32
  | 107 => 0x4743F8CF#32
  | 108 => 0x4743F8D0#32
  | 109 => 0x4743F8D1#32
  | 110 => 0x4743F8D2#32
  | 111 => 0x4743F8D3#32
  | 112 => 0x4743F8D4#32
  | 113 => 0x4743F8D5#32
  | 114 => 0x4743F8D6#32
  | 115 => 0x4743F8D7#32
  | 116 => 0x4743F8D8#32
  | 117 => 0x4743F8D9#32
  | 118 => 0x4743F8DA#32
  | 119 => 0x4743F8DB#32
  | 120 => 0x4743F8DC#32
  | 121 => 0x4743F8DD#32
  | 122 => 0x4743F8DE#32
  | 123 => 0x4743F8DF#32
  | 124 => 0x4743F8E0#32
  | 125 => 0x4743F8E1#32
  | 126 => 0x4743F8E2#32
  | 127 => 0x4743F8E3#32
  | _ => 0#32

noncomputable abbrev lit0t0_34 (i : Nat) : BitVec 32 := match i % 128 with
  | 0 => 0x4743F8E4#32
  | 1 => 0x4743F8E5#32
  | 2 => 0x4743F8E6#32
  | 3 => 0x4743F8E7#32
  | 4 => 0x4743F8E8#32
  | 5 => 0x4743F8E9#32
  | 6 => 0x4743F8EA#32
  | 7 => 0x4743F8EB#32
  | 8 => 0x4743F8EC#32
  | 9 => 0x4743F8ED#32
  | 10 => 0x4743F8EE#32
  | 11 => 0x4743F8EF#32
  | 12 => 0x4743F8F0#32
  | 13 => 0x4743F8F1#32
  | 14 => 0x4743F8F2#32
  | 15 => 0x4743F8F3#32
  | 16 => 0x4743F8F4#32
  | 17 => 0x4743F8F5#32
  | 18 => 0x4743F8F6#32
  | 19 => 0x4743F8F7#32
  | 20 => 0x4743F8F8#32
  | 21 => 0x4743F8F9#32
  | 22 => 0x4743F8FA#32
  | 23 => 0x4743F8FB#32
  | 24 => 0x4743F8FC#32
  | 25 => 0x4743F8FD#32
  | 26 => 0x4743F8FE#32
  | 27 => 0x4743F8FF#32
  | 28 => 0x4743F900#32
  | 29 => 0x4743F901#32
  | 30 => 0x4743F902#32
  | 31 => 0x4743F903#32
  | 32 => 0x4743F904#32
  | 33 => 0x4743F905#32
  | 34 => 0x4743F906#32
  | 35 => 0x4743F907#32
  | 36 => 0x4743F908#32
  | 37 => 0x4743F909#32
  | 38 => 0x4743F90A#32
  | 39 => 0x4743F90B#32
  | 40 => 0x4743F90C#32
  | 41 => 0x4743F90D#32
  | 42 => 0x4743F90E#32
  | 43 => 0x4743F90F#32
  | 44 => 0x4743F910#32
  | 45 => 0x4743F911#32
  | 46 => 0x4743F912#32
  | 47 => 0x4743F913#32
  | 48 => 0x4743F914#32
  | 49 => 0x4743F915#32
  | 50 => 0x4743F916#32
  | 51 => 0x4743F917#32
  | 52 => 0x4743F918#32
  | 53 => 0x4743F919#32
  | 54 => 0x4743F91A#32
  | 55 => 0x4743F91B#32
  | 56 => 0x4743F91C#32
  | 57 => 0x4743F91D#32
  | 58 => 0x4743F91E#32
  | 59 => 0x4743F91F#32
  | 60 => 0x4743F920#32
  | 61 => 0x4743F921#32
  | 62 => 0x4743F922#32
  | 63 => 0x4743F923#32
  | 64 => 0x4743F924#32
  | 65 => 0x4743F925#32
  | 66 => 0x4743F926#32
  | 67 => 0x4743F927#32
  | 68 => 0x4743F928#32
  | 69 => 0x4743F929#32
  | 70 => 0x4743F92A#32
  | 71 => 0x4743F92B#32
  | 72 => 0x4743F92C#32
  | 73 => 0x4743F92D#32
  | 74 => 0x4743F92E#32
  | 75 => 0x4743F92F#32
  | 76 => 0x4743F930#32
  | 77 => 0x4743F931#32
  | 78 => 0x4743F932#32
  | 79 => 0x4743F933#32
  | 80 => 0x4743F934#32
  | 81 => 0x4743F935#32
  | 82 => 0x4743F936#32
  | 83 => 0x4743F937#32
  | 84 => 0x4743F938#32
  | 85 => 0x4743F939#32
  | 86 => 0x4743F93A#32
  | 87 => 0x4743F93B#32
  | 88 => 0x4743F93C#32
  | 89 => 0x4743F93D#32
  | 90 => 0x4743F93E#32
  | 91 => 0x4743F93F#32
  | 92 => 0x4743F940#32
  | 93 => 0x4743F941#32
  | 94 => 0x4743F942#32
  | 95 => 0x4743F943#32
  | 96 => 0x4743F944#32
  | 97 => 0x4743F945#32
  | 98 => 0x4743F946#32
  | 99 => 0x4743F947#32
  | 100 => 0x4743F948#32
  | 101 => 0x4743F949#32
  | 102 => 0x4743F94A#32
  | 103 => 0x4743F94B#32
  | 104 => 0x4743F94C#32
  | 105 => 0x4743F94D#32
  | 106 => 0x4743F94E#32
  | 107 => 0x4743F94F#32
  | 108 => 0x4743F950#32
  | 109 => 0x4743F951#32
  | 110 => 0x4743F952#32
  | 111 => 0x4743F953#32
  | 112 => 0x4743F954#32
  | 113 => 0x4743F955#32
  | 114 => 0x4743F956#32
  | 115 => 0x4743F957#32
  | 116 => 0x4743F958#32
  | 117 => 0x4743F959#32
  | 118 => 0x4743F95A#32
  | 119 => 0x4743F95B#32
  | 120 => 0x4743F95C#32
  | 121 => 0x4743F95D#32
  | 122 => 0x4743F95E#32
  | 123 => 0x4743F95F#32
  | 124 => 0x4743F960#32
  | 125 => 0x4743F961#32
  | 126 => 0x4743F962#32
  | 127 => 0x4743F963#32
  | _ => 0#32

noncomputable abbrev lit0t0_35 (i : Nat) : BitVec 32 := match i % 128 with
  | 0 => 0x4743F964#32
  | 1 => 0x4743F965#32
  | 2 => 0x4743F966#32
  | 3 => 0x4743F967#32
  | 4 => 0x4743F968#32
  | 5 => 0x4743F969#32
  | 6 => 0x4743F96A#32
  | 7 => 0x4743F96B#32
  | 8 => 0x4743F96C#32
  | 9 => 0x4743F96D#32
  | 10 => 0x4743F96E#32
  | 11 => 0x4743F96F#32
  | 12 => 0x4743F970#32
  | 13 => 0x4743F971#32
  | 14 => 0x4743F972#32
  | 15 => 0x4743F973#32
  | 16 => 0x4743F974#32
  | 17 => 0x4743F975#32
  | 18 => 0x4743F976#32
  | 19 => 0x4743F977#32
  | 20 => 0x4743F978#32
  | 21 => 0x4743F979#32
  | 22 => 0x4743F97A#32
  | 23 => 0x4743F97B#32
  | 24 => 0x4743F97C#32
  | 25 => 0x4743F97D#32
  | 26 => 0x4743F97E#32
  | 27 => 0x4743F97F#32
  | 28 => 0x4743F980#32
  | 29 => 0x4743F981#32
  | 30 => 0x4743F982#32
  | 31 => 0x4743F983#32
  | 32 => 0x4743F984#32
  | 33 => 0x4743F985#32
  | 34 => 0x4743F986#32
  | 35 => 0x4743F987#32
  | 36 => 0x4743F988#32
  | 37 => 0x4743F989#32
  | 38 => 0x4743F98A#32
  | 39 => 0x4743F98B#32
  | 40 => 0x4743F98C#32
  | 41 => 0x4743F98D#32
  | 42 => 0x4743F98E#32
  | 43 => 0x4743F98F#32
  | 44 => 0x4743F990#32
  | 45 => 0x4743F991#32
  | 46 => 0x4743F992#32
  | 47 => 0x4743F993#32
  | 48 => 0x4743F994#32
  | 49 => 0x4743F995#32
  | 50 => 0x4743F996#32
  | 51 => 0x4743F997#32
  | 52 => 0x4743F998#32
  | 53 => 0x4743F999#32
  | 54 => 0x4743F99A#32
  | 55 => 0x4743F99B#32
  | 56 => 0x4743F99C#32
  | 57 => 0x4743F99D#32
  | 58 => 0x4743F99E#32
  | 59 => 0x4743F99F#32
  | 60 => 0x4743F9A0#32
  | 61 => 0x4743F9A1#32
  | 62 => 0x4743F9A2#32
  | 63 => 0x4743F9A3#32
  | 64 => 0x4743F9A4#32
  | 65 => 0x4743F9A5#32
  | 66 => 0x4743F9A6#32
  | 67 => 0x4743F9A7#32
  | 68 => 0x4743F9A8#32
  | 69 => 0x4743F9A9#32
  | 70 => 0x4743F9AA#32
  | 71 => 0x4743F9AB#32
  | 72 => 0x4743F9AC#32
  | 73 => 0x4743F9AD#32
  | 74 => 0x4743F9AE#32
  | 75 => 0x4743F9AF#32
  | 76 => 0x4743F9B0#32
  | 77 => 0x4743F9B1#32
  | 78 => 0x4743F9B2#32
  | 79 => 0x4743F9B3#32
  | 80 => 0x4743F9B4#32
  | 81 => 0x4743F9B5#32
  | 82 => 0x4743F9B6#32
  | 83 => 0x4743F9B7#32
  | 84 => 0x4743F9B8#32
  | 85 => 0x4743F9B9#32
  | 86 => 0x4743F9BA#32
  | 87 => 0x4743F9BB#32
  | 88 => 0x4743F9BC#32
  | 89 => 0x4743F9BD#32
  | 90 => 0x4743F9BE#32
  | 91 => 0x4743F9BF#32
  | 92 => 0x4743F9C0#32
  | 93 => 0x4743F9C1#32
  | 94 => 0x4743F9C2#32
  | 95 => 0x4743F9C3#32
  | 96 => 0x4743F9C4#32
  | 97 => 0x4743F9C5#32
  | 98 => 0x4743F9C6#32
  | 99 => 0x4743F9C7#32
  | 100 => 0x4743F9C8#32
  | 101 => 0x4743F9C9#32
  | 102 => 0x4743F9CA#32
  | 103 => 0x4743F9CB#32
  | 104 => 0x4743F9CC#32
  | 105 => 0x4743F9CD#32
  | 106 => 0x4743F9CE#32
  | 107 => 0x4743F9CF#32
  | 108 => 0x4743F9D0#32
  | 109 => 0x4743F9D1#32
  | 110 => 0x4743F9D2#32
  | 111 => 0x4743F9D3#32
  | 112 => 0x4743F9D4#32
  | 113 => 0x4743F9D5#32
  | 114 => 0x4743F9D6#32
  | 115 => 0x4743F9D7#32
  | 116 => 0x4743F9D8#32
  | 117 => 0x4743F9D9#32
  | 118 => 0x4743F9DA#32
  | 119 => 0x4743F9DB#32
  | 120 => 0x4743F9DC#32
  | 121 => 0x4743F9DD#32
  | 122 => 0x4743F9DE#32
  | 123 => 0x4743F9DF#32
  | 124 => 0x4743F9E0#32
  | 125 => 0x4743F9E1#32
  | 126 => 0x4743F9E2#32
  | 127 => 0x4743F9E3#32
  | _ => 0#32

noncomputable abbrev lit0t0_36 (i : Nat) : BitVec 32 := match i % 128 with
  | 0 => 0x4743F9E4#32
  | 1 => 0x4743F9E5#32
  | 2 => 0x4743F9E6#32
  | 3 => 0x4743F9E7#32
  | 4 => 0x4743F9E8#32
  | 5 => 0x4743F9E9#32
  | 6 => 0x4743F9EA#32
  | 7 => 0x4743F9EB#32
  | 8 => 0x4743F9EC#32
  | 9 => 0x4743F9ED#32
  | 10 => 0x4743F9EE#32
  | 11 => 0x4743F9EF#32
  | 12 => 0x4743F9F0#32
  | 13 => 0x4743F9F1#32
  | 14 => 0x4743F9F2#32
  | 15 => 0x4743F9F3#32
  | 16 => 0x4743F9F4#32
  | 17 => 0x4743F9F5#32
  | 18 => 0x4743F9F6#32
  | 19 => 0x4743F9F7#32
  | 20 => 0x4743F9F8#32
  | 21 => 0x4743F9F9#32
  | 22 => 0x4743F9FA#32
  | 23 => 0x4743F9FB#32
  | 24 => 0x4743F9FC#32
  | 25 => 0x4743F9FD#32
  | 26 => 0x4743F9FE#32
  | 27 => 0x4743F9FF#32
  | 28 => 0x4743FA00#32
  | 29 => 0x4743FA01#32
  | 30 => 0x4743FA02#32
  | 31 => 0x4743FA03#32
  | 32 => 0x4743FA04#32
  | 33 => 0x4743FA05#32
  | 34 => 0x4743FA06#32
  | 35 => 0x4743FA07#32
  | 36 => 0x4743FA08#32
  | 37 => 0x4743FA09#32
  | 38 => 0x4743FA0A#32
  | 39 => 0x4743FA0B#32
  | 40 => 0x4743FA0C#32
  | 41 => 0x4743FA0D#32
  | 42 => 0x4743FA0E#32
  | 43 => 0x4743FA0F#32
  | 44 => 0x4743FA10#32
  | 45 => 0x4743FA11#32
  | 46 => 0x4743FA12#32
  | 47 => 0x4743FA13#32
  | 48 => 0x4743FA14#32
  | 49 => 0x4743FA15#32
  | 50 => 0x4743FA16#32
  | 51 => 0x4743FA17#32
  | 52 => 0x4743FA18#32
  | 53 => 0x4743FA19#32
  | 54 => 0x4743FA1A#32
  | 55 => 0x4743FA1B#32
  | 56 => 0x4743FA1C#32
  | 57 => 0x4743FA1D#32
  | 58 => 0x4743FA1E#32
  | 59 => 0x4743FA1F#32
  | 60 => 0x4743FA20#32
  | 61 => 0x4743FA21#32
  | 62 => 0x4743FA22#32
  | 63 => 0x4743FA23#32
  | 64 => 0x4743FA24#32
  | 65 => 0x4743FA25#32
  | 66 => 0x4743FA26#32
  | 67 => 0x4743FA27#32
  | 68 => 0x4743FA28#32
  | 69 => 0x4743FA29#32
  | 70 => 0x4743FA2A#32
  | 71 => 0x4743FA2B#32
  | 72 => 0x4743FA2C#32
  | 73 => 0x4743FA2D#32
  | 74 => 0x4743FA2E#32
  | 75 => 0x4743FA2F#32
  | 76 => 0x4743FA30#32
  | 77 => 0x4743FA31#32
  | 78 => 0x4743FA32#32
  | 79 => 0x4743FA33#32
  | 80 => 0x4743FA34#32
  | 81 => 0x4743FA35#32
  | 82 => 0x4743FA36#32
  | 83 => 0x4743FA37#32
  | 84 => 0x4743FA38#32
  | 85 => 0x4743FA39#32
  | 86 => 0x4743FA3A#32
  | 87 => 0x4743FA3B#32
  | 88 => 0x4743FA3C#32
  | 89 => 0x4743FA3D#32
  | 90 => 0x4743FA3E#32
  | 91 => 0x4743FA3F#32
  | 92 => 0x4743FA40#32
  | 93 => 0x4743FA41#32
  | 94 => 0x4743FA42#32
  | 95 => 0x4743FA43#32
  | 96 => 0x4743FA44#32
  | 97 => 0x4743FA45#32
  | 98 => 0x4743FA46#32
  | 99 => 0x4743FA47#32
  | 100 => 0x4743FA48#32
  | 101 => 0x4743FA49#32
  | 102 => 0x4743FA4A#32
  | 103 => 0x4743FA4B#32
  | 104 => 0x4743FA4C#32
  | 105 => 0x4743FA4D#32
  | 106 => 0x4743FA4E#32
  | 107 => 0x4743FA4F#32
  | 108 => 0x4743FA50#32
  | 109 => 0x4743FA51#32
  | 110 => 0x4743FA52#32
  | 111 => 0x4743FA53#32
  | 112 => 0x4743FA54#32
  | 113 => 0x4743FA55#32
  | 114 => 0x4743FA56#32
  | 115 => 0x4743FA57#32
  | 116 => 0x4743FA58#32
  | 117 => 0x4743FA59#32
  | 118 => 0x4743FA5A#32
  | 119 => 0x4743FA5B#32
  | 120 => 0x4743FA5C#32
  | 121 => 0x4743FA5D#32
  | 122 => 0x4743FA5E#32
  | 123 => 0x4743FA5F#32
  | 124 => 0x4743FA60#32
  | 125 => 0x4743FA61#32
  | 126 => 0x4743FA62#32
  | 127 => 0x4743FA63#32
  | _ => 0#32

noncomputable abbrev lit0t0_37 (i : Nat) : BitVec 32 := match i % 128 with
  | 0 => 0x4743FA64#32
  | 1 => 0x4743FA65#32
  | 2 => 0x4743FA66#32
  | 3 => 0x4743FA67#32
  | 4 => 0x4743FA68#32
  | 5 => 0x4743FA69#32
  | 6 => 0x4743FA6A#32
  | 7 => 0x4743FA6B#32
  | 8 => 0x4743FA6C#32
  | 9 => 0x4743FA6D#32
  | 10 => 0x4743FA6E#32
  | 11 => 0x4743FA6F#32
  | 12 => 0x4743FA70#32
  | 13 => 0x4743FA71#32
  | 14 => 0x4743FA72#32
  | 15 => 0x4743FA73#32
  | 16 => 0x4743FA74#32
  | 17 => 0x4743FA75#32
  | 18 => 0x4743FA76#32
  | 19 => 0x4743FA77#32
  | 20 => 0x4743FA78#32
  | 21 => 0x4743FA79#32
  | 22 => 0x4743FA7A#32
  | 23 => 0x4743FA7B#32
  | 24 => 0x4743FA7C#32
  | 25 => 0x4743FA7D#32
  | 26 => 0x4743FA7E#32
  | 27 => 0x4743FA7F#32
  | 28 => 0x4743FA80#32
  | 29 => 0x4743FA81#32
  | 30 => 0x4743FA82#32
  | 31 => 0x4743FA83#32
  | 32 => 0x4743FA84#32
  | 33 => 0x4743FA85#32
  | 34 => 0x4743FA86#32
  | 35 => 0x4743FA87#32
  | 36 => 0x4743FA88#32
  | 37 => 0x4743FA89#32
  | 38 => 0x4743FA8A#32
  | 39 => 0x4743FA8B#32
  | 40 => 0x4743FA8C#32
  | 41 => 0x4743FA8D#32
  | 42 => 0x4743FA8E#32
  | 43 => 0x4743FA8F#32
  | 44 => 0x4743FA90#32
  | 45 => 0x4743FA91#32
  | 46 => 0x4743FA92#32
  | 47 => 0x4743FA93#32
  | 48 => 0x4743FA94#32
  | 49 => 0x4743FA95#32
  | 50 => 0x4743FA96#32
  | 51 => 0x4743FA97#32
  | 52 => 0x4743FA98#32
  | 53 => 0x4743FA99#32
  | 54 => 0x4743FA9A#32
  | 55 => 0x4743FA9B#32
  | 56 => 0x4743FA9C#32
  | 57 => 0x4743FA9D#32
  | 58 => 0x4743FA9E#32
  | 59 => 0x4743FA9F#32
  | 60 => 0x4743FAA0#32
  | 61 => 0x4743FAA1#32
  | 62 => 0x4743FAA2#32
  | 63 => 0x4743FAA3#32
  | 64 => 0x4743FAA4#32
  | 65 => 0x4743FAA5#32
  | 66 => 0x4743FAA6#32
  | 67 => 0x4743FAA7#32
  | 68 => 0x4743FAA8#32
  | 69 => 0x4743FAA9#32
  | 70 => 0x4743FAAA#32
  | 71 => 0x4743FAAB#32
  | 72 => 0x4743FAAC#32
  | 73 => 0x4743FAAD#32
  | 74 => 0x4743FAAE#32
  | 75 => 0x4743FAAF#32
  | 76 => 0x4743FAB0#32
  | 77 => 0x4743FAB1#32
  | 78 => 0x4743FAB2#32
  | 79 => 0x4743FAB3#32
  | 80 => 0x4743FAB4#32
  | 81 => 0x4743FAB5#32
  | 82 => 0x4743FAB6#32
  | 83 => 0x4743FAB7#32
  | 84 => 0x4743FAB8#32
  | 85 => 0x4743FAB9#32
  | 86 => 0x4743FABA#32
  | 87 => 0x4743FABB#32
  | 88 => 0x4743FABC#32
  | 89 => 0x4743FABD#32
  | 90 => 0x4743FABE#32
  | 91 => 0x4743FABF#32
  | 92 => 0x4743FAC0#32
  | 93 => 0x4743FAC1#32
  | 94 => 0x4743FAC2#32
  | 95 => 0x4743FAC3#32
  | 96 => 0x4743FAC4#32
  | 97 => 0x4743FAC5#32
  | 98 => 0x4743FAC6#32
  | 99 => 0x4743FAC7#32
  | 100 => 0x4743FAC8#32
  | 101 => 0x4743FAC9#32
  | 102 => 0x4743FACA#32
  | 103 => 0x4743FACB#32
  | 104 => 0x4743FACC#32
  | 105 => 0x4743FACD#32
  | 106 => 0x4743FACE#32
  | 107 => 0x4743FACF#32
  | 108 => 0x4743FAD0#32
  | 109 => 0x4743FAD1#32
  | 110 => 0x4743FAD2#32
  | 111 => 0x4743FAD3#32
  | 112 => 0x4743FAD4#32
  | 113 => 0x4743FAD5#32
  | 114 => 0x4743FAD6#32
  | 115 => 0x4743FAD7#32
  | 116 => 0x4743FAD8#32
  | 117 => 0x4743FAD9#32
  | 118 => 0x4743FADA#32
  | 119 => 0x4743FADB#32
  | 120 => 0x4743FADC#32
  | 121 => 0x4743FADD#32
  | 122 => 0x4743FADE#32
  | 123 => 0x4743FADF#32
  | 124 => 0x4743FAE0#32
  | 125 => 0x4743FAE1#32
  | 126 => 0x4743FAE2#32
  | 127 => 0x4743FAE3#32
  | _ => 0#32

noncomputable abbrev lit0t0_38 (i : Nat) : BitVec 32 := match i % 128 with
  | 0 => 0x4743FAE4#32
  | 1 => 0x4743FAE5#32
  | 2 => 0x4743FAE6#32
  | 3 => 0x4743FAE7#32
  | 4 => 0x4743FAE8#32
  | 5 => 0x4743FAE9#32
  | 6 => 0x4743FAEA#32
  | 7 => 0x4743FAEB#32
  | 8 => 0x4743FAEC#32
  | 9 => 0x4743FAED#32
  | 10 => 0x4743FAEE#32
  | 11 => 0x4743FAEF#32
  | 12 => 0x4743FAF0#32
  | 13 => 0x4743FAF1#32
  | 14 => 0x4743FAF2#32
  | 15 => 0x4743FAF3#32
  | 16 => 0x4743FAF4#32
  | 17 => 0x4743FAF5#32
  | 18 => 0x4743FAF6#32
  | 19 => 0x4743FAF7#32
  | 20 => 0x4743FAF8#32
  | 21 => 0x4743FAF9#32
  | 22 => 0x4743FAFA#32
  | 23 => 0x4743FAFB#32
  | 24 => 0x4743FAFC#32
  | 25 => 0x4743FAFD#32
  | 26 => 0x4743FAFE#32
  | 27 => 0x4743FAFF#32
  | 28 => 0x4743FB00#32
  | 29 => 0x4743FB01#32
  | 30 => 0x4743FB02#32
  | 31 => 0x4743FB03#32
  | 32 => 0x4743FB04#32
  | 33 => 0x4743FB05#32
  | 34 => 0x4743FB06#32
  | 35 => 0x4743FB07#32
  | 36 => 0x4743FB08#32
  | 37 => 0x4743FB09#32
  | 38 => 0x4743FB0A#32
  | 39 => 0x4743FB0B#32
  | 40 => 0x4743FB0C#32
  | 41 => 0x4743FB0D#32
  | 42 => 0x4743FB0E#32
  | 43 => 0x4743FB0F#32
  | 44 => 0x4743FB10#32
  | 45 => 0x4743FB11#32
  | 46 => 0x4743FB12#32
  | 47 => 0x4743FB13#32
  | 48 => 0x4743FB14#32
  | 49 => 0x4743FB15#32
  | 50 => 0x4743FB16#32
  | 51 => 0x4743FB17#32
  | 52 => 0x4743FB18#32
  | 53 => 0x4743FB19#32
  | 54 => 0x4743FB1A#32
  | 55 => 0x4743FB1B#32
  | 56 => 0x4743FB1C#32
  | 57 => 0x4743FB1D#32
  | 58 => 0x4743FB1E#32
  | 59 => 0x4743FB1F#32
  | 60 => 0x4743FB20#32
  | 61 => 0x4743FB21#32
  | 62 => 0x4743FB22#32
  | 63 => 0x4743FB23#32
  | 64 => 0x4743FB24#32
  | 65 => 0x4743FB25#32
  | 66 => 0x4743FB26#32
  | 67 => 0x4743FB27#32
  | 68 => 0x4743FB28#32
  | 69 => 0x4743FB29#32
  | 70 => 0x4743FB2A#32
  | 71 => 0x4743FB2B#32
  | 72 => 0x4743FB2C#32
  | 73 => 0x4743FB2D#32
  | 74 => 0x4743FB2E#32
  | 75 => 0x4743FB2F#32
  | 76 => 0x4743FB30#32
  | 77 => 0x4743FB31#32
  | 78 => 0x4743FB32#32
  | 79 => 0x4743FB33#32
  | 80 => 0x4743FB34#32
  | 81 => 0x4743FB35#32
  | 82 => 0x4743FB36#32
  | 83 => 0x4743FB37#32
  | 84 => 0x4743FB38#32
  | 85 => 0x4743FB39#32
  | 86 => 0x4743FB3A#32
  | 87 => 0x4743FB3B#32
  | 88 => 0x4743FB3C#32
  | 89 => 0x4743FB3D#32
  | 90 => 0x4743FB3E#32
  | 91 => 0x4743FB3F#32
  | 92 => 0x4743FB40#32
  | 93 => 0x4743FB41#32
  | 94 => 0x4743FB42#32
  | 95 => 0x4743FB43#32
  | 96 => 0x4743FB44#32
  | 97 => 0x4743FB45#32
  | 98 => 0x4743FB46#32
  | 99 => 0x4743FB47#32
  | 100 => 0x4743FB48#32
  | 101 => 0x4743FB49#32
  | 102 => 0x4743FB4A#32
  | 103 => 0x4743FB4B#32
  | 104 => 0x4743FB4C#32
  | 105 => 0x4743FB4D#32
  | 106 => 0x4743FB4E#32
  | 107 => 0x4743FB4F#32
  | 108 => 0x4743FB50#32
  | 109 => 0x4743FB51#32
  | 110 => 0x4743FB52#32
  | 111 => 0x4743FB53#32
  | 112 => 0x4743FB54#32
  | 113 => 0x4743FB55#32
  | 114 => 0x4743FB56#32
  | 115 => 0x4743FB57#32
  | 116 => 0x4743FB58#32
  | 117 => 0x4743FB59#32
  | 118 => 0x4743FB5A#32
  | 119 => 0x4743FB5B#32
  | 120 => 0x4743FB5C#32
  | 121 => 0x4743FB5D#32
  | 122 => 0x4743FB5E#32
  | 123 => 0x4743FB5F#32
  | 124 => 0x4743FB60#32
  | 125 => 0x4743FB61#32
  | 126 => 0x4743FB62#32
  | 127 => 0x4743FB63#32
  | _ => 0#32

noncomputable abbrev lit0t0_39 (i : Nat) : BitVec 32 := match i % 128 with
  | 0 => 0x4743FB64#32
  | 1 => 0x4743FB65#32
  | 2 => 0x4743FB66#32
  | 3 => 0x4743FB67#32
  | 4 => 0x4743FB68#32
  | 5 => 0x4743FB69#32
  | 6 => 0x4743FB6A#32
  | 7 => 0x4743FB6B#32
  | 8 => 0x4743FB6C#32
  | 9 => 0x4743FB6D#32
  | 10 => 0x4743FB6E#32
  | 11 => 0x4743FB6F#32
  | 12 => 0x4743FB70#32
  | 13 => 0x4743FB71#32
  | 14 => 0x4743FB72#32
  | 15 => 0x4743FB73#32
  | 16 => 0x4743FB74#32
  | 17 => 0x4743FB75#32
  | 18 => 0x4743FB76#32
  | 19 => 0x4743FB77#32
  | 20 => 0x4743FB78#32
  | 21 => 0x4743FB79#32
  | 22 => 0x4743FB7A#32
  | 23 => 0x4743FB7B#32
  | 24 => 0x4743FB7C#32
  | 25 => 0x4743FB7D#32
  | 26 => 0x4743FB7E#32
  | 27 => 0x4743FB7F#32
  | 28 => 0x4743FB80#32
  | 29 => 0x4743FB81#32
  | 30 => 0x4743FB82#32
  | 31 => 0x4743FB83#32
  | 32 => 0x4743FB84#32
  | 33 => 0x4743FB85#32
  | 34 => 0x4743FB86#32
  | 35 => 0x4743FB87#32
  | 36 => 0x4743FB88#32
  | 37 => 0x4743FB89#32
  | 38 => 0x4743FB8A#32
  | 39 => 0x4743FB8B#32
  | 40 => 0x4743FB8C#32
  | 41 => 0x4743FB8D#32
  | 42 => 0x4743FB8E#32
  | 43 => 0x4743FB8F#32
  | 44 => 0x4743FB90#32
  | 45 => 0x4743FB91#32
  | 46 => 0x4743FB92#32
  | 47 => 0x4743FB93#32
  | 48 => 0x4743FB94#32
  | 49 => 0x4743FB95#32
  | 50 => 0x4743FB96#32
  | 51 => 0x4743FB97#32
  | 52 => 0x4743FB98#32
  | 53 => 0x4743FB99#32
  | 54 => 0x4743FB9A#32
  | 55 => 0x4743FB9B#32
  | 56 => 0x4743FB9C#32
  | 57 => 0x4743FB9D#32
  | 58 => 0x4743FB9E#32
  | 59 => 0x4743FB9F#32
  | 60 => 0x4743FBA0#32
  | 61 => 0x4743FBA1#32
  | 62 => 0x4743FBA2#32
  | 63 => 0x4743FBA3#32
  | 64 => 0x4743FBA4#32
  | 65 => 0x4743FBA5#32
  | 66 => 0x4743FBA6#32
  | 67 => 0x4743FBA7#32
  | 68 => 0x4743FBA8#32
  | 69 => 0x4743FBA9#32
  | 70 => 0x4743FBAA#32
  | 71 => 0x4743FBAB#32
  | 72 => 0x4743FBAC#32
  | 73 => 0x4743FBAD#32
  | 74 => 0x4743FBAE#32
  | 75 => 0x4743FBAF#32
  | 76 => 0x4743FBB0#32
  | 77 => 0x4743FBB1#32
  | 78 => 0x4743FBB2#32
  | 79 => 0x4743FBB3#32
  | 80 => 0x4743FBB4#32
  | 81 => 0x4743FBB5#32
  | 82 => 0x4743FBB6#32
  | 83 => 0x4743FBB7#32
  | 84 => 0x4743FBB8#32
  | 85 => 0x4743FBB9#32
  | 86 => 0x4743FBBA#32
  | 87 => 0x4743FBBB#32
  | 88 => 0x4743FBBC#32
  | 89 => 0x4743FBBD#32
  | 90 => 0x4743FBBE#32
  | 91 => 0x4743FBBF#32
  | 92 => 0x4743FBC0#32
  | 93 => 0x4743FBC1#32
  | 94 => 0x4743FBC2#32
  | 95 => 0x4743FBC3#32
  | 96 => 0x4743FBC4#32
  | 97 => 0x4743FBC5#32
  | 98 => 0x4743FBC6#32
  | 99 => 0x4743FBC7#32
  | 100 => 0x4743FBC8#32
  | 101 => 0x4743FBC9#32
  | 102 => 0x4743FBCA#32
  | 103 => 0x4743FBCB#32
  | 104 => 0x4743FBCC#32
  | 105 => 0x4743FBCD#32
  | 106 => 0x4743FBCE#32
  | 107 => 0x4743FBCF#32
  | 108 => 0x4743FBD0#32
  | 109 => 0x4743FBD1#32
  | 110 => 0x4743FBD2#32
  | 111 => 0x4743FBD3#32
  | 112 => 0x4743FBD4#32
  | 113 => 0x4743FBD5#32
  | 114 => 0x4743FBD6#32
  | 115 => 0x4743FBD7#32
  | 116 => 0x4743FBD8#32
  | 117 => 0x4743FBD9#32
  | 118 => 0x4743FBDA#32
  | 119 => 0x4743FBDB#32
  | 120 => 0x4743FBDC#32
  | 121 => 0x4743FBDD#32
  | 122 => 0x4743FBDE#32
  | 123 => 0x4743FBDF#32
  | 124 => 0x4743FBE0#32
  | 125 => 0x4743FBE1#32
  | 126 => 0x4743FBE2#32
  | 127 => 0x4743FBE3#32
  | _ => 0#32

noncomputable abbrev lit0t0_40 (i : Nat) : BitVec 32 := match i % 128 with
  | 0 => 0x4743FBE4#32
  | 1 => 0x4743FBE5#32
  | 2 => 0x4743FBE6#32
  | 3 => 0x4743FBE7#32
  | 4 => 0x4743FBE8#32
  | 5 => 0x4743FBE9#32
  | 6 => 0x4743FBEA#32
  | 7 => 0x4743FBEB#32
  | 8 => 0x4743FBEC#32
  | 9 => 0x4743FBED#32
  | 10 => 0x4743FBEE#32
  | 11 => 0x4743FBEF#32
  | 12 => 0x4743FBF0#32
  | 13 => 0x4743FBF1#32
  | 14 => 0x4743FBF2#32
  | 15 => 0x4743FBF3#32
  | 16 => 0x4743FBF4#32
  | 17 => 0x4743FBF5#32
  | 18 => 0x4743FBF6#32
  | 19 => 0x4743FBF7#32
  | 20 => 0x4743FBF8#32
  | 21 => 0x4743FBF9#32
  | 22 => 0x4743FBFA#32
  | 23 => 0x4743FBFB#32
  | 24 => 0x4743FBFC#32
  | 25 => 0x4743FBFD#32
  | 26 => 0x4743FBFE#32
  | 27 => 0x4743FBFF#32
  | 28 => 0x4743FC00#32
  | 29 => 0x4743FC01#32
  | 30 => 0x4743FC02#32
  | 31 => 0x4743FC03#32
  | 32 => 0x4743FC04#32
  | 33 => 0x4743FC05#32
  | 34 => 0x4743FC06#32
  | 35 => 0x4743FC07#32
  | 36 => 0x4743FC08#32
  | 37 => 0x4743FC09#32
  | 38 => 0x4743FC0A#32
  | 39 => 0x4743FC0B#32
  | 40 => 0x4743FC0C#32
  | 41 => 0x4743FC0D#32
  | 42 => 0x4743FC0E#32
  | 43 => 0x4743FC0F#32
  | 44 => 0x4743FC10#32
  | 45 => 0x4743FC11#32
  | 46 => 0x4743FC12#32
  | 47 => 0x4743FC13#32
  | 48 => 0x4743FC14#32
  | 49 => 0x4743FC15#32
  | 50 => 0x4743FC16#32
  | 51 => 0x4743FC17#32
  | 52 => 0x4743FC18#32
  | 53 => 0x4743FC19#32
  | 54 => 0x4743FC1A#32
  | 55 => 0x4743FC1B#32
  | 56 => 0x4743FC1C#32
  | 57 => 0x4743FC1D#32
  | 58 => 0x4743FC1E#32
  | 59 => 0x4743FC1F#32
  | 60 => 0x4743FC20#32
  | 61 => 0x4743FC21#32
  | 62 => 0x4743FC22#32
  | 63 => 0x4743FC23#32
  | 64 => 0x4743FC24#32
  | 65 => 0x4743FC25#32
  | 66 => 0x4743FC26#32
  | 67 => 0x4743FC27#32
  | 68 => 0x4743FC28#32
  | 69 => 0x4743FC29#32
  | 70 => 0x4743FC2A#32
  | 71 => 0x4743FC2B#32
  | 72 => 0x4743FC2C#32
  | 73 => 0x4743FC2D#32
  | 74 => 0x4743FC2E#32
  | 75 => 0x4743FC2F#32
  | 76 => 0x4743FC30#32
  | 77 => 0x4743FC31#32
  | 78 => 0x4743FC32#32
  | 79 => 0x4743FC33#32
  | 80 => 0x4743FC34#32
  | 81 => 0x4743FC35#32
  | 82 => 0x4743FC36#32
  | 83 => 0x4743FC37#32
  | 84 => 0x4743FC38#32
  | 85 => 0x4743FC39#32
  | 86 => 0x4743FC3A#32
  | 87 => 0x4743FC3B#32
  | 88 => 0x4743FC3C#32
  | 89 => 0x4743FC3D#32
  | 90 => 0x4743FC3E#32
  | 91 => 0x4743FC3F#32
  | 92 => 0x4743FC40#32
  | 93 => 0x4743FC41#32
  | 94 => 0x4743FC42#32
  | 95 => 0x4743FC43#32
  | 96 => 0x4743FC44#32
  | 97 => 0x4743FC45#32
  | 98 => 0x4743FC46#32
  | 99 => 0x4743FC47#32
  | 100 => 0x4743FC48#32
  | 101 => 0x4743FC49#32
  | 102 => 0x4743FC4A#32
  | 103 => 0x4743FC4B#32
  | 104 => 0x4743FC4C#32
  | 105 => 0x4743FC4D#32
  | 106 => 0x4743FC4E#32
  | 107 => 0x4743FC4F#32
  | 108 => 0x4743FC50#32
  | 109 => 0x4743FC51#32
  | 110 => 0x4743FC52#32
  | 111 => 0x4743FC53#32
  | 112 => 0x4743FC54#32
  | 113 => 0x4743FC55#32
  | 114 => 0x4743FC56#32
  | 115 => 0x4743FC57#32
  | 116 => 0x4743FC58#32
  | 117 => 0x4743FC59#32
  | 118 => 0x4743FC5A#32
  | 119 => 0x4743FC5B#32
  | 120 => 0x4743FC5C#32
  | 121 => 0x4743FC5D#32
  | 122 => 0x4743FC5E#32
  | 123 => 0x4743FC5F#32
  | 124 => 0x4743FC60#32
  | 125 => 0x4743FC61#32
  | 126 => 0x4743FC62#32
  | 127 => 0x4743FC63#32
  | _ => 0#32

noncomputable abbrev lit0t0_41 (i : Nat) : BitVec 32 := match i % 128 with
  | 0 => 0x4743FC64#32
  | 1 => 0x4743FC65#32
  | 2 => 0x4743FC66#32
  | 3 => 0x4743FC67#32
  | 4 => 0x4743FC68#32
  | 5 => 0x4743FC69#32
  | 6 => 0x4743FC6A#32
  | 7 => 0x4743FC6B#32
  | 8 => 0x4743FC6C#32
  | 9 => 0x4743FC6D#32
  | 10 => 0x4743FC6E#32
  | 11 => 0x4743FC6F#32
  | 12 => 0x4743FC70#32
  | 13 => 0x4743FC71#32
  | 14 => 0x4743FC72#32
  | 15 => 0x4743FC73#32
  | 16 => 0x4743FC74#32
  | 17 => 0x4743FC75#32
  | 18 => 0x4743FC76#32
  | 19 => 0x4743FC77#32
  | 20 => 0x4743FC78#32
  | 21 => 0x4743FC79#32
  | 22 => 0x4743FC7A#32
  | 23 => 0x4743FC7B#32
  | 24 => 0x4743FC7C#32
  | 25 => 0x4743FC7D#32
  | 26 => 0x4743FC7E#32
  | 27 => 0x4743FC7F#32
  | 28 => 0x4743FC80#32
  | 29 => 0x4743FC81#32
  | 30 => 0x4743FC82#32
  | 31 => 0x4743FC83#32
  | 32 => 0x4743FC84#32
  | 33 => 0x4743FC85#32
  | 34 => 0x4743FC86#32
  | 35 => 0x4743FC87#32
  | 36 => 0x4743FC88#32
  | 37 => 0x4743FC89#32
  | 38 => 0x4743FC8A#32
  | 39 => 0x4743FC8B#32
  | 40 => 0x4743FC8C#32
  | 41 => 0x4743FC8D#32
  | 42 => 0x4743FC8E#32
  | 43 => 0x4743FC8F#32
  | 44 => 0x4743FC90#32
  | 45 => 0x4743FC91#32
  | 46 => 0x4743FC92#32
  | 47 => 0x4743FC93#32
  | 48 => 0x4743FC94#32
  | 49 => 0x4743FC95#32
  | 50 => 0x4743FC96#32
  | 51 => 0x4743FC97#32
  | 52 => 0x4743FC98#32
  | 53 => 0x4743FC99#32
  | 54 => 0x4743FC9A#32
  | 55 => 0x4743FC9B#32
  | 56 => 0x4743FC9C#32
  | 57 => 0x4743FC9D#32
  | 58 => 0x4743FC9E#32
  | 59 => 0x4743FC9F#32
  | 60 => 0x4743FCA0#32
  | 61 => 0x4743FCA1#32
  | 62 => 0x4743FCA2#32
  | 63 => 0x4743FCA3#32
  | 64 => 0x4743FCA4#32
  | 65 => 0x4743FCA5#32
  | 66 => 0x4743FCA6#32
  | 67 => 0x4743FCA7#32
  | 68 => 0x4743FCA8#32
  | 69 => 0x4743FCA9#32
  | 70 => 0x4743FCAA#32
  | 71 => 0x4743FCAB#32
  | 72 => 0x4743FCAC#32
  | 73 => 0x4743FCAD#32
  | 74 => 0x4743FCAE#32
  | 75 => 0x4743FCAF#32
  | 76 => 0x4743FCB0#32
  | 77 => 0x4743FCB1#32
  | 78 => 0x4743FCB2#32
  | 79 => 0x4743FCB3#32
  | 80 => 0x4743FCB4#32
  | 81 => 0x4743FCB5#32
  | 82 => 0x4743FCB6#32
  | 83 => 0x4743FCB7#32
  | 84 => 0x4743FCB8#32
  | 85 => 0x4743FCB9#32
  | 86 => 0x4743FCBA#32
  | 87 => 0x4743FCBB#32
  | 88 => 0x4743FCBC#32
  | 89 => 0x4743FCBD#32
  | 90 => 0x4743FCBE#32
  | 91 => 0x4743FCBF#32
  | 92 => 0x4743FCC0#32
  | 93 => 0x4743FCC1#32
  | 94 => 0x4743FCC2#32
  | 95 => 0x4743FCC3#32
  | 96 => 0x4743FCC4#32
  | 97 => 0x4743FCC5#32
  | 98 => 0x4743FCC6#32
  | 99 => 0x4743FCC7#32
  | 100 => 0x4743FCC8#32
  | 101 => 0x4743FCC9#32
  | 102 => 0x4743FCCA#32
  | 103 => 0x4743FCCB#32
  | 104 => 0x4743FCCC#32
  | 105 => 0x4743FCCD#32
  | 106 => 0x4743FCCE#32
  | 107 => 0x4743FCCF#32
  | 108 => 0x4743FCD0#32
  | 109 => 0x4743FCD1#32
  | 110 => 0x4743FCD2#32
  | 111 => 0x4743FCD3#32
  | 112 => 0x4743FCD4#32
  | 113 => 0x4743FCD5#32
  | 114 => 0x4743FCD6#32
  | 115 => 0x4743FCD7#32
  | 116 => 0x4743FCD8#32
  | 117 => 0x4743FCD9#32
  | 118 => 0x4743FCDA#32
  | 119 => 0x4743FCDB#32
  | 120 => 0x4743FCDC#32
  | 121 => 0x4743FCDD#32
  | 122 => 0x4743FCDE#32
  | 123 => 0x4743FCDF#32
  | 124 => 0x4743FCE0#32
  | 125 => 0x4743FCE1#32
  | 126 => 0x4743FCE2#32
  | 127 => 0x4743FCE3#32
  | _ => 0#32

noncomputable abbrev lit0t0_42 (i : Nat) : BitVec 32 := match i % 128 with
  | 0 => 0x4743FCE4#32
  | 1 => 0x4743FCE5#32
  | 2 => 0x4743FCE6#32
  | 3 => 0x4743FCE7#32
  | 4 => 0x4743FCE8#32
  | 5 => 0x4743FCE9#32
  | 6 => 0x4743FCEA#32
  | 7 => 0x4743FCEB#32
  | 8 => 0x4743FCEC#32
  | 9 => 0x4743FCED#32
  | 10 => 0x4743FCEE#32
  | 11 => 0x4743FCEF#32
  | 12 => 0x4743FCF0#32
  | 13 => 0x4743FCF1#32
  | 14 => 0x4743FCF2#32
  | 15 => 0x4743FCF3#32
  | 16 => 0x4743FCF4#32
  | 17 => 0x4743FCF5#32
  | 18 => 0x4743FCF6#32
  | 19 => 0x4743FCF7#32
  | 20 => 0x4743FCF8#32
  | 21 => 0x4743FCF9#32
  | 22 => 0x4743FCFA#32
  | 23 => 0x4743FCFB#32
  | 24 => 0x4743FCFC#32
  | 25 => 0x4743FCFD#32
  | 26 => 0x4743FCFE#32
  | 27 => 0x4743FCFF#32
  | 28 => 0x4743FD00#32
  | 29 => 0x4743FD01#32
  | 30 => 0x4743FD02#32
  | 31 => 0x4743FD03#32
  | 32 => 0x4743FD04#32
  | 33 => 0x4743FD05#32
  | 34 => 0x4743FD06#32
  | 35 => 0x4743FD07#32
  | 36 => 0x4743FD08#32
  | 37 => 0x4743FD09#32
  | 38 => 0x4743FD0A#32
  | 39 => 0x4743FD0B#32
  | 40 => 0x4743FD0C#32
  | 41 => 0x4743FD0D#32
  | 42 => 0x4743FD0E#32
  | 43 => 0x4743FD0F#32
  | 44 => 0x4743FD10#32
  | 45 => 0x4743FD11#32
  | 46 => 0x4743FD12#32
  | 47 => 0x4743FD13#32
  | 48 => 0x4743FD14#32
  | 49 => 0x4743FD15#32
  | 50 => 0x4743FD16#32
  | 51 => 0x4743FD17#32
  | 52 => 0x4743FD18#32
  | 53 => 0x4743FD19#32
  | 54 => 0x4743FD1A#32
  | 55 => 0x4743FD1B#32
  | 56 => 0x4743FD1C#32
  | 57 => 0x4743FD1D#32
  | 58 => 0x4743FD1E#32
  | 59 => 0x4743FD1F#32
  | 60 => 0x4743FD20#32
  | 61 => 0x4743FD21#32
  | 62 => 0x4743FD22#32
  | 63 => 0x4743FD23#32
  | 64 => 0x4743FD24#32
  | 65 => 0x4743FD25#32
  | 66 => 0x4743FD26#32
  | 67 => 0x4743FD27#32
  | 68 => 0x4743FD28#32
  | 69 => 0x4743FD29#32
  | 70 => 0x4743FD2A#32
  | 71 => 0x4743FD2B#32
  | 72 => 0x4743FD2C#32
  | 73 => 0x4743FD2D#32
  | 74 => 0x4743FD2E#32
  | 75 => 0x4743FD2F#32
  | 76 => 0x4743FD30#32
  | 77 => 0x4743FD31#32
  | 78 => 0x4743FD32#32
  | 79 => 0x4743FD33#32
  | 80 => 0x4743FD34#32
  | 81 => 0x4743FD35#32
  | 82 => 0x4743FD36#32
  | 83 => 0x4743FD37#32
  | 84 => 0x4743FD38#32
  | 85 => 0x4743FD39#32
  | 86 => 0x4743FD3A#32
  | 87 => 0x4743FD3B#32
  | 88 => 0x4743FD3C#32
  | 89 => 0x4743FD3D#32
  | 90 => 0x4743FD3E#32
  | 91 => 0x4743FD3F#32
  | 92 => 0x4743FD40#32
  | 93 => 0x4743FD41#32
  | 94 => 0x4743FD42#32
  | 95 => 0x4743FD43#32
  | 96 => 0x4743FD44#32
  | 97 => 0x4743FD45#32
  | 98 => 0x4743FD46#32
  | 99 => 0x4743FD47#32
  | 100 => 0x4743FD48#32
  | 101 => 0x4743FD49#32
  | 102 => 0x4743FD4A#32
  | 103 => 0x4743FD4B#32
  | 104 => 0x4743FD4C#32
  | 105 => 0x4743FD4D#32
  | 106 => 0x4743FD4E#32
  | 107 => 0x4743FD4F#32
  | 108 => 0x4743FD50#32
  | 109 => 0x4743FD51#32
  | 110 => 0x4743FD52#32
  | 111 => 0x4743FD53#32
  | 112 => 0x4743FD54#32
  | 113 => 0x4743FD55#32
  | 114 => 0x4743FD56#32
  | 115 => 0x4743FD57#32
  | 116 => 0x4743FD58#32
  | 117 => 0x4743FD59#32
  | 118 => 0x4743FD5A#32
  | 119 => 0x4743FD5B#32
  | 120 => 0x4743FD5C#32
  | 121 => 0x4743FD5D#32
  | 122 => 0x4743FD5E#32
  | 123 => 0x4743FD5F#32
  | 124 => 0x4743FD60#32
  | 125 => 0x4743FD61#32
  | 126 => 0x4743FD62#32
  | 127 => 0x4743FD63#32
  | _ => 0#32

noncomputable abbrev lit0t0_43 (i : Nat) : BitVec 32 := match i % 128 with
  | 0 => 0x4743FD64#32
  | 1 => 0x4743FD65#32
  | 2 => 0x4743FD66#32
  | 3 => 0x4743FD67#32
  | 4 => 0x4743FD68#32
  | 5 => 0x4743FD69#32
  | 6 => 0x4743FD6A#32
  | 7 => 0x4743FD6B#32
  | 8 => 0x4743FD6C#32
  | 9 => 0x4743FD6D#32
  | 10 => 0x4743FD6E#32
  | 11 => 0x4743FD6F#32
  | 12 => 0x4743FD70#32
  | 13 => 0x4743FD71#32
  | 14 => 0x4743FD72#32
  | 15 => 0x4743FD73#32
  | 16 => 0x4743FD74#32
  | 17 => 0x4743FD75#32
  | 18 => 0x4743FD76#32
  | 19 => 0x4743FD77#32
  | 20 => 0x4743FD78#32
  | 21 => 0x4743FD79#32
  | 22 => 0x4743FD7A#32
  | 23 => 0x4743FD7B#32
  | 24 => 0x4743FD7C#32
  | 25 => 0x4743FD7D#32
  | 26 => 0x4743FD7E#32
  | 27 => 0x4743FD7F#32
  | 28 => 0x4743FD80#32
  | 29 => 0x4743FD81#32
  | 30 => 0x4743FD82#32
  | 31 => 0x4743FD83#32
  | 32 => 0x4743FD84#32
  | 33 => 0x4743FD85#32
  | 34 => 0x4743FD86#32
  | 35 => 0x4743FD87#32
  | 36 => 0x4743FD88#32
  | 37 => 0x4743FD89#32
  | 38 => 0x4743FD8A#32
  | 39 => 0x4743FD8B#32
  | 40 => 0x4743FD8C#32
  | 41 => 0x4743FD8D#32
  | 42 => 0x4743FD8E#32
  | 43 => 0x4743FD8F#32
  | 44 => 0x4743FD90#32
  | 45 => 0x4743FD91#32
  | 46 => 0x4743FD92#32
  | 47 => 0x4743FD93#32
  | 48 => 0x4743FD94#32
  | 49 => 0x4743FD95#32
  | 50 => 0x4743FD96#32
  | 51 => 0x4743FD97#32
  | 52 => 0x4743FD98#32
  | 53 => 0x4743FD99#32
  | 54 => 0x4743FD9A#32
  | 55 => 0x4743FD9B#32
  | 56 => 0x4743FD9C#32
  | 57 => 0x4743FD9D#32
  | 58 => 0x4743FD9E#32
  | 59 => 0x4743FD9F#32
  | 60 => 0x4743FDA0#32
  | 61 => 0x4743FDA1#32
  | 62 => 0x4743FDA2#32
  | 63 => 0x4743FDA3#32
  | 64 => 0x4743FDA4#32
  | 65 => 0x4743FDA5#32
  | 66 => 0x4743FDA6#32
  | 67 => 0x4743FDA7#32
  | 68 => 0x4743FDA8#32
  | 69 => 0x4743FDA9#32
  | 70 => 0x4743FDAA#32
  | 71 => 0x4743FDAB#32
  | 72 => 0x4743FDAC#32
  | 73 => 0x4743FDAD#32
  | 74 => 0x4743FDAE#32
  | 75 => 0x4743FDAF#32
  | 76 => 0x4743FDB0#32
  | 77 => 0x4743FDB1#32
  | 78 => 0x4743FDB2#32
  | 79 => 0x4743FDB3#32
  | 80 => 0x4743FDB4#32
  | 81 => 0x4743FDB5#32
  | 82 => 0x4743FDB6#32
  | 83 => 0x4743FDB7#32
  | 84 => 0x4743FDB8#32
  | 85 => 0x4743FDB9#32
  | 86 => 0x4743FDBA#32
  | 87 => 0x4743FDBB#32
  | 88 => 0x4743FDBC#32
  | 89 => 0x4743FDBD#32
  | 90 => 0x4743FDBE#32
  | 91 => 0x4743FDBF#32
  | 92 => 0x4743FDC0#32
  | 93 => 0x4743FDC1#32
  | 94 => 0x4743FDC2#32
  | 95 => 0x4743FDC3#32
  | 96 => 0x4743FDC4#32
  | 97 => 0x4743FDC5#32
  | 98 => 0x4743FDC6#32
  | 99 => 0x4743FDC7#32
  | 100 => 0x4743FDC8#32
  | 101 => 0x4743FDC9#32
  | 102 => 0x4743FDCA#32
  | 103 => 0x4743FDCB#32
  | 104 => 0x4743FDCC#32
  | 105 => 0x4743FDCD#32
  | 106 => 0x4743FDCE#32
  | 107 => 0x4743FDCF#32
  | 108 => 0x4743FDD0#32
  | 109 => 0x4743FDD1#32
  | 110 => 0x4743FDD2#32
  | 111 => 0x4743FDD3#32
  | 112 => 0x4743FDD4#32
  | 113 => 0x4743FDD5#32
  | 114 => 0x4743FDD6#32
  | 115 => 0x4743FDD7#32
  | 116 => 0x4743FDD8#32
  | 117 => 0x4743FDD9#32
  | 118 => 0x4743FDDA#32
  | 119 => 0x4743FDDB#32
  | 120 => 0x4743FDDC#32
  | 121 => 0x4743FDDD#32
  | 122 => 0x4743FDDE#32
  | 123 => 0x4743FDDF#32
  | 124 => 0x4743FDE0#32
  | 125 => 0x4743FDE1#32
  | 126 => 0x4743FDE2#32
  | 127 => 0x4743FDE3#32
  | _ => 0#32

noncomputable abbrev lit0t0_44 (i : Nat) : BitVec 32 := match i % 128 with
  | 0 => 0x4743FDE4#32
  | 1 => 0x4743FDE5#32
  | 2 => 0x4743FDE6#32
  | 3 => 0x4743FDE7#32
  | 4 => 0x4743FDE8#32
  | 5 => 0x4743FDE9#32
  | 6 => 0x4743FDEA#32
  | 7 => 0x4743FDEB#32
  | 8 => 0x4743FDEC#32
  | 9 => 0x4743FDED#32
  | 10 => 0x4743FDEE#32
  | 11 => 0x4743FDEF#32
  | 12 => 0x4743FDF0#32
  | 13 => 0x4743FDF1#32
  | 14 => 0x4743FDF2#32
  | 15 => 0x4743FDF3#32
  | 16 => 0x4743FDF4#32
  | 17 => 0x4743FDF5#32
  | 18 => 0x4743FDF6#32
  | 19 => 0x4743FDF7#32
  | 20 => 0x4743FDF8#32
  | 21 => 0x4743FDF9#32
  | 22 => 0x4743FDFA#32
  | 23 => 0x4743FDFB#32
  | 24 => 0x4743FDFC#32
  | 25 => 0x4743FDFD#32
  | 26 => 0x4743FDFE#32
  | 27 => 0x4743FDFF#32
  | 28 => 0x4743FE00#32
  | 29 => 0x4743FE01#32
  | 30 => 0x4743FE02#32
  | 31 => 0x4743FE03#32
  | 32 => 0x4743FE04#32
  | 33 => 0x4743FE05#32
  | 34 => 0x4743FE06#32
  | 35 => 0x4743FE07#32
  | 36 => 0x4743FE08#32
  | 37 => 0x4743FE09#32
  | 38 => 0x4743FE0A#32
  | 39 => 0x4743FE0B#32
  | 40 => 0x4743FE0C#32
  | 41 => 0x4743FE0D#32
  | 42 => 0x4743FE0E#32
  | 43 => 0x4743FE0F#32
  | 44 => 0x4743FE10#32
  | 45 => 0x4743FE11#32
  | 46 => 0x4743FE12#32
  | 47 => 0x4743FE13#32
  | 48 => 0x4743FE14#32
  | 49 => 0x4743FE15#32
  | 50 => 0x4743FE16#32
  | 51 => 0x4743FE17#32
  | 52 => 0x4743FE18#32
  | 53 => 0x4743FE19#32
  | 54 => 0x4743FE1A#32
  | 55 => 0x4743FE1B#32
  | 56 => 0x4743FE1C#32
  | 57 => 0x4743FE1D#32
  | 58 => 0x4743FE1E#32
  | 59 => 0x4743FE1F#32
  | 60 => 0x4743FE20#32
  | 61 => 0x4743FE21#32
  | 62 => 0x4743FE22#32
  | 63 => 0x4743FE23#32
  | 64 => 0x4743FE24#32
  | 65 => 0x4743FE25#32
  | 66 => 0x4743FE26#32
  | 67 => 0x4743FE27#32
  | 68 => 0x4743FE28#32
  | 69 => 0x4743FE29#32
  | 70 => 0x4743FE2A#32
  | 71 => 0x4743FE2B#32
  | 72 => 0x4743FE2C#32
  | 73 => 0x4743FE2D#32
  | 74 => 0x4743FE2E#32
  | 75 => 0x4743FE2F#32
  | 76 => 0x4743FE30#32
  | 77 => 0x4743FE31#32
  | 78 => 0x4743FE32#32
  | 79 => 0x4743FE33#32
  | 80 => 0x4743FE34#32
  | 81 => 0x4743FE35#32
  | 82 => 0x4743FE36#32
  | 83 => 0x4743FE37#32
  | 84 => 0x4743FE38#32
  | 85 => 0x4743FE39#32
  | 86 => 0x4743FE3A#32
  | 87 => 0x4743FE3B#32
  | 88 => 0x4743FE3C#32
  | 89 => 0x4743FE3D#32
  | 90 => 0x4743FE3E#32
  | 91 => 0x4743FE3F#32
  | 92 => 0x4743FE40#32
  | 93 => 0x4743FE41#32
  | 94 => 0x4743FE42#32
  | 95 => 0x4743FE43#32
  | 96 => 0x4743FE44#32
  | 97 => 0x4743FE45#32
  | 98 => 0x4743FE46#32
  | 99 => 0x4743FE47#32
  | 100 => 0x4743FE48#32
  | 101 => 0x4743FE49#32
  | 102 => 0x4743FE4A#32
  | 103 => 0x4743FE4B#32
  | 104 => 0x4743FE4C#32
  | 105 => 0x4743FE4D#32
  | 106 => 0x4743FE4E#32
  | 107 => 0x4743FE4F#32
  | 108 => 0x4743FE50#32
  | 109 => 0x4743FE51#32
  | 110 => 0x4743FE52#32
  | 111 => 0x4743FE53#32
  | 112 => 0x4743FE54#32
  | 113 => 0x4743FE55#32
  | 114 => 0x4743FE56#32
  | 115 => 0x4743FE57#32
  | 116 => 0x4743FE58#32
  | 117 => 0x4743FE59#32
  | 118 => 0x4743FE5A#32
  | 119 => 0x4743FE5B#32
  | 120 => 0x4743FE5C#32
  | 121 => 0x4743FE5D#32
  | 122 => 0x4743FE5E#32
  | 123 => 0x4743FE5F#32
  | 124 => 0x4743FE60#32
  | 125 => 0x4743FE61#32
  | 126 => 0x4743FE62#32
  | 127 => 0x4743FE63#32
  | _ => 0#32

noncomputable abbrev lit0t0_45 (i : Nat) : BitVec 32 := match i % 128 with
  | 0 => 0x4743FE64#32
  | 1 => 0x4743FE65#32
  | 2 => 0x4743FE66#32
  | 3 => 0x4743FE67#32
  | 4 => 0x4743FE68#32
  | 5 => 0x4743FE69#32
  | 6 => 0x4743FE6A#32
  | 7 => 0x4743FE6B#32
  | 8 => 0x4743FE6C#32
  | 9 => 0x4743FE6D#32
  | 10 => 0x4743FE6E#32
  | 11 => 0x4743FE6F#32
  | 12 => 0x4743FE70#32
  | 13 => 0x4743FE71#32
  | 14 => 0x4743FE72#32
  | 15 => 0x4743FE73#32
  | 16 => 0x4743FE74#32
  | 17 => 0x4743FE75#32
  | 18 => 0x4743FE76#32
  | 19 => 0x4743FE77#32
  | 20 => 0x4743FE78#32
  | 21 => 0x4743FE79#32
  | 22 => 0x4743FE7A#32
  | 23 => 0x4743FE7B#32
  | 24 => 0x4743FE7C#32
  | 25 => 0x4743FE7D#32
  | 26 => 0x4743FE7E#32
  | 27 => 0x4743FE7F#32
  | 28 => 0x4743FE80#32
  | 29 => 0x4743FE81#32
  | 30 => 0x4743FE82#32
  | 31 => 0x4743FE83#32
  | 32 => 0x4743FE84#32
  | 33 => 0x4743FE85#32
  | 34 => 0x4743FE86#32
  | 35 => 0x4743FE87#32
  | 36 => 0x4743FE88#32
  | 37 => 0x4743FE89#32
  | 38 => 0x4743FE8A#32
  | 39 => 0x4743FE8B#32
  | 40 => 0x4743FE8C#32
  | 41 => 0x4743FE8D#32
  | 42 => 0x4743FE8E#32
  | 43 => 0x4743FE8F#32
  | 44 => 0x4743FE90#32
  | 45 => 0x4743FE91#32
  | 46 => 0x4743FE92#32
  | 47 => 0x4743FE93#32
  | 48 => 0x4743FE94#32
  | 49 => 0x4743FE95#32
  | 50 => 0x4743FE96#32
  | 51 => 0x4743FE97#32
  | 52 => 0x4743FE98#32
  | 53 => 0x4743FE99#32
  | 54 => 0x4743FE9A#32
  | 55 => 0x4743FE9B#32
  | 56 => 0x4743FE9C#32
  | 57 => 0x4743FE9D#32
  | 58 => 0x4743FE9E#32
  | 59 => 0x4743FE9F#32
  | 60 => 0x4743FEA0#32
  | 61 => 0x4743FEA1#32
  | 62 => 0x4743FEA2#32
  | 63 => 0x4743FEA3#32
  | 64 => 0x4743FEA4#32
  | 65 => 0x4743FEA5#32
  | 66 => 0x4743FEA6#32
  | 67 => 0x4743FEA7#32
  | 68 => 0x4743FEA8#32
  | 69 => 0x4743FEA9#32
  | 70 => 0x4743FEAA#32
  | 71 => 0x4743FEAB#32
  | 72 => 0x4743FEAC#32
  | 73 => 0x4743FEAD#32
  | 74 => 0x4743FEAE#32
  | 75 => 0x4743FEAF#32
  | 76 => 0x4743FEB0#32
  | 77 => 0x4743FEB1#32
  | 78 => 0x4743FEB2#32
  | 79 => 0x4743FEB3#32
  | 80 => 0x4743FEB4#32
  | 81 => 0x4743FEB5#32
  | 82 => 0x4743FEB6#32
  | 83 => 0x4743FEB7#32
  | 84 => 0x4743FEB8#32
  | 85 => 0x4743FEB9#32
  | 86 => 0x4743FEBA#32
  | 87 => 0x4743FEBB#32
  | 88 => 0x4743FEBC#32
  | 89 => 0x4743FEBD#32
  | 90 => 0x4743FEBE#32
  | 91 => 0x4743FEBF#32
  | 92 => 0x4743FEC0#32
  | 93 => 0x4743FEC1#32
  | 94 => 0x4743FEC2#32
  | 95 => 0x4743FEC3#32
  | 96 => 0x4743FEC4#32
  | 97 => 0x4743FEC5#32
  | 98 => 0x4743FEC6#32
  | 99 => 0x4743FEC7#32
  | 100 => 0x4743FEC8#32
  | 101 => 0x4743FEC9#32
  | 102 => 0x4743FECA#32
  | 103 => 0x4743FECB#32
  | 104 => 0x4743FECC#32
  | 105 => 0x4743FECD#32
  | 106 => 0x4743FECE#32
  | 107 => 0x4743FECF#32
  | 108 => 0x4743FED0#32
  | 109 => 0x4743FED1#32
  | 110 => 0x4743FED2#32
  | 111 => 0x4743FED3#32
  | 112 => 0x4743FED4#32
  | 113 => 0x4743FED5#32
  | 114 => 0x4743FED6#32
  | 115 => 0x4743FED7#32
  | 116 => 0x4743FED8#32
  | 117 => 0x4743FED9#32
  | 118 => 0x4743FEDA#32
  | 119 => 0x4743FEDB#32
  | 120 => 0x4743FEDC#32
  | 121 => 0x4743FEDD#32
  | 122 => 0x4743FEDE#32
  | 123 => 0x4743FEDF#32
  | 124 => 0x4743FEE0#32
  | 125 => 0x4743FEE1#32
  | 126 => 0x4743FEE2#32
  | 127 => 0x4743FEE3#32
  | _ => 0#32

noncomputable abbrev lit0t0_46 (i : Nat) : BitVec 32 := match i % 128 with
  | 0 => 0x4743FEE4#32
  | 1 => 0x4743FEE5#32
  | 2 => 0x4743FEE6#32
  | 3 => 0x4743FEE7#32
  | 4 => 0x4743FEE8#32
  | 5 => 0x4743FEE9#32
  | 6 => 0x4743FEEA#32
  | 7 => 0x4743FEEB#32
  | 8 => 0x4743FEEC#32
  | 9 => 0x4743FEED#32
  | 10 => 0x4743FEEE#32
  | 11 => 0x4743FEEF#32
  | 12 => 0x4743FEF0#32
  | 13 => 0x4743FEF1#32
  | 14 => 0x4743FEF2#32
  | 15 => 0x4743FEF3#32
  | 16 => 0x4743FEF4#32
  | 17 => 0x4743FEF5#32
  | 18 => 0x4743FEF6#32
  | 19 => 0x4743FEF7#32
  | 20 => 0x4743FEF8#32
  | 21 => 0x4743FEF9#32
  | 22 => 0x4743FEFA#32
  | 23 => 0x4743FEFB#32
  | 24 => 0x4743FEFC#32
  | 25 => 0x4743FEFD#32
  | 26 => 0x4743FEFE#32
  | 27 => 0x4743FEFF#32
  | 28 => 0x4743FF00#32
  | 29 => 0x4743FF01#32
  | 30 => 0x4743FF02#32
  | 31 => 0x4743FF03#32
  | 32 => 0x4743FF04#32
  | 33 => 0x4743FF05#32
  | 34 => 0x4743FF06#32
  | 35 => 0x4743FF07#32
  | 36 => 0x4743FF08#32
  | 37 => 0x4743FF09#32
  | 38 => 0x4743FF0A#32
  | 39 => 0x4743FF0B#32
  | 40 => 0x4743FF0C#32
  | 41 => 0x4743FF0D#32
  | 42 => 0x4743FF0E#32
  | 43 => 0x4743FF0F#32
  | 44 => 0x4743FF10#32
  | 45 => 0x4743FF11#32
  | 46 => 0x4743FF12#32
  | 47 => 0x4743FF13#32
  | 48 => 0x4743FF14#32
  | 49 => 0x4743FF15#32
  | 50 => 0x4743FF16#32
  | 51 => 0x4743FF17#32
  | 52 => 0x4743FF18#32
  | 53 => 0x4743FF19#32
  | 54 => 0x4743FF1A#32
  | 55 => 0x4743FF1B#32
  | 56 => 0x4743FF1C#32
  | 57 => 0x4743FF1D#32
  | 58 => 0x4743FF1E#32
  | 59 => 0x4743FF1F#32
  | 60 => 0x4743FF20#32
  | 61 => 0x4743FF21#32
  | 62 => 0x4743FF22#32
  | 63 => 0x4743FF23#32
  | 64 => 0x4743FF24#32
  | 65 => 0x4743FF25#32
  | 66 => 0x4743FF26#32
  | 67 => 0x4743FF27#32
  | 68 => 0x4743FF28#32
  | 69 => 0x4743FF29#32
  | 70 => 0x4743FF2A#32
  | 71 => 0x4743FF2B#32
  | 72 => 0x4743FF2C#32
  | 73 => 0x4743FF2D#32
  | 74 => 0x4743FF2E#32
  | 75 => 0x4743FF2F#32
  | 76 => 0x4743FF30#32
  | 77 => 0x4743FF31#32
  | 78 => 0x4743FF32#32
  | 79 => 0x4743FF33#32
  | 80 => 0x4743FF34#32
  | 81 => 0x4743FF35#32
  | 82 => 0x4743FF36#32
  | 83 => 0x4743FF37#32
  | 84 => 0x4743FF38#32
  | 85 => 0x4743FF39#32
  | 86 => 0x4743FF3A#32
  | 87 => 0x4743FF3B#32
  | 88 => 0x4743FF3C#32
  | 89 => 0x4743FF3D#32
  | 90 => 0x4743FF3E#32
  | 91 => 0x4743FF3F#32
  | 92 => 0x4743FF40#32
  | 93 => 0x4743FF41#32
  | 94 => 0x4743FF42#32
  | 95 => 0x4743FF43#32
  | 96 => 0x4743FF44#32
  | 97 => 0x4743FF45#32
  | 98 => 0x4743FF46#32
  | 99 => 0x4743FF47#32
  | 100 => 0x4743FF48#32
  | 101 => 0x4743FF49#32
  | 102 => 0x4743FF4A#32
  | 103 => 0x4743FF4B#32
  | 104 => 0x4743FF4C#32
  | 105 => 0x4743FF4D#32
  | 106 => 0x4743FF4E#32
  | 107 => 0x4743FF4F#32
  | 108 => 0x4743FF50#32
  | 109 => 0x4743FF51#32
  | 110 => 0x4743FF52#32
  | 111 => 0x4743FF53#32
  | 112 => 0x4743FF54#32
  | 113 => 0x4743FF55#32
  | 114 => 0x4743FF56#32
  | 115 => 0x4743FF57#32
  | 116 => 0x4743FF58#32
  | 117 => 0x4743FF59#32
  | 118 => 0x4743FF5A#32
  | 119 => 0x4743FF5B#32
  | 120 => 0x4743FF5C#32
  | 121 => 0x4743FF5D#32
  | 122 => 0x4743FF5E#32
  | 123 => 0x4743FF5F#32
  | 124 => 0x4743FF60#32
  | 125 => 0x4743FF61#32
  | 126 => 0x4743FF62#32
  | 127 => 0x4743FF63#32
  | _ => 0#32

noncomputable abbrev lit0t0_47 (i : Nat) : BitVec 32 := match i % 128 with
  | 0 => 0x4743FF64#32
  | 1 => 0x4743FF65#32
  | 2 => 0x4743FF66#32
  | 3 => 0x4743FF67#32
  | 4 => 0x4743FF68#32
  | 5 => 0x4743FF69#32
  | 6 => 0x4743FF6A#32
  | 7 => 0x4743FF6B#32
  | 8 => 0x4743FF6C#32
  | 9 => 0x4743FF6D#32
  | 10 => 0x4743FF6E#32
  | 11 => 0x4743FF6F#32
  | 12 => 0x4743FF70#32
  | 13 => 0x4743FF71#32
  | 14 => 0x4743FF72#32
  | 15 => 0x4743FF73#32
  | 16 => 0x4743FF74#32
  | 17 => 0x4743FF75#32
  | 18 => 0x4743FF76#32
  | 19 => 0x4743FF77#32
  | 20 => 0x4743FF78#32
  | 21 => 0x4743FF79#32
  | 22 => 0x4743FF7A#32
  | 23 => 0x4743FF7B#32
  | 24 => 0x4743FF7C#32
  | 25 => 0x4743FF7D#32
  | 26 => 0x4743FF7E#32
  | 27 => 0x4743FF7F#32
  | 28 => 0x4743FF80#32
  | 29 => 0x4743FF81#32
  | 30 => 0x4743FF82#32
  | 31 => 0x4743FF83#32
  | 32 => 0x4743FF84#32
  | 33 => 0x4743FF85#32
  | 34 => 0x4743FF86#32
  | 35 => 0x4743FF87#32
  | 36 => 0x4743FF88#32
  | 37 => 0x4743FF89#32
  | 38 => 0x4743FF8A#32
  | 39 => 0x4743FF8B#32
  | 40 => 0x4743FF8C#32
  | 41 => 0x4743FF8D#32
  | 42 => 0x4743FF8E#32
  | 43 => 0x4743FF8F#32
  | 44 => 0x4743FF90#32
  | 45 => 0x4743FF91#32
  | 46 => 0x4743FF92#32
  | 47 => 0x4743FF93#32
  | 48 => 0x4743FF94#32
  | 49 => 0x4743FF95#32
  | 50 => 0x4743FF96#32
  | 51 => 0x4743FF97#32
  | 52 => 0x4743FF98#32
  | 53 => 0x4743FF99#32
  | 54 => 0x4743FF9A#32
  | 55 => 0x4743FF9B#32
  | 56 => 0x4743FF9C#32
  | 57 => 0x4743FF9D#32
  | 58 => 0x4743FF9E#32
  | 59 => 0x4743FF9F#32
  | 60 => 0x4743FFA0#32
  | 61 => 0x4743FFA1#32
  | 62 => 0x4743FFA2#32
  | 63 => 0x4743FFA3#32
  | 64 => 0x4743FFA4#32
  | 65 => 0x4743FFA5#32
  | 66 => 0x4743FFA6#32
  | 67 => 0x4743FFA7#32
  | 68 => 0x4743FFA8#32
  | 69 => 0x4743FFA9#32
  | 70 => 0x4743FFAA#32
  | 71 => 0x4743FFAB#32
  | 72 => 0x4743FFAC#32
  | 73 => 0x4743FFAD#32
  | 74 => 0x4743FFAE#32
  | 75 => 0x4743FFAF#32
  | 76 => 0x4743FFB0#32
  | 77 => 0x4743FFB1#32
  | 78 => 0x4743FFB2#32
  | 79 => 0x4743FFB3#32
  | 80 => 0x4743FFB4#32
  | 81 => 0x4743FFB5#32
  | 82 => 0x4743FFB6#32
  | 83 => 0x4743FFB7#32
  | 84 => 0x4743FFB8#32
  | 85 => 0x4743FFB9#32
  | 86 => 0x4743FFBA#32
  | 87 => 0x4743FFBB#32
  | 88 => 0x4743FFBC#32
  | 89 => 0x4743FFBD#32
  | 90 => 0x4743FFBE#32
  | 91 => 0x4743FFBF#32
  | 92 => 0x4743FFC0#32
  | 93 => 0x4743FFC1#32
  | 94 => 0x4743FFC2#32
  | 95 => 0x4743FFC3#32
  | 96 => 0x4743FFC4#32
  | 97 => 0x4743FFC5#32
  | 98 => 0x4743FFC6#32
  | 99 => 0x4743FFC7#32
  | 100 => 0x4743FFC8#32
  | 101 => 0x4743FFC9#32
  | 102 => 0x4743FFCA#32
  | 103 => 0x4743FFCB#32
  | 104 => 0x4743FFCC#32
  | 105 => 0x4743FFCD#32
  | 106 => 0x4743FFCE#32
  | 107 => 0x4743FFCF#32
  | 108 => 0x4743FFD0#32
  | 109 => 0x4743FFD1#32
  | 110 => 0x4743FFD2#32
  | 111 => 0x4743FFD3#32
  | 112 => 0x4743FFD4#32
  | 113 => 0x4743FFD5#32
  | 114 => 0x4743FFD6#32
  | 115 => 0x4743FFD7#32
  | 116 => 0x4743FFD8#32
  | 117 => 0x4743FFD9#32
  | 118 => 0x4743FFDA#32
  | 119 => 0x4743FFDB#32
  | 120 => 0x4743FFDC#32
  | 121 => 0x4743FFDD#32
  | 122 => 0x4743FFDE#32
  | 123 => 0x4743FFDF#32
  | 124 => 0x4743FFE0#32
  | 125 => 0x4743FFE1#32
  | 126 => 0x4743FFE2#32
  | 127 => 0x4743FFE3#32
  | _ => 0#32

noncomputable abbrev lit0t0_48 (i : Nat) : BitVec 32 := match i % 128 with
  | 0 => 0x4743FFE4#32
  | 1 => 0x4743FFE5#32
  | 2 => 0x4743FFE6#32
  | 3 => 0x4743FFE7#32
  | 4 => 0x4743FFE8#32
  | 5 => 0x4743FFE9#32
  | 6 => 0x4743FFEA#32
  | 7 => 0x4743FFEB#32
  | 8 => 0x4743FFEC#32
  | 9 => 0x4743FFED#32
  | 10 => 0x4743FFEE#32
  | 11 => 0x4743FFEF#32
  | 12 => 0x4743FFF0#32
  | 13 => 0x4743FFF1#32
  | 14 => 0x4743FFF2#32
  | 15 => 0x4743FFF3#32
  | 16 => 0x4743FFF4#32
  | 17 => 0x4743FFF5#32
  | 18 => 0x4743FFF6#32
  | 19 => 0x4743FFF7#32
  | 20 => 0x4743FFF8#32
  | 21 => 0x4743FFF9#32
  | 22 => 0x4743FFFA#32
  | 23 => 0x4743FFFB#32
  | 24 => 0x4743FFFC#32
  | 25 => 0x4743FFFD#32
  | 26 => 0x4743FFFE#32
  | 27 => 0x4743FFFF#32
  | 28 => 0x47440000#32
  | 29 => 0x47440001#32
  | 30 => 0x47440002#32
  | 31 => 0x47440003#32
  | 32 => 0x47440004#32
  | 33 => 0x47440005#32
  | 34 => 0x47440006#32
  | 35 => 0x47440007#32
  | 36 => 0x47440008#32
  | 37 => 0x47440009#32
  | 38 => 0x4744000A#32
  | 39 => 0x4744000B#32
  | 40 => 0x4744000C#32
  | 41 => 0x4744000D#32
  | 42 => 0x4744000E#32
  | 43 => 0x4744000F#32
  | 44 => 0x47440010#32
  | 45 => 0x47440011#32
  | 46 => 0x47440012#32
  | 47 => 0x47440013#32
  | 48 => 0x47440014#32
  | 49 => 0x47440015#32
  | 50 => 0x47440016#32
  | 51 => 0x47440017#32
  | 52 => 0x47440018#32
  | 53 => 0x47440019#32
  | 54 => 0x4744001A#32
  | 55 => 0x4744001B#32
  | 56 => 0x4744001C#32
  | 57 => 0x4744001D#32
  | 58 => 0x4744001E#32
  | 59 => 0x4744001F#32
  | 60 => 0x47440020#32
  | 61 => 0x47440021#32
  | 62 => 0x47440022#32
  | 63 => 0x47440023#32
  | 64 => 0x47440024#32
  | 65 => 0x47440025#32
  | 66 => 0x47440026#32
  | 67 => 0x47440027#32
  | 68 => 0x47440028#32
  | 69 => 0x47440029#32
  | 70 => 0x4744002A#32
  | 71 => 0x4744002B#32
  | 72 => 0x4744002C#32
  | 73 => 0x4744002D#32
  | 74 => 0x4744002E#32
  | 75 => 0x4744002F#32
  | 76 => 0x47440030#32
  | 77 => 0x47440031#32
  | 78 => 0x47440032#32
  | 79 => 0x47440033#32
  | 80 => 0x47440034#32
  | 81 => 0x47440035#32
  | 82 => 0x47440036#32
  | 83 => 0x47440037#32
  | 84 => 0x47440038#32
  | 85 => 0x47440039#32
  | 86 => 0x4744003A#32
  | 87 => 0x4744003B#32
  | 88 => 0x4744003C#32
  | 89 => 0x4744003D#32
  | 90 => 0x4744003E#32
  | 91 => 0x4744003F#32
  | 92 => 0x47440040#32
  | 93 => 0x47440041#32
  | 94 => 0x47440042#32
  | 95 => 0x47440043#32
  | 96 => 0x47440044#32
  | 97 => 0x47440045#32
  | 98 => 0x47440046#32
  | 99 => 0x47440047#32
  | 100 => 0x47440048#32
  | 101 => 0x47440049#32
  | 102 => 0x4744004A#32
  | 103 => 0x4744004B#32
  | 104 => 0x4744004C#32
  | 105 => 0x4744004D#32
  | 106 => 0x4744004E#32
  | 107 => 0x4744004F#32
  | 108 => 0x47440050#32
  | 109 => 0x47440051#32
  | 110 => 0x47440052#32
  | 111 => 0x47440053#32
  | 112 => 0x47440054#32
  | 113 => 0x47440055#32
  | 114 => 0x47440056#32
  | 115 => 0x47440057#32
  | 116 => 0x47440058#32
  | 117 => 0x47440059#32
  | 118 => 0x4744005A#32
  | 119 => 0x4744005B#32
  | 120 => 0x4744005C#32
  | 121 => 0x4744005D#32
  | 122 => 0x4744005E#32
  | 123 => 0x4744005F#32
  | 124 => 0x47440060#32
  | 125 => 0x47440061#32
  | 126 => 0x47440062#32
  | 127 => 0x47440063#32
  | _ => 0#32

noncomputable abbrev lit0t0_49 (i : Nat) : BitVec 32 := match i % 128 with
  | 0 => 0x47440064#32
  | 1 => 0x47440065#32
  | 2 => 0x47440066#32
  | 3 => 0x47440067#32
  | 4 => 0x47440068#32
  | 5 => 0x47440069#32
  | 6 => 0x4744006A#32
  | 7 => 0x4744006B#32
  | 8 => 0x4744006C#32
  | 9 => 0x4744006D#32
  | 10 => 0x4744006E#32
  | 11 => 0x4744006F#32
  | 12 => 0x47440070#32
  | 13 => 0x47440071#32
  | 14 => 0x47440072#32
  | 15 => 0x47440073#32
  | 16 => 0x47440074#32
  | 17 => 0x47440075#32
  | 18 => 0x47440076#32
  | 19 => 0x47440077#32
  | 20 => 0x47440078#32
  | 21 => 0x47440079#32
  | 22 => 0x4744007A#32
  | 23 => 0x4744007B#32
  | 24 => 0x4744007C#32
  | 25 => 0x4744007D#32
  | 26 => 0x4744007E#32
  | 27 => 0x4744007F#32
  | 28 => 0x47440080#32
  | 29 => 0x47440081#32
  | 30 => 0x47440082#32
  | 31 => 0x47440083#32
  | 32 => 0x47440084#32
  | 33 => 0x47440085#32
  | 34 => 0x47440086#32
  | 35 => 0x47440087#32
  | 36 => 0x47440088#32
  | 37 => 0x47440089#32
  | 38 => 0x4744008A#32
  | 39 => 0x4744008B#32
  | 40 => 0x4744008C#32
  | 41 => 0x4744008D#32
  | 42 => 0x4744008E#32
  | 43 => 0x4744008F#32
  | 44 => 0x47440090#32
  | 45 => 0x47440091#32
  | 46 => 0x47440092#32
  | 47 => 0x47440093#32
  | 48 => 0x47440094#32
  | 49 => 0x47440095#32
  | 50 => 0x47440096#32
  | 51 => 0x47440097#32
  | 52 => 0x47440098#32
  | 53 => 0x47440099#32
  | 54 => 0x4744009A#32
  | 55 => 0x4744009B#32
  | 56 => 0x4744009C#32
  | 57 => 0x4744009D#32
  | 58 => 0x4744009E#32
  | 59 => 0x4744009F#32
  | 60 => 0x474400A0#32
  | 61 => 0x474400A1#32
  | 62 => 0x474400A2#32
  | 63 => 0x474400A3#32
  | 64 => 0x474400A4#32
  | 65 => 0x474400A5#32
  | 66 => 0x474400A6#32
  | 67 => 0x474400A7#32
  | 68 => 0x474400A8#32
  | 69 => 0x474400A9#32
  | 70 => 0x474400AA#32
  | 71 => 0x474400AB#32
  | 72 => 0x474400AC#32
  | 73 => 0x474400AD#32
  | 74 => 0x474400AE#32
  | 75 => 0x474400AF#32
  | 76 => 0x474400B0#32
  | 77 => 0x474400B1#32
  | 78 => 0x474400B2#32
  | 79 => 0x474400B3#32
  | 80 => 0x474400B4#32
  | 81 => 0x474400B5#32
  | 82 => 0x474400B6#32
  | 83 => 0x474400B7#32
  | 84 => 0x474400B8#32
  | 85 => 0x474400B9#32
  | 86 => 0x474400BA#32
  | 87 => 0x474400BB#32
  | 88 => 0x474400BC#32
  | 89 => 0x474400BD#32
  | 90 => 0x474400BE#32
  | 91 => 0x474400BF#32
  | 92 => 0x474400C0#32
  | 93 => 0x474400C1#32
  | 94 => 0x474400C2#32
  | 95 => 0x474400C3#32
  | 96 => 0x474400C4#32
  | 97 => 0x474400C5#32
  | 98 => 0x474400C6#32
  | 99 => 0x474400C7#32
  | 100 => 0x474400C8#32
  | 101 => 0x474400C9#32
  | 102 => 0x474400CA#32
  | 103 => 0x474400CB#32
  | 104 => 0x474400CC#32
  | 105 => 0x474400CD#32
  | 106 => 0x474400CE#32
  | 107 => 0x474400CF#32
  | 108 => 0x474400D0#32
  | 109 => 0x474400D1#32
  | 110 => 0x474400D2#32
  | 111 => 0x474400D3#32
  | 112 => 0x474400D4#32
  | 113 => 0x474400D5#32
  | 114 => 0x474400D6#32
  | 115 => 0x474400D7#32
  | 116 => 0x474400D8#32
  | 117 => 0x474400D9#32
  | 118 => 0x474400DA#32
  | 119 => 0x474400DB#32
  | 120 => 0x474400DC#32
  | 121 => 0x474400DD#32
  | 122 => 0x474400DE#32
  | 123 => 0x474400DF#32
  | 124 => 0x474400E0#32
  | 125 => 0x474400E1#32
  | 126 => 0x474400E2#32
  | 127 => 0x474400E3#32
  | _ => 0#32

noncomputable abbrev lit0t0_50 (i : Nat) : BitVec 32 := match i % 128 with
  | 0 => 0x474400E4#32
  | 1 => 0x474400E5#32
  | 2 => 0x474400E6#32
  | 3 => 0x474400E7#32
  | 4 => 0x474400E8#32
  | 5 => 0x474400E9#32
  | 6 => 0x474400EA#32
  | 7 => 0x474400EB#32
  | 8 => 0x474400EC#32
  | 9 => 0x474400ED#32
  | 10 => 0x474400EE#32
  | 11 => 0x474400EF#32
  | 12 => 0x474400F0#32
  | 13 => 0x474400F1#32
  | 14 => 0x474400F2#32
  | 15 => 0x474400F3#32
  | 16 => 0x474400F4#32
  | 17 => 0x474400F5#32
  | 18 => 0x474400F6#32
  | 19 => 0x474400F7#32
  | 20 => 0x474400F8#32
  | 21 => 0x474400F9#32
  | 22 => 0x474400FA#32
  | 23 => 0x474400FB#32
  | 24 => 0x474400FC#32
  | 25 => 0x474400FD#32
  | 26 => 0x474400FE#32
  | 27 => 0x474400FF#32
  | 28 => 0x47440100#32
  | 29 => 0x47440101#32
  | 30 => 0x47440102#32
  | 31 => 0x47440103#32
  | 32 => 0x47440104#32
  | 33 => 0x47440105#32
  | 34 => 0x47440106#32
  | 35 => 0x47440107#32
  | 36 => 0x47440108#32
  | 37 => 0x47440109#32
  | 38 => 0x4744010A#32
  | 39 => 0x4744010B#32
  | 40 => 0x4744010C#32
  | 41 => 0x4744010D#32
  | 42 => 0x4744010E#32
  | 43 => 0x4744010F#32
  | 44 => 0x47440110#32
  | 45 => 0x47440111#32
  | 46 => 0x47440112#32
  | 47 => 0x47440113#32
  | 48 => 0x47440114#32
  | 49 => 0x47440115#32
  | 50 => 0x47440116#32
  | 51 => 0x47440117#32
  | 52 => 0x47440118#32
  | 53 => 0x47440119#32
  | 54 => 0x4744011A#32
  | 55 => 0x4744011B#32
  | 56 => 0x4744011C#32
  | 57 => 0x4744011D#32
  | 58 => 0x4744011E#32
  | 59 => 0x4744011F#32
  | 60 => 0x47440120#32
  | 61 => 0x47440121#32
  | 62 => 0x47440122#32
  | 63 => 0x47440123#32
  | 64 => 0x47440124#32
  | 65 => 0x47440125#32
  | 66 => 0x47440126#32
  | 67 => 0x47440127#32
  | 68 => 0x47440128#32
  | 69 => 0x47440129#32
  | 70 => 0x4744012A#32
  | 71 => 0x4744012B#32
  | 72 => 0x4744012C#32
  | 73 => 0x4744012D#32
  | 74 => 0x4744012E#32
  | 75 => 0x4744012F#32
  | 76 => 0x47440130#32
  | 77 => 0x47440131#32
  | 78 => 0x47440132#32
  | 79 => 0x47440133#32
  | 80 => 0x47440134#32
  | 81 => 0x47440135#32
  | 82 => 0x47440136#32
  | 83 => 0x47440137#32
  | 84 => 0x47440138#32
  | 85 => 0x47440139#32
  | 86 => 0x4744013A#32
  | 87 => 0x4744013B#32
  | 88 => 0x4744013C#32
  | 89 => 0x4744013D#32
  | 90 => 0x4744013E#32
  | 91 => 0x4744013F#32
  | 92 => 0x47440140#32
  | 93 => 0x47440141#32
  | 94 => 0x47440142#32
  | 95 => 0x47440143#32
  | 96 => 0x47440144#32
  | 97 => 0x47440145#32
  | 98 => 0x47440146#32
  | 99 => 0x47440147#32
  | 100 => 0x47440148#32
  | 101 => 0x47440149#32
  | 102 => 0x4744014A#32
  | 103 => 0x4744014B#32
  | 104 => 0x4744014C#32
  | 105 => 0x4744014D#32
  | 106 => 0x4744014E#32
  | 107 => 0x4744014F#32
  | 108 => 0x47440150#32
  | 109 => 0x47440151#32
  | 110 => 0x47440152#32
  | 111 => 0x47440153#32
  | 112 => 0x47440154#32
  | 113 => 0x47440155#32
  | 114 => 0x47440156#32
  | 115 => 0x47440157#32
  | 116 => 0x47440158#32
  | 117 => 0x47440159#32
  | 118 => 0x4744015A#32
  | 119 => 0x4744015B#32
  | 120 => 0x4744015C#32
  | 121 => 0x4744015D#32
  | 122 => 0x4744015E#32
  | 123 => 0x4744015F#32
  | 124 => 0x47440160#32
  | 125 => 0x47440161#32
  | 126 => 0x47440162#32
  | 127 => 0x47440163#32
  | _ => 0#32

noncomputable abbrev lit0t0_51 (i : Nat) : BitVec 32 := match i % 128 with
  | 0 => 0x47440164#32
  | 1 => 0x47440165#32
  | 2 => 0x47440166#32
  | 3 => 0x47440167#32
  | 4 => 0x47440168#32
  | 5 => 0x47440169#32
  | 6 => 0x4744016A#32
  | 7 => 0x4744016B#32
  | 8 => 0x4744016C#32
  | 9 => 0x4744016D#32
  | 10 => 0x4744016E#32
  | 11 => 0x4744016F#32
  | 12 => 0x47440170#32
  | 13 => 0x47440171#32
  | 14 => 0x47440172#32
  | 15 => 0x47440173#32
  | 16 => 0x47440174#32
  | 17 => 0x47440175#32
  | 18 => 0x47440176#32
  | 19 => 0x47440177#32
  | 20 => 0x47440178#32
  | 21 => 0x47440179#32
  | 22 => 0x4744017A#32
  | 23 => 0x4744017B#32
  | 24 => 0x4744017C#32
  | 25 => 0x4744017D#32
  | 26 => 0x4744017E#32
  | 27 => 0x4744017F#32
  | 28 => 0x47440180#32
  | 29 => 0x47440181#32
  | 30 => 0x47440182#32
  | 31 => 0x47440183#32
  | 32 => 0x47440184#32
  | 33 => 0x47440185#32
  | 34 => 0x47440186#32
  | 35 => 0x47440187#32
  | 36 => 0x47440188#32
  | 37 => 0x47440189#32
  | 38 => 0x4744018A#32
  | 39 => 0x4744018B#32
  | 40 => 0x4744018C#32
  | 41 => 0x4744018D#32
  | 42 => 0x4744018E#32
  | 43 => 0x4744018F#32
  | 44 => 0x47440190#32
  | 45 => 0x47440191#32
  | 46 => 0x47440192#32
  | 47 => 0x47440193#32
  | 48 => 0x47440194#32
  | 49 => 0x47440195#32
  | 50 => 0x47440196#32
  | 51 => 0x47440197#32
  | 52 => 0x47440198#32
  | 53 => 0x47440199#32
  | 54 => 0x4744019A#32
  | 55 => 0x4744019B#32
  | 56 => 0x4744019C#32
  | 57 => 0x4744019D#32
  | 58 => 0x4744019E#32
  | 59 => 0x4744019F#32
  | 60 => 0x474401A0#32
  | 61 => 0x474401A1#32
  | 62 => 0x474401A2#32
  | 63 => 0x474401A3#32
  | 64 => 0x474401A4#32
  | 65 => 0x474401A5#32
  | 66 => 0x474401A6#32
  | 67 => 0x474401A7#32
  | 68 => 0x474401A8#32
  | 69 => 0x474401A9#32
  | 70 => 0x474401AA#32
  | 71 => 0x474401AB#32
  | 72 => 0x474401AC#32
  | 73 => 0x474401AD#32
  | 74 => 0x474401AE#32
  | 75 => 0x474401AF#32
  | 76 => 0x474401B0#32
  | 77 => 0x474401B1#32
  | 78 => 0x474401B2#32
  | 79 => 0x474401B3#32
  | 80 => 0x474401B4#32
  | 81 => 0x474401B5#32
  | 82 => 0x474401B6#32
  | 83 => 0x474401B7#32
  | 84 => 0x474401B8#32
  | 85 => 0x474401B9#32
  | 86 => 0x474401BA#32
  | 87 => 0x474401BB#32
  | 88 => 0x474401BC#32
  | 89 => 0x474401BD#32
  | 90 => 0x474401BE#32
  | 91 => 0x474401BF#32
  | 92 => 0x474401C0#32
  | 93 => 0x474401C1#32
  | 94 => 0x474401C2#32
  | 95 => 0x474401C3#32
  | 96 => 0x474401C4#32
  | 97 => 0x474401C5#32
  | 98 => 0x474401C6#32
  | 99 => 0x474401C7#32
  | 100 => 0x474401C8#32
  | 101 => 0x474401C9#32
  | 102 => 0x474401CA#32
  | 103 => 0x474401CB#32
  | 104 => 0x474401CC#32
  | 105 => 0x474401CD#32
  | 106 => 0x474401CE#32
  | 107 => 0x474401CF#32
  | 108 => 0x474401D0#32
  | 109 => 0x474401D1#32
  | 110 => 0x474401D2#32
  | 111 => 0x474401D3#32
  | 112 => 0x474401D4#32
  | 113 => 0x474401D5#32
  | 114 => 0x474401D6#32
  | 115 => 0x474401D7#32
  | 116 => 0x474401D8#32
  | 117 => 0x474401D9#32
  | 118 => 0x474401DA#32
  | 119 => 0x474401DB#32
  | 120 => 0x474401DC#32
  | 121 => 0x474401DD#32
  | 122 => 0x474401DE#32
  | 123 => 0x474401DF#32
  | 124 => 0x474401E0#32
  | 125 => 0x474401E1#32
  | 126 => 0x474401E2#32
  | 127 => 0x474401E3#32
  | _ => 0#32

noncomputable abbrev lit0t0_52 (i : Nat) : BitVec 32 := match i % 128 with
  | 0 => 0x474401E4#32
  | 1 => 0x474401E5#32
  | 2 => 0x474401E6#32
  | 3 => 0x474401E7#32
  | 4 => 0x474401E8#32
  | 5 => 0x474401E9#32
  | 6 => 0x474401EA#32
  | 7 => 0x474401EB#32
  | 8 => 0x474401EC#32
  | 9 => 0x474401ED#32
  | 10 => 0x474401EE#32
  | 11 => 0x474401EF#32
  | 12 => 0x474401F0#32
  | 13 => 0x474401F1#32
  | 14 => 0x474401F2#32
  | 15 => 0x474401F3#32
  | 16 => 0x474401F4#32
  | 17 => 0x474401F5#32
  | 18 => 0x474401F6#32
  | 19 => 0x474401F7#32
  | 20 => 0x474401F8#32
  | 21 => 0x474401F9#32
  | 22 => 0x474401FA#32
  | 23 => 0x474401FB#32
  | 24 => 0x474401FC#32
  | 25 => 0x474401FD#32
  | 26 => 0x474401FE#32
  | 27 => 0x474401FF#32
  | 28 => 0x47440200#32
  | 29 => 0x47440201#32
  | 30 => 0x47440202#32
  | 31 => 0x47440203#32
  | 32 => 0x47440204#32
  | 33 => 0x47440205#32
  | 34 => 0x47440206#32
  | 35 => 0x47440207#32
  | 36 => 0x47440208#32
  | 37 => 0x47440209#32
  | 38 => 0x4744020A#32
  | 39 => 0x4744020B#32
  | 40 => 0x4744020C#32
  | 41 => 0x4744020D#32
  | 42 => 0x4744020E#32
  | 43 => 0x4744020F#32
  | 44 => 0x47440210#32
  | 45 => 0x47440211#32
  | 46 => 0x47440212#32
  | 47 => 0x47440213#32
  | 48 => 0x47440214#32
  | 49 => 0x47440215#32
  | 50 => 0x47440216#32
  | 51 => 0x47440217#32
  | 52 => 0x47440218#32
  | 53 => 0x47440219#32
  | 54 => 0x4744021A#32
  | 55 => 0x4744021B#32
  | 56 => 0x4744021C#32
  | 57 => 0x4744021D#32
  | 58 => 0x4744021E#32
  | 59 => 0x4744021F#32
  | 60 => 0x47440220#32
  | 61 => 0x47440221#32
  | 62 => 0x47440222#32
  | 63 => 0x47440223#32
  | 64 => 0x47440224#32
  | 65 => 0x47440225#32
  | 66 => 0x47440226#32
  | 67 => 0x47440227#32
  | 68 => 0x47440228#32
  | 69 => 0x47440229#32
  | 70 => 0x4744022A#32
  | 71 => 0x4744022B#32
  | 72 => 0x4744022C#32
  | 73 => 0x4744022D#32
  | 74 => 0x4744022E#32
  | 75 => 0x4744022F#32
  | 76 => 0x47440230#32
  | 77 => 0x47440231#32
  | 78 => 0x47440232#32
  | 79 => 0x47440233#32
  | 80 => 0x47440234#32
  | 81 => 0x47440235#32
  | 82 => 0x47440236#32
  | 83 => 0x47440237#32
  | 84 => 0x47440238#32
  | 85 => 0x47440239#32
  | 86 => 0x4744023A#32
  | 87 => 0x4744023B#32
  | 88 => 0x4744023C#32
  | 89 => 0x4744023D#32
  | 90 => 0x4744023E#32
  | 91 => 0x4744023F#32
  | 92 => 0x47440240#32
  | 93 => 0x47440241#32
  | 94 => 0x47440242#32
  | 95 => 0x47440243#32
  | 96 => 0x47440244#32
  | 97 => 0x47440245#32
  | 98 => 0x47440246#32
  | 99 => 0x47440247#32
  | 100 => 0x47440248#32
  | 101 => 0x47440249#32
  | 102 => 0x4744024A#32
  | 103 => 0x4744024B#32
  | 104 => 0x4744024C#32
  | 105 => 0x4744024D#32
  | 106 => 0x4744024E#32
  | 107 => 0x4744024F#32
  | 108 => 0x47440250#32
  | 109 => 0x47440251#32
  | 110 => 0x47440252#32
  | 111 => 0x47440253#32
  | 112 => 0x47440254#32
  | 113 => 0x47440255#32
  | 114 => 0x47440256#32
  | 115 => 0x47440257#32
  | 116 => 0x47440258#32
  | 117 => 0x47440259#32
  | 118 => 0x4744025A#32
  | 119 => 0x4744025B#32
  | 120 => 0x4744025C#32
  | 121 => 0x4744025D#32
  | 122 => 0x4744025E#32
  | 123 => 0x4744025F#32
  | 124 => 0x47440260#32
  | 125 => 0x47440261#32
  | 126 => 0x47440262#32
  | 127 => 0x47440263#32
  | _ => 0#32

noncomputable abbrev lit0t0_53 (i : Nat) : BitVec 32 := match i % 128 with
  | 0 => 0x47440264#32
  | 1 => 0x47440265#32
  | 2 => 0x47440266#32
  | 3 => 0x47440267#32
  | 4 => 0x47440268#32
  | 5 => 0x47440269#32
  | 6 => 0x4744026A#32
  | 7 => 0x4744026B#32
  | 8 => 0x4744026C#32
  | 9 => 0x4744026D#32
  | 10 => 0x4744026E#32
  | 11 => 0x4744026F#32
  | 12 => 0x47440270#32
  | 13 => 0x47440271#32
  | 14 => 0x47440272#32
  | 15 => 0x47440273#32
  | 16 => 0x47440274#32
  | 17 => 0x47440275#32
  | 18 => 0x47440276#32
  | 19 => 0x47440277#32
  | 20 => 0x47440278#32
  | 21 => 0x47440279#32
  | 22 => 0x4744027A#32
  | 23 => 0x4744027B#32
  | 24 => 0x4744027C#32
  | 25 => 0x4744027D#32
  | 26 => 0x4744027E#32
  | 27 => 0x4744027F#32
  | 28 => 0x47440280#32
  | 29 => 0x47440281#32
  | 30 => 0x47440282#32
  | 31 => 0x47440283#32
  | 32 => 0x47440284#32
  | 33 => 0x47440285#32
  | 34 => 0x47440286#32
  | 35 => 0x47440287#32
  | 36 => 0x47440288#32
  | 37 => 0x47440289#32
  | 38 => 0x4744028A#32
  | 39 => 0x4744028B#32
  | 40 => 0x4744028C#32
  | 41 => 0x4744028D#32
  | 42 => 0x4744028E#32
  | 43 => 0x4744028F#32
  | 44 => 0x47440290#32
  | 45 => 0x47440291#32
  | 46 => 0x47440292#32
  | 47 => 0x47440293#32
  | 48 => 0x47440294#32
  | 49 => 0x47440295#32
  | 50 => 0x47440296#32
  | 51 => 0x47440297#32
  | 52 => 0x47440298#32
  | 53 => 0x47440299#32
  | 54 => 0x4744029A#32
  | 55 => 0x4744029B#32
  | 56 => 0x4744029C#32
  | 57 => 0x4744029D#32
  | 58 => 0x4744029E#32
  | 59 => 0x4744029F#32
  | 60 => 0x474402A0#32
  | 61 => 0x474402A1#32
  | 62 => 0x474402A2#32
  | 63 => 0x474402A3#32
  | 64 => 0x474402A4#32
  | 65 => 0x474402A5#32
  | 66 => 0x474402A6#32
  | 67 => 0x474402A7#32
  | 68 => 0x474402A8#32
  | 69 => 0x474402A9#32
  | 70 => 0x474402AA#32
  | 71 => 0x474402AB#32
  | 72 => 0x474402AC#32
  | 73 => 0x474402AD#32
  | 74 => 0x474402AE#32
  | 75 => 0x474402AF#32
  | 76 => 0x474402B0#32
  | 77 => 0x474402B1#32
  | 78 => 0x474402B2#32
  | 79 => 0x474402B3#32
  | 80 => 0x474402B4#32
  | 81 => 0x474402B5#32
  | 82 => 0x474402B6#32
  | 83 => 0x474402B7#32
  | 84 => 0x474402B8#32
  | 85 => 0x474402B9#32
  | 86 => 0x474402BA#32
  | 87 => 0x474402BB#32
  | 88 => 0x474402BC#32
  | 89 => 0x474402BD#32
  | 90 => 0x474402BE#32
  | 91 => 0x474402BF#32
  | 92 => 0x474402C0#32
  | 93 => 0x474402C1#32
  | 94 => 0x474402C2#32
  | 95 => 0x474402C3#32
  | 96 => 0x474402C4#32
  | 97 => 0x474402C5#32
  | 98 => 0x474402C6#32
  | 99 => 0x474402C7#32
  | 100 => 0x474402C8#32
  | 101 => 0x474402C9#32
  | 102 => 0x474402CA#32
  | 103 => 0x474402CB#32
  | 104 => 0x474402CC#32
  | 105 => 0x474402CD#32
  | 106 => 0x474402CE#32
  | 107 => 0x474402CF#32
  | 108 => 0x474402D0#32
  | 109 => 0x474402D1#32
  | 110 => 0x474402D2#32
  | 111 => 0x474402D3#32
  | 112 => 0x474402D4#32
  | 113 => 0x474402D5#32
  | 114 => 0x474402D6#32
  | 115 => 0x474402D7#32
  | 116 => 0x474402D8#32
  | 117 => 0x474402D9#32
  | 118 => 0x474402DA#32
  | 119 => 0x474402DB#32
  | 120 => 0x474402DC#32
  | 121 => 0x474402DD#32
  | 122 => 0x474402DE#32
  | 123 => 0x474402DF#32
  | 124 => 0x474402E0#32
  | 125 => 0x474402E1#32
  | 126 => 0x474402E2#32
  | 127 => 0x474402E3#32
  | _ => 0#32

noncomputable abbrev lit0t0_54 (i : Nat) : BitVec 32 := match i % 128 with
  | 0 => 0x474402E4#32
  | 1 => 0x474402E5#32
  | 2 => 0x474402E6#32
  | 3 => 0x474402E7#32
  | 4 => 0x474402E8#32
  | 5 => 0x474402E9#32
  | 6 => 0x474402EA#32
  | 7 => 0x474402EB#32
  | 8 => 0x474402EC#32
  | 9 => 0x474402ED#32
  | 10 => 0x474402EE#32
  | 11 => 0x474402EF#32
  | 12 => 0x474402F0#32
  | 13 => 0x474402F1#32
  | 14 => 0x474402F2#32
  | 15 => 0x474402F3#32
  | 16 => 0x474402F4#32
  | 17 => 0x474402F5#32
  | 18 => 0x474402F6#32
  | 19 => 0x474402F7#32
  | 20 => 0x474402F8#32
  | 21 => 0x474402F9#32
  | 22 => 0x474402FA#32
  | 23 => 0x474402FB#32
  | 24 => 0x474402FC#32
  | 25 => 0x474402FD#32
  | 26 => 0x474402FE#32
  | 27 => 0x474402FF#32
  | 28 => 0x47440300#32
  | 29 => 0x47440301#32
  | 30 => 0x47440302#32
  | 31 => 0x47440303#32
  | 32 => 0x47440304#32
  | 33 => 0x47440305#32
  | 34 => 0x47440306#32
  | 35 => 0x47440307#32
  | 36 => 0x47440308#32
  | 37 => 0x47440309#32
  | 38 => 0x4744030A#32
  | 39 => 0x4744030B#32
  | 40 => 0x4744030C#32
  | 41 => 0x4744030D#32
  | 42 => 0x4744030E#32
  | 43 => 0x4744030F#32
  | 44 => 0x47440310#32
  | 45 => 0x47440311#32
  | 46 => 0x47440312#32
  | 47 => 0x47440313#32
  | 48 => 0x47440314#32
  | 49 => 0x47440315#32
  | 50 => 0x47440316#32
  | 51 => 0x47440317#32
  | 52 => 0x47440318#32
  | 53 => 0x47440319#32
  | 54 => 0x4744031A#32
  | 55 => 0x4744031B#32
  | 56 => 0x4744031C#32
  | 57 => 0x4744031D#32
  | 58 => 0x4744031E#32
  | 59 => 0x4744031F#32
  | 60 => 0x47440320#32
  | 61 => 0x47440321#32
  | 62 => 0x47440322#32
  | 63 => 0x47440323#32
  | 64 => 0x47440324#32
  | 65 => 0x47440325#32
  | 66 => 0x47440326#32
  | 67 => 0x47440327#32
  | 68 => 0x47440328#32
  | 69 => 0x47440329#32
  | 70 => 0x4744032A#32
  | 71 => 0x4744032B#32
  | 72 => 0x4744032C#32
  | 73 => 0x4744032D#32
  | 74 => 0x4744032E#32
  | 75 => 0x4744032F#32
  | 76 => 0x47440330#32
  | 77 => 0x47440331#32
  | 78 => 0x47440332#32
  | 79 => 0x47440333#32
  | 80 => 0x47440334#32
  | 81 => 0x47440335#32
  | 82 => 0x47440336#32
  | 83 => 0x47440337#32
  | 84 => 0x47440338#32
  | 85 => 0x47440339#32
  | 86 => 0x4744033A#32
  | 87 => 0x4744033B#32
  | 88 => 0x4744033C#32
  | 89 => 0x4744033D#32
  | 90 => 0x4744033E#32
  | 91 => 0x4744033F#32
  | 92 => 0x47440340#32
  | 93 => 0x47440341#32
  | 94 => 0x47440342#32
  | 95 => 0x47440343#32
  | 96 => 0x47440344#32
  | 97 => 0x47440345#32
  | 98 => 0x47440346#32
  | 99 => 0x47440347#32
  | 100 => 0x47440348#32
  | 101 => 0x47440349#32
  | 102 => 0x4744034A#32
  | 103 => 0x4744034B#32
  | 104 => 0x4744034C#32
  | 105 => 0x4744034D#32
  | 106 => 0x4744034E#32
  | 107 => 0x4744034F#32
  | 108 => 0x47440350#32
  | 109 => 0x47440351#32
  | 110 => 0x47440352#32
  | 111 => 0x47440353#32
  | 112 => 0x47440354#32
  | 113 => 0x47440355#32
  | 114 => 0x47440356#32
  | 115 => 0x47440357#32
  | 116 => 0x47440358#32
  | 117 => 0x47440359#32
  | 118 => 0x4744035A#32
  | 119 => 0x4744035B#32
  | 120 => 0x4744035C#32
  | 121 => 0x4744035D#32
  | 122 => 0x4744035E#32
  | 123 => 0x4744035F#32
  | 124 => 0x47440360#32
  | 125 => 0x47440361#32
  | 126 => 0x47440362#32
  | 127 => 0x47440363#32
  | _ => 0#32

noncomputable abbrev lit0t0_55 (i : Nat) : BitVec 32 := match i % 128 with
  | 0 => 0x47440364#32
  | 1 => 0x47440365#32
  | 2 => 0x47440366#32
  | 3 => 0x47440367#32
  | 4 => 0x47440368#32
  | 5 => 0x47440369#32
  | 6 => 0x4744036A#32
  | 7 => 0x4744036B#32
  | 8 => 0x4744036C#32
  | 9 => 0x4744036D#32
  | 10 => 0x4744036E#32
  | 11 => 0x4744036F#32
  | 12 => 0x47440370#32
  | 13 => 0x47440371#32
  | 14 => 0x47440372#32
  | 15 => 0x47440373#32
  | 16 => 0x47440374#32
  | 17 => 0x47440375#32
  | 18 => 0x47440376#32
  | 19 => 0x47440377#32
  | 20 => 0x47440378#32
  | 21 => 0x47440379#32
  | 22 => 0x4744037A#32
  | 23 => 0x4744037B#32
  | 24 => 0x4744037C#32
  | 25 => 0x4744037D#32
  | 26 => 0x4744037E#32
  | 27 => 0x4744037F#32
  | 28 => 0x47440380#32
  | 29 => 0x47440381#32
  | 30 => 0x47440382#32
  | 31 => 0x47440383#32
  | 32 => 0x47440384#32
  | 33 => 0x47440385#32
  | 34 => 0x47440386#32
  | 35 => 0x47440387#32
  | 36 => 0x47440388#32
  | 37 => 0x47440389#32
  | 38 => 0x4744038A#32
  | 39 => 0x4744038B#32
  | 40 => 0x4744038C#32
  | 41 => 0x4744038D#32
  | 42 => 0x4744038E#32
  | 43 => 0x4744038F#32
  | 44 => 0x47440390#32
  | 45 => 0x47440391#32
  | 46 => 0x47440392#32
  | 47 => 0x47440393#32
  | 48 => 0x47440394#32
  | 49 => 0x47440395#32
  | 50 => 0x47440396#32
  | 51 => 0x47440397#32
  | 52 => 0x47440398#32
  | 53 => 0x47440399#32
  | 54 => 0x4744039A#32
  | 55 => 0x4744039B#32
  | 56 => 0x4744039C#32
  | 57 => 0x4744039D#32
  | 58 => 0x4744039E#32
  | 59 => 0x4744039F#32
  | 60 => 0x474403A0#32
  | 61 => 0x474403A1#32
  | 62 => 0x474403A2#32
  | 63 => 0x474403A3#32
  | 64 => 0x474403A4#32
  | 65 => 0x474403A5#32
  | 66 => 0x474403A6#32
  | 67 => 0x474403A7#32
  | 68 => 0x474403A8#32
  | 69 => 0x474403A9#32
  | 70 => 0x474403AA#32
  | 71 => 0x474403AB#32
  | 72 => 0x474403AC#32
  | 73 => 0x474403AD#32
  | 74 => 0x474403AE#32
  | 75 => 0x474403AF#32
  | 76 => 0x474403B0#32
  | 77 => 0x474403B1#32
  | 78 => 0x474403B2#32
  | 79 => 0x474403B3#32
  | 80 => 0x474403B4#32
  | 81 => 0x474403B5#32
  | 82 => 0x474403B6#32
  | 83 => 0x474403B7#32
  | 84 => 0x474403B8#32
  | 85 => 0x474403B9#32
  | 86 => 0x474403BA#32
  | 87 => 0x474403BB#32
  | 88 => 0x474403BC#32
  | 89 => 0x474403BD#32
  | 90 => 0x474403BE#32
  | 91 => 0x474403BF#32
  | 92 => 0x474403C0#32
  | 93 => 0x474403C1#32
  | 94 => 0x474403C2#32
  | 95 => 0x474403C3#32
  | 96 => 0x474403C4#32
  | 97 => 0x474403C5#32
  | 98 => 0x474403C6#32
  | 99 => 0x474403C7#32
  | 100 => 0x474403C8#32
  | 101 => 0x474403C9#32
  | 102 => 0x474403CA#32
  | 103 => 0x474403CB#32
  | 104 => 0x474403CC#32
  | 105 => 0x474403CD#32
  | 106 => 0x474403CE#32
  | 107 => 0x474403CF#32
  | 108 => 0x474403D0#32
  | 109 => 0x474403D1#32
  | 110 => 0x474403D2#32
  | 111 => 0x474403D3#32
  | 112 => 0x474403D4#32
  | 113 => 0x474403D5#32
  | 114 => 0x474403D6#32
  | 115 => 0x474403D7#32
  | 116 => 0x474403D8#32
  | 117 => 0x474403D9#32
  | 118 => 0x474403DA#32
  | 119 => 0x474403DB#32
  | 120 => 0x474403DC#32
  | 121 => 0x474403DD#32
  | 122 => 0x474403DE#32
  | 123 => 0x474403DF#32
  | 124 => 0x474403E0#32
  | 125 => 0x474403E1#32
  | 126 => 0x474403E2#32
  | 127 => 0x474403E3#32
  | _ => 0#32

noncomputable abbrev lit0t0_56 (i : Nat) : BitVec 32 := match i % 128 with
  | 0 => 0x474403E4#32
  | 1 => 0x474403E5#32
  | 2 => 0x474403E6#32
  | 3 => 0x474403E7#32
  | 4 => 0x474403E8#32
  | 5 => 0x474403E9#32
  | 6 => 0x474403EA#32
  | 7 => 0x474403EB#32
  | 8 => 0x474403EC#32
  | 9 => 0x474403ED#32
  | 10 => 0x474403EE#32
  | 11 => 0x474403EF#32
  | 12 => 0x474403F0#32
  | 13 => 0x474403F1#32
  | 14 => 0x474403F2#32
  | 15 => 0x474403F3#32
  | 16 => 0x474403F4#32
  | 17 => 0x474403F5#32
  | 18 => 0x474403F6#32
  | 19 => 0x474403F7#32
  | 20 => 0x474403F8#32
  | 21 => 0x474403F9#32
  | 22 => 0x474403FA#32
  | 23 => 0x474403FB#32
  | 24 => 0x474403FC#32
  | 25 => 0x474403FD#32
  | 26 => 0x474403FE#32
  | 27 => 0x474403FF#32
  | 28 => 0x47440400#32
  | 29 => 0x47440401#32
  | 30 => 0x47440402#32
  | 31 => 0x47440403#32
  | 32 => 0x47440404#32
  | 33 => 0x47440405#32
  | 34 => 0x47440406#32
  | 35 => 0x47440407#32
  | 36 => 0x47440408#32
  | 37 => 0x47440409#32
  | 38 => 0x4744040A#32
  | 39 => 0x4744040B#32
  | 40 => 0x4744040C#32
  | 41 => 0x4744040D#32
  | 42 => 0x4744040E#32
  | 43 => 0x4744040F#32
  | 44 => 0x47440410#32
  | 45 => 0x47440411#32
  | 46 => 0x47440412#32
  | 47 => 0x47440413#32
  | 48 => 0x47440414#32
  | 49 => 0x47440415#32
  | 50 => 0x47440416#32
  | 51 => 0x47440417#32
  | 52 => 0x47440418#32
  | 53 => 0x47440419#32
  | 54 => 0x4744041A#32
  | 55 => 0x4744041B#32
  | 56 => 0x4744041C#32
  | 57 => 0x4744041D#32
  | 58 => 0x4744041E#32
  | 59 => 0x4744041F#32
  | 60 => 0x47440420#32
  | 61 => 0x47440421#32
  | 62 => 0x47440422#32
  | 63 => 0x47440423#32
  | 64 => 0x47440424#32
  | 65 => 0x47440425#32
  | 66 => 0x47440426#32
  | 67 => 0x47440427#32
  | 68 => 0x47440428#32
  | 69 => 0x47440429#32
  | 70 => 0x4744042A#32
  | 71 => 0x4744042B#32
  | 72 => 0x4744042C#32
  | 73 => 0x4744042D#32
  | 74 => 0x4744042E#32
  | 75 => 0x4744042F#32
  | 76 => 0x47440430#32
  | 77 => 0x47440431#32
  | 78 => 0x47440432#32
  | 79 => 0x47440433#32
  | 80 => 0x47440434#32
  | 81 => 0x47440435#32
  | 82 => 0x47440436#32
  | 83 => 0x47440437#32
  | 84 => 0x47440438#32
  | 85 => 0x47440439#32
  | 86 => 0x4744043A#32
  | 87 => 0x4744043B#32
  | 88 => 0x4744043C#32
  | 89 => 0x4744043D#32
  | 90 => 0x4744043E#32
  | 91 => 0x4744043F#32
  | 92 => 0x47440440#32
  | 93 => 0x47440441#32
  | 94 => 0x47440442#32
  | 95 => 0x47440443#32
  | 96 => 0x47440444#32
  | 97 => 0x47440445#32
  | 98 => 0x47440446#32
  | 99 => 0x47440447#32
  | 100 => 0x47440448#32
  | 101 => 0x47440449#32
  | 102 => 0x4744044A#32
  | 103 => 0x4744044B#32
  | 104 => 0x4744044C#32
  | 105 => 0x4744044D#32
  | 106 => 0x4744044E#32
  | 107 => 0x4744044F#32
  | 108 => 0x47440450#32
  | 109 => 0x47440451#32
  | 110 => 0x47440452#32
  | 111 => 0x47440453#32
  | 112 => 0x47440454#32
  | 113 => 0x47440455#32
  | 114 => 0x47440456#32
  | 115 => 0x47440457#32
  | 116 => 0x47440458#32
  | 117 => 0x47440459#32
  | 118 => 0x4744045A#32
  | 119 => 0x4744045B#32
  | 120 => 0x4744045C#32
  | 121 => 0x4744045D#32
  | 122 => 0x4744045E#32
  | 123 => 0x4744045F#32
  | 124 => 0x47440460#32
  | 125 => 0x47440461#32
  | 126 => 0x47440462#32
  | 127 => 0x47440463#32
  | _ => 0#32

noncomputable abbrev lit0t0_57 (i : Nat) : BitVec 32 := match i % 128 with
  | 0 => 0x47440464#32
  | 1 => 0x47440465#32
  | 2 => 0x47440466#32
  | 3 => 0x47440467#32
  | 4 => 0x47440468#32
  | 5 => 0x47440469#32
  | 6 => 0x4744046A#32
  | 7 => 0x4744046B#32
  | 8 => 0x4744046C#32
  | 9 => 0x4744046D#32
  | 10 => 0x4744046E#32
  | 11 => 0x4744046F#32
  | 12 => 0x47440470#32
  | 13 => 0x47440471#32
  | 14 => 0x47440472#32
  | 15 => 0x47440473#32
  | 16 => 0x47440474#32
  | 17 => 0x47440475#32
  | 18 => 0x47440476#32
  | 19 => 0x47440477#32
  | 20 => 0x47440478#32
  | 21 => 0x47440479#32
  | 22 => 0x4744047A#32
  | 23 => 0x4744047B#32
  | 24 => 0x4744047C#32
  | 25 => 0x4744047D#32
  | 26 => 0x4744047E#32
  | 27 => 0x4744047F#32
  | 28 => 0x47440480#32
  | 29 => 0x47440481#32
  | 30 => 0x47440482#32
  | 31 => 0x47440483#32
  | 32 => 0x47440484#32
  | 33 => 0x47440485#32
  | 34 => 0x47440486#32
  | 35 => 0x47440487#32
  | 36 => 0x47440488#32
  | 37 => 0x47440489#32
  | 38 => 0x4744048A#32
  | 39 => 0x4744048B#32
  | 40 => 0x4744048C#32
  | 41 => 0x4744048D#32
  | 42 => 0x4744048E#32
  | 43 => 0x4744048F#32
  | 44 => 0x47440490#32
  | 45 => 0x47440491#32
  | 46 => 0x47440492#32
  | 47 => 0x47440493#32
  | 48 => 0x47440494#32
  | 49 => 0x47440495#32
  | 50 => 0x47440496#32
  | 51 => 0x47440497#32
  | 52 => 0x47440498#32
  | 53 => 0x47440499#32
  | 54 => 0x4744049A#32
  | 55 => 0x4744049B#32
  | 56 => 0x4744049C#32
  | 57 => 0x4744049D#32
  | 58 => 0x4744049E#32
  | 59 => 0x4744049F#32
  | 60 => 0x474404A0#32
  | 61 => 0x474404A1#32
  | 62 => 0x474404A2#32
  | 63 => 0x474404A3#32
  | 64 => 0x474404A4#32
  | 65 => 0x474404A5#32
  | 66 => 0x474404A6#32
  | 67 => 0x474404A7#32
  | 68 => 0x474404A8#32
  | 69 => 0x474404A9#32
  | 70 => 0x474404AA#32
  | 71 => 0x474404AB#32
  | 72 => 0x474404AC#32
  | 73 => 0x474404AD#32
  | 74 => 0x474404AE#32
  | 75 => 0x474404AF#32
  | 76 => 0x474404B0#32
  | 77 => 0x474404B1#32
  | 78 => 0x474404B2#32
  | 79 => 0x474404B3#32
  | 80 => 0x474404B4#32
  | 81 => 0x474404B5#32
  | 82 => 0x474404B6#32
  | 83 => 0x474404B7#32
  | 84 => 0x474404B8#32
  | 85 => 0x474404B9#32
  | 86 => 0x474404BA#32
  | 87 => 0x474404BB#32
  | 88 => 0x474404BC#32
  | 89 => 0x474404BD#32
  | 90 => 0x474404BE#32
  | 91 => 0x474404BF#32
  | 92 => 0x474404C0#32
  | 93 => 0x474404C1#32
  | 94 => 0x474404C2#32
  | 95 => 0x474404C3#32
  | 96 => 0x474404C4#32
  | 97 => 0x474404C5#32
  | 98 => 0x474404C6#32
  | 99 => 0x474404C7#32
  | 100 => 0x474404C8#32
  | 101 => 0x474404C9#32
  | 102 => 0x474404CA#32
  | 103 => 0x474404CB#32
  | 104 => 0x474404CC#32
  | 105 => 0x474404CD#32
  | 106 => 0x474404CE#32
  | 107 => 0x474404CF#32
  | 108 => 0x474404D0#32
  | 109 => 0x474404D1#32
  | 110 => 0x474404D2#32
  | 111 => 0x474404D3#32
  | 112 => 0x474404D4#32
  | 113 => 0x474404D5#32
  | 114 => 0x474404D6#32
  | 115 => 0x474404D7#32
  | 116 => 0x474404D8#32
  | 117 => 0x474404D9#32
  | 118 => 0x474404DA#32
  | 119 => 0x474404DB#32
  | 120 => 0x474404DC#32
  | 121 => 0x474404DD#32
  | 122 => 0x474404DE#32
  | 123 => 0x474404DF#32
  | 124 => 0x474404E0#32
  | 125 => 0x474404E1#32
  | 126 => 0x474404E2#32
  | 127 => 0x474404E3#32
  | _ => 0#32

noncomputable abbrev lit0t0_58 (i : Nat) : BitVec 32 := match i % 128 with
  | 0 => 0x474404E4#32
  | 1 => 0x474404E5#32
  | 2 => 0x474404E6#32
  | 3 => 0x474404E7#32
  | 4 => 0x474404E8#32
  | 5 => 0x474404E9#32
  | 6 => 0x474404EA#32
  | 7 => 0x474404EB#32
  | 8 => 0x474404EC#32
  | 9 => 0x474404ED#32
  | 10 => 0x474404EE#32
  | 11 => 0x474404EF#32
  | 12 => 0x474404F0#32
  | 13 => 0x474404F1#32
  | 14 => 0x474404F2#32
  | 15 => 0x474404F3#32
  | 16 => 0x474404F4#32
  | 17 => 0x474404F5#32
  | 18 => 0x474404F6#32
  | 19 => 0x474404F7#32
  | 20 => 0x474404F8#32
  | 21 => 0x474404F9#32
  | 22 => 0x474404FA#32
  | 23 => 0x474404FB#32
  | 24 => 0x474404FC#32
  | 25 => 0x474404FD#32
  | 26 => 0x474404FE#32
  | 27 => 0x474404FF#32
  | 28 => 0x47440500#32
  | 29 => 0x47440501#32
  | 30 => 0x47440502#32
  | 31 => 0x47440503#32
  | 32 => 0x47440504#32
  | 33 => 0x47440505#32
  | 34 => 0x47440506#32
  | 35 => 0x47440507#32
  | 36 => 0x47440508#32
  | 37 => 0x47440509#32
  | 38 => 0x4744050A#32
  | 39 => 0x4744050B#32
  | 40 => 0x4744050C#32
  | 41 => 0x4744050D#32
  | 42 => 0x4744050E#32
  | 43 => 0x4744050F#32
  | 44 => 0x47440510#32
  | 45 => 0x47440511#32
  | 46 => 0x47440512#32
  | 47 => 0x47440513#32
  | 48 => 0x47440514#32
  | 49 => 0x47440515#32
  | 50 => 0x47440516#32
  | 51 => 0x47440517#32
  | 52 => 0x47440518#32
  | 53 => 0x47440519#32
  | 54 => 0x4744051A#32
  | 55 => 0x4744051B#32
  | 56 => 0x4744051C#32
  | 57 => 0x4744051D#32
  | 58 => 0x4744051E#32
  | 59 => 0x4744051F#32
  | 60 => 0x47440520#32
  | 61 => 0x47440521#32
  | 62 => 0x47440522#32
  | 63 => 0x47440523#32
  | 64 => 0x47440524#32
  | 65 => 0x47440525#32
  | 66 => 0x47440526#32
  | 67 => 0x47440527#32
  | 68 => 0x47440528#32
  | 69 => 0x47440529#32
  | 70 => 0x4744052A#32
  | 71 => 0x4744052B#32
  | 72 => 0x4744052C#32
  | 73 => 0x4744052D#32
  | 74 => 0x4744052E#32
  | 75 => 0x4744052F#32
  | 76 => 0x47440530#32
  | 77 => 0x47440531#32
  | 78 => 0x47440532#32
  | 79 => 0x47440533#32
  | 80 => 0x47440534#32
  | 81 => 0x47440535#32
  | 82 => 0x47440536#32
  | 83 => 0x47440537#32
  | 84 => 0x47440538#32
  | 85 => 0x47440539#32
  | 86 => 0x4744053A#32
  | 87 => 0x4744053B#32
  | 88 => 0x4744053C#32
  | 89 => 0x4744053D#32
  | 90 => 0x4744053E#32
  | 91 => 0x4744053F#32
  | 92 => 0x47440540#32
  | 93 => 0x47440541#32
  | 94 => 0x47440542#32
  | 95 => 0x47440543#32
  | 96 => 0x47440544#32
  | 97 => 0x47440545#32
  | 98 => 0x47440546#32
  | 99 => 0x47440547#32
  | 100 => 0x47440548#32
  | 101 => 0x47440549#32
  | 102 => 0x4744054A#32
  | 103 => 0x4744054B#32
  | 104 => 0x4744054C#32
  | 105 => 0x4744054D#32
  | 106 => 0x4744054E#32
  | 107 => 0x4744054F#32
  | 108 => 0x47440550#32
  | 109 => 0x47440551#32
  | 110 => 0x47440552#32
  | 111 => 0x47440553#32
  | 112 => 0x47440554#32
  | 113 => 0x47440555#32
  | 114 => 0x47440556#32
  | 115 => 0x47440557#32
  | 116 => 0x47440558#32
  | 117 => 0x47440559#32
  | 118 => 0x4744055A#32
  | 119 => 0x4744055B#32
  | 120 => 0x4744055C#32
  | 121 => 0x4744055D#32
  | 122 => 0x4744055E#32
  | 123 => 0x4744055F#32
  | 124 => 0x47440560#32
  | 125 => 0x47440561#32
  | 126 => 0x47440562#32
  | 127 => 0x47440563#32
  | _ => 0#32

noncomputable abbrev lit0t0_59 (i : Nat) : BitVec 32 := match i % 128 with
  | 0 => 0x47440564#32
  | 1 => 0x47440565#32
  | 2 => 0x47440566#32
  | 3 => 0x47440567#32
  | 4 => 0x47440568#32
  | 5 => 0x47440569#32
  | 6 => 0x4744056A#32
  | 7 => 0x4744056B#32
  | 8 => 0x4744056C#32
  | 9 => 0x4744056D#32
  | 10 => 0x4744056E#32
  | 11 => 0x4744056F#32
  | 12 => 0x47440570#32
  | 13 => 0x47440571#32
  | 14 => 0x47440572#32
  | 15 => 0x47440573#32
  | 16 => 0x47440574#32
  | 17 => 0x47440575#32
  | 18 => 0x47440576#32
  | 19 => 0x47440577#32
  | 20 => 0x47440578#32
  | 21 => 0x47440579#32
  | 22 => 0x4744057A#32
  | 23 => 0x4744057B#32
  | 24 => 0x4744057C#32
  | 25 => 0x4744057D#32
  | 26 => 0x4744057E#32
  | 27 => 0x4744057F#32
  | 28 => 0x47440580#32
  | 29 => 0x47440581#32
  | 30 => 0x47440582#32
  | 31 => 0x47440583#32
  | 32 => 0x47440584#32
  | 33 => 0x47440585#32
  | 34 => 0x47440586#32
  | 35 => 0x47440587#32
  | 36 => 0x47440588#32
  | 37 => 0x47440589#32
  | 38 => 0x4744058A#32
  | 39 => 0x4744058B#32
  | 40 => 0x4744058C#32
  | 41 => 0x4744058D#32
  | 42 => 0x4744058E#32
  | 43 => 0x4744058F#32
  | 44 => 0x47440590#32
  | 45 => 0x47440591#32
  | 46 => 0x47440592#32
  | 47 => 0x47440593#32
  | 48 => 0x47440594#32
  | 49 => 0x47440595#32
  | 50 => 0x47440596#32
  | 51 => 0x47440597#32
  | 52 => 0x47440598#32
  | 53 => 0x47440599#32
  | 54 => 0x4744059A#32
  | 55 => 0x4744059B#32
  | 56 => 0x4744059C#32
  | 57 => 0x4744059D#32
  | 58 => 0x4744059E#32
  | 59 => 0x4744059F#32
  | 60 => 0x474405A0#32
  | 61 => 0x474405A1#32
  | 62 => 0x474405A2#32
  | 63 => 0x474405A3#32
  | 64 => 0x474405A4#32
  | 65 => 0x474405A5#32
  | 66 => 0x474405A6#32
  | 67 => 0x474405A7#32
  | 68 => 0x474405A8#32
  | 69 => 0x474405A9#32
  | 70 => 0x474405AA#32
  | 71 => 0x474405AB#32
  | 72 => 0x474405AC#32
  | 73 => 0x474405AD#32
  | 74 => 0x474405AE#32
  | 75 => 0x474405AF#32
  | 76 => 0x474405B0#32
  | 77 => 0x474405B1#32
  | 78 => 0x474405B2#32
  | 79 => 0x474405B3#32
  | 80 => 0x474405B4#32
  | 81 => 0x474405B5#32
  | 82 => 0x474405B6#32
  | 83 => 0x474405B7#32
  | 84 => 0x474405B8#32
  | 85 => 0x474405B9#32
  | 86 => 0x474405BA#32
  | 87 => 0x474405BB#32
  | 88 => 0x474405BC#32
  | 89 => 0x474405BD#32
  | 90 => 0x474405BE#32
  | 91 => 0x474405BF#32
  | 92 => 0x474405C0#32
  | 93 => 0x474405C1#32
  | 94 => 0x474405C2#32
  | 95 => 0x474405C3#32
  | 96 => 0x474405C4#32
  | 97 => 0x474405C5#32
  | 98 => 0x474405C6#32
  | 99 => 0x474405C7#32
  | 100 => 0x474405C8#32
  | 101 => 0x474405C9#32
  | 102 => 0x474405CA#32
  | 103 => 0x474405CB#32
  | 104 => 0x474405CC#32
  | 105 => 0x474405CD#32
  | 106 => 0x474405CE#32
  | 107 => 0x474405CF#32
  | 108 => 0x474405D0#32
  | 109 => 0x474405D1#32
  | 110 => 0x474405D2#32
  | 111 => 0x474405D3#32
  | 112 => 0x474405D4#32
  | 113 => 0x474405D5#32
  | 114 => 0x474405D6#32
  | 115 => 0x474405D7#32
  | 116 => 0x474405D8#32
  | 117 => 0x474405D9#32
  | 118 => 0x474405DA#32
  | 119 => 0x474405DB#32
  | 120 => 0x474405DC#32
  | 121 => 0x474405DD#32
  | 122 => 0x474405DE#32
  | 123 => 0x474405DF#32
  | 124 => 0x474405E0#32
  | 125 => 0x474405E1#32
  | 126 => 0x474405E2#32
  | 127 => 0x474405E3#32
  | _ => 0#32

noncomputable abbrev lit0t0_60 (i : Nat) : BitVec 32 := match i % 128 with
  | 0 => 0x474405E4#32
  | 1 => 0x474405E5#32
  | 2 => 0x474405E6#32
  | 3 => 0x474405E7#32
  | 4 => 0x474405E8#32
  | 5 => 0x474405E9#32
  | 6 => 0x474405EA#32
  | 7 => 0x474405EB#32
  | 8 => 0x474405EC#32
  | 9 => 0x474405ED#32
  | 10 => 0x474405EE#32
  | 11 => 0x474405EF#32
  | 12 => 0x474405F0#32
  | 13 => 0x474405F1#32
  | 14 => 0x474405F2#32
  | 15 => 0x474405F3#32
  | 16 => 0x474405F4#32
  | 17 => 0x474405F5#32
  | 18 => 0x474405F6#32
  | 19 => 0x474405F7#32
  | 20 => 0x474405F8#32
  | 21 => 0x474405F9#32
  | 22 => 0x474405FA#32
  | 23 => 0x474405FB#32
  | 24 => 0x474405FC#32
  | 25 => 0x474405FD#32
  | 26 => 0x474405FE#32
  | 27 => 0x474405FF#32
  | 28 => 0x47440600#32
  | 29 => 0x47440601#32
  | 30 => 0x47440602#32
  | 31 => 0x47440603#32
  | 32 => 0x47440604#32
  | 33 => 0x47440605#32
  | 34 => 0x47440606#32
  | 35 => 0x47440607#32
  | 36 => 0x47440608#32
  | 37 => 0x47440609#32
  | 38 => 0x4744060A#32
  | 39 => 0x4744060B#32
  | 40 => 0x4744060C#32
  | 41 => 0x4744060D#32
  | 42 => 0x4744060E#32
  | 43 => 0x4744060F#32
  | 44 => 0x47440610#32
  | 45 => 0x47440611#32
  | 46 => 0x47440612#32
  | 47 => 0x47440613#32
  | 48 => 0x47440614#32
  | 49 => 0x47440615#32
  | 50 => 0x47440616#32
  | 51 => 0x47440617#32
  | 52 => 0x47440618#32
  | 53 => 0x47440619#32
  | 54 => 0x4744061A#32
  | 55 => 0x4744061B#32
  | 56 => 0x4744061C#32
  | 57 => 0x4744061D#32
  | 58 => 0x4744061E#32
  | 59 => 0x4744061F#32
  | 60 => 0x47440620#32
  | 61 => 0x47440621#32
  | 62 => 0x47440622#32
  | 63 => 0x47440623#32
  | 64 => 0x47440624#32
  | 65 => 0x47440625#32
  | 66 => 0x47440626#32
  | 67 => 0x47440627#32
  | 68 => 0x47440628#32
  | 69 => 0x47440629#32
  | 70 => 0x4744062A#32
  | 71 => 0x4744062B#32
  | 72 => 0x4744062C#32
  | 73 => 0x4744062D#32
  | 74 => 0x4744062E#32
  | 75 => 0x4744062F#32
  | 76 => 0x47440630#32
  | 77 => 0x47440631#32
  | 78 => 0x47440632#32
  | 79 => 0x47440633#32
  | 80 => 0x47440634#32
  | 81 => 0x47440635#32
  | 82 => 0x47440636#32
  | 83 => 0x47440637#32
  | 84 => 0x47440638#32
  | 85 => 0x47440639#32
  | 86 => 0x4744063A#32
  | 87 => 0x4744063B#32
  | 88 => 0x4744063C#32
  | 89 => 0x4744063D#32
  | 90 => 0x4744063E#32
  | 91 => 0x4744063F#32
  | 92 => 0x47440640#32
  | 93 => 0x47440641#32
  | 94 => 0x47440642#32
  | 95 => 0x47440643#32
  | 96 => 0x47440644#32
  | 97 => 0x47440645#32
  | 98 => 0x47440646#32
  | 99 => 0x47440647#32
  | 100 => 0x47440648#32
  | 101 => 0x47440649#32
  | 102 => 0x4744064A#32
  | 103 => 0x4744064B#32
  | 104 => 0x4744064C#32
  | 105 => 0x4744064D#32
  | 106 => 0x4744064E#32
  | 107 => 0x4744064F#32
  | 108 => 0x47440650#32
  | 109 => 0x47440651#32
  | 110 => 0x47440652#32
  | 111 => 0x47440653#32
  | 112 => 0x47440654#32
  | 113 => 0x47440655#32
  | 114 => 0x47440656#32
  | 115 => 0x47440657#32
  | 116 => 0x47440658#32
  | 117 => 0x47440659#32
  | 118 => 0x4744065A#32
  | 119 => 0x4744065B#32
  | 120 => 0x4744065C#32
  | 121 => 0x4744065D#32
  | 122 => 0x4744065E#32
  | 123 => 0x4744065F#32
  | 124 => 0x47440660#32
  | 125 => 0x47440661#32
  | 126 => 0x47440662#32
  | 127 => 0x47440663#32
  | _ => 0#32

noncomputable abbrev lit0t0_61 (i : Nat) : BitVec 32 := match i % 128 with
  | 0 => 0x47440664#32
  | 1 => 0x47440665#32
  | 2 => 0x47440666#32
  | 3 => 0x47440667#32
  | 4 => 0x47440668#32
  | 5 => 0x47440669#32
  | 6 => 0x4744066A#32
  | 7 => 0x4744066B#32
  | 8 => 0x4744066C#32
  | 9 => 0x4744066D#32
  | 10 => 0x4744066E#32
  | 11 => 0x4744066F#32
  | 12 => 0x47440670#32
  | 13 => 0x47440671#32
  | 14 => 0x47440672#32
  | 15 => 0x47440673#32
  | 16 => 0x47440674#32
  | 17 => 0x47440675#32
  | 18 => 0x47440676#32
  | 19 => 0x47440677#32
  | 20 => 0x47440678#32
  | 21 => 0x47440679#32
  | 22 => 0x4744067A#32
  | 23 => 0x4744067B#32
  | 24 => 0x4744067C#32
  | 25 => 0x4744067D#32
  | 26 => 0x4744067E#32
  | 27 => 0x4744067F#32
  | 28 => 0x47440680#32
  | 29 => 0x47440681#32
  | 30 => 0x47440682#32
  | 31 => 0x47440683#32
  | 32 => 0x47440684#32
  | 33 => 0x47440685#32
  | 34 => 0x47440686#32
  | 35 => 0x47440687#32
  | 36 => 0x47440688#32
  | 37 => 0x47440689#32
  | 38 => 0x4744068A#32
  | 39 => 0x4744068B#32
  | 40 => 0x4744068C#32
  | 41 => 0x4744068D#32
  | 42 => 0x4744068E#32
  | 43 => 0x4744068F#32
  | 44 => 0x47440690#32
  | 45 => 0x47440691#32
  | 46 => 0x47440692#32
  | 47 => 0x47440693#32
  | 48 => 0x47440694#32
  | 49 => 0x47440695#32
  | 50 => 0x47440696#32
  | 51 => 0x47440697#32
  | 52 => 0x47440698#32
  | 53 => 0x47440699#32
  | 54 => 0x4744069A#32
  | 55 => 0x4744069B#32
  | 56 => 0x4744069C#32
  | 57 => 0x4744069D#32
  | 58 => 0x4744069E#32
  | 59 => 0x4744069F#32
  | 60 => 0x474406A0#32
  | 61 => 0x474406A1#32
  | 62 => 0x474406A2#32
  | 63 => 0x474406A3#32
  | 64 => 0x474406A4#32
  | 65 => 0x474406A5#32
  | 66 => 0x474406A6#32
  | 67 => 0x474406A7#32
  | 68 => 0x474406A8#32
  | 69 => 0x474406A9#32
  | 70 => 0x474406AA#32
  | 71 => 0x474406AB#32
  | 72 => 0x474406AC#32
  | 73 => 0x474406AD#32
  | 74 => 0x474406AE#32
  | 75 => 0x474406AF#32
  | 76 => 0x474406B0#32
  | 77 => 0x474406B1#32
  | 78 => 0x474406B2#32
  | 79 => 0x474406B3#32
  | 80 => 0x474406B4#32
  | 81 => 0x474406B5#32
  | 82 => 0x474406B6#32
  | 83 => 0x474406B7#32
  | 84 => 0x474406B8#32
  | 85 => 0x474406B9#32
  | 86 => 0x474406BA#32
  | 87 => 0x474406BB#32
  | 88 => 0x474406BC#32
  | 89 => 0x474406BD#32
  | 90 => 0x474406BE#32
  | 91 => 0x474406BF#32
  | 92 => 0x474406C0#32
  | 93 => 0x474406C1#32
  | 94 => 0x474406C2#32
  | 95 => 0x474406C3#32
  | 96 => 0x474406C4#32
  | 97 => 0x474406C5#32
  | 98 => 0x474406C6#32
  | 99 => 0x474406C7#32
  | 100 => 0x474406C8#32
  | 101 => 0x474406C9#32
  | 102 => 0x474406CA#32
  | 103 => 0x474406CB#32
  | 104 => 0x474406CC#32
  | 105 => 0x474406CD#32
  | 106 => 0x474406CE#32
  | 107 => 0x474406CF#32
  | 108 => 0x474406D0#32
  | 109 => 0x474406D1#32
  | 110 => 0x474406D2#32
  | 111 => 0x474406D3#32
  | 112 => 0x474406D4#32
  | 113 => 0x474406D5#32
  | 114 => 0x474406D6#32
  | 115 => 0x474406D7#32
  | 116 => 0x474406D8#32
  | 117 => 0x474406D9#32
  | 118 => 0x474406DA#32
  | 119 => 0x474406DB#32
  | 120 => 0x474406DC#32
  | 121 => 0x474406DD#32
  | 122 => 0x474406DE#32
  | 123 => 0x474406DF#32
  | 124 => 0x474406E0#32
  | 125 => 0x474406E1#32
  | 126 => 0x474406E2#32
  | 127 => 0x474406E3#32
  | _ => 0#32

noncomputable abbrev lit0t0_62 (i : Nat) : BitVec 32 := match i % 128 with
  | 0 => 0x474406E4#32
  | 1 => 0x474406E5#32
  | 2 => 0x474406E6#32
  | 3 => 0x474406E7#32
  | 4 => 0x474406E8#32
  | 5 => 0x474406E9#32
  | 6 => 0x474406EA#32
  | 7 => 0x474406EB#32
  | 8 => 0x474406EC#32
  | 9 => 0x474406ED#32
  | 10 => 0x474406EE#32
  | 11 => 0x474406EF#32
  | 12 => 0x474406F0#32
  | 13 => 0x474406F1#32
  | 14 => 0x474406F2#32
  | 15 => 0x474406F3#32
  | 16 => 0x474406F4#32
  | 17 => 0x474406F5#32
  | 18 => 0x474406F6#32
  | 19 => 0x474406F7#32
  | 20 => 0x474406F8#32
  | 21 => 0x474406F9#32
  | 22 => 0x474406FA#32
  | 23 => 0x474406FB#32
  | 24 => 0x474406FC#32
  | 25 => 0x474406FD#32
  | 26 => 0x474406FE#32
  | 27 => 0x474406FF#32
  | 28 => 0x47440700#32
  | 29 => 0x47440701#32
  | 30 => 0x47440702#32
  | 31 => 0x47440703#32
  | 32 => 0x47440704#32
  | 33 => 0x47440705#32
  | 34 => 0x47440706#32
  | 35 => 0x47440707#32
  | 36 => 0x47440708#32
  | 37 => 0x47440709#32
  | 38 => 0x4744070A#32
  | 39 => 0x4744070B#32
  | 40 => 0x4744070C#32
  | 41 => 0x4744070D#32
  | 42 => 0x4744070E#32
  | 43 => 0x4744070F#32
  | 44 => 0x47440710#32
  | 45 => 0x47440711#32
  | 46 => 0x47440712#32
  | 47 => 0x47440713#32
  | 48 => 0x47440714#32
  | 49 => 0x47440715#32
  | 50 => 0x47440716#32
  | 51 => 0x47440717#32
  | 52 => 0x47440718#32
  | 53 => 0x47440719#32
  | 54 => 0x4744071A#32
  | 55 => 0x4744071B#32
  | 56 => 0x4744071C#32
  | 57 => 0x4744071D#32
  | 58 => 0x4744071E#32
  | 59 => 0x4744071F#32
  | 60 => 0x47440720#32
  | 61 => 0x47440721#32
  | 62 => 0x47440722#32
  | 63 => 0x47440723#32
  | 64 => 0x47440724#32
  | 65 => 0x47440725#32
  | 66 => 0x47440726#32
  | 67 => 0x47440727#32
  | 68 => 0x47440728#32
  | 69 => 0x47440729#32
  | 70 => 0x4744072A#32
  | 71 => 0x4744072B#32
  | 72 => 0x4744072C#32
  | 73 => 0x4744072D#32
  | 74 => 0x4744072E#32
  | 75 => 0x4744072F#32
  | 76 => 0x47440730#32
  | 77 => 0x47440731#32
  | 78 => 0x47440732#32
  | 79 => 0x47440733#32
  | 80 => 0x47440734#32
  | 81 => 0x47440735#32
  | 82 => 0x47440736#32
  | 83 => 0x47440737#32
  | 84 => 0x47440738#32
  | 85 => 0x47440739#32
  | 86 => 0x4744073A#32
  | 87 => 0x4744073B#32
  | 88 => 0x4744073C#32
  | 89 => 0x4744073D#32
  | 90 => 0x4744073E#32
  | 91 => 0x4744073F#32
  | 92 => 0x47440740#32
  | 93 => 0x47440741#32
  | 94 => 0x47440742#32
  | 95 => 0x47440743#32
  | 96 => 0x47440744#32
  | 97 => 0x47440745#32
  | 98 => 0x47440746#32
  | 99 => 0x47440747#32
  | 100 => 0x47440748#32
  | 101 => 0x47440749#32
  | 102 => 0x4744074A#32
  | 103 => 0x4744074B#32
  | 104 => 0x4744074C#32
  | 105 => 0x4744074D#32
  | 106 => 0x4744074E#32
  | 107 => 0x4744074F#32
  | 108 => 0x47440750#32
  | 109 => 0x47440751#32
  | 110 => 0x47440752#32
  | 111 => 0x47440753#32
  | 112 => 0x47440754#32
  | 113 => 0x47440755#32
  | 114 => 0x47440756#32
  | 115 => 0x47440757#32
  | 116 => 0x47440758#32
  | 117 => 0x47440759#32
  | 118 => 0x4744075A#32
  | 119 => 0x4744075B#32
  | 120 => 0x4744075C#32
  | 121 => 0x4744075D#32
  | 122 => 0x4744075E#32
  | 123 => 0x4744075F#32
  | 124 => 0x47440760#32
  | 125 => 0x47440761#32
  | 126 => 0x47440762#32
  | 127 => 0x47440763#32
  | _ => 0#32

noncomputable abbrev lit0t0_63 (i : Nat) : BitVec 32 := match i % 128 with
  | 0 => 0x47440764#32
  | 1 => 0x47440765#32
  | 2 => 0x47440766#32
  | 3 => 0x47440767#32
  | 4 => 0x47440768#32
  | 5 => 0x47440769#32
  | 6 => 0x4744076A#32
  | 7 => 0x4744076B#32
  | 8 => 0x4744076C#32
  | 9 => 0x4744076D#32
  | 10 => 0x4744076E#32
  | 11 => 0x4744076F#32
  | 12 => 0x47440770#32
  | 13 => 0x47440771#32
  | 14 => 0x47440772#32
  | 15 => 0x47440773#32
  | 16 => 0x47440774#32
  | 17 => 0x47440775#32
  | 18 => 0x47440776#32
  | 19 => 0x47440777#32
  | 20 => 0x47440778#32
  | 21 => 0x47440779#32
  | 22 => 0x4744077A#32
  | 23 => 0x4744077B#32
  | 24 => 0x4744077C#32
  | 25 => 0x4744077D#32
  | 26 => 0x4744077E#32
  | 27 => 0x4744077F#32
  | 28 => 0x47440780#32
  | 29 => 0x47440781#32
  | 30 => 0x47440782#32
  | 31 => 0x47440783#32
  | 32 => 0x47440784#32
  | 33 => 0x47440785#32
  | 34 => 0x47440786#32
  | 35 => 0x47440787#32
  | 36 => 0x47440788#32
  | 37 => 0x47440789#32
  | 38 => 0x4744078A#32
  | 39 => 0x4744078B#32
  | 40 => 0x4744078C#32
  | 41 => 0x4744078D#32
  | 42 => 0x4744078E#32
  | 43 => 0x4744078F#32
  | 44 => 0x47440790#32
  | 45 => 0x47440791#32
  | 46 => 0x47440792#32
  | 47 => 0x47440793#32
  | 48 => 0x47440794#32
  | 49 => 0x47440795#32
  | 50 => 0x47440796#32
  | 51 => 0x47440797#32
  | 52 => 0x47440798#32
  | 53 => 0x47440799#32
  | 54 => 0x4744079A#32
  | 55 => 0x4744079B#32
  | 56 => 0x4744079C#32
  | 57 => 0x4744079D#32
  | 58 => 0x4744079E#32
  | 59 => 0x4744079F#32
  | 60 => 0x474407A0#32
  | 61 => 0x474407A1#32
  | 62 => 0x474407A2#32
  | 63 => 0x474407A3#32
  | 64 => 0x474407A4#32
  | 65 => 0x474407A5#32
  | 66 => 0x474407A6#32
  | 67 => 0x474407A7#32
  | 68 => 0x474407A8#32
  | 69 => 0x474407A9#32
  | 70 => 0x474407AA#32
  | 71 => 0x474407AB#32
  | 72 => 0x474407AC#32
  | 73 => 0x474407AD#32
  | 74 => 0x474407AE#32
  | 75 => 0x474407AF#32
  | 76 => 0x474407B0#32
  | 77 => 0x474407B1#32
  | 78 => 0x474407B2#32
  | 79 => 0x474407B3#32
  | 80 => 0x474407B4#32
  | 81 => 0x474407B5#32
  | 82 => 0x474407B6#32
  | 83 => 0x474407B7#32
  | 84 => 0x474407B8#32
  | 85 => 0x474407B9#32
  | 86 => 0x474407BA#32
  | 87 => 0x474407BB#32
  | 88 => 0x474407BC#32
  | 89 => 0x474407BD#32
  | 90 => 0x474407BE#32
  | 91 => 0x474407BF#32
  | 92 => 0x474407C0#32
  | 93 => 0x474407C1#32
  | 94 => 0x474407C2#32
  | 95 => 0x474407C3#32
  | 96 => 0x474407C4#32
  | 97 => 0x474407C5#32
  | 98 => 0x474407C6#32
  | 99 => 0x474407C7#32
  | 100 => 0x474407C8#32
  | 101 => 0x474407C9#32
  | 102 => 0x474407CA#32
  | 103 => 0x474407CB#32
  | 104 => 0x474407CC#32
  | 105 => 0x474407CD#32
  | 106 => 0x474407CE#32
  | 107 => 0x474407CF#32
  | 108 => 0x474407D0#32
  | 109 => 0x474407D1#32
  | 110 => 0x474407D2#32
  | 111 => 0x474407D3#32
  | 112 => 0x474407D4#32
  | 113 => 0x474407D5#32
  | 114 => 0x474407D6#32
  | 115 => 0x474407D7#32
  | 116 => 0x474407D8#32
  | 117 => 0x474407D9#32
  | 118 => 0x474407DA#32
  | 119 => 0x474407DB#32
  | 120 => 0x474407DC#32
  | 121 => 0x474407DD#32
  | 122 => 0x474407DE#32
  | 123 => 0x474407DF#32
  | 124 => 0x474407E0#32
  | 125 => 0x474407E1#32
  | 126 => 0x474407E2#32
  | 127 => 0x474407E3#32
  | _ => 0#32

noncomputable abbrev lit0t0_64 (i : Nat) : BitVec 32 := match i % 128 with
  | 0 => 0x4843F7EE#32
  | 1 => 0x4843F7EF#32
  | 2 => 0x4843F7F0#32
  | 3 => 0x4843F7F1#32
  | 4 => 0x4843F7F2#32
  | 5 => 0x4843F7F3#32
  | 6 => 0x4843F7F4#32
  | 7 => 0x4843F7F5#32
  | 8 => 0x4843F7F6#32
  | 9 => 0x4843F7F7#32
  | 10 => 0x4843F7F8#32
  | 11 => 0x4843F7F9#32
  | 12 => 0x4843F7FA#32
  | 13 => 0x4843F7FB#32
  | 14 => 0x4843F7FC#32
  | 15 => 0x4843F7FD#32
  | 16 => 0x4843F7FE#32
  | 17 => 0x4843F7FF#32
  | 18 => 0x4843F800#32
  | 19 => 0x4843F801#32
  | 20 => 0x4843F802#32
  | 21 => 0x4843F803#32
  | 22 => 0x4843F804#32
  | 23 => 0x4843F805#32
  | 24 => 0x4843F806#32
  | 25 => 0x4843F807#32
  | 26 => 0x4843F808#32
  | 27 => 0x4843F809#32
  | 28 => 0x4843F80A#32
  | 29 => 0x4843F80B#32
  | 30 => 0x4843F80C#32
  | 31 => 0x4843F80D#32
  | 32 => 0x4843F80E#32
  | 33 => 0x4843F80F#32
  | 34 => 0x4843F810#32
  | 35 => 0x4843F811#32
  | 36 => 0x4843F812#32
  | 37 => 0x4843F813#32
  | 38 => 0x4843F814#32
  | 39 => 0x4843F815#32
  | 40 => 0x4843F816#32
  | 41 => 0x4843F817#32
  | 42 => 0x4843F818#32
  | 43 => 0x4843F819#32
  | 44 => 0x4843F81A#32
  | 45 => 0x4843F81B#32
  | 46 => 0x4843F81C#32
  | 47 => 0x4843F81D#32
  | 48 => 0x4843F81E#32
  | 49 => 0x4843F81F#32
  | 50 => 0x4843F820#32
  | 51 => 0x4843F821#32
  | 52 => 0x4843F822#32
  | 53 => 0x4843F823#32
  | 54 => 0x4843F824#32
  | 55 => 0x4843F825#32
  | 56 => 0x4843F826#32
  | 57 => 0x4843F827#32
  | 58 => 0x4843F828#32
  | 59 => 0x4843F829#32
  | 60 => 0x4843F82A#32
  | 61 => 0x4843F82B#32
  | 62 => 0x4843F82C#32
  | 63 => 0x4843F82D#32
  | 64 => 0x4843F82E#32
  | 65 => 0x4843F82F#32
  | 66 => 0x4843F830#32
  | 67 => 0x4843F831#32
  | 68 => 0x4843F832#32
  | 69 => 0x4843F833#32
  | 70 => 0x4843F834#32
  | 71 => 0x4843F835#32
  | 72 => 0x4843F836#32
  | 73 => 0x4843F837#32
  | 74 => 0x4843F838#32
  | 75 => 0x4843F839#32
  | 76 => 0x4843F83A#32
  | 77 => 0x4843F83B#32
  | 78 => 0x4843F83C#32
  | 79 => 0x4843F83D#32
  | 80 => 0x4843F83E#32
  | 81 => 0x4843F83F#32
  | 82 => 0x4843F840#32
  | 83 => 0x4843F841#32
  | 84 => 0x4843F842#32
  | 85 => 0x4843F843#32
  | 86 => 0x4843F844#32
  | 87 => 0x4843F845#32
  | 88 => 0x4843F846#32
  | 89 => 0x4843F847#32
  | 90 => 0x4843F848#32
  | 91 => 0x4843F849#32
  | 92 => 0x4843F84A#32
  | 93 => 0x4843F84B#32
  | 94 => 0x4843F84C#32
  | 95 => 0x4843F84D#32
  | 96 => 0x4843F84E#32
  | 97 => 0x4843F84F#32
  | 98 => 0x4843F850#32
  | 99 => 0x4843F851#32
  | 100 => 0x4843F852#32
  | 101 => 0x4843F853#32
  | 102 => 0x4843F854#32
  | 103 => 0x4843F855#32
  | 104 => 0x4843F856#32
  | 105 => 0x4843F857#32
  | 106 => 0x4843F858#32
  | 107 => 0x4843F859#32
  | 108 => 0x4843F85A#32
  | 109 => 0x4843F85B#32
  | 110 => 0x4843F85C#32
  | 111 => 0x4843F85D#32
  | 112 => 0x4843F85E#32
  | 113 => 0x4843F85F#32
  | 114 => 0x4843F860#32
  | 115 => 0x4843F861#32
  | 116 => 0x4843F862#32
  | 117 => 0x4843F863#32
  | 118 => 0x4843F864#32
  | 119 => 0x4843F865#32
  | 120 => 0x4843F866#32
  | 121 => 0x4843F867#32
  | 122 => 0x4843F868#32
  | 123 => 0x4843F869#32
  | 124 => 0x4843F86A#32
  | 125 => 0x4843F86B#32
  | 126 => 0x4843F86C#32
  | 127 => 0x4843F86D#32
  | _ => 0#32

noncomputable abbrev lit0t0_65 (i : Nat) : BitVec 32 := match i % 128 with
  | 0 => 0x4843F86E#32
  | 1 => 0x4843F86F#32
  | 2 => 0x4843F870#32
  | 3 => 0x4843F871#32
  | 4 => 0x4843F872#32
  | 5 => 0x4843F873#32
  | 6 => 0x4843F874#32
  | 7 => 0x4843F875#32
  | 8 => 0x4843F876#32
  | 9 => 0x4843F877#32
  | 10 => 0x4843F878#32
  | 11 => 0x4843F879#32
  | 12 => 0x4843F87A#32
  | 13 => 0x4843F87B#32
  | 14 => 0x4843F87C#32
  | 15 => 0x4843F87D#32
  | 16 => 0x4843F87E#32
  | 17 => 0x4843F87F#32
  | 18 => 0x4843F880#32
  | 19 => 0x4843F881#32
  | 20 => 0x4843F882#32
  | 21 => 0x4843F883#32
  | 22 => 0x4843F884#32
  | 23 => 0x4843F885#32
  | 24 => 0x4843F886#32
  | 25 => 0x4843F887#32
  | 26 => 0x4843F888#32
  | 27 => 0x4843F889#32
  | 28 => 0x4843F88A#32
  | 29 => 0x4843F88B#32
  | 30 => 0x4843F88C#32
  | 31 => 0x4843F88D#32
  | 32 => 0x4843F88E#32
  | 33 => 0x4843F88F#32
  | 34 => 0x4843F890#32
  | 35 => 0x4843F891#32
  | 36 => 0x4843F892#32
  | 37 => 0x4843F893#32
  | 38 => 0x4843F894#32
  | 39 => 0x4843F895#32
  | 40 => 0x4843F896#32
  | 41 => 0x4843F897#32
  | 42 => 0x4843F898#32
  | 43 => 0x4843F899#32
  | 44 => 0x4843F89A#32
  | 45 => 0x4843F89B#32
  | 46 => 0x4843F89C#32
  | 47 => 0x4843F89D#32
  | 48 => 0x4843F89E#32
  | 49 => 0x4843F89F#32
  | 50 => 0x4843F8A0#32
  | 51 => 0x4843F8A1#32
  | 52 => 0x4843F8A2#32
  | 53 => 0x4843F8A3#32
  | 54 => 0x4843F8A4#32
  | 55 => 0x4843F8A5#32
  | 56 => 0x4843F8A6#32
  | 57 => 0x4843F8A7#32
  | 58 => 0x4843F8A8#32
  | 59 => 0x4843F8A9#32
  | 60 => 0x4843F8AA#32
  | 61 => 0x4843F8AB#32
  | 62 => 0x4843F8AC#32
  | 63 => 0x4843F8AD#32
  | 64 => 0x4843F8AE#32
  | 65 => 0x4843F8AF#32
  | 66 => 0x4843F8B0#32
  | 67 => 0x4843F8B1#32
  | 68 => 0x4843F8B2#32
  | 69 => 0x4843F8B3#32
  | 70 => 0x4843F8B4#32
  | 71 => 0x4843F8B5#32
  | 72 => 0x4843F8B6#32
  | 73 => 0x4843F8B7#32
  | 74 => 0x4843F8B8#32
  | 75 => 0x4843F8B9#32
  | 76 => 0x4843F8BA#32
  | 77 => 0x4843F8BB#32
  | 78 => 0x4843F8BC#32
  | 79 => 0x4843F8BD#32
  | 80 => 0x4843F8BE#32
  | 81 => 0x4843F8BF#32
  | 82 => 0x4843F8C0#32
  | 83 => 0x4843F8C1#32
  | 84 => 0x4843F8C2#32
  | 85 => 0x4843F8C3#32
  | 86 => 0x4843F8C4#32
  | 87 => 0x4843F8C5#32
  | 88 => 0x4843F8C6#32
  | 89 => 0x4843F8C7#32
  | 90 => 0x4843F8C8#32
  | 91 => 0x4843F8C9#32
  | 92 => 0x4843F8CA#32
  | 93 => 0x4843F8CB#32
  | 94 => 0x4843F8CC#32
  | 95 => 0x4843F8CD#32
  | 96 => 0x4843F8CE#32
  | 97 => 0x4843F8CF#32
  | 98 => 0x4843F8D0#32
  | 99 => 0x4843F8D1#32
  | 100 => 0x4843F8D2#32
  | 101 => 0x4843F8D3#32
  | 102 => 0x4843F8D4#32
  | 103 => 0x4843F8D5#32
  | 104 => 0x4843F8D6#32
  | 105 => 0x4843F8D7#32
  | 106 => 0x4843F8D8#32
  | 107 => 0x4843F8D9#32
  | 108 => 0x4843F8DA#32
  | 109 => 0x4843F8DB#32
  | 110 => 0x4843F8DC#32
  | 111 => 0x4843F8DD#32
  | 112 => 0x4843F8DE#32
  | 113 => 0x4843F8DF#32
  | 114 => 0x4843F8E0#32
  | 115 => 0x4843F8E1#32
  | 116 => 0x4843F8E2#32
  | 117 => 0x4843F8E3#32
  | 118 => 0x4843F8E4#32
  | 119 => 0x4843F8E5#32
  | 120 => 0x4843F8E6#32
  | 121 => 0x4843F8E7#32
  | 122 => 0x4843F8E8#32
  | 123 => 0x4843F8E9#32
  | 124 => 0x4843F8EA#32
  | 125 => 0x4843F8EB#32
  | 126 => 0x4843F8EC#32
  | 127 => 0x4843F8ED#32
  | _ => 0#32

noncomputable abbrev lit0t0_66 (i : Nat) : BitVec 32 := match i % 128 with
  | 0 => 0x4843F8EE#32
  | 1 => 0x4843F8EF#32
  | 2 => 0x4843F8F0#32
  | 3 => 0x4843F8F1#32
  | 4 => 0x4843F8F2#32
  | 5 => 0x4843F8F3#32
  | 6 => 0x4843F8F4#32
  | 7 => 0x4843F8F5#32
  | 8 => 0x4843F8F6#32
  | 9 => 0x4843F8F7#32
  | 10 => 0x4843F8F8#32
  | 11 => 0x4843F8F9#32
  | 12 => 0x4843F8FA#32
  | 13 => 0x4843F8FB#32
  | 14 => 0x4843F8FC#32
  | 15 => 0x4843F8FD#32
  | 16 => 0x4843F8FE#32
  | 17 => 0x4843F8FF#32
  | 18 => 0x4843F900#32
  | 19 => 0x4843F901#32
  | 20 => 0x4843F902#32
  | 21 => 0x4843F903#32
  | 22 => 0x4843F904#32
  | 23 => 0x4843F905#32
  | 24 => 0x4843F906#32
  | 25 => 0x4843F907#32
  | 26 => 0x4843F908#32
  | 27 => 0x4843F909#32
  | 28 => 0x4843F90A#32
  | 29 => 0x4843F90B#32
  | 30 => 0x4843F90C#32
  | 31 => 0x4843F90D#32
  | 32 => 0x4843F90E#32
  | 33 => 0x4843F90F#32
  | 34 => 0x4843F910#32
  | 35 => 0x4843F911#32
  | 36 => 0x4843F912#32
  | 37 => 0x4843F913#32
  | 38 => 0x4843F914#32
  | 39 => 0x4843F915#32
  | 40 => 0x4843F916#32
  | 41 => 0x4843F917#32
  | 42 => 0x4843F918#32
  | 43 => 0x4843F919#32
  | 44 => 0x4843F91A#32
  | 45 => 0x4843F91B#32
  | 46 => 0x4843F91C#32
  | 47 => 0x4843F91D#32
  | 48 => 0x4843F91E#32
  | 49 => 0x4843F91F#32
  | 50 => 0x4843F920#32
  | 51 => 0x4843F921#32
  | 52 => 0x4843F922#32
  | 53 => 0x4843F923#32
  | 54 => 0x4843F924#32
  | 55 => 0x4843F925#32
  | 56 => 0x4843F926#32
  | 57 => 0x4843F927#32
  | 58 => 0x4843F928#32
  | 59 => 0x4843F929#32
  | 60 => 0x4843F92A#32
  | 61 => 0x4843F92B#32
  | 62 => 0x4843F92C#32
  | 63 => 0x4843F92D#32
  | 64 => 0x4843F92E#32
  | 65 => 0x4843F92F#32
  | 66 => 0x4843F930#32
  | 67 => 0x4843F931#32
  | 68 => 0x4843F932#32
  | 69 => 0x4843F933#32
  | 70 => 0x4843F934#32
  | 71 => 0x4843F935#32
  | 72 => 0x4843F936#32
  | 73 => 0x4843F937#32
  | 74 => 0x4843F938#32
  | 75 => 0x4843F939#32
  | 76 => 0x4843F93A#32
  | 77 => 0x4843F93B#32
  | 78 => 0x4843F93C#32
  | 79 => 0x4843F93D#32
  | 80 => 0x4843F93E#32
  | 81 => 0x4843F93F#32
  | 82 => 0x4843F940#32
  | 83 => 0x4843F941#32
  | 84 => 0x4843F942#32
  | 85 => 0x4843F943#32
  | 86 => 0x4843F944#32
  | 87 => 0x4843F945#32
  | 88 => 0x4843F946#32
  | 89 => 0x4843F947#32
  | 90 => 0x4843F948#32
  | 91 => 0x4843F949#32
  | 92 => 0x4843F94A#32
  | 93 => 0x4843F94B#32
  | 94 => 0x4843F94C#32
  | 95 => 0x4843F94D#32
  | 96 => 0x4843F94E#32
  | 97 => 0x4843F94F#32
  | 98 => 0x4843F950#32
  | 99 => 0x4843F951#32
  | 100 => 0x4843F952#32
  | 101 => 0x4843F953#32
  | 102 => 0x4843F954#32
  | 103 => 0x4843F955#32
  | 104 => 0x4843F956#32
  | 105 => 0x4843F957#32
  | 106 => 0x4843F958#32
  | 107 => 0x4843F959#32
  | 108 => 0x4843F95A#32
  | 109 => 0x4843F95B#32
  | 110 => 0x4843F95C#32
  | 111 => 0x4843F95D#32
  | 112 => 0x4843F95E#32
  | 113 => 0x4843F95F#32
  | 114 => 0x4843F960#32
  | 115 => 0x4843F961#32
  | 116 => 0x4843F962#32
  | 117 => 0x4843F963#32
  | 118 => 0x4843F964#32
  | 119 => 0x4843F965#32
  | 120 => 0x4843F966#32
  | 121 => 0x4843F967#32
  | 122 => 0x4843F968#32
  | 123 => 0x4843F969#32
  | 124 => 0x4843F96A#32
  | 125 => 0x4843F96B#32
  | 126 => 0x4843F96C#32
  | 127 => 0x4843F96D#32
  | _ => 0#32

noncomputable abbrev lit0t0_67 (i : Nat) : BitVec 32 := match i % 128 with
  | 0 => 0x4843F96E#32
  | 1 => 0x4843F96F#32
  | 2 => 0x4843F970#32
  | 3 => 0x4843F971#32
  | 4 => 0x4843F972#32
  | 5 => 0x4843F973#32
  | 6 => 0x4843F974#32
  | 7 => 0x4843F975#32
  | 8 => 0x4843F976#32
  | 9 => 0x4843F977#32
  | 10 => 0x4843F978#32
  | 11 => 0x4843F979#32
  | 12 => 0x4843F97A#32
  | 13 => 0x4843F97B#32
  | 14 => 0x4843F97C#32
  | 15 => 0x4843F97D#32
  | 16 => 0x4843F97E#32
  | 17 => 0x4843F97F#32
  | 18 => 0x4843F980#32
  | 19 => 0x4843F981#32
  | 20 => 0x4843F982#32
  | 21 => 0x4843F983#32
  | 22 => 0x4843F984#32
  | 23 => 0x4843F985#32
  | 24 => 0x4843F986#32
  | 25 => 0x4843F987#32
  | 26 => 0x4843F988#32
  | 27 => 0x4843F989#32
  | 28 => 0x4843F98A#32
  | 29 => 0x4843F98B#32
  | 30 => 0x4843F98C#32
  | 31 => 0x4843F98D#32
  | 32 => 0x4843F98E#32
  | 33 => 0x4843F98F#32
  | 34 => 0x4843F990#32
  | 35 => 0x4843F991#32
  | 36 => 0x4843F992#32
  | 37 => 0x4843F993#32
  | 38 => 0x4843F994#32
  | 39 => 0x4843F995#32
  | 40 => 0x4843F996#32
  | 41 => 0x4843F997#32
  | 42 => 0x4843F998#32
  | 43 => 0x4843F999#32
  | 44 => 0x4843F99A#32
  | 45 => 0x4843F99B#32
  | 46 => 0x4843F99C#32
  | 47 => 0x4843F99D#32
  | 48 => 0x4843F99E#32
  | 49 => 0x4843F99F#32
  | 50 => 0x4843F9A0#32
  | 51 => 0x4843F9A1#32
  | 52 => 0x4843F9A2#32
  | 53 => 0x4843F9A3#32
  | 54 => 0x4843F9A4#32
  | 55 => 0x4843F9A5#32
  | 56 => 0x4843F9A6#32
  | 57 => 0x4843F9A7#32
  | 58 => 0x4843F9A8#32
  | 59 => 0x4843F9A9#32
  | 60 => 0x4843F9AA#32
  | 61 => 0x4843F9AB#32
  | 62 => 0x4843F9AC#32
  | 63 => 0x4843F9AD#32
  | 64 => 0x4843F9AE#32
  | 65 => 0x4843F9AF#32
  | 66 => 0x4843F9B0#32
  | 67 => 0x4843F9B1#32
  | 68 => 0x4843F9B2#32
  | 69 => 0x4843F9B3#32
  | 70 => 0x4843F9B4#32
  | 71 => 0x4843F9B5#32
  | 72 => 0x4843F9B6#32
  | 73 => 0x4843F9B7#32
  | 74 => 0x4843F9B8#32
  | 75 => 0x4843F9B9#32
  | 76 => 0x4843F9BA#32
  | 77 => 0x4843F9BB#32
  | 78 => 0x4843F9BC#32
  | 79 => 0x4843F9BD#32
  | 80 => 0x4843F9BE#32
  | 81 => 0x4843F9BF#32
  | 82 => 0x4843F9C0#32
  | 83 => 0x4843F9C1#32
  | 84 => 0x4843F9C2#32
  | 85 => 0x4843F9C3#32
  | 86 => 0x4843F9C4#32
  | 87 => 0x4843F9C5#32
  | 88 => 0x4843F9C6#32
  | 89 => 0x4843F9C7#32
  | 90 => 0x4843F9C8#32
  | 91 => 0x4843F9C9#32
  | 92 => 0x4843F9CA#32
  | 93 => 0x4843F9CB#32
  | 94 => 0x4843F9CC#32
  | 95 => 0x4843F9CD#32
  | 96 => 0x4843F9CE#32
  | 97 => 0x4843F9CF#32
  | 98 => 0x4843F9D0#32
  | 99 => 0x4843F9D1#32
  | 100 => 0x4843F9D2#32
  | 101 => 0x4843F9D3#32
  | 102 => 0x4843F9D4#32
  | 103 => 0x4843F9D5#32
  | 104 => 0x4843F9D6#32
  | 105 => 0x4843F9D7#32
  | 106 => 0x4843F9D8#32
  | 107 => 0x4843F9D9#32
  | 108 => 0x4843F9DA#32
  | 109 => 0x4843F9DB#32
  | 110 => 0x4843F9DC#32
  | 111 => 0x4843F9DD#32
  | 112 => 0x4843F9DE#32
  | 113 => 0x4843F9DF#32
  | 114 => 0x4843F9E0#32
  | 115 => 0x4843F9E1#32
  | 116 => 0x4843F9E2#32
  | 117 => 0x4843F9E3#32
  | 118 => 0x4843F9E4#32
  | 119 => 0x4843F9E5#32
  | 120 => 0x4843F9E6#32
  | 121 => 0x4843F9E7#32
  | 122 => 0x4843F9E8#32
  | 123 => 0x4843F9E9#32
  | 124 => 0x4843F9EA#32
  | 125 => 0x4843F9EB#32
  | 126 => 0x4843F9EC#32
  | 127 => 0x4843F9ED#32
  | _ => 0#32

noncomputable abbrev lit0t0_68 (i : Nat) : BitVec 32 := match i % 128 with
  | 0 => 0x4843F9EE#32
  | 1 => 0x4843F9EF#32
  | 2 => 0x4843F9F0#32
  | 3 => 0x4843F9F1#32
  | 4 => 0x4843F9F2#32
  | 5 => 0x4843F9F3#32
  | 6 => 0x4843F9F4#32
  | 7 => 0x4843F9F5#32
  | 8 => 0x4843F9F6#32
  | 9 => 0x4843F9F7#32
  | 10 => 0x4843F9F8#32
  | 11 => 0x4843F9F9#32
  | 12 => 0x4843F9FA#32
  | 13 => 0x4843F9FB#32
  | 14 => 0x4843F9FC#32
  | 15 => 0x4843F9FD#32
  | 16 => 0x4843F9FE#32
  | 17 => 0x4843F9FF#32
  | 18 => 0x4843FA00#32
  | 19 => 0x4843FA01#32
  | 20 => 0x4843FA02#32
  | 21 => 0x4843FA03#32
  | 22 => 0x4843FA04#32
  | 23 => 0x4843FA05#32
  | 24 => 0x4843FA06#32
  | 25 => 0x4843FA07#32
  | 26 => 0x4843FA08#32
  | 27 => 0x4843FA09#32
  | 28 => 0x4843FA0A#32
  | 29 => 0x4843FA0B#32
  | 30 => 0x4843FA0C#32
  | 31 => 0x4843FA0D#32
  | 32 => 0x4843FA0E#32
  | 33 => 0x4843FA0F#32
  | 34 => 0x4843FA10#32
  | 35 => 0x4843FA11#32
  | 36 => 0x4843FA12#32
  | 37 => 0x4843FA13#32
  | 38 => 0x4843FA14#32
  | 39 => 0x4843FA15#32
  | 40 => 0x4843FA16#32
  | 41 => 0x4843FA17#32
  | 42 => 0x4843FA18#32
  | 43 => 0x4843FA19#32
  | 44 => 0x4843FA1A#32
  | 45 => 0x4843FA1B#32
  | 46 => 0x4843FA1C#32
  | 47 => 0x4843FA1D#32
  | 48 => 0x4843FA1E#32
  | 49 => 0x4843FA1F#32
  | 50 => 0x4843FA20#32
  | 51 => 0x4843FA21#32
  | 52 => 0x4843FA22#32
  | 53 => 0x4843FA23#32
  | 54 => 0x4843FA24#32
  | 55 => 0x4843FA25#32
  | 56 => 0x4843FA26#32
  | 57 => 0x4843FA27#32
  | 58 => 0x4843FA28#32
  | 59 => 0x4843FA29#32
  | 60 => 0x4843FA2A#32
  | 61 => 0x4843FA2B#32
  | 62 => 0x4843FA2C#32
  | 63 => 0x4843FA2D#32
  | 64 => 0x4843FA2E#32
  | 65 => 0x4843FA2F#32
  | 66 => 0x4843FA30#32
  | 67 => 0x4843FA31#32
  | 68 => 0x4843FA32#32
  | 69 => 0x4843FA33#32
  | 70 => 0x4843FA34#32
  | 71 => 0x4843FA35#32
  | 72 => 0x4843FA36#32
  | 73 => 0x4843FA37#32
  | 74 => 0x4843FA38#32
  | 75 => 0x4843FA39#32
  | 76 => 0x4843FA3A#32
  | 77 => 0x4843FA3B#32
  | 78 => 0x4843FA3C#32
  | 79 => 0x4843FA3D#32
  | 80 => 0x4843FA3E#32
  | 81 => 0x4843FA3F#32
  | 82 => 0x4843FA40#32
  | 83 => 0x4843FA41#32
  | 84 => 0x4843FA42#32
  | 85 => 0x4843FA43#32
  | 86 => 0x4843FA44#32
  | 87 => 0x4843FA45#32
  | 88 => 0x4843FA46#32
  | 89 => 0x4843FA47#32
  | 90 => 0x4843FA48#32
  | 91 => 0x4843FA49#32
  | 92 => 0x4843FA4A#32
  | 93 => 0x4843FA4B#32
  | 94 => 0x4843FA4C#32
  | 95 => 0x4843FA4D#32
  | 96 => 0x4843FA4E#32
  | 97 => 0x4843FA4F#32
  | 98 => 0x4843FA50#32
  | 99 => 0x4843FA51#32
  | 100 => 0x4843FA52#32
  | 101 => 0x4843FA53#32
  | 102 => 0x4843FA54#32
  | 103 => 0x4843FA55#32
  | 104 => 0x4843FA56#32
  | 105 => 0x4843FA57#32
  | 106 => 0x4843FA58#32
  | 107 => 0x4843FA59#32
  | 108 => 0x4843FA5A#32
  | 109 => 0x4843FA5B#32
  | 110 => 0x4843FA5C#32
  | 111 => 0x4843FA5D#32
  | 112 => 0x4843FA5E#32
  | 113 => 0x4843FA5F#32
  | 114 => 0x4843FA60#32
  | 115 => 0x4843FA61#32
  | 116 => 0x4843FA62#32
  | 117 => 0x4843FA63#32
  | 118 => 0x4843FA64#32
  | 119 => 0x4843FA65#32
  | 120 => 0x4843FA66#32
  | 121 => 0x4843FA67#32
  | 122 => 0x4843FA68#32
  | 123 => 0x4843FA69#32
  | 124 => 0x4843FA6A#32
  | 125 => 0x4843FA6B#32
  | 126 => 0x4843FA6C#32
  | 127 => 0x4843FA6D#32
  | _ => 0#32

noncomputable abbrev lit0t0_69 (i : Nat) : BitVec 32 := match i % 128 with
  | 0 => 0x4843FA6E#32
  | 1 => 0x4843FA6F#32
  | 2 => 0x4843FA70#32
  | 3 => 0x4843FA71#32
  | 4 => 0x4843FA72#32
  | 5 => 0x4843FA73#32
  | 6 => 0x4843FA74#32
  | 7 => 0x4843FA75#32
  | 8 => 0x4843FA76#32
  | 9 => 0x4843FA77#32
  | 10 => 0x4843FA78#32
  | 11 => 0x4843FA79#32
  | 12 => 0x4843FA7A#32
  | 13 => 0x4843FA7B#32
  | 14 => 0x4843FA7C#32
  | 15 => 0x4843FA7D#32
  | 16 => 0x4843FA7E#32
  | 17 => 0x4843FA7F#32
  | 18 => 0x4843FA80#32
  | 19 => 0x4843FA81#32
  | 20 => 0x4843FA82#32
  | 21 => 0x4843FA83#32
  | 22 => 0x4843FA84#32
  | 23 => 0x4843FA85#32
  | 24 => 0x4843FA86#32
  | 25 => 0x4843FA87#32
  | 26 => 0x4843FA88#32
  | 27 => 0x4843FA89#32
  | 28 => 0x4843FA8A#32
  | 29 => 0x4843FA8B#32
  | 30 => 0x4843FA8C#32
  | 31 => 0x4843FA8D#32
  | 32 => 0x4843FA8E#32
  | 33 => 0x4843FA8F#32
  | 34 => 0x4843FA90#32
  | 35 => 0x4843FA91#32
  | 36 => 0x4843FA92#32
  | 37 => 0x4843FA93#32
  | 38 => 0x4843FA94#32
  | 39 => 0x4843FA95#32
  | 40 => 0x4843FA96#32
  | 41 => 0x4843FA97#32
  | 42 => 0x4843FA98#32
  | 43 => 0x4843FA99#32
  | 44 => 0x4843FA9A#32
  | 45 => 0x4843FA9B#32
  | 46 => 0x4843FA9C#32
  | 47 => 0x4843FA9D#32
  | 48 => 0x4843FA9E#32
  | 49 => 0x4843FA9F#32
  | 50 => 0x4843FAA0#32
  | 51 => 0x4843FAA1#32
  | 52 => 0x4843FAA2#32
  | 53 => 0x4843FAA3#32
  | 54 => 0x4843FAA4#32
  | 55 => 0x4843FAA5#32
  | 56 => 0x4843FAA6#32
  | 57 => 0x4843FAA7#32
  | 58 => 0x4843FAA8#32
  | 59 => 0x4843FAA9#32
  | 60 => 0x4843FAAA#32
  | 61 => 0x4843FAAB#32
  | 62 => 0x4843FAAC#32
  | 63 => 0x4843FAAD#32
  | 64 => 0x4843FAAE#32
  | 65 => 0x4843FAAF#32
  | 66 => 0x4843FAB0#32
  | 67 => 0x4843FAB1#32
  | 68 => 0x4843FAB2#32
  | 69 => 0x4843FAB3#32
  | 70 => 0x4843FAB4#32
  | 71 => 0x4843FAB5#32
  | 72 => 0x4843FAB6#32
  | 73 => 0x4843FAB7#32
  | 74 => 0x4843FAB8#32
  | 75 => 0x4843FAB9#32
  | 76 => 0x4843FABA#32
  | 77 => 0x4843FABB#32
  | 78 => 0x4843FABC#32
  | 79 => 0x4843FABD#32
  | 80 => 0x4843FABE#32
  | 81 => 0x4843FABF#32
  | 82 => 0x4843FAC0#32
  | 83 => 0x4843FAC1#32
  | 84 => 0x4843FAC2#32
  | 85 => 0x4843FAC3#32
  | 86 => 0x4843FAC4#32
  | 87 => 0x4843FAC5#32
  | 88 => 0x4843FAC6#32
  | 89 => 0x4843FAC7#32
  | 90 => 0x4843FAC8#32
  | 91 => 0x4843FAC9#32
  | 92 => 0x4843FACA#32
  | 93 => 0x4843FACB#32
  | 94 => 0x4843FACC#32
  | 95 => 0x4843FACD#32
  | 96 => 0x4843FACE#32
  | 97 => 0x4843FACF#32
  | 98 => 0x4843FAD0#32
  | 99 => 0x4843FAD1#32
  | 100 => 0x4843FAD2#32
  | 101 => 0x4843FAD3#32
  | 102 => 0x4843FAD4#32
  | 103 => 0x4843FAD5#32
  | 104 => 0x4843FAD6#32
  | 105 => 0x4843FAD7#32
  | 106 => 0x4843FAD8#32
  | 107 => 0x4843FAD9#32
  | 108 => 0x4843FADA#32
  | 109 => 0x4843FADB#32
  | 110 => 0x4843FADC#32
  | 111 => 0x4843FADD#32
  | 112 => 0x4843FADE#32
  | 113 => 0x4843FADF#32
  | 114 => 0x4843FAE0#32
  | 115 => 0x4843FAE1#32
  | 116 => 0x4843FAE2#32
  | 117 => 0x4843FAE3#32
  | 118 => 0x4843FAE4#32
  | 119 => 0x4843FAE5#32
  | 120 => 0x4843FAE6#32
  | 121 => 0x4843FAE7#32
  | 122 => 0x4843FAE8#32
  | 123 => 0x4843FAE9#32
  | 124 => 0x4843FAEA#32
  | 125 => 0x4843FAEB#32
  | 126 => 0x4843FAEC#32
  | 127 => 0x4843FAED#32
  | _ => 0#32

noncomputable abbrev lit0t0_70 (i : Nat) : BitVec 32 := match i % 128 with
  | 0 => 0x4843FAEE#32
  | 1 => 0x4843FAEF#32
  | 2 => 0x4843FAF0#32
  | 3 => 0x4843FAF1#32
  | 4 => 0x4843FAF2#32
  | 5 => 0x4843FAF3#32
  | 6 => 0x4843FAF4#32
  | 7 => 0x4843FAF5#32
  | 8 => 0x4843FAF6#32
  | 9 => 0x4843FAF7#32
  | 10 => 0x4843FAF8#32
  | 11 => 0x4843FAF9#32
  | 12 => 0x4843FAFA#32
  | 13 => 0x4843FAFB#32
  | 14 => 0x4843FAFC#32
  | 15 => 0x4843FAFD#32
  | 16 => 0x4843FAFE#32
  | 17 => 0x4843FAFF#32
  | 18 => 0x4843FB00#32
  | 19 => 0x4843FB01#32
  | 20 => 0x4843FB02#32
  | 21 => 0x4843FB03#32
  | 22 => 0x4843FB04#32
  | 23 => 0x4843FB05#32
  | 24 => 0x4843FB06#32
  | 25 => 0x4843FB07#32
  | 26 => 0x4843FB08#32
  | 27 => 0x4843FB09#32
  | 28 => 0x4843FB0A#32
  | 29 => 0x4843FB0B#32
  | 30 => 0x4843FB0C#32
  | 31 => 0x4843FB0D#32
  | 32 => 0x4843FB0E#32
  | 33 => 0x4843FB0F#32
  | 34 => 0x4843FB10#32
  | 35 => 0x4843FB11#32
  | 36 => 0x4843FB12#32
  | 37 => 0x4843FB13#32
  | 38 => 0x4843FB14#32
  | 39 => 0x4843FB15#32
  | 40 => 0x4843FB16#32
  | 41 => 0x4843FB17#32
  | 42 => 0x4843FB18#32
  | 43 => 0x4843FB19#32
  | 44 => 0x4843FB1A#32
  | 45 => 0x4843FB1B#32
  | 46 => 0x4843FB1C#32
  | 47 => 0x4843FB1D#32
  | 48 => 0x4843FB1E#32
  | 49 => 0x4843FB1F#32
  | 50 => 0x4843FB20#32
  | 51 => 0x4843FB21#32
  | 52 => 0x4843FB22#32
  | 53 => 0x4843FB23#32
  | 54 => 0x4843FB24#32
  | 55 => 0x4843FB25#32
  | 56 => 0x4843FB26#32
  | 57 => 0x4843FB27#32
  | 58 => 0x4843FB28#32
  | 59 => 0x4843FB29#32
  | 60 => 0x4843FB2A#32
  | 61 => 0x4843FB2B#32
  | 62 => 0x4843FB2C#32
  | 63 => 0x4843FB2D#32
  | 64 => 0x4843FB2E#32
  | 65 => 0x4843FB2F#32
  | 66 => 0x4843FB30#32
  | 67 => 0x4843FB31#32
  | 68 => 0x4843FB32#32
  | 69 => 0x4843FB33#32
  | 70 => 0x4843FB34#32
  | 71 => 0x4843FB35#32
  | 72 => 0x4843FB36#32
  | 73 => 0x4843FB37#32
  | 74 => 0x4843FB38#32
  | 75 => 0x4843FB39#32
  | 76 => 0x4843FB3A#32
  | 77 => 0x4843FB3B#32
  | 78 => 0x4843FB3C#32
  | 79 => 0x4843FB3D#32
  | 80 => 0x4843FB3E#32
  | 81 => 0x4843FB3F#32
  | 82 => 0x4843FB40#32
  | 83 => 0x4843FB41#32
  | 84 => 0x4843FB42#32
  | 85 => 0x4843FB43#32
  | 86 => 0x4843FB44#32
  | 87 => 0x4843FB45#32
  | 88 => 0x4843FB46#32
  | 89 => 0x4843FB47#32
  | 90 => 0x4843FB48#32
  | 91 => 0x4843FB49#32
  | 92 => 0x4843FB4A#32
  | 93 => 0x4843FB4B#32
  | 94 => 0x4843FB4C#32
  | 95 => 0x4843FB4D#32
  | 96 => 0x4843FB4E#32
  | 97 => 0x4843FB4F#32
  | 98 => 0x4843FB50#32
  | 99 => 0x4843FB51#32
  | 100 => 0x4843FB52#32
  | 101 => 0x4843FB53#32
  | 102 => 0x4843FB54#32
  | 103 => 0x4843FB55#32
  | 104 => 0x4843FB56#32
  | 105 => 0x4843FB57#32
  | 106 => 0x4843FB58#32
  | 107 => 0x4843FB59#32
  | 108 => 0x4843FB5A#32
  | 109 => 0x4843FB5B#32
  | 110 => 0x4843FB5C#32
  | 111 => 0x4843FB5D#32
  | 112 => 0x4843FB5E#32
  | 113 => 0x4843FB5F#32
  | 114 => 0x4843FB60#32
  | 115 => 0x4843FB61#32
  | 116 => 0x4843FB62#32
  | 117 => 0x4843FB63#32
  | 118 => 0x4843FB64#32
  | 119 => 0x4843FB65#32
  | 120 => 0x4843FB66#32
  | 121 => 0x4843FB67#32
  | 122 => 0x4843FB68#32
  | 123 => 0x4843FB69#32
  | 124 => 0x4843FB6A#32
  | 125 => 0x4843FB6B#32
  | 126 => 0x4843FB6C#32
  | 127 => 0x4843FB6D#32
  | _ => 0#32

noncomputable abbrev lit0t0_71 (i : Nat) : BitVec 32 := match i % 128 with
  | 0 => 0x4843FB6E#32
  | 1 => 0x4843FB6F#32
  | 2 => 0x4843FB70#32
  | 3 => 0x4843FB71#32
  | 4 => 0x4843FB72#32
  | 5 => 0x4843FB73#32
  | 6 => 0x4843FB74#32
  | 7 => 0x4843FB75#32
  | 8 => 0x4843FB76#32
  | 9 => 0x4843FB77#32
  | 10 => 0x4843FB78#32
  | 11 => 0x4843FB79#32
  | 12 => 0x4843FB7A#32
  | 13 => 0x4843FB7B#32
  | 14 => 0x4843FB7C#32
  | 15 => 0x4843FB7D#32
  | 16 => 0x4843FB7E#32
  | 17 => 0x4843FB7F#32
  | 18 => 0x4843FB80#32
  | 19 => 0x4843FB81#32
  | 20 => 0x4843FB82#32
  | 21 => 0x4843FB83#32
  | 22 => 0x4843FB84#32
  | 23 => 0x4843FB85#32
  | 24 => 0x4843FB86#32
  | 25 => 0x4843FB87#32
  | 26 => 0x4843FB88#32
  | 27 => 0x4843FB89#32
  | 28 => 0x4843FB8A#32
  | 29 => 0x4843FB8B#32
  | 30 => 0x4843FB8C#32
  | 31 => 0x4843FB8D#32
  | 32 => 0x4843FB8E#32
  | 33 => 0x4843FB8F#32
  | 34 => 0x4843FB90#32
  | 35 => 0x4843FB91#32
  | 36 => 0x4843FB92#32
  | 37 => 0x4843FB93#32
  | 38 => 0x4843FB94#32
  | 39 => 0x4843FB95#32
  | 40 => 0x4843FB96#32
  | 41 => 0x4843FB97#32
  | 42 => 0x4843FB98#32
  | 43 => 0x4843FB99#32
  | 44 => 0x4843FB9A#32
  | 45 => 0x4843FB9B#32
  | 46 => 0x4843FB9C#32
  | 47 => 0x4843FB9D#32
  | 48 => 0x4843FB9E#32
  | 49 => 0x4843FB9F#32
  | 50 => 0x4843FBA0#32
  | 51 => 0x4843FBA1#32
  | 52 => 0x4843FBA2#32
  | 53 => 0x4843FBA3#32
  | 54 => 0x4843FBA4#32
  | 55 => 0x4843FBA5#32
  | 56 => 0x4843FBA6#32
  | 57 => 0x4843FBA7#32
  | 58 => 0x4843FBA8#32
  | 59 => 0x4843FBA9#32
  | 60 => 0x4843FBAA#32
  | 61 => 0x4843FBAB#32
  | 62 => 0x4843FBAC#32
  | 63 => 0x4843FBAD#32
  | 64 => 0x4843FBAE#32
  | 65 => 0x4843FBAF#32
  | 66 => 0x4843FBB0#32
  | 67 => 0x4843FBB1#32
  | 68 => 0x4843FBB2#32
  | 69 => 0x4843FBB3#32
  | 70 => 0x4843FBB4#32
  | 71 => 0x4843FBB5#32
  | 72 => 0x4843FBB6#32
  | 73 => 0x4843FBB7#32
  | 74 => 0x4843FBB8#32
  | 75 => 0x4843FBB9#32
  | 76 => 0x4843FBBA#32
  | 77 => 0x4843FBBB#32
  | 78 => 0x4843FBBC#32
  | 79 => 0x4843FBBD#32
  | 80 => 0x4843FBBE#32
  | 81 => 0x4843FBBF#32
  | 82 => 0x4843FBC0#32
  | 83 => 0x4843FBC1#32
  | 84 => 0x4843FBC2#32
  | 85 => 0x4843FBC3#32
  | 86 => 0x4843FBC4#32
  | 87 => 0x4843FBC5#32
  | 88 => 0x4843FBC6#32
  | 89 => 0x4843FBC7#32
  | 90 => 0x4843FBC8#32
  | 91 => 0x4843FBC9#32
  | 92 => 0x4843FBCA#32
  | 93 => 0x4843FBCB#32
  | 94 => 0x4843FBCC#32
  | 95 => 0x4843FBCD#32
  | 96 => 0x4843FBCE#32
  | 97 => 0x4843FBCF#32
  | 98 => 0x4843FBD0#32
  | 99 => 0x4843FBD1#32
  | 100 => 0x4843FBD2#32
  | 101 => 0x4843FBD3#32
  | 102 => 0x4843FBD4#32
  | 103 => 0x4843FBD5#32
  | 104 => 0x4843FBD6#32
  | 105 => 0x4843FBD7#32
  | 106 => 0x4843FBD8#32
  | 107 => 0x4843FBD9#32
  | 108 => 0x4843FBDA#32
  | 109 => 0x4843FBDB#32
  | 110 => 0x4843FBDC#32
  | 111 => 0x4843FBDD#32
  | 112 => 0x4843FBDE#32
  | 113 => 0x4843FBDF#32
  | 114 => 0x4843FBE0#32
  | 115 => 0x4843FBE1#32
  | 116 => 0x4843FBE2#32
  | 117 => 0x4843FBE3#32
  | 118 => 0x4843FBE4#32
  | 119 => 0x4843FBE5#32
  | 120 => 0x4843FBE6#32
  | 121 => 0x4843FBE7#32
  | 122 => 0x4843FBE8#32
  | 123 => 0x4843FBE9#32
  | 124 => 0x4843FBEA#32
  | 125 => 0x4843FBEB#32
  | 126 => 0x4843FBEC#32
  | 127 => 0x4843FBED#32
  | _ => 0#32

noncomputable abbrev lit0t0_72 (i : Nat) : BitVec 32 := match i % 128 with
  | 0 => 0x4843FBEE#32
  | 1 => 0x4843FBEF#32
  | 2 => 0x4843FBF0#32
  | 3 => 0x4843FBF1#32
  | 4 => 0x4843FBF2#32
  | 5 => 0x4843FBF3#32
  | 6 => 0x4843FBF4#32
  | 7 => 0x4843FBF5#32
  | 8 => 0x4843FBF6#32
  | 9 => 0x4843FBF7#32
  | 10 => 0x4843FBF8#32
  | 11 => 0x4843FBF9#32
  | 12 => 0x4843FBFA#32
  | 13 => 0x4843FBFB#32
  | 14 => 0x4843FBFC#32
  | 15 => 0x4843FBFD#32
  | 16 => 0x4843FBFE#32
  | 17 => 0x4843FBFF#32
  | 18 => 0x4843FC00#32
  | 19 => 0x4843FC01#32
  | 20 => 0x4843FC02#32
  | 21 => 0x4843FC03#32
  | 22 => 0x4843FC04#32
  | 23 => 0x4843FC05#32
  | 24 => 0x4843FC06#32
  | 25 => 0x4843FC07#32
  | 26 => 0x4843FC08#32
  | 27 => 0x4843FC09#32
  | 28 => 0x4843FC0A#32
  | 29 => 0x4843FC0B#32
  | 30 => 0x4843FC0C#32
  | 31 => 0x4843FC0D#32
  | 32 => 0x4843FC0E#32
  | 33 => 0x4843FC0F#32
  | 34 => 0x4843FC10#32
  | 35 => 0x4843FC11#32
  | 36 => 0x4843FC12#32
  | 37 => 0x4843FC13#32
  | 38 => 0x4843FC14#32
  | 39 => 0x4843FC15#32
  | 40 => 0x4843FC16#32
  | 41 => 0x4843FC17#32
  | 42 => 0x4843FC18#32
  | 43 => 0x4843FC19#32
  | 44 => 0x4843FC1A#32
  | 45 => 0x4843FC1B#32
  | 46 => 0x4843FC1C#32
  | 47 => 0x4843FC1D#32
  | 48 => 0x4843FC1E#32
  | 49 => 0x4843FC1F#32
  | 50 => 0x4843FC20#32
  | 51 => 0x4843FC21#32
  | 52 => 0x4843FC22#32
  | 53 => 0x4843FC23#32
  | 54 => 0x4843FC24#32
  | 55 => 0x4843FC25#32
  | 56 => 0x4843FC26#32
  | 57 => 0x4843FC27#32
  | 58 => 0x4843FC28#32
  | 59 => 0x4843FC29#32
  | 60 => 0x4843FC2A#32
  | 61 => 0x4843FC2B#32
  | 62 => 0x4843FC2C#32
  | 63 => 0x4843FC2D#32
  | 64 => 0x4843FC2E#32
  | 65 => 0x4843FC2F#32
  | 66 => 0x4843FC30#32
  | 67 => 0x4843FC31#32
  | 68 => 0x4843FC32#32
  | 69 => 0x4843FC33#32
  | 70 => 0x4843FC34#32
  | 71 => 0x4843FC35#32
  | 72 => 0x4843FC36#32
  | 73 => 0x4843FC37#32
  | 74 => 0x4843FC38#32
  | 75 => 0x4843FC39#32
  | 76 => 0x4843FC3A#32
  | 77 => 0x4843FC3B#32
  | 78 => 0x4843FC3C#32
  | 79 => 0x4843FC3D#32
  | 80 => 0x4843FC3E#32
  | 81 => 0x4843FC3F#32
  | 82 => 0x4843FC40#32
  | 83 => 0x4843FC41#32
  | 84 => 0x4843FC42#32
  | 85 => 0x4843FC43#32
  | 86 => 0x4843FC44#32
  | 87 => 0x4843FC45#32
  | 88 => 0x4843FC46#32
  | 89 => 0x4843FC47#32
  | 90 => 0x4843FC48#32
  | 91 => 0x4843FC49#32
  | 92 => 0x4843FC4A#32
  | 93 => 0x4843FC4B#32
  | 94 => 0x4843FC4C#32
  | 95 => 0x4843FC4D#32
  | 96 => 0x4843FC4E#32
  | 97 => 0x4843FC4F#32
  | 98 => 0x4843FC50#32
  | 99 => 0x4843FC51#32
  | 100 => 0x4843FC52#32
  | 101 => 0x4843FC53#32
  | 102 => 0x4843FC54#32
  | 103 => 0x4843FC55#32
  | 104 => 0x4843FC56#32
  | 105 => 0x4843FC57#32
  | 106 => 0x4843FC58#32
  | 107 => 0x4843FC59#32
  | 108 => 0x4843FC5A#32
  | 109 => 0x4843FC5B#32
  | 110 => 0x4843FC5C#32
  | 111 => 0x4843FC5D#32
  | 112 => 0x4843FC5E#32
  | 113 => 0x4843FC5F#32
  | 114 => 0x4843FC60#32
  | 115 => 0x4843FC61#32
  | 116 => 0x4843FC62#32
  | 117 => 0x4843FC63#32
  | 118 => 0x4843FC64#32
  | 119 => 0x4843FC65#32
  | 120 => 0x4843FC66#32
  | 121 => 0x4843FC67#32
  | 122 => 0x4843FC68#32
  | 123 => 0x4843FC69#32
  | 124 => 0x4843FC6A#32
  | 125 => 0x4843FC6B#32
  | 126 => 0x4843FC6C#32
  | 127 => 0x4843FC6D#32
  | _ => 0#32

noncomputable abbrev lit0t0_73 (i : Nat) : BitVec 32 := match i % 128 with
  | 0 => 0x4843FC6E#32
  | 1 => 0x4843FC6F#32
  | 2 => 0x4843FC70#32
  | 3 => 0x4843FC71#32
  | 4 => 0x4843FC72#32
  | 5 => 0x4843FC73#32
  | 6 => 0x4843FC74#32
  | 7 => 0x4843FC75#32
  | 8 => 0x4843FC76#32
  | 9 => 0x4843FC77#32
  | 10 => 0x4843FC78#32
  | 11 => 0x4843FC79#32
  | 12 => 0x4843FC7A#32
  | 13 => 0x4843FC7B#32
  | 14 => 0x4843FC7C#32
  | 15 => 0x4843FC7D#32
  | 16 => 0x4843FC7E#32
  | 17 => 0x4843FC7F#32
  | 18 => 0x4843FC80#32
  | 19 => 0x4843FC81#32
  | 20 => 0x4843FC82#32
  | 21 => 0x4843FC83#32
  | 22 => 0x4843FC84#32
  | 23 => 0x4843FC85#32
  | 24 => 0x4843FC86#32
  | 25 => 0x4843FC87#32
  | 26 => 0x4843FC88#32
  | 27 => 0x4843FC89#32
  | 28 => 0x4843FC8A#32
  | 29 => 0x4843FC8B#32
  | 30 => 0x4843FC8C#32
  | 31 => 0x4843FC8D#32
  | 32 => 0x4843FC8E#32
  | 33 => 0x4843FC8F#32
  | 34 => 0x4843FC90#32
  | 35 => 0x4843FC91#32
  | 36 => 0x4843FC92#32
  | 37 => 0x4843FC93#32
  | 38 => 0x4843FC94#32
  | 39 => 0x4843FC95#32
  | 40 => 0x4843FC96#32
  | 41 => 0x4843FC97#32
  | 42 => 0x4843FC98#32
  | 43 => 0x4843FC99#32
  | 44 => 0x4843FC9A#32
  | 45 => 0x4843FC9B#32
  | 46 => 0x4843FC9C#32
  | 47 => 0x4843FC9D#32
  | 48 => 0x4843FC9E#32
  | 49 => 0x4843FC9F#32
  | 50 => 0x4843FCA0#32
  | 51 => 0x4843FCA1#32
  | 52 => 0x4843FCA2#32
  | 53 => 0x4843FCA3#32
  | 54 => 0x4843FCA4#32
  | 55 => 0x4843FCA5#32
  | 56 => 0x4843FCA6#32
  | 57 => 0x4843FCA7#32
  | 58 => 0x4843FCA8#32
  | 59 => 0x4843FCA9#32
  | 60 => 0x4843FCAA#32
  | 61 => 0x4843FCAB#32
  | 62 => 0x4843FCAC#32
  | 63 => 0x4843FCAD#32
  | 64 => 0x4843FCAE#32
  | 65 => 0x4843FCAF#32
  | 66 => 0x4843FCB0#32
  | 67 => 0x4843FCB1#32
  | 68 => 0x4843FCB2#32
  | 69 => 0x4843FCB3#32
  | 70 => 0x4843FCB4#32
  | 71 => 0x4843FCB5#32
  | 72 => 0x4843FCB6#32
  | 73 => 0x4843FCB7#32
  | 74 => 0x4843FCB8#32
  | 75 => 0x4843FCB9#32
  | 76 => 0x4843FCBA#32
  | 77 => 0x4843FCBB#32
  | 78 => 0x4843FCBC#32
  | 79 => 0x4843FCBD#32
  | 80 => 0x4843FCBE#32
  | 81 => 0x4843FCBF#32
  | 82 => 0x4843FCC0#32
  | 83 => 0x4843FCC1#32
  | 84 => 0x4843FCC2#32
  | 85 => 0x4843FCC3#32
  | 86 => 0x4843FCC4#32
  | 87 => 0x4843FCC5#32
  | 88 => 0x4843FCC6#32
  | 89 => 0x4843FCC7#32
  | 90 => 0x4843FCC8#32
  | 91 => 0x4843FCC9#32
  | 92 => 0x4843FCCA#32
  | 93 => 0x4843FCCB#32
  | 94 => 0x4843FCCC#32
  | 95 => 0x4843FCCD#32
  | 96 => 0x4843FCCE#32
  | 97 => 0x4843FCCF#32
  | 98 => 0x4843FCD0#32
  | 99 => 0x4843FCD1#32
  | 100 => 0x4843FCD2#32
  | 101 => 0x4843FCD3#32
  | 102 => 0x4843FCD4#32
  | 103 => 0x4843FCD5#32
  | 104 => 0x4843FCD6#32
  | 105 => 0x4843FCD7#32
  | 106 => 0x4843FCD8#32
  | 107 => 0x4843FCD9#32
  | 108 => 0x4843FCDA#32
  | 109 => 0x4843FCDB#32
  | 110 => 0x4843FCDC#32
  | 111 => 0x4843FCDD#32
  | 112 => 0x4843FCDE#32
  | 113 => 0x4843FCDF#32
  | 114 => 0x4843FCE0#32
  | 115 => 0x4843FCE1#32
  | 116 => 0x4843FCE2#32
  | 117 => 0x4843FCE3#32
  | 118 => 0x4843FCE4#32
  | 119 => 0x4843FCE5#32
  | 120 => 0x4843FCE6#32
  | 121 => 0x4843FCE7#32
  | 122 => 0x4843FCE8#32
  | 123 => 0x4843FCE9#32
  | 124 => 0x4843FCEA#32
  | 125 => 0x4843FCEB#32
  | 126 => 0x4843FCEC#32
  | 127 => 0x4843FCED#32
  | _ => 0#32

noncomputable abbrev lit0t0_74 (i : Nat) : BitVec 32 := match i % 128 with
  | 0 => 0x4843FCEE#32
  | 1 => 0x4843FCEF#32
  | 2 => 0x4843FCF0#32
  | 3 => 0x4843FCF1#32
  | 4 => 0x4843FCF2#32
  | 5 => 0x4843FCF3#32
  | 6 => 0x4843FCF4#32
  | 7 => 0x4843FCF5#32
  | 8 => 0x4843FCF6#32
  | 9 => 0x4843FCF7#32
  | 10 => 0x4843FCF8#32
  | 11 => 0x4843FCF9#32
  | 12 => 0x4843FCFA#32
  | 13 => 0x4843FCFB#32
  | 14 => 0x4843FCFC#32
  | 15 => 0x4843FCFD#32
  | 16 => 0x4843FCFE#32
  | 17 => 0x4843FCFF#32
  | 18 => 0x4843FD00#32
  | 19 => 0x4843FD01#32
  | 20 => 0x4843FD02#32
  | 21 => 0x4843FD03#32
  | 22 => 0x4843FD04#32
  | 23 => 0x4843FD05#32
  | 24 => 0x4843FD06#32
  | 25 => 0x4843FD07#32
  | 26 => 0x4843FD08#32
  | 27 => 0x4843FD09#32
  | 28 => 0x4843FD0A#32
  | 29 => 0x4843FD0B#32
  | 30 => 0x4843FD0C#32
  | 31 => 0x4843FD0D#32
  | 32 => 0x4843FD0E#32
  | 33 => 0x4843FD0F#32
  | 34 => 0x4843FD10#32
  | 35 => 0x4843FD11#32
  | 36 => 0x4843FD12#32
  | 37 => 0x4843FD13#32
  | 38 => 0x4843FD14#32
  | 39 => 0x4843FD15#32
  | 40 => 0x4843FD16#32
  | 41 => 0x4843FD17#32
  | 42 => 0x4843FD18#32
  | 43 => 0x4843FD19#32
  | 44 => 0x4843FD1A#32
  | 45 => 0x4843FD1B#32
  | 46 => 0x4843FD1C#32
  | 47 => 0x4843FD1D#32
  | 48 => 0x4843FD1E#32
  | 49 => 0x4843FD1F#32
  | 50 => 0x4843FD20#32
  | 51 => 0x4843FD21#32
  | 52 => 0x4843FD22#32
  | 53 => 0x4843FD23#32
  | 54 => 0x4843FD24#32
  | 55 => 0x4843FD25#32
  | 56 => 0x4843FD26#32
  | 57 => 0x4843FD27#32
  | 58 => 0x4843FD28#32
  | 59 => 0x4843FD29#32
  | 60 => 0x4843FD2A#32
  | 61 => 0x4843FD2B#32
  | 62 => 0x4843FD2C#32
  | 63 => 0x4843FD2D#32
  | 64 => 0x4843FD2E#32
  | 65 => 0x4843FD2F#32
  | 66 => 0x4843FD30#32
  | 67 => 0x4843FD31#32
  | 68 => 0x4843FD32#32
  | 69 => 0x4843FD33#32
  | 70 => 0x4843FD34#32
  | 71 => 0x4843FD35#32
  | 72 => 0x4843FD36#32
  | 73 => 0x4843FD37#32
  | 74 => 0x4843FD38#32
  | 75 => 0x4843FD39#32
  | 76 => 0x4843FD3A#32
  | 77 => 0x4843FD3B#32
  | 78 => 0x4843FD3C#32
  | 79 => 0x4843FD3D#32
  | 80 => 0x4843FD3E#32
  | 81 => 0x4843FD3F#32
  | 82 => 0x4843FD40#32
  | 83 => 0x4843FD41#32
  | 84 => 0x4843FD42#32
  | 85 => 0x4843FD43#32
  | 86 => 0x4843FD44#32
  | 87 => 0x4843FD45#32
  | 88 => 0x4843FD46#32
  | 89 => 0x4843FD47#32
  | 90 => 0x4843FD48#32
  | 91 => 0x4843FD49#32
  | 92 => 0x4843FD4A#32
  | 93 => 0x4843FD4B#32
  | 94 => 0x4843FD4C#32
  | 95 => 0x4843FD4D#32
  | 96 => 0x4843FD4E#32
  | 97 => 0x4843FD4F#32
  | 98 => 0x4843FD50#32
  | 99 => 0x4843FD51#32
  | 100 => 0x4843FD52#32
  | 101 => 0x4843FD53#32
  | 102 => 0x4843FD54#32
  | 103 => 0x4843FD55#32
  | 104 => 0x4843FD56#32
  | 105 => 0x4843FD57#32
  | 106 => 0x4843FD58#32
  | 107 => 0x4843FD59#32
  | 108 => 0x4843FD5A#32
  | 109 => 0x4843FD5B#32
  | 110 => 0x4843FD5C#32
  | 111 => 0x4843FD5D#32
  | 112 => 0x4843FD5E#32
  | 113 => 0x4843FD5F#32
  | 114 => 0x4843FD60#32
  | 115 => 0x4843FD61#32
  | 116 => 0x4843FD62#32
  | 117 => 0x4843FD63#32
  | 118 => 0x4843FD64#32
  | 119 => 0x4843FD65#32
  | 120 => 0x4843FD66#32
  | 121 => 0x4843FD67#32
  | 122 => 0x4843FD68#32
  | 123 => 0x4843FD69#32
  | 124 => 0x4843FD6A#32
  | 125 => 0x4843FD6B#32
  | 126 => 0x4843FD6C#32
  | 127 => 0x4843FD6D#32
  | _ => 0#32

noncomputable abbrev lit0t0_75 (i : Nat) : BitVec 32 := match i % 128 with
  | 0 => 0x4843FD6E#32
  | 1 => 0x4843FD6F#32
  | 2 => 0x4843FD70#32
  | 3 => 0x4843FD71#32
  | 4 => 0x4843FD72#32
  | 5 => 0x4843FD73#32
  | 6 => 0x4843FD74#32
  | 7 => 0x4843FD75#32
  | 8 => 0x4843FD76#32
  | 9 => 0x4843FD77#32
  | 10 => 0x4843FD78#32
  | 11 => 0x4843FD79#32
  | 12 => 0x4843FD7A#32
  | 13 => 0x4843FD7B#32
  | 14 => 0x4843FD7C#32
  | 15 => 0x4843FD7D#32
  | 16 => 0x4843FD7E#32
  | 17 => 0x4843FD7F#32
  | 18 => 0x4843FD80#32
  | 19 => 0x4843FD81#32
  | 20 => 0x4843FD82#32
  | 21 => 0x4843FD83#32
  | 22 => 0x4843FD84#32
  | 23 => 0x4843FD85#32
  | 24 => 0x4843FD86#32
  | 25 => 0x4843FD87#32
  | 26 => 0x4843FD88#32
  | 27 => 0x4843FD89#32
  | 28 => 0x4843FD8A#32
  | 29 => 0x4843FD8B#32
  | 30 => 0x4843FD8C#32
  | 31 => 0x4843FD8D#32
  | 32 => 0x4843FD8E#32
  | 33 => 0x4843FD8F#32
  | 34 => 0x4843FD90#32
  | 35 => 0x4843FD91#32
  | 36 => 0x4843FD92#32
  | 37 => 0x4843FD93#32
  | 38 => 0x4843FD94#32
  | 39 => 0x4843FD95#32
  | 40 => 0x4843FD96#32
  | 41 => 0x4843FD97#32
  | 42 => 0x4843FD98#32
  | 43 => 0x4843FD99#32
  | 44 => 0x4843FD9A#32
  | 45 => 0x4843FD9B#32
  | 46 => 0x4843FD9C#32
  | 47 => 0x4843FD9D#32
  | 48 => 0x4843FD9E#32
  | 49 => 0x4843FD9F#32
  | 50 => 0x4843FDA0#32
  | 51 => 0x4843FDA1#32
  | 52 => 0x4843FDA2#32
  | 53 => 0x4843FDA3#32
  | 54 => 0x4843FDA4#32
  | 55 => 0x4843FDA5#32
  | 56 => 0x4843FDA6#32
  | 57 => 0x4843FDA7#32
  | 58 => 0x4843FDA8#32
  | 59 => 0x4843FDA9#32
  | 60 => 0x4843FDAA#32
  | 61 => 0x4843FDAB#32
  | 62 => 0x4843FDAC#32
  | 63 => 0x4843FDAD#32
  | 64 => 0x4843FDAE#32
  | 65 => 0x4843FDAF#32
  | 66 => 0x4843FDB0#32
  | 67 => 0x4843FDB1#32
  | 68 => 0x4843FDB2#32
  | 69 => 0x4843FDB3#32
  | 70 => 0x4843FDB4#32
  | 71 => 0x4843FDB5#32
  | 72 => 0x4843FDB6#32
  | 73 => 0x4843FDB7#32
  | 74 => 0x4843FDB8#32
  | 75 => 0x4843FDB9#32
  | 76 => 0x4843FDBA#32
  | 77 => 0x4843FDBB#32
  | 78 => 0x4843FDBC#32
  | 79 => 0x4843FDBD#32
  | 80 => 0x4843FDBE#32
  | 81 => 0x4843FDBF#32
  | 82 => 0x4843FDC0#32
  | 83 => 0x4843FDC1#32
  | 84 => 0x4843FDC2#32
  | 85 => 0x4843FDC3#32
  | 86 => 0x4843FDC4#32
  | 87 => 0x4843FDC5#32
  | 88 => 0x4843FDC6#32
  | 89 => 0x4843FDC7#32
  | 90 => 0x4843FDC8#32
  | 91 => 0x4843FDC9#32
  | 92 => 0x4843FDCA#32
  | 93 => 0x4843FDCB#32
  | 94 => 0x4843FDCC#32
  | 95 => 0x4843FDCD#32
  | 96 => 0x4843FDCE#32
  | 97 => 0x4843FDCF#32
  | 98 => 0x4843FDD0#32
  | 99 => 0x4843FDD1#32
  | 100 => 0x4843FDD2#32
  | 101 => 0x4843FDD3#32
  | 102 => 0x4843FDD4#32
  | 103 => 0x4843FDD5#32
  | 104 => 0x4843FDD6#32
  | 105 => 0x4843FDD7#32
  | 106 => 0x4843FDD8#32
  | 107 => 0x4843FDD9#32
  | 108 => 0x4843FDDA#32
  | 109 => 0x4843FDDB#32
  | 110 => 0x4843FDDC#32
  | 111 => 0x4843FDDD#32
  | 112 => 0x4843FDDE#32
  | 113 => 0x4843FDDF#32
  | 114 => 0x4843FDE0#32
  | 115 => 0x4843FDE1#32
  | 116 => 0x4843FDE2#32
  | 117 => 0x4843FDE3#32
  | 118 => 0x4843FDE4#32
  | 119 => 0x4843FDE5#32
  | 120 => 0x4843FDE6#32
  | 121 => 0x4843FDE7#32
  | 122 => 0x4843FDE8#32
  | 123 => 0x4843FDE9#32
  | 124 => 0x4843FDEA#32
  | 125 => 0x4843FDEB#32
  | 126 => 0x4843FDEC#32
  | 127 => 0x4843FDED#32
  | _ => 0#32

noncomputable abbrev lit0t0_76 (i : Nat) : BitVec 32 := match i % 128 with
  | 0 => 0x4843FDEE#32
  | 1 => 0x4843FDEF#32
  | 2 => 0x4843FDF0#32
  | 3 => 0x4843FDF1#32
  | 4 => 0x4843FDF2#32
  | 5 => 0x4843FDF3#32
  | 6 => 0x4843FDF4#32
  | 7 => 0x4843FDF5#32
  | 8 => 0x4843FDF6#32
  | 9 => 0x4843FDF7#32
  | 10 => 0x4843FDF8#32
  | 11 => 0x4843FDF9#32
  | 12 => 0x4843FDFA#32
  | 13 => 0x4843FDFB#32
  | 14 => 0x4843FDFC#32
  | 15 => 0x4843FDFD#32
  | 16 => 0x4843FDFE#32
  | 17 => 0x4843FDFF#32
  | 18 => 0x4843FE00#32
  | 19 => 0x4843FE01#32
  | 20 => 0x4843FE02#32
  | 21 => 0x4843FE03#32
  | 22 => 0x4843FE04#32
  | 23 => 0x4843FE05#32
  | 24 => 0x4843FE06#32
  | 25 => 0x4843FE07#32
  | 26 => 0x4843FE08#32
  | 27 => 0x4843FE09#32
  | 28 => 0x4843FE0A#32
  | 29 => 0x4843FE0B#32
  | 30 => 0x4843FE0C#32
  | 31 => 0x4843FE0D#32
  | 32 => 0x4843FE0E#32
  | 33 => 0x4843FE0F#32
  | 34 => 0x4843FE10#32
  | 35 => 0x4843FE11#32
  | 36 => 0x4843FE12#32
  | 37 => 0x4843FE13#32
  | 38 => 0x4843FE14#32
  | 39 => 0x4843FE15#32
  | 40 => 0x4843FE16#32
  | 41 => 0x4843FE17#32
  | 42 => 0x4843FE18#32
  | 43 => 0x4843FE19#32
  | 44 => 0x4843FE1A#32
  | 45 => 0x4843FE1B#32
  | 46 => 0x4843FE1C#32
  | 47 => 0x4843FE1D#32
  | 48 => 0x4843FE1E#32
  | 49 => 0x4843FE1F#32
  | 50 => 0x4843FE20#32
  | 51 => 0x4843FE21#32
  | 52 => 0x4843FE22#32
  | 53 => 0x4843FE23#32
  | 54 => 0x4843FE24#32
  | 55 => 0x4843FE25#32
  | 56 => 0x4843FE26#32
  | 57 => 0x4843FE27#32
  | 58 => 0x4843FE28#32
  | 59 => 0x4843FE29#32
  | 60 => 0x4843FE2A#32
  | 61 => 0x4843FE2B#32
  | 62 => 0x4843FE2C#32
  | 63 => 0x4843FE2D#32
  | 64 => 0x4843FE2E#32
  | 65 => 0x4843FE2F#32
  | 66 => 0x4843FE30#32
  | 67 => 0x4843FE31#32
  | 68 => 0x4843FE32#32
  | 69 => 0x4843FE33#32
  | 70 => 0x4843FE34#32
  | 71 => 0x4843FE35#32
  | 72 => 0x4843FE36#32
  | 73 => 0x4843FE37#32
  | 74 => 0x4843FE38#32
  | 75 => 0x4843FE39#32
  | 76 => 0x4843FE3A#32
  | 77 => 0x4843FE3B#32
  | 78 => 0x4843FE3C#32
  | 79 => 0x4843FE3D#32
  | 80 => 0x4843FE3E#32
  | 81 => 0x4843FE3F#32
  | 82 => 0x4843FE40#32
  | 83 => 0x4843FE41#32
  | 84 => 0x4843FE42#32
  | 85 => 0x4843FE43#32
  | 86 => 0x4843FE44#32
  | 87 => 0x4843FE45#32
  | 88 => 0x4843FE46#32
  | 89 => 0x4843FE47#32
  | 90 => 0x4843FE48#32
  | 91 => 0x4843FE49#32
  | 92 => 0x4843FE4A#32
  | 93 => 0x4843FE4B#32
  | 94 => 0x4843FE4C#32
  | 95 => 0x4843FE4D#32
  | 96 => 0x4843FE4E#32
  | 97 => 0x4843FE4F#32
  | 98 => 0x4843FE50#32
  | 99 => 0x4843FE51#32
  | 100 => 0x4843FE52#32
  | 101 => 0x4843FE53#32
  | 102 => 0x4843FE54#32
  | 103 => 0x4843FE55#32
  | 104 => 0x4843FE56#32
  | 105 => 0x4843FE57#32
  | 106 => 0x4843FE58#32
  | 107 => 0x4843FE59#32
  | 108 => 0x4843FE5A#32
  | 109 => 0x4843FE5B#32
  | 110 => 0x4843FE5C#32
  | 111 => 0x4843FE5D#32
  | 112 => 0x4843FE5E#32
  | 113 => 0x4843FE5F#32
  | 114 => 0x4843FE60#32
  | 115 => 0x4843FE61#32
  | 116 => 0x4843FE62#32
  | 117 => 0x4843FE63#32
  | 118 => 0x4843FE64#32
  | 119 => 0x4843FE65#32
  | 120 => 0x4843FE66#32
  | 121 => 0x4843FE67#32
  | 122 => 0x4843FE68#32
  | 123 => 0x4843FE69#32
  | 124 => 0x4843FE6A#32
  | 125 => 0x4843FE6B#32
  | 126 => 0x4843FE6C#32
  | 127 => 0x4843FE6D#32
  | _ => 0#32

noncomputable abbrev lit0t0_77 (i : Nat) : BitVec 32 := match i % 128 with
  | 0 => 0x4843FE6E#32
  | 1 => 0x4843FE6F#32
  | 2 => 0x4843FE70#32
  | 3 => 0x4843FE71#32
  | 4 => 0x4843FE72#32
  | 5 => 0x4843FE73#32
  | 6 => 0x4843FE74#32
  | 7 => 0x4843FE75#32
  | 8 => 0x4843FE76#32
  | 9 => 0x4843FE77#32
  | 10 => 0x4843FE78#32
  | 11 => 0x4843FE79#32
  | 12 => 0x4843FE7A#32
  | 13 => 0x4843FE7B#32
  | 14 => 0x4843FE7C#32
  | 15 => 0x4843FE7D#32
  | 16 => 0x4843FE7E#32
  | 17 => 0x4843FE7F#32
  | 18 => 0x4843FE80#32
  | 19 => 0x4843FE81#32
  | 20 => 0x4843FE82#32
  | 21 => 0x4843FE83#32
  | 22 => 0x4843FE84#32
  | 23 => 0x4843FE85#32
  | 24 => 0x4843FE86#32
  | 25 => 0x4843FE87#32
  | 26 => 0x4843FE88#32
  | 27 => 0x4843FE89#32
  | 28 => 0x4843FE8A#32
  | 29 => 0x4843FE8B#32
  | 30 => 0x4843FE8C#32
  | 31 => 0x4843FE8D#32
  | 32 => 0x4843FE8E#32
  | 33 => 0x4843FE8F#32
  | 34 => 0x4843FE90#32
  | 35 => 0x4843FE91#32
  | 36 => 0x4843FE92#32
  | 37 => 0x4843FE93#32
  | 38 => 0x4843FE94#32
  | 39 => 0x4843FE95#32
  | 40 => 0x4843FE96#32
  | 41 => 0x4843FE97#32
  | 42 => 0x4843FE98#32
  | 43 => 0x4843FE99#32
  | 44 => 0x4843FE9A#32
  | 45 => 0x4843FE9B#32
  | 46 => 0x4843FE9C#32
  | 47 => 0x4843FE9D#32
  | 48 => 0x4843FE9E#32
  | 49 => 0x4843FE9F#32
  | 50 => 0x4843FEA0#32
  | 51 => 0x4843FEA1#32
  | 52 => 0x4843FEA2#32
  | 53 => 0x4843FEA3#32
  | 54 => 0x4843FEA4#32
  | 55 => 0x4843FEA5#32
  | 56 => 0x4843FEA6#32
  | 57 => 0x4843FEA7#32
  | 58 => 0x4843FEA8#32
  | 59 => 0x4843FEA9#32
  | 60 => 0x4843FEAA#32
  | 61 => 0x4843FEAB#32
  | 62 => 0x4843FEAC#32
  | 63 => 0x4843FEAD#32
  | 64 => 0x4843FEAE#32
  | 65 => 0x4843FEAF#32
  | 66 => 0x4843FEB0#32
  | 67 => 0x4843FEB1#32
  | 68 => 0x4843FEB2#32
  | 69 => 0x4843FEB3#32
  | 70 => 0x4843FEB4#32
  | 71 => 0x4843FEB5#32
  | 72 => 0x4843FEB6#32
  | 73 => 0x4843FEB7#32
  | 74 => 0x4843FEB8#32
  | 75 => 0x4843FEB9#32
  | 76 => 0x4843FEBA#32
  | 77 => 0x4843FEBB#32
  | 78 => 0x4843FEBC#32
  | 79 => 0x4843FEBD#32
  | 80 => 0x4843FEBE#32
  | 81 => 0x4843FEBF#32
  | 82 => 0x4843FEC0#32
  | 83 => 0x4843FEC1#32
  | 84 => 0x4843FEC2#32
  | 85 => 0x4843FEC3#32
  | 86 => 0x4843FEC4#32
  | 87 => 0x4843FEC5#32
  | 88 => 0x4843FEC6#32
  | 89 => 0x4843FEC7#32
  | 90 => 0x4843FEC8#32
  | 91 => 0x4843FEC9#32
  | 92 => 0x4843FECA#32
  | 93 => 0x4843FECB#32
  | 94 => 0x4843FECC#32
  | 95 => 0x4843FECD#32
  | 96 => 0x4843FECE#32
  | 97 => 0x4843FECF#32
  | 98 => 0x4843FED0#32
  | 99 => 0x4843FED1#32
  | 100 => 0x4843FED2#32
  | 101 => 0x4843FED3#32
  | 102 => 0x4843FED4#32
  | 103 => 0x4843FED5#32
  | 104 => 0x4843FED6#32
  | 105 => 0x4843FED7#32
  | 106 => 0x4843FED8#32
  | 107 => 0x4843FED9#32
  | 108 => 0x4843FEDA#32
  | 109 => 0x4843FEDB#32
  | 110 => 0x4843FEDC#32
  | 111 => 0x4843FEDD#32
  | 112 => 0x4843FEDE#32
  | 113 => 0x4843FEDF#32
  | 114 => 0x4843FEE0#32
  | 115 => 0x4843FEE1#32
  | 116 => 0x4843FEE2#32
  | 117 => 0x4843FEE3#32
  | 118 => 0x4843FEE4#32
  | 119 => 0x4843FEE5#32
  | 120 => 0x4843FEE6#32
  | 121 => 0x4843FEE7#32
  | 122 => 0x4843FEE8#32
  | 123 => 0x4843FEE9#32
  | 124 => 0x4843FEEA#32
  | 125 => 0x4843FEEB#32
  | 126 => 0x4843FEEC#32
  | 127 => 0x4843FEED#32
  | _ => 0#32

noncomputable abbrev lit0t0_78 (i : Nat) : BitVec 32 := match i % 128 with
  | 0 => 0x4843FEEE#32
  | 1 => 0x4843FEEF#32
  | 2 => 0x4843FEF0#32
  | 3 => 0x4843FEF1#32
  | 4 => 0x4843FEF2#32
  | 5 => 0x4843FEF3#32
  | 6 => 0x4843FEF4#32
  | 7 => 0x4843FEF5#32
  | 8 => 0x4843FEF6#32
  | 9 => 0x4843FEF7#32
  | 10 => 0x4843FEF8#32
  | 11 => 0x4843FEF9#32
  | 12 => 0x4843FEFA#32
  | 13 => 0x4843FEFB#32
  | 14 => 0x4843FEFC#32
  | 15 => 0x4843FEFD#32
  | 16 => 0x4843FEFE#32
  | 17 => 0x4843FEFF#32
  | 18 => 0x4843FF00#32
  | 19 => 0x4843FF01#32
  | 20 => 0x4843FF02#32
  | 21 => 0x4843FF03#32
  | 22 => 0x4843FF04#32
  | 23 => 0x4843FF05#32
  | 24 => 0x4843FF06#32
  | 25 => 0x4843FF07#32
  | 26 => 0x4843FF08#32
  | 27 => 0x4843FF09#32
  | 28 => 0x4843FF0A#32
  | 29 => 0x4843FF0B#32
  | 30 => 0x4843FF0C#32
  | 31 => 0x4843FF0D#32
  | 32 => 0x4843FF0E#32
  | 33 => 0x4843FF0F#32
  | 34 => 0x4843FF10#32
  | 35 => 0x4843FF11#32
  | 36 => 0x4843FF12#32
  | 37 => 0x4843FF13#32
  | 38 => 0x4843FF14#32
  | 39 => 0x4843FF15#32
  | 40 => 0x4843FF16#32
  | 41 => 0x4843FF17#32
  | 42 => 0x4843FF18#32
  | 43 => 0x4843FF19#32
  | 44 => 0x4843FF1A#32
  | 45 => 0x4843FF1B#32
  | 46 => 0x4843FF1C#32
  | 47 => 0x4843FF1D#32
  | 48 => 0x4843FF1E#32
  | 49 => 0x4843FF1F#32
  | 50 => 0x4843FF20#32
  | 51 => 0x4843FF21#32
  | 52 => 0x4843FF22#32
  | 53 => 0x4843FF23#32
  | 54 => 0x4843FF24#32
  | 55 => 0x4843FF25#32
  | 56 => 0x4843FF26#32
  | 57 => 0x4843FF27#32
  | 58 => 0x4843FF28#32
  | 59 => 0x4843FF29#32
  | 60 => 0x4843FF2A#32
  | 61 => 0x4843FF2B#32
  | 62 => 0x4843FF2C#32
  | 63 => 0x4843FF2D#32
  | 64 => 0x4843FF2E#32
  | 65 => 0x4843FF2F#32
  | 66 => 0x4843FF30#32
  | 67 => 0x4843FF31#32
  | 68 => 0x4843FF32#32
  | 69 => 0x4843FF33#32
  | 70 => 0x4843FF34#32
  | 71 => 0x4843FF35#32
  | 72 => 0x4843FF36#32
  | 73 => 0x4843FF37#32
  | 74 => 0x4843FF38#32
  | 75 => 0x4843FF39#32
  | 76 => 0x4843FF3A#32
  | 77 => 0x4843FF3B#32
  | 78 => 0x4843FF3C#32
  | 79 => 0x4843FF3D#32
  | 80 => 0x4843FF3E#32
  | 81 => 0x4843FF3F#32
  | 82 => 0x4843FF40#32
  | 83 => 0x4843FF41#32
  | 84 => 0x4843FF42#32
  | 85 => 0x4843FF43#32
  | 86 => 0x4843FF44#32
  | 87 => 0x4843FF45#32
  | 88 => 0x4843FF46#32
  | 89 => 0x4843FF47#32
  | 90 => 0x4843FF48#32
  | 91 => 0x4843FF49#32
  | 92 => 0x4843FF4A#32
  | 93 => 0x4843FF4B#32
  | 94 => 0x4843FF4C#32
  | 95 => 0x4843FF4D#32
  | 96 => 0x4843FF4E#32
  | 97 => 0x4843FF4F#32
  | 98 => 0x4843FF50#32
  | 99 => 0x4843FF51#32
  | 100 => 0x4843FF52#32
  | 101 => 0x4843FF53#32
  | 102 => 0x4843FF54#32
  | 103 => 0x4843FF55#32
  | 104 => 0x4843FF56#32
  | 105 => 0x4843FF57#32
  | 106 => 0x4843FF58#32
  | 107 => 0x4843FF59#32
  | 108 => 0x4843FF5A#32
  | 109 => 0x4843FF5B#32
  | 110 => 0x4843FF5C#32
  | 111 => 0x4843FF5D#32
  | 112 => 0x4843FF5E#32
  | 113 => 0x4843FF5F#32
  | 114 => 0x4843FF60#32
  | 115 => 0x4843FF61#32
  | 116 => 0x4843FF62#32
  | 117 => 0x4843FF63#32
  | 118 => 0x4843FF64#32
  | 119 => 0x4843FF65#32
  | 120 => 0x4843FF66#32
  | 121 => 0x4843FF67#32
  | 122 => 0x4843FF68#32
  | 123 => 0x4843FF69#32
  | 124 => 0x4843FF6A#32
  | 125 => 0x4843FF6B#32
  | 126 => 0x4843FF6C#32
  | 127 => 0x4843FF6D#32
  | _ => 0#32

noncomputable abbrev lit0t0_79 (i : Nat) : BitVec 32 := match i % 128 with
  | 0 => 0x4843FF6E#32
  | 1 => 0x4843FF6F#32
  | 2 => 0x4843FF70#32
  | 3 => 0x4843FF71#32
  | 4 => 0x4843FF72#32
  | 5 => 0x4843FF73#32
  | 6 => 0x4843FF74#32
  | 7 => 0x4843FF75#32
  | 8 => 0x4843FF76#32
  | 9 => 0x4843FF77#32
  | 10 => 0x4843FF78#32
  | 11 => 0x4843FF79#32
  | 12 => 0x4843FF7A#32
  | 13 => 0x4843FF7B#32
  | 14 => 0x4843FF7C#32
  | 15 => 0x4843FF7D#32
  | 16 => 0x4843FF7E#32
  | 17 => 0x4843FF7F#32
  | 18 => 0x4843FF80#32
  | 19 => 0x4843FF81#32
  | 20 => 0x4843FF82#32
  | 21 => 0x4843FF83#32
  | 22 => 0x4843FF84#32
  | 23 => 0x4843FF85#32
  | 24 => 0x4843FF86#32
  | 25 => 0x4843FF87#32
  | 26 => 0x4843FF88#32
  | 27 => 0x4843FF89#32
  | 28 => 0x4843FF8A#32
  | 29 => 0x4843FF8B#32
  | 30 => 0x4843FF8C#32
  | 31 => 0x4843FF8D#32
  | 32 => 0x4843FF8E#32
  | 33 => 0x4843FF8F#32
  | 34 => 0x4843FF90#32
  | 35 => 0x4843FF91#32
  | 36 => 0x4843FF92#32
  | 37 => 0x4843FF93#32
  | 38 => 0x4843FF94#32
  | 39 => 0x4843FF95#32
  | 40 => 0x4843FF96#32
  | 41 => 0x4843FF97#32
  | 42 => 0x4843FF98#32
  | 43 => 0x4843FF99#32
  | 44 => 0x4843FF9A#32
  | 45 => 0x4843FF9B#32
  | 46 => 0x4843FF9C#32
  | 47 => 0x4843FF9D#32
  | 48 => 0x4843FF9E#32
  | 49 => 0x4843FF9F#32
  | 50 => 0x4843FFA0#32
  | 51 => 0x4843FFA1#32
  | 52 => 0x4843FFA2#32
  | 53 => 0x4843FFA3#32
  | 54 => 0x4843FFA4#32
  | 55 => 0x4843FFA5#32
  | 56 => 0x4843FFA6#32
  | 57 => 0x4843FFA7#32
  | 58 => 0x4843FFA8#32
  | 59 => 0x4843FFA9#32
  | 60 => 0x4843FFAA#32
  | 61 => 0x4843FFAB#32
  | 62 => 0x4843FFAC#32
  | 63 => 0x4843FFAD#32
  | 64 => 0x4843FFAE#32
  | 65 => 0x4843FFAF#32
  | 66 => 0x4843FFB0#32
  | 67 => 0x4843FFB1#32
  | 68 => 0x4843FFB2#32
  | 69 => 0x4843FFB3#32
  | 70 => 0x4843FFB4#32
  | 71 => 0x4843FFB5#32
  | 72 => 0x4843FFB6#32
  | 73 => 0x4843FFB7#32
  | 74 => 0x4843FFB8#32
  | 75 => 0x4843FFB9#32
  | 76 => 0x4843FFBA#32
  | 77 => 0x4843FFBB#32
  | 78 => 0x4843FFBC#32
  | 79 => 0x4843FFBD#32
  | 80 => 0x4843FFBE#32
  | 81 => 0x4843FFBF#32
  | 82 => 0x4843FFC0#32
  | 83 => 0x4843FFC1#32
  | 84 => 0x4843FFC2#32
  | 85 => 0x4843FFC3#32
  | 86 => 0x4843FFC4#32
  | 87 => 0x4843FFC5#32
  | 88 => 0x4843FFC6#32
  | 89 => 0x4843FFC7#32
  | 90 => 0x4843FFC8#32
  | 91 => 0x4843FFC9#32
  | 92 => 0x4843FFCA#32
  | 93 => 0x4843FFCB#32
  | 94 => 0x4843FFCC#32
  | 95 => 0x4843FFCD#32
  | 96 => 0x4843FFCE#32
  | 97 => 0x4843FFCF#32
  | 98 => 0x4843FFD0#32
  | 99 => 0x4843FFD1#32
  | 100 => 0x4843FFD2#32
  | 101 => 0x4843FFD3#32
  | 102 => 0x4843FFD4#32
  | 103 => 0x4843FFD5#32
  | 104 => 0x4843FFD6#32
  | 105 => 0x4843FFD7#32
  | 106 => 0x4843FFD8#32
  | 107 => 0x4843FFD9#32
  | 108 => 0x4843FFDA#32
  | 109 => 0x4843FFDB#32
  | 110 => 0x4843FFDC#32
  | 111 => 0x4843FFDD#32
  | 112 => 0x4843FFDE#32
  | 113 => 0x4843FFDF#32
  | 114 => 0x4843FFE0#32
  | 115 => 0x4843FFE1#32
  | 116 => 0x4843FFE2#32
  | 117 => 0x4843FFE3#32
  | 118 => 0x4843FFE4#32
  | 119 => 0x4843FFE5#32
  | 120 => 0x4843FFE6#32
  | 121 => 0x4843FFE7#32
  | 122 => 0x4843FFE8#32
  | 123 => 0x4843FFE9#32
  | 124 => 0x4843FFEA#32
  | 125 => 0x4843FFEB#32
  | 126 => 0x4843FFEC#32
  | 127 => 0x4843FFED#32
  | _ => 0#32

noncomputable abbrev lit0t0_80 (i : Nat) : BitVec 32 := match i % 128 with
  | 0 => 0x4843FFEE#32
  | 1 => 0x4843FFEF#32
  | 2 => 0x4843FFF0#32
  | 3 => 0x4843FFF1#32
  | 4 => 0x4843FFF2#32
  | 5 => 0x4843FFF3#32
  | 6 => 0x4843FFF4#32
  | 7 => 0x4843FFF5#32
  | 8 => 0x4843FFF6#32
  | 9 => 0x4843FFF7#32
  | 10 => 0x4843FFF8#32
  | 11 => 0x4843FFF9#32
  | 12 => 0x4843FFFA#32
  | 13 => 0x4843FFFB#32
  | 14 => 0x4843FFFC#32
  | 15 => 0x4843FFFD#32
  | 16 => 0x4843FFFE#32
  | 17 => 0x4843FFFF#32
  | 18 => 0x48440000#32
  | 19 => 0x48440001#32
  | 20 => 0x48440002#32
  | 21 => 0x48440003#32
  | 22 => 0x48440004#32
  | 23 => 0x48440005#32
  | 24 => 0x48440006#32
  | 25 => 0x48440007#32
  | 26 => 0x48440008#32
  | 27 => 0x48440009#32
  | 28 => 0x4844000A#32
  | 29 => 0x4844000B#32
  | 30 => 0x4844000C#32
  | 31 => 0x4844000D#32
  | 32 => 0x4844000E#32
  | 33 => 0x4844000F#32
  | 34 => 0x48440010#32
  | 35 => 0x48440011#32
  | 36 => 0x48440012#32
  | 37 => 0x48440013#32
  | 38 => 0x48440014#32
  | 39 => 0x48440015#32
  | 40 => 0x48440016#32
  | 41 => 0x48440017#32
  | 42 => 0x48440018#32
  | 43 => 0x48440019#32
  | 44 => 0x4844001A#32
  | 45 => 0x4844001B#32
  | 46 => 0x4844001C#32
  | 47 => 0x4844001D#32
  | 48 => 0x4844001E#32
  | 49 => 0x4844001F#32
  | 50 => 0x48440020#32
  | 51 => 0x48440021#32
  | 52 => 0x48440022#32
  | 53 => 0x48440023#32
  | 54 => 0x48440024#32
  | 55 => 0x48440025#32
  | 56 => 0x48440026#32
  | 57 => 0x48440027#32
  | 58 => 0x48440028#32
  | 59 => 0x48440029#32
  | 60 => 0x4844002A#32
  | 61 => 0x4844002B#32
  | 62 => 0x4844002C#32
  | 63 => 0x4844002D#32
  | 64 => 0x4844002E#32
  | 65 => 0x4844002F#32
  | 66 => 0x48440030#32
  | 67 => 0x48440031#32
  | 68 => 0x48440032#32
  | 69 => 0x48440033#32
  | 70 => 0x48440034#32
  | 71 => 0x48440035#32
  | 72 => 0x48440036#32
  | 73 => 0x48440037#32
  | 74 => 0x48440038#32
  | 75 => 0x48440039#32
  | 76 => 0x4844003A#32
  | 77 => 0x4844003B#32
  | 78 => 0x4844003C#32
  | 79 => 0x4844003D#32
  | 80 => 0x4844003E#32
  | 81 => 0x4844003F#32
  | 82 => 0x48440040#32
  | 83 => 0x48440041#32
  | 84 => 0x48440042#32
  | 85 => 0x48440043#32
  | 86 => 0x48440044#32
  | 87 => 0x48440045#32
  | 88 => 0x48440046#32
  | 89 => 0x48440047#32
  | 90 => 0x48440048#32
  | 91 => 0x48440049#32
  | 92 => 0x4844004A#32
  | 93 => 0x4844004B#32
  | 94 => 0x4844004C#32
  | 95 => 0x4844004D#32
  | 96 => 0x4844004E#32
  | 97 => 0x4844004F#32
  | 98 => 0x48440050#32
  | 99 => 0x48440051#32
  | 100 => 0x48440052#32
  | 101 => 0x48440053#32
  | 102 => 0x48440054#32
  | 103 => 0x48440055#32
  | 104 => 0x48440056#32
  | 105 => 0x48440057#32
  | 106 => 0x48440058#32
  | 107 => 0x48440059#32
  | 108 => 0x4844005A#32
  | 109 => 0x4844005B#32
  | 110 => 0x4844005C#32
  | 111 => 0x4844005D#32
  | 112 => 0x4844005E#32
  | 113 => 0x4844005F#32
  | 114 => 0x48440060#32
  | 115 => 0x48440061#32
  | 116 => 0x48440062#32
  | 117 => 0x48440063#32
  | 118 => 0x48440064#32
  | 119 => 0x48440065#32
  | 120 => 0x48440066#32
  | 121 => 0x48440067#32
  | 122 => 0x48440068#32
  | 123 => 0x48440069#32
  | 124 => 0x4844006A#32
  | 125 => 0x4844006B#32
  | 126 => 0x4844006C#32
  | 127 => 0x4844006D#32
  | _ => 0#32

noncomputable abbrev lit0t0_81 (i : Nat) : BitVec 32 := match i % 128 with
  | 0 => 0x4844006E#32
  | 1 => 0x4844006F#32
  | 2 => 0x48440070#32
  | 3 => 0x48440071#32
  | 4 => 0x48440072#32
  | 5 => 0x48440073#32
  | 6 => 0x48440074#32
  | 7 => 0x48440075#32
  | 8 => 0x48440076#32
  | 9 => 0x48440077#32
  | 10 => 0x48440078#32
  | 11 => 0x48440079#32
  | 12 => 0x4844007A#32
  | 13 => 0x4844007B#32
  | 14 => 0x4844007C#32
  | 15 => 0x4844007D#32
  | 16 => 0x4844007E#32
  | 17 => 0x4844007F#32
  | 18 => 0x48440080#32
  | 19 => 0x48440081#32
  | 20 => 0x48440082#32
  | 21 => 0x48440083#32
  | 22 => 0x48440084#32
  | 23 => 0x48440085#32
  | 24 => 0x48440086#32
  | 25 => 0x48440087#32
  | 26 => 0x48440088#32
  | 27 => 0x48440089#32
  | 28 => 0x4844008A#32
  | 29 => 0x4844008B#32
  | 30 => 0x4844008C#32
  | 31 => 0x4844008D#32
  | 32 => 0x4844008E#32
  | 33 => 0x4844008F#32
  | 34 => 0x48440090#32
  | 35 => 0x48440091#32
  | 36 => 0x48440092#32
  | 37 => 0x48440093#32
  | 38 => 0x48440094#32
  | 39 => 0x48440095#32
  | 40 => 0x48440096#32
  | 41 => 0x48440097#32
  | 42 => 0x48440098#32
  | 43 => 0x48440099#32
  | 44 => 0x4844009A#32
  | 45 => 0x4844009B#32
  | 46 => 0x4844009C#32
  | 47 => 0x4844009D#32
  | 48 => 0x4844009E#32
  | 49 => 0x4844009F#32
  | 50 => 0x484400A0#32
  | 51 => 0x484400A1#32
  | 52 => 0x484400A2#32
  | 53 => 0x484400A3#32
  | 54 => 0x484400A4#32
  | 55 => 0x484400A5#32
  | 56 => 0x484400A6#32
  | 57 => 0x484400A7#32
  | 58 => 0x484400A8#32
  | 59 => 0x484400A9#32
  | 60 => 0x484400AA#32
  | 61 => 0x484400AB#32
  | 62 => 0x484400AC#32
  | 63 => 0x484400AD#32
  | 64 => 0x484400AE#32
  | 65 => 0x484400AF#32
  | 66 => 0x484400B0#32
  | 67 => 0x484400B1#32
  | 68 => 0x484400B2#32
  | 69 => 0x484400B3#32
  | 70 => 0x484400B4#32
  | 71 => 0x484400B5#32
  | 72 => 0x484400B6#32
  | 73 => 0x484400B7#32
  | 74 => 0x484400B8#32
  | 75 => 0x484400B9#32
  | 76 => 0x484400BA#32
  | 77 => 0x484400BB#32
  | 78 => 0x484400BC#32
  | 79 => 0x484400BD#32
  | 80 => 0x484400BE#32
  | 81 => 0x484400BF#32
  | 82 => 0x484400C0#32
  | 83 => 0x484400C1#32
  | 84 => 0x484400C2#32
  | 85 => 0x484400C3#32
  | 86 => 0x484400C4#32
  | 87 => 0x484400C5#32
  | 88 => 0x484400C6#32
  | 89 => 0x484400C7#32
  | 90 => 0x484400C8#32
  | 91 => 0x484400C9#32
  | 92 => 0x484400CA#32
  | 93 => 0x484400CB#32
  | 94 => 0x484400CC#32
  | 95 => 0x484400CD#32
  | 96 => 0x484400CE#32
  | 97 => 0x484400CF#32
  | 98 => 0x484400D0#32
  | 99 => 0x484400D1#32
  | 100 => 0x484400D2#32
  | 101 => 0x484400D3#32
  | 102 => 0x484400D4#32
  | 103 => 0x484400D5#32
  | 104 => 0x484400D6#32
  | 105 => 0x484400D7#32
  | 106 => 0x484400D8#32
  | 107 => 0x484400D9#32
  | 108 => 0x484400DA#32
  | 109 => 0x484400DB#32
  | 110 => 0x484400DC#32
  | 111 => 0x484400DD#32
  | 112 => 0x484400DE#32
  | 113 => 0x484400DF#32
  | 114 => 0x484400E0#32
  | 115 => 0x484400E1#32
  | 116 => 0x484400E2#32
  | 117 => 0x484400E3#32
  | 118 => 0x484400E4#32
  | 119 => 0x484400E5#32
  | 120 => 0x484400E6#32
  | 121 => 0x484400E7#32
  | 122 => 0x484400E8#32
  | 123 => 0x484400E9#32
  | 124 => 0x484400EA#32
  | 125 => 0x484400EB#32
  | 126 => 0x484400EC#32
  | 127 => 0x484400ED#32
  | _ => 0#32

noncomputable abbrev lit0t0_82 (i : Nat) : BitVec 32 := match i % 128 with
  | 0 => 0x484400EE#32
  | 1 => 0x484400EF#32
  | 2 => 0x484400F0#32
  | 3 => 0x484400F1#32
  | 4 => 0x484400F2#32
  | 5 => 0x484400F3#32
  | 6 => 0x484400F4#32
  | 7 => 0x484400F5#32
  | 8 => 0x484400F6#32
  | 9 => 0x484400F7#32
  | 10 => 0x484400F8#32
  | 11 => 0x484400F9#32
  | 12 => 0x484400FA#32
  | 13 => 0x484400FB#32
  | 14 => 0x484400FC#32
  | 15 => 0x484400FD#32
  | 16 => 0x484400FE#32
  | 17 => 0x484400FF#32
  | 18 => 0x48440100#32
  | 19 => 0x48440101#32
  | 20 => 0x48440102#32
  | 21 => 0x48440103#32
  | 22 => 0x48440104#32
  | 23 => 0x48440105#32
  | 24 => 0x48440106#32
  | 25 => 0x48440107#32
  | 26 => 0x48440108#32
  | 27 => 0x48440109#32
  | 28 => 0x4844010A#32
  | 29 => 0x4844010B#32
  | 30 => 0x4844010C#32
  | 31 => 0x4844010D#32
  | 32 => 0x4844010E#32
  | 33 => 0x4844010F#32
  | 34 => 0x48440110#32
  | 35 => 0x48440111#32
  | 36 => 0x48440112#32
  | 37 => 0x48440113#32
  | 38 => 0x48440114#32
  | 39 => 0x48440115#32
  | 40 => 0x48440116#32
  | 41 => 0x48440117#32
  | 42 => 0x48440118#32
  | 43 => 0x48440119#32
  | 44 => 0x4844011A#32
  | 45 => 0x4844011B#32
  | 46 => 0x4844011C#32
  | 47 => 0x4844011D#32
  | 48 => 0x4844011E#32
  | 49 => 0x4844011F#32
  | 50 => 0x48440120#32
  | 51 => 0x48440121#32
  | 52 => 0x48440122#32
  | 53 => 0x48440123#32
  | 54 => 0x48440124#32
  | 55 => 0x48440125#32
  | 56 => 0x48440126#32
  | 57 => 0x48440127#32
  | 58 => 0x48440128#32
  | 59 => 0x48440129#32
  | 60 => 0x4844012A#32
  | 61 => 0x4844012B#32
  | 62 => 0x4844012C#32
  | 63 => 0x4844012D#32
  | 64 => 0x4844012E#32
  | 65 => 0x4844012F#32
  | 66 => 0x48440130#32
  | 67 => 0x48440131#32
  | 68 => 0x48440132#32
  | 69 => 0x48440133#32
  | 70 => 0x48440134#32
  | 71 => 0x48440135#32
  | 72 => 0x48440136#32
  | 73 => 0x48440137#32
  | 74 => 0x48440138#32
  | 75 => 0x48440139#32
  | 76 => 0x4844013A#32
  | 77 => 0x4844013B#32
  | 78 => 0x4844013C#32
  | 79 => 0x4844013D#32
  | 80 => 0x4844013E#32
  | 81 => 0x4844013F#32
  | 82 => 0x48440140#32
  | 83 => 0x48440141#32
  | 84 => 0x48440142#32
  | 85 => 0x48440143#32
  | 86 => 0x48440144#32
  | 87 => 0x48440145#32
  | 88 => 0x48440146#32
  | 89 => 0x48440147#32
  | 90 => 0x48440148#32
  | 91 => 0x48440149#32
  | 92 => 0x4844014A#32
  | 93 => 0x4844014B#32
  | 94 => 0x4844014C#32
  | 95 => 0x4844014D#32
  | 96 => 0x4844014E#32
  | 97 => 0x4844014F#32
  | 98 => 0x48440150#32
  | 99 => 0x48440151#32
  | 100 => 0x48440152#32
  | 101 => 0x48440153#32
  | 102 => 0x48440154#32
  | 103 => 0x48440155#32
  | 104 => 0x48440156#32
  | 105 => 0x48440157#32
  | 106 => 0x48440158#32
  | 107 => 0x48440159#32
  | 108 => 0x4844015A#32
  | 109 => 0x4844015B#32
  | 110 => 0x4844015C#32
  | 111 => 0x4844015D#32
  | 112 => 0x4844015E#32
  | 113 => 0x4844015F#32
  | 114 => 0x48440160#32
  | 115 => 0x48440161#32
  | 116 => 0x48440162#32
  | 117 => 0x48440163#32
  | 118 => 0x48440164#32
  | 119 => 0x48440165#32
  | 120 => 0x48440166#32
  | 121 => 0x48440167#32
  | 122 => 0x48440168#32
  | 123 => 0x48440169#32
  | 124 => 0x4844016A#32
  | 125 => 0x4844016B#32
  | 126 => 0x4844016C#32
  | 127 => 0x4844016D#32
  | _ => 0#32

noncomputable abbrev lit0t0_83 (i : Nat) : BitVec 32 := match i % 128 with
  | 0 => 0x4844016E#32
  | 1 => 0x4844016F#32
  | 2 => 0x48440170#32
  | 3 => 0x48440171#32
  | 4 => 0x48440172#32
  | 5 => 0x48440173#32
  | 6 => 0x48440174#32
  | 7 => 0x48440175#32
  | 8 => 0x48440176#32
  | 9 => 0x48440177#32
  | 10 => 0x48440178#32
  | 11 => 0x48440179#32
  | 12 => 0x4844017A#32
  | 13 => 0x4844017B#32
  | 14 => 0x4844017C#32
  | 15 => 0x4844017D#32
  | 16 => 0x4844017E#32
  | 17 => 0x4844017F#32
  | 18 => 0x48440180#32
  | 19 => 0x48440181#32
  | 20 => 0x48440182#32
  | 21 => 0x48440183#32
  | 22 => 0x48440184#32
  | 23 => 0x48440185#32
  | 24 => 0x48440186#32
  | 25 => 0x48440187#32
  | 26 => 0x48440188#32
  | 27 => 0x48440189#32
  | 28 => 0x4844018A#32
  | 29 => 0x4844018B#32
  | 30 => 0x4844018C#32
  | 31 => 0x4844018D#32
  | 32 => 0x4844018E#32
  | 33 => 0x4844018F#32
  | 34 => 0x48440190#32
  | 35 => 0x48440191#32
  | 36 => 0x48440192#32
  | 37 => 0x48440193#32
  | 38 => 0x48440194#32
  | 39 => 0x48440195#32
  | 40 => 0x48440196#32
  | 41 => 0x48440197#32
  | 42 => 0x48440198#32
  | 43 => 0x48440199#32
  | 44 => 0x4844019A#32
  | 45 => 0x4844019B#32
  | 46 => 0x4844019C#32
  | 47 => 0x4844019D#32
  | 48 => 0x4844019E#32
  | 49 => 0x4844019F#32
  | 50 => 0x484401A0#32
  | 51 => 0x484401A1#32
  | 52 => 0x484401A2#32
  | 53 => 0x484401A3#32
  | 54 => 0x484401A4#32
  | 55 => 0x484401A5#32
  | 56 => 0x484401A6#32
  | 57 => 0x484401A7#32
  | 58 => 0x484401A8#32
  | 59 => 0x484401A9#32
  | 60 => 0x484401AA#32
  | 61 => 0x484401AB#32
  | 62 => 0x484401AC#32
  | 63 => 0x484401AD#32
  | 64 => 0x484401AE#32
  | 65 => 0x484401AF#32
  | 66 => 0x484401B0#32
  | 67 => 0x484401B1#32
  | 68 => 0x484401B2#32
  | 69 => 0x484401B3#32
  | 70 => 0x484401B4#32
  | 71 => 0x484401B5#32
  | 72 => 0x484401B6#32
  | 73 => 0x484401B7#32
  | 74 => 0x484401B8#32
  | 75 => 0x484401B9#32
  | 76 => 0x484401BA#32
  | 77 => 0x484401BB#32
  | 78 => 0x484401BC#32
  | 79 => 0x484401BD#32
  | 80 => 0x484401BE#32
  | 81 => 0x484401BF#32
  | 82 => 0x484401C0#32
  | 83 => 0x484401C1#32
  | 84 => 0x484401C2#32
  | 85 => 0x484401C3#32
  | 86 => 0x484401C4#32
  | 87 => 0x484401C5#32
  | 88 => 0x484401C6#32
  | 89 => 0x484401C7#32
  | 90 => 0x484401C8#32
  | 91 => 0x484401C9#32
  | 92 => 0x484401CA#32
  | 93 => 0x484401CB#32
  | 94 => 0x484401CC#32
  | 95 => 0x484401CD#32
  | 96 => 0x484401CE#32
  | 97 => 0x484401CF#32
  | 98 => 0x484401D0#32
  | 99 => 0x484401D1#32
  | 100 => 0x484401D2#32
  | 101 => 0x484401D3#32
  | 102 => 0x484401D4#32
  | 103 => 0x484401D5#32
  | 104 => 0x484401D6#32
  | 105 => 0x484401D7#32
  | 106 => 0x484401D8#32
  | 107 => 0x484401D9#32
  | 108 => 0x484401DA#32
  | 109 => 0x484401DB#32
  | 110 => 0x484401DC#32
  | 111 => 0x484401DD#32
  | 112 => 0x484401DE#32
  | 113 => 0x484401DF#32
  | 114 => 0x484401E0#32
  | 115 => 0x484401E1#32
  | 116 => 0x484401E2#32
  | 117 => 0x484401E3#32
  | 118 => 0x484401E4#32
  | 119 => 0x484401E5#32
  | 120 => 0x484401E6#32
  | 121 => 0x484401E7#32
  | 122 => 0x484401E8#32
  | 123 => 0x484401E9#32
  | 124 => 0x484401EA#32
  | 125 => 0x484401EB#32
  | 126 => 0x484401EC#32
  | 127 => 0x484401ED#32
  | _ => 0#32

noncomputable abbrev lit0t0_84 (i : Nat) : BitVec 32 := match i % 128 with
  | 0 => 0x484401EE#32
  | 1 => 0x484401EF#32
  | 2 => 0x484401F0#32
  | 3 => 0x484401F1#32
  | 4 => 0x484401F2#32
  | 5 => 0x484401F3#32
  | 6 => 0x484401F4#32
  | 7 => 0x484401F5#32
  | 8 => 0x484401F6#32
  | 9 => 0x484401F7#32
  | 10 => 0x484401F8#32
  | 11 => 0x484401F9#32
  | 12 => 0x484401FA#32
  | 13 => 0x484401FB#32
  | 14 => 0x484401FC#32
  | 15 => 0x484401FD#32
  | 16 => 0x484401FE#32
  | 17 => 0x484401FF#32
  | 18 => 0x48440200#32
  | 19 => 0x48440201#32
  | 20 => 0x48440202#32
  | 21 => 0x48440203#32
  | 22 => 0x48440204#32
  | 23 => 0x48440205#32
  | 24 => 0x48440206#32
  | 25 => 0x48440207#32
  | 26 => 0x48440208#32
  | 27 => 0x48440209#32
  | 28 => 0x4844020A#32
  | 29 => 0x4844020B#32
  | 30 => 0x4844020C#32
  | 31 => 0x4844020D#32
  | 32 => 0x4844020E#32
  | 33 => 0x4844020F#32
  | 34 => 0x48440210#32
  | 35 => 0x48440211#32
  | 36 => 0x48440212#32
  | 37 => 0x48440213#32
  | 38 => 0x48440214#32
  | 39 => 0x48440215#32
  | 40 => 0x48440216#32
  | 41 => 0x48440217#32
  | 42 => 0x48440218#32
  | 43 => 0x48440219#32
  | 44 => 0x4844021A#32
  | 45 => 0x4844021B#32
  | 46 => 0x4844021C#32
  | 47 => 0x4844021D#32
  | 48 => 0x4844021E#32
  | 49 => 0x4844021F#32
  | 50 => 0x48440220#32
  | 51 => 0x48440221#32
  | 52 => 0x48440222#32
  | 53 => 0x48440223#32
  | 54 => 0x48440224#32
  | 55 => 0x48440225#32
  | 56 => 0x48440226#32
  | 57 => 0x48440227#32
  | 58 => 0x48440228#32
  | 59 => 0x48440229#32
  | 60 => 0x4844022A#32
  | 61 => 0x4844022B#32
  | 62 => 0x4844022C#32
  | 63 => 0x4844022D#32
  | 64 => 0x4844022E#32
  | 65 => 0x4844022F#32
  | 66 => 0x48440230#32
  | 67 => 0x48440231#32
  | 68 => 0x48440232#32
  | 69 => 0x48440233#32
  | 70 => 0x48440234#32
  | 71 => 0x48440235#32
  | 72 => 0x48440236#32
  | 73 => 0x48440237#32
  | 74 => 0x48440238#32
  | 75 => 0x48440239#32
  | 76 => 0x4844023A#32
  | 77 => 0x4844023B#32
  | 78 => 0x4844023C#32
  | 79 => 0x4844023D#32
  | 80 => 0x4844023E#32
  | 81 => 0x4844023F#32
  | 82 => 0x48440240#32
  | 83 => 0x48440241#32
  | 84 => 0x48440242#32
  | 85 => 0x48440243#32
  | 86 => 0x48440244#32
  | 87 => 0x48440245#32
  | 88 => 0x48440246#32
  | 89 => 0x48440247#32
  | 90 => 0x48440248#32
  | 91 => 0x48440249#32
  | 92 => 0x4844024A#32
  | 93 => 0x4844024B#32
  | 94 => 0x4844024C#32
  | 95 => 0x4844024D#32
  | 96 => 0x4844024E#32
  | 97 => 0x4844024F#32
  | 98 => 0x48440250#32
  | 99 => 0x48440251#32
  | 100 => 0x48440252#32
  | 101 => 0x48440253#32
  | 102 => 0x48440254#32
  | 103 => 0x48440255#32
  | 104 => 0x48440256#32
  | 105 => 0x48440257#32
  | 106 => 0x48440258#32
  | 107 => 0x48440259#32
  | 108 => 0x4844025A#32
  | 109 => 0x4844025B#32
  | 110 => 0x4844025C#32
  | 111 => 0x4844025D#32
  | 112 => 0x4844025E#32
  | 113 => 0x4844025F#32
  | 114 => 0x48440260#32
  | 115 => 0x48440261#32
  | 116 => 0x48440262#32
  | 117 => 0x48440263#32
  | 118 => 0x48440264#32
  | 119 => 0x48440265#32
  | 120 => 0x48440266#32
  | 121 => 0x48440267#32
  | 122 => 0x48440268#32
  | 123 => 0x48440269#32
  | 124 => 0x4844026A#32
  | 125 => 0x4844026B#32
  | 126 => 0x4844026C#32
  | 127 => 0x4844026D#32
  | _ => 0#32

noncomputable abbrev lit0t0_85 (i : Nat) : BitVec 32 := match i % 128 with
  | 0 => 0x4844026E#32
  | 1 => 0x4844026F#32
  | 2 => 0x48440270#32
  | 3 => 0x48440271#32
  | 4 => 0x48440272#32
  | 5 => 0x48440273#32
  | 6 => 0x48440274#32
  | 7 => 0x48440275#32
  | 8 => 0x48440276#32
  | 9 => 0x48440277#32
  | 10 => 0x48440278#32
  | 11 => 0x48440279#32
  | 12 => 0x4844027A#32
  | 13 => 0x4844027B#32
  | 14 => 0x4844027C#32
  | 15 => 0x4844027D#32
  | 16 => 0x4844027E#32
  | 17 => 0x4844027F#32
  | 18 => 0x48440280#32
  | 19 => 0x48440281#32
  | 20 => 0x48440282#32
  | 21 => 0x48440283#32
  | 22 => 0x48440284#32
  | 23 => 0x48440285#32
  | 24 => 0x48440286#32
  | 25 => 0x48440287#32
  | 26 => 0x48440288#32
  | 27 => 0x48440289#32
  | 28 => 0x4844028A#32
  | 29 => 0x4844028B#32
  | 30 => 0x4844028C#32
  | 31 => 0x4844028D#32
  | 32 => 0x4844028E#32
  | 33 => 0x4844028F#32
  | 34 => 0x48440290#32
  | 35 => 0x48440291#32
  | 36 => 0x48440292#32
  | 37 => 0x48440293#32
  | 38 => 0x48440294#32
  | 39 => 0x48440295#32
  | 40 => 0x48440296#32
  | 41 => 0x48440297#32
  | 42 => 0x48440298#32
  | 43 => 0x48440299#32
  | 44 => 0x4844029A#32
  | 45 => 0x4844029B#32
  | 46 => 0x4844029C#32
  | 47 => 0x4844029D#32
  | 48 => 0x4844029E#32
  | 49 => 0x4844029F#32
  | 50 => 0x484402A0#32
  | 51 => 0x484402A1#32
  | 52 => 0x484402A2#32
  | 53 => 0x484402A3#32
  | 54 => 0x484402A4#32
  | 55 => 0x484402A5#32
  | 56 => 0x484402A6#32
  | 57 => 0x484402A7#32
  | 58 => 0x484402A8#32
  | 59 => 0x484402A9#32
  | 60 => 0x484402AA#32
  | 61 => 0x484402AB#32
  | 62 => 0x484402AC#32
  | 63 => 0x484402AD#32
  | 64 => 0x484402AE#32
  | 65 => 0x484402AF#32
  | 66 => 0x484402B0#32
  | 67 => 0x484402B1#32
  | 68 => 0x484402B2#32
  | 69 => 0x484402B3#32
  | 70 => 0x484402B4#32
  | 71 => 0x484402B5#32
  | 72 => 0x484402B6#32
  | 73 => 0x484402B7#32
  | 74 => 0x484402B8#32
  | 75 => 0x484402B9#32
  | 76 => 0x484402BA#32
  | 77 => 0x484402BB#32
  | 78 => 0x484402BC#32
  | 79 => 0x484402BD#32
  | 80 => 0x484402BE#32
  | 81 => 0x484402BF#32
  | 82 => 0x484402C0#32
  | 83 => 0x484402C1#32
  | 84 => 0x484402C2#32
  | 85 => 0x484402C3#32
  | 86 => 0x484402C4#32
  | 87 => 0x484402C5#32
  | 88 => 0x484402C6#32
  | 89 => 0x484402C7#32
  | 90 => 0x484402C8#32
  | 91 => 0x484402C9#32
  | 92 => 0x484402CA#32
  | 93 => 0x484402CB#32
  | 94 => 0x484402CC#32
  | 95 => 0x484402CD#32
  | 96 => 0x484402CE#32
  | 97 => 0x484402CF#32
  | 98 => 0x484402D0#32
  | 99 => 0x484402D1#32
  | 100 => 0x484402D2#32
  | 101 => 0x484402D3#32
  | 102 => 0x484402D4#32
  | 103 => 0x484402D5#32
  | 104 => 0x484402D6#32
  | 105 => 0x484402D7#32
  | 106 => 0x484402D8#32
  | 107 => 0x484402D9#32
  | 108 => 0x484402DA#32
  | 109 => 0x484402DB#32
  | 110 => 0x484402DC#32
  | 111 => 0x484402DD#32
  | 112 => 0x484402DE#32
  | 113 => 0x484402DF#32
  | 114 => 0x484402E0#32
  | 115 => 0x484402E1#32
  | 116 => 0x484402E2#32
  | 117 => 0x484402E3#32
  | 118 => 0x484402E4#32
  | 119 => 0x484402E5#32
  | 120 => 0x484402E6#32
  | 121 => 0x484402E7#32
  | 122 => 0x484402E8#32
  | 123 => 0x484402E9#32
  | 124 => 0x484402EA#32
  | 125 => 0x484402EB#32
  | 126 => 0x484402EC#32
  | 127 => 0x484402ED#32
  | _ => 0#32

noncomputable abbrev lit0t0_86 (i : Nat) : BitVec 32 := match i % 128 with
  | 0 => 0x484402EE#32
  | 1 => 0x484402EF#32
  | 2 => 0x484402F0#32
  | 3 => 0x484402F1#32
  | 4 => 0x484402F2#32
  | 5 => 0x484402F3#32
  | 6 => 0x484402F4#32
  | 7 => 0x484402F5#32
  | 8 => 0x484402F6#32
  | 9 => 0x484402F7#32
  | 10 => 0x484402F8#32
  | 11 => 0x484402F9#32
  | 12 => 0x484402FA#32
  | 13 => 0x484402FB#32
  | 14 => 0x484402FC#32
  | 15 => 0x484402FD#32
  | 16 => 0x484402FE#32
  | 17 => 0x484402FF#32
  | 18 => 0x48440300#32
  | 19 => 0x48440301#32
  | 20 => 0x48440302#32
  | 21 => 0x48440303#32
  | 22 => 0x48440304#32
  | 23 => 0x48440305#32
  | 24 => 0x48440306#32
  | 25 => 0x48440307#32
  | 26 => 0x48440308#32
  | 27 => 0x48440309#32
  | 28 => 0x4844030A#32
  | 29 => 0x4844030B#32
  | 30 => 0x4844030C#32
  | 31 => 0x4844030D#32
  | 32 => 0x4844030E#32
  | 33 => 0x4844030F#32
  | 34 => 0x48440310#32
  | 35 => 0x48440311#32
  | 36 => 0x48440312#32
  | 37 => 0x48440313#32
  | 38 => 0x48440314#32
  | 39 => 0x48440315#32
  | 40 => 0x48440316#32
  | 41 => 0x48440317#32
  | 42 => 0x48440318#32
  | 43 => 0x48440319#32
  | 44 => 0x4844031A#32
  | 45 => 0x4844031B#32
  | 46 => 0x4844031C#32
  | 47 => 0x4844031D#32
  | 48 => 0x4844031E#32
  | 49 => 0x4844031F#32
  | 50 => 0x48440320#32
  | 51 => 0x48440321#32
  | 52 => 0x48440322#32
  | 53 => 0x48440323#32
  | 54 => 0x48440324#32
  | 55 => 0x48440325#32
  | 56 => 0x48440326#32
  | 57 => 0x48440327#32
  | 58 => 0x48440328#32
  | 59 => 0x48440329#32
  | 60 => 0x4844032A#32
  | 61 => 0x4844032B#32
  | 62 => 0x4844032C#32
  | 63 => 0x4844032D#32
  | 64 => 0x4844032E#32
  | 65 => 0x4844032F#32
  | 66 => 0x48440330#32
  | 67 => 0x48440331#32
  | 68 => 0x48440332#32
  | 69 => 0x48440333#32
  | 70 => 0x48440334#32
  | 71 => 0x48440335#32
  | 72 => 0x48440336#32
  | 73 => 0x48440337#32
  | 74 => 0x48440338#32
  | 75 => 0x48440339#32
  | 76 => 0x4844033A#32
  | 77 => 0x4844033B#32
  | 78 => 0x4844033C#32
  | 79 => 0x4844033D#32
  | 80 => 0x4844033E#32
  | 81 => 0x4844033F#32
  | 82 => 0x48440340#32
  | 83 => 0x48440341#32
  | 84 => 0x48440342#32
  | 85 => 0x48440343#32
  | 86 => 0x48440344#32
  | 87 => 0x48440345#32
  | 88 => 0x48440346#32
  | 89 => 0x48440347#32
  | 90 => 0x48440348#32
  | 91 => 0x48440349#32
  | 92 => 0x4844034A#32
  | 93 => 0x4844034B#32
  | 94 => 0x4844034C#32
  | 95 => 0x4844034D#32
  | 96 => 0x4844034E#32
  | 97 => 0x4844034F#32
  | 98 => 0x48440350#32
  | 99 => 0x48440351#32
  | 100 => 0x48440352#32
  | 101 => 0x48440353#32
  | 102 => 0x48440354#32
  | 103 => 0x48440355#32
  | 104 => 0x48440356#32
  | 105 => 0x48440357#32
  | 106 => 0x48440358#32
  | 107 => 0x48440359#32
  | 108 => 0x4844035A#32
  | 109 => 0x4844035B#32
  | 110 => 0x4844035C#32
  | 111 => 0x4844035D#32
  | 112 => 0x4844035E#32
  | 113 => 0x4844035F#32
  | 114 => 0x48440360#32
  | 115 => 0x48440361#32
  | 116 => 0x48440362#32
  | 117 => 0x48440363#32
  | 118 => 0x48440364#32
  | 119 => 0x48440365#32
  | 120 => 0x48440366#32
  | 121 => 0x48440367#32
  | 122 => 0x48440368#32
  | 123 => 0x48440369#32
  | 124 => 0x4844036A#32
  | 125 => 0x4844036B#32
  | 126 => 0x4844036C#32
  | 127 => 0x4844036D#32
  | _ => 0#32

noncomputable abbrev lit0t0_87 (i : Nat) : BitVec 32 := match i % 128 with
  | 0 => 0x4844036E#32
  | 1 => 0x4844036F#32
  | 2 => 0x48440370#32
  | 3 => 0x48440371#32
  | 4 => 0x48440372#32
  | 5 => 0x48440373#32
  | 6 => 0x48440374#32
  | 7 => 0x48440375#32
  | 8 => 0x48440376#32
  | 9 => 0x48440377#32
  | 10 => 0x48440378#32
  | 11 => 0x48440379#32
  | 12 => 0x4844037A#32
  | 13 => 0x4844037B#32
  | 14 => 0x4844037C#32
  | 15 => 0x4844037D#32
  | 16 => 0x4844037E#32
  | 17 => 0x4844037F#32
  | 18 => 0x48440380#32
  | 19 => 0x48440381#32
  | 20 => 0x48440382#32
  | 21 => 0x48440383#32
  | 22 => 0x48440384#32
  | 23 => 0x48440385#32
  | 24 => 0x48440386#32
  | 25 => 0x48440387#32
  | 26 => 0x48440388#32
  | 27 => 0x48440389#32
  | 28 => 0x4844038A#32
  | 29 => 0x4844038B#32
  | 30 => 0x4844038C#32
  | 31 => 0x4844038D#32
  | 32 => 0x4844038E#32
  | 33 => 0x4844038F#32
  | 34 => 0x48440390#32
  | 35 => 0x48440391#32
  | 36 => 0x48440392#32
  | 37 => 0x48440393#32
  | 38 => 0x48440394#32
  | 39 => 0x48440395#32
  | 40 => 0x48440396#32
  | 41 => 0x48440397#32
  | 42 => 0x48440398#32
  | 43 => 0x48440399#32
  | 44 => 0x4844039A#32
  | 45 => 0x4844039B#32
  | 46 => 0x4844039C#32
  | 47 => 0x4844039D#32
  | 48 => 0x4844039E#32
  | 49 => 0x4844039F#32
  | 50 => 0x484403A0#32
  | 51 => 0x484403A1#32
  | 52 => 0x484403A2#32
  | 53 => 0x484403A3#32
  | 54 => 0x484403A4#32
  | 55 => 0x484403A5#32
  | 56 => 0x484403A6#32
  | 57 => 0x484403A7#32
  | 58 => 0x484403A8#32
  | 59 => 0x484403A9#32
  | 60 => 0x484403AA#32
  | 61 => 0x484403AB#32
  | 62 => 0x484403AC#32
  | 63 => 0x484403AD#32
  | 64 => 0x484403AE#32
  | 65 => 0x484403AF#32
  | 66 => 0x484403B0#32
  | 67 => 0x484403B1#32
  | 68 => 0x484403B2#32
  | 69 => 0x484403B3#32
  | 70 => 0x484403B4#32
  | 71 => 0x484403B5#32
  | 72 => 0x484403B6#32
  | 73 => 0x484403B7#32
  | 74 => 0x484403B8#32
  | 75 => 0x484403B9#32
  | 76 => 0x484403BA#32
  | 77 => 0x484403BB#32
  | 78 => 0x484403BC#32
  | 79 => 0x484403BD#32
  | 80 => 0x484403BE#32
  | 81 => 0x484403BF#32
  | 82 => 0x484403C0#32
  | 83 => 0x484403C1#32
  | 84 => 0x484403C2#32
  | 85 => 0x484403C3#32
  | 86 => 0x484403C4#32
  | 87 => 0x484403C5#32
  | 88 => 0x484403C6#32
  | 89 => 0x484403C7#32
  | 90 => 0x484403C8#32
  | 91 => 0x484403C9#32
  | 92 => 0x484403CA#32
  | 93 => 0x484403CB#32
  | 94 => 0x484403CC#32
  | 95 => 0x484403CD#32
  | 96 => 0x484403CE#32
  | 97 => 0x484403CF#32
  | 98 => 0x484403D0#32
  | 99 => 0x484403D1#32
  | 100 => 0x484403D2#32
  | 101 => 0x484403D3#32
  | 102 => 0x484403D4#32
  | 103 => 0x484403D5#32
  | 104 => 0x484403D6#32
  | 105 => 0x484403D7#32
  | 106 => 0x484403D8#32
  | 107 => 0x484403D9#32
  | 108 => 0x484403DA#32
  | 109 => 0x484403DB#32
  | 110 => 0x484403DC#32
  | 111 => 0x484403DD#32
  | 112 => 0x484403DE#32
  | 113 => 0x484403DF#32
  | 114 => 0x484403E0#32
  | 115 => 0x484403E1#32
  | 116 => 0x484403E2#32
  | 117 => 0x484403E3#32
  | 118 => 0x484403E4#32
  | 119 => 0x484403E5#32
  | 120 => 0x484403E6#32
  | 121 => 0x484403E7#32
  | 122 => 0x484403E8#32
  | 123 => 0x484403E9#32
  | 124 => 0x484403EA#32
  | 125 => 0x484403EB#32
  | 126 => 0x484403EC#32
  | 127 => 0x484403ED#32
  | _ => 0#32

noncomputable abbrev lit0t0_88 (i : Nat) : BitVec 32 := match i % 128 with
  | 0 => 0x484403EE#32
  | 1 => 0x484403EF#32
  | 2 => 0x484403F0#32
  | 3 => 0x484403F1#32
  | 4 => 0x484403F2#32
  | 5 => 0x484403F3#32
  | 6 => 0x484403F4#32
  | 7 => 0x484403F5#32
  | 8 => 0x484403F6#32
  | 9 => 0x484403F7#32
  | 10 => 0x484403F8#32
  | 11 => 0x484403F9#32
  | 12 => 0x484403FA#32
  | 13 => 0x484403FB#32
  | 14 => 0x484403FC#32
  | 15 => 0x484403FD#32
  | 16 => 0x484403FE#32
  | 17 => 0x484403FF#32
  | 18 => 0x48440400#32
  | 19 => 0x48440401#32
  | 20 => 0x48440402#32
  | 21 => 0x48440403#32
  | 22 => 0x48440404#32
  | 23 => 0x48440405#32
  | 24 => 0x48440406#32
  | 25 => 0x48440407#32
  | 26 => 0x48440408#32
  | 27 => 0x48440409#32
  | 28 => 0x4844040A#32
  | 29 => 0x4844040B#32
  | 30 => 0x4844040C#32
  | 31 => 0x4844040D#32
  | 32 => 0x4844040E#32
  | 33 => 0x4844040F#32
  | 34 => 0x48440410#32
  | 35 => 0x48440411#32
  | 36 => 0x48440412#32
  | 37 => 0x48440413#32
  | 38 => 0x48440414#32
  | 39 => 0x48440415#32
  | 40 => 0x48440416#32
  | 41 => 0x48440417#32
  | 42 => 0x48440418#32
  | 43 => 0x48440419#32
  | 44 => 0x4844041A#32
  | 45 => 0x4844041B#32
  | 46 => 0x4844041C#32
  | 47 => 0x4844041D#32
  | 48 => 0x4844041E#32
  | 49 => 0x4844041F#32
  | 50 => 0x48440420#32
  | 51 => 0x48440421#32
  | 52 => 0x48440422#32
  | 53 => 0x48440423#32
  | 54 => 0x48440424#32
  | 55 => 0x48440425#32
  | 56 => 0x48440426#32
  | 57 => 0x48440427#32
  | 58 => 0x48440428#32
  | 59 => 0x48440429#32
  | 60 => 0x4844042A#32
  | 61 => 0x4844042B#32
  | 62 => 0x4844042C#32
  | 63 => 0x4844042D#32
  | 64 => 0x4844042E#32
  | 65 => 0x4844042F#32
  | 66 => 0x48440430#32
  | 67 => 0x48440431#32
  | 68 => 0x48440432#32
  | 69 => 0x48440433#32
  | 70 => 0x48440434#32
  | 71 => 0x48440435#32
  | 72 => 0x48440436#32
  | 73 => 0x48440437#32
  | 74 => 0x48440438#32
  | 75 => 0x48440439#32
  | 76 => 0x4844043A#32
  | 77 => 0x4844043B#32
  | 78 => 0x4844043C#32
  | 79 => 0x4844043D#32
  | 80 => 0x4844043E#32
  | 81 => 0x4844043F#32
  | 82 => 0x48440440#32
  | 83 => 0x48440441#32
  | 84 => 0x48440442#32
  | 85 => 0x48440443#32
  | 86 => 0x48440444#32
  | 87 => 0x48440445#32
  | 88 => 0x48440446#32
  | 89 => 0x48440447#32
  | 90 => 0x48440448#32
  | 91 => 0x48440449#32
  | 92 => 0x4844044A#32
  | 93 => 0x4844044B#32
  | 94 => 0x4844044C#32
  | 95 => 0x4844044D#32
  | 96 => 0x4844044E#32
  | 97 => 0x4844044F#32
  | 98 => 0x48440450#32
  | 99 => 0x48440451#32
  | 100 => 0x48440452#32
  | 101 => 0x48440453#32
  | 102 => 0x48440454#32
  | 103 => 0x48440455#32
  | 104 => 0x48440456#32
  | 105 => 0x48440457#32
  | 106 => 0x48440458#32
  | 107 => 0x48440459#32
  | 108 => 0x4844045A#32
  | 109 => 0x4844045B#32
  | 110 => 0x4844045C#32
  | 111 => 0x4844045D#32
  | 112 => 0x4844045E#32
  | 113 => 0x4844045F#32
  | 114 => 0x48440460#32
  | 115 => 0x48440461#32
  | 116 => 0x48440462#32
  | 117 => 0x48440463#32
  | 118 => 0x48440464#32
  | 119 => 0x48440465#32
  | 120 => 0x48440466#32
  | 121 => 0x48440467#32
  | 122 => 0x48440468#32
  | 123 => 0x48440469#32
  | 124 => 0x4844046A#32
  | 125 => 0x4844046B#32
  | 126 => 0x4844046C#32
  | 127 => 0x4844046D#32
  | _ => 0#32

noncomputable abbrev lit0t0_89 (i : Nat) : BitVec 32 := match i % 128 with
  | 0 => 0x4844046E#32
  | 1 => 0x4844046F#32
  | 2 => 0x48440470#32
  | 3 => 0x48440471#32
  | 4 => 0x48440472#32
  | 5 => 0x48440473#32
  | 6 => 0x48440474#32
  | 7 => 0x48440475#32
  | 8 => 0x48440476#32
  | 9 => 0x48440477#32
  | 10 => 0x48440478#32
  | 11 => 0x48440479#32
  | 12 => 0x4844047A#32
  | 13 => 0x4844047B#32
  | 14 => 0x4844047C#32
  | 15 => 0x4844047D#32
  | 16 => 0x4844047E#32
  | 17 => 0x4844047F#32
  | 18 => 0x48440480#32
  | 19 => 0x48440481#32
  | 20 => 0x48440482#32
  | 21 => 0x48440483#32
  | 22 => 0x48440484#32
  | 23 => 0x48440485#32
  | 24 => 0x48440486#32
  | 25 => 0x48440487#32
  | 26 => 0x48440488#32
  | 27 => 0x48440489#32
  | 28 => 0x4844048A#32
  | 29 => 0x4844048B#32
  | 30 => 0x4844048C#32
  | 31 => 0x4844048D#32
  | 32 => 0x4844048E#32
  | 33 => 0x4844048F#32
  | 34 => 0x48440490#32
  | 35 => 0x48440491#32
  | 36 => 0x48440492#32
  | 37 => 0x48440493#32
  | 38 => 0x48440494#32
  | 39 => 0x48440495#32
  | 40 => 0x48440496#32
  | 41 => 0x48440497#32
  | 42 => 0x48440498#32
  | 43 => 0x48440499#32
  | 44 => 0x4844049A#32
  | 45 => 0x4844049B#32
  | 46 => 0x4844049C#32
  | 47 => 0x4844049D#32
  | 48 => 0x4844049E#32
  | 49 => 0x4844049F#32
  | 50 => 0x484404A0#32
  | 51 => 0x484404A1#32
  | 52 => 0x484404A2#32
  | 53 => 0x484404A3#32
  | 54 => 0x484404A4#32
  | 55 => 0x484404A5#32
  | 56 => 0x484404A6#32
  | 57 => 0x484404A7#32
  | 58 => 0x484404A8#32
  | 59 => 0x484404A9#32
  | 60 => 0x484404AA#32
  | 61 => 0x484404AB#32
  | 62 => 0x484404AC#32
  | 63 => 0x484404AD#32
  | 64 => 0x484404AE#32
  | 65 => 0x484404AF#32
  | 66 => 0x484404B0#32
  | 67 => 0x484404B1#32
  | 68 => 0x484404B2#32
  | 69 => 0x484404B3#32
  | 70 => 0x484404B4#32
  | 71 => 0x484404B5#32
  | 72 => 0x484404B6#32
  | 73 => 0x484404B7#32
  | 74 => 0x484404B8#32
  | 75 => 0x484404B9#32
  | 76 => 0x484404BA#32
  | 77 => 0x484404BB#32
  | 78 => 0x484404BC#32
  | 79 => 0x484404BD#32
  | 80 => 0x484404BE#32
  | 81 => 0x484404BF#32
  | 82 => 0x484404C0#32
  | 83 => 0x484404C1#32
  | 84 => 0x484404C2#32
  | 85 => 0x484404C3#32
  | 86 => 0x484404C4#32
  | 87 => 0x484404C5#32
  | 88 => 0x484404C6#32
  | 89 => 0x484404C7#32
  | 90 => 0x484404C8#32
  | 91 => 0x484404C9#32
  | 92 => 0x484404CA#32
  | 93 => 0x484404CB#32
  | 94 => 0x484404CC#32
  | 95 => 0x484404CD#32
  | 96 => 0x484404CE#32
  | 97 => 0x484404CF#32
  | 98 => 0x484404D0#32
  | 99 => 0x484404D1#32
  | 100 => 0x484404D2#32
  | 101 => 0x484404D3#32
  | 102 => 0x484404D4#32
  | 103 => 0x484404D5#32
  | 104 => 0x484404D6#32
  | 105 => 0x484404D7#32
  | 106 => 0x484404D8#32
  | 107 => 0x484404D9#32
  | 108 => 0x484404DA#32
  | 109 => 0x484404DB#32
  | 110 => 0x484404DC#32
  | 111 => 0x484404DD#32
  | 112 => 0x484404DE#32
  | 113 => 0x484404DF#32
  | 114 => 0x484404E0#32
  | 115 => 0x484404E1#32
  | 116 => 0x484404E2#32
  | 117 => 0x484404E3#32
  | 118 => 0x484404E4#32
  | 119 => 0x484404E5#32
  | 120 => 0x484404E6#32
  | 121 => 0x484404E7#32
  | 122 => 0x484404E8#32
  | 123 => 0x484404E9#32
  | 124 => 0x484404EA#32
  | 125 => 0x484404EB#32
  | 126 => 0x484404EC#32
  | 127 => 0x484404ED#32
  | _ => 0#32

noncomputable abbrev lit0t0_90 (i : Nat) : BitVec 32 := match i % 128 with
  | 0 => 0x484404EE#32
  | 1 => 0x484404EF#32
  | 2 => 0x484404F0#32
  | 3 => 0x484404F1#32
  | 4 => 0x484404F2#32
  | 5 => 0x484404F3#32
  | 6 => 0x484404F4#32
  | 7 => 0x484404F5#32
  | 8 => 0x484404F6#32
  | 9 => 0x484404F7#32
  | 10 => 0x484404F8#32
  | 11 => 0x484404F9#32
  | 12 => 0x484404FA#32
  | 13 => 0x484404FB#32
  | 14 => 0x484404FC#32
  | 15 => 0x484404FD#32
  | 16 => 0x484404FE#32
  | 17 => 0x484404FF#32
  | 18 => 0x48440500#32
  | 19 => 0x48440501#32
  | 20 => 0x48440502#32
  | 21 => 0x48440503#32
  | 22 => 0x48440504#32
  | 23 => 0x48440505#32
  | 24 => 0x48440506#32
  | 25 => 0x48440507#32
  | 26 => 0x48440508#32
  | 27 => 0x48440509#32
  | 28 => 0x4844050A#32
  | 29 => 0x4844050B#32
  | 30 => 0x4844050C#32
  | 31 => 0x4844050D#32
  | 32 => 0x4844050E#32
  | 33 => 0x4844050F#32
  | 34 => 0x48440510#32
  | 35 => 0x48440511#32
  | 36 => 0x48440512#32
  | 37 => 0x48440513#32
  | 38 => 0x48440514#32
  | 39 => 0x48440515#32
  | 40 => 0x48440516#32
  | 41 => 0x48440517#32
  | 42 => 0x48440518#32
  | 43 => 0x48440519#32
  | 44 => 0x4844051A#32
  | 45 => 0x4844051B#32
  | 46 => 0x4844051C#32
  | 47 => 0x4844051D#32
  | 48 => 0x4844051E#32
  | 49 => 0x4844051F#32
  | 50 => 0x48440520#32
  | 51 => 0x48440521#32
  | 52 => 0x48440522#32
  | 53 => 0x48440523#32
  | 54 => 0x48440524#32
  | 55 => 0x48440525#32
  | 56 => 0x48440526#32
  | 57 => 0x48440527#32
  | 58 => 0x48440528#32
  | 59 => 0x48440529#32
  | 60 => 0x4844052A#32
  | 61 => 0x4844052B#32
  | 62 => 0x4844052C#32
  | 63 => 0x4844052D#32
  | 64 => 0x4844052E#32
  | 65 => 0x4844052F#32
  | 66 => 0x48440530#32
  | 67 => 0x48440531#32
  | 68 => 0x48440532#32
  | 69 => 0x48440533#32
  | 70 => 0x48440534#32
  | 71 => 0x48440535#32
  | 72 => 0x48440536#32
  | 73 => 0x48440537#32
  | 74 => 0x48440538#32
  | 75 => 0x48440539#32
  | 76 => 0x4844053A#32
  | 77 => 0x4844053B#32
  | 78 => 0x4844053C#32
  | 79 => 0x4844053D#32
  | 80 => 0x4844053E#32
  | 81 => 0x4844053F#32
  | 82 => 0x48440540#32
  | 83 => 0x48440541#32
  | 84 => 0x48440542#32
  | 85 => 0x48440543#32
  | 86 => 0x48440544#32
  | 87 => 0x48440545#32
  | 88 => 0x48440546#32
  | 89 => 0x48440547#32
  | 90 => 0x48440548#32
  | 91 => 0x48440549#32
  | 92 => 0x4844054A#32
  | 93 => 0x4844054B#32
  | 94 => 0x4844054C#32
  | 95 => 0x4844054D#32
  | 96 => 0x4844054E#32
  | 97 => 0x4844054F#32
  | 98 => 0x48440550#32
  | 99 => 0x48440551#32
  | 100 => 0x48440552#32
  | 101 => 0x48440553#32
  | 102 => 0x48440554#32
  | 103 => 0x48440555#32
  | 104 => 0x48440556#32
  | 105 => 0x48440557#32
  | 106 => 0x48440558#32
  | 107 => 0x48440559#32
  | 108 => 0x4844055A#32
  | 109 => 0x4844055B#32
  | 110 => 0x4844055C#32
  | 111 => 0x4844055D#32
  | 112 => 0x4844055E#32
  | 113 => 0x4844055F#32
  | 114 => 0x48440560#32
  | 115 => 0x48440561#32
  | 116 => 0x48440562#32
  | 117 => 0x48440563#32
  | 118 => 0x48440564#32
  | 119 => 0x48440565#32
  | 120 => 0x48440566#32
  | 121 => 0x48440567#32
  | 122 => 0x48440568#32
  | 123 => 0x48440569#32
  | 124 => 0x4844056A#32
  | 125 => 0x4844056B#32
  | 126 => 0x4844056C#32
  | 127 => 0x4844056D#32
  | _ => 0#32

noncomputable abbrev lit0t0_91 (i : Nat) : BitVec 32 := match i % 128 with
  | 0 => 0x4844056E#32
  | 1 => 0x4844056F#32
  | 2 => 0x48440570#32
  | 3 => 0x48440571#32
  | 4 => 0x48440572#32
  | 5 => 0x48440573#32
  | 6 => 0x48440574#32
  | 7 => 0x48440575#32
  | 8 => 0x48440576#32
  | 9 => 0x48440577#32
  | 10 => 0x48440578#32
  | 11 => 0x48440579#32
  | 12 => 0x4844057A#32
  | 13 => 0x4844057B#32
  | 14 => 0x4844057C#32
  | 15 => 0x4844057D#32
  | 16 => 0x4844057E#32
  | 17 => 0x4844057F#32
  | 18 => 0x48440580#32
  | 19 => 0x48440581#32
  | 20 => 0x48440582#32
  | 21 => 0x48440583#32
  | 22 => 0x48440584#32
  | 23 => 0x48440585#32
  | 24 => 0x48440586#32
  | 25 => 0x48440587#32
  | 26 => 0x48440588#32
  | 27 => 0x48440589#32
  | 28 => 0x4844058A#32
  | 29 => 0x4844058B#32
  | 30 => 0x4844058C#32
  | 31 => 0x4844058D#32
  | 32 => 0x4844058E#32
  | 33 => 0x4844058F#32
  | 34 => 0x48440590#32
  | 35 => 0x48440591#32
  | 36 => 0x48440592#32
  | 37 => 0x48440593#32
  | 38 => 0x48440594#32
  | 39 => 0x48440595#32
  | 40 => 0x48440596#32
  | 41 => 0x48440597#32
  | 42 => 0x48440598#32
  | 43 => 0x48440599#32
  | 44 => 0x4844059A#32
  | 45 => 0x4844059B#32
  | 46 => 0x4844059C#32
  | 47 => 0x4844059D#32
  | 48 => 0x4844059E#32
  | 49 => 0x4844059F#32
  | 50 => 0x484405A0#32
  | 51 => 0x484405A1#32
  | 52 => 0x484405A2#32
  | 53 => 0x484405A3#32
  | 54 => 0x484405A4#32
  | 55 => 0x484405A5#32
  | 56 => 0x484405A6#32
  | 57 => 0x484405A7#32
  | 58 => 0x484405A8#32
  | 59 => 0x484405A9#32
  | 60 => 0x484405AA#32
  | 61 => 0x484405AB#32
  | 62 => 0x484405AC#32
  | 63 => 0x484405AD#32
  | 64 => 0x484405AE#32
  | 65 => 0x484405AF#32
  | 66 => 0x484405B0#32
  | 67 => 0x484405B1#32
  | 68 => 0x484405B2#32
  | 69 => 0x484405B3#32
  | 70 => 0x484405B4#32
  | 71 => 0x484405B5#32
  | 72 => 0x484405B6#32
  | 73 => 0x484405B7#32
  | 74 => 0x484405B8#32
  | 75 => 0x484405B9#32
  | 76 => 0x484405BA#32
  | 77 => 0x484405BB#32
  | 78 => 0x484405BC#32
  | 79 => 0x484405BD#32
  | 80 => 0x484405BE#32
  | 81 => 0x484405BF#32
  | 82 => 0x484405C0#32
  | 83 => 0x484405C1#32
  | 84 => 0x484405C2#32
  | 85 => 0x484405C3#32
  | 86 => 0x484405C4#32
  | 87 => 0x484405C5#32
  | 88 => 0x484405C6#32
  | 89 => 0x484405C7#32
  | 90 => 0x484405C8#32
  | 91 => 0x484405C9#32
  | 92 => 0x484405CA#32
  | 93 => 0x484405CB#32
  | 94 => 0x484405CC#32
  | 95 => 0x484405CD#32
  | 96 => 0x484405CE#32
  | 97 => 0x484405CF#32
  | 98 => 0x484405D0#32
  | 99 => 0x484405D1#32
  | 100 => 0x484405D2#32
  | 101 => 0x484405D3#32
  | 102 => 0x484405D4#32
  | 103 => 0x484405D5#32
  | 104 => 0x484405D6#32
  | 105 => 0x484405D7#32
  | 106 => 0x484405D8#32
  | 107 => 0x484405D9#32
  | 108 => 0x484405DA#32
  | 109 => 0x484405DB#32
  | 110 => 0x484405DC#32
  | 111 => 0x484405DD#32
  | 112 => 0x484405DE#32
  | 113 => 0x484405DF#32
  | 114 => 0x484405E0#32
  | 115 => 0x484405E1#32
  | 116 => 0x484405E2#32
  | 117 => 0x484405E3#32
  | 118 => 0x484405E4#32
  | 119 => 0x484405E5#32
  | 120 => 0x484405E6#32
  | 121 => 0x484405E7#32
  | 122 => 0x484405E8#32
  | 123 => 0x484405E9#32
  | 124 => 0x484405EA#32
  | 125 => 0x484405EB#32
  | 126 => 0x484405EC#32
  | 127 => 0x484405ED#32
  | _ => 0#32

noncomputable abbrev lit0t0_92 (i : Nat) : BitVec 32 := match i % 128 with
  | 0 => 0x484405EE#32
  | 1 => 0x484405EF#32
  | 2 => 0x484405F0#32
  | 3 => 0x484405F1#32
  | 4 => 0x484405F2#32
  | 5 => 0x484405F3#32
  | 6 => 0x484405F4#32
  | 7 => 0x484405F5#32
  | 8 => 0x484405F6#32
  | 9 => 0x484405F7#32
  | 10 => 0x484405F8#32
  | 11 => 0x484405F9#32
  | 12 => 0x484405FA#32
  | 13 => 0x484405FB#32
  | 14 => 0x484405FC#32
  | 15 => 0x484405FD#32
  | 16 => 0x484405FE#32
  | 17 => 0x484405FF#32
  | 18 => 0x48440600#32
  | 19 => 0x48440601#32
  | 20 => 0x48440602#32
  | 21 => 0x48440603#32
  | 22 => 0x48440604#32
  | 23 => 0x48440605#32
  | 24 => 0x48440606#32
  | 25 => 0x48440607#32
  | 26 => 0x48440608#32
  | 27 => 0x48440609#32
  | 28 => 0x4844060A#32
  | 29 => 0x4844060B#32
  | 30 => 0x4844060C#32
  | 31 => 0x4844060D#32
  | 32 => 0x4844060E#32
  | 33 => 0x4844060F#32
  | 34 => 0x48440610#32
  | 35 => 0x48440611#32
  | 36 => 0x48440612#32
  | 37 => 0x48440613#32
  | 38 => 0x48440614#32
  | 39 => 0x48440615#32
  | 40 => 0x48440616#32
  | 41 => 0x48440617#32
  | 42 => 0x48440618#32
  | 43 => 0x48440619#32
  | 44 => 0x4844061A#32
  | 45 => 0x4844061B#32
  | 46 => 0x4844061C#32
  | 47 => 0x4844061D#32
  | 48 => 0x4844061E#32
  | 49 => 0x4844061F#32
  | 50 => 0x48440620#32
  | 51 => 0x48440621#32
  | 52 => 0x48440622#32
  | 53 => 0x48440623#32
  | 54 => 0x48440624#32
  | 55 => 0x48440625#32
  | 56 => 0x48440626#32
  | 57 => 0x48440627#32
  | 58 => 0x48440628#32
  | 59 => 0x48440629#32
  | 60 => 0x4844062A#32
  | 61 => 0x4844062B#32
  | 62 => 0x4844062C#32
  | 63 => 0x4844062D#32
  | 64 => 0x4844062E#32
  | 65 => 0x4844062F#32
  | 66 => 0x48440630#32
  | 67 => 0x48440631#32
  | 68 => 0x48440632#32
  | 69 => 0x48440633#32
  | 70 => 0x48440634#32
  | 71 => 0x48440635#32
  | 72 => 0x48440636#32
  | 73 => 0x48440637#32
  | 74 => 0x48440638#32
  | 75 => 0x48440639#32
  | 76 => 0x4844063A#32
  | 77 => 0x4844063B#32
  | 78 => 0x4844063C#32
  | 79 => 0x4844063D#32
  | 80 => 0x4844063E#32
  | 81 => 0x4844063F#32
  | 82 => 0x48440640#32
  | 83 => 0x48440641#32
  | 84 => 0x48440642#32
  | 85 => 0x48440643#32
  | 86 => 0x48440644#32
  | 87 => 0x48440645#32
  | 88 => 0x48440646#32
  | 89 => 0x48440647#32
  | 90 => 0x48440648#32
  | 91 => 0x48440649#32
  | 92 => 0x4844064A#32
  | 93 => 0x4844064B#32
  | 94 => 0x4844064C#32
  | 95 => 0x4844064D#32
  | 96 => 0x4844064E#32
  | 97 => 0x4844064F#32
  | 98 => 0x48440650#32
  | 99 => 0x48440651#32
  | 100 => 0x48440652#32
  | 101 => 0x48440653#32
  | 102 => 0x48440654#32
  | 103 => 0x48440655#32
  | 104 => 0x48440656#32
  | 105 => 0x48440657#32
  | 106 => 0x48440658#32
  | 107 => 0x48440659#32
  | 108 => 0x4844065A#32
  | 109 => 0x4844065B#32
  | 110 => 0x4844065C#32
  | 111 => 0x4844065D#32
  | 112 => 0x4844065E#32
  | 113 => 0x4844065F#32
  | 114 => 0x48440660#32
  | 115 => 0x48440661#32
  | 116 => 0x48440662#32
  | 117 => 0x48440663#32
  | 118 => 0x48440664#32
  | 119 => 0x48440665#32
  | 120 => 0x48440666#32
  | 121 => 0x48440667#32
  | 122 => 0x48440668#32
  | 123 => 0x48440669#32
  | 124 => 0x4844066A#32
  | 125 => 0x4844066B#32
  | 126 => 0x4844066C#32
  | 127 => 0x4844066D#32
  | _ => 0#32

noncomputable abbrev lit0t0_93 (i : Nat) : BitVec 32 := match i % 128 with
  | 0 => 0x4844066E#32
  | 1 => 0x4844066F#32
  | 2 => 0x48440670#32
  | 3 => 0x48440671#32
  | 4 => 0x48440672#32
  | 5 => 0x48440673#32
  | 6 => 0x48440674#32
  | 7 => 0x48440675#32
  | 8 => 0x48440676#32
  | 9 => 0x48440677#32
  | 10 => 0x48440678#32
  | 11 => 0x48440679#32
  | 12 => 0x4844067A#32
  | 13 => 0x4844067B#32
  | 14 => 0x4844067C#32
  | 15 => 0x4844067D#32
  | 16 => 0x4844067E#32
  | 17 => 0x4844067F#32
  | 18 => 0x48440680#32
  | 19 => 0x48440681#32
  | 20 => 0x48440682#32
  | 21 => 0x48440683#32
  | 22 => 0x48440684#32
  | 23 => 0x48440685#32
  | 24 => 0x48440686#32
  | 25 => 0x48440687#32
  | 26 => 0x48440688#32
  | 27 => 0x48440689#32
  | 28 => 0x4844068A#32
  | 29 => 0x4844068B#32
  | 30 => 0x4844068C#32
  | 31 => 0x4844068D#32
  | 32 => 0x4844068E#32
  | 33 => 0x4844068F#32
  | 34 => 0x48440690#32
  | 35 => 0x48440691#32
  | 36 => 0x48440692#32
  | 37 => 0x48440693#32
  | 38 => 0x48440694#32
  | 39 => 0x48440695#32
  | 40 => 0x48440696#32
  | 41 => 0x48440697#32
  | 42 => 0x48440698#32
  | 43 => 0x48440699#32
  | 44 => 0x4844069A#32
  | 45 => 0x4844069B#32
  | 46 => 0x4844069C#32
  | 47 => 0x4844069D#32
  | 48 => 0x4844069E#32
  | 49 => 0x4844069F#32
  | 50 => 0x484406A0#32
  | 51 => 0x484406A1#32
  | 52 => 0x484406A2#32
  | 53 => 0x484406A3#32
  | 54 => 0x484406A4#32
  | 55 => 0x484406A5#32
  | 56 => 0x484406A6#32
  | 57 => 0x484406A7#32
  | 58 => 0x484406A8#32
  | 59 => 0x484406A9#32
  | 60 => 0x484406AA#32
  | 61 => 0x484406AB#32
  | 62 => 0x484406AC#32
  | 63 => 0x484406AD#32
  | 64 => 0x484406AE#32
  | 65 => 0x484406AF#32
  | 66 => 0x484406B0#32
  | 67 => 0x484406B1#32
  | 68 => 0x484406B2#32
  | 69 => 0x484406B3#32
  | 70 => 0x484406B4#32
  | 71 => 0x484406B5#32
  | 72 => 0x484406B6#32
  | 73 => 0x484406B7#32
  | 74 => 0x484406B8#32
  | 75 => 0x484406B9#32
  | 76 => 0x484406BA#32
  | 77 => 0x484406BB#32
  | 78 => 0x484406BC#32
  | 79 => 0x484406BD#32
  | 80 => 0x484406BE#32
  | 81 => 0x484406BF#32
  | 82 => 0x484406C0#32
  | 83 => 0x484406C1#32
  | 84 => 0x484406C2#32
  | 85 => 0x484406C3#32
  | 86 => 0x484406C4#32
  | 87 => 0x484406C5#32
  | 88 => 0x484406C6#32
  | 89 => 0x484406C7#32
  | 90 => 0x484406C8#32
  | 91 => 0x484406C9#32
  | 92 => 0x484406CA#32
  | 93 => 0x484406CB#32
  | 94 => 0x484406CC#32
  | 95 => 0x484406CD#32
  | 96 => 0x484406CE#32
  | 97 => 0x484406CF#32
  | 98 => 0x484406D0#32
  | 99 => 0x484406D1#32
  | 100 => 0x484406D2#32
  | 101 => 0x484406D3#32
  | 102 => 0x484406D4#32
  | 103 => 0x484406D5#32
  | 104 => 0x484406D6#32
  | 105 => 0x484406D7#32
  | 106 => 0x484406D8#32
  | 107 => 0x484406D9#32
  | 108 => 0x484406DA#32
  | 109 => 0x484406DB#32
  | 110 => 0x484406DC#32
  | 111 => 0x484406DD#32
  | 112 => 0x484406DE#32
  | 113 => 0x484406DF#32
  | 114 => 0x484406E0#32
  | 115 => 0x484406E1#32
  | 116 => 0x484406E2#32
  | 117 => 0x484406E3#32
  | 118 => 0x484406E4#32
  | 119 => 0x484406E5#32
  | 120 => 0x484406E6#32
  | 121 => 0x484406E7#32
  | 122 => 0x484406E8#32
  | 123 => 0x484406E9#32
  | 124 => 0x484406EA#32
  | 125 => 0x484406EB#32
  | 126 => 0x484406EC#32
  | 127 => 0x484406ED#32
  | _ => 0#32

noncomputable abbrev lit0t0_94 (i : Nat) : BitVec 32 := match i % 128 with
  | 0 => 0x484406EE#32
  | 1 => 0x484406EF#32
  | 2 => 0x484406F0#32
  | 3 => 0x484406F1#32
  | 4 => 0x484406F2#32
  | 5 => 0x484406F3#32
  | 6 => 0x484406F4#32
  | 7 => 0x484406F5#32
  | 8 => 0x484406F6#32
  | 9 => 0x484406F7#32
  | 10 => 0x484406F8#32
  | 11 => 0x484406F9#32
  | 12 => 0x484406FA#32
  | 13 => 0x484406FB#32
  | 14 => 0x484406FC#32
  | 15 => 0x484406FD#32
  | 16 => 0x484406FE#32
  | 17 => 0x484406FF#32
  | 18 => 0x48440700#32
  | 19 => 0x48440701#32
  | 20 => 0x48440702#32
  | 21 => 0x48440703#32
  | 22 => 0x48440704#32
  | 23 => 0x48440705#32
  | 24 => 0x48440706#32
  | 25 => 0x48440707#32
  | 26 => 0x48440708#32
  | 27 => 0x48440709#32
  | 28 => 0x4844070A#32
  | 29 => 0x4844070B#32
  | 30 => 0x4844070C#32
  | 31 => 0x4844070D#32
  | 32 => 0x4844070E#32
  | 33 => 0x4844070F#32
  | 34 => 0x48440710#32
  | 35 => 0x48440711#32
  | 36 => 0x48440712#32
  | 37 => 0x48440713#32
  | 38 => 0x48440714#32
  | 39 => 0x48440715#32
  | 40 => 0x48440716#32
  | 41 => 0x48440717#32
  | 42 => 0x48440718#32
  | 43 => 0x48440719#32
  | 44 => 0x4844071A#32
  | 45 => 0x4844071B#32
  | 46 => 0x4844071C#32
  | 47 => 0x4844071D#32
  | 48 => 0x4844071E#32
  | 49 => 0x4844071F#32
  | 50 => 0x48440720#32
  | 51 => 0x48440721#32
  | 52 => 0x48440722#32
  | 53 => 0x48440723#32
  | 54 => 0x48440724#32
  | 55 => 0x48440725#32
  | 56 => 0x48440726#32
  | 57 => 0x48440727#32
  | 58 => 0x48440728#32
  | 59 => 0x48440729#32
  | 60 => 0x4844072A#32
  | 61 => 0x4844072B#32
  | 62 => 0x4844072C#32
  | 63 => 0x4844072D#32
  | 64 => 0x4844072E#32
  | 65 => 0x4844072F#32
  | 66 => 0x48440730#32
  | 67 => 0x48440731#32
  | 68 => 0x48440732#32
  | 69 => 0x48440733#32
  | 70 => 0x48440734#32
  | 71 => 0x48440735#32
  | 72 => 0x48440736#32
  | 73 => 0x48440737#32
  | 74 => 0x48440738#32
  | 75 => 0x48440739#32
  | 76 => 0x4844073A#32
  | 77 => 0x4844073B#32
  | 78 => 0x4844073C#32
  | 79 => 0x4844073D#32
  | 80 => 0x4844073E#32
  | 81 => 0x4844073F#32
  | 82 => 0x48440740#32
  | 83 => 0x48440741#32
  | 84 => 0x48440742#32
  | 85 => 0x48440743#32
  | 86 => 0x48440744#32
  | 87 => 0x48440745#32
  | 88 => 0x48440746#32
  | 89 => 0x48440747#32
  | 90 => 0x48440748#32
  | 91 => 0x48440749#32
  | 92 => 0x4844074A#32
  | 93 => 0x4844074B#32
  | 94 => 0x4844074C#32
  | 95 => 0x4844074D#32
  | 96 => 0x4844074E#32
  | 97 => 0x4844074F#32
  | 98 => 0x48440750#32
  | 99 => 0x48440751#32
  | 100 => 0x48440752#32
  | 101 => 0x48440753#32
  | 102 => 0x48440754#32
  | 103 => 0x48440755#32
  | 104 => 0x48440756#32
  | 105 => 0x48440757#32
  | 106 => 0x48440758#32
  | 107 => 0x48440759#32
  | 108 => 0x4844075A#32
  | 109 => 0x4844075B#32
  | 110 => 0x4844075C#32
  | 111 => 0x4844075D#32
  | 112 => 0x4844075E#32
  | 113 => 0x4844075F#32
  | 114 => 0x48440760#32
  | 115 => 0x48440761#32
  | 116 => 0x48440762#32
  | 117 => 0x48440763#32
  | 118 => 0x48440764#32
  | 119 => 0x48440765#32
  | 120 => 0x48440766#32
  | 121 => 0x48440767#32
  | 122 => 0x48440768#32
  | 123 => 0x48440769#32
  | 124 => 0x4844076A#32
  | 125 => 0x4844076B#32
  | 126 => 0x4844076C#32
  | 127 => 0x4844076D#32
  | _ => 0#32

noncomputable abbrev lit0t0_95 (i : Nat) : BitVec 32 := match i % 128 with
  | 0 => 0x4844076E#32
  | 1 => 0x4844076F#32
  | 2 => 0x48440770#32
  | 3 => 0x48440771#32
  | 4 => 0x48440772#32
  | 5 => 0x48440773#32
  | 6 => 0x48440774#32
  | 7 => 0x48440775#32
  | 8 => 0x48440776#32
  | 9 => 0x48440777#32
  | 10 => 0x48440778#32
  | 11 => 0x48440779#32
  | 12 => 0x4844077A#32
  | 13 => 0x4844077B#32
  | 14 => 0x4844077C#32
  | 15 => 0x4844077D#32
  | 16 => 0x4844077E#32
  | 17 => 0x4844077F#32
  | 18 => 0x48440780#32
  | 19 => 0x48440781#32
  | 20 => 0x48440782#32
  | 21 => 0x48440783#32
  | 22 => 0x48440784#32
  | 23 => 0x48440785#32
  | 24 => 0x48440786#32
  | 25 => 0x48440787#32
  | 26 => 0x48440788#32
  | 27 => 0x48440789#32
  | 28 => 0x4844078A#32
  | 29 => 0x4844078B#32
  | 30 => 0x4844078C#32
  | 31 => 0x4844078D#32
  | 32 => 0x4844078E#32
  | 33 => 0x4844078F#32
  | 34 => 0x48440790#32
  | 35 => 0x48440791#32
  | 36 => 0x48440792#32
  | 37 => 0x48440793#32
  | 38 => 0x48440794#32
  | 39 => 0x48440795#32
  | 40 => 0x48440796#32
  | 41 => 0x48440797#32
  | 42 => 0x48440798#32
  | 43 => 0x48440799#32
  | 44 => 0x4844079A#32
  | 45 => 0x4844079B#32
  | 46 => 0x4844079C#32
  | 47 => 0x4844079D#32
  | 48 => 0x4844079E#32
  | 49 => 0x4844079F#32
  | 50 => 0x484407A0#32
  | 51 => 0x484407A1#32
  | 52 => 0x484407A2#32
  | 53 => 0x484407A3#32
  | 54 => 0x484407A4#32
  | 55 => 0x484407A5#32
  | 56 => 0x484407A6#32
  | 57 => 0x484407A7#32
  | 58 => 0x484407A8#32
  | 59 => 0x484407A9#32
  | 60 => 0x484407AA#32
  | 61 => 0x484407AB#32
  | 62 => 0x484407AC#32
  | 63 => 0x484407AD#32
  | 64 => 0x484407AE#32
  | 65 => 0x484407AF#32
  | 66 => 0x484407B0#32
  | 67 => 0x484407B1#32
  | 68 => 0x484407B2#32
  | 69 => 0x484407B3#32
  | 70 => 0x484407B4#32
  | 71 => 0x484407B5#32
  | 72 => 0x484407B6#32
  | 73 => 0x484407B7#32
  | 74 => 0x484407B8#32
  | 75 => 0x484407B9#32
  | 76 => 0x484407BA#32
  | 77 => 0x484407BB#32
  | 78 => 0x484407BC#32
  | 79 => 0x484407BD#32
  | 80 => 0x484407BE#32
  | 81 => 0x484407BF#32
  | 82 => 0x484407C0#32
  | 83 => 0x484407C1#32
  | 84 => 0x484407C2#32
  | 85 => 0x484407C3#32
  | 86 => 0x484407C4#32
  | 87 => 0x484407C5#32
  | 88 => 0x484407C6#32
  | 89 => 0x484407C7#32
  | 90 => 0x484407C8#32
  | 91 => 0x484407C9#32
  | 92 => 0x484407CA#32
  | 93 => 0x484407CB#32
  | 94 => 0x484407CC#32
  | 95 => 0x484407CD#32
  | 96 => 0x484407CE#32
  | 97 => 0x484407CF#32
  | 98 => 0x484407D0#32
  | 99 => 0x484407D1#32
  | 100 => 0x484407D2#32
  | 101 => 0x484407D3#32
  | 102 => 0x484407D4#32
  | 103 => 0x484407D5#32
  | 104 => 0x484407D6#32
  | 105 => 0x484407D7#32
  | 106 => 0x484407D8#32
  | 107 => 0x484407D9#32
  | 108 => 0x484407DA#32
  | 109 => 0x484407DB#32
  | 110 => 0x484407DC#32
  | 111 => 0x484407DD#32
  | 112 => 0x484407DE#32
  | 113 => 0x484407DF#32
  | 114 => 0x484407E0#32
  | 115 => 0x484407E1#32
  | 116 => 0x484407E2#32
  | 117 => 0x484407E3#32
  | 118 => 0x484407E4#32
  | 119 => 0x484407E5#32
  | 120 => 0x484407E6#32
  | 121 => 0x484407E7#32
  | 122 => 0x484407E8#32
  | 123 => 0x484407E9#32
  | 124 => 0x484407EA#32
  | 125 => 0x484407EB#32
  | 126 => 0x484407EC#32
  | 127 => 0x484407ED#32
  | _ => 0#32

noncomputable abbrev lit0t (i : Nat) : BitVec 32 := match i / 128 with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | 13 => lit0t0_13 i
  | 14 => lit0t0_14 i
  | 15 => lit0t0_15 i
  | 16 => lit0t0_16 i
  | 17 => lit0t0_17 i
  | 18 => lit0t0_18 i
  | 19 => lit0t0_19 i
  | 20 => lit0t0_20 i
  | 21 => lit0t0_21 i
  | 22 => lit0t0_22 i
  | 23 => lit0t0_23 i
  | 24 => lit0t0_24 i
  | 25 => lit0t0_25 i
  | 26 => lit0t0_26 i
  | 27 => lit0t0_27 i
  | 28 => lit0t0_28 i
  | 29 => lit0t0_29 i
  | 30 => lit0t0_30 i
  | 31 => lit0t0_31 i
  | 32 => lit0t0_32 i
  | 33 => lit0t0_33 i
  | 34 => lit0t0_34 i
  | 35 => lit0t0_35 i
  | 36 => lit0t0_36 i
  | 37 => lit0t0_37 i
  | 38 => lit0t0_38 i
  | 39 => lit0t0_39 i
  | 40 => lit0t0_40 i
  | 41 => lit0t0_41 i
  | 42 => lit0t0_42 i
  | 43 => lit0t0_43 i
  | 44 => lit0t0_44 i
  | 45 => lit0t0_45 i
  | 46 => lit0t0_46 i
  | 47 => lit0t0_47 i
  | 48 => lit0t0_48 i
  | 49 => lit0t0_49 i
  | 50 => lit0t0_50 i
  | 51 => lit0t0_51 i
  | 52 => lit0t0_52 i
  | 53 => lit0t0_53 i
  | 54 => lit0t0_54 i
  | 55 => lit0t0_55 i
  | 56 => lit0t0_56 i
  | 57 => lit0t0_57 i
  | 58 => lit0t0_58 i
  | 59 => lit0t0_59 i
  | 60 => lit0t0_60 i
  | 61 => lit0t0_61 i
  | 62 => lit0t0_62 i
  | 63 => lit0t0_63 i
  | 64 => lit0t0_64 i
  | 65 => lit0t0_65 i
  | 66 => lit0t0_66 i
  | 67 => lit0t0_67 i
  | 68 => lit0t0_68 i
  | 69 => lit0t0_69 i
  | 70 => lit0t0_70 i
  | 71 => lit0t0_71 i
  | 72 => lit0t0_72 i
  | 73 => lit0t0_73 i
  | 74 => lit0t0_74 i
  | 75 => lit0t0_75 i
  | 76 => lit0t0_76 i
  | 77 => lit0t0_77 i
  | 78 => lit0t0_78 i
  | 79 => lit0t0_79 i
  | 80 => lit0t0_80 i
  | 81 => lit0t0_81 i
  | 82 => lit0t0_82 i
  | 83 => lit0t0_83 i
  | 84 => lit0t0_84 i
  | 85 => lit0t0_85 i
  | 86 => lit0t0_86 i
  | 87 => lit0t0_87 i
  | 88 => lit0t0_88 i
  | 89 => lit0t0_89 i
  | 90 => lit0t0_90 i
  | 91 => lit0t0_91 i
  | 92 => lit0t0_92 i
  | 93 => lit0t0_93 i
  | 94 => lit0t0_94 i
  | 95 => lit0t0_95 i
  | _ => 0#32

noncomputable abbrev lit0 : Fin 12288 → BitVec 32 := fun ⟨i, _⟩ => lit0t i

noncomputable abbrev lit1 : Fin 3 → BitVec 32 := fun
  | 0 => 0x40400000#32 | 1 => 0x40800000#32 | 2 => 0x40A00000#32
  | _ => 0#32

noncomputable abbrev lit2 : Fin 3 → BitVec 32 := fun
  | 0 => 0x40400000#32 | 1 => 0x40800000#32 | 2 => 0x40A00000#32
  | _ => 0#32

def fn_where {F : FTy → Type} [FloatOps F] (arg0 : IVec S3x4096 1) (arg1 : FVec F S3x4096 .f32) (arg2 : FVec F S_ .f32) : FVec F S3x4096 .f32 :=
  let v0 : FVec F S_ .f32 := id arg2
  let v1 : FVec F S3x4096 .f32 := broadcastInDim S3x4096 ![] bcast_S_S3x4096 v0
  let v2 : FVec F S3x4096 .f32 := select arg0 arg1 v1
  v2

def fn_part3 {F : FTy → Type} [FloatOps F] (main_cst_1 : FVec F S3 .f32) (main_v3 : IVec S_ 1) (main_v50 : FVec F S2000 .f32) (main_v52 : FVec F S1x3 .f32) (main_v53 : FVec F S2000x3 .f32) : IVec S_ 1 :=
  let main_v54 : FVec F S2000x3 .f32 := broadcastInDim S2000x3 ![0, 1] bcast_S1x3_S2000x3_0_1 main_v52
  let main_v55 : IVec S2000x3 1 := cmpf .oge main_v53 main_v54
  let main_v56 : FVec F S2000x1 .f32 := broadcastInDim S2000x1 ![0] bcast_S2000_S2000x1_0 main_v50
  let main_v57 : FVec F S1x3 .f32 := broadcastInDim S1x3 ![1] bcast_S3_S1x3_1 main_cst_1
  let main_v58 : FVec F S2000x3 .f32 := broadcastInDim S2000x3 ![0, 1] bcast_S2000x1_S2000x3_0_1 main_v56
  let main_v59 : FVec F S2000x3 .f32 := broadcastInDim S2000x3 ![0, 1] bcast_S1x3_S2000x3_0_1 main_v57
  let main_v60 : IVec S2000x3 1 := cmpf .oge main_v58 main_v59
  let main_v61 : IVec S2000x3 1 := cmpi .eq main_v55 main_v60
  let main_c_16 : IVec S_ 1 := constantI S_ 1 1#1
  let main_v62 : IVec S_ 1 := (fun x v => Host.reduce IntOp.andi x v reducesTo_S2000x3_S_d0_1 h_S_) main_v61 main_c_16
  let main_v63 : IVec S_ 1 := andi main_v3 main_v62
  main_v63

def fn_part2 {F : FTy → Type} [FloatOps F] (main_cst_0 : FVec F S3x1 .f32) (main_cst_1 : FVec F S3 .f32) (main_v3 : IVec S_ 1) (main_v19 : FVec F S2000 .f32) (main_v24 : FVec F S3x4096 .f32) (main_v35 : FVec F S3x4096 .f32) : IVec S_ 1 :=
  let main_v36 : FVec F S3x4096 .f32 := broadcastInDim S3x4096 ![0, 1] bcast_S3x1_S3x4096_0_1 main_cst_0
  let main_v37 : IVec S3x4096 1 := cmpf .oge main_v35 main_v36
  let main_cst_10 : FVec F S_ .f32 := constant S_ .f32 0x7F800000#32
  let main_v38 : FVec F S3x4096 .f32 := fn_where (F := F) main_v37 main_v24 main_cst_10
  let main_cst_11 : FVec F S_ .f32 := constant S_ .f32 0x7F800000#32
  let main_v39 : FVec F S3 .f32 := (fun x v => Host.reduce FloatOps.minimumf x v reducesTo_S3x4096_S3_d1 h_S_) main_v38 main_cst_11
  let main_v40 : FVec F S2000 .f32 := Host.sqrt main_v19
  let main_cst_12 : FVec F S_ .f32 := constant S_ .f32 0x43600000#32
  let main_v41 : FVec F S2000 .f32 := broadcastInDim S2000 ![] bcast_S_S2000 main_cst_12
  let main_v42 : FVec F S2000 .f32 := Host.divf main_v40 main_v41
  let main_cst_13 : FVec F S_ .f32 := constant S_ .f32 0x358637BD#32
  let main_v43 : FVec F S2000 .f32 := broadcastInDim S2000 ![] bcast_S_S2000 main_cst_13
  let main_v44 : FVec F S2000 .f32 := addf main_v42 main_v43
  let main_v45 : FVec F S2000 .f32 := Host.log main_v44
  let main_cst_14 : FVec F S_ .f32 := constant S_ .f32 0x3FB8AA3B#32
  let main_v46 : FVec F S2000 .f32 := broadcastInDim S2000 ![] bcast_S_S2000 main_cst_14
  let main_v47 : FVec F S2000 .f32 := mulf main_v45 main_v46
  let main_cst_15 : FVec F S_ .f32 := constant S_ .f32 0x40800000#32
  let main_v48 : FVec F S2000 .f32 := broadcastInDim S2000 ![] bcast_S_S2000 main_cst_15
  let main_v49 : FVec F S2000 .f32 := addf main_v48 main_v47
  let main_v50 : FVec F S2000 .f32 := Host.floor main_v49
  let main_v51 : FVec F S2000x1 .f32 := broadcastInDim S2000x1 ![0] bcast_S2000_S2000x1_0 main_v19
  let main_v52 : FVec F S1x3 .f32 := broadcastInDim S1x3 ![1] bcast_S3_S1x3_1 main_v39
  let main_v53 : FVec F S2000x3 .f32 := broadcastInDim S2000x3 ![0, 1] bcast_S2000x1_S2000x3_0_1 main_v51
  fn_part3 (F := F) main_cst_1 main_v3 main_v50 main_v52 main_v53

def fn_part1 {F : FTy → Type} [FloatOps F] (main_arg2 : FVec F S1x3 .f32) (main_cst : FVec F S3x4096 .f32) (main_cst_0 : FVec F S3x1 .f32) (main_cst_1 : FVec F S3 .f32) (main_v3 : IVec S_ 1) (main_v11 : FVec F S2000 .f32) (main_v16 : FVec F S2000 .f32) (main_cst_4 : FVec F S_ .f32) : IVec S_ 1 :=
  let main_v17 : FVec F S2000 .f32 := broadcastInDim S2000 ![] bcast_S_S2000 main_cst_4
  let main_v18 : FVec F S2000 .f32 := addf main_v16 main_v17
  let main_v19 : FVec F S2000 .f32 := mulf main_v11 main_v18
  let main_v20 : FVec F S1x1 .f32 := (extractStridedSlice S1x1 ![0, 0] · slices_S1x3_S1x1_0_0) main_arg2
  let main_v21 : FVec F S_ .f32 := shapeCast S_ main_v20 shapeCasts_S1x1_S_
  let main_cst_5 : FVec F S_ .f32 := constant S_ .f32 0x00000000#32
  let main_v22 : FVec F S_ .f32 := mulf main_v21 main_cst_5
  let main_v23 : FVec F S3x4096 .f32 := broadcastInDim S3x4096 ![] bcast_S_S3x4096 main_v22
  let main_v24 : FVec F S3x4096 .f32 := addf main_cst main_v23
  let main_v25 : FVec F S3x4096 .f32 := Host.sqrt main_v24
  let main_cst_6 : FVec F S_ .f32 := constant S_ .f32 0x43600000#32
  let main_v26 : FVec F S3x4096 .f32 := broadcastInDim S3x4096 ![] bcast_S_S3x4096 main_cst_6
  let main_v27 : FVec F S3x4096 .f32 := Host.divf main_v25 main_v26
  let main_cst_7 : FVec F S_ .f32 := constant S_ .f32 0x358637BD#32
  let main_v28 : FVec F S3x4096 .f32 := broadcastInDim S3x4096 ![] bcast_S_S3x4096 main_cst_7
  let main_v29 : FVec F S3x4096 .f32 := addf main_v27 main_v28
  let main_v30 : FVec F S3x4096 .f32 := Host.log main_v29
  let main_cst_8 : FVec F S_ .f32 := constant S_ .f32 0x3FB8AA3B#32
  let main_v31 : FVec F S3x4096 .f32 := broadcastInDim S3x4096 ![] bcast_S_S3x4096 main_cst_8
  let main_v32 : FVec F S3x4096 .f32 := mulf main_v30 main_v31
  let main_cst_9 : FVec F S_ .f32 := constant S_ .f32 0x40800000#32
  let main_v33 : FVec F S3x4096 .f32 := broadcastInDim S3x4096 ![] bcast_S_S3x4096 main_cst_9
  let main_v34 : FVec F S3x4096 .f32 := addf main_v33 main_v32
  let main_v35 : FVec F S3x4096 .f32 := Host.floor main_v34
  fn_part2 (F := F) main_cst_0 main_cst_1 main_v3 main_v19 main_v24 main_v35

def fn {F : FTy → Type} [FloatOps F] (main_arg0 : IVec S2048 32) (main_arg1 : FVec F S2048x5 .f32) (main_arg2 : FVec F S1x3 .f32) : IVec S_ 1 :=
  let main_cst : FVec F S3x4096 .f32 := fun i => FloatOps.ofBits .f32 (lit0 (S3x4096.rowMajor i))
  let main_cst_0 : FVec F S3x1 .f32 := fun i => FloatOps.ofBits .f32 (lit1 (S3x1.rowMajor i))
  let main_cst_1 : FVec F S3 .f32 := fun i => FloatOps.ofBits .f32 (lit2 (S3.rowMajor i))
  let main_v0 : IVec S2000 32 := (extractStridedSlice S2000 ![0] · slices_S2048_S2000_0) main_arg0
  let main_c : IVec S_ 32 := constantI S_ 32 0#32
  let main_v1 : IVec S2000 32 := broadcastInDim S2000 ![] bcast_S_S2000 main_c
  let main_v2 : IVec S2000 1 := cmpi .sge main_v0 main_v1
  let main_c_2 : IVec S_ 1 := constantI S_ 1 1#1
  let main_v3 : IVec S_ 1 := (fun x v => Host.reduce IntOp.andi x v reducesTo_S2000_S_d0 h_S_) main_v2 main_c_2
  let main_v4 : FVec F S2000x5 .f32 := (extractStridedSlice S2000x5 ![0, 0] · slices_S2048x5_S2000x5_0_0) main_arg1
  let main_v5 : FVec F S2000x1 .f32 := (extractStridedSlice S2000x1 ![0, 3] · slices_S2000x5_S2000x1_0_3) main_v4
  let main_v6 : FVec F S2000 .f32 := shapeCast S2000 main_v5 shapeCasts_S2000x1_S2000
  let main_v7 : FVec F S2000x1 .f32 := (extractStridedSlice S2000x1 ![0, 1] · slices_S2000x5_S2000x1_0_1) main_v4
  let main_v8 : FVec F S2000 .f32 := shapeCast S2000 main_v7 shapeCasts_S2000x1_S2000
  let main_v9 : FVec F S2000 .f32 := subf main_v6 main_v8
  let main_cst_3 : FVec F S_ .f32 := constant S_ .f32 0x3F800000#32
  let main_v10 : FVec F S2000 .f32 := broadcastInDim S2000 ![] bcast_S_S2000 main_cst_3
  let main_v11 : FVec F S2000 .f32 := addf main_v9 main_v10
  let main_v12 : FVec F S2000x1 .f32 := (extractStridedSlice S2000x1 ![0, 4] · slices_S2000x5_S2000x1_0_4) main_v4
  let main_v13 : FVec F S2000 .f32 := shapeCast S2000 main_v12 shapeCasts_S2000x1_S2000
  let main_v14 : FVec F S2000x1 .f32 := (extractStridedSlice S2000x1 ![0, 2] · slices_S2000x5_S2000x1_0_2) main_v4
  let main_v15 : FVec F S2000 .f32 := shapeCast S2000 main_v14 shapeCasts_S2000x1_S2000
  let main_v16 : FVec F S2000 .f32 := subf main_v13 main_v15
  let main_cst_4 : FVec F S_ .f32 := constant S_ .f32 0x3F800000#32
  fn_part1 (F := F) main_arg2 main_cst main_cst_0 main_cst_1 main_v3 main_v11 main_v16 main_cst_4
-- ==== Kernel.lean ====
abbrev S2048 : Shape := ⟨1, ![2048]⟩
abbrev S2048x5 : Shape := ⟨2, ![2048, 5]⟩
abbrev S1x3 : Shape := ⟨2, ![1, 3]⟩
abbrev S3x4096 : Shape := ⟨2, ![3, 4096]⟩
abbrev S3x1 : Shape := ⟨2, ![3, 1]⟩
abbrev S10240 : Shape := ⟨1, ![10240]⟩
abbrev S5x2048 : Shape := ⟨2, ![5, 2048]⟩
abbrev S1x1 : Shape := ⟨2, ![1, 1]⟩
abbrev S_ : Shape := ⟨0, ![]⟩
abbrev S3 : Shape := ⟨1, ![3]⟩
abbrev S1x2048 : Shape := ⟨2, ![1, 2048]⟩
abbrev S2048x1 : Shape := ⟨2, ![2048, 1]⟩
abbrev S8x1 : Shape := ⟨2, ![8, 1]⟩
abbrev S1 : Shape := ⟨1, ![1]⟩
abbrev S256x1 : Shape := ⟨2, ![256, 1]⟩
abbrev S256x2048 : Shape := ⟨2, ![256, 2048]⟩
abbrev S256 : Shape := ⟨1, ![256]⟩
abbrev S1x256 : Shape := ⟨2, ![1, 256]⟩
abbrev S256x5 : Shape := ⟨2, ![256, 5]⟩
abbrev S8x2048 : Shape := ⟨2, ![8, 2048]⟩
abbrev S8 : Shape := ⟨1, ![8]⟩
abbrev S2000x5 : Shape := ⟨2, ![2000, 5]⟩
abbrev S2000x1 : Shape := ⟨2, ![2000, 1]⟩
abbrev S2000 : Shape := ⟨1, ![2000]⟩
abbrev S4x1 : Shape := ⟨2, ![4, 1]⟩
abbrev S4 : Shape := ⟨1, ![4]⟩

abbrev nBuf : Space → Nat
  | .hbm => 51
  | .vmem => 8
  | .smem => 1
  | _ => 0

abbrev bufTy : (tb : Table) → Fin (tcTables nBuf tb) → BufTy
  | .hbm, ⟨0, _⟩ => ⟨S2048, .i32⟩
  | .hbm, ⟨1, _⟩ => ⟨S2048x5, .f32⟩
  | .hbm, ⟨2, _⟩ => ⟨S1x3, .f32⟩
  | .hbm, ⟨3, _⟩ => ⟨S3x4096, .f32⟩
  | .hbm, ⟨4, _⟩ => ⟨S3x1, .f32⟩
  | .hbm, ⟨5, _⟩ => ⟨S10240, .f32⟩
  | .hbm, ⟨6, _⟩ => ⟨S5x2048, .f32⟩
  | .hbm, ⟨7, _⟩ => ⟨S10240, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S3x4096, .f32⟩
  | .hbm, ⟨13, _⟩ => ⟨S3x4096, .f32⟩
  | .hbm, ⟨14, _⟩ => ⟨S3x4096, .f32⟩
  | .hbm, ⟨15, _⟩ => ⟨S_, .f32⟩
  | .hbm, ⟨16, _⟩ => ⟨S3x4096, .f32⟩
  | .hbm, ⟨17, _⟩ => ⟨S3x4096, .f32⟩
  | .hbm, ⟨18, _⟩ => ⟨S_, .f32⟩
  | .hbm, ⟨19, _⟩ => ⟨S3x4096, .f32⟩
  | .hbm, ⟨20, _⟩ => ⟨S3x4096, .f32⟩
  | .hbm, ⟨21, _⟩ => ⟨S3x4096, .f32⟩
  | .hbm, ⟨22, _⟩ => ⟨S_, .f32⟩
  | .hbm, ⟨23, _⟩ => ⟨S3x4096, .f32⟩
  | .hbm, ⟨24, _⟩ => ⟨S3x4096, .f32⟩
  | .hbm, ⟨25, _⟩ => ⟨S_, .f32⟩
  | .hbm, ⟨26, _⟩ => ⟨S3x4096, .f32⟩
  | .hbm, ⟨27, _⟩ => ⟨S3x4096, .f32⟩
  | .hbm, ⟨28, _⟩ => ⟨S3x4096, .f32⟩
  | .hbm, ⟨29, _⟩ => ⟨S3x4096, .f32⟩
  | .hbm, ⟨30, _⟩ => ⟨S3x4096, .i1⟩
  | .hbm, ⟨31, _⟩ => ⟨S_, .f32⟩
  | .hbm, ⟨32, _⟩ => ⟨S_, .f32⟩
  | .hbm, ⟨33, _⟩ => ⟨S3x4096, .f32⟩
  | .hbm, ⟨34, _⟩ => ⟨S3x4096, .f32⟩
  | .hbm, ⟨35, _⟩ => ⟨S_, .f32⟩
  | .hbm, ⟨36, _⟩ => ⟨S3, .f32⟩
  | .hbm, ⟨37, _⟩ => ⟨S1x2048, .i32⟩
  | .hbm, ⟨38, _⟩ => ⟨S2048x1, .i32⟩
  | .hbm, ⟨39, _⟩ => ⟨S2048x5, .f32⟩
  | .hbm, ⟨40, _⟩ => ⟨S5x2048, .f32⟩
  | .hbm, ⟨41, _⟩ => ⟨S2048x5, .f32⟩
  | .hbm, ⟨42, _⟩ => ⟨S2048x5, .f32⟩
  | .hbm, ⟨43, _⟩ => ⟨S2048x1, .i32⟩
  | .hbm, ⟨44, _⟩ => ⟨S8x1, .i32⟩
  | .hbm, ⟨45, _⟩ => ⟨S2000x5, .f32⟩
  | .hbm, ⟨46, _⟩ => ⟨S2000x5, .f32⟩
  | .hbm, ⟨47, _⟩ => ⟨S2000x1, .i32⟩
  | .hbm, ⟨48, _⟩ => ⟨S2000, .i32⟩
  | .hbm, ⟨49, _⟩ => ⟨S4x1, .i32⟩
  | .hbm, ⟨50, _⟩ => ⟨S4, .i32⟩
  | .local _ .vmem, ⟨0, _⟩ => ⟨S1x2048, .i32⟩
  | .local _ .vmem, ⟨1, _⟩ => ⟨S2048x1, .i32⟩
  | .local _ .vmem, ⟨2, _⟩ => ⟨S2048x5, .f32⟩
  | .local _ .vmem, ⟨3, _⟩ => ⟨S5x2048, .f32⟩
  | .local _ .vmem, ⟨4, _⟩ => ⟨S2048x5, .f32⟩
  | .local _ .vmem, ⟨5, _⟩ => ⟨S2048x5, .f32⟩
  | .local _ .vmem, ⟨6, _⟩ => ⟨S2048x1, .i32⟩
  | .local _ .vmem, ⟨7, _⟩ => ⟨S8x1, .i32⟩
  | .local _ .smem, ⟨0, _⟩ => ⟨S3, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_v27_2 : Ref sig .tc := ⟨.hbm, 43, rfl⟩
abbrev main_v27_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S2048 : Shape := ⟨1, ![2048]⟩
abbrev S2048x5 : Shape := ⟨2, ![2048, 5]⟩
abbrev S1x3 : Shape := ⟨2, ![1, 3]⟩
abbrev S2000 : Shape := ⟨1, ![2000]⟩
abbrev S2000x5 : Shape := ⟨2, ![2000, 5]⟩
abbrev S_ : Shape := ⟨0, ![]⟩
abbrev S2000x1 : Shape := ⟨2, ![2000, 1]⟩
abbrev S2000x4 : Shape := ⟨2, ![2000, 4]⟩
abbrev S4 : Shape := ⟨1, ![4]⟩

abbrev nBuf : Space → Nat
  | .hbm => 95
  | .vmem => 0
  | .smem => 0
  | _ => 0

abbrev bufTy : (tb : Table) → Fin (tcTables nBuf tb) → BufTy
  | .hbm, ⟨0, _⟩ => ⟨S2048, .i32⟩
  | .hbm, ⟨1, _⟩ => ⟨S2048x5, .f32⟩
  | .hbm, ⟨2, _⟩ => ⟨S1x3, .f32⟩
  | .hbm, ⟨3, _⟩ => ⟨S2000, .i32⟩
  | .hbm, ⟨4, _⟩ => ⟨S2000, .i32⟩
  | .hbm, ⟨5, _⟩ => ⟨S2000, .i32⟩
  | .hbm, ⟨6, _⟩ => ⟨S2000, .i32⟩
  | .hbm, ⟨7, _⟩ => ⟨S2000, .i32⟩
  | .hbm, ⟨8, _⟩ => ⟨S2000x5, .f32⟩
  | .hbm, ⟨9, _⟩ => ⟨S_, .i32⟩
  | .hbm, ⟨10, _⟩ => ⟨S2000, .i32⟩
  | .hbm, ⟨11, _⟩ => ⟨S2000, .i1⟩
  | .hbm, ⟨12, _⟩ => ⟨S_, .i32⟩
  | .hbm, ⟨13, _⟩ => ⟨S2000, .i32⟩
  | .hbm, ⟨14, _⟩ => ⟨S2000, .i32⟩
  | .hbm, ⟨15, _⟩ => ⟨S2000, .i32⟩
  | .hbm, ⟨16, _⟩ => ⟨S2000x1, .i32⟩
  | .hbm, ⟨17, _⟩ => ⟨S2000x5, .f32⟩
  | .hbm, ⟨18, _⟩ => ⟨S2000x4, .f32⟩
  | .hbm, ⟨19, _⟩ => ⟨S2000x1, .f32⟩
  | .hbm, ⟨20, _⟩ => ⟨S2000, .f32⟩
  | .hbm, ⟨21, _⟩ => ⟨S2000x1, .f32⟩
  | .hbm, ⟨22, _⟩ => ⟨S2000, .f32⟩
  | .hbm, ⟨23, _⟩ => ⟨S2000, .f32⟩
  | .hbm, ⟨24, _⟩ => ⟨S_, .f32⟩
  | .hbm, ⟨25, _⟩ => ⟨S2000, .f32⟩
  | .hbm, ⟨26, _⟩ => ⟨S2000, .f32⟩
  | .hbm, ⟨27, _⟩ => ⟨S2000x1, .f32⟩
  | .hbm, ⟨28, _⟩ => ⟨S2000, .f32⟩
  | .hbm, ⟨29, _⟩ => ⟨S2000x1, .f32⟩
  | .hbm, ⟨30, _⟩ => ⟨S2000, .f32⟩
  | .hbm, ⟨31, _⟩ => ⟨S2000, .f32⟩
  | .hbm, ⟨32, _⟩ => ⟨S_, .f32⟩
  | .hbm, ⟨33, _⟩ => ⟨S2000, .f32⟩
  | .hbm, ⟨34, _⟩ => ⟨S2000, .f32⟩
  | .hbm, ⟨35, _⟩ => ⟨S2000, .f32⟩
  | .hbm, ⟨36, _⟩ => ⟨S2000, .f32⟩
  | .hbm, ⟨37, _⟩ => ⟨S_, .f32⟩
  | .hbm, ⟨38, _⟩ => ⟨S2000, .f32⟩
  | .hbm, ⟨39, _⟩ => ⟨S2000, .f32⟩
  | .hbm, ⟨40, _⟩ => ⟨S_, .f32⟩
  | .hbm, ⟨41, _⟩ => ⟨S2000, .f32⟩
  | .hbm, ⟨42, _⟩ => ⟨S2000, .f32⟩
  | .hbm, ⟨43, _⟩ => ⟨S2000, .f32⟩
  | .hbm, ⟨44, _⟩ => ⟨S_, .f32⟩
  | .hbm, ⟨45, _⟩ => ⟨S2000, .f32⟩
  | .hbm, ⟨46, _⟩ => ⟨S2000, .f32⟩
  | .hbm, ⟨47, _⟩ => ⟨S_, .f32⟩
  | .hbm, ⟨48, _⟩ => ⟨S2000, .f32⟩
  | .hbm, ⟨49, _⟩ => ⟨S2000, .f32⟩
  | .hbm, ⟨50, _⟩ => ⟨S2000, .f32⟩
  | .hbm, ⟨51, _⟩ => ⟨S_, .i32⟩
  | .hbm, ⟨52, _⟩ => ⟨S_, .i32⟩
  | .hbm, ⟨53, _⟩ => ⟨S_, .f32⟩
  | .hbm, ⟨54, _⟩ => ⟨S2000, .f32⟩
  | .hbm, ⟨55, _⟩ => ⟨S2000, .f32⟩
  | .hbm, ⟨56, _⟩ => ⟨S_, .f32⟩
  | .hbm, ⟨57, _⟩ => ⟨S2000, .f32⟩
  | .hbm, ⟨58, _⟩ => ⟨S2000, .f32⟩
  | .hbm, ⟨59, _⟩ => ⟨S2000, .i32⟩
  | .hbm, ⟨60, _⟩ => ⟨S2000, .i32⟩
  | .hbm, ⟨61, _⟩ => ⟨S2000, .i32⟩
  | .hbm, ⟨62, _⟩ => ⟨S2000, .i32⟩
  | .hbm, ⟨63, _⟩ => ⟨S_, .i32⟩
  | .hbm, ⟨64, _⟩ => ⟨S2000, .i32⟩
  | .hbm, ⟨65, _⟩ => ⟨S2000, .i1⟩
  | .hbm, ⟨66, _⟩ => ⟨S_, .i32⟩
  | .hbm, ⟨67, _⟩ => ⟨S2000, .i32⟩
  | .hbm, ⟨68, _⟩ => ⟨S2000, .i32⟩
  | .hbm, ⟨69, _⟩ => ⟨S2000, .i32⟩
  | .hbm, ⟨70, _⟩ => ⟨S2000x1, .i32⟩
  | .hbm, ⟨71, _⟩ => ⟨S2000x5, .f32⟩
  | .hbm, ⟨72, _⟩ => ⟨S2000, .i32⟩
  | .hbm, ⟨73, _⟩ => ⟨S2000, .i32⟩
  | .hbm, ⟨74, _⟩ => ⟨S2000, .i32⟩
  | .hbm, ⟨75, _⟩ => ⟨S_, .i32⟩
  | .hbm, ⟨76, _⟩ => ⟨S2000, .i32⟩
  | .hbm, ⟨77, _⟩ => ⟨S2000, .i32⟩
  | .hbm, ⟨78, _⟩ => ⟨S_, .i32⟩
  | .hbm, ⟨79, _⟩ => ⟨S4, .i32⟩
  | .hbm, ⟨80, _⟩ => ⟨S_, .i32⟩
  | .hbm, ⟨81, _⟩ => ⟨S_, .i32⟩
  | .hbm, ⟨82, _⟩ => ⟨S2000, .i32⟩
  | .hbm, ⟨83, _⟩ => ⟨S2000, .i32⟩
  | .hbm, ⟨84, _⟩ => ⟨S_, .i32⟩
  | .hbm, ⟨85, _⟩ => ⟨S2000, .i32⟩
  | .hbm, ⟨86, _⟩ => ⟨S2000, .i1⟩
  | .hbm, ⟨87, _⟩ => ⟨S_, .i32⟩
  | .hbm, ⟨88, _⟩ => ⟨S2000, .i32⟩
  | .hbm, ⟨89, _⟩ => ⟨S2000, .i32⟩
  | .hbm, ⟨90, _⟩ => ⟨S2000, .i32⟩
  | .hbm, ⟨91, _⟩ => ⟨S2000x1, .i32⟩
  | .hbm, ⟨92, _⟩ => ⟨S_, .i32⟩
  | .hbm, ⟨93, _⟩ => ⟨S2000, .i32⟩
  | .hbm, ⟨94, _⟩ => ⟨S4, .i32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_6 : Ref sig .tc := ⟨.hbm, 51, rfl⟩
abbrev main_c_7 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v38 : Ref sig .tc := ⟨.hbm, 58, rfl⟩
abbrev main_v39 : Ref sig .tc := ⟨.hbm, 59, rfl⟩
abbrev main_call2_v0 : Ref sig .tc := ⟨.hbm, 60, rfl⟩
abbrev main_call2_v1_0 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call3_v0 : Ref sig .tc := ⟨.hbm, 72, rfl⟩
abbrev main_call3_v1_0 : Ref sig .tc := ⟨.hbm, 73, rfl⟩
abbrev main_v48 : Ref sig .tc := ⟨.hbm, 74, rfl⟩
abbrev main_c_10 : Ref sig .tc := ⟨.hbm, 75, rfl⟩
abbrev main_v49 : Ref sig .tc := ⟨.hbm, 76, rfl⟩
abbrev main_v50 : Ref sig .tc := ⟨.hbm, 77, rfl⟩
abbrev main_c_11 : Ref sig .tc := ⟨.hbm, 78, rfl⟩
abbrev main_v51 : Ref sig .tc := ⟨.hbm, 79, rfl⟩
abbrev main_c_12 : Ref sig .tc := ⟨.hbm, 80, rfl⟩
abbrev main_call4_v0 : Ref sig .tc := ⟨.hbm, 81, rfl⟩
abbrev main_call4_v1 : Ref sig .tc := ⟨.hbm, 82, rfl⟩
abbrev main_v52 : Ref sig .tc := ⟨.hbm, 83, rfl⟩
abbrev main_c_13 : Ref sig .tc := ⟨.hbm, 84, rfl⟩
abbrev main_v53 : Ref sig .tc := ⟨.hbm, 85, rfl⟩
abbrev main_v54 : Ref sig .tc := ⟨.hbm, 86, rfl⟩
abbrev main_c_14 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_c_15 : Ref sig .tc := ⟨.hbm, 92, rfl⟩
abbrev main_v59 : Ref sig .tc := ⟨.hbm, 93, rfl⟩
abbrev main_v60 : Ref sig .tc := ⟨.hbm, 94, rfl⟩

abbrev nD : Nat := 1
abbrev τ : Topo := Topo.v7x

variable {F : FTy → Type} [FloatOps F]
-- ==== Gather.lean ====
abbrev S100000 : Shape := ⟨1, ![100000]⟩
abbrev S20000x5 : Shape := ⟨2, ![20000, 5]⟩
abbrev S2048 : Shape := ⟨1, ![2048]⟩
abbrev S_ : Shape := ⟨0, ![]⟩
abbrev S352 : Shape := ⟨1, ![352]⟩
abbrev S100352 : Shape := ⟨1, ![100352]⟩
abbrev S100000x5 : Shape := ⟨2, ![100000, 5]⟩
abbrev S500000 : Shape := ⟨1, ![500000]⟩
abbrev S10240 : Shape := ⟨1, ![10240]⟩
abbrev S128 : Shape := ⟨1, ![128]⟩
abbrev S5x128 : Shape := ⟨2, ![5, 128]⟩
abbrev S640 : Shape := ⟨1, ![640]⟩
abbrev S16 : Shape := ⟨1, ![16]⟩
abbrev S1x16 : Shape := ⟨2, ![1, 16]⟩
abbrev S1x128 : Shape := ⟨2, ![1, 128]⟩

abbrev nBuf : Table → Nat
  | .hbm => 15
  | .local .scVector .vmem => 4
  | _ => 0

abbrev bufTy : (tb : Table) → Fin (nBuf tb) → BufTy
  | .hbm, ⟨0, _⟩ => ⟨S100000, .i32⟩
  | .hbm, ⟨1, _⟩ => ⟨S20000x5, .f32⟩
  | .hbm, ⟨2, _⟩ => ⟨S20000x5, .f32⟩
  | .hbm, ⟨3, _⟩ => ⟨S20000x5, .f32⟩
  | .hbm, ⟨4, _⟩ => ⟨S20000x5, .f32⟩
  | .hbm, ⟨5, _⟩ => ⟨S20000x5, .f32⟩
  | .hbm, ⟨6, _⟩ => ⟨S2048, .i32⟩
  | .hbm, ⟨7, _⟩ => ⟨S_, .i32⟩
  | .hbm, ⟨8, _⟩ => ⟨S352, .i32⟩
  | .hbm, ⟨9, _⟩ => ⟨S100352, .i32⟩
  | .hbm, ⟨10, _⟩ => ⟨S100000x5, .f32⟩
  | .hbm, ⟨11, _⟩ => ⟨S500000, .f32⟩
  | .hbm, ⟨12, _⟩ => ⟨S2048, .i32⟩
  | .hbm, ⟨13, _⟩ => ⟨S10240, .f32⟩
  | .hbm, ⟨14, _⟩ => ⟨S10240, .f32⟩
  | .local .scVector .vmem, ⟨0, _⟩ => ⟨S128, .i32⟩
  | .local .scVector .vmem, ⟨1, _⟩ => ⟨S128, .i32⟩
  | .local .scVector .vmem, ⟨2, _⟩ => ⟨S5x128, .i32⟩
  | .local .scVector .vmem, ⟨3, _⟩ => ⟨S640, .f32⟩
  | _, _ => ⟨S100000, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v1_scv : Ref sig .scVector := ⟨.hbm, 9, rfl⟩
abbrev main_v3_scv : Ref sig .scVector := ⟨.hbm, 11, rfl⟩
abbrev main_arg6_scv : Ref sig .scVector := ⟨.hbm, 6, rfl⟩
abbrev main_v4_0_scv : Ref sig .scVector := ⟨.hbm, 12, rfl⟩
abbrev main_v4_1_scv : Ref sig .scVector := ⟨.hbm, 13, rfl⟩
abbrev main_v4_2_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c128_i32 : BitVec 32 := 128#32
  let v1 : BitVec 32 := Scalar.muli arg1 c128_i32
  ![v1.toNat]

def k0_chk1 (v9 : IVec S16 32) : Prop :=
  (∀ a x, ((![v9] : Fin 1 → IVec S16 32) a x).toNat < S128.size a)
theorem k0_idx1_inb : ∀ (v9 : IVec S16 32) (k0_hw1 : k0_chk1 v9), ∀ a x, ((![v9] : Fin 1 → IVec S16 32) a x).toNat < S128.size a := fun v9 k0_hw1 => k0_hw1

def k0_chk2 (v24 : IVec S16 32) : Prop :=
  (∀ a x, ((![v24] : Fin 1 → IVec S16 32) a x).toNat < S128.size a)
theorem k0_idx2_inb : ∀ (v24 : IVec S16 32) (k0_hw2 : k0_chk2 v24), ∀ a x, ((![v24] : Fin 1 → IVec S16 32) a x).toNat < S128.size a := fun v24 k0_hw2 => k0_hw2

def k0_chk3 (v39 : IVec S16 32) : Prop :=
  (∀ a x, ((![v39] : Fin 1 → IVec S16 32) a x).toNat < S128.size a)
theorem k0_idx3_inb : ∀ (v39 : IVec S16 32) (k0_hw3 : k0_chk3 v39), ∀ a x, ((![v39] : Fin 1 → IVec S16 32) a x).toNat < S128.size a := fun v39 k0_hw3 => k0_hw3

def k0_chk4 (v54 : IVec S16 32) : Prop :=
  (∀ a x, ((![v54] : Fin 1 → IVec S16 32) a x).toNat < S128.size a)
theorem k0_idx4_inb : ∀ (v54 : IVec S16 32) (k0_hw4 : k0_chk4 v54), ∀ a x, ((![v54] : Fin 1 → IVec S16 32) a x).toNat < S128.size a := fun v54 k0_hw4 => k0_hw4

def k0_chk5 (v69 : IVec S16 32) : Prop :=
  (∀ a x, ((![v69] : Fin 1 → IVec S16 32) a x).toNat < S128.size a)
theorem k0_idx5_inb : ∀ (v69 : IVec S16 32) (k0_hw5 : k0_chk5 v69), ∀ a x, ((![v69] : Fin 1 → IVec S16 32) a x).toNat < S128.size a := fun v69 k0_hw5 => k0_hw5

def k0_chk6 (v84 : IVec S16 32) : Prop :=
  (∀ a x, ((![v84] : Fin 1 → IVec S16 32) a x).toNat < S128.size a)
theorem k0_idx6_inb : ∀ (v84 : IVec S16 32) (k0_hw6 : k0_chk6 v84), ∀ a x, ((![v84] : Fin 1 → IVec S16 32) a x).toNat < S128.size a := fun v84 k0_hw6 => k0_hw6

def k0_chk7 (v99 : IVec S16 32) : Prop :=
  (∀ a x, ((![v99] : Fin 1 → IVec S16 32) a x).toNat < S128.size a)
theorem k0_idx7_inb : ∀ (v99 : IVec S16 32) (k0_hw7 : k0_chk7 v99), ∀ a x, ((![v99] : Fin 1 → IVec S16 32) a x).toNat < S128.size a := fun v99 k0_hw7 => k0_hw7

def k0_chk8 (v114 : IVec S16 32) : Prop :=
  (∀ a x, ((![v114] : Fin 1 → IVec S16 32) a x).toNat < S128.size a)
theorem k0_idx8_inb : ∀ (v114 : IVec S16 32) (k0_hw8 : k0_chk8 v114), ∀ a x, ((![v114] : Fin 1 → IVec S16 32) a x).toNat < S128.size a := fun v114 k0_hw8 => k0_hw8

def k0_chk9 (v129 : IVec S16 32) : Prop :=
  (∀ a x, ((![v129] : Fin 1 → IVec S16 32) a x).toNat < S128.size a)
theorem k0_idx9_inb : ∀ (v129 : IVec S16 32) (k0_hw9 : k0_chk9 v129), ∀ a x, ((![v129] : Fin 1 → IVec S16 32) a x).toNat < S128.size a := fun v129 k0_hw9 => k0_hw9

def k0_chk10 (v144 : IVec S16 32) : Prop :=
  (∀ a x, ((![v144] : Fin 1 → IVec S16 32) a x).toNat < S128.size a)
theorem k0_idx10_inb : ∀ (v144 : IVec S16 32) (k0_hw10 : k0_chk10 v144), ∀ a x, ((![v144] : Fin 1 → IVec S16 32) a x).toNat < S128.size a := fun v144 k0_hw10 => k0_hw10

def k0_chk11 (v159 : IVec S16 32) : Prop :=
  (∀ a x, ((![v159] : Fin 1 → IVec S16 32) a x).toNat < S128.size a)
theorem k0_idx11_inb : ∀ (v159 : IVec S16 32) (k0_hw11 : k0_chk11 v159), ∀ a x, ((![v159] : Fin 1 → IVec S16 32) a x).toNat < S128.size a := fun v159 k0_hw11 => k0_hw11

def k0_chk12 (v174 : IVec S16 32) : Prop :=
  (∀ a x, ((![v174] : Fin 1 → IVec S16 32) a x).toNat < S128.size a)
theorem k0_idx12_inb : ∀ (v174 : IVec S16 32) (k0_hw12 : k0_chk12 v174), ∀ a x, ((![v174] : Fin 1 → IVec S16 32) a x).toNat < S128.size a := fun v174 k0_hw12 => k0_hw12

def k0_chk13 (v189 : IVec S16 32) : Prop :=
  (∀ a x, ((![v189] : Fin 1 → IVec S16 32) a x).toNat < S128.size a)
theorem k0_idx13_inb : ∀ (v189 : IVec S16 32) (k0_hw13 : k0_chk13 v189), ∀ a x, ((![v189] : Fin 1 → IVec S16 32) a x).toNat < S128.size a := fun v189 k0_hw13 => k0_hw13

def k0_chk14 (v204 : IVec S16 32) : Prop :=
  (∀ a x, ((![v204] : Fin 1 → IVec S16 32) a x).toNat < S128.size a)
theorem k0_idx14_inb : ∀ (v204 : IVec S16 32) (k0_hw14 : k0_chk14 v204), ∀ a x, ((![v204] : Fin 1 → IVec S16 32) a x).toNat < S128.size a := fun v204 k0_hw14 => k0_hw14

def k0_chk15 (v219 : IVec S16 32) : Prop :=
  (∀ a x, ((![v219] : Fin 1 → IVec S16 32) a x).toNat < S128.size a)
theorem k0_idx15_inb : ∀ (v219 : IVec S16 32) (k0_hw15 : k0_chk15 v219), ∀ a x, ((![v219] : Fin 1 → IVec S16 32) a x).toNat < S128.size a := fun v219 k0_hw15 => k0_hw15

def k0_chk16 (v234 : IVec S16 32) : Prop :=
  (∀ a x, ((![v234] : Fin 1 → IVec S16 32) a x).toNat < S128.size a)
theorem k0_idx16_inb : ∀ (v234 : IVec S16 32) (k0_hw16 : k0_chk16 v234), ∀ a x, ((![v234] : Fin 1 → IVec S16 32) a x).toNat < S128.size a := fun v234 k0_hw16 => k0_hw16

def k0_chk17 (v249 : IVec S16 32) : Prop :=
  (∀ a x, ((![v249] : Fin 1 → IVec S16 32) a x).toNat < S128.size a)
theorem k0_idx17_inb : ∀ (v249 : IVec S16 32) (k0_hw17 : k0_chk17 v249), ∀ a x, ((![v249] : Fin 1 → IVec S16 32) a x).toNat < S128.size a := fun v249 k0_hw17 => k0_hw17

def k0_chk18 (v264 : IVec S16 32) : Prop :=
  (∀ a x, ((![v264] : Fin 1 → IVec S16 32) a x).toNat < S128.size a)
theorem k0_idx18_inb : ∀ (v264 : IVec S16 32) (k0_hw18 : k0_chk18 v264), ∀ a x, ((![v264] : Fin 1 → IVec S16 32) a x).toNat < S128.size a := fun v264 k0_hw18 => k0_hw18

def k0_chk19 (v279 : IVec S16 32) : Prop :=
  (∀ a x, ((![v279] : Fin 1 → IVec S16 32) a x).toNat < S128.size a)
theorem k0_idx19_inb : ∀ (v279 : IVec S16 32) (k0_hw19 : k0_chk19 v279), ∀ a x, ((![v279] : Fin 1 → IVec S16 32) a x).toNat < S128.size a := fun v279 k0_hw19 => k0_hw19

def k0_chk20 (v294 : IVec S16 32) : Prop :=
  (∀ a x, ((![v294] : Fin 1 → IVec S16 32) a x).toNat < S128.size a)
theorem k0_idx20_inb : ∀ (v294 : IVec S16 32) (k0_hw20 : k0_chk20 v294), ∀ a x, ((![v294] : Fin 1 → IVec S16 32) a x).toNat < S128.size a := fun v294 k0_hw20 => k0_hw20

def k0_chk21 (v309 : IVec S16 32) : Prop :=
  (∀ a x, ((![v309] : Fin 1 → IVec S16 32) a x).toNat < S128.size a)
theorem k0_idx21_inb : ∀ (v309 : IVec S16 32) (k0_hw21 : k0_chk21 v309), ∀ a x, ((![v309] : Fin 1 → IVec S16 32) a x).toNat < S128.size a := fun v309 k0_hw21 => k0_hw21

def k0_chk22 (v324 : IVec S16 32) : Prop :=
  (∀ a x, ((![v324] : Fin 1 → IVec S16 32) a x).toNat < S128.size a)
theorem k0_idx22_inb : ∀ (v324 : IVec S16 32) (k0_hw22 : k0_chk22 v324), ∀ a x, ((![v324] : Fin 1 → IVec S16 32) a x).toNat < S128.size a := fun v324 k0_hw22 => k0_hw22

def k0_chk23 (v339 : IVec S16 32) : Prop :=
  (∀ a x, ((![v339] : Fin 1 → IVec S16 32) a x).toNat < S128.size a)
theorem k0_idx23_inb : ∀ (v339 : IVec S16 32) (k0_hw23 : k0_chk23 v339), ∀ a x, ((![v339] : Fin 1 → IVec S16 32) a x).toNat < S128.size a := fun v339 k0_hw23 => k0_hw23

def k0_chk24 (v354 : IVec S16 32) : Prop :=
  (∀ a x, ((![v354] : Fin 1 → IVec S16 32) a x).toNat < S128.size a)
theorem k0_idx24_inb : ∀ (v354 : IVec S16 32) (k0_hw24 : k0_chk24 v354), ∀ a x, ((![v354] : Fin 1 → IVec S16 32) a x).toNat < S128.size a := fun v354 k0_hw24 => k0_hw24

def k0_chk25 (v369 : IVec S16 32) : Prop :=
  (∀ a x, ((![v369] : Fin 1 → IVec S16 32) a x).toNat < S128.size a)
theorem k0_idx25_inb : ∀ (v369 : IVec S16 32) (k0_hw25 : k0_chk25 v369), ∀ a x, ((![v369] : Fin 1 → IVec S16 32) a x).toNat < S128.size a := fun v369 k0_hw25 => k0_hw25

def k0_chk26 (v384 : IVec S16 32) : Prop :=
  (∀ a x, ((![v384] : Fin 1 → IVec S16 32) a x).toNat < S128.size a)
theorem k0_idx26_inb : ∀ (v384 : IVec S16 32) (k0_hw26 : k0_chk26 v384), ∀ a x, ((![v384] : Fin 1 → IVec S16 32) a x).toNat < S128.size a := fun v384 k0_hw26 => k0_hw26

def k0_chk27 (v399 : IVec S16 32) : Prop :=
  (∀ a x, ((![v399] : Fin 1 → IVec S16 32) a x).toNat < S128.size a)
theorem k0_idx27_inb : ∀ (v399 : IVec S16 32) (k0_hw27 : k0_chk27 v399), ∀ a x, ((![v399] : Fin 1 → IVec S16 32) a x).toNat < S128.size a := fun v399 k0_hw27 => k0_hw27

def k0_chk28 (v414 : IVec S16 32) : Prop :=
  (∀ a x, ((![v414] : Fin 1 → IVec S16 32) a x).toNat < S128.size a)
theorem k0_idx28_inb : ∀ (v414 : IVec S16 32) (k0_hw28 : k0_chk28 v414), ∀ a x, ((![v414] : Fin 1 → IVec S16 32) a x).toNat < S128.size a := fun v414 k0_hw28 => k0_hw28

def k0_chk29 (v429 : IVec S16 32) : Prop :=
  (∀ a x, ((![v429] : Fin 1 → IVec S16 32) a x).toNat < S128.size a)
theorem k0_idx29_inb : ∀ (v429 : IVec S16 32) (k0_hw29 : k0_chk29 v429), ∀ a x, ((![v429] : Fin 1 → IVec S16 32) a x).toNat < S128.size a := fun v429 k0_hw29 => k0_hw29

def k0_chk30 (v444 : IVec S16 32) : Prop :=
  (∀ a x, ((![v444] : Fin 1 → IVec S16 32) a x).toNat < S128.size a)
theorem k0_idx30_inb : ∀ (v444 : IVec S16 32) (k0_hw30 : k0_chk30 v444), ∀ a x, ((![v444] : Fin 1 → IVec S16 32) a x).toNat < S128.size a := fun v444 k0_hw30 => k0_hw30

def k0_chk31 (v459 : IVec S16 32) : Prop :=
  (∀ a x, ((![v459] : Fin 1 → IVec S16 32) a x).toNat < S128.size a)
theorem k0_idx31_inb : ∀ (v459 : IVec S16 32) (k0_hw31 : k0_chk31 v459), ∀ a x, ((![v459] : Fin 1 → IVec S16 32) a x).toNat < S128.size a := fun v459 k0_hw31 => k0_hw31

def k0_chk32 (v474 : IVec S16 32) : Prop :=
  (∀ a x, ((![v474] : Fin 1 → IVec S16 32) a x).toNat < S128.size a)
theorem k0_idx32_inb : ∀ (v474 : IVec S16 32) (k0_hw32 : k0_chk32 v474), ∀ a x, ((![v474] : Fin 1 → IVec S16 32) a x).toNat < S128.size a := fun v474 k0_hw32 => k0_hw32

def k0_chk33 (v489 : IVec S16 32) : Prop :=
  (∀ a x, ((![v489] : Fin 1 → IVec S16 32) a x).toNat < S128.size a)
theorem k0_idx33_inb : ∀ (v489 : IVec S16 32) (k0_hw33 : k0_chk33 v489), ∀ a x, ((![v489] : Fin 1 → IVec S16 32) a x).toNat < S128.size a := fun v489 k0_hw33 => k0_hw33

def k0_chk34 (v504 : IVec S16 32) : Prop :=
  (∀ a x, ((![v504] : Fin 1 → IVec S16 32) a x).toNat < S128.size a)
theorem k0_idx34_inb : ∀ (v504 : IVec S16 32) (k0_hw34 : k0_chk34 v504), ∀ a x, ((![v504] : Fin 1 → IVec S16 32) a x).toNat < S128.size a := fun v504 k0_hw34 => k0_hw34

def k0_chk35 (v519 : IVec S16 32) : Prop :=
  (∀ a x, ((![v519] : Fin 1 → IVec S16 32) a x).toNat < S128.size a)
theorem k0_idx35_inb : ∀ (v519 : IVec S16 32) (k0_hw35 : k0_chk35 v519), ∀ a x, ((![v519] : Fin 1 → IVec S16 32) a x).toNat < S128.size a := fun v519 k0_hw35 => k0_hw35

def k0_chk36 (v534 : IVec S16 32) : Prop :=
  (∀ a x, ((![v534] : Fin 1 → IVec S16 32) a x).toNat < S128.size a)
theorem k0_idx36_inb : ∀ (v534 : IVec S16 32) (k0_hw36 : k0_chk36 v534), ∀ a x, ((![v534] : Fin 1 → IVec S16 32) a x).toNat < S128.size a := fun v534 k0_hw36 => k0_hw36

def k0_chk37 (v549 : IVec S16 32) : Prop :=
  (∀ a x, ((![v549] : Fin 1 → IVec S16 32) a x).toNat < S128.size a)
theorem k0_idx37_inb : ∀ (v549 : IVec S16 32) (k0_hw37 : k0_chk37 v549), ∀ a x, ((![v549] : Fin 1 → IVec S16 32) a x).toNat < S128.size a := fun v549 k0_hw37 => k0_hw37

def k0_chk38 (v564 : IVec S16 32) : Prop :=
  (∀ a x, ((![v564] : Fin 1 → IVec S16 32) a x).toNat < S128.size a)
theorem k0_idx38_inb : ∀ (v564 : IVec S16 32) (k0_hw38 : k0_chk38 v564), ∀ a x, ((![v564] : Fin 1 → IVec S16 32) a x).toNat < S128.size a := fun v564 k0_hw38 => k0_hw38

def k0_chk39 (v579 : IVec S16 32) : Prop :=
  (∀ a x, ((![v579] : Fin 1 → IVec S16 32) a x).toNat < S128.size a)
theorem k0_idx39_inb : ∀ (v579 : IVec S16 32) (k0_hw39 : k0_chk39 v579), ∀ a x, ((![v579] : Fin 1 → IVec S16 32) a x).toNat < S128.size a := fun v579 k0_hw39 => k0_hw39

def k0_chk40 (v594 : IVec S16 32) : Prop :=
  (∀ a x, ((![v594] : Fin 1 → IVec S16 32) a x).toNat < S128.size a)
theorem k0_idx40_inb : ∀ (v594 : IVec S16 32) (k0_hw40 : k0_chk40 v594), ∀ a x, ((![v594] : Fin 1 → IVec S16 32) a x).toNat < S128.size a := fun v594 k0_hw40 => k0_hw40
def k0_off2 (i : grid0.Coords) : Fin 1 → Nat :=
  let arg1 : BitVec 32 := BitVec.ofNat 32 (i 1).val
  let c640_i32 : BitVec 32 := 640#32
  let v644 : BitVec 32 := Scalar.muli arg1 c640_i32
  ![v644.toNat]
def k0_off3 (i : grid0.Coords) (c0_i32_476 : BitVec 32) : Fin 1 → Nat :=
  let arg1 : BitVec 32 := BitVec.ofNat 32 (i 1).val
  let c128_i32 : BitVec 32 := 128#32
  let v1 : BitVec 32 := Scalar.muli arg1 c128_i32
  let v933 : BitVec 32 := Scalar.addi c0_i32_476 v1
  ![v933.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReferenceIdeal.lean ====
abbrev S100000 : Shape := ⟨1, ![100000]⟩
abbrev S20000x5 : Shape := ⟨2, ![20000, 5]⟩
abbrev S2048 : Shape := ⟨1, ![2048]⟩
abbrev S100000x5 : Shape := ⟨2, ![100000, 5]⟩
abbrev S_ : Shape := ⟨0, ![]⟩
abbrev S2048x1 : Shape := ⟨2, ![2048, 1]⟩
abbrev S2048x5 : Shape := ⟨2, ![2048, 5]⟩
abbrev S10240 : Shape := ⟨1, ![10240]⟩
abbrev S5x2048 : Shape := ⟨2, ![5, 2048]⟩

abbrev nBuf : Space → Nat
  | .hbm => 29
  | .vmem => 0
  | .smem => 0
  | _ => 0

abbrev bufTy : (tb : Table) → Fin (tcTables nBuf tb) → BufTy
  | .hbm, ⟨0, _⟩ => ⟨S100000, .i32⟩
  | .hbm, ⟨1, _⟩ => ⟨S20000x5, .f32⟩
  | .hbm, ⟨2, _⟩ => ⟨S20000x5, .f32⟩
  | .hbm, ⟨3, _⟩ => ⟨S20000x5, .f32⟩
  | .hbm, ⟨4, _⟩ => ⟨S20000x5, .f32⟩
  | .hbm, ⟨5, _⟩ => ⟨S20000x5, .f32⟩
  | .hbm, ⟨6, _⟩ => ⟨S2048, .i32⟩
  | .hbm, ⟨7, _⟩ => ⟨S100000x5, .f32⟩
  | .hbm, ⟨8, _⟩ => ⟨S_, .i32⟩
  | .hbm, ⟨9, _⟩ => ⟨S2048, .i32⟩
  | .hbm, ⟨10, _⟩ => ⟨S2048, .i1⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S2048x1, .i32⟩
  | .hbm, ⟨16, _⟩ => ⟨S2048x5, .f32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S2048x1, .i32⟩
  | .hbm, ⟨25, _⟩ => ⟨S2048, .i32⟩
  | .hbm, ⟨26, _⟩ => ⟨S10240, .f32⟩
  | .hbm, ⟨27, _⟩ => ⟨S5x2048, .f32⟩
  | .hbm, ⟨28, _⟩ => ⟨S10240, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Count.lean ====
abbrev S100000 : Shape := ⟨1, ![100000]⟩
abbrev S1 : Shape := ⟨1, ![1]⟩
abbrev S_ : Shape := ⟨0, ![]⟩
abbrev S352 : Shape := ⟨1, ![352]⟩
abbrev S100352 : Shape := ⟨1, ![100352]⟩
abbrev S16 : Shape := ⟨1, ![16]⟩
abbrev S256 : Shape := ⟨1, ![256]⟩
abbrev S6272 : Shape := ⟨1, ![6272]⟩
abbrev S49x128 : Shape := ⟨2, ![49, 128]⟩
abbrev S128 : Shape := ⟨1, ![128]⟩
abbrev S1x16 : Shape := ⟨2, ![1, 16]⟩

abbrev nBuf : Table → Nat
  | .hbm => 7
  | .local .scVector .vmem => 4
  | _ => 0

abbrev bufTy : (tb : Table) → Fin (nBuf tb) → BufTy
  | .hbm, ⟨0, _⟩ => ⟨S100000, .i32⟩
  | .hbm, ⟨1, _⟩ => ⟨S1, .i32⟩
  | .hbm, ⟨2, _⟩ => ⟨S_, .i32⟩
  | .hbm, ⟨3, _⟩ => ⟨S352, .i32⟩
  | .hbm, ⟨4, _⟩ => ⟨S100352, .i32⟩
  | .hbm, ⟨5, _⟩ => ⟨S16, .i32⟩
  | .hbm, ⟨6, _⟩ => ⟨S256, .i32⟩
  | .local .scVector .vmem, ⟨0, _⟩ => ⟨S6272, .i32⟩
  | .local .scVector .vmem, ⟨1, _⟩ => ⟨S49x128, .i32⟩
  | .local .scVector .vmem, ⟨2, _⟩ => ⟨S128, .i32⟩
  | .local .scVector .vmem, ⟨3, _⟩ => ⟨S16, .i32⟩
  | _, _ => ⟨S100000, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c6272_i32 : BitVec 32 := 6272#32
  let v0 : BitVec 32 := Scalar.muli arg1 c6272_i32
  ![v0.toNat]
@[reducible] def k0_t1_loop : Scf.Loop 32 :=
  let c0_i32_0 : BitVec 32 := 0#32
  let c392_i32 : BitVec 32 := 392#32
  let v4 : BitVec 32 := Scalar.addi c0_i32_0 c392_i32
  let c1_i32 : BitVec 32 := 1#32
  ⟨c0_i32_0, v4, c1_i32⟩
def k0_off2 (k0_t1 : Fin k0_t1_loop.trips) : Fin 1 → Nat :=
  let c0_i32_0 : BitVec 32 := 0#32
  let c1_i32 : BitVec 32 := 1#32
  let arg10 : BitVec 32 := Scf.iv c0_i32_0 c1_i32 k0_t1
  let c16_i32_7 : BitVec 32 := 16#32
  let v23 : BitVec 32 := Scalar.muli arg10 c16_i32_7
  let v24 : Index := Scalar.indexCast v23
  ![v24.toNat]
def k0_off3 (k0_t1 : Fin k0_t1_loop.trips) : Fin 2 → Nat :=
  let c0_i32_0 : BitVec 32 := 0#32
  let c1_i32 : BitVec 32 := 1#32
  let arg10 : BitVec 32 := Scf.iv c0_i32_0 c1_i32 k0_t1
  let c3_i32 : BitVec 32 := 3#32
  let v36 : BitVec 32 := Scalar.shrsi arg10 c3_i32
  let v43 : Index := Scalar.indexCast v36
  let c7_i32 : BitVec 32 := 7#32
  let v37 : BitVec 32 := Scalar.andi arg10 c7_i32
  let c16_i32_13 : BitVec 32 := 16#32
  let v42 : BitVec 32 := Scalar.muli v37 c16_i32_13
  let v44 : Index := Scalar.indexCast v42
  ![v43.toNat, v44.toNat]
def k0_off4 (i : grid0.Coords) : Fin 1 → Nat :=
  let arg1 : BitVec 32 := BitVec.ofNat 32 (i 1).val
  let c16_i32 : BitVec 32 := 16#32
  let v22 : BitVec 32 := Scalar.muli arg1 c16_i32
  ![v22.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== CountReferenceIdeal.lean ====
abbrev S100000 : Shape := ⟨1, ![100000]⟩
abbrev S1 : Shape := ⟨1, ![1]⟩
abbrev S_ : Shape := ⟨0, ![]⟩
abbrev S352 : Shape := ⟨1, ![352]⟩
abbrev S100352 : Shape := ⟨1, ![100352]⟩
abbrev S16x6272 : Shape := ⟨2, ![16, 6272]⟩
abbrev S16 : Shape := ⟨1, ![16]⟩
abbrev S16x14 : Shape := ⟨2, ![16, 14]⟩
abbrev S16x1 : Shape := ⟨2, ![16, 1]⟩
abbrev S16x2 : Shape := ⟨2, ![16, 2]⟩
abbrev S16x16 : Shape := ⟨2, ![16, 16]⟩
abbrev S256 : Shape := ⟨1, ![256]⟩

abbrev nBuf : Space → Nat
  | .hbm => 25
  | .vmem => 0
  | .smem => 0
  | _ => 0

abbrev bufTy : (tb : Table) → Fin (tcTables nBuf tb) → BufTy
  | .hbm, ⟨0, _⟩ => ⟨S100000, .i32⟩
  | .hbm, ⟨1, _⟩ => ⟨S1, .i32⟩
  | .hbm, ⟨2, _⟩ => ⟨S_, .i32⟩
  | .hbm, ⟨3, _⟩ => ⟨S352, .i32⟩
  | .hbm, ⟨4, _⟩ => ⟨S100352, .i32⟩
  | .hbm, ⟨5, _⟩ => ⟨S16x6272, .i32⟩
  | .hbm, ⟨6, _⟩ => ⟨S_, .i32⟩
  | .hbm, ⟨7, _⟩ => ⟨S16x6272, .i32⟩
  | .hbm, ⟨8, _⟩ => ⟨S16x6272, .i1⟩
  | .hbm, ⟨9, _⟩ => ⟨S16x6272, .i32⟩
  | .hbm, ⟨10, _⟩ => ⟨S_, .i32⟩
  | .hbm, ⟨11, _⟩ => ⟨S16, .i32⟩
  | .hbm, ⟨12, _⟩ => ⟨S_, .i32⟩
  | .hbm, ⟨13, _⟩ => ⟨S16x6272, .i32⟩
  | .hbm, ⟨14, _⟩ => ⟨S16x6272, .i1⟩
  | .hbm, ⟨15, _⟩ => ⟨S16x6272, .i32⟩
  | .hbm, ⟨16, _⟩ => ⟨S_, .i32⟩
  | .hbm, ⟨17, _⟩ => ⟨S16, .i32⟩
  | .hbm, ⟨18, _⟩ => ⟨S_, .i32⟩
  | .hbm, ⟨19, _⟩ => ⟨S16x14, .i32⟩
  | .hbm, ⟨20, _⟩ => ⟨S16x1, .i32⟩
  | .hbm, ⟨21, _⟩ => ⟨S16x1, .i32⟩
  | .hbm, ⟨22, _⟩ => ⟨S16x2, .i32⟩
  | .hbm, ⟨23, _⟩ => ⟨S16x16, .i32⟩
  | .hbm, ⟨24, _⟩ => ⟨S256, .i32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Place.lean ====
abbrev S100000 : Shape := ⟨1, ![100000]⟩
abbrev S1 : Shape := ⟨1, ![1]⟩
abbrev S256 : Shape := ⟨1, ![256]⟩
abbrev S_ : Shape := ⟨0, ![]⟩
abbrev S352 : Shape := ⟨1, ![352]⟩
abbrev S100352 : Shape := ⟨1, ![100352]⟩
abbrev S16 : Shape := ⟨1, ![16]⟩
abbrev S32 : Shape := ⟨1, ![32]⟩
abbrev S102400 : Shape := ⟨1, ![102400]⟩
abbrev S6272 : Shape := ⟨1, ![6272]⟩
abbrev S49x128 : Shape := ⟨2, ![49, 128]⟩
abbrev S1x16 : Shape := ⟨2, ![1, 16]⟩
abbrev S1x128 : Shape := ⟨2, ![1, 128]⟩
abbrev S128 : Shape := ⟨1, ![128]⟩
abbrev S2000 : Shape := ⟨1, ![2000]⟩

abbrev nBuf : Table → Nat
  | .hbm => 12
  | .local .scVector .vmem => 5
  | _ => 0

abbrev bufTy : (tb : Table) → Fin (nBuf tb) → BufTy
  | .hbm, ⟨0, _⟩ => ⟨S100000, .i32⟩
  | .hbm, ⟨1, _⟩ => ⟨S1, .i32⟩
  | .hbm, ⟨2, _⟩ => ⟨S1, .i32⟩
  | .hbm, ⟨3, _⟩ => ⟨S256, .i32⟩
  | .hbm, ⟨4, _⟩ => ⟨S_, .i32⟩
  | .hbm, ⟨5, _⟩ => ⟨S352, .i32⟩
  | .hbm, ⟨6, _⟩ => ⟨S100352, .i32⟩
  | .hbm, ⟨7, _⟩ => ⟨S16, .i32⟩
  | .hbm, ⟨8, _⟩ => ⟨S16, .i32⟩
  | .hbm, ⟨9, _⟩ => ⟨S32, .i32⟩
  | .hbm, ⟨10, _⟩ => ⟨S102400, .i32⟩
  | .hbm, ⟨11, _⟩ => ⟨S2000, .i32⟩
  | .local .scVector .vmem, ⟨0, _⟩ => ⟨S6272, .i32⟩
  | .local .scVector .vmem, ⟨1, _⟩ => ⟨S49x128, .i32⟩
  | .local .scVector .vmem, ⟨2, _⟩ => ⟨S49x128, .i32⟩
  | .local .scVector .vmem, ⟨3, _⟩ => ⟨S256, .i32⟩
  | .local .scVector .vmem, ⟨4, _⟩ => ⟨S32, .i32⟩
  | _, _ => ⟨S100000, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v1_scv : Ref sig .scVector := ⟨.hbm, 6, rfl⟩
abbrev main_v4_scv : Ref sig .scVector := ⟨.hbm, 9, rfl⟩
abbrev main_arg3_scv : Ref sig .scVector := ⟨.hbm, 3, rfl⟩
abbrev main_v5_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c6272_i32 : BitVec 32 := 6272#32
  let v0 : BitVec 32 := Scalar.muli arg1 c6272_i32
  ![v0.toNat]
@[reducible] def k0_t1_loop : Scf.Loop 32 :=
  let c0_i32_1 : BitVec 32 := 0#32
  let c16_i32 : BitVec 32 := 16#32
  let v4 : BitVec 32 := Scalar.addi c0_i32_1 c16_i32
  let c1_i32 : BitVec 32 := 1#32
  ⟨c0_i32_1, v4, c1_i32⟩
def k0_off2 (k0_t1 : Fin k0_t1_loop.trips) : Fin 1 → Nat :=
  let c0_i32_1 : BitVec 32 := 0#32
  let c1_i32 : BitVec 32 := 1#32
  let arg12 : BitVec 32 := Scf.iv c0_i32_1 c1_i32 k0_t1
  let c16_i32_12 : BitVec 32 := 16#32
  let v10 : BitVec 32 := Scalar.muli arg12 c16_i32_12
  let v11 : Index := Scalar.indexCast v10
  ![v11.toNat]
@[reducible] def k0_t2_loop : Scf.Loop 32 :=
  let c0_i32_5 : BitVec 32 := 0#32
  let c392_i32 : BitVec 32 := 392#32
  let v6 : BitVec 32 := Scalar.addi c0_i32_5 c392_i32
  let c1_i32_6 : BitVec 32 := 1#32
  ⟨c0_i32_5, v6, c1_i32_6⟩
def k0_off3 (k0_t2 : Fin k0_t2_loop.trips) : Fin 1 → Nat :=
  let c0_i32_5 : BitVec 32 := 0#32
  let c1_i32_6 : BitVec 32 := 1#32
  let arg12 : BitVec 32 := Scf.iv c0_i32_5 c1_i32_6 k0_t2
  let c16_i32_12 : BitVec 32 := 16#32
  let v10 : BitVec 32 := Scalar.muli arg12 c16_i32_12
  let v11 : Index := Scalar.indexCast v10
  ![v11.toNat]
def k0_off4 (k0_t2 : Fin k0_t2_loop.trips) : Fin 2 → Nat :=
  let c0_i32_5 : BitVec 32 := 0#32
  let c1_i32_6 : BitVec 32 := 1#32
  let arg12 : BitVec 32 := Scf.iv c0_i32_5 c1_i32_6 k0_t2
  let c3_i32 : BitVec 32 := 3#32
  let v46 : BitVec 32 := Scalar.shrsi arg12 c3_i32
  let v49 : Index := Scalar.indexCast v46
  let c7_i32 : BitVec 32 := 7#32
  let v47 : BitVec 32 := Scalar.andi arg12 c7_i32
  let c16_i32_19 : BitVec 32 := 16#32
  let v48 : BitVec 32 := Scalar.muli v47 c16_i32_19
  let v50 : Index := Scalar.indexCast v48
  ![v49.toNat, v50.toNat]
@[reducible] def k0_t3_loop : Scf.Loop 32 :=
  let c0_i32_9 : BitVec 32 := 0#32
  let c49_i32 : BitVec 32 := 49#32
  let v8 : BitVec 32 := Scalar.addi c0_i32_9 c49_i32
  let c1_i32_10 : BitVec 32 := 1#32
  ⟨c0_i32_9, v8, c1_i32_10⟩
def k0_off5 (k0_t3 : Fin k0_t3_loop.trips) : Fin 2 → Nat :=
  let c0_i32_9 : BitVec 32 := 0#32
  let c1_i32_10 : BitVec 32 := 1#32
  let arg12 : BitVec 32 := Scf.iv c0_i32_9 c1_i32_10 k0_t3
  let c0_i32_13_r3 : BitVec 32 := 0#32
  ![arg12.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== PlaceReferenceIdeal.lean ====
abbrev S100000 : Shape := ⟨1, ![100000]⟩
abbrev S1 : Shape := ⟨1, ![1]⟩
abbrev S256 : Shape := ⟨1, ![256]⟩
abbrev S_ : Shape := ⟨0, ![]⟩
abbrev S352 : Shape := ⟨1, ![352]⟩
abbrev S100352 : Shape := ⟨1, ![100352]⟩
abbrev S16x6272 : Shape := ⟨2, ![16, 6272]⟩
abbrev S6272x16 : Shape := ⟨2, ![6272, 16]⟩
abbrev S16x16 : Shape := ⟨2, ![16, 16]⟩
abbrev S16x1 : Shape := ⟨2, ![16, 1]⟩
abbrev S16 : Shape := ⟨1, ![16]⟩
abbrev S1x16 : Shape := ⟨2, ![1, 16]⟩
abbrev S6272 : Shape := ⟨1, ![6272]⟩
abbrev S6272x1 : Shape := ⟨2, ![6272, 1]⟩
abbrev S2000 : Shape := ⟨1, ![2000]⟩
abbrev S2000x1x1 : Shape := ⟨3, ![2000, 1, 1]⟩
abbrev S1x6272x16 : Shape := ⟨3, ![1, 6272, 16]⟩
abbrev S2000x6272x16 : Shape := ⟨3, ![2000, 6272, 16]⟩

abbrev nBuf : Space → Nat
  | .hbm => 86
  | .vmem => 0
  | .smem => 0
  | _ => 0

abbrev bufTy : (tb : Table) → Fin (tcTables nBuf tb) → BufTy
  | .hbm, ⟨0, _⟩ => ⟨S100000, .i32⟩
  | .hbm, ⟨1, _⟩ => ⟨S1, .i32⟩
  | .hbm, ⟨2, _⟩ => ⟨S1, .i32⟩
  | .hbm, ⟨3, _⟩ => ⟨S256, .i32⟩
  | .hbm, ⟨4, _⟩ => ⟨S_, .i32⟩
  | .hbm, ⟨5, _⟩ => ⟨S352, .i32⟩
  | .hbm, ⟨6, _⟩ => ⟨S100352, .i32⟩
  | .hbm, ⟨7, _⟩ => ⟨S16x6272, .i32⟩
  | .hbm, ⟨8, _⟩ => ⟨S6272x16, .i32⟩
  | .hbm, ⟨9, _⟩ => ⟨S16x16, .i32⟩
  | .hbm, ⟨10, _⟩ => ⟨S_, .i32⟩
  | .hbm, ⟨11, _⟩ => ⟨S6272x16, .i32⟩
  | .hbm, ⟨12, _⟩ => ⟨S6272x16, .i1⟩
  | .hbm, ⟨13, _⟩ => ⟨S_, .i32⟩
  | .hbm, ⟨14, _⟩ => ⟨S6272x16, .i32⟩
  | .hbm, ⟨15, _⟩ => ⟨S6272x16, .i1⟩
  | .hbm, ⟨16, _⟩ => ⟨S16x1, .i32⟩
  | .hbm, ⟨17, _⟩ => ⟨S16, .i32⟩
  | .hbm, ⟨18, _⟩ => ⟨S_, .i32⟩
  | .hbm, ⟨19, _⟩ => ⟨S_, .i32⟩
  | .hbm, ⟨20, _⟩ => ⟨S16, .i32⟩
  | .hbm, ⟨21, _⟩ => ⟨S16x1, .i32⟩
  | .hbm, ⟨22, _⟩ => ⟨S16, .i32⟩
  | .hbm, ⟨23, _⟩ => ⟨S16, .i32⟩
  | .hbm, ⟨24, _⟩ => ⟨S16x1, .i32⟩
  | .hbm, ⟨25, _⟩ => ⟨S16, .i32⟩
  | .hbm, ⟨26, _⟩ => ⟨S_, .i32⟩
  | .hbm, ⟨27, _⟩ => ⟨S_, .i32⟩
  | .hbm, ⟨28, _⟩ => ⟨S16, .i32⟩
  | .hbm, ⟨29, _⟩ => ⟨S16x1, .i32⟩
  | .hbm, ⟨30, _⟩ => ⟨S16, .i32⟩
  | .hbm, ⟨31, _⟩ => ⟨S16, .i32⟩
  | .hbm, ⟨32, _⟩ => ⟨S1x16, .i32⟩
  | .hbm, ⟨33, _⟩ => ⟨S6272x16, .i32⟩
  | .hbm, ⟨34, _⟩ => ⟨S_, .i32⟩
  | .hbm, ⟨35, _⟩ => ⟨S_, .i32⟩
  | .hbm, ⟨36, _⟩ => ⟨S6272x16, .i32⟩
  | .hbm, ⟨37, _⟩ => ⟨S6272x16, .i32⟩
  | .hbm, ⟨38, _⟩ => ⟨S6272x16, .i32⟩
  | .hbm, ⟨39, _⟩ => ⟨S6272x16, .i32⟩
  | .hbm, ⟨40, _⟩ => ⟨S6272x16, .i32⟩
  | .hbm, ⟨41, _⟩ => ⟨S_, .i32⟩
  | .hbm, ⟨42, _⟩ => ⟨S1x16, .i32⟩
  | .hbm, ⟨43, _⟩ => ⟨S1x16, .i32⟩
  | .hbm, ⟨44, _⟩ => ⟨S1x16, .i32⟩
  | .hbm, ⟨45, _⟩ => ⟨S6272x16, .i32⟩
  | .hbm, ⟨46, _⟩ => ⟨S_, .i32⟩
  | .hbm, ⟨47, _⟩ => ⟨S_, .i32⟩
  | .hbm, ⟨48, _⟩ => ⟨S6272x16, .i32⟩
  | .hbm, ⟨49, _⟩ => ⟨S6272x16, .i32⟩
  | .hbm, ⟨50, _⟩ => ⟨S6272x16, .i32⟩
  | .hbm, ⟨51, _⟩ => ⟨S6272x16, .i32⟩
  | .hbm, ⟨52, _⟩ => ⟨S6272x16, .i32⟩
  | .hbm, ⟨53, _⟩ => ⟨S6272, .i32⟩
  | .hbm, ⟨54, _⟩ => ⟨S6272x1, .i32⟩
  | .hbm, ⟨55, _⟩ => ⟨S16, .i32⟩
  | .hbm, ⟨56, _⟩ => ⟨S1x16, .i32⟩
  | .hbm, ⟨57, _⟩ => ⟨S_, .i32⟩
  | .hbm, ⟨58, _⟩ => ⟨S1x16, .i32⟩
  | .hbm, ⟨59, _⟩ => ⟨S1x16, .i32⟩
  | .hbm, ⟨60, _⟩ => ⟨S6272x16, .i32⟩
  | .hbm, ⟨61, _⟩ => ⟨S6272x16, .i32⟩
  | .hbm, ⟨62, _⟩ => ⟨S6272x16, .i32⟩
  | .hbm, ⟨63, _⟩ => ⟨S_, .i32⟩
  | .hbm, ⟨64, _⟩ => ⟨S6272x16, .i32⟩
  | .hbm, ⟨65, _⟩ => ⟨S6272x16, .i1⟩
  | .hbm, ⟨66, _⟩ => ⟨S6272x16, .i1⟩
  | .hbm, ⟨67, _⟩ => ⟨S_, .i32⟩
  | .hbm, ⟨68, _⟩ => ⟨S6272x16, .i32⟩
  | .hbm, ⟨69, _⟩ => ⟨S6272x16, .i32⟩
  | .hbm, ⟨70, _⟩ => ⟨S6272x16, .i32⟩
  | .hbm, ⟨71, _⟩ => ⟨S6272x16, .i32⟩
  | .hbm, ⟨72, _⟩ => ⟨S2000, .i32⟩
  | .hbm, ⟨73, _⟩ => ⟨S2000x1x1, .i32⟩
  | .hbm, ⟨74, _⟩ => ⟨S1x6272x16, .i32⟩
  | .hbm, ⟨75, _⟩ => ⟨S2000x6272x16, .i32⟩
  | .hbm, ⟨76, _⟩ => ⟨S2000x6272x16, .i32⟩
  | .hbm, ⟨77, _⟩ => ⟨S2000x6272x16, .i1⟩
  | .hbm, ⟨78, _⟩ => ⟨S1x6272x16, .i32⟩
  | .hbm, ⟨79, _⟩ => ⟨S_, .i32⟩
  | .hbm, ⟨80, _⟩ => ⟨S_, .i32⟩
  | .hbm, ⟨81, _⟩ => ⟨S2000x6272x16, .i32⟩
  | .hbm, ⟨82, _⟩ => ⟨S2000x6272x16, .i32⟩
  | .hbm, ⟨83, _⟩ => ⟨S2000x6272x16, .i32⟩
  | .hbm, ⟨84, _⟩ => ⟨S_, .i32⟩
  | .hbm, ⟨85, _⟩ => ⟨S2000, .i32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_call0_c : Ref sig .tc := ⟨.hbm, 18, rfl⟩
abbrev main_call0_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call1_call0_c : Ref sig .tc := ⟨.hbm, 26, rfl⟩
abbrev main_call1_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call2_call0_c : Ref sig .tc := ⟨.hbm, 34, rfl⟩
abbrev main_call2_call0_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call3_call0_c : Ref sig .tc := ⟨.hbm, 46, rfl⟩
abbrev main_call3_call0_v0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_0 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_1 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_2 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c_3 : Ref sig .tc := ⟨.hbm, 79, rfl⟩
abbrev main_call6_v0 : Ref sig .tc := ⟨.hbm, 80, rfl⟩
abbrev main_call6_v1 : Ref sig .tc := ⟨.hbm, 81, rfl⟩
abbrev main_call6_v2 : Ref sig .tc := ⟨.hbm, 82, rfl⟩
abbrev main_v63 : Ref sig .tc := ⟨.hbm, 83, rfl⟩
abbrev main_c_4 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== Thr.lean ====
abbrev S2048 : Shape := ⟨1, ![2048]⟩
abbrev S1024 : Shape := ⟨1, ![1024]⟩
abbrev S256 : Shape := ⟨1, ![256]⟩
abbrev S128 : Shape := ⟨1, ![128]⟩
abbrev S_ : Shape := ⟨0, ![]⟩
abbrev S16 : Shape := ⟨1, ![16]⟩

abbrev nBuf : Table → Nat
  | .hbm => 4
  | .local .scVector .vmem => 2
  | _ => 0

abbrev bufTy : (tb : Table) → Fin (nBuf tb) → BufTy
  | .hbm, ⟨0, _⟩ => ⟨S2048, .i32⟩
  | .hbm, ⟨1, _⟩ => ⟨S1024, .i32⟩
  | .hbm, ⟨2, _⟩ => ⟨S1024, .i32⟩
  | .hbm, ⟨3, _⟩ => ⟨S256, .i32⟩
  | .local .scVector .vmem, ⟨0, _⟩ => ⟨S2048, .i32⟩
  | .local .scVector .vmem, ⟨1, _⟩ => ⟨S128, .i32⟩
  | _, _ => ⟨S2048, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32_3 : BitVec 32 := 0#32
  let c128_i32 : BitVec 32 := 128#32
  let v1 : BitVec 32 := Scalar.addi c0_i32_3 c128_i32
  let c1_i32 : BitVec 32 := 1#32
  ⟨c0_i32_3, v1, c1_i32⟩

def k0_chk1 (v30 : IVec S16 32) : Prop :=
  (∀ a x, ((![v30] : Fin 1 → IVec S16 32) a x).toNat < S2048.size a)
theorem k0_idx1_inb : ∀ (v30 : IVec S16 32) (k0_hw1 : k0_chk1 v30), ∀ a x, ((![v30] : Fin 1 → IVec S16 32) a x).toNat < S2048.size a := fun v30 k0_hw1 => k0_hw1
@[reducible] def k0_t2_loop : Scf.Loop 32 :=
  let c0_i32_10 : BitVec 32 := 0#32
  let c64_i32 : BitVec 32 := 64#32
  let v4 : BitVec 32 := Scalar.addi c0_i32_10 c64_i32
  let c1_i32_11 : BitVec 32 := 1#32
  ⟨c0_i32_10, v4, c1_i32_11⟩

def k0_chk2 (v30 : IVec S16 32) : Prop :=
  (∀ a x, ((![v30] : Fin 1 → IVec S16 32) a x).toNat < S2048.size a)
theorem k0_idx2_inb : ∀ (v30 : IVec S16 32) (k0_hw2 : k0_chk2 v30), ∀ a x, ((![v30] : Fin 1 → IVec S16 32) a x).toNat < S2048.size a := fun v30 k0_hw2 => k0_hw2
@[reducible] def k0_t3_loop : Scf.Loop 32 :=
  let c0_i32_17 : BitVec 32 := 0#32
  let c64_i32_18 : BitVec 32 := 64#32
  let v7 : BitVec 32 := Scalar.addi c0_i32_17 c64_i32_18
  let c1_i32_19 : BitVec 32 := 1#32
  ⟨c0_i32_17, v7, c1_i32_19⟩

def k0_chk3 (v30 : IVec S16 32) : Prop :=
  (∀ a x, ((![v30] : Fin 1 → IVec S16 32) a x).toNat < S2048.size a)
theorem k0_idx3_inb : ∀ (v30 : IVec S16 32) (k0_hw3 : k0_chk3 v30), ∀ a x, ((![v30] : Fin 1 → IVec S16 32) a x).toNat < S2048.size a := fun v30 k0_hw3 => k0_hw3
def k0_off1 (i : grid0.Coords) : Fin 1 → Nat :=
  let arg1 : BitVec 32 := BitVec.ofNat 32 (i 1).val
  let c16_i32 : BitVec 32 := 16#32
  let v25 : BitVec 32 := Scalar.muli arg1 c16_i32
  ![v25.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ThrReferenceIdeal.lean ====
abbrev S2048 : Shape := ⟨1, ![2048]⟩
abbrev S1024 : Shape := ⟨1, ![1024]⟩
abbrev S_ : Shape := ⟨0, ![]⟩
abbrev S1 : Shape := ⟨1, ![1]⟩
abbrev S2 : Shape := ⟨1, ![2]⟩
abbrev S14 : Shape := ⟨1, ![14]⟩
abbrev S16 : Shape := ⟨1, ![16]⟩
abbrev S1x16 : Shape := ⟨2, ![1, 16]⟩
abbrev S16x16 : Shape := ⟨2, ![16, 16]⟩
abbrev S256 : Shape := ⟨1, ![256]⟩

abbrev nBuf : Space → Nat
  | .hbm => 131
  | .vmem => 0
  | .smem => 0
  | _ => 0

abbrev hbmTy0_0 (i : Nat) : BufTy := match i % 128 with
  | 0 => ⟨S2048, .i32⟩
  | 1 => ⟨S1024, .i32⟩
  | 2 => ⟨S1024, .i32⟩
  | 3 => ⟨S2048, .i32⟩
  | 4 => ⟨S_, .i32⟩
  | 5 => ⟨S_, .i32⟩
  | 6 => ⟨S_, .i32⟩
  | 7 => ⟨S_, .i32⟩
  | 8 => ⟨S2048, .i32⟩
  | 9 => ⟨S2048, .i32⟩
  | 10 => ⟨S2048, .i32⟩
  | 11 => ⟨S2048, .i32⟩
  | 12 => ⟨S_, .i32⟩
  | 13 => ⟨S2048, .i32⟩
  | 14 => ⟨S2048, .i1⟩
  | 15 => ⟨S_, .i32⟩
  | 16 => ⟨S_, .i32⟩
  | 17 => ⟨S2048, .i32⟩
  | 18 => ⟨S2048, .i32⟩
  | 19 => ⟨S_, .i32⟩
  | 20 => ⟨S_, .i32⟩
  | 21 => ⟨S2048, .i32⟩
  | 22 => ⟨S2048, .i1⟩
  | 23 => ⟨S_, .i32⟩
  | 24 => ⟨S_, .i32⟩
  | 25 => ⟨S2048, .i32⟩
  | 26 => ⟨S2048, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S1024, .i32⟩
  | 42 => ⟨S_, .i32⟩
  | 43 => ⟨S_, .i32⟩
  | 44 => ⟨S_, .i32⟩
  | 45 => ⟨S_, .i32⟩
  | 46 => ⟨S1024, .i32⟩
  | 47 => ⟨S1024, .i32⟩
  | 48 => ⟨S1024, .i32⟩
  | 49 => ⟨S1024, .i32⟩
  | 50 => ⟨S1024, .i32⟩
  | 51 => ⟨S1024, .i1⟩
  | 52 => ⟨S_, .i32⟩
  | 53 => ⟨S_, .i32⟩
  | 54 => ⟨S1024, .i32⟩
  | 55 => ⟨S1024, .i32⟩
  | 56 => ⟨S_, .i32⟩
  | 57 => ⟨S_, .i32⟩
  | 58 => ⟨S1024, .i32⟩
  | 59 => ⟨S1024, .i1⟩
  | 60 => ⟨S_, .i32⟩
  | 61 => ⟨S_, .i32⟩
  | 62 => ⟨S1024, .i32⟩
  | 63 => ⟨S1024, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S1024, .i32⟩
  | 80 => ⟨S_, .i32⟩
  | 81 => ⟨S_, .i32⟩
  | 82 => ⟨S_, .i32⟩
  | 83 => ⟨S_, .i32⟩
  | 84 => ⟨S1024, .i32⟩
  | 85 => ⟨S1024, .i32⟩
  | 86 => ⟨S1024, .i32⟩
  | 87 => ⟨S1024, .i32⟩
  | 88 => ⟨S1024, .i32⟩
  | 89 => ⟨S1024, .i1⟩
  | 90 => ⟨S_, .i32⟩
  | 91 => ⟨S_, .i32⟩
  | 92 => ⟨S1024, .i32⟩
  | 93 => ⟨S1024, .i32⟩
  | 94 => ⟨S_, .i32⟩
  | 95 => ⟨S_, .i32⟩
  | 96 => ⟨S1024, .i32⟩
  | 97 => ⟨S1024, .i1⟩
  | 98 => ⟨S_, .i32⟩
  | 99 => ⟨S_, .i32⟩
  | 100 => ⟨S1024, .i32⟩
  | 101 => ⟨S1024, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S1, .i32⟩
  | 123 => ⟨S1, .i32⟩
  | 124 => ⟨S2, .i32⟩
  | 125 => ⟨S_, .i32⟩
  | 126 => ⟨S14, .i32⟩
  | 127 => ⟨S16, .i32⟩
  | _ => ⟨S2048, .i32⟩

abbrev hbmTy0_1 (i : Nat) : BufTy := match i % 128 with
  | 0 => ⟨S1x16, .i32⟩
  | 1 => ⟨S16x16, .i32⟩
  | 2 => ⟨S256, .i32⟩
  | _ => ⟨S2048, .i32⟩

abbrev hbmTy (i : Nat) : BufTy := match i / 128 with
  | 0 => hbmTy0_0 i
  | 1 => hbmTy0_1 i
  | _ => ⟨S2048, .i32⟩

abbrev bufTy : (tb : Table) → Fin (tcTables nBuf tb) → BufTy
  | .hbm, ⟨i, _⟩ => hbmTy i
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_call0_call0_c : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_call1_v1 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_call2_v0 : Ref sig .tc := ⟨.hbm, 24, rfl⟩
abbrev main_call2_v1 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_c_5 : Ref sig .tc := ⟨.hbm, 29, rfl⟩
abbrev main_v14 : Ref sig .tc := ⟨.hbm, 30, rfl⟩
abbrev main_c_6 : Ref sig .tc := ⟨.hbm, 31, rfl⟩
abbrev main_call3_v0 : Ref sig .tc := ⟨.hbm, 32, rfl⟩
abbrev main_v15 : Ref sig .tc := ⟨.hbm, 33, rfl⟩
abbrev main_c_7 : Ref sig .tc := ⟨.hbm, 34, rfl⟩
abbrev main_v16 : Ref sig .tc := ⟨.hbm, 35, rfl⟩
abbrev main_c_8 : Ref sig .tc := ⟨.hbm, 36, rfl⟩
abbrev main_call4_v0 : Ref sig .tc := ⟨.hbm, 37, rfl⟩
abbrev main_v17 : Ref sig .tc := ⟨.hbm, 38, rfl⟩
abbrev main_c_9 : Ref sig .tc := ⟨.hbm, 39, rfl⟩
abbrev main_v18 : Ref sig .tc := ⟨.hbm, 40, rfl⟩
abbrev main_v19 : Ref sig .tc := ⟨.hbm, 41, rfl⟩
abbrev main_c_10 : Ref sig .tc := ⟨.hbm, 42, rfl⟩
abbrev main_v20 : Ref sig .tc := ⟨.hbm, 43, rfl⟩
abbrev main_call5_call0_c : Ref sig .tc := ⟨.hbm, 44, rfl⟩
abbrev main_call5_call0_v0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_11 : Ref sig .tc := ⟨.hbm, 52, rfl⟩
abbrev main_call6_v0 : Ref sig .tc := ⟨.hbm, 53, rfl⟩
abbrev main_call6_v1 : Ref sig .tc := ⟨.hbm, 54, rfl⟩
abbrev main_v27 : Ref sig .tc := ⟨.hbm, 55, rfl⟩
abbrev main_c_12 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_13 : Ref sig .tc := ⟨.hbm, 60, rfl⟩
abbrev main_call7_v0 : Ref sig .tc := ⟨.hbm, 61, rfl⟩
abbrev main_call7_v1 : Ref sig .tc := ⟨.hbm, 62, rfl⟩
abbrev main_v31 : Ref sig .tc := ⟨.hbm, 63, rfl⟩
abbrev main_c_14 : Ref sig .tc := ⟨.hbm, 64, rfl⟩
abbrev main_v32 : Ref sig .tc := ⟨.hbm, 65, rfl⟩
abbrev main_c_15 : Ref sig .tc := ⟨.hbm, 66, rfl⟩
abbrev main_v33 : Ref sig .tc := ⟨.hbm, 67, rfl⟩
abbrev main_c_16 : Ref sig .tc := ⟨.hbm, 68, rfl⟩
abbrev main_call8_v0 : Ref sig .tc := ⟨.hbm, 69, rfl⟩
abbrev main_v34 : Ref sig .tc := ⟨.hbm, 70, rfl⟩
abbrev main_c_17 : Ref sig .tc := ⟨.hbm, 71, rfl⟩
abbrev main_v35 : Ref sig .tc := ⟨.hbm, 72, rfl⟩
abbrev main_c_18 : Ref sig .tc := ⟨.hbm, 73, rfl⟩
abbrev main_call9_v0 : Ref sig .tc := ⟨.hbm, 74, rfl⟩
abbrev main_v36 : Ref sig .tc := ⟨.hbm, 75, rfl⟩
abbrev main_c_19 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_c_20 : Ref sig .tc := ⟨.hbm, 80, rfl⟩
abbrev main_v40 : Ref sig .tc := ⟨.hbm, 81, rfl⟩
abbrev main_call10_call0_c : Ref sig .tc := ⟨.hbm, 82, rfl⟩
abbrev main_call10_call0_v0 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_c_21 : Ref sig .tc := ⟨.hbm, 90, rfl⟩
abbrev main_call11_v0 : Ref sig .tc := ⟨.hbm, 91, rfl⟩
abbrev main_call11_v1 : Ref sig .tc := ⟨.hbm, 92, rfl⟩
abbrev main_v47 : Ref sig .tc := ⟨.hbm, 93, rfl⟩
abbrev main_c_22 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_c_23 : Ref sig .tc := ⟨.hbm, 98, rfl⟩
abbrev main_call12_v0 : Ref sig .tc := ⟨.hbm, 99, rfl⟩
abbrev main_call12_v1 : Ref sig .tc := ⟨.hbm, 100, rfl⟩
abbrev main_v51 : Ref sig .tc := ⟨.hbm, 101, rfl⟩
abbrev main_c_24 : Ref sig .tc := ⟨.hbm, 102, rfl⟩
abbrev main_v52 : Ref sig .tc := ⟨.hbm, 103, rfl⟩
abbrev main_c_25 : Ref sig .tc := ⟨.hbm, 104, rfl⟩
abbrev main_v53 : Ref sig .tc := ⟨.hbm, 105, rfl⟩
abbrev main_c_26 : Ref sig .tc := ⟨.hbm, 106, rfl⟩
abbrev main_call13_v0 : Ref sig .tc := ⟨.hbm, 107, rfl⟩
abbrev main_v54 : Ref sig .tc := ⟨.hbm, 108, rfl⟩
abbrev main_c_27 : Ref sig .tc := ⟨.hbm, 109, rfl⟩
abbrev main_v55 : Ref sig .tc := ⟨.hbm, 110, rfl⟩
abbrev main_c_28 : Ref sig .tc := ⟨.hbm, 111, rfl⟩
abbrev main_call14_v0 : Ref sig .tc := ⟨.hbm, 112, rfl⟩
abbrev main_v56 : Ref sig .tc := ⟨.hbm, 113, rfl⟩
abbrev main_c_29 : Ref sig .tc := ⟨.hbm, 114, rfl⟩
abbrev main_v57 : Ref sig .tc := ⟨.hbm, 115, rfl⟩
abbrev main_c_30 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_c_31 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩

abbrev nD : Nat := 1
abbrev τ : Topo := Topo.v7x

variable {F : FTy → Type} [FloatOps F]
-- ==== Proof.Blocks.lean ====
/-
  The kernel body's payloads, regrouped: the body handles its 2048 rows in eight blocks of 256 that differ in the block's start alone, so
  each of its values is one of the definitions below, over the block number. The theorems say that what the run stores is these.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.SL.Sem

variable {F : FTy → Type} [FloatOps F]

/-- The row numbers `0 … 2047` along the second axis. -/
abbrev cols : IVec S1x2048 32 := iota .tc S1x2048 32 [1] iota_S1x2048_d1_w32

/-- The row numbers of block `b`. -/
def ids (b : Nat) : IVec S256x1 32 :=
  addi (iota .tc S256x1 32 [0] iota_S256x1_d0_w32) (broadcast S256x1 (BitVec.ofNat 32 (256 * b)))

/-- Block `b` of a column lies inside it, -/
theorem colSlices (b : Fin 8) : S2048x1.Slices ![256 * b.val, 0] S256x1 := by
  revert b; decide

/-- and block `b` of a row inside the row. -/
theorem rowSlices (b : Fin 8) : S1x2048.Slices ![0, 256 * b.val] S1x256 := by
  revert b; decide

/-- A comparison's bit as a float, `0` or `1`. -/
abbrev asFloat {s : Shape} (c : IVec s 1) : FVec F s .f32 := sitofp .f32 (extui 32 c natLt_1_32)

/-- `1` where column `j`'s key precedes the key of row `i` of block `b`: greater, or equal and `j` before `i`. -/
def beats1 (kr : IVec S1x2048 32) (kc : IVec S2048x1 32) (b : Fin 8) : FVec F S256x2048 .f32 :=
  asFloat (ori
    (cmpi .sgt (broadcastTo S256x2048 kr broadcasts_S1x2048_S256x2048)
      (broadcastTo S256x2048 (extractStridedSlice S256x1 ![256 * b.val, 0] kc (colSlices b)) broadcasts_S256x1_S256x2048))
    (andi
      (cmpi .eq (broadcastTo S256x2048 kr broadcasts_S1x2048_S256x2048)
        (broadcastTo S256x2048 (extractStridedSlice S256x1 ![256 * b.val, 0] kc (colSlices b)) broadcasts_S256x1_S256x2048))
      (cmpi .slt (broadcastTo S256x2048 cols broadcasts_S1x2048_S256x2048)
        (broadcastTo S256x2048 (ids b.val) broadcasts_S256x1_S256x2048))))

/-- `1` where column `j`'s level precedes the level of row `i` of block `b`: less, or equal and `j` before `i`. -/
def beats2 (lr : FVec F S1x2048 .f32) (lc : FVec F S256x1 .f32) (b : Fin 8) : FVec F S256x2048 .f32 :=
  asFloat (ori
    (cmpf .olt (broadcastTo S256x2048 lr broadcasts_S1x2048_S256x2048) (broadcastTo S256x2048 lc broadcasts_S256x1_S256x2048))
    (andi
      (cmpf .oeq (broadcastTo S256x2048 lr broadcasts_S1x2048_S256x2048) (broadcastTo S256x2048 lc broadcasts_S256x1_S256x2048))
      (cmpi .slt (broadcastTo S256x2048 cols broadcasts_S1x2048_S256x2048)
        (broadcastTo S256x2048 (ids b.val) broadcasts_S256x1_S256x2048))))

/-- The row sums of a block: how many columns precede each row. -/
def rowSums (x : FVec F S256x2048 .f32) : FVec F S256x1 .f32 :=
  shapeCast S256x1 (multiReduction .add [1] S256 x 0x00000000#32 reduces_S256x2048_S256 (.inl rfl) rfl) shapeCasts_S256_S256x1

/-- The column sums of a block, added to what the blocks before it gave. -/
def addColSums (acc : FVec F S1x2048 .f32) (x : FVec F S256x2048 .f32) : FVec F S1x2048 .f32 :=
  addf acc (shapeCast S1x2048 (multiReduction .add [0] S2048 x 0x00000000#32 reduces_S256x2048_S2048 (.inl rfl) rfl) shapeCasts_S2048_S1x2048)

/-- The ranks as a row: 2047 less the column sums of the eight blocks. -/
def rankRow (x : Fin 8 → FVec F S256x2048 .f32) : FVec F S1x2048 .f32 :=
  subf (broadcast S1x2048 (Scalar.ofBits .f32 0x44FFE000#32))
    (addColSums (addColSums (addColSums (addColSums (addColSums (addColSums (addColSums (addColSums
      (broadcast S1x2048 (Scalar.ofBits .f32 0x00000000#32)) (x 0)) (x 1)) (x 2)) (x 3)) (x 4)) (x 5)) (x 6)) (x 7))

/-- `1` where column `j` is the rank `r` of a row of the block. -/
def hotCol (r : FVec F S256x1 .f32) : FVec F S256x2048 .f32 :=
  asFloat (cmpf .oeq (broadcastTo S256x2048 r broadcasts_S256x1_S256x2048)
    (broadcastTo S256x2048 (sitofp (F := F) .f32 cols) broadcasts_S1x2048_S256x2048))

/-- `1` where the rank of column `j` is a row of block `b`. -/
def hotRow (r : FVec F S1x2048 .f32) (b : Fin 8) : FVec F S256x2048 .f32 :=
  asFloat (cmpf .oeq (broadcastTo S256x2048 r broadcasts_S1x2048_S256x2048)
    (broadcastTo S256x2048 (sitofp (F := F) .f32 (ids b.val)) broadcasts_S256x1_S256x2048))

/-- Block `b` of the areas, moved to the columns their ranks name and added to `acc`. -/
def addSorted (p : FVec F S1x2048 .f32) (acc : FVec F S1x2048 .f32) (r : FVec F S256x1 .f32) (b : Fin 8) : FVec F S1x2048 .f32 :=
  addf acc (matmul dot_S1x256_S256x2048_S1x2048_1_0_0_1_n_n (some .fp32)
    (extractStridedSlice S1x256 ![0, 256 * b.val] p (rowSlices b)) (hotCol r) (constant S1x2048 .f32 0x00000000#32))

/-- The sorted areas as a row. -/
def sortedRow (p : FVec F S1x2048 .f32) (r : Fin 8 → FVec F S256x1 .f32) : FVec F S1x2048 .f32 :=
  addSorted p (addSorted p (addSorted p (addSorted p (addSorted p (addSorted p (addSorted p (addSorted p
    (broadcast S1x2048 (Scalar.ofBits .f32 0x00000000#32)) (r 0) 0) (r 1) 1) (r 2) 2) (r 3) 3) (r 4) 4) (r 5) 5) (r 6) 6) (r 7) 7

/-- The level of an area: 2 and one more for each of the three thresholds it reaches; 6 at the rows from 2000 on. -/
def level {s : Shape} (t₃ t₄ t₅ : Elt F .f32) (id : IVec s 32) (p : FVec F s .f32) : FVec F s .f32 :=
  select (cmpi .slt id (broadcast s 2000#32))
    (addf (addf (addf (broadcast s (Scalar.ofBits .f32 0x40000000#32)) (asFloat (cmpf .oge p (broadcast s t₃))))
      (asFloat (cmpf .oge p (broadcast s t₄)))) (asFloat (cmpf .oge p (broadcast s t₅))))
    (broadcast s (Scalar.ofBits .f32 0x40C00000#32))

/-- Block `b` of the levels, as a column. -/
def levelCol (t₃ t₄ t₅ : Elt F .f32) (p : FVec F S2048x1 .f32) (r : FVec F S1x2048 .f32) (b : Fin 8) : FVec F S256x1 .f32 :=
  level t₃ t₄ t₅ (ids b.val)
    (matmul dot_S256x2048_S2048x1_S256x1_1_0_0_1_n_n (some .fp32) (hotRow r b) p (constant S256x1 .f32 0x00000000#32))

/-- Block `b` of the rows of `x` in the order of the ranks `r`. -/
def permuted (r : FVec F S1x2048 .f32) (x : FVec F S2048x5 .f32) (b : Fin 8) : FVec F S256x5 .f32 :=
  matmul dot_S256x2048_S2048x5_S256x5_1_0_0_1_n_n (some .fp32) (hotRow r b) x (constant S256x5 .f32 0x00000000#32)

/-- How many of the rows below 2000 have each level `0 … 7`. -/
def levelCounts (lr : FVec F S1x2048 .f32) : IVec S8x1 32 :=
  fptosi 32 (shapeCast S8x1 (multiReduction .add [1] S8
    (asFloat (F := F) (andi
      (cmpf .oeq (broadcastTo S8x2048 lr broadcasts_S1x2048_S8x2048)
        (broadcastTo S8x2048 (sitofp (F := F) .f32 (iota .tc S8x1 32 [0] iota_S8x1_d0_w32)) broadcasts_S8x1_S8x2048))
      (broadcastTo S8x2048 (cmpi .slt cols (broadcast S1x2048 2000#32)) broadcasts_S1x2048_S8x2048)))
    0x00000000#32 reduces_S8x2048_S8 (.inl rfl) rfl) shapeCasts_S8_S8x1)

/-- The ranks of the keys. -/
def rank1 (kr : IVec S1x2048 32) (kc : IVec S2048x1 32) : FVec F S1x2048 .f32 := rankRow (beats1 kr kc)

/-- The levels of the sorted rows, as a row. -/
def levelRow (t₃ t₄ t₅ : Elt F .f32) (kr : IVec S1x2048 32) (kc : IVec S2048x1 32) (p : FVec F S1x2048 .f32) : FVec F S1x2048 .f32 :=
  level t₃ t₄ t₅ cols (sortedRow p fun b => rowSums (beats1 kr kc b))

/-- The ranks of the levels. -/
def rank2 (lr : FVec F S1x2048 .f32) (lc : Fin 8 → FVec F S256x1 .f32) : FVec F S1x2048 .f32 := rankRow fun b => beats2 lr (lc b) b

section Run

variable (c : Dev nD) (arg0 : Memref sig .tc .smem S3 .f32) (harg0 : arg0.IsWhole) (arg1 : Memref sig .tc .vmem S1x2048 .i32) (harg1 : arg1.IsWhole)
  (arg2 : Memref sig .tc .vmem S2048x1 .i32) (harg2 : arg2.IsWhole) (arg3 : Memref sig .tc .vmem S2048x5 .f32) (harg3 : arg3.IsWhole)
  (arg4 : Memref sig .tc .vmem S5x2048 .f32) (harg4 : arg4.IsWhole)
  (x0 : Vec F S3 .f32) (x1 : Vec F S1x2048 .i32) (x2 : Vec F S2048x1 .i32) (x3 : Vec F S2048x5 .f32) (x4 : Vec F S5x2048 .f32)

/-- The eight pieces of a result stored block by block, the last one first. -/
abbrev blockPieces {n : Nat} {e : EltTy} (h : ∀ b : Fin 8, ∀ d, ![256 * b.val, 0] d + (⟨2, ![256, n]⟩ : Shape).size d ≤ (⟨2, ![2048, n]⟩ : Shape).size d)
    (x : Fin 8 → Vec F ⟨2, ![256, n]⟩ e) : List (View.Piece (Elt F) ⟨2, ![2048, n]⟩ e) :=
  [7, 6, 5, 4, 3, 2, 1, 0].map fun b => ⟨Rect.unit ![256 * b.val, 0] (⟨2, ![256, n]⟩ : Shape).size (h b), x b⟩

/-- The run's own names: the masked keys, the areas and the thresholds it has loaded. -/
theorem rank1_eq : kernelRun0_A.sl.r_25 (F := F) c arg1 harg1 arg2 harg2 x1 x2
    = rank1 (kernelRun0_A.sl.r_3 (F := F) c arg1 harg1 x1) (kernelRun0_A.sl.r_4 (F := F) c arg2 harg2 x2) := rfl

theorem levelRow_eq : kernelRun0_A.sl.r_30 (F := F) c arg0 harg0 arg1 harg1 arg2 harg2 arg4 harg4 x0 x1 x2 x4
    = levelRow (kernelRun0_A.sl.r c arg0 harg0 x0) (kernelRun0_A.sl.r_1 c arg0 harg0 x0) (kernelRun0_A.sl.r_2 c arg0 harg0 x0)
        (kernelRun0_A.sl.r_3 (F := F) c arg1 harg1 x1) (kernelRun0_A.sl.r_4 (F := F) c arg2 harg2 x2) (kernelRun0_A.sl.r_8 (F := F) c arg4 harg4 x4) := rfl

/-- The eight blocks of levels the run holds. -/
abbrev runLevels : Fin 8 → FVec F S256x1 .f32 :=
  levelCol (kernelRun0_A.sl.r c arg0 harg0 x0) (kernelRun0_A.sl.r_1 c arg0 harg0 x0) (kernelRun0_A.sl.r_2 c arg0 harg0 x0)
    (kernelRun0_A.sl.r_5 (F := F) c arg3 harg3 x3) (kernelRun0_A.sl.r_25 (F := F) c arg1 harg1 arg2 harg2 x1 x2)

theorem rank2_eq : kernelRun0_A.sl.r_51 (F := F) c arg0 harg0 arg1 harg1 arg2 harg2 arg3 harg3 arg4 harg4 x0 x1 x2 x3 x4
    = rank2 (kernelRun0_A.sl.r_30 (F := F) c arg0 harg0 arg1 harg1 arg2 harg2 arg4 harg4 x0 x1 x2 x4)
        (runLevels c arg0 harg0 arg1 harg1 arg2 harg2 arg3 harg3 x0 x1 x2 x3) := rfl

variable (arg5 : Memref sig .tc .vmem S2048x5 .f32) (harg5 : arg5.IsWhole) (arg6 : Memref sig .tc .vmem S2048x5 .f32) (harg6 : arg6.IsWhole)
  (arg7 : Memref sig .tc .vmem S2048x1 .i32) (harg7 : arg7.IsWhole) (arg8 : Memref sig .tc .vmem S8x1 .i32) (harg8 : arg8.IsWhole)

/-- The stores to the sorted rows, -/
theorem pieces_rows (h) :
    (kernelRun0_A (F := F) c arg0 harg0 arg1 harg1 arg2 harg2 arg3 harg3 arg4 harg4 arg5 harg5 arg6 harg6 arg7 harg7 arg8 harg8 x0 x1 x2 x3 x4).1
    = blockPieces h (permuted (kernelRun0_A.sl.r_25 (F := F) c arg1 harg1 arg2 harg2 x1 x2) (kernelRun0_A.sl.r_31 (F := F) c arg3 harg3 x3)) := rfl

/-- to the rows by level, -/
theorem pieces_byLevel (h) :
    (kernelRun0_A (F := F) c arg0 harg0 arg1 harg1 arg2 harg2 arg3 harg3 arg4 harg4 arg5 harg5 arg6 harg6 arg7 harg7 arg8 harg8 x0 x1 x2 x3 x4).2.1
    = blockPieces h (permuted (kernelRun0_A.sl.r_51 (F := F) c arg0 harg0 arg1 harg1 arg2 harg2 arg3 harg3 arg4 harg4 x0 x1 x2 x3 x4)
        (kernelRun0_A.sl.r_52 (F := F) c arg1 harg1 arg2 harg2 arg3 harg3 arg5 x1 x2 x3)) := rfl

/-- to the ranks of the levels, -/
theorem pieces_rank (h) :
    (kernelRun0_A (F := F) c arg0 harg0 arg1 harg1 arg2 harg2 arg3 harg3 arg4 harg4 arg5 harg5 arg6 harg6 arg7 harg7 arg8 harg8 x0 x1 x2 x3 x4).2.2.1
    = blockPieces h (fun b => fptosi 32 (rowSums (beats2 (kernelRun0_A.sl.r_30 (F := F) c arg0 harg0 arg1 harg1 arg2 harg2 arg4 harg4 x0 x1 x2 x4)
        (runLevels c arg0 harg0 arg1 harg1 arg2 harg2 arg3 harg3 x0 x1 x2 x3 b) b))) := rfl

/-- and to the counts. -/
theorem pieces_counts (h) :
    (kernelRun0_A (F := F) c arg0 harg0 arg1 harg1 arg2 harg2 arg3 harg3 arg4 harg4 arg5 harg5 arg6 harg6 arg7 harg7 arg8 harg8 x0 x1 x2 x3 x4).2.2.2.1
    = [⟨Rect.unit ![0, 0] S8x1.size h, levelCounts (kernelRun0_A.sl.r_30 (F := F) c arg0 harg0 arg1 harg1 arg2 harg2 arg4 harg4 x0 x1 x2 x4)⟩] := rfl

end Run

end Cert.KernelIdeal.Gen

end
-- ==== Proof.Rank.lean ====
/-
  Ranks. Elements `0 … n-1` with an integer key each, ordered by key, equal keys by number. The rank of an element is how many precede it;
  ranks are a permutation, and the stable sort by the key puts at place `k` the element of rank `k`.
-/
module

public import Idealize.ShloMosaic.Lib.SortFacts
public import Idealize.ShloMosaic.Lib.PlanTiles.StableSort
public import Mathlib.Data.Fintype.EquivFin
public import Mathlib.Algebra.BigOperators.Group.Finset.Basic
public import Mathlib.Algebra.BigOperators.Fin
public import Mathlib.Data.EReal.Operations

@[expose] public section

namespace Cert.Rank

open Idealize.ShloMosaic

variable {n : ℕ}

/-- Element `j` precedes element `i`: a smaller key, or the same key and a smaller number. -/
def Before (K : Fin n → ℤ) (j i : Fin n) : Prop := K j < K i ∨ (K j = K i ∧ j < i)

instance (K : Fin n → ℤ) (j i : Fin n) : Decidable (Before K j i) := by unfold Before; infer_instance

theorem before_irrefl (K : Fin n → ℤ) (i : Fin n) : ¬ Before K i i := by
  rintro (h | ⟨-, h⟩) <;> exact lt_irrefl _ h

theorem before_trans (K : Fin n → ℤ) {a b c : Fin n} (h : Before K a b) (h' : Before K b c) : Before K a c := by
  rcases h with h | ⟨h, h1⟩ <;> rcases h' with h' | ⟨h', h1'⟩
  · exact .inl (h.trans h')
  · exact .inl (h' ▸ h)
  · exact .inl (h ▸ h')
  · exact .inr ⟨h.trans h', h1.trans h1'⟩

theorem before_total (K : Fin n → ℤ) {a b : Fin n} (h : a ≠ b) : Before K a b ∨ Before K b a := by
  rcases lt_trichotomy (K a) (K b) with h1 | h1 | h1
  · exact .inl (.inl h1)
  · rcases lt_or_gt_of_ne h with h2 | h2
    · exact .inl (.inr ⟨h1, h2⟩)
    · exact .inr (.inr ⟨h1.symm, h2⟩)
  · exact .inr (.inl h1)

theorem before_asymm (K : Fin n → ℤ) {a b : Fin n} (h : Before K a b) : ¬ Before K b a :=
  fun h' => before_irrefl K a (before_trans K h h')

/-- How many elements precede `i`. -/
def rank (K : Fin n → ℤ) (i : Fin n) : ℕ := (Finset.univ.filter fun j => Before K j i).card

theorem rank_lt (K : Fin n → ℤ) (i : Fin n) : rank K i < n := by
  have h : (Finset.univ.filter fun j => Before K j i) ⊂ Finset.univ := by
    refine Finset.ssubset_univ_iff.mpr fun h => ?_
    have := Finset.mem_univ i
    rw [← h] at this
    exact before_irrefl K i (Finset.mem_filter.mp this).2
  exact (Finset.card_lt_card h).trans_eq (by simp)

theorem rank_mono (K : Fin n → ℤ) {a b : Fin n} (h : Before K a b) : rank K a < rank K b := by
  refine Finset.card_lt_card (Finset.ssubset_iff_of_subset ?_ |>.mpr ⟨a, ?_, ?_⟩)
  · intro j hj
    exact Finset.mem_filter.mpr ⟨Finset.mem_univ _, before_trans K (Finset.mem_filter.mp hj).2 h⟩
  · exact Finset.mem_filter.mpr ⟨Finset.mem_univ _, h⟩
  · exact fun h' => before_irrefl K a (Finset.mem_filter.mp h').2

theorem rank_injective (K : Fin n → ℤ) : Function.Injective fun i => (⟨rank K i, rank_lt K i⟩ : Fin n) := by
  intro a b h
  by_contra hne
  have h' : rank K a = rank K b := congrArg Fin.val h
  rcases before_total K hne with h1 | h1
  · exact absurd h' (rank_mono K h1).ne
  · exact absurd h' (rank_mono K h1).ne'

/-- The ranks as a permutation. -/
noncomputable def perm (K : Fin n → ℤ) : Fin n ≃ Fin n :=
  Equiv.ofBijective _ (Finite.injective_iff_bijective.mp (rank_injective K))

@[simp] theorem perm_val (K : Fin n → ℤ) (i : Fin n) : (perm K i).val = rank K i := rfl

theorem rank_eq_iff (K : Fin n → ℤ) (i : Fin n) (p : Fin n) : rank K i = p.val ↔ i = (perm K).symm p := by
  rw [Equiv.eq_symm_apply, ← perm_val, Fin.val_inj]

/-- The elements `i` precedes: all the others that do not precede it. -/
theorem card_after (K : Fin n → ℤ) (j : Fin n) : (Finset.univ.filter fun i => Before K j i).card + rank K j + 1 = n := by
  have h1 : Finset.univ.filter (fun i => Before K j i) = (Finset.univ.filter fun i => ¬ Before K i j).erase j := by
    ext i
    simp only [Finset.mem_filter, Finset.mem_univ, true_and, Finset.mem_erase]
    refine ⟨fun h => ⟨?_, before_asymm K h⟩, fun ⟨h, h'⟩ => (before_total K h).resolve_left h'⟩
    rintro rfl
    exact before_irrefl K _ h
  have h2 := Finset.card_filter_add_card_filter_not (s := (Finset.univ : Finset (Fin n))) (fun i => Before K i j)
  rw [h1, Finset.card_erase_of_mem (by simpa using before_irrefl K j)]
  have h3 : 0 < (Finset.univ.filter fun i => ¬ Before K i j).card :=
    Finset.card_pos.mpr ⟨j, by simpa using before_irrefl K j⟩
  simp only [Finset.card_univ, Fintype.card_fin] at h2
  unfold rank
  omega

/-- The first `k` elements, when all of them precede the others, have the same ranks among themselves. -/
theorem rank_castLE {k : ℕ} (hk : k ≤ n) (K : Fin n → ℤ) (h : ∀ i j : Fin n, i.val < k → k ≤ j.val → Before K i j) (i : Fin k) :
    rank K (i.castLE hk) = rank (fun a : Fin k => K (a.castLE hk)) i := by
  symm
  refine Finset.card_bij (fun a _ => a.castLE hk) ?_ ?_ ?_
  · intro a ha
    refine Finset.mem_filter.mpr ⟨Finset.mem_univ _, ?_⟩
    exact (Finset.mem_filter.mp ha).2
  · intro a _ b _ hab
    exact Fin.castLE_injective hk hab
  · intro b hb
    have hb' := (Finset.mem_filter.mp hb).2
    have hlt : b.val < k := by
      by_contra hge
      exact before_asymm K hb' (h _ b i.isLt (not_lt.mp hge))
    exact ⟨⟨b.val, hlt⟩, Finset.mem_filter.mpr ⟨Finset.mem_univ _, hb'⟩, rfl⟩

/-- The element of rank `p < k` is then one of the first `k`, the one of that rank among them. -/
theorem perm_symm_castLE {k : ℕ} (hk : k ≤ n) (K : Fin n → ℤ) (h : ∀ i j : Fin n, i.val < k → k ≤ j.val → Before K i j) (p : Fin k) :
    (perm K).symm (p.castLE hk) = ((perm fun a : Fin k => K (a.castLE hk)).symm p).castLE hk := by
  symm
  rw [← rank_eq_iff, rank_castLE hk K h]
  exact (rank_eq_iff _ _ p).mpr rfl

/-- The stable sort by the key puts the element of rank `k` at place `k`. -/
theorem sortedFrom_eq (K : Fin n → ℤ) (f : Fin n → Fin n → Bool) (hf : ∀ a b, f a b = decide (K a < K b)) (k : Fin n) :
    sortedFrom f k = (perm K).symm k := by
  obtain ⟨B, hB⟩ : ∃ B : ℤ, ∀ a, K a ≤ B := by
    refine ⟨∑ a, |K a|, fun a => (le_abs_self _).trans ?_⟩
    exact Finset.single_le_sum (f := fun a => |K a|) (fun _ _ => abs_nonneg _) (Finset.mem_univ a)
  have hf' : f = fun x y => decide ((B - K y).toNat < (B - K x).toNat) := by
    funext a b
    rw [hf]
    refine decide_eq_decide.mpr ?_
    have := hB a; have := hB b
    omega
  have hp : (sortPositions n f).Pairwise (fun a b => Before K a b) := by
    have := PlanTiles.pairwise_stableSort_lex (fun a : Fin n => (B - K a).toNat) (· < ·) (List.finRange n) (List.pairwise_lt_finRange n)
    rw [← hf'] at this
    refine List.Pairwise.imp (fun {a b} h => ?_) this
    have := hB a; have := hB b
    rcases h with h | ⟨h, h'⟩
    · exact .inl (by dsimp only at h; omega)
    · exact .inr ⟨by dsimp only at h; omega, h'⟩
  have hmono : ∀ a b : Fin n, a < b → Before K (sortedFrom f a) (sortedFrom f b) := fun a b hab =>
    List.pairwise_iff_get.mp hp _ _ (by simpa using hab)
  rw [← rank_eq_iff]
  have h1 : (Finset.univ.filter fun j => Before K j (sortedFrom f k)) = (Finset.univ.filter fun j => j < k).map ⟨sortedFrom f, sortedFrom_injective f⟩ := by
    ext j
    obtain ⟨a, rfl⟩ := sortedFrom_surjective f j
    simp only [Finset.mem_filter, Finset.mem_univ, true_and, Finset.mem_map, Function.Embedding.coeFn_mk]
    constructor
    · intro h
      refine ⟨a, ?_, rfl⟩
      by_contra hge
      rcases (not_lt.mp hge).lt_or_eq with h1 | h1
      · exact before_asymm K h (hmono _ _ h1)
      · exact before_irrefl K _ (h1 ▸ h)
    · rintro ⟨b, hb, hab⟩
      rw [← sortedFrom_injective f hab]
      exact hmono _ _ hb
  unfold rank
  rw [h1, Finset.card_map, Finset.filter_gt_eq_Iio, Fin.card_Iio]

end Cert.Rank

end
-- ==== Proof.Read.lean ====
module

public import proofs.«01_k».proof.Proof.Blocks
public import proofs.«01_k».proof.Proof.Rank
public import Idealize.ShloMosaic.Lib.Pointwise
public import Idealize.ShloMosaic.Lib.WordCmp
public import Idealize.ShloMosaic.Lib.IdealHost

@[expose] public section

set_option maxRecDepth 16384

noncomputable section

namespace Cert.KernelIdeal.Gen

open Idealize.ShloMosaic Idealize.ShloMosaic.TcCoe Idealize.SL.Sem Cert.Rank

/-- Row `a` of block `b`. -/
def row (b : Fin 8) (a : Fin 256) : Fin 2048 := ⟨256 * b.val + a.val, by omega⟩

/-- A sum over the rows, block by block. -/
theorem sum_rows (f : Fin 2048 → EReal) : ∑ b : Fin 8, ∑ a : Fin 256, f (row b a) = ∑ i : Fin 2048, f i := by
  rw [← Fintype.sum_prod_type' (f := fun b a => f (row b a))]
  refine Fintype.sum_equiv (finProdFinEquiv (m := 8) (n := 256)) _ _ fun x => congrArg f (Fin.ext ?_)
  simp only [row, finProdFinEquiv_apply_val]
  omega

/-! ## Bits and counts as extended reals -/

/-- A proposition's bit, made a float: `1` when it holds, else `0`. -/
theorem float_bit (p : Prop) [Decidable p] :
    (FloatOps.sitofp (F := Ideal) .f32 (BitVec.setWidth 32 (BitVec.ofBool (decide p))) : EReal) = if p then 1 else 0 := by
  change (((BitVec.setWidth 32 (BitVec.ofBool (decide p))).toInt : ℝ) : EReal) = _
  by_cases h : p <;> simp [h]

/-- An index word made a float. -/
theorem float_word {n : ℕ} (h : n < 2 ^ 31) : (FloatOps.sitofp (F := Ideal) .f32 (BitVec.ofNat 32 n) : EReal) = ((n : ℝ) : EReal) := by
  change (((BitVec.ofNat 32 n).toInt : ℝ) : EReal) = _
  rw [WordCmp.toInt_ofNat_of_lt (by simpa using h)]
  simp

/-- A small count turned back into a word. -/
theorem word_float {n : ℕ} (h : n < 2 ^ 31) : FloatOps.fptosi (F := Ideal) (φ := .f32) 32 ((n : ℝ) : EReal) = BitVec.ofNat 32 n := by
  change BitVec.ofInt 32 (max _ (min _ (if (0 : ℝ) ≤ n then ⌊(n : ℝ)⌋ else ⌈(n : ℝ)⌉))) = _
  rw [if_pos (Nat.cast_nonneg n), Int.floor_natCast, min_eq_right (by norm_num; omega), max_eq_right (by norm_num)]
  simp

/-- A sum of ones over the elements with a property counts them. -/
theorem sum_ind {n : ℕ} (p : Fin n → Prop) [DecidablePred p] :
    (∑ i, if p i then (1 : EReal) else 0) = (((Finset.univ.filter p).card : ℝ) : EReal) := by
  rw [Finset.sum_boole]
  simp

theorem nat_eq_iff (a b : ℕ) : (((a : ℝ) : EReal) = ((b : ℝ) : EReal)) ↔ a = b := by
  rw [EReal.coe_eq_coe_iff, Nat.cast_inj]

theorem int_lt_iff (a b : ℤ) : (((a : ℝ) : EReal) < ((b : ℝ) : EReal)) ↔ a < b := by
  rw [EReal.coe_lt_coe_iff, Int.cast_lt]

theorem int_eq_iff (a b : ℤ) : (((a : ℝ) : EReal) = ((b : ℝ) : EReal)) ↔ a = b := by
  rw [EReal.coe_eq_coe_iff, Int.cast_inj]

/-- The row number of row `a` of block `b`, as the body adds it up. -/
theorem row_word (b : Fin 8) (a : Fin 256) : IntOp.addi (BitVec.ofNat 32 a.val) (BitVec.ofNat 32 (256 * b.val)) = BitVec.ofNat 32 (row b a).val := by
  rw [IntOp.addi, ← BitVec.ofNat_add, row, Nat.add_comm]

/-! ## The comparisons and the ranks -/

/-- The order of the words `k`, greatest first. -/
def down (k : Fin 2048 → BitVec 32) (i : Fin 2048) : ℤ := -(k i).toInt

theorem beats1_apply {kr : IVec S1x2048 32} {kc : IVec S2048x1 32} {k : Fin 2048 → BitVec 32} (hr : ∀ j : Fin 2048, kr (ix2 0 j) = k j)
    (hc : ∀ i : Fin 2048, kc (ix2 i 0) = k i) (b : Fin 8) (a : Fin 256) (j : Fin 2048) :
    beats1 (F := Ideal) kr kc b (ix2 a j) = if Before (down k) j (row b a) then (1 : EReal) else 0 := by
  unfold beats1
  pointwise [ids]
  rw [hr, show (⟨256 * b.val + a.val, _⟩ : Fin 2048) = row b a from rfl, hc, row_word]
  have h1 : IntOp.cmpi .sgt (k j) (k (row b a)) = BitVec.ofBool (decide (down k j < down k (row b a))) := by
    simp [IntOp.cmpi, down, BitVec.slt]
  have h2 : IntOp.cmpi .eq (k j) (k (row b a)) = BitVec.ofBool (decide (down k j = down k (row b a))) := by
    rw [WordCmp.cmpi_eq_eq]
    simp [down, BitVec.toInt_inj]
  have h3 : IntOp.cmpi .slt (BitVec.ofNat 32 j.val) (BitVec.ofNat 32 (row b a).val) = BitVec.ofBool (decide (j < row b a)) := by
    have := j.isLt
    have := (row b a).isLt
    simp (disch := omega) only [hlo_ix]
    rfl
  rw [h1, h2, h3]
  simp only [WordCmp.andi_ofBool, WordCmp.ori_ofBool, ← Bool.decide_and, ← Bool.decide_or]
  exact float_bit _

theorem beats2_apply {lr : FVec Ideal S1x2048 .f32} {lc : FVec Ideal S256x1 .f32} {b : Fin 8} {L : Fin 2048 → ℤ}
    (hr : ∀ j : Fin 2048, lr (ix2 0 j) = ((L j : ℝ) : EReal)) (hc : ∀ a : Fin 256, lc (ix2 a 0) = ((L (row b a) : ℝ) : EReal))
    (a : Fin 256) (j : Fin 2048) : beats2 (F := Ideal) lr lc b (ix2 a j) = if Before L j (row b a) then (1 : EReal) else 0 := by
  unfold beats2
  pointwise [ids]
  have h3 : IntOp.cmpi .slt (BitVec.ofNat 32 j.val) (BitVec.ofNat 32 (row b a).val) = BitVec.ofBool (decide (j < row b a)) := by
    have := j.isLt
    have := (row b a).isLt
    simp (disch := omega) only [hlo_ix]
    rfl
  rw [hr, hc, row_word, h3]
  simp only [int_lt_iff, int_eq_iff, WordCmp.andi_ofBool, WordCmp.ori_ofBool, ← Bool.decide_and, ← Bool.decide_or]
  exact float_bit _

theorem rowSums_apply {x : FVec Ideal S256x2048 .f32} {b : Fin 8} {K : Fin 2048 → ℤ}
    (hx : ∀ (a : Fin 256) (j : Fin 2048), x (ix2 a j) = if Before K j (row b a) then (1 : EReal) else 0) (a : Fin 256) :
    rowSums x (ix2 a 0) = ((rank K (row b a) : ℝ) : EReal) := by
  unfold rowSums
  pointwise
  rw [Finset.sum_congr rfl fun j _ => hx a j]
  exact sum_ind _

/-- The float `2047`. -/
theorem ofBits_2047 : Ideal.ofBits .f32 0x44FFE000#32 = ((2047 : ℝ) : EReal) := by
  simp [Ideal.ofBits, Ideal.ieee, -EReal.coe_mul]; norm_num

theorem rankRow_apply {x : Fin 8 → FVec Ideal S256x2048 .f32} {K : Fin 2048 → ℤ}
    (hx : ∀ (b : Fin 8) (a : Fin 256) (j : Fin 2048), x b (ix2 a j) = if Before K j (row b a) then (1 : EReal) else 0) (j : Fin 2048) :
    rankRow x (ix2 0 j) = ((rank K j : ℝ) : EReal) := by
  unfold rankRow
  pointwise [addColSums]
  have h := sum_rows fun i => if Before K j i then (1 : EReal) else 0
  rw [Fin.sum_univ_eight] at h
  simp only [hx]
  rw [h, sum_ind, ofBits_2047, ← EReal.coe_sub]
  have := card_after K j
  have h2 : ((Finset.univ.filter fun i => Before K j i).card : ℝ) + rank K j + 1 = 2048 := by exact_mod_cast this
  exact congrArg _ (by linarith)

/-! ## Picking by rank -/

theorem hotCol_apply {r : FVec Ideal S256x1 .f32} {b : Fin 8} {K : Fin 2048 → ℤ}
    (hr : ∀ a : Fin 256, r (ix2 a 0) = ((rank K (row b a) : ℝ) : EReal)) (a : Fin 256) (j : Fin 2048) :
    hotCol r (ix2 a j) = if row b a = (perm K).symm j then (1 : EReal) else 0 := by
  unfold hotCol
  pointwise
  rw [hr, float_word (by omega), float_bit]
  simp only [nat_eq_iff, rank_eq_iff]

theorem hotRow_apply {r : FVec Ideal S1x2048 .f32} {K : Fin 2048 → ℤ} (hr : ∀ j : Fin 2048, r (ix2 0 j) = ((rank K j : ℝ) : EReal))
    (b : Fin 8) (a : Fin 256) (j : Fin 2048) : hotRow r b (ix2 a j) = if j = (perm K).symm (row b a) then (1 : EReal) else 0 := by
  unfold hotRow
  pointwise [ids]
  rw [hr, row_word, float_word (by omega), float_bit]
  simp only [nat_eq_iff, rank_eq_iff]

theorem sortedRow_apply {p : FVec Ideal S1x2048 .f32} {r : Fin 8 → FVec Ideal S256x1 .f32} {K : Fin 2048 → ℤ}
    (hr : ∀ (b : Fin 8) (a : Fin 256), r b (ix2 a 0) = ((rank K (row b a) : ℝ) : EReal)) (j : Fin 2048) :
    sortedRow p r (ix2 0 j) = p (ix2 0 ((perm K).symm j)) := by
  unfold sortedRow
  pointwise [addSorted]
  simp only [hotCol_apply (hr _)]
  have h := sum_rows fun i => p (ix2 0 i) * (if i = (perm K).symm j then (1 : EReal) else 0)
  rw [Fin.sum_univ_eight] at h
  refine Eq.trans h ?_
  simp

theorem permuted_apply {r : FVec Ideal S1x2048 .f32} {x : FVec Ideal S2048x5 .f32} {K : Fin 2048 → ℤ}
    (hr : ∀ j : Fin 2048, r (ix2 0 j) = ((rank K j : ℝ) : EReal)) (b : Fin 8) (a : Fin 256) (q : Fin 5) :
    permuted r x b (ix2 a q) = x (ix2 ((perm K).symm (row b a)) q) := by
  unfold permuted
  pointwise
  simp [hotRow_apply hr]

/-! ## The levels -/

/-- The floats `2` and `6`. -/
theorem ofBits_2 : Ideal.ofBits .f32 0x40000000#32 = ((2 : ℝ) : EReal) := by
  simp [Ideal.ofBits, Ideal.ieee, -EReal.coe_mul]; norm_num

theorem ofBits_6 : Ideal.ofBits .f32 0x40C00000#32 = ((6 : ℝ) : EReal) := by
  simp [Ideal.ofBits, Ideal.ieee, -EReal.coe_mul]; norm_num

/-- The level of an area `x` under the thresholds: 2 and one more for each it reaches. -/
def levelOf (t₃ t₄ t₅ x : EReal) : ℤ := 2 + (if t₃ ≤ x then 1 else 0) + (if t₄ ≤ x then 1 else 0) + (if t₅ ≤ x then 1 else 0)

/-- The levels of the areas `p` at their places, 6 from place 2000 on. -/
def levels (t₃ t₄ t₅ : EReal) (p : Fin 2048 → EReal) (i : Fin 2048) : ℤ := if i.val < 2000 then levelOf t₃ t₄ t₅ (p i) else 6

theorem level_apply (t₃ t₄ t₅ : EReal) {s : Shape} (id : IVec s 32) (p : FVec Ideal s .f32) (i : s.Idx) (P : Fin 2048 → EReal) (r : Fin 2048)
    (hid : id i = BitVec.ofNat 32 r.val) (hp : p i = P r) : level (F := Ideal) t₃ t₄ t₅ id p i = ((levels t₃ t₄ t₅ P r : ℝ) : EReal) := by
  unfold level
  pointwise
  rw [hid, hp]
  have h3 : IntOp.cmpi .slt (BitVec.ofNat 32 r.val) 2000#32 = BitVec.ofBool (decide (r.val < 2000)) := by
    have := r.isLt
    simp (disch := omega) only [hlo_ix]
  have h4 (q : Prop) [Decidable q] : (if q then (1 : EReal) else 0) = (((if q then 1 else 0 : ℤ) : ℝ) : EReal) := by split <;> simp
  simp only [h3, float_bit, levels, ofBits_2, ofBits_6, h4, ← EReal.coe_add]
  by_cases h : r.val < 2000
  · simp [h, levelOf]
    rfl
  · simp [h]
    rfl

theorem levelCol_apply (t₃ t₄ t₅ : EReal) {p : FVec Ideal S2048x1 .f32} {r : FVec Ideal S1x2048 .f32} {K : Fin 2048 → ℤ} {P : Fin 2048 → EReal}
    (hr : ∀ j : Fin 2048, r (ix2 0 j) = ((rank K j : ℝ) : EReal)) (hp : ∀ i : Fin 2048, p (ix2 i 0) = P i) (b : Fin 8) (a : Fin 256) :
    levelCol (F := Ideal) t₃ t₄ t₅ p r b (ix2 a 0) = ((levels t₃ t₄ t₅ (fun i => P ((perm K).symm i)) (row b a) : ℝ) : EReal) := by
  refine level_apply t₃ t₄ t₅ _ _ _ _ _ ?_ ?_
  · pointwise [ids]
    exact row_word b a
  · pointwise
    simp [hotRow_apply hr, hp]

theorem levelRow_apply (t₃ t₄ t₅ : EReal) {kr : IVec S1x2048 32} {kc : IVec S2048x1 32} {k : Fin 2048 → BitVec 32} (hr : ∀ j : Fin 2048, kr (ix2 0 j) = k j)
    (hc : ∀ i : Fin 2048, kc (ix2 i 0) = k i) {p : FVec Ideal S1x2048 .f32} {P : Fin 2048 → EReal} (hp : ∀ j : Fin 2048, p (ix2 0 j) = P j) (j : Fin 2048) :
    levelRow (F := Ideal) t₃ t₄ t₅ kr kc p (ix2 0 j) = ((levels t₃ t₄ t₅ (fun i => P ((perm (down k)).symm i)) j : ℝ) : EReal) := by
  refine level_apply t₃ t₄ t₅ _ _ _ _ _ ?_ ?_
  · pointwise
  · rw [sortedRow_apply fun b => rowSums_apply (beats1_apply hr hc b), hp]

theorem levelCounts_apply {lr : FVec Ideal S1x2048 .f32} {L : Fin 2048 → ℤ} (hr : ∀ j : Fin 2048, lr (ix2 0 j) = ((L j : ℝ) : EReal)) (a : Fin 8) :
    levelCounts lr (ix2 a 0) = BitVec.ofNat 32 (Finset.univ.filter fun j : Fin 2048 => L j = (a.val : ℤ) ∧ j.val < 2000).card := by
  unfold levelCounts
  pointwise
  have h3 (j : Fin 2048) : IntOp.cmpi .slt (BitVec.ofNat 32 j.val) 2000#32 = BitVec.ofBool (decide (j.val < 2000)) := by
    have := j.isLt
    simp (disch := omega) only [hlo_ix]
  have h4 (j : Fin 2048) : (((L j : ℝ) : EReal) = ((a.val : ℝ) : EReal)) ↔ L j = (a.val : ℤ) := by
    rw [← int_eq_iff]; simp
  rw [float_word (by omega)]
  simp only [hr, h3, h4, WordCmp.andi_ofBool, ← Bool.decide_and, float_bit]
  rw [sum_ind]
  exact word_float ((Finset.card_le_univ _).trans_lt (by simp))

end Cert.KernelIdeal.Gen

end
-- ==== Proof.Outs.lean ====
/-
  What the body's run leaves in its four result buffers, read at an index: the rows of its operand in the order of their keys, the rows by
  level, the ranks of the levels and the counts.
-/
module

public import proofs.«01_k».proof.Proof.Read
public import Idealize.ShloMosaic.Lib.Pipeline.ValueKit

@[expose] public section

set_option maxRecDepth 16384

noncomputable section

namespace Cert.KernelIdeal.Gen

open Idealize.ShloMosaic Idealize.ShloMosaic.TcCoe Idealize.SL.Sem Cert.Rank

/-- Every row is one of a block. -/
theorem exists_row (i : Fin 2048) : ∃ b a, row b a = i :=
  ⟨⟨i.val / 256, by omega⟩, ⟨i.val % 256, by omega⟩, Fin.ext (by simp only [row]; omega)⟩

/-- Eight blocks stored one after the other are read back as they were stored. -/
theorem canon_blocks {n : Nat} {e : EltTy} (h) (x : Fin 8 → Vec Ideal ⟨2, ![256, n]⟩ e) (b : Fin 8) (a : Fin 256) (q : Fin n) :
    View.canon (Val := Elt Ideal) (blockPieces h x) (ix2 (row b a) q) = x b (ix2 a q) := by
  refine (View.canon_apply_of_pieces (Val := Elt Ideal)
    (fun y : Shape.Idx ⟨2, ![2048, n]⟩ => x ⟨(y 0).val / 256, by have : (y 0).val < 2048 := (y 0).isLt; omega⟩
      (ix2 ⟨(y 0).val % 256, by omega⟩ (y 1))) (blockPieces h x) ?_ _ ?_).trans ?_
  · intro p hp
    obtain ⟨b', -, rfl⟩ := List.mem_map.mp hp
    intro (z : Shape.Idx ⟨2, ![256, n]⟩)
    have hz : (z 0).val < 256 := (z 0).isLt
    have hb : b' = ⟨(256 * b'.val + 1 * (z 0).val) / 256, by omega⟩ := Fin.ext (by show _ = _ / 256; omega)
    have hw : z = ix2 (⟨(256 * b'.val + 1 * (z 0).val) % 256, by omega⟩ : Fin 256) (⟨0 + 1 * (z 1).val, by have : (z 1).val < n := (z 1).isLt; omega⟩ : Fin n) := by
      refine funext fun d => ?_
      fin_cases d
      · exact Fin.ext (by show (z 0).val = _ % 256; omega)
      · exact Fin.ext (by show (z 1).val = 0 + 1 * (z 1).val; omega)
    exact congr (congrArg x hb) hw
  · refine ⟨_, List.mem_map.mpr ⟨b, by revert b; decide, rfl⟩, ?_⟩
    have hmem : ix2 (row b a) q ∈ (Rect.unit (s := ⟨2, ![2048, n]⟩) ![256 * b.val, 0] (⟨2, ![256, n]⟩ : Shape).size (h b)).set ↔ _ := Rect.mem_set_unit
    refine hmem.mpr fun d => ?_
    fin_cases d
    · exact ⟨Nat.le_add_right _ _, Nat.add_lt_add_left a.isLt _⟩
    · exact ⟨Nat.zero_le _, (Nat.zero_add n).symm ▸ q.isLt⟩
  · have hb : (⟨(row b a).val / 256, by omega⟩ : Fin 8) = b := Fin.ext (by simp only [row]; omega)
    have ha : (⟨(row b a).val % 256, by omega⟩ : Fin 256) = a := Fin.ext (by simp only [row]; omega)
    change x ⟨(row b a).val / 256, _⟩ (ix2 ⟨(row b a).val % 256, _⟩ q) = _
    rw [hb, ha]

/-- A read of the whole buffer. -/
theorem readCov_blocks {n : Nat} {e : EltTy} {κ : Kind} {sp : Space} (v : View sig κ sp ⟨2, ![2048, n]⟩ e) (h) (x : Fin 8 → Vec Ideal ⟨2, ![256, n]⟩ e)
    (h0) (b : Fin 8) (a : Fin 256) (q : Fin n) :
    v.readCov (Val := Elt Ideal) (blockPieces h x) (Rect.unit ![0, 0] (⟨2, ![2048, n]⟩ : Shape).size h0).toLoadRect (ix2 (row b a) q) = x b (ix2 a q) := by
  rw [View.readCov_eq_canon']
  refine Eq.trans (congrArg _ (funext fun d => ?_)) (canon_blocks h x b a q)
  fin_cases d <;> exact Fin.ext (by show 0 + 1 * _ = _; omega)

/-- The keys with the rows from 2000 on put last. -/
def masked (k : Fin 2048 → BitVec 32) (i : Fin 2048) : BitVec 32 := if i.val < 2000 then k i else 4294967295#32

/-- A row's area. -/
def area (x : FVec Ideal S2048x5 .f32) (i : Fin 2048) : EReal :=
  (x (ix2 i 3) - x (ix2 i 1) + 1) * (x (ix2 i 4) - x (ix2 i 2) + 1)

/-- A select between what the rows below 2000 hold and a constant. -/
theorem select_below (i : Fin 2048) (x y : BitVec 32) :
    Scalar.select (IntOp.cmpi .slt (BitVec.ofNat 32 i.val) 2000#32) x y = if i.val < 2000 then x else y := by
  have := i.isLt
  simp (disch := omega) only [hlo_ix]

section Loads

variable (c : Dev nD) (arg0 : Memref sig .tc .smem S3 .f32) (harg0 : arg0.IsWhole) (arg1 : Memref sig .tc .vmem S1x2048 .i32) (harg1 : arg1.IsWhole)
  (arg2 : Memref sig .tc .vmem S2048x1 .i32) (harg2 : arg2.IsWhole) (arg3 : Memref sig .tc .vmem S2048x5 .f32) (harg3 : arg3.IsWhole)
  (arg4 : Memref sig .tc .vmem S5x2048 .f32) (harg4 : arg4.IsWhole)
  (x0 : Vec Ideal S3 .f32) (x1 : Vec Ideal S1x2048 .i32) (x2 : Vec Ideal S2048x1 .i32) (x3 : Vec Ideal S2048x5 .f32) (x4 : Vec Ideal S5x2048 .f32)
  (k : Fin 2048 → BitVec 32)

/-- The loads: the three thresholds, -/
theorem t3_eq : kernelRun0_A.sl.r (F := Ideal) c arg0 harg0 x0 = x0 (ix1 0) := by
  unfold kernelRun0_A.sl.r
  rw [View.readAt_eq_ld, harg0.read_unread]
  refine congrArg x0 (funext fun d => ?_)
  fin_cases d
  rfl

theorem t4_eq : kernelRun0_A.sl.r_1 (F := Ideal) c arg0 harg0 x0 = x0 (ix1 1) := by
  unfold kernelRun0_A.sl.r_1
  rw [View.readAt_eq_ld, harg0.read_unread]
  refine congrArg x0 (funext fun d => ?_)
  fin_cases d
  rfl

theorem t5_eq : kernelRun0_A.sl.r_2 (F := Ideal) c arg0 harg0 x0 = x0 (ix1 2) := by
  unfold kernelRun0_A.sl.r_2
  rw [View.readAt_eq_ld, harg0.read_unread]
  refine congrArg x0 (funext fun d => ?_)
  fin_cases d
  rfl

/-- the masked keys, as a row and as a column, -/
theorem keyRow_apply (hk : ∀ i : Fin 2048, x1 (ix2 0 i) = k i) (i : Fin 2048) :
    kernelRun0_A.sl.r_3 (F := Ideal) c arg1 harg1 x1 (ix2 0 i) = masked k i := by
  unfold kernelRun0_A.sl.r_3
  rw [View.readAt_eq_ld, harg1.read_unread]
  pointwise [k0_pay3]
  rw [hk]
  exact select_below _ _ _

theorem keyCol_apply (hk : ∀ i : Fin 2048, x2 (ix2 i 0) = k i) (i : Fin 2048) :
    kernelRun0_A.sl.r_4 (F := Ideal) c arg2 harg2 x2 (ix2 i 0) = masked k i := by
  unfold kernelRun0_A.sl.r_4
  rw [View.readAt_eq_ld, harg2.read_unread]
  pointwise [k0_pay4]
  rw [hk]
  exact select_below _ _ _

/-- and the areas, as a column and as a row. -/
theorem areaCol_apply (i : Fin 2048) : kernelRun0_A.sl.r_5 (F := Ideal) c arg3 harg3 x3 (ix2 i 0) = area x3 i := by
  unfold kernelRun0_A.sl.r_5
  simp only [View.readAt_eq_ld, harg3.read_unread]
  pointwise [k0_pay5]
  rfl

theorem areaRow_apply (hx : ∀ (i : Fin 2048) (q : Fin 5), x4 (ix2 q i) = x3 (ix2 i q)) (i : Fin 2048) :
    kernelRun0_A.sl.r_8 (F := Ideal) c arg4 harg4 x4 (ix2 0 i) = area x3 i := by
  unfold kernelRun0_A.sl.r_8 kernelRun0_A.sl.r_6 kernelRun0_A.sl.r_7
  simp only [View.readAt_eq_ld, harg4.read_unread]
  pointwise [k0_pay7, k0_pay6, hx]
  rfl

/-- The sorted rows: row `i` is the operand's row of rank `i` by its masked key. -/
abbrev order1 (k : Fin 2048 → BitVec 32) : Fin 2048 ≃ Fin 2048 := perm (down (masked k))

/-- The levels of the sorted rows. -/
abbrev sortedLevels (x0 : Vec Ideal S3 .f32) (x3 : Vec Ideal S2048x5 .f32) (k : Fin 2048 → BitVec 32) : Fin 2048 → ℤ :=
  levels (x0 (ix1 0)) (x0 (ix1 1)) (x0 (ix1 2)) fun i => area x3 ((order1 k).symm i)

variable (hk1 : ∀ i : Fin 2048, x1 (ix2 0 i) = k i) (hk2 : ∀ i : Fin 2048, x2 (ix2 i 0) = k i)
  (hx : ∀ (i : Fin 2048) (q : Fin 5), x4 (ix2 q i) = x3 (ix2 i q))

include hk1 hk2 in
theorem r25_apply (j : Fin 2048) :
    kernelRun0_A.sl.r_25 (F := Ideal) c arg1 harg1 arg2 harg2 x1 x2 (ix2 0 j) = ((rank (down (masked k)) j : ℝ) : EReal) := by
  rw [rank1_eq]
  exact rankRow_apply (beats1_apply (keyRow_apply c arg1 harg1 x1 k hk1) (keyCol_apply c arg2 harg2 x2 k hk2)) j

include hk1 hk2 hx in
theorem r30_apply (j : Fin 2048) :
    kernelRun0_A.sl.r_30 (F := Ideal) c arg0 harg0 arg1 harg1 arg2 harg2 arg4 harg4 x0 x1 x2 x4 (ix2 0 j) = ((sortedLevels x0 x3 k j : ℝ) : EReal) := by
  rw [levelRow_eq, t3_eq, t4_eq, t5_eq]
  exact levelRow_apply _ _ _ (keyRow_apply c arg1 harg1 x1 k hk1) (keyCol_apply c arg2 harg2 x2 k hk2) (areaRow_apply c arg4 harg4 x3 x4 hx) j

include hk1 hk2 in
theorem runLevels_apply (b : Fin 8) (a : Fin 256) :
    runLevels (F := Ideal) c arg0 harg0 arg1 harg1 arg2 harg2 arg3 harg3 x0 x1 x2 x3 b (ix2 a 0) = ((sortedLevels x0 x3 k (row b a) : ℝ) : EReal) := by
  unfold runLevels
  rw [t3_eq, t4_eq, t5_eq]
  exact levelCol_apply _ _ _ (r25_apply c arg1 harg1 arg2 harg2 x1 x2 k hk1 hk2) (areaCol_apply c arg3 harg3 x3) b a

include hk1 hk2 hx in
theorem r51_apply (j : Fin 2048) :
    kernelRun0_A.sl.r_51 (F := Ideal) c arg0 harg0 arg1 harg1 arg2 harg2 arg3 harg3 arg4 harg4 x0 x1 x2 x3 x4 (ix2 0 j)
      = ((rank (sortedLevels x0 x3 k) j : ℝ) : EReal) := by
  rw [rank2_eq]
  exact rankRow_apply (fun b => beats2_apply (r30_apply c arg0 harg0 arg1 harg1 arg2 harg2 arg4 harg4 x0 x1 x2 x3 x4 k hk1 hk2 hx)
    (runLevels_apply c arg0 harg0 arg1 harg1 arg2 harg2 arg3 harg3 x0 x1 x2 x3 k hk1 hk2 b)) j

theorem r31_eq : kernelRun0_A.sl.r_31 (F := Ideal) c arg3 harg3 x3 = x3 := by
  unfold kernelRun0_A.sl.r_31
  rw [View.readAt_eq_ld, harg3.read_unread]
  funext i
  idx_vars i
  pointwise [k0_pay41]

variable (arg5 : Memref sig .tc .vmem S2048x5 .f32) (harg5 : arg5.IsWhole) (arg6 : Memref sig .tc .vmem S2048x5 .f32) (harg6 : arg6.IsWhole)
  (arg7 : Memref sig .tc .vmem S2048x1 .i32) (harg7 : arg7.IsWhole) (arg8 : Memref sig .tc .vmem S8x1 .i32) (harg8 : arg8.IsWhole)

include hk1 hk2 in
theorem out5_apply (i : Fin 2048) (q : Fin 5) :
    out0_A_5 (F := Ideal) c arg0 harg0 arg1 harg1 arg2 harg2 arg3 harg3 arg4 harg4 arg5 harg5 arg6 harg6 arg7 harg7 arg8 harg8 x0 x1 x2 x3 x4 (ix2 i q)
      = x3 (ix2 ((order1 k).symm i) q) := by
  obtain ⟨b, a, rfl⟩ := exists_row i
  unfold out0_A_5
  rw [View.read_writes_junk_eq_canon, pieces_rows _ _ _ _ _ _ _ _ _ _ _ _ _ _ _ _ _ _ _ _ _ _ _ _ (by decide)]
  refine (canon_blocks (n := 5) (e := .f32) _ _ b a q).trans ?_
  rw [permuted_apply (r25_apply c arg1 harg1 arg2 harg2 x1 x2 k hk1 hk2), r31_eq]

theorem pieces5_eq : kernelRun0_A.sl.H5_8 (F := Ideal) c arg1 harg1 arg2 harg2 arg3 harg3 x1 x2 x3
    = blockPieces (n := 5) (e := .f32) (by decide) (permuted (kernelRun0_A.sl.r_25 (F := Ideal) c arg1 harg1 arg2 harg2 x1 x2) (kernelRun0_A.sl.r_31 (F := Ideal) c arg3 harg3 x3)) := rfl

include hk1 hk2 in
/-- The sorted rows, read back by the body. -/
theorem r52_apply (i : Fin 2048) (q : Fin 5) :
    kernelRun0_A.sl.r_52 (F := Ideal) c arg1 harg1 arg2 harg2 arg3 harg3 arg5 x1 x2 x3 (ix2 i q) = x3 (ix2 ((order1 k).symm i) q) := by
  obtain ⟨b, a, rfl⟩ := exists_row i
  unfold kernelRun0_A.sl.r_52
  pointwise [k0_pay105]
  unfold kernelRun0_A.sl.v764
  rw [pieces5_eq]
  refine (readCov_blocks (n := 5) (e := .f32) _ _ _ _ b a q).trans ?_
  rw [permuted_apply (r25_apply c arg1 harg1 arg2 harg2 x1 x2 k hk1 hk2), r31_eq]

include hk1 hk2 hx in
theorem out6_apply (i : Fin 2048) (q : Fin 5) :
    out0_A_6 (F := Ideal) c arg0 harg0 arg1 harg1 arg2 harg2 arg3 harg3 arg4 harg4 arg5 harg5 arg6 harg6 arg7 harg7 arg8 harg8 x0 x1 x2 x3 x4 (ix2 i q)
      = x3 (ix2 ((order1 k).symm ((perm (sortedLevels x0 x3 k)).symm i)) q) := by
  obtain ⟨b, a, rfl⟩ := exists_row i
  unfold out0_A_6
  rw [View.read_writes_junk_eq_canon, pieces_byLevel _ _ _ _ _ _ _ _ _ _ _ _ _ _ _ _ _ _ _ _ _ _ _ _ (by decide)]
  refine (canon_blocks (n := 5) (e := .f32) _ _ b a q).trans ?_
  rw [permuted_apply (r51_apply c arg0 harg0 arg1 harg1 arg2 harg2 arg3 harg3 arg4 harg4 x0 x1 x2 x3 x4 k hk1 hk2 hx),
    r52_apply c arg1 harg1 arg2 harg2 arg3 harg3 x1 x2 x3 k hk1 hk2]

include hk1 hk2 hx in
theorem out7_apply (i : Fin 2048) :
    out0_A_7 (F := Ideal) c arg0 harg0 arg1 harg1 arg2 harg2 arg3 harg3 arg4 harg4 arg5 harg5 arg6 harg6 arg7 harg7 arg8 harg8 x0 x1 x2 x3 x4 (ix2 i 0)
      = BitVec.ofNat 32 (rank (sortedLevels x0 x3 k) i) := by
  obtain ⟨b, a, rfl⟩ := exists_row i
  unfold out0_A_7
  rw [View.read_writes_junk_eq_canon, pieces_rank _ _ _ _ _ _ _ _ _ _ _ _ _ _ _ _ _ _ _ _ _ _ _ _ (by decide)]
  refine (canon_blocks (n := 1) (e := .i32) _ _ b a 0).trans ?_
  change FloatOps.fptosi 32 _ = _
  rw [rowSums_apply (beats2_apply (r30_apply c arg0 harg0 arg1 harg1 arg2 harg2 arg4 harg4 x0 x1 x2 x3 x4 k hk1 hk2 hx)
    (runLevels_apply c arg0 harg0 arg1 harg1 arg2 harg2 arg3 harg3 x0 x1 x2 x3 k hk1 hk2 b))]
  exact word_float ((rank_lt _ _).trans (by norm_num))

include hk1 hk2 hx in
theorem out8_apply (a : Fin 8) :
    out0_A_8 (F := Ideal) c arg0 harg0 arg1 harg1 arg2 harg2 arg3 harg3 arg4 harg4 arg5 harg5 arg6 harg6 arg7 harg7 arg8 harg8 x0 x1 x2 x3 x4 (ix2 a 0)
      = BitVec.ofNat 32 (Finset.univ.filter fun j : Fin 2048 => sortedLevels x0 x3 k j = (a.val : ℤ) ∧ j.val < 2000).card := by
  unfold out0_A_8
  rw [View.read_writes_junk_eq_canon, pieces_counts _ _ _ _ _ _ _ _ _ _ _ _ _ _ _ _ _ _ _ _ _ _ _ _ (by decide), View.canon_unit_zero (by decide)]
  exact levelCounts_apply (r30_apply c arg0 harg0 arg1 harg1 arg2 harg2 arg4 harg4 x0 x1 x2 x3 x4 k hk1 hk2 hx) a

end Loads

end Cert.KernelIdeal.Gen

end
-- ==== Proof.Entry.lean ====
/-
  The kernel's five operands when the call starts, over the argument arrays: the thresholds the host computes, the keys as a row and as a
  column, the selected rows and their transpose.
-/
module

public import proofs.«01_k».proof.Proof.Outs
public import Idealize.ShloMosaic.Lib.Claim

@[expose] public section

set_option maxRecDepth 16384

noncomputable section

namespace Cert.KernelIdeal.Gen

open Idealize.ShloMosaic Idealize.ShloMosaic.TcCoe Idealize.SL.Sem Cert.Rank

/-- The candidate areas around each of the three level boundaries (`im` adds zero times its first entry). -/
def candidates (im : FVec Ideal S1x3 .f32) : FVec Ideal S3x4096 .f32 :=
  addf (fun i => FloatOps.ofBits .f32 (lit0 (S3x4096.rowMajor i)))
    (broadcastInDim S3x4096 ![] bcast_S_S3x4096
      (mulf (shapeCast S_ (extractStridedSlice S1x1 ![0, 0] im slices_S1x3_S1x1_0_0) shapeCasts_S1x1_S_) (constant S_ .f32 0x00000000#32)))

/-- The least candidate of each boundary that reaches it. -/
def thresholds (im : FVec Ideal S1x3 .f32) : FVec Ideal S3 .f32 :=
  Host.reduce FloatOps.minimumf
    (select
      (cmpf .oge
        (Host.floor (addf (broadcastInDim S3x4096 ![] bcast_S_S3x4096 (constant S_ .f32 0x40800000#32))
          (mulf (Host.log (addf
              (Host.divf (Host.sqrt (candidates im)) (broadcastInDim S3x4096 ![] bcast_S_S3x4096 (constant S_ .f32 0x43600000#32)))
              (broadcastInDim S3x4096 ![] bcast_S_S3x4096 (constant S_ .f32 0x358637BD#32))))
            (broadcastInDim S3x4096 ![] bcast_S_S3x4096 (constant S_ .f32 0x3FB8AA3B#32)))))
        (broadcastInDim S3x4096 ![0, 1] bcast_S3x1_S3x4096_0_1 fun i => FloatOps.ofBits .f32 (lit1 (S3x1.rowMajor i))))
      (candidates im) (broadcastInDim S3x4096 ![] bcast_S_S3x4096 (constant S_ .f32 0x7F800000#32)))
    (constant S_ .f32 0x7F800000#32) reducesTo_S3x4096_S3_d1 h_S_

variable (m : (ℓ : Loc nD τ sig) → Buf (Elt Ideal) ℓ)

theorem V_v22 (c : Dev nD) : V m c main_v22 = thresholds (m ((c : Thread nD τ).loc main_arg2)) := by
  simp only [V, V0, hostOps0, hostOps0_1, hostOps0_2, List.flatten_cons, List.flatten_nil, List.cons_append, List.nil_append]
  entry_read
  rfl

theorem V_v23 (c : Dev nD) (i : Fin 2048) : V m c main_v23 (ix2 0 i) = m ((c : Thread nD τ).loc main_arg0) (ix1 i) := by
  simp only [V, V0, hostOps0, hostOps0_1, hostOps0_2, List.flatten_cons, List.flatten_nil, List.cons_append, List.nil_append]
  entry_read
  exact show shapeCast S1x2048 (m ((c : Thread nD τ).loc main_arg0) : IVec S2048 32) shapeCasts_S2048_S1x2048 (ix2 0 i) = _ by pointwise

theorem V_v24 (c : Dev nD) (i : Fin 2048) : V m c main_v24 (ix2 i 0) = m ((c : Thread nD τ).loc main_arg0) (ix1 i) := by
  simp only [V, V0, hostOps0, hostOps0_1, hostOps0_2, List.flatten_cons, List.flatten_nil, List.cons_append, List.nil_append]
  entry_read
  exact show shapeCast S2048x1 (m ((c : Thread nD τ).loc main_arg0) : IVec S2048 32) shapeCasts_S2048_S2048x1 (ix2 i 0) = _ by pointwise

theorem V_v25 (c : Dev nD) : V m c main_v25 = m ((c : Thread nD τ).loc main_arg1) := by
  simp only [V, V0, hostOps0, hostOps0_1, hostOps0_2, List.flatten_cons, List.flatten_nil, List.cons_append, List.nil_append]
  entry_read
  funext i
  idx_vars i
  exact show shapeCast S2048x5 (shapeCast S10240 (m ((c : Thread nD τ).loc main_arg1) : FVec Ideal S2048x5 .f32) shapeCasts_S2048x5_S10240)
    shapeCasts_S10240_S2048x5 (ix2 _ _) = _ by pointwise

theorem V_v26 (c : Dev nD) (i : Fin 2048) (q : Fin 5) : V m c main_v26 (ix2 q i) = m ((c : Thread nD τ).loc main_arg1) (ix2 i q) := by
  simp only [V, V0, hostOps0, hostOps0_1, hostOps0_2, List.flatten_cons, List.flatten_nil, List.cons_append, List.nil_append]
  entry_read
  exact show shapeCast S5x2048 (shapeCast S10240 (transpose S5x2048 [1, 0] (m ((c : Thread nD τ).loc main_arg1) : FVec Ideal S2048x5 .f32)
    transposes_S2048x5_S5x2048_1_0) shapeCasts_S5x2048_S10240) shapeCasts_S10240_S5x2048 (ix2 q i) = _ by pointwise

end Cert.KernelIdeal.Gen

end
-- ==== Proof.Final.lean ====
/-
  The kernel's four result arrays when the program ends, at an index, over the argument arrays.
-/
module

public import proofs.«01_k».proof.Proof.Entry

@[expose] public section

set_option maxRecDepth 16384

noncomputable section

namespace Cert.KernelIdeal.Gen

open Idealize.ShloMosaic Idealize.ShloMosaic.TcCoe Idealize.SL.Sem Cert.Rank

variable (m : (ℓ : Loc nD τ sig) → Buf (Elt Ideal) ℓ)

/-- The keys, by row. -/
def keys (c : Dev nD) (i : Fin 2048) : BitVec 32 := m ((c : Thread nD τ).loc main_arg0) (ix1 i)

/-- Every window's block is its whole array. -/
theorem idx : ∀ t : Fin cfg0.N, win0_0.index t = ![0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

theorem iblk0 (c : Dev nD) (t : Fin cfg0.N) : iblk m c 0 t = V m c main_v22 := by blk_ext! [iblk, idx t]
theorem iblk1 (c : Dev nD) (t : Fin cfg0.N) : iblk m c 1 t = V m c main_v23 := by blk_ext! [iblk, idx t]
theorem iblk2 (c : Dev nD) (t : Fin cfg0.N) : iblk m c 2 t = V m c main_v24 := by blk_ext! [iblk, idx t]
theorem iblk3 (c : Dev nD) (t : Fin cfg0.N) : iblk m c 3 t = V m c main_v25 := by blk_ext! [iblk, idx t]
theorem iblk4 (c : Dev nD) (t : Fin cfg0.N) : iblk m c 4 t = V m c main_v26 := by blk_ext! [iblk, idx t]

/-- The levels of the sorted rows. -/
def lvl (c : Dev nD) : Fin 2048 → ℤ :=
  sortedLevels (thresholds (m ((c : Thread nD τ).loc main_arg2))) (m ((c : Thread nD τ).loc main_arg1)) (keys m c)

theorem block_k1 (c : Dev nD) (t : Fin cfg0.N) (i : Fin 2048) : (iblk m c 1 t : Vec Ideal S1x2048 .i32) (ix2 0 i) = keys m c i := by
  rw [iblk1 m c t]; exact V_v23 m c i

theorem block_k2 (c : Dev nD) (t : Fin cfg0.N) (i : Fin 2048) : (iblk m c 2 t : Vec Ideal S2048x1 .i32) (ix2 i 0) = keys m c i := by
  rw [iblk2 m c t]; exact V_v24 m c i

theorem block_rows (c : Dev nD) (t : Fin cfg0.N) (i : Fin 2048) (q : Fin 5) :
    (iblk m c 4 t : Vec Ideal S5x2048 .f32) (ix2 q i) = (iblk m c 3 t : Vec Ideal S2048x5 .f32) (ix2 i q) := by
  rw [iblk3 m c t, iblk4 m c t, V_v25 m c]; exact V_v26 m c i q

theorem lvl_eq (c : Dev nD) (t : Fin cfg0.N) : sortedLevels (iblk m c 0 t) (iblk m c 3 t) (keys m c) = lvl m c := by
  rw [iblk0 m c t, iblk3 m c t, V_v22, V_v25]; rfl

/-- The rows in descending order of the keys. -/
theorem final5 (c : Dev nD) : (dats m 0 c).arrAt 5 (cfgs 0).N
    = (fun j => m ((c : Thread nD τ).loc main_arg1) (ix2 ((order1 (keys m c)).symm (j 0)) (j 1)) : FVec Ideal S2048x5 .f32) := by
  refine (dats m 0 c).arrAt_eq_of_after_last 5 t0_0 (by decide +kernel) _ fun j => ?_
  blk_simp [idx t0_0]
  rw [after0_5]
  change Shape.Idx S2048x5 at j
  idx_vars j
  unfold outsAt0
  dsimp only
  refine (out5_apply c _ _ _ _ _ _ _ _ _ _ _ _ _ _ _ (keys m c) (block_k1 m c t0_0) (block_k2 m c t0_0) _ _ _ _ _ _ _ _ _ _).trans ?_
  rw [iblk3 m c t0_0, V_v25 m c]

/-- The same rows, grouped by level. -/
theorem final6 (c : Dev nD) : (dats m 0 c).arrAt 6 (cfgs 0).N
    = (fun j => m ((c : Thread nD τ).loc main_arg1) (ix2 ((order1 (keys m c)).symm ((perm (lvl m c)).symm (j 0))) (j 1)) : FVec Ideal S2048x5 .f32) := by
  refine (dats m 0 c).arrAt_eq_of_after_last 6 t0_0 (by decide +kernel) _ fun j => ?_
  blk_simp [idx t0_0]
  rw [after0_6]
  change Shape.Idx S2048x5 at j
  idx_vars j
  unfold outsAt0
  dsimp only
  refine (out6_apply c _ _ _ _ _ _ _ _ _ _ _ _ _ _ _ (keys m c) (block_k1 m c t0_0) (block_k2 m c t0_0) (block_rows m c t0_0) _ _ _ _ _ _ _ _ _ _).trans ?_
  rw [lvl_eq m c t0_0, iblk3 m c t0_0, V_v25 m c]

/-- The place of each sorted row in that grouping. -/
theorem final7 (c : Dev nD) : (dats m 0 c).arrAt 7 (cfgs 0).N
    = (fun j => BitVec.ofNat 32 (rank (lvl m c) (j 0)) : IVec S2048x1 32) := by
  refine (dats m 0 c).arrAt_eq_of_after_last 7 t0_0 (by decide +kernel) _ fun j => ?_
  blk_simp [idx t0_0]
  rw [after0_7]
  change Shape.Idx S2048x1 at j
  idx_vars j
  obtain rfl : j1 = 0 := Subsingleton.elim _ _
  unfold outsAt0
  dsimp only
  refine (out7_apply c _ _ _ _ _ _ _ _ _ _ _ _ _ _ _ (keys m c) (block_k1 m c t0_0) (block_k2 m c t0_0) (block_rows m c t0_0) _ _ _ _ _ _ _ _ _).trans ?_
  rw [lvl_eq m c t0_0]

/-- How many of the first 2000 rows each level holds. -/
theorem final8 (c : Dev nD) : (dats m 0 c).arrAt 8 (cfgs 0).N
    = (fun j => BitVec.ofNat 32 (Finset.univ.filter fun i : Fin 2048 => lvl m c i = ((j 0).val : ℤ) ∧ i.val < 2000).card : IVec S8x1 32) := by
  refine (dats m 0 c).arrAt_eq_of_after_last 8 t0_0 (by decide +kernel) _ fun j => ?_
  blk_simp [idx t0_0]
  rw [after0_8]
  change Shape.Idx S8x1 at j
  idx_vars j
  obtain rfl : j1 = 0 := Subsingleton.elim _ _
  unfold outsAt0
  dsimp only
  refine (out8_apply c _ _ _ _ _ _ _ _ _ _ _ _ _ _ _ (keys m c) (block_k1 m c t0_0) (block_k2 m c t0_0) (block_rows m c t0_0) _ _ _ _ _ _ _ _ _).trans ?_
  rw [lvl_eq m c t0_0]
  rfl

end Cert.KernelIdeal.Gen

end
-- ==== Proof.Tail.lean ====
/-
  The kernel's four results: what the host slices off the call's arrays.
-/
module

public import proofs.«01_k».proof.Proof.Final

@[expose] public section

set_option maxRecDepth 16384

noncomputable section

namespace Cert.KernelIdeal.Gen

open Idealize.ShloMosaic Idealize.ShloMosaic.TcCoe Idealize.SL.Sem Cert.Rank

variable (m : (ℓ : Loc nD τ sig) → Buf (Elt Ideal) ℓ)

/-- A row below 2000 among all the rows. -/
abbrev up (i : Fin 2000) : Fin 2048 := i.castLE (by decide)

/-- The host operations after the call, read at a result: the call's arrays hold what the call left. -/
theorem exit_array (c : Dev nD) (w : Fin 9) : Pipeline.withArrays (cfgs 0).spec c (V0 m c) (fun w => (dats m 0 c).arrAt w (cfgs 0).N)
    (Proc.devRef .tc (Pipeline.arrRef (cfgs 0).spec w)) = (dats m 0 c).arrAt w (cfgs 0).N :=
  Pipeline.withArrays_arr _ launch0.win.arr_inj c _ _ w

theorem tail28 (c : Dev nD) : Pipeline.afterTail₀ cfgs (dats m) 0 (V0 m) [hostOps1] c main_v28
    = (fun j => m ((c : Thread nD τ).loc main_arg1) (ix2 ((order1 (keys m c)).symm (up (j 0))) (j 1)) : FVec Ideal S2000x5 .f32) := by
  unfold Pipeline.afterTail₀
  simp only [hostOps1, List.flatten_cons, List.flatten_nil, List.cons_append, List.nil_append, StableHlo.after_cons, StableHlo.after_nil]
  after_results_simp
  have h := (exit_array m c 5).trans (final5 m c)
  refine (congrArg (fun x : FVec Ideal S2048x5 .f32 => extractStridedSlice S2000x5 ![0, 0] x slices_S2048x5_S2000x5_0_0) h).trans ?_
  funext j
  idx_vars j
  pointwise
  rfl

theorem tail29 (c : Dev nD) : Pipeline.afterTail₀ cfgs (dats m) 0 (V0 m) [hostOps1] c main_v29
    = (fun j => m ((c : Thread nD τ).loc main_arg1) (ix2 ((order1 (keys m c)).symm ((perm (lvl m c)).symm (up (j 0)))) (j 1)) : FVec Ideal S2000x5 .f32) := by
  unfold Pipeline.afterTail₀
  simp only [hostOps1, List.flatten_cons, List.flatten_nil, List.cons_append, List.nil_append, StableHlo.after_cons, StableHlo.after_nil]
  after_results_simp
  have h := (exit_array m c 6).trans (final6 m c)
  refine (congrArg (fun x : FVec Ideal S2048x5 .f32 => extractStridedSlice S2000x5 ![0, 0] x slices_S2048x5_S2000x5_0_0) h).trans ?_
  funext j
  idx_vars j
  pointwise
  rfl

theorem tail31 (c : Dev nD) : Pipeline.afterTail₀ cfgs (dats m) 0 (V0 m) [hostOps1] c main_v31
    = (fun j => BitVec.ofNat 32 (rank (lvl m c) (up (j 0))) : IVec S2000 32) := by
  unfold Pipeline.afterTail₀
  simp only [hostOps1, List.flatten_cons, List.flatten_nil, List.cons_append, List.nil_append, StableHlo.after_cons, StableHlo.after_nil]
  after_results_simp
  have h := (exit_array m c 7).trans (final7 m c)
  refine (congrArg (fun x : IVec S2048x1 32 => shapeCast S2000 (extractStridedSlice S2000x1 ![0, 0] x slices_S2048x1_S2000x1_0_0)
    shapeCasts_S2000x1_S2000) h).trans ?_
  funext j
  idx_vars j
  pointwise
  rfl

theorem tail33 (c : Dev nD) : Pipeline.afterTail₀ cfgs (dats m) 0 (V0 m) [hostOps1] c main_v33
    = (fun j => BitVec.ofNat 32 (Finset.univ.filter fun i : Fin 2048 => lvl m c i = ((2 + (j 0).val : ℕ) : ℤ) ∧ i.val < 2000).card : IVec S4 32) := by
  unfold Pipeline.afterTail₀
  simp only [hostOps1, List.flatten_cons, List.flatten_nil, List.cons_append, List.nil_append, StableHlo.after_cons, StableHlo.after_nil]
  after_results_simp
  have h := (exit_array m c 8).trans (final8 m c)
  refine (congrArg (fun x : IVec S8x1 32 => shapeCast S4 (extractStridedSlice S4x1 ![2, 0] x slices_S8x1_S4x1_2_0)
    shapeCasts_S4x1_S4) h).trans ?_
  funext j
  idx_vars j
  pointwise

/-- The kernel's run: its four results and its arguments. -/
theorem run (g : Dev nD → PrngReg) : θ_run defs (onTc (τ := τ) (main (F := Ideal))) ⟨m, fun _ => 0, g⟩ (fun r => ∀ c : Dev nD,
    r.2.mem ((c.tc : Thread nD τ).loc main_v28)
      = (fun j => m ((c : Thread nD τ).loc main_arg1) (ix2 ((order1 (keys m c)).symm (up (j 0))) (j 1)) : FVec Ideal S2000x5 .f32)
    ∧ r.2.mem ((c.tc : Thread nD τ).loc main_v29)
      = (fun j => m ((c : Thread nD τ).loc main_arg1) (ix2 ((order1 (keys m c)).symm ((perm (lvl m c)).symm (up (j 0)))) (j 1))
          : FVec Ideal S2000x5 .f32)
    ∧ r.2.mem ((c.tc : Thread nD τ).loc main_v31) = (fun j => BitVec.ofNat 32 (rank (lvl m c) (up (j 0))) : IVec S2000 32)
    ∧ r.2.mem ((c.tc : Thread nD τ).loc main_v33)
      = (fun j => BitVec.ofNat 32 (Finset.univ.filter fun i : Fin 2048 => lvl m c i = ((2 + (j 0).val : ℕ) : ℤ) ∧ i.val < 2000).card
          : IVec S4 32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  run_from run_main m g & unchanged m g
  exacts [tail28 m c, tail29 m c, tail31 m c, tail33 m c]

end Cert.KernelIdeal.Gen

end
-- ==== Proof.Ref.lean ====
/-
  The reference's operations read at an index: an argsort, a table's rows taken in an order, a box's level, a count of the levels.
-/
module

public import proofs.«01_k».proof.Proof.Read
public import proofs.«01_k».proof.Proof.Gen.ReferenceIdeal.Run
public import Idealize.ShloMosaic.Lib.Routing.Ops
public import Idealize.ShloMosaic.Lib.Routing.OpsPair
public import Idealize.ShloMosaic.Lib.Pointwise
public import Idealize.ShloMosaic.Lib.IdealHost
public import Idealize.ShloMosaic.Lib.WordCmp
public import Idealize.ShloMosaic.Lib.SortFacts

@[expose] public section

set_option maxRecDepth 16384

noncomputable section

namespace Cert.ReferenceIdeal.Value

open Idealize.ShloMosaic Idealize.ShloMosaic.TcCoe Idealize.SL.Sem Cert.Rank Cert.ReferenceIdeal.Gen

/-- A vector's sort read at a place. -/
theorem sortBy_apply {n : ℕ} {ι α : Type} (cmp : ι → ι → BitVec 1) (rows : Shape.Idx ⟨1, ![n]⟩ → ι) (x : Shape.Idx ⟨1, ![n]⟩ → α) (p : Fin n) :
    Host.sortBy ⟨1, ![n]⟩ 0 cmp rows x (ix1 p) = x (ix1 (sortedFrom (fun a b => cmp (rows (ix1 a)) (rows (ix1 b)) == 1#1) p)) := by
  have e : ∀ a : Fin n, Shape.Idx.along (s := ⟨1, ![n]⟩) (ix1 p) (0 : Fin 1) a = ix1 a := fun a => by
    funext b; obtain rfl : b = 0 := Subsingleton.elim _ _; exact Function.update_self ..
  unfold Host.sortBy
  rw [dif_pos (Nat.one_pos)]
  refine (congrArg x (e _)).trans ?_
  change x (ix1 (sortedFrom (fun a b => cmp (rows (Shape.Idx.along (s := ⟨1, ![n]⟩) (ix1 p) (0 : Fin 1) a))
    (rows (Shape.Idx.along (s := ⟨1, ![n]⟩) (ix1 p) (0 : Fin 1) b)) == 1#1) p)) = _
  simp only [e]

/-- `jnp.argsort` of a vector of words. -/
def argsort (x : IVec S2000 32) : IVec S2000 32 := (Host.sort2 S2000 0 comparator_i32_i32_d0 x (iotaInDim S2000 32 0)).2

theorem argsort_apply (x : IVec S2000 32) (K : Fin 2000 → ℤ) (hK : ∀ i : Fin 2000, (x (ix1 i)).toInt = K i) (p : Fin 2000) :
    argsort x (ix1 p) = BitVec.ofNat 32 ((perm K).symm p).val := by
  have h2 : argsort x = Host.sortBy ⟨1, ![2000]⟩ 0 comparator_i32_i32_d0 (fun j => (x j, iotaInDim S2000 32 0 j)) (iotaInDim S2000 32 0) := by
    unfold argsort
    rw [Host.sort2_eq_sortBy]
  rw [h2, sortBy_apply]
  generalize hr : sortedFrom _ p = r
  have hs := (sortedFrom_eq K _ (fun a b => ?_) p).symm.trans hr
  · rw [hs]
    rfl
  · change (IntOp.cmpi .slt (x (ix1 a)) (x (ix1 b)) == 1#1) = _
    rw [← hK, ← hK, WordCmp.cmpi_slt_eq]
    by_cases h : (x (ix1 a)).toInt < (x (ix1 b)).toInt <;> simp [h]

/-- The rows of a table in an order. -/
def take (x : FVec Ideal S2000x5 .f32) (o : IVec S2000 32) : FVec Ideal S2000x5 .f32 :=
  Host.gather gather_S2000x5_S2000x1_S2000x5_1_0_n_n_0_1_15 x (broadcastInDim S2000x1 ![0] bcast_S2000_S2000x1_0
    (select (cmpi .slt o (broadcastInDim S2000 ![] bcast_S_S2000 (constantI S_ 32 0#32)))
      (addi o (broadcastInDim S2000 ![] bcast_S_S2000 (constantI S_ 32 2000#32))) o))

theorem take_apply (x : FVec Ideal S2000x5 .f32) (o : IVec S2000 32) (r : Fin 2000 → Fin 2000)
    (ho : ∀ p : Fin 2000, o (ix1 p) = BitVec.ofNat 32 (r p).val) (p : Fin 2000) (q : Fin 5) : take x o (ix2 p q) = x (ix2 (r p) q) := by
  unfold take
  refine Routing.gather_row _ rfl rfl rfl rfl rfl _ _ p q (r p) ?_ (by norm_num)
  have := (r p).isLt
  refine (show _ = Scalar.select (IntOp.cmpi .slt (o (ix1 p)) 0#32) (IntOp.addi (o (ix1 p)) 2000#32) (o (ix1 p)) by pointwise).trans ?_
  rw [ho p]
  simp (disch := omega) only [hlo_ix]
  exact if_neg (Nat.not_lt_zero _)

/-- The level of each row, before it is clipped. -/
def floors (x : FVec Ideal S2000x5 .f32) : FVec Ideal S2000 .f32 :=
  Host.floor (addf (broadcastInDim S2000 ![] bcast_S_S2000 (constant S_ .f32 0x40800000#32)) (mulf (Host.log (addf (Host.divf (Host.sqrt (mulf
    (addf (subf (shapeCast _ (extractStridedSlice S2000x1 ![0, 2] (extractStridedSlice S2000x4 ![0, 1] x slices_S2000x5_S2000x4_0_1) slices_S2000x4_S2000x1_0_2) shapeCasts_S2000x1_S2000)
      (shapeCast _ (extractStridedSlice S2000x1 ![0, 0] (extractStridedSlice S2000x4 ![0, 1] x slices_S2000x5_S2000x4_0_1) slices_S2000x4_S2000x1_0_0) shapeCasts_S2000x1_S2000))
      (broadcastInDim S2000 ![] bcast_S_S2000 (constant S_ .f32 0x3F800000#32)))
    (addf (subf (shapeCast _ (extractStridedSlice S2000x1 ![0, 3] (extractStridedSlice S2000x4 ![0, 1] x slices_S2000x5_S2000x4_0_1) slices_S2000x4_S2000x1_0_3) shapeCasts_S2000x1_S2000)
      (shapeCast _ (extractStridedSlice S2000x1 ![0, 1] (extractStridedSlice S2000x4 ![0, 1] x slices_S2000x5_S2000x4_0_1) slices_S2000x4_S2000x1_0_1) shapeCasts_S2000x1_S2000))
      (broadcastInDim S2000 ![] bcast_S_S2000 (constant S_ .f32 0x3F800000#32)))))
    (broadcastInDim S2000 ![] bcast_S_S2000 (constant S_ .f32 0x43600000#32))) (broadcastInDim S2000 ![] bcast_S_S2000 (constant S_ .f32 0x358637BD#32))))
    (broadcastInDim S2000 ![] bcast_S_S2000 (constant S_ .f32 0x3FB8AA3B#32))))

/-- The level of a box of area `a`, before it is clipped. -/
def floorLevel (a : EReal) : EReal :=
  Ideal.liftRound Int.floor (Ideal.ofBits .f32 0x40800000#32
    + Ideal.log (Ideal.div (Ideal.sqrt a) (Ideal.ofBits .f32 0x43600000#32) + Ideal.ofBits .f32 0x358637BD#32) * Ideal.ofBits .f32 0x3FB8AA3B#32)

/-- A row's area. -/
def boxArea {n : ℕ} (x : FVec Ideal ⟨2, ![n, 5]⟩ .f32) (p : Fin n) : EReal :=
  (x (ix2 p 3) - x (ix2 p 1) + 1) * (x (ix2 p 4) - x (ix2 p 2) + 1)

theorem floors_apply (x : FVec Ideal S2000x5 .f32) (p : Fin 2000) : floors x (ix1 p) = floorLevel (boxArea x p) := by
  pointwise [floors]
  rfl

/-- The level clipped to 2 … 5. -/
def clipLevel (y : EReal) : ℕ := 2 + (if 3 ≤ y then 1 else 0) + (if 4 ≤ y then 1 else 0) + (if 5 ≤ y then 1 else 0)

theorem clipLevel_le (y : EReal) : 2 ≤ clipLevel y ∧ clipLevel y ≤ 5 := by
  unfold clipLevel
  split_ifs <;> omega

theorem floorLevel_cases (a : EReal) : floorLevel a = ⊥ ∨ floorLevel a = ⊤ ∨ ∃ n : ℤ, floorLevel a = ((n : ℝ) : EReal) := by
  unfold floorLevel
  generalize Ideal.ofBits .f32 0x40800000#32 + _ = z
  induction z using EReal.rec with
  | bot => exact .inl rfl
  | top => exact .inr (.inl rfl)
  | coe r => exact .inr (.inr ⟨⌊r⌋, rfl⟩)

theorem clip_real (y : EReal) (hy : y = ⊥ ∨ y = ⊤ ∨ ∃ n : ℤ, y = ((n : ℝ) : EReal)) :
    min ((5 : ℝ) : EReal) (max ((2 : ℝ) : EReal) y) = ((clipLevel y : ℝ) : EReal) := by
  have e3 : (3 : EReal) = (((3 : ℤ) : ℝ) : EReal) := by norm_cast
  have e4 : (4 : EReal) = (((4 : ℤ) : ℝ) : EReal) := by norm_cast
  have e5 : (5 : EReal) = (((5 : ℤ) : ℝ) : EReal) := by norm_cast
  unfold clipLevel
  rcases hy with rfl | rfl | ⟨n, rfl⟩
  · have c : ∀ k : ℤ, ¬ ((k : ℝ) : EReal) ≤ ⊥ := fun k h => EReal.coe_ne_bot _ (le_bot_iff.mp h)
    simp only [e3, e4, e5, c, if_false]
    rw [max_eq_left bot_le, min_eq_right (by rw [EReal.coe_le_coe_iff]; norm_num)]
    norm_num
  · simp
  · have c : ∀ k : ℤ, ((k : ℝ) : EReal) ≤ ((n : ℝ) : EReal) ↔ k ≤ n := fun k => by rw [EReal.coe_le_coe_iff, Int.cast_le]
    simp only [e3, e4, e5, c]
    rw [← EReal.coe_strictMono.monotone.map_max, ← EReal.coe_strictMono.monotone.map_min]
    congr 1
    rw [show (2 : ℝ) = ((2 : ℤ) : ℝ) by norm_num, show (5 : ℝ) = ((5 : ℤ) : ℝ) by norm_num, ← Int.cast_max, ← Int.cast_min, ← Int.cast_natCast]
    congr 1
    push_cast
    split_ifs <;> omega

/-- The level of each row. -/
def clips (x : FVec Ideal S2000x5 .f32) : IVec S2000 32 :=
  fptosi 32 (minimumf (broadcastInDim S2000 ![] bcast_S_S2000 (sitofp .f32 (constantI S_ 32 5#32)))
    (maximumf (broadcastInDim S2000 ![] bcast_S_S2000 (sitofp .f32 (constantI S_ 32 2#32))) (floors x)))

theorem clips_apply (x : FVec Ideal S2000x5 .f32) (p : Fin 2000) :
    clips x (ix1 p) = BitVec.ofNat 32 (clipLevel (floorLevel (boxArea x p))) := by
  pointwise [clips]
  rw [floors_apply]
  have h := clip_real _ (floorLevel_cases (boxArea x p))
  have := (clipLevel_le (floorLevel (boxArea x p))).2
  have s5 : FloatOps.sitofp (F := Ideal) .f32 5#32 = ((5 : ℝ) : EReal) := by
    change (((5#32).toInt : ℝ) : EReal) = _; norm_num [show (5#32).toInt = 5 from rfl]
  have s2 : FloatOps.sitofp (F := Ideal) .f32 2#32 = ((2 : ℝ) : EReal) := by
    change (((2#32).toInt : ℝ) : EReal) = _; norm_num [show (2#32).toInt = 2 from rfl]
  rw [s5, s2]
  exact (congrArg (FloatOps.fptosi (F := Ideal) (φ := .f32) 32) h).trans (KernelIdeal.Gen.word_float (by omega))

/-- The place that a level is counted at. -/
def bins (l : IVec S2000 32) : IVec S2000x1 32 :=
  let y := maxsi (broadcastInDim S2000 ![] bcast_S_S2000 (id (constantI S_ 32 0#32)))
    (subi l (broadcastInDim S2000 ![] bcast_S_S2000 (constantI S_ 32 2#32)))
  broadcastInDim S2000x1 ![0] bcast_S2000_S2000x1_0 (select (cmpi .slt y (broadcastInDim S2000 ![] bcast_S_S2000 (constantI S_ 32 0#32)))
    (addi y (broadcastInDim S2000 ![] bcast_S_S2000 (constantI S_ 32 4#32))) y)

theorem bins_apply (l : IVec S2000 32) (p : Fin 2000) (n : ℕ) (h : l (ix1 p) = BitVec.ofNat 32 n) (h2 : 2 ≤ n) (h5 : n ≤ 5) :
    (bins l (ix2 p 0)).toInt = (n : ℤ) - 2 := by
  have e : bins l (ix2 p 0) = (fun y => Scalar.select (IntOp.cmpi .slt y 0#32) (IntOp.addi y 4#32) y) (IntOp.maxsi 0#32 (IntOp.subi (l (ix1 p)) 2#32)) := by
    unfold bins
    pointwise
    rfl
  rw [e, h]
  interval_cases n <;> rfl

/-- How many rows each level holds. -/
def counts (l : IVec S2000 32) : IVec S4 32 :=
  Host.scatter scatter_S4_S2000x1_S2000_n_0_0_1 IntOp.addi (broadcastInDim S4 ![] bcast_S_S4 (constantI S_ 32 0#32)) (bins l)
    (broadcastInDim S2000 ![] bcast_S_S2000 (constantI S_ 32 1#32))

theorem lands (b : IVec S2000x1 32) (i : Fin 2000) (a : Fin 4) :
    (scatter_S4_S2000x1_S2000_n_0_0_1).resultIdx? (ix1 i) b = some (ix1 a) ↔ (b (ix2 i 0)).toInt = (a.val : ℤ) := by
  refine (Routing.resultIdx?_ix1 (N := 4) scatter_S4_S2000x1_S2000_n_0_0_1 (ix1 i) b a).trans ?_
  have hw : (scatter_S4_S2000x1_S2000_n_0_0_1).window (ix1 i) 0 = 0 := rfl
  have hs : (scatter_S4_S2000x1_S2000_n_0_0_1).start (ix1 i) b 0 = (b (ix2 i 0)).toInt := by
    unfold ScatterDims.start
    rw [dif_pos (by decide)]
    refine congrArg (fun z => (b z).toInt) (funext fun q => Fin.ext ?_)
    match q with
    | ⟨0, _⟩ => rfl
    | ⟨1, _⟩ => rfl
  rw [hw, hs]
  simp

/-- Adding a one at each place of a list that has a property. -/
theorem foldl_ones {ι : Type} (P : ι → Prop) [DecidablePred P] (l : List ι) (z : ℕ) :
    l.foldl (fun a n => if P n then IntOp.addi a 1#32 else a) (BitVec.ofNat 32 z) = BitVec.ofNat 32 (z + l.countP (fun n => decide (P n))) := by
  induction l generalizing z with
  | nil => simp
  | cons n l ih =>
    rw [List.foldl_cons, List.countP_cons]
    by_cases h : P n
    · rw [if_pos h, show IntOp.addi (BitVec.ofNat 32 z) 1#32 = BitVec.ofNat 32 (z + 1) from (BitVec.ofNat_add z 1).symm, ih]
      simp [h]; congr 1; omega
    · rw [if_neg h, ih]
      simp [h]

theorem counts_apply (l : IVec S2000 32) (n : Fin 2000 → ℕ) (h : ∀ p : Fin 2000, l (ix1 p) = BitVec.ofNat 32 (n p))
    (h25 : ∀ p, 2 ≤ n p ∧ n p ≤ 5) (a : Fin 4) :
    counts l (ix1 a) = BitVec.ofNat 32 (Finset.univ.filter fun p => n p = 2 + a.val).card := by
  unfold counts
  rw [Routing.scatter_at]
  have e : ∀ k : Fin S2000.numel, (scatter_S4_S2000x1_S2000_n_0_0_1).resultIdx? (S2000.rowMajor.symm k) (bins l) = some (ix1 a)
      ↔ n (k.cast (Routing.numel1 2000)) = 2 + a.val := fun k => by
    rw [show S2000.rowMajor.symm k = ix1 (k.cast (Routing.numel1 2000)) from Routing.symm1 (N := 2000) k]
    refine (lands _ _ a).trans ?_
    rw [bins_apply l _ _ (h _) (h25 _).1 (h25 _).2]
    omega
  simp only [e]
  refine (foldl_ones (fun k : Fin S2000.numel => n (k.cast (Routing.numel1 2000)) = 2 + a.val) _ 0).trans ?_
  have hc : ∀ (N : ℕ) (e : N = 2000), (List.finRange N).countP (fun k => decide (n (k.cast e) = 2 + a.val))
      = (Finset.univ.filter fun p => n p = 2 + a.val).card := by
    rintro _ rfl
    simp [Finset.card, Finset.filter, List.countP_eq_length_filter, Fin.univ_def]
  rw [hc, Nat.zero_add]

end Cert.ReferenceIdeal.Value

end
-- ==== Proof.Link.lean ====
/-
  The kernel orders all 2048 rows, those from 2000 on last; the reference orders the first 2000. The two orders agree on the first 2000.
-/
module

public import proofs.«01_k».proof.Proof.Tail
public import proofs.«01_k».proof.Proof.Ref

@[expose] public section

set_option maxRecDepth 16384

noncomputable section

namespace Cert.Rank

/-- A permutation's values ask for that permutation. -/
theorem perm_values {n : ℕ} (e : Fin n ≃ Fin n) : perm (fun i => ((e i).val : ℤ)) = e := by
  refine Equiv.ext fun i => Fin.ext ?_
  rw [perm_val]
  unfold rank
  have h : (Finset.univ.filter fun j => Before (fun i => ((e i).val : ℤ)) j i).card = (Finset.Iio (e i)).card := by
    refine Finset.card_equiv e fun j => ?_
    simp only [Finset.mem_filter, Finset.mem_univ, true_and, Finset.mem_Iio]
    unfold Before
    simp only [Nat.cast_lt, Nat.cast_inj, Fin.val_inj, Fin.lt_def]
    refine ⟨fun h => h.resolve_right fun h' => ?_, .inl⟩
    exact absurd (congrArg Fin.val (e.injective h'.1)) (ne_of_lt h'.2)
  rw [h, Fin.card_Iio]

end Cert.Rank

namespace Cert.KernelIdeal.Gen

open Idealize.ShloMosaic Idealize.ShloMosaic.TcCoe Idealize.SL.Sem Cert.Rank Cert.ReferenceIdeal.Value

variable (k : Fin 2048 → BitVec 32) (x : FVec Ideal S2048x5 .f32) (t : FVec Ideal S3 .f32)

/-- The first 2000 rows in descending order of the keys. -/
def order : Fin 2000 ≃ Fin 2000 := perm fun a => -(k (up a)).toInt

/-- The level of each of those rows. -/
def rowLevel (p : Fin 2000) : ℕ := clipLevel (floorLevel (area x (up ((order k).symm p))))

/-- The kernel's thresholds put every box where the reference does. -/
def Agree : Prop := ∀ i : Fin 2000, (t (ix1 0) ≤ area x (up i) ↔ 3 ≤ floorLevel (area x (up i)))
  ∧ (t (ix1 1) ≤ area x (up i) ↔ 4 ≤ floorLevel (area x (up i))) ∧ (t (ix1 2) ≤ area x (up i) ↔ 5 ≤ floorLevel (area x (up i)))

variable (hk : ∀ i : Fin 2000, 0 ≤ (k (up i)).toInt)

include hk in
theorem order1_up (p : Fin 2000) : (order1 k).symm (up p) = up ((order k).symm p) := by
  unfold order1
  refine (perm_symm_castLE (by decide) (down (masked k)) (fun i j hi hj => ?_) p).trans ?_
  · left
    have : 0 ≤ (k i).toInt := hk ⟨i.val, hi⟩
    rw [down, down, masked, masked, if_pos hi, if_neg (by omega)]
    show -(k i).toInt < -(4294967295#32 : BitVec 32).toInt
    have : (4294967295#32 : BitVec 32).toInt = -1 := by decide
    omega
  · have e : (fun a : Fin 2000 => down (masked k) (Fin.castLE (by decide) a)) = fun a => -(k (up a)).toInt := funext fun a => by
      rw [down, masked, if_pos (show (up a).val < 2000 from a.isLt)]
    rw [e]
    rfl

variable (ha : Agree x t)

include hk ha in
theorem sortedLevels_up (p : Fin 2000) : sortedLevels t x k (up p) = (rowLevel k x p : ℤ) := by
  unfold sortedLevels levels levelOf rowLevel clipLevel
  rw [if_pos (show (up p).val < 2000 from p.isLt)]
  obtain ⟨h3, h4, h5⟩ := ha ((order k).symm p)
  simp only [order1_up k hk, h3, h4, h5]
  push_cast
  rfl

include hk ha in
theorem before_rest (i j : Fin 2048) (hi : i.val < 2000) (hj : 2000 ≤ j.val) : Before (sortedLevels t x k) i j := by
  left
  have e := sortedLevels_up k x t hk ha ⟨i.val, hi⟩
  rw [show up ⟨i.val, hi⟩ = i from rfl] at e
  have e' : sortedLevels t x k j = 6 := by unfold sortedLevels levels; rw [if_neg (by omega)]
  have := (clipLevel_le (floorLevel (area x (up ((order k).symm ⟨i.val, hi⟩))))).2
  unfold rowLevel at e
  omega

include hk ha in
theorem rank_levels (p : Fin 2000) : rank (sortedLevels t x k) (up p) = rank (fun a => (rowLevel k x a : ℤ)) p := by
  refine (rank_castLE (by decide) _ (before_rest k x t hk ha) p).trans ?_
  rw [show (fun a : Fin 2000 => sortedLevels t x k (Fin.castLE (by decide) a)) = fun a => (rowLevel k x a : ℤ) from
    funext fun a => sortedLevels_up k x t hk ha a]

include hk ha in
theorem order2_up (p : Fin 2000) :
    (perm (sortedLevels t x k)).symm (up p) = up ((perm fun a => (rowLevel k x a : ℤ)).symm p) := by
  refine (perm_symm_castLE (by decide) _ (before_rest k x t hk ha) p).trans ?_
  rw [show (fun a : Fin 2000 => sortedLevels t x k (Fin.castLE (by decide) a)) = fun a => (rowLevel k x a : ℤ) from
    funext fun a => sortedLevels_up k x t hk ha a]

include hk ha in
theorem level_count (n : ℕ) : (Finset.univ.filter fun i : Fin 2048 => sortedLevels t x k i = (n : ℤ) ∧ i.val < 2000).card
    = (Finset.univ.filter fun p : Fin 2000 => rowLevel k x p = n).card := by
  symm
  refine Finset.card_bij (fun p _ => up p) (fun p hp => ?_) (fun p _ q _ h => Fin.castLE_injective _ h) (fun i hi => ?_)
  · simp only [Finset.mem_filter, Finset.mem_univ, true_and] at hp ⊢
    exact ⟨by rw [sortedLevels_up k x t hk ha, hp], p.isLt⟩
  · simp only [Finset.mem_filter, Finset.mem_univ, true_and] at hi ⊢
    refine ⟨⟨i.val, hi.2⟩, ?_, rfl⟩
    have e := sortedLevels_up k x t hk ha ⟨i.val, hi.2⟩
    exact_mod_cast e.symm.trans hi.1

end Cert.KernelIdeal.Gen

end
-- ==== Proof.Pre.lean ====
/-
  What the precondition says: the keys of the first 2000 rows are not negative, and on those rows the kernel's thresholds and the
  reference's floor of a logarithm agree.
-/
module

public import proofs.«01_k».proof.Defs
public import proofs.«01_k».proof.Proof.Link
public import proofs.«01_k».proof.Proof.Gen.Pre_keys_and_areas
public import Idealize.ShloMosaic.Lib.ReduceAll

@[expose] public section

set_option maxRecDepth 65536

noncomputable section

namespace Cert.Pre_keys_and_areas.Value

open Idealize.ShloMosaic Idealize.ShloMosaic.TcCoe Cert.Pre_keys_and_areas.Gen
open Cert.KernelIdeal.Gen (thresholds area up Agree)
open Cert.ReferenceIdeal.Value (floorLevel)

/-- The precondition's table of candidate areas is the kernel's. -/
theorem lit0_eq : Cert.Pre_keys_and_areas.lit0 = Cert.KernelIdeal.lit0 := rfl

/-- The areas of the first 2000 rows. -/
def areas (x : FVec Ideal S2048x5 .f32) : FVec Ideal S2000 .f32 :=
  mulf
    (addf (subf (shapeCast S2000 (extractStridedSlice S2000x1 ![0, 3] (extractStridedSlice S2000x5 ![0, 0] x slices_S2048x5_S2000x5_0_0) slices_S2000x5_S2000x1_0_3) shapeCasts_S2000x1_S2000)
      (shapeCast S2000 (extractStridedSlice S2000x1 ![0, 1] (extractStridedSlice S2000x5 ![0, 0] x slices_S2048x5_S2000x5_0_0) slices_S2000x5_S2000x1_0_1) shapeCasts_S2000x1_S2000))
      (broadcastInDim S2000 ![] bcast_S_S2000 (constant S_ .f32 0x3F800000#32)))
    (addf (subf (shapeCast S2000 (extractStridedSlice S2000x1 ![0, 4] (extractStridedSlice S2000x5 ![0, 0] x slices_S2048x5_S2000x5_0_0) slices_S2000x5_S2000x1_0_4) shapeCasts_S2000x1_S2000)
      (shapeCast S2000 (extractStridedSlice S2000x1 ![0, 2] (extractStridedSlice S2000x5 ![0, 0] x slices_S2048x5_S2000x5_0_0) slices_S2000x5_S2000x1_0_2) shapeCasts_S2000x1_S2000))
      (broadcastInDim S2000 ![] bcast_S_S2000 (constant S_ .f32 0x3F800000#32)))

/-- Their levels, before the clip. -/
def levels (a : FVec Ideal S2000 .f32) : FVec Ideal S2000 .f32 :=
  Host.floor (addf (broadcastInDim S2000 ![] bcast_S_S2000 (constant S_ .f32 0x40800000#32))
    (mulf (Host.log (addf (Host.divf (Host.sqrt a) (broadcastInDim S2000 ![] bcast_S_S2000 (constant S_ .f32 0x43600000#32)))
      (broadcastInDim S2000 ![] bcast_S_S2000 (constant S_ .f32 0x358637BD#32))))
      (broadcastInDim S2000 ![] bcast_S_S2000 (constant S_ .f32 0x3FB8AA3B#32))))

/-- Whether an area reaches a threshold exactly when its level reaches the boundary, for each row and each of the three boundaries. -/
def agree (a : FVec Ideal S2000 .f32) (t : FVec Ideal S3 .f32) : IVec S2000x3 1 :=
  cmpi .eq
    (cmpf .oge (broadcastInDim S2000x3 ![0, 1] bcast_S2000x1_S2000x3_0_1 (broadcastInDim S2000x1 ![0] bcast_S2000_S2000x1_0 a))
      (broadcastInDim S2000x3 ![0, 1] bcast_S1x3_S2000x3_0_1 (broadcastInDim S1x3 ![1] bcast_S3_S1x3_1 t)))
    (cmpf .oge (broadcastInDim S2000x3 ![0, 1] bcast_S2000x1_S2000x3_0_1 (broadcastInDim S2000x1 ![0] bcast_S2000_S2000x1_0 (levels a)))
      (broadcastInDim S2000x3 ![0, 1] bcast_S1x3_S2000x3_0_1
        (broadcastInDim S1x3 ![1] bcast_S3_S1x3_1 fun i => FloatOps.ofBits .f32 (lit2 (S3.rowMajor i)))))

/-- The precondition is the `and` of its two parts. -/
theorem fn_eq (k : IVec S2048 32) (x : FVec Ideal S2048x5 .f32) (im : FVec Ideal S1x3 .f32) : fn (F := Ideal) k x im =
    andi
      (Host.reduce IntOp.andi
        (cmpi .sge (extractStridedSlice S2000 ![0] k slices_S2048_S2000_0) (broadcastInDim S2000 ![] bcast_S_S2000 (constantI S_ 32 0#32)))
        (constantI S_ 1 1#1) reducesTo_S2000_S_d0 h_S_)
      (Host.reduce IntOp.andi (agree (areas x) (thresholds im)) (constantI S_ 1 1#1) reducesTo_S2000x3_S_d0_1 h_S_) := by
  unfold fn fn_part1 fn_part2 fn_part3 fn_where
  rw [lit0_eq]
  rfl

theorem areas_apply (x : FVec Ideal S2048x5 .f32) (i : Fin 2000) : areas x (ix1 i) = area x (up i) := by
  pointwise [areas]
  rfl

theorem levels_apply (a : FVec Ideal S2000 .f32) (i : Fin 2000) : levels a (ix1 i) = floorLevel (a (ix1 i)) := by
  pointwise [levels]
  rfl

theorem boundary (l : Fin 3) : (FloatOps.ofBits .f32 (lit2 (S3.rowMajor (ix1 l))) : Ideal .f32) = ((3 + l.val : ℕ) : EReal) := by
  have h : S3.rowMajor (ix1 l) = l := by fin_cases l <;> rfl
  rw [h]
  refine Eq.trans ?_ (EReal.coe_natCast (n := 3 + l.val))
  fin_cases l <;> simp [lit2, Ideal.ofBits, Ideal.ieee, -EReal.coe_mul] <;> norm_num

theorem agree_apply (a : FVec Ideal S2000 .f32) (t : FVec Ideal S3 .f32) (i : Fin 2000) (l : Fin 3) (h : agree a t (ix2 i l) = 1#1) :
    t (ix1 l) ≤ a (ix1 i) ↔ ((3 + l.val : ℕ) : EReal) ≤ floorLevel (a (ix1 i)) := by
  have h' : IntOp.cmpi .eq (Ideal.cmp .oge (a (ix1 i)) (t (ix1 l)))
      (Ideal.cmp .oge (levels a (ix1 i)) (FloatOps.ofBits .f32 (lit2 (S3.rowMajor (ix1 l))) : Ideal .f32)) = 1#1 := by
    rw [← h]
    pointwise [agree]
  rw [levels_apply, boundary, IntOp.cmpi_eq] at h'
  have inj : ∀ p q : Bool, BitVec.ofBool p = BitVec.ofBool q → p = q := by decide
  exact decide_eq_decide.1 (inj _ _ h')

/-- The precondition, row by row. -/
theorem rows (k : IVec S2048 32) (x : FVec Ideal S2048x5 .f32) (im : FVec Ideal S1x3 .f32) (h : fn (F := Ideal) k x im = fun _ => 1#1) :
    (∀ i : Fin 2000, 0 ≤ (k (ix1 (up i))).toInt) ∧ Agree x (thresholds im) := by
  rw [fn_eq] at h
  obtain ⟨h₁, h₂⟩ := IntOp.andi_eq_one.1 (congrFun h (Shape.Idx.first h_S_))
  haveI : Subsingleton S_.Idx := ⟨fun a b => funext fun d => d.elim0⟩
  refine ⟨fun i => ?_, fun i => ?_⟩
  · have h' : IntOp.cmpi .sge (k (ix1 (up i))) 0#32 = 1#1 := by
      rw [← Host.reduce_andi_all _ _ _ _ _ h₁ (ix1 i)]
      pointwise []
      rfl
    exact IntOp.cmpi_sge.1 h'
  · have := fun l => agree_apply _ _ i l (Host.reduce_andi_all _ _ _ _ _ h₂ (ix2 i l))
    simp only [areas_apply] at this
    exact ⟨this 0, this 1, this 2⟩

end Cert.Pre_keys_and_areas.Value

end
-- ==== Proof.Value.lean ====
/-
  The reference's four results over the argument arrays, entry by entry, in the kernel's words.
-/
module

public import proofs.«01_k».proof.Proof.Pre

@[expose] public section

set_option maxRecDepth 16384

noncomputable section

namespace Cert.ReferenceIdeal.Value

open Idealize.ShloMosaic Idealize.ShloMosaic.TcCoe Idealize.SL.Sem Cert.Rank Cert.ReferenceIdeal.Gen
open Cert.KernelIdeal.Gen (thresholds area up order rowLevel Agree sortedLevels order1 order1_up order2_up rank_levels level_count)

/-- The first 2000 rows in descending order of the keys: the reference's first result. -/
def rois (k : IVec S2048 32) (x : FVec Ideal S2048x5 .f32) : FVec Ideal S2000x5 .f32 :=
  take (extractStridedSlice S2000x5 ![0, 0] x slices_S2048x5_S2000x5_0_0)
    (argsort (negi (extractStridedSlice S2000 ![0] k slices_S2048_S2000_0)))

/-- Those rows by level: the second result. -/
def byLevel (k : IVec S2048 32) (x : FVec Ideal S2048x5 .f32) : FVec Ideal S2000x5 .f32 :=
  take (rois k x) (argsort (clips (rois k x)))

/-- Where each of those rows went: the third result. -/
def places (k : IVec S2048 32) (x : FVec Ideal S2048x5 .f32) : IVec S2000 32 := argsort (argsort (clips (rois k x)))

/-- How many rows each level has: the fourth result. -/
def sizes (k : IVec S2048 32) (x : FVec Ideal S2048x5 .f32) : IVec S4 32 := counts (clips (rois k x))

theorem toInt_ofNat_small (n : ℕ) (h : n < 2048) : (BitVec.ofNat 32 n).toInt = (n : ℤ) :=
  WordCmp.toInt_ofNat_of_lt (by omega)

theorem toInt_neg_of_nonneg (a : BitVec 32) (h : 0 ≤ a.toInt) : (-a).toInt = -a.toInt := by
  rw [BitVec.toInt_neg]
  have := BitVec.toInt_lt (x := a)
  exact Int.bmod_eq_of_le (by omega) (by omega)

section
variable (k : IVec S2048 32) (x : FVec Ideal S2048x5 .f32)
variable (hk : ∀ i : Fin 2000, 0 ≤ (k (ix1 (up i))).toInt)
include hk

theorem rois_apply (p : Fin 2000) (q : Fin 5) : rois k x (ix2 p q) = x (ix2 (up ((order (fun i => k (ix1 i))).symm p)) q) := by
  unfold rois
  rw [take_apply _ _ (fun p => (order (fun i => k (ix1 i))).symm p) (argsort_apply _ _ fun i => ?_) p q]
  · pointwise []
    rfl
  · have e : negi (extractStridedSlice S2000 ![0] k slices_S2048_S2000_0) (ix1 i) = -(k (ix1 (up i))) := by
      pointwise []
      rfl
    rw [e, toInt_neg_of_nonneg _ (hk i)]

theorem clips_rois (p : Fin 2000) : clips (rois k x) (ix1 p) = BitVec.ofNat 32 (rowLevel (fun i => k (ix1 i)) x p) := by
  rw [clips_apply]
  unfold boxArea rowLevel area
  simp only [rois_apply k x hk]

theorem argsort_clips (p : Fin 2000) : argsort (clips (rois k x)) (ix1 p)
    = BitVec.ofNat 32 ((perm fun a => (rowLevel (fun i => k (ix1 i)) x a : ℤ)).symm p).val := by
  refine argsort_apply _ _ (fun i => ?_) p
  rw [clips_rois k x hk]
  exact toInt_ofNat_small _ (lt_of_le_of_lt (clipLevel_le _).2 (by decide))

theorem places_apply (p : Fin 2000) : places k x (ix1 p) = BitVec.ofNat 32 (rank (fun a => (rowLevel (fun i => k (ix1 i)) x a : ℤ)) p) := by
  unfold places
  rw [argsort_apply _ (fun i => (((perm fun a => (rowLevel (fun i => k (ix1 i)) x a : ℤ)).symm i).val : ℤ)) (fun i => ?_) p]
  · rw [perm_values, Equiv.symm_symm, perm_val]
  · rw [argsort_clips k x hk]
    exact toInt_ofNat_small _ (lt_trans (Fin.isLt _) (by decide))

theorem byLevel_apply (p : Fin 2000) (q : Fin 5) : byLevel k x (ix2 p q)
    = x (ix2 (up ((order (fun i => k (ix1 i))).symm ((perm fun a => (rowLevel (fun i => k (ix1 i)) x a : ℤ)).symm p))) q) := by
  unfold byLevel
  rw [take_apply _ _ _ (argsort_clips k x hk) p q, rois_apply k x hk]

theorem sizes_apply (a : Fin 4) : sizes k x (ix1 a)
    = BitVec.ofNat 32 (Finset.univ.filter fun p : Fin 2000 => rowLevel (fun i => k (ix1 i)) x p = 2 + a.val).card :=
  counts_apply _ _ (clips_rois k x hk) (fun _ => clipLevel_le _) a

/-! ### In the kernel's words -/

theorem rois_eq : rois k x = fun j => x (ix2 ((order1 fun i => k (ix1 i)).symm (up (j 0))) (j 1)) := by
  funext j
  refine (congrArg (rois k x) (ix2_eta j).symm).trans ((rois_apply k x hk (j 0) (j 1)).trans ?_)
  exact congrArg (fun r => x (ix2 r (j 1))) (order1_up _ hk (j 0)).symm

variable (t : FVec Ideal Cert.KernelIdeal.S3 .f32) (ha : Agree x t)
include ha

theorem byLevel_eq : byLevel k x
    = fun j => x (ix2 ((order1 fun i => k (ix1 i)).symm ((perm (sortedLevels t x fun i => k (ix1 i))).symm (up (j 0)))) (j 1)) := by
  funext j
  refine (congrArg (byLevel k x) (ix2_eta j).symm).trans ((byLevel_apply k x hk (j 0) (j 1)).trans ?_)
  refine congrArg (fun r => x (ix2 r (j 1))) ((order1_up _ hk _).symm.trans ?_)
  exact congrArg (order1 fun i => k (ix1 i)).symm (order2_up _ x t hk ha (j 0)).symm

theorem places_eq : places k x = fun j => BitVec.ofNat 32 (rank (sortedLevels t x fun i => k (ix1 i)) (up (j 0))) := by
  funext j
  refine (congrArg (places k x) (ix1_eta j).symm).trans ((places_apply k x hk (j 0)).trans ?_)
  exact congrArg (BitVec.ofNat 32) (rank_levels _ x t hk ha (j 0)).symm

theorem sizes_eq : sizes k x = fun j => BitVec.ofNat 32 (Finset.univ.filter fun i : Fin 2048 =>
    sortedLevels t x (fun i => k (ix1 i)) i = ((2 + (j 0).val : ℕ) : ℤ) ∧ i.val < 2000).card := by
  funext j
  refine (congrArg (sizes k x) (ix1_eta j).symm).trans ((sizes_apply k x hk (j 0)).trans ?_)
  exact congrArg (BitVec.ofNat 32) (level_count _ x t hk ha (2 + (j 0).val)).symm

end

/-! ### The results the reference's run states -/

variable (m : (ℓ : Loc nD τ sig) → Buf (Elt Ideal) ℓ) (c : Dev nD)

theorem result1 : res_main_v47 m c = byLevel (m ((c.tc : Thread nD τ).loc main_arg0)) (m ((c.tc : Thread nD τ).loc main_arg1)) := by
  unfold res_main_v47
  rfl

theorem result2 : res_main_v48 m c = places (m ((c.tc : Thread nD τ).loc main_arg0)) (m ((c.tc : Thread nD τ).loc main_arg1)) := by
  unfold res_main_v48
  rfl

theorem result3 : res_main_v60 m c = sizes (m ((c.tc : Thread nD τ).loc main_arg0)) (m ((c.tc : Thread nD τ).loc main_arg1)) := by
  unfold res_main_v60
  rfl

/-- The reference's run, its results named. -/
theorem run_named (g : Dev nD → PrngReg) : θ_run defs (onTc (τ := τ) (main (F := Ideal))) ⟨m, fun _ => 0, g⟩ (fun r => ∀ c : Dev nD,
    r.2.mem ((c.tc : Thread nD τ).loc main_v10) = rois (m ((c.tc : Thread nD τ).loc main_arg0)) (m ((c.tc : Thread nD τ).loc main_arg1))
    ∧ r.2.mem ((c.tc : Thread nD τ).loc main_v47) = byLevel (m ((c.tc : Thread nD τ).loc main_arg0)) (m ((c.tc : Thread nD τ).loc main_arg1))
    ∧ r.2.mem ((c.tc : Thread nD τ).loc main_v48) = places (m ((c.tc : Thread nD τ).loc main_arg0)) (m ((c.tc : Thread nD τ).loc main_arg1))
    ∧ r.2.mem ((c.tc : Thread nD τ).loc main_v60) = sizes (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono
    (fun _ h c => ⟨(h c).1.trans rfl, (h c).2.1.trans (result1 m c), (h c).2.2.1.trans (result2 m c), (h c).2.2.2.1.trans (result3 m c), (h c).2.2.2.2⟩)
    (run m g)

end Cert.ReferenceIdeal.Value

end
-- ==== Proof.GatherSetup.lean ====
/-
  The gather's launch: the program as the launch theorem sees it, the resource algebra, the arrays and how a tile's
  part of each is spelt.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

noncomputable section

namespace Cert.GatherIdeal.Run

open Cert.GatherIdeal Cert.GatherIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, and a tile's buffers -/

abbrev selLoc (d : Dev nD) : Loc nD τ sig := (SparseCore.T d).loc main_arg6
abbrev keysLoc (d : Dev nD) : Loc nD τ sig := (SparseCore.T d).loc main_v1
abbrev tabLoc (d : Dev nD) : Loc nD τ sig := (SparseCore.T d).loc main_v3
abbrev o0Loc (d : Dev nD) : Loc nD τ sig := (SparseCore.T d).loc main_v4_0
abbrev o1Loc (d : Dev nD) : Loc nD τ sig := (SparseCore.T d).loc main_v4_1
abbrev o2Loc (d : Dev nD) : Loc nD τ sig := (SparseCore.T d).loc main_v4_2

/-- The padded keys, the table of coordinates, the selected indices and the three results, as a tile addresses them. -/
abbrev keysM : Memref sig .scVector .hbm S100352 .i32 := Memref.whole main_v1_scv
abbrev tabM : Memref sig .scVector .hbm S500000 .f32 := Memref.whole main_v3_scv
abbrev selM : Memref sig .scVector .hbm S2048 .i32 := Memref.whole main_arg6_scv
abbrev o0M : Memref sig .scVector .hbm S2048 .i32 := Memref.whole main_v4_0_scv
abbrev o1M : Memref sig .scVector .hbm S10240 .f32 := Memref.whole main_v4_1_scv
abbrev o2M : Memref sig .scVector .hbm S10240 .f32 := Memref.whole main_v4_2_scv
/-- A tile's scratch: its indices, their keys, the word offsets of its rows, its rows. -/
abbrev ixM : Memref sig .scVector .vmem S128 .i32 := Memref.whole cc0_scratch0
abbrev kyM : Memref sig .scVector .vmem S128 .i32 := Memref.whole cc0_scratch1
abbrev ofM : Memref sig .scVector .vmem S5x128 .i32 := Memref.whole cc0_scratch2
abbrev rwM : Memref sig .scVector .vmem S640 .f32 := Memref.whole cc0_scratch3

/-- Element `n` of an array of one axis (indices past the end wrap round: none is used). -/
def at1 {N : ℕ} (h : 0 < N) (n : ℕ) : (⟨1, ![N]⟩ : Shape).Idx := fun
  | 0 => ⟨n % N, Nat.mod_lt _ h⟩

theorem at1_val {N : ℕ} (h : 0 < N) {n : ℕ} (hn : n < N) : ((at1 h n) 0).val = n := Nat.mod_eq_of_lt hn

theorem at1_self {N : ℕ} (h : 0 < N) (y : (⟨1, ![N]⟩ : Shape).Idx) : at1 h (y 0).val = y := by
  funext a
  match a with
  | 0 => exact Fin.ext (Nat.mod_eq_of_lt (y 0).isLt)

theorem at1_eq {N : ℕ} (h : 0 < N) (y : (⟨1, ![N]⟩ : Shape).Idx) {n : ℕ} (e : (y 0).val = n) : y = at1 h n := by
  subst e; exact (at1_self h y).symm

/-- What the three results hold, of the padded keys, the table and the selected indices: the key at each selected
    index; the five coordinates of each selected row, row by row; the same, coordinate by coordinate. -/
def keysOut (keys : S100352.Idx → BitVec 32) (sel : S2048.Idx → BitVec 32) : S2048.Idx → BitVec 32 :=
  fun y => keys (at1 (by decide) (sel y).toNat)
def rowsOut (tab : S500000.Idx → F .f32) (sel : S2048.Idx → BitVec 32) : S10240.Idx → F .f32 :=
  fun y => tab (at1 (by decide) (5 * (sel (at1 (by decide) ((y 0).val / 5))).toNat + (y 0).val % 5))
def colsOut (tab : S500000.Idx → F .f32) (sel : S2048.Idx → BitVec 32) : S10240.Idx → F .f32 :=
  fun y => tab (at1 (by decide) (5 * (sel (at1 (by decide) ((y 0).val % 2048))).toNat + (y 0).val / 2048))

end Cert.GatherIdeal.Run

end
-- ==== Proof.GatherWords.lean ====
/-
  What a tile's buffers hold while it runs: a list of word offsets filled sixteen lanes at a time, a block of rows filled
  one hundred and twenty-eight words at a time.
-/
module

public import proofs.«01_k».proof.Proof.GatherSetup
public import Idealize.ShloMosaic.Lib.Pipeline.Value
public import Idealize.ShloMosaic.Lib.Pipeline.ValueKit.Geometry
public import Idealize.ShloMosaic.Lib.Pointwise.Reshape

@[expose] public section

noncomputable section

namespace Cert.GatherIdeal.Run

open Cert.GatherIdeal Cert.GatherIdeal.Gen

open Idealize.ShloMosaic
open Idealize.SL.Sem

variable {F : FTy → Type} [FloatOps F]

/-! ## The list of offsets -/

/-- The first `16 n` words of the list are `W`'s. -/
def Filled (W : ℕ → BitVec 32) (n : ℕ) (g : S5x128.Idx → BitVec 32) : Prop :=
  ∀ y, 128 * (y 0).val + (y 1).val < 16 * n → g y = W (128 * (y 0).val + (y 1).val)

/-- Element `(r, c)` of the list. -/
def at2 (r : Fin 5) (c : Fin 128) : S5x128.Idx := fun
  | 0 => r
  | 1 => c

theorem cast_row (p : S16.Idx → BitVec 32) (h : S16.ShapeCasts S1x16) (x : S1x16.Idx) :
    shapeCast S1x16 p h x = p (fun a => x a.succ) :=
  shapeCast_addUnit_apply ![16] p h x

/-- Storing the sixteen words after the first `16 n`. -/
theorem filled_store {W : ℕ → BitVec 32} {n : ℕ} {g : S5x128.Idx → BitVec 32} (hg : Filled W n g) (hn : n < 40)
    {off : Fin 2 → ℕ} (hoff : off = ![n / 8, 16 * (n % 8)]) (inb : ∀ a, off a + S1x16.size a ≤ S5x128.size a)
    (p : S16.Idx → BitVec 32) (h : S16.ShapeCasts S1x16) (hp : ∀ x, p x = W (16 * n + (x 0).val)) :
    Filled W (n + 1) ((ofM.access (Rect.unit (s := S5x128) off S1x16.size inb)).write (Elt F) g (shapeCast S1x16 p h) Finset.univ) := by
  subst hoff
  intro y hy
  by_cases hm : y ∈ (Rect.unit (s := S5x128) ![n / 8, 16 * (n % 8)] S1x16.size inb).set
  · obtain ⟨x, rfl⟩ := LoadRect.exists_idx_of_mem _ hm
    have e0 := ValueKit.rect_emb_unit_val (s := S5x128) ![n / 8, 16 * (n % 8)] S1x16.size inb x 0
    have e1 := ValueKit.rect_emb_unit_val (s := S5x128) ![n / 8, 16 * (n % 8)] S1x16.size inb x 1
    have hx0 : (x 0).val < 1 := (x 0).isLt
    have hx1 : (x 1).val < 16 := (x 1).isLt
    refine (View.write_emb_of_mem (v := ofM.access (Rect.unit (s := S5x128) ![n / 8, 16 * (n % 8)] S1x16.size inb)) (Val := Elt F) g
      (shapeCast S1x16 p h) (Finset.mem_univ x)).trans ?_
    rw [cast_eq]
    refine ((cast_row p h x).trans (hp _)).trans ?_
    congr 1
    show 16 * n + (x 1).val = 128 * ((Rect.unit (s := S5x128) ![n / 8, 16 * (n % 8)] S1x16.size inb).emb x 0).val
      + ((Rect.unit (s := S5x128) ![n / 8, 16 * (n % 8)] S1x16.size inb).emb x 1).val
    rw [e0, e1]
    show 16 * n + (x 1).val = 128 * (n / 8 + (x 0).val) + (16 * (n % 8) + (x 1).val)
    omega
  · rw [View.write_of_not_mem]
    · refine hg y ?_
      rw [Rect.mem_set_unit] at hm
      by_contra hc
      apply hm
      have h1 : (y 1).val < 128 := (y 1).isLt
      intro a
      match a with
      | 0 =>
        show n / 8 ≤ (y 0).val ∧ (y 0).val < n / 8 + 1
        omega
      | 1 =>
        show 16 * (n % 8) ≤ (y 1).val ∧ (y 1).val < 16 * (n % 8) + 16
        omega
    · intro hc
      obtain ⟨x, -, rfl⟩ := Finset.mem_map.mp hc
      exact hm (LoadRect.idx_mem _ x)

/-! ## Sixteen lanes of word offsets -/

/-- The sixteen lanes of places `16 n, …, 16 n + 15` of the list. -/
def lanes (n : ℕ) : IVec S16 32 := addi (broadcast S16 (BitVec.ofNat 32 (16 * n))) (iota .scVector S16 32 [0] iota_S16_d0_w32_scVector)
/-- A fifth of each place: the selected row it belongs to. -/
def fifths (n : ℕ) : IVec S16 32 := shrsi (muli (lanes n) (broadcast S16 52429#32)) (broadcast S16 18#32)
/-- Five times the selected index, and the place's coordinate. -/
def words (n : ℕ) (s : IVec S16 32) : IVec S16 32 :=
  addi (muli (broadcast S16 5#32) s) (subi (lanes n) (muli (broadcast S16 5#32) (fifths n)))

theorem lanes_apply (n : ℕ) (x : S16.Idx) : lanes n x = BitVec.ofNat 32 (16 * n + (x 0).val) := by
  show BitVec.ofNat 32 (16 * n) + iota .scVector S16 32 [0] iota_S16_d0_w32_scVector x = _
  rw [iota_single_apply, ← BitVec.ofNat_add]

theorem fifth_of {p : ℕ} (hp : p < 640) : p * 52429 / 2 ^ 18 = p / 5 := by
  have h1 := Nat.div_add_mod p 5
  have h2 := Nat.mod_lt p (show 5 > 0 by decide)
  have h3 : p / 5 < 128 := by omega
  generalize p / 5 = q at *
  generalize p % 5 = r at *
  subst h1
  rw [show (5 * q + r) * 52429 = (q + 52429 * r) + 2 ^ 18 * q by omega, Nat.add_mul_div_left _ _ (by decide)]
  omega

theorem fifths_apply {n : ℕ} (hn : n < 40) (x : S16.Idx) : fifths n x = BitVec.ofNat 32 ((16 * n + (x 0).val) / 5) := by
  have hx : (x 0).val < 16 := (x 0).isLt
  show IntOp.shrsi .vector (lanes n x * 52429#32) 18#32 = _
  have e : (BitVec.ofNat 32 (16 * n + (x 0).val) * 52429#32).toNat = (16 * n + (x 0).val) * 52429 := by
    rw [BitVec.toNat_mul, BitVec.toNat_ofNat, BitVec.toNat_ofNat, Nat.mod_eq_of_lt (a := 16 * n + (x 0).val) (by omega)]
    omega
  rw [lanes_apply]
  unfold IntOp.shrsi
  rw [if_pos (by decide)]
  show BitVec.sshiftRight _ 18 = _
  rw [BitVec.sshiftRight_eq_of_msb_false]
  · apply BitVec.eq_of_toNat_eq
    rw [BitVec.toNat_ushiftRight, e, BitVec.toNat_ofNat, Nat.shiftRight_eq_div_pow, Nat.mod_eq_of_lt (by omega)]
    exact fifth_of (by omega)
  · rw [BitVec.msb_eq_decide, decide_eq_false_iff_not, e]
    omega

theorem fifths_toNat {n : ℕ} (hn : n < 40) (x : S16.Idx) : (fifths n x).toNat = (16 * n + (x 0).val) / 5 := by
  have hx : (x 0).val < 16 := (x 0).isLt
  rw [fifths_apply hn, BitVec.toNat_ofNat]; omega

theorem words_apply {n : ℕ} (hn : n < 40) (s : IVec S16 32) (x : S16.Idx) :
    words n s x = 5#32 * s x + BitVec.ofNat 32 ((16 * n + (x 0).val) % 5) := by
  have hx : (x 0).val < 16 := (x 0).isLt
  show 5#32 * s x + (lanes n x - 5#32 * fifths n x) = _
  rw [fifths_apply hn, lanes_apply]
  congr 1
  apply BitVec.eq_of_toNat_eq
  simp only [BitVec.toNat_sub, BitVec.toNat_mul, BitVec.toNat_ofNat]
  omega

/-! ## Contiguous windows and gathers, of arrays of one axis -/

theorem payload_apply {N o : ℕ} (hN : 0 < N) {e : EltTy} (hg : (⟨1, ![N]⟩ : Shape).Gathers 0 ⟨1, ![o]⟩)
    (g : (⟨1, ![N]⟩ : Shape).Idx → Elt F e)
    (r : Fin ((⟨1, ![o]⟩ : Shape).size hg.axis') → Fin ((⟨1, ![N]⟩ : Shape).size hg.axis)) (y : (⟨1, ![o]⟩ : Shape).Idx) :
    SparseCore.gatherPayload hg g r y = g (at1 hN (r (y 0)).val) := by
  unfold SparseCore.gatherPayload
  congr 1
  apply at1_eq
  exact congrArg Fin.val (Shape.Gathers.idx_axis hg r y)

theorem rows_apply {o z : ℕ} (ho : 0 < o) (idx : (⟨1, ![o]⟩ : Shape).Idx → BitVec 32) (hn : (⟨1, ![o]⟩ : Shape).numel = o)
    (h : ∀ x, (idx x).toNat < z) (k : Fin o) : (SparseCore.rows (F := F) idx hn h k).val = (idx (at1 ho k.val)).toNat := by
  show (idx _).toNat = _
  congr 2
  apply at1_eq
  rw [← rowMajor_val1, Equiv.apply_symm_apply]
  rfl

/-- The table, a row of the list, and a hundred and twenty-eight words of the block, as a gather addresses them. -/
abbrev tabW (off : Fin 1 → ℕ) (inb : ∀ a, off a + S500000.size a ≤ S500000.size a) : Memref sig .scVector .hbm S500000 .f32 :=
  tabM.slice (Rect.unit (s := S500000) off S500000.size inb) (fun _ => rfl)
abbrev offW (off : Fin 2 → ℕ) (inb : ∀ a, off a + S1x128.size a ≤ S5x128.size a) (h : S1x128.Squeezes S128) : Memref sig .scVector .vmem S128 .i32 :=
  (ofM.slice (Rect.unit (s := S5x128) off S1x128.size inb) (fun _ => rfl)).squeeze S128 h
abbrev rowW (off : Fin 1 → ℕ) (inb : ∀ a, off a + S128.size a ≤ S640.size a) : Memref sig .scVector .vmem S128 .f32 :=
  rwM.slice (Rect.unit (s := S640) off S128.size inb) (fun _ => rfl)

theorem tab_read {off : Fin 1 → ℕ} (hoff : off = ![0]) (inb) (tab : S500000.Idx → F .f32) (y : S500000.Idx) :
    (tabW off inb).view.read (Elt F) tab y = tab y := by
  subst hoff
  refine (View.read_apply _ _).trans ((cast_eq _ _).trans (congrArg tab ?_))
  funext a
  apply Fin.ext
  match a with
  | 0 => exact (ValueKit.rect_emb_unit_val (s := S500000) ![0] S500000.size inb y 0).trans (Nat.zero_add _)

theorem off_read {k : Fin 5} {off : Fin 2 → ℕ} (hoff : off = ![k.val, 0]) (inb) (h) (g : S5x128.Idx → BitVec 32) (y : S128.Idx) :
    (offW off inb h).view.read (Elt F) g y = g (at2 k (y 0)) := by
  subst hoff
  refine (View.read_apply _ _).trans ((cast_eq _ _).trans (congrArg g ?_))
  show (Rect.unit (s := S5x128) ![k.val, 0] S1x128.size inb).emb (Shape.reshapeEquiv _ y) = _
  have e : Shape.reshapeEquiv h.numel_eq y = (Fin.cons ⟨0, Nat.one_pos⟩ y : S1x128.Idx) := Shape.reshapeEquiv_cons_one _ y
  funext a
  apply Fin.ext
  refine (ValueKit.rect_emb_unit_val (s := S5x128) ![k.val, 0] S1x128.size inb _ a).trans ?_
  erw [e]
  match a with
  | 0 => rfl
  | 1 => exact Nat.zero_add _

/-- The first `128 k` words of the block are `G`'s. -/
def Landed (G : ℕ → F .f32) (k : ℕ) (g : S640.Idx → F .f32) : Prop :=
  ∀ y, (y 0).val < 128 * k → g y = G (y 0).val

/-- The words of row `k` of the list are in range. -/
theorem off_lt {W : ℕ → BitVec 32} (hW : ∀ p < 640, (W p).toNat < 500000) {fo : S5x128.Idx → BitVec 32} (hf : Filled W 40 fo)
    {k : Fin 5} {off : Fin 2 → ℕ} (hoff : off = ![k.val, 0]) (inb) (h) (y : S128.Idx) :
    ((offW off inb h).view.read (Elt F) fo y).toNat < 500000 := by
  have h1 : (y 0).val < 128 := (y 0).isLt
  have h2 := k.isLt
  have h3 : 128 * k.val + (y 0).val < 640 := by omega
  rw [off_read hoff, hf _ (by show 128 * k.val + (y 0).val < 16 * 40; omega)]
  exact hW _ h3

/-- Gathering row `k` of the list lands a hundred and twenty-eight more words. -/
theorem landed_gather {W : ℕ → BitVec 32} {G : ℕ → F .f32} {tab : S500000.Idx → F .f32}
    (hG : ∀ p < 640, G p = tab (at1 (by decide) (W p).toNat)) {fo : S5x128.Idx → BitVec 32} (hf : Filled W 40 fo) {k : Fin 5}
    {fd : S640.Idx → F .f32} (hl : Landed G k.val fd)
    {offT : Fin 1 → ℕ} (hT : offT = ![0]) (inbT) {offO : Fin 2 → ℕ} (hO : offO = ![k.val, 0]) (inbO) (hs)
    {offR : Fin 1 → ℕ} (hR : offR = ![128 * k.val]) (inbR) (hg : S500000.Gathers 0 S128) (hn : S128.numel = 128)
    (hin : ∀ x, ((offW offO inbO hs).view.read (Elt F) fo x).toNat < 500000) :
    Landed G (k.val + 1) ((rowW offR inbR).view.write (Elt F) fd
      (SparseCore.gatherPayload hg ((tabW offT inbT).view.read (Elt F) tab) (SparseCore.rows (F := F) ((offW offO inbO hs).view.read (Elt F) fo) hn hin)) Finset.univ) := by
  subst hR
  intro y hy
  have hk := k.isLt
  by_cases hm : y ∈ (Rect.unit (s := S640) ![128 * k.val] S128.size inbR).set
  · obtain ⟨x, rfl⟩ := LoadRect.exists_idx_of_mem _ hm
    have e0 : ((Rect.unit (s := S640) ![128 * k.val] S128.size inbR).idx x 0).val = 128 * k.val + (x 0).val :=
      ValueKit.rect_emb_unit_val (s := S640) ![128 * k.val] S128.size inbR x 0
    have hx : (x 0).val < 128 := (x 0).isLt
    refine (View.write_emb_of_mem (v := (rowW ![128 * k.val] inbR).view) (Val := Elt F) fd _ (Finset.mem_univ x)).trans ?_
    rw [cast_eq]
    refine (payload_apply (by decide) hg _ _ x).trans ?_
    rw [tab_read hT, hG _ (by rw [e0]; omega)]
    congr 2
    refine (rows_apply (by decide) _ hn hin _).trans ?_
    have e1 : ((at1 (N := 128) (by decide) (x 0).val) 0).val = (x 0).val := at1_val _ hx
    have e2 : 128 * ((at2 k ((at1 (N := 128) (by decide) (x 0).val) 0)) 0).val
        + ((at2 k ((at1 (N := 128) (by decide) (x 0).val) 0)) 1).val = 128 * k.val + (x 0).val :=
      congrArg (128 * k.val + ·) e1
    rw [off_read hO, hf _ (by rw [e2]; omega), e2, e0]
  · rw [View.write_of_not_mem]
    · refine hl y ?_
      rw [Rect.mem_set_unit] at hm
      by_contra hc
      apply hm
      intro a
      match a with
      | 0 =>
        show 128 * k.val ≤ (y 0).val ∧ (y 0).val < 128 * k.val + 128
        omega
    · intro hc
      obtain ⟨x, -, rfl⟩ := Finset.mem_map.mp hc
      exact hm ((Rect.unit (s := S640) ![128 * k.val] S128.size inbR).idx_mem x)

end Cert.GatherIdeal.Run

end
-- ==== Proof.GatherWindows.lean ====
/-
  The contiguous windows a tile copies from and to: what is read through one, what a whole array holds once one is
  written, which elements of an array are a tile's.
-/
module

public import proofs.«01_k».proof.Proof.GatherWords

@[expose] public section

noncomputable section

namespace Cert.GatherIdeal.Run

open Cert.GatherIdeal Cert.GatherIdeal.Gen

open Idealize.ShloMosaic
open Idealize.SL.Sem

variable {F : FTy → Type} [FloatOps F]

/-- The elements of block `j` of an array of one axis, in blocks of `w`. -/
def blk (N w j : ℕ) : Finset (⟨1, ![N]⟩ : Shape).Idx := Finset.univ.filter fun y => (y 0).val / w = j

theorem mem_blk {N w j : ℕ} {y : (⟨1, ![N]⟩ : Shape).Idx} : y ∈ blk N w j ↔ (y 0).val / w = j := by
  unfold blk; rw [Finset.mem_filter]; exact and_iff_right (Finset.mem_univ y)

theorem window_emb {N n : ℕ} (hN : 0 < N) (off : Fin 1 → ℕ) (inb : ∀ a, off a + ![n] a ≤ ![N] a) (x : (⟨1, ![n]⟩ : Shape).Idx) :
    (Rect.unit (s := ⟨1, ![N]⟩) off ![n] inb).emb x = at1 hN (off 0 + (x 0).val) :=
  at1_eq hN _ (ValueKit.rect_emb_unit_val (s := ⟨1, ![N]⟩) off ![n] inb x 0)

theorem read_window {sg : RefSig} {N n : ℕ} (hN : 0 < N) {κ : Kind} {sp : Space} {e : EltTy} (m : Memref sg κ sp ⟨1, ![N]⟩ e) (off : Fin 1 → ℕ)
    (inb : ∀ a, off a + ![n] a ≤ ![N] a) (h) (f : m.view.ty.Contents (Elt F)) (x : (⟨1, ![n]⟩ : Shape).Idx) :
    (m.slice (Rect.unit (s := ⟨1, ![N]⟩) off ![n] inb) h).view.read (Elt F) f x = m.view.read (Elt F) f (at1 hN (off 0 + (x 0).val)) := by
  rw [← window_emb hN off inb x]; rfl

theorem write_window {sg : RefSig} {N n : ℕ} (hn : 0 < n) (hN : 0 < N) {κ : Kind} {sp : Space} {e : EltTy} (m : Memref sg κ sp ⟨1, ![N]⟩ e) {j : ℕ} {off : Fin 1 → ℕ}
    (hoff : off = ![n * j]) (inb : ∀ a, off a + ![n] a ≤ ![N] a) (h) (f : m.view.ty.Contents (Elt F)) (g : (⟨1, ![n]⟩ : Shape).Idx → Elt F e)
    {y : (⟨1, ![N]⟩ : Shape).Idx} (hy : y ∈ blk N n j) :
    m.view.read (Elt F) ((m.slice (Rect.unit (s := ⟨1, ![N]⟩) off ![n] inb) h).view.write (Elt F) f g Finset.univ) y
      = g (at1 hn ((y 0).val % n)) := by
  have hj := mem_blk.mp hy
  have e : y = (Rect.unit (s := ⟨1, ![N]⟩) off ![n] inb).emb (at1 hn ((y 0).val % n)) := by
    rw [window_emb hN]
    apply at1_eq
    subst hoff
    rw [at1_val hn (Nat.mod_lt _ hn), ← hj]
    exact (Nat.div_add_mod _ _).symm
  conv_lhs => rw [e]
  exact View.read_slice_write_emb (Val := Elt F) (v := m.view) (Rect.unit (s := ⟨1, ![N]⟩) off ![n] inb) f g (Finset.mem_univ _)

theorem window_blk {N n : ℕ} (hN : 0 < N) {j : ℕ} {off : Fin 1 → ℕ} (hoff : off = ![n * j])
    (inb : ∀ a, off a + ![n] a ≤ ![N] a) (x : (⟨1, ![n]⟩ : Shape).Idx) : (Rect.unit (s := ⟨1, ![N]⟩) off ![n] inb).emb x ∈ blk N n j := by
  subst hoff
  have hx : (x 0).val < n := (x 0).isLt
  have hi : n * j + n ≤ N := inb 0
  rw [mem_blk, window_emb hN]
  show (at1 hN (n * j + (x 0).val) 0).val / n = j
  rw [at1_val hN (by omega), Nat.mul_add_div (by omega), Nat.div_eq_of_lt hx, Nat.add_zero]

/-! ## What a tile computes -/

/-- Tile `t`'s indices. -/
def ownSel (t : ℕ) (sel : S2048.Idx → BitVec 32) : S128.Idx → BitVec 32 := fun x => sel (at1 (by decide) (128 * t + (x 0).val))
/-- The word offsets of its rows, row by row, and coordinate by coordinate. -/
def byRow (sv : S128.Idx → BitVec 32) (p : ℕ) : BitVec 32 := 5#32 * sv (at1 (by decide) (p / 5)) + BitVec.ofNat 32 (p % 5)
def byCol (sv : S128.Idx → BitVec 32) (p : ℕ) : BitVec 32 := 5#32 * sv (at1 (by decide) (p % 128)) + BitVec.ofNat 32 (p / 128)
/-- The table's words at a list of offsets. -/
def fetched (tab : S500000.Idx → F .f32) (W : ℕ → BitVec 32) (p : ℕ) : F .f32 := tab (at1 (by decide) (W p).toNat)

theorem word_toNat {s : BitVec 32} (hs : s.toNat < 100000) {c : ℕ} (hc : c < 5) :
    (5#32 * s + BitVec.ofNat 32 c).toNat = 5 * s.toNat + c := by
  rw [BitVec.toNat_add, BitVec.toNat_mul, BitVec.toNat_ofNat, BitVec.toNat_ofNat]; omega

variable {sel : S2048.Idx → BitVec 32} (hsel : ∀ y, (sel y).toNat < 100000) {t : ℕ} (ht : t < 16)

include hsel in
theorem byRow_toNat (t p : ℕ) : (byRow (ownSel t sel) p).toNat = 5 * (ownSel t sel (at1 (by decide) (p / 5))).toNat + p % 5 :=
  word_toNat (hsel _) (Nat.mod_lt _ (by decide))

include hsel in
theorem byCol_toNat (t : ℕ) {p : ℕ} (hp : p < 640) :
    (byCol (ownSel t sel) p).toNat = 5 * (ownSel t sel (at1 (by decide) (p % 128))).toNat + p / 128 :=
  word_toNat (hsel _) (by omega)

include hsel in
theorem byRow_lt (t : ℕ) : ∀ p < 640, (byRow (ownSel t sel) p).toNat < 500000 := by
  intro p _
  have h1 := hsel (at1 (by decide) (128 * t + ((at1 (N := 128) (by decide) (p / 5)) 0).val))
  rw [byRow_toNat hsel]
  unfold ownSel; omega

include hsel in
theorem byCol_lt (t : ℕ) : ∀ p < 640, (byCol (ownSel t sel) p).toNat < 500000 := by
  intro p hp
  have h1 := hsel (at1 (by decide) (128 * t + ((at1 (N := 128) (by decide) (p % 128)) 0).val))
  rw [byCol_toNat hsel t hp]
  unfold ownSel; omega

theorem ownSel_at (t : ℕ) {q : ℕ} (hq : q < 128) : ownSel t sel (at1 (by decide) q) = sel (at1 (by decide) (128 * t + q)) := by
  unfold ownSel; rw [at1_val _ hq]

/-- The tile's copy of its indices. -/
theorem own_copied {off : Fin 1 → ℕ} (hoff : off = ![128 * t]) (inb) (h) (f : S128.Idx → BitVec 32) :
    ixM.view.write (Elt F) f ((selM.slice (Rect.unit (s := S2048) off S128.size inb) h).view.read (Elt F) sel) Finset.univ = ownSel t sel := by
  subst hoff
  refine (View.write_whole_univ _ _ _).trans (funext fun x => ?_)
  exact read_window (F := F) (N := 2048) (n := 128) (by decide) selM _ inb h sel x

/-- The keys gathered at the tile's indices. -/
theorem keys_gathered {keys : S100352.Idx → BitVec 32} {offK : Fin 1 → ℕ} (hK : offK = ![0]) (inbK) (h)
    (hg : S100352.Gathers 0 S128) (hn : S128.numel = 128) (f : S128.Idx → BitVec 32)
    (hin : ∀ x, (ixM.view.read (Elt F) (ownSel t sel) x).toNat < 100352) (x : S128.Idx) :
    kyM.view.write (Elt F) f (SparseCore.gatherPayload hg ((keysM.slice (Rect.unit (s := S100352) offK S100352.size inbK) h).view.read (Elt F) keys)
      (SparseCore.rows (F := F) (ixM.view.read (Elt F) (ownSel t sel)) hn hin)) Finset.univ x
      = keys (at1 (by decide) (ownSel t sel x).toNat) := by
  subst hK
  refine (congrFun (View.write_whole_univ _ _ _) x).trans ((payload_apply (by decide) hg _ _ x).trans ?_)
  refine (read_window (F := F) (N := 100352) (n := 100352) (by decide) keysM _ inbK h keys _).trans ?_
  rw [show (![0] : Fin 1 → ℕ) 0 = 0 from rfl, Nat.zero_add, at1_self]
  show keys _ = keys _
  congr 1
  refine congrArg (at1 (N := 100352) (by decide)) ((rows_apply (F := F) (by decide) _ hn hin _).trans ?_)
  rw [at1_self]
  rfl

/-- The elements of the third result a tile writes. -/
def colBlk (t : ℕ) : Finset S10240.Idx := Finset.univ.filter fun y => (y 0).val % 2048 / 128 = t

theorem mem_colBlk {y : S10240.Idx} : y ∈ colBlk t ↔ (y 0).val % 2048 / 128 = t := by
  unfold colBlk; rw [Finset.mem_filter]; exact and_iff_right (Finset.mem_univ y)

include hsel ht in
/-- The keys copied out. -/
theorem keys_out {keys : S100352.Idx → BitVec 32} {off : Fin 1 → ℕ} (hoff : off = ![128 * t]) (inb) (h) (f : S2048.Idx → BitVec 32)
    {ky : S128.Idx → BitVec 32} (hky : ∀ x, ky x = keys (at1 (by decide) (ownSel t sel x).toNat)) {y : S2048.Idx} (hy : y ∈ blk 2048 128 t) :
    (o0M.slice (Rect.unit (s := S2048) off S128.size inb) h).view.write (Elt F) f (kyM.view.read (Elt F) ky) Finset.univ y = keysOut keys sel y := by
  have hj := mem_blk.mp hy
  refine (write_window (F := F) (N := 2048) (n := 128) (by decide) (by decide) o0M hoff inb h f _ hy).trans ?_
  refine (hky (at1 (N := 128) (by decide) ((y 0).val % 128))).trans ?_
  unfold keysOut
  rw [ownSel_at t (Nat.mod_lt _ (by decide)), show 128 * t + (y 0).val % 128 = (y 0).val by omega, at1_self]

include hsel ht in
/-- The rows copied out. -/
theorem rows_out {tab : S500000.Idx → F .f32} {off : Fin 1 → ℕ} (hoff : off = ![640 * t]) (inb) (h) (f : S10240.Idx → F .f32)
    {g : S640.Idx → F .f32} (hg : Landed (fetched tab (byRow (ownSel t sel))) 5 g) {y : S10240.Idx} (hy : y ∈ blk 10240 640 t) :
    (o1M.slice (Rect.unit (s := S10240) off S640.size inb) h).view.write (Elt F) f (rwM.view.read (Elt F) g) Finset.univ y = rowsOut tab sel y := by
  have hj := mem_blk.mp hy
  have hm : (y 0).val % 640 < 640 := Nat.mod_lt _ (by decide)
  have e : ((at1 (N := 640) (by decide) ((y 0).val % 640)) 0).val = (y 0).val % 640 := at1_val _ hm
  refine (write_window (F := F) (N := 10240) (n := 640) (by decide) (by decide) o1M hoff inb h f _ hy).trans ?_
  refine (hg (at1 (N := 640) (by decide) ((y 0).val % 640)) (by rw [e]; omega)).trans ?_
  rw [e]
  unfold fetched rowsOut
  rw [byRow_toNat hsel, ownSel_at t (by omega), show 128 * t + (y 0).val % 640 / 5 = (y 0).val / 5 by omega,
    show (y 0).val % 640 % 5 = (y 0).val % 5 by omega]

include hsel ht in
/-- One coordinate's words copied out, beside those of the coordinates before it. -/
theorem cols_out {tab : S500000.Idx → F .f32} (c : Fin 5) {off : Fin 1 → ℕ} (hoff : off = ![2048 * c.val + 128 * t]) (inb) (h)
    {offR : Fin 1 → ℕ} (hR : offR = ![128 * c.val]) (inbR) (hr)
    {f : S10240.Idx → F .f32} (hf : ∀ y ∈ colBlk t, (y 0).val / 2048 < c.val → f y = colsOut tab sel y)
    {g : S640.Idx → F .f32} (hg : Landed (fetched tab (byCol (ownSel t sel))) (c.val + 1) g) :
    ∀ y ∈ colBlk t, (y 0).val / 2048 < c.val + 1 →
      (o2M.slice (Rect.unit (s := S10240) off S128.size inb) h).view.write (Elt F) f
        ((rwM.slice (Rect.unit (s := S640) offR S128.size inbR) hr).view.read (Elt F) g) Finset.univ y = colsOut tab sel y := by
  subst hR
  intro y hy hlt
  have hj := mem_colBlk.mp hy
  have hc := c.isLt
  by_cases hm : (y 0).val / 2048 = c.val
  · have hoff' : off = ![128 * (16 * c.val + t)] := by
      rw [hoff]; congr 1; omega
    have hx : (y 0).val % 128 < 128 := Nat.mod_lt _ (by decide)
    have e : ((at1 (N := 128) (by decide) ((y 0).val % 128)) 0).val = (y 0).val % 128 := at1_val _ hx
    have e' : ((at1 (N := 640) (by decide) (128 * c.val + (y 0).val % 128)) 0).val = 128 * c.val + (y 0).val % 128 := at1_val _ (by omega)
    refine (write_window (F := F) (N := 10240) (n := 128) (j := 16 * c.val + t) (by decide) (by decide) o2M hoff' inb h f _ (mem_blk.mpr (by omega))).trans ?_
    refine (read_window (F := F) (N := 640) (n := 128) (by decide) rwM _ inbR hr g _).trans ?_
    show g (at1 (N := 640) (by decide) (128 * c.val + ((at1 (N := 128) (by decide) ((y 0).val % 128)) 0).val)) = _
    rw [e, hg _ (by rw [e']; omega), e']
    unfold fetched colsOut
    rw [byCol_toNat hsel t (by omega), ownSel_at t (Nat.mod_lt _ (by decide)),
      show 128 * t + (128 * c.val + (y 0).val % 128) % 128 = (y 0).val % 2048 by omega,
      show (128 * c.val + (y 0).val % 128) / 128 = (y 0).val / 2048 by omega]
  · rw [View.write_of_not_mem]
    · exact hf y hy (by omega)
    · intro hc'
      obtain ⟨x, -, rfl⟩ := Finset.mem_map.mp hc'
      have hx : (x 0).val < 128 := (x 0).isLt
      have e : ((o2M.slice (Rect.unit (s := S10240) off S128.size inb) h).view.emb x 0).val = off 0 + (x 0).val :=
        ValueKit.rect_emb_unit_val (s := S10240) off S128.size inb x 0
      apply hm
      have e0 : off 0 = 2048 * c.val + 128 * t := by rw [hoff]; rfl
      rw [e, e0]
      omega

/-! The windows written lie in the tile's elements. -/

theorem keys_window {off : Fin 1 → ℕ} (hoff : off = ![128 * t]) (inb) (h) :
    (o0M.slice (Rect.unit (s := S2048) off S128.size inb) h).view.set ⊆ blk 2048 128 t := by
  intro y hy
  obtain ⟨x, -, rfl⟩ := Finset.mem_map.mp hy
  exact window_blk (N := 2048) (n := 128) (by decide) hoff inb x

theorem rows_window {off : Fin 1 → ℕ} (hoff : off = ![640 * t]) (inb) (h) :
    (o1M.slice (Rect.unit (s := S10240) off S640.size inb) h).view.set ⊆ blk 10240 640 t := by
  intro y hy
  obtain ⟨x, -, rfl⟩ := Finset.mem_map.mp hy
  exact window_blk (N := 10240) (n := 640) (by decide) hoff inb x

include ht in
theorem cols_window (c : Fin 5) {off : Fin 1 → ℕ} (hoff : off = ![2048 * c.val + 128 * t]) (inb) (h) :
    (o2M.slice (Rect.unit (s := S10240) off S128.size inb) h).view.set ⊆ colBlk t := by
  intro y hy
  obtain ⟨x, -, rfl⟩ := Finset.mem_map.mp hy
  have hx : (x 0).val < 128 := (x 0).isLt
  have e : ((o2M.slice (Rect.unit (s := S10240) off S128.size inb) h).view.emb x 0).val = off 0 + (x 0).val :=
    ValueKit.rect_emb_unit_val (s := S10240) off S128.size inb x 0
  have e0 : off 0 = 2048 * c.val + 128 * t := by rw [hoff]; rfl
  rw [mem_colBlk, e, e0]
  omega

end Cert.GatherIdeal.Run

end
-- ==== Proof.GatherSteps.lean ====
/-
  The steps a tile takes: sixteen entries of the list of word offsets, of either kind; a copy and its wait; a gather
  and its wait.
-/
module

public import proofs.«01_k».proof.Proof.GatherWindows

@[expose] public section

noncomputable section

namespace Cert.GatherIdeal.Run

open Cert.GatherIdeal Cert.GatherIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]
local notation "𝕄" => MT nD τ sig (HIx 1) (Elt F) ℕ UU ℕ

abbrev cV (L : grid0.Coords) : Fin τ.nSC := (L 0).castLE hcore0
abbrev jV (L : grid0.Coords) : Fin τ.nSub := (L 1).castLE hsub0
/-- The thread that runs the tile at `L`. -/
abbrev thr (d : Dev nD) (L : grid0.Coords) : Thread nD τ := V d (cV L) (jV L)

/-- What a run of the rest of the body has to show. -/
abbrev Rest (d : Dev nD) (L : grid0.Coords) {α : Type} (p : Prog (TpuEff nD τ sig (Elt F) Λ₀ (thr d L).2) α) (Q : α → sProp 𝕄) : sProp 𝕄 :=
  wp frame (wpE (defs₀ (F := F)) 𝒱₀ (thr d L) none) Set.univ p Q

/-- The tile's own indices. -/
def Ix (d : Dev nD) (L : grid0.Coords) (sv : S128.Idx → BitVec 32) : sProp 𝕄 := iprop(ixM.view.loc (thr d L) ↦{fullShare} sv)
/-- Its list of offsets, `n` groups of sixteen filled. -/
def Off (d : Dev nD) (L : grid0.Coords) (W : ℕ → BitVec 32) (n : ℕ) : sProp 𝕄 :=
  iprop(∃ g, ⌜Filled W n g⌝ ∗ ofM.view.loc (thr d L) ↦{fullShare} g)
/-- Its block of rows, `k` groups of a hundred and twenty-eight landed. -/
def Rows (d : Dev nD) (L : grid0.Coords) (G : ℕ → F .f32) (k : ℕ) : sProp 𝕄 :=
  iprop(∃ g, ⌜Landed G k g⌝ ∗ rwM.view.loc (thr d L) ↦{fullShare} g)

/-- Sixteen entries of the first list: read the indices at a fifth of each place, store the offsets. -/
theorem wp_entry (d : Dev nD) (L : grid0.Coords) {n : ℕ} (hn : n < 40) {sv : S128.Idx → BitVec 32} {W : ℕ → BitVec 32}
    (hW : ∀ p < 640, W p = 5#32 * sv (at1 (by decide) (p / 5)) + BitVec.ofNat 32 (p % 5))
    {off : Fin 2 → ℕ} {inb : ∀ a, off a + S1x16.size a ≤ S5x128.size a} {v : IVec S16 32} {pay : (S16.Idx → BitVec 32) → IVec S16 32}
    {dec} {k : PLift (∀ a x, ((![v] : Fin 1 → IVec S16 32) a x).toNat < S128.size a) → (S16.Idx → BitVec 32) → (S1x16.Idx → BitVec 32) → PUnit →
      Prog (TpuEff nD τ sig (Elt F) Λ₀ (thr d L).2) PUnit} {R : sProp 𝕄} {Q : PUnit → sProp 𝕄}
    (hoff : off = ![n / 8, 16 * (n % 8)]) (hv : v = fifths n) (hp : ∀ a, pay a = words n a)
    (rest : ∀ h a b, iprop(Off d L W (n + 1) ∗ Ix d L sv ∗ R) ⊢ Rest d L (k h a b ⟨⟩) Q) :
    iprop(Off d L W n ∗ Ix d L sv ∗ R) ⊢ Rest d L
      (.op (.assume (∀ a x, ((![v] : Fin 1 → IVec S16 32) a x).toNat < S128.size a) dec) fun h =>
        SparseCore.vectorLoadIdx ixM ![v] h.down (View.loads_vmem h_S128) >>= fun a =>
          .op (.load ofM (Rect.unit (s := S5x128) off S1x16.size inb).toLoadRect (View.loadsAt_vmem h_S1x16)) fun (b : S1x16.Idx → BitVec 32) =>
          .op (.store ofM (Rect.unit (s := S5x128) off S1x16.size inb) (shapeCast S1x16 (pay a) shapeCasts_S16_S1x16) Finset.univ
            (View.stores_vmem_bits_univ h_S1x16 rfl) (.inl rfl)) (k h a b)) Q := by
  have hlt : ∀ a x, ((![v] : Fin 1 → IVec S16 32) a x).toNat < S128.size a := by
    intro a x
    have hx : (x 0).val < 16 := (x 0).isLt
    match a with
    | 0 =>
      show (v x).toNat < 128
      rw [hv, fifths_toNat hn]; omega
  unfold Rest
  rw [wp_assume_of _ _ _ _ hlt]
  iintro ⟨HO, HI, HR⟩
  unfold Off Ix at *
  icases HO with ⟨%g, %hg, HO⟩
  iapply (SparseCore.wp_vectorLoadIdx 𝒱₀ (thr d L) none Set.univ (base := ixM) (S := Finset.univ) (q := fullShare) (Finset.subset_univ _)) $$ HI
  iintro HI
  iapply (wp_load 𝒱₀ (thr d L) none Set.univ (m := ofM) (S := Finset.univ) (q := fullShare) (Finset.subset_univ _)) $$ HO
  iintro HO
  iapply (wp_store 𝒱₀ (thr d L) none Set.univ (m := ofM) (r := Rect.unit (s := S5x128) off S1x16.size inb) (Mk := Finset.univ) (f := g) (S := Finset.univ) (Finset.subset_univ _)) $$ HO
  iintro HO
  iapply (rest _ _ _)
  isplitl [HO]
  · iexists _
    isplitr
    swap
    · iexact HO
    · ipureintro
      refine filled_store (F := F) hg hn hoff inb _ _ ?_
      intro x
      have hx : (x 0).val < 16 := (x 0).isLt
      rw [hp, words_apply hn, hW _ (by omega)]
      congr 2
      show sv _ = _
      congr 1
      apply at1_eq
      refine (Rect.emb_apply _ _ _).trans ?_
      show 0 + 1 * (v x).toNat = _
      rw [Nat.zero_add, Nat.one_mul]
      rw [hv, fifths_toNat hn]
  isplitl [HI]
  · iexact HI
  · iexact HR

/-- Sixteen entries of the second list: read sixteen indices, store five times each and the coordinate. -/
theorem wp_entryT (d : Dev nD) (L : grid0.Coords) {n : ℕ} (hn : n < 40) {sv : S128.Idx → BitVec 32} {W : ℕ → BitVec 32}
    (hW : ∀ p < 640, W p = 5#32 * sv (at1 (by decide) (p % 128)) + BitVec.ofNat 32 (p / 128))
    {off : Fin 2 → ℕ} {inb : ∀ a, off a + S1x16.size a ≤ S5x128.size a}
    {offI : Fin 1 → ℕ} {inbI : ∀ a, offI a + S16.size a ≤ S128.size a} {pay : (S16.Idx → BitVec 32) → IVec S16 32}
    {k : (S16.Idx → BitVec 32) → (S1x16.Idx → BitVec 32) → PUnit → Prog (TpuEff nD τ sig (Elt F) Λ₀ (thr d L).2) PUnit} {R : sProp 𝕄} {Q : PUnit → sProp 𝕄}
    (hoff : off = ![n / 8, 16 * (n % 8)]) (hoffI : offI = ![16 * (n % 8)])
    (hp : ∀ a, pay a = addi (muli (broadcast S16 5#32) a) (broadcast S16 (BitVec.ofNat 32 (n / 8))))
    (rest : ∀ a b, iprop(Off d L W (n + 1) ∗ Ix d L sv ∗ R) ⊢ Rest d L (k a b ⟨⟩) Q) :
    iprop(Off d L W n ∗ Ix d L sv ∗ R) ⊢ Rest d L
      (.op (.load ixM (Rect.unit (s := S128) offI S16.size inbI).toLoadRect (View.loadsAt_vmem h_S16)) fun (a : S16.Idx → BitVec 32) =>
          .op (.load ofM (Rect.unit (s := S5x128) off S1x16.size inb).toLoadRect (View.loadsAt_vmem h_S1x16)) fun (b : S1x16.Idx → BitVec 32) =>
          .op (.store ofM (Rect.unit (s := S5x128) off S1x16.size inb) (shapeCast S1x16 (pay a) shapeCasts_S16_S1x16) Finset.univ
            (View.stores_vmem_bits_univ h_S1x16 rfl) (.inl rfl)) (k a b)) Q := by
  unfold Rest
  iintro ⟨HO, HI, HR⟩
  unfold Off Ix at *
  icases HO with ⟨%g, %hg, HO⟩
  iapply (wp_load 𝒱₀ (thr d L) none Set.univ (m := ixM) (S := Finset.univ) (q := fullShare) (Finset.subset_univ _)) $$ HI
  iintro HI
  iapply (wp_load 𝒱₀ (thr d L) none Set.univ (m := ofM) (S := Finset.univ) (q := fullShare) (Finset.subset_univ _)) $$ HO
  iintro HO
  iapply (wp_store 𝒱₀ (thr d L) none Set.univ (m := ofM) (r := Rect.unit (s := S5x128) off S1x16.size inb) (Mk := Finset.univ) (f := g) (S := Finset.univ) (Finset.subset_univ _)) $$ HO
  iintro HO
  iapply (rest _ _)
  isplitl [HO]
  · iexists _
    isplitr
    swap
    · iexact HO
    · ipureintro
      refine filled_store (F := F) hg hn hoff inb _ _ ?_
      intro x
      have hx : (x 0).val < 16 := (x 0).isLt
      rw [hp, hW _ (by omega), show (16 * n + (x 0).val) / 128 = n / 8 by omega]
      show 5#32 * sv _ + BitVec.ofNat 32 (n / 8) = _
      congr 2
      show sv _ = sv _
      congr 1
      apply at1_eq
      subst hoffI
      refine (ValueKit.rect_emb_unit_val (s := S128) ![16 * (n % 8)] S16.size inbI x 0).trans ?_
      show 16 * (n % 8) + (x 0).val = _
      omega
  isplitl [HI]
  · iexact HI
  · iexact HR

/-- What the tile owes while it runs: what it owed at entry, nothing waited on but its own transfers. -/
def Owe (d : Dev nD) (L : grid0.Coords) (O : CellTallies nD τ sig (HIx 1)) (W : Waits sig (HIx 1)) : sProp 𝕄 :=
  iprop(levAts (K (F := F)).L (K (F := F)).lev ∗ ∃ W', ⌜∀ p ∈ W', p ∈ W ∨ p.2 = none⌝ ∗ owes (thr d L) O W')

/-- The tile's own transfer waited for: what it delivers, its counter back at zero. -/
theorem wp_landed (d : Dev nD) (L : grid0.Coords) {O : CellTallies nD τ sig (HIx 1)} {W : Waits sig (HIx 1)} (hO : ∀ g, O g none = 0)
    {sp sp' : Space} {s s' : Shape} {e e' : EltTy} {sem : DmaSem sig} {srcw : Memref sig (thr d L).2.kind sp' s' e'}
    {dstw : Memref sig (thr d L).2.kind sp s e} {hsrc : srcw.view.WordExact} {hdst : dstw.view.WordExact}
    {k : PUnit → Prog (TpuEff nD τ sig (Elt F) Λ₀ (thr d L).2) PUnit} {N : ℕ} (hN : dstw.view.dmaCredit = N) {D : sProp 𝕄} {Q : PUnit → sProp 𝕄} :
    iprop(Transfers.Flight countersEmb (thr d L) (.dma sem) (default : HIx 1) N D ∗ Owe d L O W)
      ⊢ iprop((iprop(D ∗ semVal (thr d L, .dma sem) 0 ∗ Owe d L O W) -∗ Rest d L (k ⟨⟩) Q)
          -∗ Rest d L (.op (.waitDma2 sem srcw dstw hsrc hdst) k) Q) := by
  unfold Owe Rest
  iintro ⟨Hfl, #Hlv, %W', %hW', HO⟩ Hk
  ihave #Hmw := ((K (F := F)).mayWaits_none (thr := thr d L) hO) $$ Hlv
  iapply (Transfers.wp_waitLocalO countersEmb 𝒱₀ (thr d L) none (default : HIx 1) hN) $$ [Hfl HO]
  · isplitl [Hfl]; · iexact Hfl
    isplitl [HO]; · iexact HO
    iapply (Transfers.MayWaits.elim (SemLoc.dma sem)) $$ Hmw
  iintro ⟨HD, Hsem, HO⟩
  iapply Hk
  isplitl [HD]; · iexact HD
  isplitl [Hsem]; · iexact Hsem
  isplitr; · iexact Hlv
  iexists _; isplitr
  swap; · iexact HO
  ipureintro; intro p hp
  rcases Finset.mem_insert.mp hp with hp | hp; · exact .inr (hp ▸ rfl)
  exact hW' p hp

/-- A copy and its wait. -/
theorem wp_copy (d : Dev nD) (L : grid0.Coords) {O : CellTallies nD τ sig (HIx 1)} {W : Waits sig (HIx 1)} (hO : ∀ g, O g none = 0)
    {sp sp' : Space} {s : Shape} {e : EltTy} {sem : DmaSem sig} {src : Memref sig (thr d L).2.kind sp s e}
    {dst : Memref sig (thr d L).2.kind sp' s e} {h1 : src.view.WordExact} {h2 : dst.view.WordExact}
    {h3 : DmaTarget.Typed (nD := nD) (τ := τ) (p := (thr d L).2) sp (SemLoc.dma sem) (.here dst)}
    {h4 : src.view.WordExact} {h5 : dst.view.WordExact}
    {k : PUnit → Prog (TpuEff nD τ sig (Elt F) Λ₀ (thr d L).2) PUnit} {Q : PUnit → sProp 𝕄}
    {q : PosShare TreeShare} {Ss : Finset (Idx (src.view.loc (thr d L)))} {fs : Buf (Elt F) (src.view.loc (thr d L))}
    {Sd : Finset (Idx (dst.view.loc (thr d L)))} {fd : Buf (Elt F) (dst.view.loc (thr d L))}
    (hSs : src.view.set ⊆ Ss) (hSd : dst.view.set ⊆ Sd) (hN0 : 0 < dst.view.dmaCredit) :
    iprop((src.view.loc (thr d L) ↦[Ss]{q} fs) ∗ (dst.view.loc (thr d L) ↦[Sd]{fullShare} fd)
        ∗ semVal (thr d L, .dma sem) 0 ∗ Owe d L O W)
      ⊢ iprop((iprop((src.view.loc (thr d L) ↦[Ss]{q} fs)
        ∗ (dst.view.loc (thr d L) ↦[Sd]{fullShare} dst.view.write (Elt F) fd (src.view.read (Elt F) fs) Finset.univ)
        ∗ semVal (thr d L, .dma sem) 0 ∗ Owe d L O W) -∗ Rest d L (k ⟨⟩) Q)
      -∗ Rest d L (.op (.enqueueDma src (.here dst) (.dma sem) h1 h2 h3) fun _ => .op (.waitDma2 sem src dst h4 h5) k) Q) := by
  iintro ⟨Hs, Hd, Hsem, HO⟩ Hk
  ihave Hs' := (pointsTo_split_subset (q := q) (f := fs) (S := Ss) hSs).1 $$ Hs
  icases Hs' with ⟨Hs, Hr⟩
  iapply (Transfers.wp_dmaLocal countersEmb 𝒱₀ (thr d L) none (via := .same) (default : HIx 1) dst.view.dmaCredit rfl hN0 hSd) $$ [Hs Hd Hsem]
  · isplitl [Hs]; · iexact Hs
    isplitl [Hd]; · iexact Hd
    iexact Hsem
  iintro Hfl
  iapply (wp_landed d L hO rfl) $$ [Hfl HO]
  · isplitl [Hfl]; · iexact Hfl
    iexact HO
  iintro ⟨⟨Hd, Hs⟩, Hsem, HO⟩
  ihave Hs' := (pointsTo_split_subset (q := q) (f := fs) (S := Ss) hSs).2 $$ [Hs Hr]; · isplitl [Hs] <;> iassumption
  iapply Hk
  isplitl [Hs']; · iexact Hs'
  isplitl [Hd]; · iexact Hd
  isplitl [Hsem]; · iexact Hsem
  iexact HO

/-- A gather and its wait. -/
theorem wp_gather (d : Dev nD) (L : grid0.Coords) {O : CellTallies nD τ sig (HIx 1)} {W : Waits sig (HIx 1)} (hO : ∀ g, O g none = 0)
    {s₀ s si : Shape} {e : EltTy} {sem : DmaSem sig} {src : Memref sig (thr d L).2.kind .hbm s₀ e}
    {dst : Memref sig (thr d L).2.kind .vmem s e} {hg : s₀.Gathers 0 s} {offs : Memref sig (thr d L).2.kind .vmem si .i32}
    {hn : si.numel = s.size hg.axis'} {hp : (thr d L).2.kind = .scVector} {h1 : src.view.WordExact} {he : e.bits = 32}
    {hsp : Space.hbm = .hbm ∨ Space.hbm = .shared} {hr : s₀.StreamRows 0} {h2 : src.view.WordExact} {h3 : dst.view.WordExact}
    {k : PUnit → Prog (TpuEff nD τ sig (Elt F) Λ₀ (thr d L).2) PUnit} {Q : PUnit → sProp 𝕄}
    {q : PosShare TreeShare} {fs : Buf (Elt F) (src.view.loc (thr d L))}
    {fd : Buf (Elt F) (dst.view.loc (thr d L))} {fo : Buf (Elt F) (offs.view.loc (thr d L))}
    (hN : ∑ j, (dst.slice (s.rowRect hg.axis' j) (s.stride_rowRect hg.axis' j)).view.dmaCredit = dst.view.dmaCredit)
    (hs : 0 < s.numel) (hin : ∀ x, (offs.view.read (Elt F) fo x).toNat < s₀.size hg.axis) :
    iprop((src.view.loc (thr d L) ↦{q} fs) ∗ (offs.view.loc (thr d L) ↦{fullShare} fo) ∗ (dst.view.loc (thr d L) ↦{fullShare} fd)
        ∗ semVal (thr d L, .dma sem) 0 ∗ Owe d L O W)
      ⊢ iprop((iprop((src.view.loc (thr d L) ↦{q} fs) ∗ (offs.view.loc (thr d L) ↦{fullShare} fo)
        ∗ (dst.view.loc (thr d L) ↦{fullShare} dst.view.write (Elt F) fd
            (SparseCore.gatherPayload hg (src.view.read (Elt F) fs) (SparseCore.rows (F := F) (offs.view.read (Elt F) fo) hn hin)) Finset.univ)
        ∗ semVal (thr d L, .dma sem) 0 ∗ Owe d L O W) -∗ Rest d L (k ⟨⟩) Q)
      -∗ Rest d L (SparseCore.enqueueIndirectGather hp src dst hg offs hn sem h1 he hsp hr >>= fun _ =>
          SparseCore.waitIndirectGather sem src dst h2 h3 >>= k) Q) := by
  iintro ⟨Hs, Ho, Hd, Hsem, HO⟩ Hk
  ihave Hs' := (pointsTo_split_subset (q := q) (f := fs) (S := Finset.univ) (Finset.subset_univ src.view.set)).1 $$ Hs
  icases Hs' with ⟨Hs, Hsr⟩
  ihave Ho' := (pointsTo_split_subset (q := fullShare) (f := fo) (S := Finset.univ) (Finset.subset_univ offs.view.set)).1 $$ Ho
  icases Ho' with ⟨Ho, Hor⟩
  ihave Hd' := (pointsTo_split_subset (q := fullShare) (f := fd) (S := Finset.univ) (Finset.subset_univ dst.view.set)).1 $$ Hd
  icases Hd' with ⟨Hd, Hdr⟩
  iapply (SparseCore.wp_indirectGatherLocal countersEmb 𝒱₀ (thr d L) none (hg := hg) (default : HIx 1) dst.view.dmaCredit hN hs hin) $$ [Hs Ho Hd Hsem]
  · isplitl [Hs]; · iexact Hs
    isplitl [Hd]; · iexact Hd
    isplitl [Ho]; · iexact Ho
    iexact Hsem
  iintro Hfl
  rw [SparseCore.waitIndirectGather_bind]
  iapply (wp_landed d L hO rfl) $$ [Hfl HO]
  · isplitl [Hfl]; · iexact Hfl
    iexact HO
  iintro ⟨⟨Hd, Hs, Ho⟩, Hsem, HO⟩
  ihave Hs' := (pointsTo_split_subset (q := q) (f := fs) (S := Finset.univ) (Finset.subset_univ src.view.set)).2 $$ [Hs Hsr]; · isplitl [Hs] <;> iassumption
  ihave Ho' := (pointsTo_split_subset (q := fullShare) (f := fo) (S := Finset.univ) (Finset.subset_univ offs.view.set)).2 $$ [Ho Hor]; · isplitl [Ho] <;> iassumption
  ihave Hdr' := (Entails.of_eq (SparseCore.pointsTo_rest_write (F := F) (thr d L) (v := dst.view) (S := Finset.univ) fd
    (SparseCore.gatherPayload hg (src.view.read (Elt F) fs) (SparseCore.rows (F := F) (offs.view.read (Elt F) fo) hn hin)))) $$ Hdr
  ihave Hd' := (pointsTo_split_subset (ℓ := dst.view.loc (thr d L)) (q := fullShare) (f := dst.view.write (Elt F) fd
    (SparseCore.gatherPayload hg (src.view.read (Elt F) fs) (SparseCore.rows (F := F) (offs.view.read (Elt F) fo) hn hin)) Finset.univ)
    (S := Finset.univ) (Finset.subset_univ dst.view.set)).2 $$ [Hd Hdr']; · isplitl [Hd] <;> iassumption
  iapply Hk
  isplitl [Hs']; · iexact Hs'
  isplitl [Ho']; · iexact Ho'
  isplitl [Hd']; · iexact Hd'
  isplitl [Hsem]; · iexact Hsem
  iexact HO

/-- Row `k` of the list gathered: a hundred and twenty-eight more words landed. -/
theorem wp_rows (d : Dev nD) (L : grid0.Coords) {O : CellTallies nD τ sig (HIx 1)} {W : Waits sig (HIx 1)} (hO : ∀ g, O g none = 0)
    (k : Fin 5) {Lw : ℕ → BitVec 32} {G : ℕ → F .f32} {tab : S500000.Idx → F .f32} (hL : ∀ p < 640, (Lw p).toNat < 500000)
    (hG : ∀ p < 640, G p = tab (at1 (by decide) (Lw p).toNat))
    {offT : Fin 1 → ℕ} {inbT} {offO : Fin 2 → ℕ} {inbO} {hs} {offR : Fin 1 → ℕ} {inbR} {sem : DmaSem sig}
    {hg : S500000.Gathers 0 S128} {hn : S128.numel = S128.size hg.axis'} {hp : (thr d L).2.kind = .scVector} {h1 : (tabW offT inbT).view.WordExact}
    {he : (EltTy.f32).bits = 32} {hsp : Space.hbm = .hbm ∨ Space.hbm = .shared} {hr : S500000.StreamRows 0}
    {h2 : (tabW offT inbT).view.WordExact} {h3 : (rowW offR inbR).view.WordExact}
    {kk : PUnit → Prog (TpuEff nD τ sig (Elt F) Λ₀ (thr d L).2) PUnit} {Q : PUnit → sProp 𝕄} {q : PosShare TreeShare}
    (hT : offT = ![0]) (hOf : offO = ![k.val, 0]) (hR : offR = ![128 * k.val]) :
    iprop((tabM.view.loc (thr d L) ↦{q} tab) ∗ Off d L Lw 40 ∗ Rows d L G k.val ∗ semVal (thr d L, .dma sem) 0 ∗ Owe d L O W)
      ⊢ iprop((iprop((tabM.view.loc (thr d L) ↦{q} tab) ∗ Off d L Lw 40 ∗ Rows d L G (k.val + 1) ∗ semVal (thr d L, .dma sem) 0 ∗ Owe d L O W)
          -∗ Rest d L (kk ⟨⟩) Q)
        -∗ Rest d L (SparseCore.enqueueIndirectGather hp (tabW offT inbT) (rowW offR inbR) hg (offW offO inbO hs) hn sem h1 he hsp hr >>= fun _ =>
          SparseCore.waitIndirectGather sem (tabW offT inbT) (rowW offR inbR) h2 h3 >>= kk) Q) := by
  iintro ⟨HT, HO, HR, Hsem, Howe⟩ Hk
  unfold Off Rows
  icases HO with ⟨%g, %hf, HO⟩
  icases HR with ⟨%r, %hl, HR⟩
  iapply (wp_gather d L hO (src := tabW offT inbT) (dst := rowW offR inbR) (offs := offW offO inbO hs) (hg := hg) (q := q) (fs := tab) (fo := g) (fd := r)
    (SparseCore.sum_rowCredit_eq_dmaCredit (rowW offR inbR) _ (fun _ => rfl)) (by decide) (off_lt hL hf hOf inbO hs)) $$ [HT HO HR Hsem Howe]
  · isplitl [HT]; · iexact HT
    isplitl [HO]; · iexact HO
    isplitl [HR]; · iexact HR
    isplitl [Hsem]; · iexact Hsem
    iexact Howe
  iintro ⟨HT, HO, HR, Hsem, Howe⟩
  iapply Hk
  isplitl [HT]; · iexact HT
  isplitl [HO]
  · iexists g; isplitr; · (ipureintro; exact hf)
    iexact HO
  isplitl [HR]
  · iexists _; isplitr
    swap; · iexact HR
    ipureintro
    exact landed_gather hG hf hl hT inbT hOf inbO hs hR inbR hg hn _
  isplitl [Hsem]; · iexact Hsem
  iexact Howe

end Cert.GatherIdeal.Run

end
-- ==== Proof.GatherBody.lean ====
/-
  The gather's body in pieces: what a tile holds while it runs — counters, scratch, shares and blocks of the arrays —
  and the three steps that write its results out.
-/
module

public import proofs.«01_k».proof.Proof.GatherSteps

@[expose] public section

noncomputable section

namespace Cert.GatherIdeal.Run

open Cert.GatherIdeal Cert.GatherIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]
local notation "𝕄" => MT nD τ sig (HIx 1) (Elt F) ℕ UU ℕ

/-- The tile's number among the sixteen. -/
abbrev tl (L : grid0.Coords) : ℕ := (L 1).val

theorem tl_lt (L : grid0.Coords) : tl L < 16 := (L 1).isLt

/-- The counter of the tile's transfers numbered `j`. -/
abbrev semOf (d : Dev nD) (L : grid0.Coords) (j : Fin 9) : GSem nD τ sig := (thr d L, .dma j)

/-- The tile's nine counters, at zero. -/
def Sems (d : Dev nD) (L : grid0.Coords) : sProp 𝕄 :=
  iprop(semVal (semOf d L 0) 0 ∗ semVal (semOf d L 1) 0 ∗ semVal (semOf d L 2) 0 ∗ semVal (semOf d L 3) 0 ∗ semVal (semOf d L 4) 0
    ∗ semVal (semOf d L 5) 0 ∗ semVal (semOf d L 6) 0 ∗ semVal (semOf d L 7) 0 ∗ semVal (semOf d L 8) 0)

/-- Its four buffers, at any contents. -/
def Bufs (d : Dev nD) (L : grid0.Coords) : sProp 𝕄 :=
  iprop((∃ f, ixM.view.loc (thr d L) ↦{fullShare} f) ∗ (∃ f, kyM.view.loc (thr d L) ↦{fullShare} f)
    ∗ (∃ f, ofM.view.loc (thr d L) ↦{fullShare} f) ∗ (∃ f, rwM.view.loc (thr d L) ↦{fullShare} f))

/-- The arrays it reads: a share of the indices, of the keys and of the table. -/
def Ins (d : Dev nD) (L : grid0.Coords) (q : PosShare TreeShare) (sel : S2048.Idx → BitVec 32) (keys : S100352.Idx → BitVec 32)
    (tab : S500000.Idx → F .f32) : sProp 𝕄 :=
  iprop((selM.view.loc (thr d L) ↦{q} sel) ∗ (keysM.view.loc (thr d L) ↦{q} keys) ∗ (tabM.view.loc (thr d L) ↦{q} tab))

/-- Its blocks of the three results. -/
def Outs (d : Dev nD) (L : grid0.Coords) (f0 : S2048.Idx → BitVec 32) (f1 f2 : S10240.Idx → F .f32) : sProp 𝕄 :=
  iprop((o0M.view.loc (thr d L) ↦[blk 2048 128 (tl L)]{fullShare} f0) ∗ (o1M.view.loc (thr d L) ↦[blk 10240 640 (tl L)]{fullShare} f1)
    ∗ (o2M.view.loc (thr d L) ↦[colBlk (tl L)]{fullShare} f2))

theorem ix_in (d : Dev nD) (L : grid0.Coords) (sv : S128.Idx → BitVec 32) :
    (ixM.view.loc (thr d L) ↦{fullShare} sv : sProp 𝕄) ⊢ Ix d L sv := Entails.rfl

theorem off_start (d : Dev nD) (L : grid0.Coords) (W : ℕ → BitVec 32) (g : S5x128.Idx → BitVec 32) :
    (ofM.view.loc (thr d L) ↦{fullShare} g : sProp 𝕄) ⊢ Off d L W 0 := by
  iintro H
  unfold Off
  iexists g; isplitr
  · ipureintro; intro x hx; exact absurd hx (Nat.not_lt_zero _)
  · iexact H

theorem off_again (d : Dev nD) (L : grid0.Coords) (W W' : ℕ → BitVec 32) (n : ℕ) : (Off d L W n : sProp 𝕄) ⊢ Off d L W' 0 := by
  conv => lhs; unfold Off
  iintro ⟨%g, -, H⟩
  iapply (off_start d L W' g) $$ H

theorem rows_start (d : Dev nD) (L : grid0.Coords) (G : ℕ → F .f32) (g : S640.Idx → F .f32) :
    (rwM.view.loc (thr d L) ↦{fullShare} g : sProp 𝕄) ⊢ Rows d L G 0 := by
  iintro H
  unfold Rows
  iexists g; isplitr
  · ipureintro; intro x hx; exact absurd hx (Nat.not_lt_zero _)
  · iexact H

theorem rows_again (d : Dev nD) (L : grid0.Coords) (G G' : ℕ → F .f32) (k : ℕ) : (Rows d L G k : sProp 𝕄) ⊢ Rows d L G' 0 := by
  conv => lhs; unfold Rows
  iintro ⟨%g, -, H⟩
  iapply (rows_start d L G' g) $$ H

theorem ix_out (d : Dev nD) (L : grid0.Coords) (sv : S128.Idx → BitVec 32) :
    (Ix d L sv : sProp 𝕄) ⊢ iprop(∃ f, ixM.view.loc (thr d L) ↦{fullShare} f) := by
  unfold Ix
  iintro H; iexists _; iexact H

theorem off_out (d : Dev nD) (L : grid0.Coords) (W : ℕ → BitVec 32) (n : ℕ) :
    (Off d L W n : sProp 𝕄) ⊢ iprop(∃ f, ofM.view.loc (thr d L) ↦{fullShare} f) := by
  unfold Off
  iintro ⟨%g, -, H⟩; iexists g; iexact H

theorem rows_out_any (d : Dev nD) (L : grid0.Coords) (G : ℕ → F .f32) (k : ℕ) :
    (Rows d L G k : sProp 𝕄) ⊢ iprop(∃ f, rwM.view.loc (thr d L) ↦{fullShare} f) := by
  unfold Rows
  iintro ⟨%g, -, H⟩; iexists g; iexact H

theorem rest_ret (d : Dev nD) (L : grid0.Coords) {Q : PUnit → sProp 𝕄} : Q ⟨⟩ ⊢ Rest d L (.ret ⟨⟩) Q := by
  unfold Rest
  rw [wp_ret]
  iintro H; imodintro; iexact H

theorem pos_S128 : 0 < S128.numel := by decide
theorem pos_S640 : 0 < S640.numel := by decide

section Copies

variable (d : Dev nD) (L : grid0.Coords) {O : CellTallies nD τ sig (HIx 1)} {W : Waits sig (HIx 1)} (hO : ∀ g, O g none = 0)
  {sem : DmaSem sig}
  {sel : S2048.Idx → BitVec 32} (hsel : ∀ y, (sel y).toNat < 100000) {tab : S500000.Idx → F .f32}

include hO hsel in
/-- The copy of the tile's keys into their block of the first result. -/
theorem wp_keysOut {keys : S100352.Idx → BitVec 32} {off : Fin 1 → ℕ} (hoff : off = ![128 * tl L])
    {inb : ∀ a, off a + S128.size a ≤ S2048.size a} {h : ∀ a, (Rect.unit (s := S2048) off S128.size inb).stride a = 1}
    {h1} {h2} {h3} {h4} {h5}
    {k : PUnit → Prog (TpuEff nD τ sig (Elt F) Λ₀ (thr d L).2) PUnit} {Q : PUnit → sProp 𝕄}

    {ky : S128.Idx → BitVec 32} (hky : ∀ x, ky x = keys (at1 (by decide) (ownSel (tl L) sel x).toNat)) {f : S2048.Idx → BitVec 32} :
    iprop((kyM.view.loc (thr d L) ↦{fullShare} ky) ∗ (o0M.view.loc (thr d L) ↦[blk 2048 128 (tl L)]{fullShare} f)
        ∗ semVal (thr d L, .dma sem) 0 ∗ Owe d L O W)
      ⊢ iprop((iprop((kyM.view.loc (thr d L) ↦{fullShare} ky)
        ∗ (o0M.view.loc (thr d L) ↦[blk 2048 128 (tl L)]{fullShare} keysOut keys sel)
        ∗ semVal (thr d L, .dma sem) 0 ∗ Owe d L O W) -∗ Rest d L (k ⟨⟩) Q)
      -∗ Rest d L (.op (.enqueueDma kyM (.here (o0M.slice (Rect.unit (s := S2048) off S128.size inb) h)) (.dma sem) h1 h2 h3) fun _ =>
          .op (.waitDma2 sem kyM (o0M.slice (Rect.unit (s := S2048) off S128.size inb) h) h4 h5) k) Q) := by
  rw [show (o0M.view.loc (thr d L) ↦[blk 2048 128 (tl L)]{fullShare} keysOut keys sel : sProp 𝕄)
      = o0M.view.loc (thr d L) ↦[blk 2048 128 (tl L)]{fullShare} (o0M.slice (Rect.unit (s := S2048) off S128.size inb) h).view.write (Elt F) f
          (kyM.view.read (Elt F) ky) Finset.univ
    from (pointsTo_congr fun y hy => keys_out (F := F) hsel (tl_lt L) hoff inb h f hky hy).symm]
  exact wp_copy d L hO (src := kyM) (dst := o0M.slice (Rect.unit (s := S2048) off S128.size inb) h) (Ss := Finset.univ) (fs := ky) (fd := f)
    (Finset.subset_univ _) (keys_window hoff inb h) (View.dmaCredit_pos _ pos_S128)

include hO hsel in
/-- The copy of the tile's rows into their block of the second result. -/
theorem wp_rowsOut {off : Fin 1 → ℕ} (hoff : off = ![640 * tl L])
    {inb : ∀ a, off a + S640.size a ≤ S10240.size a} {h : ∀ a, (Rect.unit (s := S10240) off S640.size inb).stride a = 1}
    {h1} {h2} {h3} {h4} {h5}
    {k : PUnit → Prog (TpuEff nD τ sig (Elt F) Λ₀ (thr d L).2) PUnit} {Q : PUnit → sProp 𝕄}
    {f : S10240.Idx → F .f32} :
    iprop(Rows d L (fetched tab (byRow (ownSel (tl L) sel))) 5 ∗ (o1M.view.loc (thr d L) ↦[blk 10240 640 (tl L)]{fullShare} f)
        ∗ semVal (thr d L, .dma sem) 0 ∗ Owe d L O W)
      ⊢ iprop((iprop(Rows d L (fetched tab (byRow (ownSel (tl L) sel))) 5
        ∗ (o1M.view.loc (thr d L) ↦[blk 10240 640 (tl L)]{fullShare} rowsOut tab sel)
        ∗ semVal (thr d L, .dma sem) 0 ∗ Owe d L O W) -∗ Rest d L (k ⟨⟩) Q)
      -∗ Rest d L (.op (.enqueueDma rwM (.here (o1M.slice (Rect.unit (s := S10240) off S640.size inb) h)) (.dma sem) h1 h2 h3) fun _ =>
          .op (.waitDma2 sem rwM (o1M.slice (Rect.unit (s := S10240) off S640.size inb) h) h4 h5) k) Q) := by
  unfold Rows
  iintro ⟨⟨%g, %hg, HR⟩, Ho, Hs, Howe⟩ Hk
  iapply (wp_copy d L hO (src := rwM) (dst := o1M.slice (Rect.unit (s := S10240) off S640.size inb) h) (Ss := Finset.univ) (fs := g) (fd := f) (Finset.subset_univ _) (rows_window hoff inb h) (View.dmaCredit_pos _ pos_S640))
    $$ [HR Ho Hs Howe]
  · isplitl [HR]; · iexact HR
    isplitl [Ho]; · iexact Ho
    isplitl [Hs]; · iexact Hs
    iexact Howe
  iintro ⟨HR, Ho, Hs, Howe⟩
  ihave Ho := (Entails.of_eq (pointsTo_congr fun y hy => rows_out (F := F) hsel (tl_lt L) hoff inb h f hg hy)) $$ Ho
  iapply Hk
  isplitl [HR]
  · iexists g; isplitr; · (ipureintro; exact hg)
    iexact HR
  isplitl [Ho]; · iexact Ho
  isplitl [Hs]; · iexact Hs
  iexact Howe

/-- The tile's part of the third result, its first `c` pieces written. -/
def Cols (d : Dev nD) (L : grid0.Coords) (tab : S500000.Idx → F .f32) (sel : S2048.Idx → BitVec 32) (c : ℕ) : sProp 𝕄 :=
  iprop(∃ f, ⌜∀ y ∈ colBlk (tl L), (y 0).val / 2048 < c → f y = colsOut tab sel y⌝ ∗ o2M.view.loc (thr d L) ↦[colBlk (tl L)]{fullShare} f)

include hO hsel in
/-- The copy of the tile's coordinates numbered `c` into their piece of the third result. -/
theorem wp_colsOut (c : Fin 5) {off : Fin 1 → ℕ} (hoff : off = ![2048 * c.val + 128 * tl L]) {offR : Fin 1 → ℕ} (hR : offR = ![128 * c.val])
    {inb : ∀ a, off a + S128.size a ≤ S10240.size a} {h : ∀ a, (Rect.unit (s := S10240) off S128.size inb).stride a = 1}
    {inbR : ∀ a, offR a + S128.size a ≤ S640.size a} {hr : ∀ a, (Rect.unit (s := S640) offR S128.size inbR).stride a = 1}
    {h1} {h2} {h3} {h4} {h5}
    {k : PUnit → Prog (TpuEff nD τ sig (Elt F) Λ₀ (thr d L).2) PUnit} {Q : PUnit → sProp 𝕄}
    :
    iprop(Rows d L (fetched tab (byCol (ownSel (tl L) sel))) (c.val + 1) ∗ Cols d L tab sel c.val ∗ semVal (thr d L, .dma sem) 0 ∗ Owe d L O W)
      ⊢ iprop((iprop(Rows d L (fetched tab (byCol (ownSel (tl L) sel))) (c.val + 1) ∗ Cols d L tab sel (c.val + 1)
        ∗ semVal (thr d L, .dma sem) 0 ∗ Owe d L O W) -∗ Rest d L (k ⟨⟩) Q)
      -∗ Rest d L (.op (.enqueueDma (rwM.slice (Rect.unit (s := S640) offR S128.size inbR) hr)
            (.here (o2M.slice (Rect.unit (s := S10240) off S128.size inb) h)) (.dma sem) h1 h2 h3) fun _ =>
          .op (.waitDma2 sem (rwM.slice (Rect.unit (s := S640) offR S128.size inbR) hr)
            (o2M.slice (Rect.unit (s := S10240) off S128.size inb) h) h4 h5) k) Q) := by
  unfold Rows Cols
  iintro ⟨⟨%g, %hg, HR⟩, ⟨%f, %hf, Ho⟩, Hs, Howe⟩ Hk
  iapply (wp_copy d L hO (src := rwM.slice (Rect.unit (s := S640) offR S128.size inbR) hr) (dst := o2M.slice (Rect.unit (s := S10240) off S128.size inb) h) (Ss := Finset.univ) (fs := g) (fd := f) (Finset.subset_univ _)
    (cols_window (tl_lt L) c hoff inb h) (View.dmaCredit_pos _ pos_S128)) $$ [HR Ho Hs Howe]
  · isplitl [HR]; · iexact HR
    isplitl [Ho]; · iexact Ho
    isplitl [Hs]; · iexact Hs
    iexact Howe
  iintro ⟨HR, Ho, Hs, Howe⟩
  iapply Hk
  isplitl [HR]
  · iexists g; isplitr; · (ipureintro; exact hg)
    iexact HR
  isplitl [Ho]
  · iexists _; isplitr
    swap; · iexact Ho
    ipureintro
    exact cols_out hsel (tl_lt L) c hoff inb h hR inbR hr hf hg
  isplitl [Hs]; · iexact Hs
  iexact Howe

theorem cols_start (f : S10240.Idx → F .f32) :
    (o2M.view.loc (thr d L) ↦[colBlk (tl L)]{fullShare} f : sProp 𝕄) ⊢ Cols d L tab sel 0 := by
  iintro H
  unfold Cols
  iexists f; isplitr
  · ipureintro; intro y _ hy; exact absurd hy (Nat.not_lt_zero _)
  · iexact H

theorem cols_done {c : ℕ} (hc : c = 5) : Cols d L tab sel c ⊢ (o2M.view.loc (thr d L) ↦[colBlk (tl L)]{fullShare} colsOut tab sel : sProp 𝕄) := by
  unfold Cols
  iintro ⟨%f, %hf, H⟩
  iapply (Entails.of_eq (pointsTo_congr fun y hy => hf y hy (by
    have h1 : (y 0).val < 10240 := (y 0).isLt
    omega))) $$ H

end Copies

end Cert.GatherIdeal.Run

end
-- ==== Proof.GatherTile.lean ====
/-
  The gather's body run from its first line to its last: the keys out, the rows out, then the five coordinates out, each
  with what its window of the result then holds.
-/
module

public import proofs.«01_k».proof.Proof.GatherBody

@[expose] public section

noncomputable section

namespace Cert.GatherIdeal.Run

open Cert.GatherIdeal Cert.GatherIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]
local notation "𝕄" => MT nD τ sig (HIx 1) (Elt F) ℕ UU ℕ

set_option maxHeartbeats 12000000 in
set_option maxRecDepth 16384 in
/-- The tile's task. -/
theorem tile_run (d : Dev nD) (L : grid0.Coords) {O : CellTallies nD τ sig (HIx 1)} {W : Waits sig (HIx 1)} (hO : ∀ g, O g none = 0)
    {q : PosShare TreeShare} {sel : S2048.Idx → BitVec 32} (hsel : ∀ y, (sel y).toNat < 100000) {keys : S100352.Idx → BitVec 32}
    {tab : S500000.Idx → F .f32} {f0 : S2048.Idx → BitVec 32} {f1 f2 : S10240.Idx → F .f32} :
    iprop(Ins d L q sel keys tab ∗ Outs d L f0 f1 f2 ∗ Bufs d L ∗ Sems d L ∗ Owe d L O W)
      ⊢ Rest d L
          (cc0__sc_body L keysM (Memref.isWhole_whole _) tabM (Memref.isWhole_whole _) selM (Memref.isWhole_whole _)
            o0M (Memref.isWhole_whole _) o1M (Memref.isWhole_whole _) o2M (Memref.isWhole_whole _)
            ixM (Memref.isWhole_whole _) kyM (Memref.isWhole_whole _) ofM (Memref.isWhole_whole _) rwM (Memref.isWhole_whole _)
            cc0_scratch4 cc0_scoped0 cc0_scoped1 cc0_scoped2 cc0_scoped3 cc0_scoped4 cc0_scoped5 cc0_scoped6 cc0_scoped7)
          fun _ => iprop(Ins d L q sel keys tab ∗ Outs d L (keysOut keys sel) (rowsOut tab sel) (colsOut tab sel) ∗ Bufs d L ∗ Sems d L ∗ Owe d L O W) := by
  simp only [cc0__sc_body_eq_skeleton, cc0__sc_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel,
    Prog.lift, Prog.bind_op, Prog.bind_ret, Prog.pure_eq_ret, Prog.bind_assoc]
  unfold Ins Outs Bufs Sems
  iintro ⟨⟨Hsel, Hkeys, Htab⟩, ⟨Ho0, Ho1, Ho2⟩, ⟨⟨%fx, Hix⟩, ⟨%fk, Hky⟩, ⟨%fo, Hof⟩, ⟨%fr, Hrw⟩⟩, ⟨Hs0, Hs1, Hs2, Hs3, Hs4, Hs5, Hs6, Hs7, Hs8⟩, Howe⟩
  iapply (wp_copy d L hO (q := q) (Ss := Finset.univ) (fs := sel) (Sd := Finset.univ) (fd := fx) (Finset.subset_univ _) (Finset.subset_univ _)
    (View.dmaCredit_pos _ pos_S128)) $$ [Hsel Hix Hs1 Howe]
  · isplitl [Hsel]; · iexact Hsel
    isplitl [Hix]; · iexact Hix
    isplitl [Hs1]; · iexact Hs1
    iexact Howe
  iintro ⟨Hsel, Hix, Hs1, Howe⟩
  rw [own_copied (t := tl L) (k0_off1_eq L)]
  iapply (wp_gather d L hO (q := q) (fs := keys) (fo := ownSel (tl L) sel) (fd := fk) (SparseCore.sum_rowCredit_eq_dmaCredit _ _ (fun _ => rfl)) (by decide)
    (fun x => lt_trans (hsel _) (by decide))) $$ [Hkeys Hix Hky Hs0 Howe]
  · isplitl [Hkeys]; · iexact Hkeys
    isplitl [Hix]; · iexact Hix
    isplitl [Hky]; · iexact Hky
    isplitl [Hs0]; · iexact Hs0
    iexact Howe
  iintro ⟨Hkeys, Hix, Hky, Hs0, Howe⟩
  iapply (wp_keysOut d L hO hsel (k0_off1_eq L) (fun x => keys_gathered (F := F) (t := tl L) (keys := keys) rfl _ _ _ _ fk _ x)) $$ [Hky Ho0 Hs2 Howe]
  · isplitl [Hky]; · iexact Hky
    isplitl [Ho0]; · iexact Ho0
    isplitl [Hs2]; · iexact Hs2
    iexact Howe
  iintro ⟨Hky, Ho0, Hs2, Howe⟩
  ihave HO := (off_start d L (byRow (ownSel (tl L) sel)) fo) $$ Hof
  ihave HI := (ix_in d L _) $$ Hix
  ihave HR := (rows_start d L (fetched tab (byRow (ownSel (tl L) sel))) fr) $$ Hrw
  ihave H : iprop(Off d L (byRow (ownSel (tl L) sel)) 0 ∗ Ix d L (ownSel (tl L) sel)
    ∗ Ins d L q sel keys tab ∗ Outs d L (keysOut keys sel) f1 f2 ∗ (∃ f, kyM.view.loc (thr d L) ↦{fullShare} f)
    ∗ Rows d L (fetched tab (byRow (ownSel (tl L) sel))) 0 ∗ Sems d L ∗ Owe d L O W) $$ [Hsel Hkeys Htab Ho0 Ho1 Ho2 Hky HO HI HR Hs0 Hs1 Hs2 Hs3 Hs4 Hs5 Hs6 Hs7 Hs8 Howe]
  · unfold Ins Outs Sems
    iframe Hsel Hkeys Htab Ho0 Ho1 Ho2 HO HI HR Hs0 Hs1 Hs2 Hs3 Hs4 Hs5 Hs6 Hs7 Hs8 Howe
    iexists _; iexact Hky
  istop
  iterate 40
    refine wp_entry d L ?_ ?_ ?_ ?_ ?_ fun _ _ _ => ?_
    · decide
    · exact fun _ _ => rfl
    · rfl
    · rfl
    · exact fun _ => rfl
  iintro ⟨HO, HI, Hins, Houts, Hky, HR, Hsems, Howe⟩
  unfold Ins Outs Sems
  icases Hins with ⟨Hsel, Hkeys, Htab⟩
  icases Houts with ⟨Ho0, Ho1, Ho2⟩
  icases Hsems with ⟨Hs0, Hs1, Hs2, Hs3, Hs4, Hs5, Hs6, Hs7, Hs8⟩
  iapply (wp_rows d L hO (q := q) 0 (byRow_lt hsel (tl L)) (fun _ _ => rfl) rfl rfl rfl) $$ [Htab HO HR Hs0 Howe]
  · iframe Htab HO HR Hs0 Howe
  iintro ⟨Htab, HO, HR, Hs0, Howe⟩
  iapply (wp_rows d L hO (q := q) 1 (byRow_lt hsel (tl L)) (fun _ _ => rfl) rfl rfl rfl) $$ [Htab HO HR Hs0 Howe]
  · iframe Htab HO HR Hs0 Howe
  iintro ⟨Htab, HO, HR, Hs0, Howe⟩
  iapply (wp_rows d L hO (q := q) 2 (byRow_lt hsel (tl L)) (fun _ _ => rfl) rfl rfl rfl) $$ [Htab HO HR Hs0 Howe]
  · iframe Htab HO HR Hs0 Howe
  iintro ⟨Htab, HO, HR, Hs0, Howe⟩
  iapply (wp_rows d L hO (q := q) 3 (byRow_lt hsel (tl L)) (fun _ _ => rfl) rfl rfl rfl) $$ [Htab HO HR Hs0 Howe]
  · iframe Htab HO HR Hs0 Howe
  iintro ⟨Htab, HO, HR, Hs0, Howe⟩
  iapply (wp_rows d L hO (q := q) 4 (byRow_lt hsel (tl L)) (fun _ _ => rfl) rfl rfl rfl) $$ [Htab HO HR Hs0 Howe]
  · iframe Htab HO HR Hs0 Howe
  iintro ⟨Htab, HO, HR, Hs0, Howe⟩
  iapply (wp_rowsOut d L hO hsel (k0_off2_eq L)) $$ [HR Ho1 Hs3 Howe]
  · iframe HR Ho1 Hs3 Howe
  iintro ⟨HR, Ho1, Hs3, Howe⟩
  ihave HO := (off_again d L _ (byCol (ownSel (tl L) sel)) 40) $$ HO
  ihave HR := (rows_again d L _ (fetched tab (byCol (ownSel (tl L) sel))) 5) $$ HR
  ihave HC := (cols_start (tab := tab) (sel := sel) d L f2) $$ Ho2
  ihave H : iprop(Off d L (byCol (ownSel (tl L) sel)) 0 ∗ Ix d L (ownSel (tl L) sel)
    ∗ Ins d L q sel keys tab ∗ (o0M.view.loc (thr d L) ↦[blk 2048 128 (tl L)]{fullShare} keysOut keys sel)
    ∗ (o1M.view.loc (thr d L) ↦[blk 10240 640 (tl L)]{fullShare} rowsOut tab sel) ∗ Cols d L tab sel 0
    ∗ (∃ f, kyM.view.loc (thr d L) ↦{fullShare} f)
    ∗ Rows d L (fetched tab (byCol (ownSel (tl L) sel))) 0 ∗ Sems d L ∗ Owe d L O W) $$ [Hsel Hkeys Htab Ho0 Ho1 HC Hky HO HI HR Hs0 Hs1 Hs2 Hs3 Hs4 Hs5 Hs6 Hs7 Hs8 Howe]
  · unfold Ins Sems
    iframe Hsel Hkeys Htab Ho0 Ho1 HC Hky HO HI HR Hs0 Hs1 Hs2 Hs3 Hs4 Hs5 Hs6 Hs7 Hs8 Howe
  istop
  iterate 40
    refine wp_entryT d L ?_ ?_ ?_ ?_ ?_ fun _ _ => ?_
    · decide
    · exact fun _ _ => rfl
    · rfl
    · rfl
    · exact fun _ => rfl
  iintro ⟨HO, HI, Hins, Ho0, Ho1, HC, Hky, HR, Hsems, Howe⟩
  unfold Ins Sems
  icases Hins with ⟨Hsel, Hkeys, Htab⟩
  icases Hsems with ⟨Hs0, Hs1, Hs2, Hs3, Hs4, Hs5, Hs6, Hs7, Hs8⟩
  iapply (wp_rows d L hO (q := q) 0 (byCol_lt hsel (tl L)) (fun _ _ => rfl) rfl rfl rfl) $$ [Htab HO HR Hs0 Howe]
  · iframe Htab HO HR Hs0 Howe
  iintro ⟨Htab, HO, HR, Hs0, Howe⟩
  iapply (wp_colsOut d L hO hsel 0 (k0_off3_eq L 0) rfl) $$ [HR HC Hs4 Howe]
  · iframe HR HC Hs4 Howe
  iintro ⟨HR, HC, Hs4, Howe⟩
  iapply (wp_rows d L hO (q := q) 1 (byCol_lt hsel (tl L)) (fun _ _ => rfl) rfl rfl rfl) $$ [Htab HO HR Hs0 Howe]
  · iframe Htab HO HR Hs0 Howe
  iintro ⟨Htab, HO, HR, Hs0, Howe⟩
  iapply (wp_colsOut d L hO hsel 1 (k0_off3_eq L 1) rfl) $$ [HR HC Hs5 Howe]
  · iframe HR HC Hs5 Howe
  iintro ⟨HR, HC, Hs5, Howe⟩
  iapply (wp_rows d L hO (q := q) 2 (byCol_lt hsel (tl L)) (fun _ _ => rfl) rfl rfl rfl) $$ [Htab HO HR Hs0 Howe]
  · iframe Htab HO HR Hs0 Howe
  iintro ⟨Htab, HO, HR, Hs0, Howe⟩
  iapply (wp_colsOut d L hO hsel 2 (k0_off3_eq L 2) rfl) $$ [HR HC Hs6 Howe]
  · iframe HR HC Hs6 Howe
  iintro ⟨HR, HC, Hs6, Howe⟩
  iapply (wp_rows d L hO (q := q) 3 (byCol_lt hsel (tl L)) (fun _ _ => rfl) rfl rfl rfl) $$ [Htab HO HR Hs0 Howe]
  · iframe Htab HO HR Hs0 Howe
  iintro ⟨Htab, HO, HR, Hs0, Howe⟩
  iapply (wp_colsOut d L hO hsel 3 (k0_off3_eq L 3) rfl) $$ [HR HC Hs7 Howe]
  · iframe HR HC Hs7 Howe
  iintro ⟨HR, HC, Hs7, Howe⟩
  iapply (wp_rows d L hO (q := q) 4 (byCol_lt hsel (tl L)) (fun _ _ => rfl) rfl rfl rfl) $$ [Htab HO HR Hs0 Howe]
  · iframe Htab HO HR Hs0 Howe
  iintro ⟨Htab, HO, HR, Hs0, Howe⟩
  iapply (wp_colsOut d L hO hsel 4 (k0_off3_eq L 4) rfl) $$ [HR HC Hs8 Howe]
  · iframe HR HC Hs8 Howe
  iintro ⟨HR, HC, Hs8, Howe⟩
  ihave Ho2 := (cols_done (tab := tab) (sel := sel) (c := (4 : Fin 5).val + 1) d L rfl) $$ HC
  ihave HI := (ix_out d L _) $$ HI
  ihave Hof := (off_out d L _ _) $$ HO
  ihave Hrw := (rows_out_any d L _ _) $$ HR
  iapply (rest_ret d L)
  iframe Hsel Hkeys Htab Ho0 Ho1 Ho2 Hky HI Hof Hrw Hs0 Hs1 Hs2 Hs3 Hs4 Hs5 Hs6 Hs7 Hs8 Howe

end Cert.GatherIdeal.Run

end
-- ==== Proof.GatherTask.lean ====
/-
  The gather's task as the launch theorem asks for it: what a tile owns of its own — four scratch buffers and nine
  counters — and the task's run (GatherTile.lean) over it.
-/
module

public import proofs.«01_k».proof.Proof.GatherTile

@[expose] public section

noncomputable section

namespace Cert.GatherIdeal.Run

open Cert.GatherIdeal Cert.GatherIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay ownBufs ownSems0 ownCells ownRefs mem_ownCells mem_ownRefs)

variable {F : FTy → Type} [FloatOps F]
local notation "𝕄" => MT nD τ sig (HIx 1) (Elt F) ℕ UU ℕ

/-- A family over a set that contains the values of an injective list: those values' members, and the rest. -/
theorem bigSep_listed {I : Type} [DecidableEq I] {n : ℕ} {s : Finset I} (e : Fin n ↪ I) (sub : ∀ j, e j ∈ s) (Φ : I → sProp 𝕄) :
    bigSep s Φ = iprop((bigSep Finset.univ fun j => Φ (e j)) ∗ bigSep (s \ Finset.univ.map e) Φ) := by
  have h : Finset.univ.map e ⊆ s := fun b hb => by
    obtain ⟨j, -, rfl⟩ := Finset.mem_map.mp hb
    exact sub j
  rw [SparseCore.bigSep_sdiff_split' h, bigSep_map]

theorem semOf_injective (d : Dev nD) (L : grid0.Coords) : Function.Injective (semOf d L) := fun a b e =>
  SemLoc.dma.inj (Prod.mk.inj e).2

/-- The tile's nine counters are among those it owns at the start. -/
theorem semOf_mem (d : Dev nD) (L : grid0.Coords) (j : Fin 9) : semOf d L j ∈ ownCells (thr d L) :=
  mem_ownCells.mpr ⟨rfl, (show ∀ j : Fin 9, (SemLoc.dma j : SemLoc sig).isScoped .scVector = true by decide) j⟩

theorem ownSems0_tile (d : Dev nD) (L : grid0.Coords) :
    (ownSems0 (thr d L) : sProp 𝕄)
      = iprop(Sems d L ∗ bigSep (ownCells (thr d L) \ Finset.univ.map ⟨semOf d L, semOf_injective d L⟩) fun g => semVal g 0) := by
  unfold SparseCore.Cfg.ownSems0 Sems
  rw [bigSep_listed ⟨semOf d L, semOf_injective d L⟩ (semOf_mem d L),
    bigSep_univ_eq_bigSepL [0, 1, 2, 3, 4, 5, 6, 7, 8] (by decide) (by decide)]
  rfl

/-- The tile's scratch buffers as the device lists them. -/
def scratch (L : grid0.Coords) : Fin 4 → DevRef τ sig := fun i =>
  (Proc.scVector (cV L) (jV L)).devRef ((![cc0_scratch0, cc0_scratch1, cc0_scratch2, cc0_scratch3] : Fin 4 → Ref sig .scVector) i)

theorem scratch_injective (L : grid0.Coords) : Function.Injective (scratch L) := fun i j e =>
  (show Function.Injective (![cc0_scratch0, cc0_scratch1, cc0_scratch2, cc0_scratch3] : Fin 4 → Ref sig .scVector) by decide) (Proc.devRef_injective _ e)

theorem scratch_mem (d : Dev nD) (L : grid0.Coords) (i : Fin 4) : scratch L i ∈ ownRefs (thr d L).2 := by
  fin_cases i <;> exact SparseCore.Cfg.mem_ownRefs_of_owner (p := Proc.scVector (cV L) (jV L)) rfl

theorem ownBufs_tile (d : Dev nD) (L : grid0.Coords) :
    (ownBufs (thr d L) : sProp 𝕄)
      = iprop(Bufs d L ∗ bigSep (ownRefs (thr d L).2 \ Finset.univ.map ⟨scratch L, scratch_injective L⟩) fun b => iprop(∃ f, ((d, b) : Loc nD τ sig) ↦{fullShare} f)) := by
  unfold SparseCore.Cfg.ownBufs Bufs
  rw [bigSep_listed ⟨scratch L, scratch_injective L⟩ (scratch_mem d L),
    bigSep_univ_eq_bigSepL [0, 1, 2, 3] (by decide) (by decide)]
  rfl

/-! ## A tile's part of the six arrays -/

abbrev jL (L : grid0.Coords) : Fin 16 := Fin.cast (show grid0.bound 1 = 16 from rfl) (L 1)

/-- Share `i` of sixteen of an array the tiles only read. -/
def shr (i : Fin 16) : PosShare TreeShare := Idealize.ShloMosaic.pieceOf fullShare 16 (by decide) i

/-- Tile `i`'s part: a share of the indices, of the padded keys and of the table; its block of each result. -/
abbrev part (d : Dev nD) (i : Fin 16) (sel : S2048.Idx → BitVec 32) (keys : S100352.Idx → BitVec 32) (tab : S500000.Idx → F .f32)
    (f0 : S2048.Idx → BitVec 32) (f1 f2 : S10240.Idx → F .f32) : sProp 𝕄 :=
  iprop((selLoc d ↦{shr i} sel) ∗ (keysLoc d ↦{shr i} keys) ∗ (tabLoc d ↦{shr i} tab)
    ∗ (o0Loc d ↦[blk 2048 128 i.val]{fullShare} f0) ∗ (o1Loc d ↦[blk 10240 640 i.val]{fullShare} f1) ∗ (o2Loc d ↦[colBlk i.val]{fullShare} f2))

theorem part_open (d : Dev nD) (L : grid0.Coords) {sel : S2048.Idx → BitVec 32} {keys : S100352.Idx → BitVec 32} {tab : S500000.Idx → F .f32}
    {f0 : S2048.Idx → BitVec 32} {f1 f2 : S10240.Idx → F .f32} :
    part d (jL L) sel keys tab f0 f1 f2 ⊢ (iprop(Ins d L (shr (jL L)) sel keys tab ∗ Outs d L f0 f1 f2) : sProp 𝕄) := by
  unfold Ins Outs
  iintro ⟨Hs, Hk, Ht, H0, H1, H2⟩
  isplitl [Hs Hk Ht]
  · isplitl [Hs]; · iexact Hs
    isplitl [Hk]; · iexact Hk
    iexact Ht
  isplitl [H0]; · iexact H0
  isplitl [H1]; · iexact H1
  iexact H2

theorem part_close (d : Dev nD) (L : grid0.Coords) {sel : S2048.Idx → BitVec 32} {keys : S100352.Idx → BitVec 32} {tab : S500000.Idx → F .f32}
    {f0 : S2048.Idx → BitVec 32} {f1 f2 : S10240.Idx → F .f32} :
    (iprop(Ins d L (shr (jL L)) sel keys tab ∗ Outs d L f0 f1 f2) : sProp 𝕄) ⊢ part d (jL L) sel keys tab f0 f1 f2 := by
  unfold Ins Outs
  iintro ⟨⟨Hs, Hk, Ht⟩, H0, H1, H2⟩
  isplitl [Hs]; · iexact Hs
  isplitl [Hk]; · iexact Hk
  isplitl [Ht]; · iexact Ht
  isplitl [H0]; · iexact H0
  isplitl [H1]; · iexact H1
  iexact H2

/-- The tile's task over what the launch gives it: its part of the arrays comes back with the results' blocks written,
    its own buffers and counters as they were. -/
theorem tile_body (d : Dev nD) (L : grid0.Coords) (hF : (K (F := F)).Facts) {sel : S2048.Idx → BitVec 32} (hsel : ∀ y, (sel y).toNat < 100000)
    {keys : S100352.Idx → BitVec 32} {tab : S500000.Idx → F .f32} {f0 : S2048.Idx → BitVec 32} {f1 f2 : S10240.Idx → F .f32}
    (O : CellTallies nD τ sig (HIx 1)) (W : Waits sig (HIx 1)) (hO : ∀ g, O g none = 0) :
    (iprop(levAts (K (F := F)).L (K (F := F)).lev ∗ emp ∗ part d (jL L) sel keys tab f0 f1 f2
        ∗ scopedBufs (thr d L) ∗ scopedSems0 (thr d L) ∗ owes (thr d L) O W) : sProp 𝕄)
      ⊢ Rest d L
          (cc0__sc_body L keysM (Memref.isWhole_whole _) tabM (Memref.isWhole_whole _) selM (Memref.isWhole_whole _)
            o0M (Memref.isWhole_whole _) o1M (Memref.isWhole_whole _) o2M (Memref.isWhole_whole _)
            ixM (Memref.isWhole_whole _) kyM (Memref.isWhole_whole _) ofM (Memref.isWhole_whole _) rwM (Memref.isWhole_whole _)
            cc0_scratch4 cc0_scoped0 cc0_scoped1 cc0_scoped2 cc0_scoped3 cc0_scoped4 cc0_scoped5 cc0_scoped6 cc0_scoped7)
          fun _ => iprop(part d (jL L) sel keys tab (keysOut keys sel) (rowsOut tab sel) (colsOut tab sel)
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_tile, ownBufs_tile]
  iintro ⟨Hl, -, Hpart, ⟨Hbufs, Hbrest⟩, ⟨Hsems, Hsrest⟩, How⟩
  ihave HIO := (part_open d L) $$ Hpart
  icases HIO with ⟨Hins, Houts⟩
  ihave Hrun := (tile_run d L hO hsel (W := W)) $$ [Hins Houts Hbufs Hsems Hl How]
  · isplitl [Hins]; · iexact Hins
    isplitl [Houts]; · iexact Houts
    isplitl [Hbufs]; · iexact Hbufs
    isplitl [Hsems]; · iexact Hsems
    unfold Owe
    isplitl [Hl]; · iexact Hl
    iexists W
    isplitr
    · ipureintro; exact fun p hp => Or.inl hp
    iexact How
  iapply (wp_wand frame _ _) $$ Hrun
  iintro %_ ⟨Hins, Houts, Hbufs, Hsems, Howe⟩
  unfold Owe
  icases Howe with ⟨-, Howe⟩
  isplitl [Hins Houts]
  · iapply (part_close d L) $$ [Hins Houts]
    isplitl [Hins]; · iexact Hins
    iexact Houts
  isplitl [Hbufs Hbrest]
  · isplitl [Hbufs]; · iexact Hbufs
    iexact Hbrest
  isplitl [Hsems Hsrest]
  · isplitl [Hsems]; · iexact Hsems
    iexact Hsrest
  iexact Howe

end Cert.GatherIdeal.Run

end
-- ==== Proof.GatherLaunch.lean ====
/-
  The gather's launch and run: the host's five operations, the one call over the six arrays its tiles share out, and
  what every unscoped array of the device holds at the end.
-/
module

public import proofs.«01_k».proof.Proof.GatherTask

@[expose] public section

noncomputable section

namespace Cert.GatherIdeal.Run

open Cert.GatherIdeal Cert.GatherIdeal.Gen

open Idealize.ShloMosaic Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.SparseCore.Cfg (HIx Pay)

variable {F : FTy → Type} [FloatOps F]
local notation "𝕄" => MT nD τ sig (HIx 1) (Elt F) ℕ UU ℕ

/-! ## The host's operations and the arrays the call starts from -/

/-- The host's operations before the call: the padded keys and the table of coordinates. -/
def hostOps : List (HloOp τ sig (Elt F)) := [
    StableHlo.nullary main_c (constantI S_ 32 4294967295#32),
    StableHlo.unary main_c main_v0 (broadcastInDim S352 ![] bcast_S_S352 : (⟨S_, .i32⟩ : BufTy).Contents (Elt F) → (⟨S352, .i32⟩ : BufTy).Contents (Elt F)),
    StableHlo.binary main_arg0 main_v0 main_v1 ((fun a b => concatenate S100352 0 [⟨S100000, a⟩, ⟨S352, b⟩] concatenates_S100000_S352_S100352_d0) : (⟨S100000, .i32⟩ : BufTy).Contents (Elt F) → (⟨S352, .i32⟩ : BufTy).Contents (Elt F) → (⟨S100352, .i32⟩ : BufTy).Contents (Elt F)),
    StableHlo.nary ![main_arg1, main_arg2, main_arg3, main_arg4, main_arg5] main_v2 (fun u => (concatenate S100000x5 0 [⟨S20000x5, (u 0 : (⟨S20000x5, .f32⟩ : BufTy).Contents (Elt F))⟩, ⟨S20000x5, (u 1 : (⟨S20000x5, .f32⟩ : BufTy).Contents (Elt F))⟩, ⟨S20000x5, (u 2 : (⟨S20000x5, .f32⟩ : BufTy).Contents (Elt F))⟩, ⟨S20000x5, (u 3 : (⟨S20000x5, .f32⟩ : BufTy).Contents (Elt F))⟩, ⟨S20000x5, (u 4 : (⟨S20000x5, .f32⟩ : BufTy).Contents (Elt F))⟩] concatenates_S20000x5_S20000x5_S20000x5_S20000x5_S20000x5_S100000x5_d0 : (⟨S100000x5, .f32⟩ : BufTy).Contents (Elt F))),
    StableHlo.reshape main_v2 main_v3 (rfl : (.f32 : EltTy) = .f32) shapeCasts_S100000x5_S500000]

theorem main_eq (d : Dev nD) : main (F := F) d
    = (StableHlo.seq hostOps >>= fun _ => (sc (F := F)).run d 0 >>= fun _ => pure ⟨⟩) := rfl

variable (m : (ℓ : Loc nD τ sig) → Buf (Elt F) ℓ) (ρ : Dev nD → PrngReg)

/-- The device's arrays when the call starts. -/
def V5 (d : Dev nD) : Valuation τ sig (Elt F) := StableHlo.after hostOps fun b => m (d, b)

abbrev selA (d : Dev nD) : S2048.Idx → BitVec 32 := V5 m d (main_arg6 : DevRef τ sig)
abbrev keysA (d : Dev nD) : S100352.Idx → BitVec 32 := V5 m d (main_v1 : DevRef τ sig)
abbrev tabA (d : Dev nD) : S500000.Idx → F .f32 := V5 m d (main_v3 : DevRef τ sig)
abbrev old0 (d : Dev nD) : S2048.Idx → BitVec 32 := V5 m d (main_v4_0 : DevRef τ sig)
abbrev old1 (d : Dev nD) : S10240.Idx → F .f32 := V5 m d (main_v4_1 : DevRef τ sig)
abbrev old2 (d : Dev nD) : S10240.Idx → F .f32 := V5 m d (main_v4_2 : DevRef τ sig)
abbrev new0 (d : Dev nD) : S2048.Idx → BitVec 32 := keysOut (keysA m d) (selA m d)
abbrev new1 (d : Dev nD) : S10240.Idx → F .f32 := rowsOut (tabA m d) (selA m d)
abbrev new2 (d : Dev nD) : S10240.Idx → F .f32 := colsOut (tabA m d) (selA m d)

/-- The device's arrays at the end: the three results written. -/
def V6 (d : Dev nD) : Valuation τ sig (Elt F) :=
  Function.update (Function.update (Function.update (V5 m d) (main_v4_0 : DevRef τ sig) (new0 m d)) (main_v4_1 : DevRef τ sig) (new1 m d))
    (main_v4_2 : DevRef τ sig) (new2 m d)

/-- What the proof asks of the launch memory: every selected index names a row of the table. -/
def PreOK : Prop := ∀ (d : Dev nD) (y : S2048.Idx), (selA m d y).toNat < 100000

/-! ## The arrays shared out among the tiles -/

theorem pts_blocks {ℓ : Loc nD τ sig} {q : PosShare TreeShare} {f : Buf (Elt F) ℓ} (B : Fin 16 → Finset (Idx ℓ)) (key : Idx ℓ → Fin 16)
    (hB : ∀ i y, y ∈ B i ↔ key y = i) : (ℓ ↦{q} f : sProp 𝕄) = bigSep Finset.univ fun i : Fin 16 => ℓ ↦[B i]{q} f := by
  have hc : (Finset.univ : Finset (Fin 16)).biUnion B = Finset.univ :=
    Finset.eq_univ_iff_forall.mpr fun y => Finset.mem_biUnion.mpr ⟨key y, Finset.mem_univ _, (hB _ _).mpr rfl⟩
  rw [← pointsTo_biUnion Finset.univ B fun i _ j _ hij => Finset.disjoint_left.mpr fun y hi hj =>
    hij (((hB _ _).mp hi).symm.trans ((hB _ _).mp hj)), hc]

theorem pts_shares {ℓ : Loc nD τ sig} {f : Buf (Elt F) ℓ} :
    (ℓ ↦{fullShare} f : sProp 𝕄) = bigSep Finset.univ fun i : Fin 16 => ℓ ↦{shr i} f :=
  pointsTo_piecesOf Finset.univ f (by decide) fullShare

/-- The six arrays of the call, whole. -/
abbrev whole (d : Dev nD) (sel : S2048.Idx → BitVec 32) (keys : S100352.Idx → BitVec 32) (tab : S500000.Idx → F .f32)
    (f0 : S2048.Idx → BitVec 32) (f1 f2 : S10240.Idx → F .f32) : sProp 𝕄 :=
  iprop((selLoc d ↦{fullShare} sel) ∗ (keysLoc d ↦{fullShare} keys) ∗ (tabLoc d ↦{fullShare} tab)
    ∗ (o0Loc d ↦{fullShare} f0) ∗ (o1Loc d ↦{fullShare} f1) ∗ (o2Loc d ↦{fullShare} f2))

/-- Whole they are the sixteen tiles' parts. -/
theorem whole_eq (d : Dev nD) (sel : S2048.Idx → BitVec 32) (keys : S100352.Idx → BitVec 32) (tab : S500000.Idx → F .f32)
    (f0 : S2048.Idx → BitVec 32) (f1 f2 : S10240.Idx → F .f32) :
    (whole d sel keys tab f0 f1 f2 : sProp 𝕄) = bigSep Finset.univ fun i : Fin 16 => part d i sel keys tab f0 f1 f2 := by
  have h0 := pts_blocks (F := F) (ℓ := o0Loc d) (q := fullShare) (f := f0) (fun i => blk 2048 128 i.val)
    (fun y => ⟨(y 0).val / 128, by have := (y 0).isLt; change _ < 2048 at this; omega⟩) (fun i y => mem_blk.trans (by rw [Fin.ext_iff]))
  have h1 := pts_blocks (F := F) (ℓ := o1Loc d) (q := fullShare) (f := f1) (fun i => blk 10240 640 i.val)
    (fun y => ⟨(y 0).val / 640, by have := (y 0).isLt; change _ < 10240 at this; omega⟩) (fun i y => mem_blk.trans (by rw [Fin.ext_iff]))
  have h2 := pts_blocks (F := F) (ℓ := o2Loc d) (q := fullShare) (f := f2) (fun i => colBlk i.val)
    (fun y => ⟨(y 0).val % 2048 / 128, by omega⟩) (fun i y => mem_colBlk.trans (by rw [Fin.ext_iff]))
  unfold whole part
  rw [bigSep_sep', bigSep_sep', bigSep_sep', bigSep_sep', bigSep_sep', ← h0, ← h1, ← h2, ← pts_shares, ← pts_shares, ← pts_shares]

/-! ## What the handshakes carry -/

/-- The call takes the six arrays whole and brings them back with the results written; each tile its part of them. -/
def P : (K (F := F)).Pay (nD := nD) (Val := Elt F) (Name := ℕ) (U := UU) where
  st := fun q d _ => match q with | 0 => whole d (selA m d) (keysA m d) (tabA m d) (old0 m d) (old1 m d) (old2 m d)
  dn := fun q d _ => match q with | 0 => whole d (selA m d) (keysA m d) (tabA m d) (new0 m d) (new1 m d) (new2 m d)
  go := fun q d _ i => match q with
    | 0 => part d (Fin.cast nSub_zero i) (selA m d) (keysA m d) (tabA m d) (old0 m d) (old1 m d) (old2 m d)
  td := fun q d _ i => match q with
    | 0 => part d (Fin.cast nSub_zero i) (selA m d) (keysA m d) (tabA m d) (new0 m d) (new1 m d) (new2 m d)
  x := fun _ _ => iprop(emp)

instance P_storable : (P (F := F) m).IsStorable where
  st q d _ := match q with
    | 0 => (inferInstance : BI.Storable (upEmb : UEmb _ 𝕄) (whole d (selA m d) (keysA m d) (tabA m d) (old0 m d) (old1 m d) (old2 m d)))
  dn q d _ := match q with
    | 0 => (inferInstance : BI.Storable (upEmb : UEmb _ 𝕄) (whole d (selA m d) (keysA m d) (tabA m d) (new0 m d) (new1 m d) (new2 m d)))
  go q d _ i := match q with
    | 0 => (inferInstance : BI.Storable (upEmb : UEmb _ 𝕄)
      (part d (Fin.cast nSub_zero i) (selA m d) (keysA m d) (tabA m d) (old0 m d) (old1 m d) (old2 m d)))
  td q d _ i := match q with
    | 0 => (inferInstance : BI.Storable (upEmb : UEmb _ 𝕄)
      (part d (Fin.cast nSub_zero i) (selA m d) (keysA m d) (tabA m d) (new0 m d) (new1 m d) (new2 m d)))

/-! ## The tiles' obligation -/

def coordsV (c : Fin (grid0.bound 0)) (s : Fin (grid0.bound 1)) : grid0.Coords
  | 0 => c
  | 1 => s
  | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s =>
      cc0__sc_body (coordsV c s) keysM (Memref.isWhole_whole _) tabM (Memref.isWhole_whole _) selM (Memref.isWhole_whole _)
            o0M (Memref.isWhole_whole _) o1M (Memref.isWhole_whole _) o2M (Memref.isWhole_whole _)
            ixM (Memref.isWhole_whole _) kyM (Memref.isWhole_whole _) ofM (Memref.isWhole_whole _) rwM (Memref.isWhole_whole _)
            cc0_scratch4 cc0_scoped0 cc0_scoped1 cc0_scoped2 cc0_scoped3 cc0_scoped4 cc0_scoped5 cc0_scoped6 cc0_scoped7) ⟨⟩ c s := rfl

theorem obl_post {A B C : sProp 𝕄} {thr : Thread nD τ} {O : CellTallies nD τ sig (HIx 1)} {W : Waits sig (HIx 1)} {q : HIx 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = q⌝ ∗ owes thr O W') := by
  iintro ⟨HA, HB, HC, %W', %hW, HO⟩
  isplitl [HA]; · iexact HA
  isplitl [HB]; · iexact HB
  isplitl [HC]; · iexact HC
  iexists W'
  isplitr
  · ipureintro; exact fun p hp => (hW p hp).imp_right Or.inl
  iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body d (coordsV ⟨_, hci.1⟩ ⟨_, hci.2⟩) hF (hpre d) O W hO).trans (wp_mono frame _ _ fun _ => obl_post)

/-! ## The call's own split and the launch's ghost state -/

theorem bigSep_tasks (Φ : Fin 16 → sProp 𝕄) : (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show whole d (selA m d) (keysA m d) (tabA m d) (old0 m d) (old1 m d) (old2 m d) ⊢ |={Set.univ}=> iprop(
      (bigSep Finset.univ fun i : Fin ((K (F := F)).nSub 0) =>
        part d (Fin.cast nSub_zero i) (selA m d) (keysA m d) (tabA m d) (old0 m d) (old1 m d) (old2 m d))
      ∗ ((bigSep Finset.univ fun i : Fin ((K (F := F)).nSub 0) =>
          part d (Fin.cast nSub_zero i) (selA m d) (keysA m d) (tabA m d) (new0 m d) (new1 m d) (new2 m d))
          -∗ whole d (selA m d) (keysA m d) (tabA m d) (new0 m d) (new1 m d) (new2 m d)))
  rw [bigSep_tasks (F := F) (fun i => part d i (selA m d) (keysA m d) (tabA m d) (old0 m d) (old1 m d) (old2 m d)),
    bigSep_tasks (F := F) (fun i => part d i (selA m d) (keysA m d) (tabA m d) (new0 m d) (new1 m d) (new2 m d)), whole_eq, whole_eq]
  iintro H; imodintro
  isplitl [H]; · iexact H
  iintro H
  iexact H

def u₀ : UU := (initOf (K (F := F)).hsCells (K (F := F)).hsToks, 1)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## @main on the TensorCore -/

/-- The six arrays of the call, as the device lists them. -/
def sixRefs : Fin 6 → DevRef τ sig := fun i =>
  Proc.devRef .tc ((![main_arg6, main_v1, main_v3, main_v4_0, main_v4_1, main_v4_2] : Fin 6 → Ref sig .tc) i)

theorem sixRefs_injective : Function.Injective sixRefs := fun i j e =>
  (show Function.Injective (![main_arg6, main_v1, main_v3, main_v4_0, main_v4_1, main_v4_2] : Fin 6 → Ref sig .tc) by decide)
    (Proc.devRef_injective _ e)

theorem sixRefs_mem (i : Fin 6) : sixRefs i ∈ Pipeline.ucRefs τ sig :=
  Finset.mem_filter.mpr ⟨StableHlo.devRef_mem_tcRefs _,
    (show ∀ i : Fin 6, ¬ (Proc.devRef (τ := τ) .tc ((![main_arg6, main_v1, main_v3, main_v4_0, main_v4_1, main_v4_2] : Fin 6 → Ref sig .tc) i)).isScoped by decide) i⟩

abbrev others : Finset (DevRef τ sig) := Pipeline.ucRefs τ sig \ Finset.univ.map ⟨sixRefs, sixRefs_injective⟩

/-- The device's unscoped arrays are the call's six and the others. -/
theorem held_split_six (d : Dev nD) (W : Valuation τ sig (Elt F)) :
    (held (SparseCore.T d) (Pipeline.ucRefs τ sig) W : sProp 𝕄)
      = iprop(whole d (W (main_arg6 : DevRef τ sig)) (W (main_v1 : DevRef τ sig)) (W (main_v3 : DevRef τ sig)) (W (main_v4_0 : DevRef τ sig))
          (W (main_v4_1 : DevRef τ sig)) (W (main_v4_2 : DevRef τ sig)) ∗ held (SparseCore.T d) others W) := by
  unfold held
  rw [bigSep_listed ⟨sixRefs, sixRefs_injective⟩ sixRefs_mem, bigSep_univ_eq_bigSepL [0, 1, 2, 3, 4, 5] (by decide) (by decide)]
  rfl

theorem V6_of_ne (d : Dev nD) {b : DevRef τ sig} (h0 : b ≠ main_v4_0) (h1 : b ≠ main_v4_1) (h2 : b ≠ main_v4_2) : V6 m d b = V5 m d b := by
  unfold V6
  rw [Function.update_of_ne h2, Function.update_of_ne h1, Function.update_of_ne h0]
theorem V6_new0 (d : Dev nD) : V6 m d (main_v4_0 : DevRef τ sig) = new0 m d := by
  unfold V6
  rw [Function.update_of_ne (by decide), Function.update_of_ne (by decide), Function.update_self]
theorem V6_new1 (d : Dev nD) : V6 m d (main_v4_1 : DevRef τ sig) = new1 m d := by
  unfold V6
  rw [Function.update_of_ne (by decide), Function.update_self]
theorem V6_new2 (d : Dev nD) : V6 m d (main_v4_2 : DevRef τ sig) = new2 m d := by
  unfold V6
  rw [Function.update_self]

theorem held_others (d : Dev nD) : (held (SparseCore.T d) others (V6 m d) : sProp 𝕄) = held (SparseCore.T d) others (V5 m d) :=
  StableHlo.held_congr _ fun b hb => by
    have hn (i : Fin 6) : b ≠ sixRefs i := fun e => (Finset.mem_sdiff.mp hb).2 (Finset.mem_map.mpr ⟨i, Finset.mem_univ _, e.symm⟩)
    exact V6_of_ne m d (hn 3) (hn 4) (hn 5)

theorem st0_eq (d : Dev nD) : (bigSep Finset.univ fun c : Fin ((K (F := F)).nCore 0) => (P m).st 0 d c)
    = whole d (selA m d) (keysA m d) (tabA m d) (old0 m d) (old1 m d) (old2 m d) := bigSep_univ_of_subsingleton (0 : Fin 1)
theorem dn0_eq (d : Dev nD) : (bigSep Finset.univ fun c : Fin ((K (F := F)).nCore 0) => (P m).dn 0 d c)
    = whole d (selA m d) (keysA m d) (tabA m d) (new0 m d) (new1 m d) (new2 m d) := bigSep_univ_of_subsingleton (0 : Fin 1)

abbrev FIN (d : Dev nD) : sProp 𝕄 := held (SparseCore.T d) (Pipeline.ucRefs τ sig) (V6 m d)

theorem fin_of (d : Dev nD) : (iprop(whole d (selA m d) (keysA m d) (tabA m d) (new0 m d) (new1 m d) (new2 m d)
    ∗ held (SparseCore.T d) others (V5 m d)) : sProp 𝕄) ⊢ FIN m d := by
  unfold FIN
  rw [held_split_six, held_others, V6_new0, V6_new1, V6_new2, V6_of_ne m d (b := main_arg6) (by decide) (by decide) (by decide),
    V6_of_ne m d (b := main_v1) (by decide) (by decide) (by decide), V6_of_ne m d (b := main_v3) (by decide) (by decide) (by decide)]

theorem hostOps_sub : ∀ op ∈ hostOps (F := F), op.bufs ⊆ Pipeline.ucRefs τ sig := by
  have h : (hostOps (F := F)).Forall fun op => op.bufs ⊆ StableHlo.tcRefs τ sig := by
    unfold hostOps
    simp only [List.forall_cons, List.Forall, StableHlo.nullary_bufs_sub, StableHlo.unary_bufs_sub, StableHlo.binary_bufs_sub,
      StableHlo.nary_bufs_sub, StableHlo.reshape_bufs_sub, and_self]
  exact fun op ho => Pipeline.sub_ucRefs op (List.forall_iff_forall_mem.mp h op ho)

theorem hostOps_fresh : ∀ op ∈ hostOps (F := F), op.fresh = ∅ := by
  have h : (hostOps (F := F)).Forall fun op => op.fresh = ∅ := by
    unfold hostOps
    exact ⟨rfl, rfl, rfl, rfl, rfl⟩
  exact fun op ho => List.forall_iff_forall_mem.mp h op ho

/-- @main: the host's operations, then the call from the six arrays; every unscoped array kept at its last contents. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (fun b => m (d, b))
    from Pipeline.unscopedBufs_held d fun b => m (d, b), main_eq]
  iintro ⟨#Hctx, Hst, ⟨Hb, Hheld, Hts, -⟩, -⟩
  iapply (StableHlo.wp_seq 𝒱 none Set.univ d (Pipeline.ucRefs τ sig) _ hostOps hostOps_sub hostOps_fresh (fun b => m (d, b))) $$ [Hb Hheld]
  · isplitl [Hb] <;> iassumption
  iintro ⟨Hb, Hheld⟩
  ihave Hh := (show (held (d.tc : Thread nD τ) (Pipeline.ucRefs τ sig) (StableHlo.after hostOps fun b => m (d, b)) : sProp 𝕄) ⊢ _
    from Entails.of_eq (held_split_six d (V5 m d))) $$ Hheld
  icases Hh with ⟨Hsix, Hrest⟩
  simp only [wp_bind, wp_pure]
  iapply ((K (F := F)).wp_run (D (F := F)) 𝒱 (EH := EH) (P := P m) κ d 0) $$ [Hst Hsix Hrest Hb Hts]
  isplitr; · iexact Hctx
  isplitl [Hst]; · iexact Hst
  isplitl [Hsix]
  · rw [st0_eq]; iexact Hsix
  iintro ⟨Hst, Hdn⟩
  ihave Hdn' := (Entails.of_eq (dn0_eq m d)) $$ Hdn
  imodintro
  isplitl [Hst]; · iexact Hst
  isplitr [Hb Hts]
  · iapply (fin_of m d) $$ [Hdn' Hrest]
    isplitl [Hdn'] <;> iassumption
  isplitl [Hb] <;> iassumption

def fq (d : Dev nD) (s' : Phys nD τ sig (Elt F)) : Prop := ∀ b ∈ Pipeline.ucRefs τ sig, s'.mem.mem (d, b) = V6 m d b

theorem hfin (d : Dev nD) (s' : Phys nD τ sig (Elt F)) : iprop(FIN m d ∗ SI s') ⊢ (⌜fq m d s'⌝ : sProp 𝕄) :=
  BI.sep_comm.trans (SI_pointsTo_bufs_agree (st := s') (qs := fun _ => fullShare) (F := V6 m d) (Pipeline.ucRefs τ sig))

/-! ## The program's run -/

/-- Every unscoped array at its last contents, every semaphore at zero. -/
def QC : PUnit × MemSt nD τ sig (Elt F) → Prop := fun r => (∀ d : Dev nD, ∀ b ∈ Pipeline.ucRefs τ sig, r.2.mem (d, b) = V6 m d b) ∧ r.2.sem = fun _ => 0

theorem run_main [∀ e, Nonempty (Elt F e)] (hpre : PreOK m) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.GatherIdeal.Run

end
-- ==== Proof.GatherRef.lean ====
/-
  The gather's reference, entry by entry: of indices in range it reads the keys and the rows they name, and its three
  results are the kernel's functions of the padded keys and the flat table.
-/
module

public import proofs.«01_k».proof.Proof.GatherSetup
public import proofs.«01_k».proof.Proof.Gen.GatherReferenceIdeal.Run
public import proofs.«01_k».proof.Proof.Gen.Pre_indices_in_range
public import Idealize.ShloMosaic.Lib.Routing.Ops
public import Idealize.ShloMosaic.Lib.Routing.OpsSet
public import Idealize.ShloMosaic.Lib.Pointwise
public import Idealize.ShloMosaic.Lib.WordCmp
public import Idealize.ShloMosaic.Lib.ReduceAll
public import Idealize.ShloMosaic.Lib.ValueLayout

@[expose] public section

set_option maxRecDepth 16384

noncomputable section

namespace Cert.Pre_indices_in_range.Value

open Idealize.ShloMosaic Idealize.ShloMosaic.TcCoe Cert.Pre_indices_in_range.Gen

/-- The precondition, index by index: each names a row of the table. -/
theorem in_range {F : FTy → Type} [FloatOps F] (k : IVec S100000 32) (x1 x2 x3 x4 x5 : FVec F S20000x5 .f32) (sel : IVec S2048 32)
    (h : fn (F := F) k x1 x2 x3 x4 x5 sel = fun _ => 1#1) (y : S2048.Idx) : (sel y).toNat < 100000 := by
  haveI : Subsingleton S_.Idx := ⟨fun a b => funext fun d => d.elim0⟩
  have e := Host.reduce_andi_all _ _ _ _ _ (congrFun h (Shape.Idx.first h_S_)) y
  obtain ⟨h0, h1⟩ := IntOp.andi_eq_one.1 (show IntOp.andi (IntOp.cmpi .sge (sel y) 0#32) (IntOp.cmpi .slt (sel y) 100000#32) = 1#1 from e)
  have a0 := IntOp.cmpi_sge.1 h0
  have a1 := IntOp.cmpi_slt.1 h1
  simp only [BitVec.toInt_eq_toNat_cond, BitVec.toNat_ofNat, Nat.reducePow, Nat.reduceMod] at a0 a1
  omega

end Cert.Pre_indices_in_range.Value

namespace Cert.GatherReferenceIdeal.Value

open Idealize.ShloMosaic Idealize.ShloMosaic.TcCoe Idealize.SL.Sem Cert.GatherReferenceIdeal.Gen
open Cert.GatherIdeal.Run (at1 at1_eq keysOut rowsOut colsOut)

variable (sel : IVec S2048 32)

/-- The indices as the reference reads them, a negative one counted from the end. -/
def starts : IVec S2048x1 32 :=
  broadcastInDim S2048x1 ![0] bcast_S2048_S2048x1_0
    (select (cmpi .slt sel (broadcastInDim S2048 ![] bcast_S_S2048 (constantI S_ 32 0#32)))
      (addi sel (broadcastInDim S2048 ![] bcast_S_S2048 (constantI S_ 32 100000#32))) sel)

variable (hsel : ∀ y, (sel y).toNat < 100000)
include hsel

theorem starts_apply (p : Fin 2048) : starts sel (ix2 p (0 : Fin 1)) = BitVec.ofNat 32 (sel (ix1 p)).toNat := by
  have hlt := hsel (ix1 p)
  refine (show _ = Scalar.select (IntOp.cmpi .slt (sel (ix1 p)) 0#32) (IntOp.addi (sel (ix1 p)) 100000#32) (sel (ix1 p)) by
    unfold starts; pointwise).trans ?_
  rw [show sel (ix1 p) = BitVec.ofNat 32 (sel (ix1 p)).toNat by simp]
  generalize (sel (ix1 p)).toNat = n at hlt ⊢
  simp (disch := omega) only [hlo_ix]
  exact if_neg (Nat.not_lt_zero _)

theorem keys_at (k : IVec S100000 32) (p : Fin 2048) :
    Host.gather gather_S100000_S2048x1_S2048_n_0_n_n_0_1_1 k (starts sel) (ix1 p) = k (ix1 ⟨(sel (ix1 p)).toNat, hsel _⟩) :=
  Routing.gather_take1 _ rfl rfl rfl rfl k _ p ⟨_, hsel _⟩ (starts_apply sel hsel p) (by norm_num)

theorem rows_at {α : Type} (x : S100000x5.Idx → α) (p : Fin 2048) (q : Fin 5) :
    Host.gather gather_S100000x5_S2048x1_S2048x5_1_0_n_n_0_1_15 x (starts sel) (ix2 p q) = x (ix2 ⟨(sel (ix1 p)).toNat, hsel _⟩ q) :=
  Routing.gather_row _ rfl rfl rfl rfl rfl x _ p q ⟨_, hsel _⟩ (starts_apply sel hsel p) (by norm_num)

/-- The keys at the selected indices are the padded keys' there. -/
theorem keys_eq (k : IVec S100000 32) (z : IVec ⟨1, ![352]⟩ 32)
    (h : Shape.Concatenates [S100000, ⟨1, ![352]⟩] ⟨1, ![100352]⟩ 0) :
    Host.gather gather_S100000_S2048x1_S2048_n_0_n_n_0_1_1 k (starts sel)
      = keysOut (concatenate ⟨1, ![100352]⟩ 0 [⟨S100000, k⟩, ⟨⟨1, ![352]⟩, z⟩] h) sel := by
  funext y
  obtain ⟨p, rfl⟩ : ∃ p, y = ix1 p := ⟨y 0, (ix1_eta y).symm⟩
  rw [keys_at sel hsel]
  have hlt := hsel (ix1 p)
  unfold keysOut
  refine (concatenate_pair_apply_left (t := ⟨1, ![100352]⟩) (0 : Fin 1) k z h _ rfl (ix1 ⟨(sel (ix1 p)).toNat, hsel _⟩) fun b => ?_).symm
  match b with
  | 0 => exact (Nat.mod_eq_of_lt (by omega : (sel (ix1 p)).toNat < 100352)).symm

omit hsel in
/-- An entry of the flat table. -/
theorem flat_at {α : Type} (x : S100000x5.Idx → α) (h : S100000x5.ShapeCasts ⟨1, ![500000]⟩) (r : Fin 100000) (c : Fin 5) :
    shapeCast (⟨1, ![500000]⟩ : Shape) x h (at1 (by decide) (5 * r.val + c.val)) = x (ix2 r c) := by
  have hr := r.isLt
  have hc := c.isLt
  refine shapeCast_apply x h _ _ ?_
  rw [Shape.rowMajor_val_one, Shape.rowMajor_val_two]
  show r.val * 5 + c.val = (5 * r.val + c.val) % 500000
  omega

/-- The selected rows laid out row by row. -/
theorem rows_eq (x : FVec Ideal S100000x5 .f32) (h : S100000x5.ShapeCasts ⟨1, ![500000]⟩) :
    shapeCast S10240 (Host.gather gather_S100000x5_S2048x1_S2048x5_1_0_n_n_0_1_15 x (starts sel)) shapeCasts_S2048x5_S10240
      = rowsOut (F := Ideal) (shapeCast ⟨1, ![500000]⟩ x h) sel := by
  funext y
  have hy : (y 0).val < 10240 := (y 0).isLt
  let p : Fin 2048 := ⟨(y 0).val / 5, by omega⟩
  let q : Fin 5 := ⟨(y 0).val % 5, by omega⟩
  refine (shapeCast_apply _ shapeCasts_S2048x5_S10240 y (ix2 p q) ?_).trans ((rows_at sel hsel x p q).trans ?_)
  · rw [Shape.rowMajor_val_one, Shape.rowMajor_val_two]
    show (y 0).val / 5 * 5 + (y 0).val % 5 = (y 0).val
    omega
  · unfold rowsOut
    refine (flat_at x h ⟨_, hsel (ix1 p)⟩ q).symm.trans ?_
    rw [at1_eq (by decide) (ix1 p) rfl]
    rfl

/-- The same laid out coordinate by coordinate. -/
theorem cols_eq (x : FVec Ideal S100000x5 .f32) (h : S100000x5.ShapeCasts ⟨1, ![500000]⟩) :
    shapeCast S10240 (transpose S5x2048 [1, 0] (Host.gather gather_S100000x5_S2048x1_S2048x5_1_0_n_n_0_1_15 x (starts sel))
        transposes_S2048x5_S5x2048_1_0) shapeCasts_S5x2048_S10240
      = colsOut (F := Ideal) (shapeCast ⟨1, ![500000]⟩ x h) sel := by
  funext y
  have hy : (y 0).val < 10240 := (y 0).isLt
  let p : Fin 2048 := ⟨(y 0).val % 2048, by omega⟩
  let q : Fin 5 := ⟨(y 0).val / 2048, by omega⟩
  refine (shapeCast_apply _ shapeCasts_S5x2048_S10240 y (ix2 q p) ?_).trans
    ((ValueIdx.transpose_ix2_apply _ transposes_S2048x5_S5x2048_1_0 _ _).trans ((rows_at sel hsel x p q).trans ?_))
  · rw [Shape.rowMajor_val_one, Shape.rowMajor_val_two]
    show (y 0).val / 2048 * 2048 + (y 0).val % 2048 = (y 0).val
    omega
  · unfold colsOut
    refine (flat_at x h ⟨_, hsel (ix1 p)⟩ q).symm.trans ?_
    rw [at1_eq (by decide) (ix1 p) rfl]
    rfl

end Cert.GatherReferenceIdeal.Value

end
-- ==== Proof.GatherValue.lean ====
/-
  The gather's claims: what the call starts from over the argument arrays, the arguments kept, the frames of the three
  programs, and the equation of the kernel's and the reference's results.
-/
module

public import proofs.«01_k».proof.Proof.GatherLaunch
public import proofs.«01_k».proof.Proof.GatherRef
public import proofs.«01_k».proof.Proof.Gen.Gather
public import Idealize.ShloMosaic.Lib.Claim

@[expose] public section

set_option maxRecDepth 16384

noncomputable section

namespace Cert.GatherIdeal.Run

open Cert.GatherIdeal Cert.GatherIdeal.Gen
open Idealize.ShloMosaic Idealize.ShloMosaic.TcCoe Idealize.SL.Sem

section

variable {F : FTy → Type} [FloatOps F]
variable (m : (ℓ : Loc nD τ sig) → Buf (Elt F) ℓ) (d : Dev nD)

/-- The host's operations leave the arguments alone. -/
theorem V5_arg0 : V5 m d (main_arg0 : DevRef τ sig) = m (d, main_arg0) := by unfold V5 hostOps; after_results <;> rfl
theorem V5_arg1 : V5 m d (main_arg1 : DevRef τ sig) = m (d, main_arg1) := by unfold V5 hostOps; after_results <;> rfl
theorem V5_arg2 : V5 m d (main_arg2 : DevRef τ sig) = m (d, main_arg2) := by unfold V5 hostOps; after_results <;> rfl
theorem V5_arg3 : V5 m d (main_arg3 : DevRef τ sig) = m (d, main_arg3) := by unfold V5 hostOps; after_results <;> rfl
theorem V5_arg4 : V5 m d (main_arg4 : DevRef τ sig) = m (d, main_arg4) := by unfold V5 hostOps; after_results <;> rfl
theorem V5_arg5 : V5 m d (main_arg5 : DevRef τ sig) = m (d, main_arg5) := by unfold V5 hostOps; after_results <;> rfl
theorem V5_arg6 : V5 m d (main_arg6 : DevRef τ sig) = m (d, main_arg6) := by unfold V5 hostOps; after_results <;> rfl

/-- The keys, then 352 words of ones. -/
theorem keysA_eq : keysA m d = concatenate S100352 0 [⟨S100000, (m (d, main_arg0) : S100000.Idx → BitVec 32)⟩,
    ⟨S352, broadcastInDim S352 ![] bcast_S_S352 (constantI S_ 32 4294967295#32)⟩] concatenates_S100000_S352_S100352_d0 := by
  unfold keysA V5 hostOps; after_results <;> rfl

/-- The five tables of boxes end to end. -/
def boxes : FVec F S100000x5 .f32 :=
  concatenate S100000x5 0 [⟨S20000x5, (m (d, main_arg1) : FVec F S20000x5 .f32)⟩, ⟨S20000x5, (m (d, main_arg2) : FVec F S20000x5 .f32)⟩,
    ⟨S20000x5, (m (d, main_arg3) : FVec F S20000x5 .f32)⟩, ⟨S20000x5, (m (d, main_arg4) : FVec F S20000x5 .f32)⟩,
    ⟨S20000x5, (m (d, main_arg5) : FVec F S20000x5 .f32)⟩] concatenates_S20000x5_S20000x5_S20000x5_S20000x5_S20000x5_S100000x5_d0

theorem tabA_eq : tabA m d = shapeCast S500000 (boxes m d) shapeCasts_S100000x5_S500000 := by
  unfold tabA V5 hostOps boxes; after_results <;> rfl

theorem mem_uc (b : Ref sig .tc) (h : ¬ (Proc.devRef (τ := τ) .tc b).isScoped) : (Proc.devRef .tc b : DevRef τ sig) ∈ Pipeline.ucRefs τ sig :=
  Finset.mem_filter.mpr ⟨StableHlo.devRef_mem_tcRefs b, h⟩

variable {m} {r : PUnit × MemSt nD τ sig (Elt F)}

/-- An array the call does not write ends as the host's operations left it. -/
theorem QC.at (h : QC m r) (b : Ref sig .tc) (hb : ¬ (Proc.devRef (τ := τ) .tc b).isScoped)
    (h0 : Proc.devRef .tc b ≠ (main_v4_0 : DevRef τ sig)) (h1 : Proc.devRef .tc b ≠ (main_v4_1 : DevRef τ sig)) (h2 : Proc.devRef .tc b ≠ (main_v4_2 : DevRef τ sig)) :
    r.2.mem (d, Proc.devRef .tc b) = V5 m d (Proc.devRef .tc b) := (h.1 d _ (mem_uc b hb)).trans (V6_of_ne m d h0 h1 h2)

theorem QC.kept (h : QC m r) :
    r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)
    ∧ r.2.mem ((d.tc : Thread nD τ).loc main_arg4) = m ((d.tc : Thread nD τ).loc main_arg4)
    ∧ r.2.mem ((d.tc : Thread nD τ).loc main_arg5) = m ((d.tc : Thread nD τ).loc main_arg5)
    ∧ r.2.mem ((d.tc : Thread nD τ).loc main_arg6) = m ((d.tc : Thread nD τ).loc main_arg6) :=
  ⟨(h.at d main_arg0 (by decide) (by decide) (by decide) (by decide)).trans (V5_arg0 m d),
    (h.at d main_arg1 (by decide) (by decide) (by decide) (by decide)).trans (V5_arg1 m d),
    (h.at d main_arg2 (by decide) (by decide) (by decide) (by decide)).trans (V5_arg2 m d),
    (h.at d main_arg3 (by decide) (by decide) (by decide) (by decide)).trans (V5_arg3 m d),
    (h.at d main_arg4 (by decide) (by decide) (by decide) (by decide)).trans (V5_arg4 m d),
    (h.at d main_arg5 (by decide) (by decide) (by decide) (by decide)).trans (V5_arg5 m d),
    (h.at d main_arg6 (by decide) (by decide) (by decide) (by decide)).trans (V5_arg6 m d)⟩

end

theorem ok_bits (m : (ℓ : Loc nD τ sig) → Buf (Elt Bits) ℓ) (h : Cert.Pre_Gather m) : PreOK (F := Bits) m := fun d y =>
  (congrArg (fun f : S2048.Idx → BitVec 32 => (f y).toNat < 100000) (V5_arg6 m d)).mpr (Cert.Pre_indices_in_range.Value.in_range _ _ _ _ _ _ _ (h d) y)

theorem ok_ideal (m : (ℓ : Loc nD τ sig) → Buf (Elt Ideal) ℓ) (h : Cert.Pre_GatherIdeal m) : PreOK (F := Ideal) m := fun d y =>
  (congrArg (fun f : S2048.Idx → BitVec 32 => (f y).toNat < 100000) (V5_arg6 m d)).mpr (Cert.Pre_indices_in_range.Value.in_range _ _ _ _ _ _ _ (h d) y)

/-- The gather over the machine's words runs to its end with its arguments kept and every semaphore at zero. -/
theorem frame_bits : Cert.quiescent_Gather := fun m ρ hpre =>
  (θ_run Cert.GatherIdeal.defs _ _).mono (fun _ h => ⟨fun c => QC.kept c h, h.2⟩) (run_main (F := Bits) m ρ (ok_bits m hpre))

/-- The same over the extended reals. -/
theorem frame_ideal : Cert.quiescent_GatherIdeal := fun m ρ hpre =>
  (θ_run Cert.GatherIdeal.defs _ _).mono (fun _ h => ⟨fun c => QC.kept c h, h.2⟩) (run_main (F := Ideal) m ρ (ok_ideal m hpre))

/-- The gather's reference keeps its arguments. -/
theorem frame_reference : Cert.quiescent_GatherReferenceIdeal := fun m ρ _ =>
  (θ_run Cert.GatherReferenceIdeal.defs _ _).mono
    (fun r h => ⟨fun c => (h c).2.2.2, Idealize.ShloMosaic.sem_eq_zero_of_no_sems (by decide) r.2⟩)
    (Cert.GatherReferenceIdeal.Value.run (F := Ideal) m ρ)

/-- Over the extended reals the gather and its reference end with the same three arrays. -/
theorem value : Cert.algebraic_GatherIdeal_GatherReferenceIdeal := by
  intro m g m' g' hpre hagree
  refine ⟨fun c => new0 m c, fun c => new1 m c, fun c => new2 m c, ?_, ?_⟩
  · exact (θ_run Cert.GatherIdeal.defs _ _).mono
      (fun _ h c => ⟨(h.1 c _ (mem_uc main_v4_0 (by decide))).trans (V6_new0 m c), (h.1 c _ (mem_uc main_v4_1 (by decide))).trans (V6_new1 m c),
        (h.1 c _ (mem_uc main_v4_2 (by decide))).trans (V6_new2 m c), QC.kept c h⟩) (run_main (F := Ideal) m g (ok_ideal m hpre))
  · refine (θ_run Cert.GatherReferenceIdeal.defs _ _).mono (fun r h c => ?_) (Cert.GatherReferenceIdeal.Value.run (F := Ideal) m' g')
    have hsel := fun y => Cert.Pre_indices_in_range.Value.in_range _ _ _ _ _ _ _ (hpre c) y
    obtain ⟨h0, h1, h2, rest⟩ := h c
    obtain ⟨e0, e1, e2, e3, e4, e5, e6⟩ := hagree c
    rw [e0, e6] at h0
    rw [e1, e2, e3, e4, e5, e6] at h1 h2
    beta_reduce
    unfold new0 new1 new2 selA
    rw [keysA_eq, tabA_eq, V5_arg6]
    exact ⟨h0.trans (Cert.GatherReferenceIdeal.Value.keys_eq _ hsel _ _ _), h1.trans (Cert.GatherReferenceIdeal.Value.rows_eq _ hsel (boxes m c) _),
      h2.trans (Cert.GatherReferenceIdeal.Value.cols_eq _ hsel (boxes m c) _), rest⟩

end Cert.GatherIdeal.Run

end
-- ==== Proof.CountSetup.lean ====
/-
  The count's launch: the program as the launch theorem sees it, the arrays, and what a tile counts — of its own keys,
  those above the threshold and those at it, lane by lane and then over the sixteen lanes.
-/
module

public import proofs.«01_k».proof.Proof.GatherWindows
public import proofs.«01_k».proof.Proof.Gen.CountIdeal
public import proofs.«01_k».proof.Proof.Gen.CountIdeal.Skeleton
public import Idealize.ShloMosaic.Lib.Routing.Ops
public import Idealize.ShloMosaic.Lib.ValueIdxCore
public import Idealize.ShloMosaic.Lib.Pipeline.Value
public import Idealize.ShloMosaic.Lib.Pointwise.ElementwiseCore

@[expose] public section

noncomputable section

namespace Cert.CountIdeal.Run

open Cert.CountIdeal Cert.CountIdeal.Gen
open Cert.GatherIdeal.Run (at1 at1_val at1_self at1_eq blk mem_blk window_emb window_blk read_window write_window)

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The resource algebra: the handshakes' rounds library, the transfers' counters. -/
abbrev UH : Type := URounds (GSem nD τ sig) ℕ
abbrev UU : Type := UH × Counters
abbrev EH : Emb UH (MT nD τ sig (HIx 1) (Elt F) ℕ UU ℕ) := embL

/-! ## The arrays, and a tile's buffers -/

abbrev keysLoc (d : Dev nD) : Loc nD τ sig := (SparseCore.T d).loc main_v1
abbrev thrLoc (d : Dev nD) : Loc nD τ sig := (SparseCore.T d).loc main_v2
abbrev outLoc (d : Dev nD) : Loc nD τ sig := (SparseCore.T d).loc main_v3

/-- The padded keys, the sixteen copies of the threshold and the counts, as a tile addresses them. -/
abbrev keysM : Memref sig .scVector .hbm S100352 .i32 := Memref.whole main_v1_scv
abbrev thrM : Memref sig .scVector .hbm S16 .i32 := Memref.whole main_v2_scv
abbrev outM : Memref sig .scVector .hbm S256 .i32 := Memref.whole main_v3_scv
/-- A tile's scratch: its keys, their places, its counts, its copy of the thresholds. -/
abbrev kyM : Memref sig .scVector .vmem S6272 .i32 := Memref.whole cc0_scratch0
abbrev plM : Memref sig .scVector .vmem S49x128 .i32 := Memref.whole cc0_scratch1
abbrev cvM : Memref sig .scVector .vmem S128 .i32 := Memref.whole cc0_scratch2
abbrev tvM : Memref sig .scVector .vmem S16 .i32 := Memref.whole cc0_scratch3

/-! ## What a tile counts -/

/-- One if the comparison of key and threshold holds, else zero. -/
def hit (p : CmpIPredicate) (k c : BitVec 32) : ℕ := if IntOp.cmpi p k c = 1#1 then 1 else 0

/-- The first `n` keys of lane `l` for which the comparison with the lane's threshold holds. -/
def lane (p : CmpIPredicate) (kv : S6272.Idx → BitVec 32) (tv : S16.Idx → BitVec 32) (l n : ℕ) : ℕ :=
  ∑ i ∈ Finset.range n, hit p (kv (at1 (by decide) (16 * i + l))) (tv (at1 (by decide) l))

/-- The same over the sixteen lanes' 392 keys each. -/
def total (p : CmpIPredicate) (kv : S6272.Idx → BitVec 32) (tv : S16.Idx → BitVec 32) : ℕ := ∑ l ∈ Finset.range 16, lane p kv tv l 392

/-- Tile `t`'s own keys. -/
def ownKeys (t : ℕ) (keys : S100352.Idx → BitVec 32) : S6272.Idx → BitVec 32 := fun x => keys (at1 (by decide) (6272 * t + (x 0).val))

/-- A tile's sixteen words: its keys above the threshold, its keys at it, zeros. -/
def counts (kv : S6272.Idx → BitVec 32) (tv : S16.Idx → BitVec 32) : S16.Idx → BitVec 32 := fun x =>
  if (x 0).val = 0 then BitVec.ofNat 32 (total .sgt kv tv) else if (x 0).val = 1 then BitVec.ofNat 32 (total .eq kv tv) else 0#32

/-- The result: sixteen words of each tile in turn. -/
def countOut (keys : S100352.Idx → BitVec 32) (tv : S16.Idx → BitVec 32) : S256.Idx → BitVec 32 := fun y =>
  counts (ownKeys ((y 0).val / 16) keys) tv (at1 (by decide) ((y 0).val % 16))

theorem lane_zero (p : CmpIPredicate) (kv : S6272.Idx → BitVec 32) (tv : S16.Idx → BitVec 32) (l : ℕ) : lane p kv tv l 0 = 0 := rfl

theorem lane_succ (p : CmpIPredicate) (kv : S6272.Idx → BitVec 32) (tv : S16.Idx → BitVec 32) (l n : ℕ) :
    lane p kv tv l (n + 1) = lane p kv tv l n + hit p (kv (at1 (by decide) (16 * n + l))) (tv (at1 (by decide) l)) := by
  unfold lane; rw [Finset.sum_range_succ]

/-- Sixteen lanes of `n` terms each are the first `16 n` terms. -/
theorem sum_lanes (f : ℕ → ℕ) (n : ℕ) :
    ∑ l ∈ Finset.range 16, ∑ i ∈ Finset.range n, f (16 * i + l) = ∑ j ∈ Finset.range (16 * n), f j := by
  induction n with
  | zero => simp
  | succ n ih =>
    simp only [Finset.sum_range_succ _ n]
    rw [Finset.sum_add_distrib, ih, Nat.mul_succ, Finset.sum_range_add]

/-- Over one threshold a tile's total counts all its keys. -/
theorem total_eq (p : CmpIPredicate) (kv : S6272.Idx → BitVec 32) (c : BitVec 32) :
    total p kv (fun _ => c) = ∑ j ∈ Finset.range 6272, hit p (kv (at1 (by decide) j)) c :=
  sum_lanes (fun j => hit p (kv (at1 (by decide) j)) c) 392

/-- Sixteen lanes' counts of `n` keys each. -/
def Counted (p : CmpIPredicate) (kv : S6272.Idx → BitVec 32) (tv : S16.Idx → BitVec 32) (n : ℕ) (a : S16.Idx → BitVec 32) : Prop :=
  ∀ x, a x = BitVec.ofNat 32 (lane p kv tv (x 0).val n)

theorem counted_zero (p : CmpIPredicate) (kv : S6272.Idx → BitVec 32) (tv : S16.Idx → BitVec 32) : Counted p kv tv 0 k0_pay1 := fun _ => rfl

/-- Sixteen more keys counted. -/
theorem counted_step {p : CmpIPredicate} {kv : S6272.Idx → BitVec 32} {tv : S16.Idx → BitVec 32} {n : ℕ} {a k : S16.Idx → BitVec 32}
    (h : Counted p kv tv n a) (hk : ∀ x, k x = kv (at1 (by decide) (16 * n + (x 0).val))) :
    Counted p kv tv (n + 1) (addi a (select (cmpi p k tv) (broadcast S16 1#32) (broadcast S16 0#32))) := by
  intro x
  show a x + (if IntOp.cmpi p (k x) (tv x) = 1#1 then 1#32 else 0#32) = _
  rw [h x, hk x, lane_succ, BitVec.ofNat_add, at1_self]
  unfold hit
  split <;> rfl

/-- The last lane of a running sum is the sum of the lanes. -/
theorem scan_last {v : S16.Idx → BitVec 32} {f : ℕ → ℕ} (h : ∀ x, v x = BitVec.ofNat 32 (f (x 0).val)) :
    extractAt ![15] (scan .sum v) inpos_S16_p15 = BitVec.ofNat 32 (∑ l ∈ Finset.range 16, f l) := by
  show ((List.finRange 16).filter fun k => decide (0 < k.val ∧ k.val ≤ 15)).foldl (fun r k => IntOp.addi r (v (Shape.ofLane k))) (v (Shape.ofLane (0 : Fin 16))) = _
  refine (Routing.foldl_addi_ofNat _ (fun k : Fin 16 => v (Shape.ofLane (d := ![16]) k)) (fun k : Fin 16 => f k.val) (fun k _ => h _) _ (f 0) (h _)).trans ?_
  rw [show ((List.finRange 16).filter fun k => decide (0 < k.val ∧ k.val ≤ 15)) = [1, 2, 3, 4, 5, 6, 7, 8, 9, 10, 11, 12, 13, 14, 15] by decide]
  simp [Finset.sum_range_succ, Nat.add_assoc]

/-- A lane's number against a constant. -/
theorem lane_eq (x : S16.Idx) {c : ℕ} (hc : c < 16) :
    (IntOp.cmpi .eq (iota .scVector S16 32 [0] iota_S16_d0_w32_scVector x) (BitVec.ofNat 32 c) = 1#1) ↔ (x 0).val = c := by
  have hx : (x 0).val < 16 := (x 0).isLt
  rw [iota_single_apply, IntOp.cmpi_eq, ← BitVec.toNat_inj, BitVec.toNat_ofNat, BitVec.toNat_ofNat]
  omega

/-- The sixteen words a tile publishes. -/
theorem published_apply (a b : S16.Idx → BitVec 32) (x : S16.Idx) :
    k0_pay5 a b x = if (x 0).val = 0 then extractAt ![15] (scan .sum a) inpos_S16_p15
      else if (x 0).val = 1 then extractAt ![15] (scan .sum b) inpos_S16_p15 else 0#32 := by
  unfold k0_pay5
  dsimp only
  generalize extractAt ![15] (scan .sum a) inpos_S16_p15 = A
  generalize extractAt ![15] (scan .sum b) inpos_S16_p15 = B
  simp only [ValueIdx.select_apply, cmpi_apply, ValueIdx.broadcast_apply, Scalar.select]
  exact if_congr (lane_eq x (c := 0) (by decide)) rfl (if_congr (lane_eq x (c := 1) (by decide)) rfl rfl)

theorem published {kv : S6272.Idx → BitVec 32} {tv : S16.Idx → BitVec 32} {a b : S16.Idx → BitVec 32}
    (ha : Counted .sgt kv tv 392 a) (hb : Counted .eq kv tv 392 b) : k0_pay5 a b = counts kv tv := by
  funext x
  rw [published_apply, scan_last (f := fun l => lane .sgt kv tv l 392) ha, scan_last (f := fun l => lane .eq kv tv l 392) hb]
  simp only [counts, total]

/-! ## The copies -/

section

variable [FloatOps F] {t : ℕ}

/-- The tile's copy of its keys. -/
theorem own_copied {keys : S100352.Idx → BitVec 32} {off : Fin 1 → ℕ} (hoff : off = ![6272 * t]) (inb) (h) (f : S6272.Idx → BitVec 32) :
    kyM.view.write (Elt F) f ((keysM.slice (Rect.unit (s := S100352) off S6272.size inb) h).view.read (Elt F) keys) Finset.univ = ownKeys t keys := by
  subst hoff
  refine (View.write_whole_univ _ _ _).trans (funext fun x => ?_)
  exact read_window (F := F) (N := 100352) (n := 6272) (by decide) keysM _ inb h keys x

/-- The tile's counts copied out. -/
theorem counts_out {keys : S100352.Idx → BitVec 32} {tv : S16.Idx → BitVec 32} {off : Fin 1 → ℕ} (hoff : off = ![16 * t]) (inb) (h) (f : S256.Idx → BitVec 32)
    {g : S16.Idx → BitVec 32} (hg : g = counts (ownKeys t keys) tv) {y : S256.Idx} (hy : y ∈ blk 256 16 t) :
    (outM.slice (Rect.unit (s := S256) off S16.size inb) h).view.write (Elt F) f g Finset.univ y = countOut keys tv y := by
  refine (write_window (F := F) (N := 256) (n := 16) (by decide) (by decide) outM hoff inb h f _ hy).trans ?_
  unfold countOut
  rw [hg, mem_blk.mp hy]

theorem out_window {off : Fin 1 → ℕ} (hoff : off = ![16 * t]) (inb) (h) :
    (outM.slice (Rect.unit (s := S256) off S16.size inb) h).view.set ⊆ blk 256 16 t := by
  intro y hy
  obtain ⟨x, -, rfl⟩ := Finset.mem_map.mp hy
  exact window_blk (N := 256) (n := 16) (by decide) hoff inb x

end

end Cert.CountIdeal.Run

end
-- ==== Proof.CountBody.lean ====
/-
  A tile's task: its keys and the thresholds copied in, sixteen keys counted at each turn of the loop, the counts
  copied out.
-/
module

public import proofs.«01_k».proof.Proof.CountSetup
public import Idealize.ShloMosaic.Lib.SparseCore.Quiescent
public import Idealize.ShloMosaic.Lib.SparseCore.Ops
public import Idealize.ShloMosaic.Lib.SparseCore.Stream
public import Idealize.ShloMosaic.Lib.Scf
public import Idealize.ShloMosaic.Lib.Tactic

@[expose] public section

noncomputable section

namespace Cert.CountIdeal.Run

open Cert.CountIdeal Cert.CountIdeal.Gen
open Cert.GatherIdeal.Run (at1 at1_val at1_self at1_eq blk mem_blk)

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]
local notation "𝕄" => MT nD τ sig (HIx 1) (Elt F) ℕ UU ℕ

abbrev cV (L : grid0.Coords) : Fin τ.nSC := (L 0).castLE hcore0
abbrev jV (L : grid0.Coords) : Fin τ.nSub := (L 1).castLE hsub0
/-- The thread that runs the tile at `L`. -/
abbrev thr (d : Dev nD) (L : grid0.Coords) : Thread nD τ := V d (cV L) (jV L)

/-- What a run of the rest of the body has to show. -/
abbrev Rest (d : Dev nD) (L : grid0.Coords) {α : Type} (p : Prog (TpuEff nD τ sig (Elt F) Λ₀ (thr d L).2) α) (Q : α → sProp 𝕄) : sProp 𝕄 :=
  wp frame (wpE (defs₀ (F := F)) 𝒱₀ (thr d L) none) Set.univ p Q

/-- What the tile owes while it runs: what it owed at entry, nothing waited on but its own transfers. -/
def Owe (d : Dev nD) (L : grid0.Coords) (O : CellTallies nD τ sig (HIx 1)) (W : Waits sig (HIx 1)) : sProp 𝕄 :=
  iprop(levAts (K (F := F)).L (K (F := F)).lev ∗ ∃ W', ⌜∀ p ∈ W', p ∈ W ∨ p.2 = none⌝ ∗ owes (thr d L) O W')

theorem rest_ret (d : Dev nD) (L : grid0.Coords) {Q : PUnit → sProp 𝕄} : Q ⟨⟩ ⊢ Rest d L (.ret ⟨⟩) Q := by
  unfold Rest
  rw [wp_ret]
  iintro H; imodintro; iexact H

/-- The tile's own transfer waited for: what it delivers, its counter back at zero. -/
theorem wp_landed (d : Dev nD) (L : grid0.Coords) {O : CellTallies nD τ sig (HIx 1)} {W : Waits sig (HIx 1)} (hO : ∀ g, O g none = 0)
    {sp sp' : Space} {s s' : Shape} {e e' : EltTy} {sem : DmaSem sig} {srcw : Memref sig (thr d L).2.kind sp' s' e'}
    {dstw : Memref sig (thr d L).2.kind sp s e} {hsrc : srcw.view.WordExact} {hdst : dstw.view.WordExact}
    {k : PUnit → Prog (TpuEff nD τ sig (Elt F) Λ₀ (thr d L).2) PUnit} {N : ℕ} (hN : dstw.view.dmaCredit = N) {D : sProp 𝕄} {Q : PUnit → sProp 𝕄} :
    iprop(Transfers.Flight countersEmb (thr d L) (.dma sem) (default : HIx 1) N D ∗ Owe d L O W)
      ⊢ iprop((iprop(D ∗ semVal (thr d L, .dma sem) 0 ∗ Owe d L O W) -∗ Rest d L (k ⟨⟩) Q)
          -∗ Rest d L (.op (.waitDma2 sem srcw dstw hsrc hdst) k) Q) := by
  unfold Owe Rest
  iintro ⟨Hfl, #Hlv, %W', %hW', HO⟩ Hk
  ihave #Hmw := ((K (F := F)).mayWaits_none (thr := thr d L) hO) $$ Hlv
  iapply (Transfers.wp_waitLocalO countersEmb 𝒱₀ (thr d L) none (default : HIx 1) hN) $$ [Hfl HO]
  · isplitl [Hfl]; · iexact Hfl
    isplitl [HO]; · iexact HO
    iapply (Transfers.MayWaits.elim (SemLoc.dma sem)) $$ Hmw
  iintro ⟨HD, Hsem, HO⟩
  iapply Hk
  isplitl [HD]; · iexact HD
  isplitl [Hsem]; · iexact Hsem
  isplitr; · iexact Hlv
  iexists _; isplitr
  swap; · iexact HO
  ipureintro; intro p hp
  rcases Finset.mem_insert.mp hp with hp | hp; · exact .inr (hp ▸ rfl)
  exact hW' p hp

/-- A copy and its wait. -/
theorem wp_copy (d : Dev nD) (L : grid0.Coords) {O : CellTallies nD τ sig (HIx 1)} {W : Waits sig (HIx 1)} (hO : ∀ g, O g none = 0)
    {sp sp' : Space} {s : Shape} {e : EltTy} {sem : DmaSem sig} {src : Memref sig (thr d L).2.kind sp s e}
    {dst : Memref sig (thr d L).2.kind sp' s e} {h1 : src.view.WordExact} {h2 : dst.view.WordExact}
    {h3 : DmaTarget.Typed (nD := nD) (τ := τ) (p := (thr d L).2) sp (SemLoc.dma sem) (.here dst)}
    {h4 : src.view.WordExact} {h5 : dst.view.WordExact}
    {k : PUnit → Prog (TpuEff nD τ sig (Elt F) Λ₀ (thr d L).2) PUnit} {Q : PUnit → sProp 𝕄}
    {q : PosShare TreeShare} {Ss : Finset (Idx (src.view.loc (thr d L)))} {fs : Buf (Elt F) (src.view.loc (thr d L))}
    {Sd : Finset (Idx (dst.view.loc (thr d L)))} {fd : Buf (Elt F) (dst.view.loc (thr d L))}
    (hSs : src.view.set ⊆ Ss) (hSd : dst.view.set ⊆ Sd) (hN0 : 0 < dst.view.dmaCredit) :
    iprop((src.view.loc (thr d L) ↦[Ss]{q} fs) ∗ (dst.view.loc (thr d L) ↦[Sd]{fullShare} fd)
        ∗ semVal (thr d L, .dma sem) 0 ∗ Owe d L O W)
      ⊢ iprop((iprop((src.view.loc (thr d L) ↦[Ss]{q} fs)
        ∗ (dst.view.loc (thr d L) ↦[Sd]{fullShare} dst.view.write (Elt F) fd (src.view.read (Elt F) fs) Finset.univ)
        ∗ semVal (thr d L, .dma sem) 0 ∗ Owe d L O W) -∗ Rest d L (k ⟨⟩) Q)
      -∗ Rest d L (.op (.enqueueDma src (.here dst) (.dma sem) h1 h2 h3) fun _ => .op (.waitDma2 sem src dst h4 h5) k) Q) := by
  iintro ⟨Hs, Hd, Hsem, HO⟩ Hk
  ihave Hs' := (pointsTo_split_subset (q := q) (f := fs) (S := Ss) hSs).1 $$ Hs
  icases Hs' with ⟨Hs, Hr⟩
  iapply (Transfers.wp_dmaLocal countersEmb 𝒱₀ (thr d L) none (via := .same) (default : HIx 1) dst.view.dmaCredit rfl hN0 hSd) $$ [Hs Hd Hsem]
  · isplitl [Hs]; · iexact Hs
    isplitl [Hd]; · iexact Hd
    iexact Hsem
  iintro Hfl
  iapply (wp_landed d L hO rfl) $$ [Hfl HO]
  · isplitl [Hfl]; · iexact Hfl
    iexact HO
  iintro ⟨⟨Hd, Hs⟩, Hsem, HO⟩
  ihave Hs' := (pointsTo_split_subset (q := q) (f := fs) (S := Ss) hSs).2 $$ [Hs Hr]; · isplitl [Hs] <;> iassumption
  iapply Hk
  isplitl [Hs']; · iexact Hs'
  isplitl [Hd]; · iexact Hd
  isplitl [Hsem]; · iexact Hsem
  iexact HO

/-- The tile's number among the sixteen. -/
abbrev tl (L : grid0.Coords) : ℕ := (L 1).val

theorem tl_lt (L : grid0.Coords) : tl L < 16 := (L 1).isLt

/-- The counter of the tile's transfers numbered `j`. -/
abbrev semOf (d : Dev nD) (L : grid0.Coords) (j : Fin 4) : GSem nD τ sig := (thr d L, .dma j)

/-- The tile's four counters, at zero. -/
def Sems (d : Dev nD) (L : grid0.Coords) : sProp 𝕄 :=
  iprop(semVal (semOf d L 0) 0 ∗ semVal (semOf d L 1) 0 ∗ semVal (semOf d L 2) 0 ∗ semVal (semOf d L 3) 0)

/-- Its four buffers, at any contents. -/
def Bufs (d : Dev nD) (L : grid0.Coords) : sProp 𝕄 :=
  iprop((∃ f, kyM.view.loc (thr d L) ↦{fullShare} f) ∗ (∃ f, plM.view.loc (thr d L) ↦{fullShare} f)
    ∗ (∃ f, cvM.view.loc (thr d L) ↦{fullShare} f) ∗ (∃ f, tvM.view.loc (thr d L) ↦{fullShare} f))

/-- The arrays it reads: a share of the keys and of the thresholds. -/
def Ins (d : Dev nD) (L : grid0.Coords) (q : PosShare TreeShare) (keys : S100352.Idx → BitVec 32) (tv : S16.Idx → BitVec 32) : sProp 𝕄 :=
  iprop((keysM.view.loc (thr d L) ↦{q} keys) ∗ (thrM.view.loc (thr d L) ↦{q} tv))

/-- Its block of the result. -/
def Outs (d : Dev nD) (L : grid0.Coords) (f : S256.Idx → BitVec 32) : sProp 𝕄 :=
  iprop(outM.view.loc (thr d L) ↦[blk 256 16 (tl L)]{fullShare} f)

/-! ## The loop -/

/-- The sixteen keys read at turn `k`. -/
theorem keys_read (kv : S6272.Idx → BitVec 32) {n : ℕ} {off : Fin 1 → ℕ} (hoff : off = ![16 * n]) (inb) (x : S16.Idx) :
    kyM.view.readAt (Elt F) (Rect.unit (s := S6272) off S16.size inb).toLoadRect kv x = kv (at1 (by decide) (16 * n + (x 0).val)) := by
  subst hoff
  show kv _ = kv _
  congr 1
  exact at1_eq (by decide) _ (ValueKit.rect_emb_unit_val (s := S6272) ![16 * n] S16.size inb x 0)

/-- The thresholds read. -/
theorem thr_read (tv : S16.Idx → BitVec 32) (inb) : tvM.view.readAt (Elt F) (Rect.unit (s := S16) ![0] S16.size inb).toLoadRect tv = tv := by
  funext x
  show tv _ = tv _
  congr 1
  refine (at1_eq (N := 16) (by decide) _ (ValueKit.rect_emb_unit_val (s := S16) ![0] S16.size inb x 0)).trans ?_
  rw [show (![0] : Fin 1 → ℕ) 0 = 0 from rfl, Nat.zero_add, at1_self]

/-- What holds before turn `n`: the keys are there, and the two accumulators count `16 n` of them. -/
def Turn (d : Dev nD) (L : grid0.Coords) (kv : S6272.Idx → BitVec 32) (tv : S16.Idx → BitVec 32) (n : ℕ) (acc : IVec S16 32 × IVec S16 32) : sProp 𝕄 :=
  iprop(⌜Counted .sgt kv tv n acc.1 ∧ Counted .eq kv tv n acc.2⌝ ∗ (kyM.view.loc (thr d L) ↦{fullShare} kv)
    ∗ ∃ g, plM.view.loc (thr d L) ↦{fullShare} g)

/-- One turn of the loop. -/
theorem wp_turn (d : Dev nD) (L : grid0.Coords) (kv : S6272.Idx → BitVec 32) (tv : S16.Idx → BitVec 32) (v23_r0 v23_r1 v23_r2 : DmaSems sig S_)
    (k : Fin k0_t1_loop.trips) (acc : IVec S16 32 × IVec S16 32) :
    (Turn d L kv tv k.val acc : sProp 𝕄) ⊢ Rest (F := F) d L
      (k0_t1_body (F := F) L keysM (Memref.isWhole_whole _) thrM (Memref.isWhole_whole _) outM (Memref.isWhole_whole _) kyM (Memref.isWhole_whole _)
        plM (Memref.isWhole_whole _) cvM (Memref.isWhole_whole _) tvM (Memref.isWhole_whole _) cc0_scratch4 v23_r0 v23_r1 v23_r2 tv k acc)
      (Turn d L kv tv (k.val + 1)) := by
  obtain ⟨a, b⟩ := acc
  unfold k0_t1_body Rest
  simp only [Prog.lift, Prog.bind_op, Prog.bind_ret, Prog.pure_eq_ret, Prog.bind_assoc]
  conv => lhs; unfold Turn
  iintro ⟨%hc, HK, %g, HP⟩
  iapply (wp_load 𝒱₀ (thr d L) none Set.univ (m := kyM) (S := Finset.univ) (q := fullShare) (Finset.subset_univ _)) $$ HK
  iintro HK
  iapply (wp_load 𝒱₀ (thr d L) none Set.univ (m := plM) (S := Finset.univ) (q := fullShare) (Finset.subset_univ _)) $$ HP
  iintro HP
  iapply (wp_store 𝒱₀ (thr d L) none Set.univ (m := plM) (r := Rect.unit (s := S49x128) (k0_off3 k) S1x16.size (k0_off3_inb k)) (Mk := Finset.univ) (f := g) (S := Finset.univ) (Finset.subset_univ _)) $$ HP
  iintro HP
  rw [wp_ret]
  imodintro
  unfold Turn
  isplitr
  · ipureintro
    exact ⟨counted_step hc.1 (keys_read (F := F) kv (k0_off2_eq k) _), counted_step hc.2 (keys_read (F := F) kv (k0_off2_eq k) _)⟩
  isplitl [HK]; · iexact HK
  iexists _; iexact HP

/-- The loop: all the tile's keys counted. -/
theorem wp_counting (d : Dev nD) (L : grid0.Coords) (kv : S6272.Idx → BitVec 32) (tv : S16.Idx → BitVec 32) (v23_r0 v23_r1 v23_r2 : DmaSems sig S_)
    {kk : IVec S16 32 × IVec S16 32 → Prog (TpuEff nD τ sig (Elt F) Λ₀ (thr d L).2) PUnit} {Q : PUnit → sProp 𝕄} (g : S49x128.Idx → BitVec 32) :
    (iprop((kyM.view.loc (thr d L) ↦{fullShare} kv) ∗ (plM.view.loc (thr d L) ↦{fullShare} g)) : sProp 𝕄)
      ⊢ iprop((∀ acc, Turn d L kv tv 392 acc -∗ Rest d L (kk acc) Q)
        -∗ Rest (F := F) d L (Scf.Loop.for k0_t1_loop k0_t1_ok (k0_pay1, k0_pay1)
          (k0_t1_body (F := F) L keysM (Memref.isWhole_whole _) thrM (Memref.isWhole_whole _) outM (Memref.isWhole_whole _) kyM (Memref.isWhole_whole _)
            plM (Memref.isWhole_whole _) cvM (Memref.isWhole_whole _) tvM (Memref.isWhole_whole _) cc0_scratch4 v23_r0 v23_r1 v23_r2 tv) >>= kk) Q) := by
  iintro ⟨HK, HP⟩
  iapply (Scf.wp_for_bind frame (wpE (defs₀ (F := F)) 𝒱₀ (thr d L) none) Set.univ k0_t1_loop.lb k0_t1_loop.ub k0_t1_loop.st k0_t1_ok (k0_pay1, k0_pay1) _
    (Turn d L kv tv) (wp_turn d L kv tv v23_r0 v23_r1 v23_r2))
  unfold Turn
  isplitr
  · ipureintro; exact ⟨counted_zero _ _ _, counted_zero _ _ _⟩
  isplitl [HK]; · iexact HK
  iexists _; iexact HP

/-! ## The task -/

/-- The words stored, as the copy out reads them. -/
theorem stored_read (inb) (h) (g : S128.Idx → BitVec 32) (w : S16.Idx → BitVec 32) :
    (cvM.slice (Rect.unit (s := S128) ![0] S16.size inb) h).view.read (Elt F)
      ((cvM.access (Rect.unit (s := S128) ![0] S16.size inb)).write (Elt F) g w Finset.univ) = w := by
  funext x
  exact View.read_slice_write_emb (Val := Elt F) (v := cvM.view) (Rect.unit (s := S128) ![0] S16.size inb) g w (Finset.mem_univ x)

theorem pos_S6272 : 0 < S6272.numel := by decide
theorem pos_S16 : 0 < S16.numel := by decide

set_option maxHeartbeats 4000000 in
set_option maxRecDepth 16384 in
/-- The tile's task. -/
theorem tile_run (d : Dev nD) (L : grid0.Coords) {O : CellTallies nD τ sig (HIx 1)} {W : Waits sig (HIx 1)} (hO : ∀ g, O g none = 0)
    {q : PosShare TreeShare} {keys : S100352.Idx → BitVec 32} {tv : S16.Idx → BitVec 32} {f : S256.Idx → BitVec 32} :
    (iprop(Ins d L q keys tv ∗ Outs d L f ∗ Bufs d L ∗ Sems d L ∗ Owe d L O W) : sProp 𝕄)
      ⊢ Rest (F := F) d L
          (cc0__count_body (F := F) L keysM (Memref.isWhole_whole _) thrM (Memref.isWhole_whole _) outM (Memref.isWhole_whole _)
            kyM (Memref.isWhole_whole _) plM (Memref.isWhole_whole _) cvM (Memref.isWhole_whole _) tvM (Memref.isWhole_whole _)
            cc0_scratch4 cc0_scoped0 cc0_scoped1 cc0_scoped2)
          fun _ => iprop(Ins d L q keys tv ∗ Outs d L (countOut keys tv) ∗ Bufs d L ∗ Sems d L ∗ Owe d L O W) := by
  simp only [cc0__count_body_eq_skeleton, cc0__count_body_skel, k0_part1_eq_skeleton, k0_part1_skel,
    Prog.lift, Prog.bind_op, Prog.bind_ret, Prog.pure_eq_ret, Prog.bind_assoc]
  unfold Ins Outs Bufs Sems
  iintro ⟨⟨Hkeys, Hthr⟩, Hout, ⟨⟨%fk, Hky⟩, ⟨%fp, Hpl⟩, ⟨%fc, Hcv⟩, ⟨%ft, Htv⟩⟩, ⟨Hs0, Hs1, Hs2, Hs3⟩, Howe⟩
  iapply (wp_copy d L hO (q := q) (Ss := Finset.univ) (fs := keys) (Sd := Finset.univ) (fd := fk) (Finset.subset_univ _) (Finset.subset_univ _)
    (View.dmaCredit_pos _ pos_S6272)) $$ [Hkeys Hky Hs1 Howe]
  · iframe Hkeys Hky Hs1 Howe
  iintro ⟨Hkeys, Hky, Hs1, Howe⟩
  rw [own_copied (t := tl L) (k0_off1_eq L)]
  iapply (wp_copy d L hO (q := q) (Ss := Finset.univ) (fs := tv) (Sd := Finset.univ) (fd := ft) (Finset.subset_univ _) (Finset.subset_univ _)
    (View.dmaCredit_pos _ pos_S16)) $$ [Hthr Htv Hs2 Howe]
  · iframe Hthr Htv Hs2 Howe
  iintro ⟨Hthr, Htv, Hs2, Howe⟩
  rw [show tvM.view.write (Elt F) ft (thrM.view.read (Elt F) tv) Finset.univ = tv from View.write_whole_univ _ _ _]
  unfold Rest
  iapply (wp_load 𝒱₀ (thr d L) none Set.univ (m := tvM) (S := Finset.univ) (q := fullShare) (Finset.subset_univ _)) $$ Htv
  iintro Htv
  rw [thr_read]
  iapply (wp_counting d L (ownKeys (tl L) keys) tv cc0_scoped0 cc0_scoped1 cc0_scoped2 fp) $$ [Hky Hpl]
  · iframe Hky Hpl
  iintro %acc HT
  rcases acc with ⟨a, b⟩
  simp only [Prog.lift, Prog.bind_op, Prog.bind_ret, Prog.pure_eq_ret, Prog.bind_assoc]
  unfold Turn Rest
  icases HT with ⟨%hc, Hky, %gp, Hpl⟩
  iapply (wp_load 𝒱₀ (thr d L) none Set.univ (m := cvM) (S := Finset.univ) (q := fullShare) (Finset.subset_univ _)) $$ Hcv
  iintro Hcv
  iapply (wp_store 𝒱₀ (thr d L) none Set.univ (m := cvM) (r := Rect.unit (s := S128) ![0] S16.size inb_S128_S16_0) (Mk := Finset.univ) (f := fc) (S := Finset.univ) (Finset.subset_univ _)) $$ Hcv
  iintro Hcv
  iapply (wp_copy d L hO (src := cvM.slice (Rect.unit (s := S128) ![0] S16.size inb_S128_S16_0) (fun _ => rfl))
    (dst := outM.slice (Rect.unit (s := S256) (k0_off4 L) S16.size (k0_off4_inb L)) (fun _ => rfl)) (q := fullShare) (Ss := Finset.univ)
    (fs := (cvM.access (Rect.unit (s := S128) ![0] S16.size inb_S128_S16_0)).write (Elt F) fc (k0_pay5 a b) Finset.univ)
    (Sd := blk 256 16 (tl L)) (fd := f) (Finset.subset_univ _)
    (out_window (k0_off4_eq L) _ _) (View.dmaCredit_pos _ pos_S16)) $$ [Hcv Hout Hs3 Howe]
  · iframe Hcv Hout Hs3 Howe
  iintro ⟨Hcv, Hout, Hs3, Howe⟩
  ihave Hout := (Entails.of_eq (pointsTo_congr fun y hy => counts_out (F := F) (t := tl L) (keys := keys) (tv := tv) (k0_off4_eq L) _ _ f
    ((stored_read (F := F) _ _ fc _).trans (published hc.1 hc.2)) hy)) $$ Hout
  iapply (rest_ret d L)
  iframe Hkeys Hthr Hout Hs0 Hs1 Hs2 Hs3 Howe
  isplitl [Hky]; · iexists _; iexact Hky
  isplitl [Hpl]; · iexists _; iexact Hpl
  isplitl [Hcv]; · iexists _; iexact Hcv
  iexists _; iexact Htv

end Cert.CountIdeal.Run

end
-- ==== Proof.CountTask.lean ====
/-
  The count's task as the launch theorem asks for it: what a tile owns of its own — four scratch buffers and four
  counters — and the task's run (CountBody.lean) over it.
-/
module

public import proofs.«01_k».proof.Proof.CountBody
public import proofs.«01_k».proof.Proof.GatherTask

@[expose] public section

noncomputable section

namespace Cert.CountIdeal.Run

open Cert.CountIdeal Cert.CountIdeal.Gen
open Cert.GatherIdeal.Run (at1 blk mem_blk shr)

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay ownBufs ownSems0 ownCells ownRefs mem_ownCells mem_ownRefs)

variable {F : FTy → Type} [FloatOps F]
local notation "𝕄" => MT nD τ sig (HIx 1) (Elt F) ℕ UU ℕ

/-- A family over a set that contains the values of an injective list: those values' members, and the rest. -/
theorem bigSep_listed {I : Type} [DecidableEq I] {n : ℕ} {s : Finset I} (e : Fin n ↪ I) (sub : ∀ j, e j ∈ s) (Φ : I → sProp 𝕄) :
    bigSep s Φ = iprop((bigSep Finset.univ fun j => Φ (e j)) ∗ bigSep (s \ Finset.univ.map e) Φ) := by
  have h : Finset.univ.map e ⊆ s := fun b hb => by
    obtain ⟨j, -, rfl⟩ := Finset.mem_map.mp hb
    exact sub j
  rw [SparseCore.bigSep_sdiff_split' h, bigSep_map]

theorem semOf_injective (d : Dev nD) (L : grid0.Coords) : Function.Injective (semOf d L) := fun a b e =>
  SemLoc.dma.inj (Prod.mk.inj e).2

/-- The tile's four counters are among those it owns at the start. -/
theorem semOf_mem (d : Dev nD) (L : grid0.Coords) (j : Fin 4) : semOf d L j ∈ ownCells (thr d L) :=
  mem_ownCells.mpr ⟨rfl, (show ∀ j : Fin 4, (SemLoc.dma j : SemLoc sig).isScoped .scVector = true by decide) j⟩

theorem ownSems0_tile (d : Dev nD) (L : grid0.Coords) :
    (ownSems0 (thr d L) : sProp 𝕄)
      = iprop(Sems d L ∗ bigSep (ownCells (thr d L) \ Finset.univ.map ⟨semOf d L, semOf_injective d L⟩) fun g => semVal g 0) := by
  unfold SparseCore.Cfg.ownSems0 Sems
  rw [bigSep_listed ⟨semOf d L, semOf_injective d L⟩ (semOf_mem d L),
    bigSep_univ_eq_bigSepL [0, 1, 2, 3] (by decide) (by decide)]
  rfl

/-- The tile's scratch buffers as the device lists them. -/
def scratch (L : grid0.Coords) : Fin 4 → DevRef τ sig := fun i =>
  (Proc.scVector (cV L) (jV L)).devRef ((![cc0_scratch0, cc0_scratch1, cc0_scratch2, cc0_scratch3] : Fin 4 → Ref sig .scVector) i)

theorem scratch_injective (L : grid0.Coords) : Function.Injective (scratch L) := fun i j e =>
  (show Function.Injective (![cc0_scratch0, cc0_scratch1, cc0_scratch2, cc0_scratch3] : Fin 4 → Ref sig .scVector) by decide) (Proc.devRef_injective _ e)

theorem scratch_mem (d : Dev nD) (L : grid0.Coords) (i : Fin 4) : scratch L i ∈ ownRefs (thr d L).2 := by
  fin_cases i <;> exact SparseCore.Cfg.mem_ownRefs_of_owner (p := Proc.scVector (cV L) (jV L)) rfl

theorem ownBufs_tile (d : Dev nD) (L : grid0.Coords) :
    (ownBufs (thr d L) : sProp 𝕄)
      = iprop(Bufs d L ∗ bigSep (ownRefs (thr d L).2 \ Finset.univ.map ⟨scratch L, scratch_injective L⟩) fun b => iprop(∃ f, ((d, b) : Loc nD τ sig) ↦{fullShare} f)) := by
  unfold SparseCore.Cfg.ownBufs Bufs
  rw [bigSep_listed ⟨scratch L, scratch_injective L⟩ (scratch_mem d L),
    bigSep_univ_eq_bigSepL [0, 1, 2, 3] (by decide) (by decide)]
  rfl

/-! ## A tile's part of the three arrays -/

abbrev jL (L : grid0.Coords) : Fin 16 := Fin.cast (show grid0.bound 1 = 16 from rfl) (L 1)

/-- Tile `i`'s part: a share of the padded keys and of the thresholds; its block of the result. -/
abbrev part (d : Dev nD) (i : Fin 16) (keys : S100352.Idx → BitVec 32) (tv : S16.Idx → BitVec 32) (f : S256.Idx → BitVec 32) : sProp 𝕄 :=
  iprop((keysLoc d ↦{shr i} keys) ∗ (thrLoc d ↦{shr i} tv) ∗ (outLoc d ↦[blk 256 16 i.val]{fullShare} f))

theorem part_open (d : Dev nD) (L : grid0.Coords) {keys : S100352.Idx → BitVec 32} {tv : S16.Idx → BitVec 32} {f : S256.Idx → BitVec 32} :
    (part d (jL L) keys tv f : sProp 𝕄) ⊢ iprop(Ins d L (shr (jL L)) keys tv ∗ Outs d L f) := by
  unfold Ins Outs
  iintro ⟨Hk, Ht, Ho⟩
  isplitl [Hk Ht]
  · isplitl [Hk]; · iexact Hk
    iexact Ht
  iexact Ho

theorem part_close (d : Dev nD) (L : grid0.Coords) {keys : S100352.Idx → BitVec 32} {tv : S16.Idx → BitVec 32} {f : S256.Idx → BitVec 32} :
    (iprop(Ins d L (shr (jL L)) keys tv ∗ Outs d L f) : sProp 𝕄) ⊢ part d (jL L) keys tv f := by
  unfold Ins Outs
  iintro ⟨⟨Hk, Ht⟩, Ho⟩
  isplitl [Hk]; · iexact Hk
  isplitl [Ht]; · iexact Ht
  iexact Ho

/-- The tile's task over what the launch gives it: its part of the arrays comes back with the result's block written,
    its own buffers and counters as they were. -/
theorem tile_body (d : Dev nD) (L : grid0.Coords) (hF : (K (F := F)).Facts)
    {keys : S100352.Idx → BitVec 32} {tv : S16.Idx → BitVec 32} {f : S256.Idx → BitVec 32}
    (O : CellTallies nD τ sig (HIx 1)) (W : Waits sig (HIx 1)) (hO : ∀ g, O g none = 0) :
    (iprop(levAts (K (F := F)).L (K (F := F)).lev ∗ emp ∗ part d (jL L) keys tv f
        ∗ scopedBufs (thr d L) ∗ scopedSems0 (thr d L) ∗ owes (thr d L) O W) : sProp 𝕄)
      ⊢ Rest (F := F) d L
          (cc0__count_body (F := F) L keysM (Memref.isWhole_whole _) thrM (Memref.isWhole_whole _) outM (Memref.isWhole_whole _)
            kyM (Memref.isWhole_whole _) plM (Memref.isWhole_whole _) cvM (Memref.isWhole_whole _) tvM (Memref.isWhole_whole _)
            cc0_scratch4 cc0_scoped0 cc0_scoped1 cc0_scoped2)
          fun _ => iprop(part d (jL L) keys tv (countOut keys tv)
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_tile, ownBufs_tile]
  iintro ⟨Hl, -, Hpart, ⟨Hbufs, Hbrest⟩, ⟨Hsems, Hsrest⟩, How⟩
  ihave HIO := (part_open d L) $$ Hpart
  icases HIO with ⟨Hins, Houts⟩
  ihave Hrun := (tile_run (F := F) d L hO (W := W)) $$ [Hins Houts Hbufs Hsems Hl How]
  · isplitl [Hins]; · iexact Hins
    isplitl [Houts]; · iexact Houts
    isplitl [Hbufs]; · iexact Hbufs
    isplitl [Hsems]; · iexact Hsems
    unfold Owe
    isplitl [Hl]; · iexact Hl
    iexists W
    isplitr
    · ipureintro; exact fun p hp => Or.inl hp
    iexact How
  iapply (wp_wand frame _ _) $$ Hrun
  iintro %_ ⟨Hins, Houts, Hbufs, Hsems, Howe⟩
  unfold Owe
  icases Howe with ⟨-, Howe⟩
  isplitl [Hins Houts]
  · iapply (part_close d L) $$ [Hins Houts]
    isplitl [Hins]; · iexact Hins
    iexact Houts
  isplitl [Hbufs Hbrest]
  · isplitl [Hbufs]; · iexact Hbufs
    iexact Hbrest
  isplitl [Hsems Hsrest]
  · isplitl [Hsems]; · iexact Hsems
    iexact Hsrest
  iexact Howe

end Cert.CountIdeal.Run

end
-- ==== Proof.CountLaunch.lean ====
/-
  The count's launch and run: the host's four operations, the one call over the three arrays its tiles share out, and
  what every unscoped array of the device holds at the end.
-/
module

public import proofs.«01_k».proof.Proof.CountTask

@[expose] public section

noncomputable section

namespace Cert.CountIdeal.Run

open Cert.CountIdeal Cert.CountIdeal.Gen
open Cert.GatherIdeal.Run (at1 blk mem_blk shr)

open Idealize.ShloMosaic Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.SparseCore.Cfg (HIx Pay)

variable {F : FTy → Type} [FloatOps F]
local notation "𝕄" => MT nD τ sig (HIx 1) (Elt F) ℕ UU ℕ

/-! ## The host's operations and the arrays the call starts from -/

/-- The host's operations before the call: the padded keys and sixteen copies of the threshold. -/
def hostOps : List (HloOp τ sig (Elt F)) := [
    StableHlo.nullary main_c (constantI S_ 32 4294967295#32),
    StableHlo.unary main_c main_v0 (broadcastInDim S352 ![] bcast_S_S352 : (⟨S_, .i32⟩ : BufTy).Contents (Elt F) → (⟨S352, .i32⟩ : BufTy).Contents (Elt F)),
    StableHlo.binary main_arg0 main_v0 main_v1 ((fun a b => concatenate S100352 0 [⟨S100000, a⟩, ⟨S352, b⟩] concatenates_S100000_S352_S100352_d0) : (⟨S100000, .i32⟩ : BufTy).Contents (Elt F) → (⟨S352, .i32⟩ : BufTy).Contents (Elt F) → (⟨S100352, .i32⟩ : BufTy).Contents (Elt F)),
    StableHlo.unary main_arg1 main_v2 (broadcastInDim S16 ![0] bcast_S1_S16_0 : (⟨S1, .i32⟩ : BufTy).Contents (Elt F) → (⟨S16, .i32⟩ : BufTy).Contents (Elt F))]

theorem main_eq (d : Dev nD) : main (F := F) d
    = (StableHlo.seq hostOps >>= fun _ => (sc (F := F)).run d 0 >>= fun _ => pure ⟨⟩) := rfl

variable (m : (ℓ : Loc nD τ sig) → Buf (Elt F) ℓ) (ρ : Dev nD → PrngReg)

/-- The device's arrays when the call starts. -/
def V5 (d : Dev nD) : Valuation τ sig (Elt F) := StableHlo.after hostOps fun b => m (d, b)

abbrev keysA (d : Dev nD) : S100352.Idx → BitVec 32 := V5 m d (main_v1 : DevRef τ sig)
abbrev thrA (d : Dev nD) : S16.Idx → BitVec 32 := V5 m d (main_v2 : DevRef τ sig)
abbrev old0 (d : Dev nD) : S256.Idx → BitVec 32 := V5 m d (main_v3 : DevRef τ sig)
abbrev new0 (d : Dev nD) : S256.Idx → BitVec 32 := countOut (keysA m d) (thrA m d)

/-- The device's arrays at the end: the result written. -/
def V6 (d : Dev nD) : Valuation τ sig (Elt F) := Function.update (V5 m d) (main_v3 : DevRef τ sig) (new0 m d)

/-! ## The arrays shared out among the tiles -/

theorem pts_blocks {ℓ : Loc nD τ sig} {q : PosShare TreeShare} {f : Buf (Elt F) ℓ} (B : Fin 16 → Finset (Idx ℓ)) (key : Idx ℓ → Fin 16)
    (hB : ∀ i y, y ∈ B i ↔ key y = i) : (ℓ ↦{q} f : sProp 𝕄) = bigSep Finset.univ fun i : Fin 16 => ℓ ↦[B i]{q} f := by
  have hc : (Finset.univ : Finset (Fin 16)).biUnion B = Finset.univ :=
    Finset.eq_univ_iff_forall.mpr fun y => Finset.mem_biUnion.mpr ⟨key y, Finset.mem_univ _, (hB _ _).mpr rfl⟩
  rw [← pointsTo_biUnion Finset.univ B fun i _ j _ hij => Finset.disjoint_left.mpr fun y hi hj =>
    hij (((hB _ _).mp hi).symm.trans ((hB _ _).mp hj)), hc]

theorem pts_shares {ℓ : Loc nD τ sig} {f : Buf (Elt F) ℓ} :
    (ℓ ↦{fullShare} f : sProp 𝕄) = bigSep Finset.univ fun i : Fin 16 => ℓ ↦{shr i} f :=
  pointsTo_piecesOf Finset.univ f (by decide) fullShare

/-- The three arrays of the call, whole. -/
abbrev whole (d : Dev nD) (keys : S100352.Idx → BitVec 32) (tv : S16.Idx → BitVec 32) (f : S256.Idx → BitVec 32) : sProp 𝕄 :=
  iprop((keysLoc d ↦{fullShare} keys) ∗ (thrLoc d ↦{fullShare} tv) ∗ (outLoc d ↦{fullShare} f))

/-- Whole they are the sixteen tiles' parts. -/
theorem whole_eq (d : Dev nD) (keys : S100352.Idx → BitVec 32) (tv : S16.Idx → BitVec 32) (f : S256.Idx → BitVec 32) :
    (whole d keys tv f : sProp 𝕄) = bigSep Finset.univ fun i : Fin 16 => part d i keys tv f := by
  have h0 := pts_blocks (F := F) (ℓ := outLoc d) (q := fullShare) (f := f) (fun i => blk 256 16 i.val)
    (fun y => ⟨(y 0).val / 16, by have := (y 0).isLt; change _ < 256 at this; omega⟩) (fun i y => mem_blk.trans (by rw [Fin.ext_iff]))
  unfold whole part
  rw [bigSep_sep', bigSep_sep', ← h0, ← pts_shares, ← pts_shares]

/-! ## What the handshakes carry -/

/-- The call takes the three arrays whole and brings them back with the result written; each tile its part of them. -/
def P : (K (F := F)).Pay (nD := nD) (Val := Elt F) (Name := ℕ) (U := UU) where
  st := fun q d _ => match q with | 0 => whole d (keysA m d) (thrA m d) (old0 m d)
  dn := fun q d _ => match q with | 0 => whole d (keysA m d) (thrA m d) (new0 m d)
  go := fun q d _ i => match q with
    | 0 => part d (Fin.cast nSub_zero i) (keysA m d) (thrA m d) (old0 m d)
  td := fun q d _ i => match q with
    | 0 => part d (Fin.cast nSub_zero i) (keysA m d) (thrA m d) (new0 m d)
  x := fun _ _ => iprop(emp)

instance P_storable : (P (F := F) m).IsStorable where
  st q d _ := match q with
    | 0 => (inferInstance : BI.Storable (upEmb : UEmb _ 𝕄) (whole d (keysA m d) (thrA m d) (old0 m d)))
  dn q d _ := match q with
    | 0 => (inferInstance : BI.Storable (upEmb : UEmb _ 𝕄) (whole d (keysA m d) (thrA m d) (new0 m d)))
  go q d _ i := match q with
    | 0 => (inferInstance : BI.Storable (upEmb : UEmb _ 𝕄)
      (part d (Fin.cast nSub_zero i) (keysA m d) (thrA m d) (old0 m d)))
  td q d _ i := match q with
    | 0 => (inferInstance : BI.Storable (upEmb : UEmb _ 𝕄)
      (part d (Fin.cast nSub_zero i) (keysA m d) (thrA m d) (new0 m d)))

/-! ## The tiles' obligation -/

def coordsV (c : Fin (grid0.bound 0)) (s : Fin (grid0.bound 1)) : grid0.Coords
  | 0 => c
  | 1 => s
  | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s =>
      cc0__count_body (F := F) (coordsV c s) keysM (Memref.isWhole_whole _) thrM (Memref.isWhole_whole _) outM (Memref.isWhole_whole _)
            kyM (Memref.isWhole_whole _) plM (Memref.isWhole_whole _) cvM (Memref.isWhole_whole _) tvM (Memref.isWhole_whole _)
            cc0_scratch4 cc0_scoped0 cc0_scoped1 cc0_scoped2) ⟨⟩ c s := rfl

theorem obl_post {A B C : sProp 𝕄} {thr : Thread nD τ} {O : CellTallies nD τ sig (HIx 1)} {W : Waits sig (HIx 1)} {q : HIx 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = q⌝ ∗ owes thr O W') := by
  iintro ⟨HA, HB, HC, %W', %hW, HO⟩
  isplitl [HA]; · iexact HA
  isplitl [HB]; · iexact HB
  isplitl [HC]; · iexact HC
  iexists W'
  isplitr
  · ipureintro; exact fun p hp => (hW p hp).imp_right Or.inl
  iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body d (coordsV ⟨_, hci.1⟩ ⟨_, hci.2⟩) hF O W hO).trans (wp_mono frame _ _ fun _ => obl_post)

/-! ## The call's own split and the launch's ghost state -/

theorem bigSep_tasks (Φ : Fin 16 → sProp 𝕄) : (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show whole d (keysA m d) (thrA m d) (old0 m d) ⊢ |={Set.univ}=> iprop(
      (bigSep Finset.univ fun i : Fin ((K (F := F)).nSub 0) =>
        part d (Fin.cast nSub_zero i) (keysA m d) (thrA m d) (old0 m d))
      ∗ ((bigSep Finset.univ fun i : Fin ((K (F := F)).nSub 0) =>
          part d (Fin.cast nSub_zero i) (keysA m d) (thrA m d) (new0 m d))
          -∗ whole d (keysA m d) (thrA m d) (new0 m d)))
  rw [bigSep_tasks (F := F) (fun i => part d i (keysA m d) (thrA m d) (old0 m d)),
    bigSep_tasks (F := F) (fun i => part d i (keysA m d) (thrA m d) (new0 m d)), whole_eq, whole_eq]
  iintro H; imodintro
  isplitl [H]; · iexact H
  iintro H
  iexact H

def u₀ : UU := (initOf (K (F := F)).hsCells (K (F := F)).hsToks, 1)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## @main on the TensorCore -/

/-- The three arrays of the call, as the device lists them. -/
def arrRefs : Fin 3 → DevRef τ sig := fun i =>
  Proc.devRef .tc ((![main_v1, main_v2, main_v3] : Fin 3 → Ref sig .tc) i)

theorem arrRefs_injective : Function.Injective arrRefs := fun i j e =>
  (show Function.Injective (![main_v1, main_v2, main_v3] : Fin 3 → Ref sig .tc) by decide)
    (Proc.devRef_injective _ e)

theorem arrRefs_mem (i : Fin 3) : arrRefs i ∈ Pipeline.ucRefs τ sig :=
  Finset.mem_filter.mpr ⟨StableHlo.devRef_mem_tcRefs _,
    (show ∀ i : Fin 3, ¬ (Proc.devRef (τ := τ) .tc ((![main_v1, main_v2, main_v3] : Fin 3 → Ref sig .tc) i)).isScoped by decide) i⟩

abbrev others : Finset (DevRef τ sig) := Pipeline.ucRefs τ sig \ Finset.univ.map ⟨arrRefs, arrRefs_injective⟩

/-- The device's unscoped arrays are the call's three and the others. -/
theorem held_split_arrs (d : Dev nD) (W : Valuation τ sig (Elt F)) :
    (held (SparseCore.T d) (Pipeline.ucRefs τ sig) W : sProp 𝕄)
      = iprop(whole d (W (main_v1 : DevRef τ sig)) (W (main_v2 : DevRef τ sig)) (W (main_v3 : DevRef τ sig)) ∗ held (SparseCore.T d) others W) := by
  unfold held
  rw [bigSep_listed ⟨arrRefs, arrRefs_injective⟩ arrRefs_mem, bigSep_univ_eq_bigSepL [0, 1, 2] (by decide) (by decide)]
  rfl

theorem V6_of_ne (d : Dev nD) {b : DevRef τ sig} (h0 : b ≠ main_v3) : V6 m d b = V5 m d b := by
  unfold V6
  rw [Function.update_of_ne h0]
theorem V6_new0 (d : Dev nD) : V6 m d (main_v3 : DevRef τ sig) = new0 m d := by
  unfold V6
  rw [Function.update_self]

theorem held_others (d : Dev nD) : (held (SparseCore.T d) others (V6 m d) : sProp 𝕄) = held (SparseCore.T d) others (V5 m d) :=
  StableHlo.held_congr _ fun b hb => by
    have hn (i : Fin 3) : b ≠ arrRefs i := fun e => (Finset.mem_sdiff.mp hb).2 (Finset.mem_map.mpr ⟨i, Finset.mem_univ _, e.symm⟩)
    exact V6_of_ne m d (hn 2)

theorem st0_eq (d : Dev nD) : (bigSep Finset.univ fun c : Fin ((K (F := F)).nCore 0) => (P m).st 0 d c)
    = whole d (keysA m d) (thrA m d) (old0 m d) := bigSep_univ_of_subsingleton (0 : Fin 1)
theorem dn0_eq (d : Dev nD) : (bigSep Finset.univ fun c : Fin ((K (F := F)).nCore 0) => (P m).dn 0 d c)
    = whole d (keysA m d) (thrA m d) (new0 m d) := bigSep_univ_of_subsingleton (0 : Fin 1)

abbrev FIN (d : Dev nD) : sProp 𝕄 := held (SparseCore.T d) (Pipeline.ucRefs τ sig) (V6 m d)

theorem fin_of (d : Dev nD) : (iprop(whole d (keysA m d) (thrA m d) (new0 m d)
    ∗ held (SparseCore.T d) others (V5 m d)) : sProp 𝕄) ⊢ FIN m d := by
  unfold FIN
  rw [held_split_arrs, held_others, V6_new0, V6_of_ne m d (b := main_v1) (by decide), V6_of_ne m d (b := main_v2) (by decide)]

theorem hostOps_sub : ∀ op ∈ hostOps (F := F), op.bufs ⊆ Pipeline.ucRefs τ sig := by
  have h : (hostOps (F := F)).Forall fun op => op.bufs ⊆ StableHlo.tcRefs τ sig := by
    unfold hostOps
    simp only [List.forall_cons, List.Forall, StableHlo.nullary_bufs_sub, StableHlo.unary_bufs_sub, StableHlo.binary_bufs_sub, and_self]
  exact fun op ho => Pipeline.sub_ucRefs op (List.forall_iff_forall_mem.mp h op ho)

theorem hostOps_fresh : ∀ op ∈ hostOps (F := F), op.fresh = ∅ := by
  have h : (hostOps (F := F)).Forall fun op => op.fresh = ∅ := by
    unfold hostOps
    exact ⟨rfl, rfl, rfl, rfl⟩
  exact fun op ho => List.forall_iff_forall_mem.mp h op ho

/-- @main: the host's operations, then the call from the three arrays; every unscoped array kept at its last contents. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (fun b => m (d, b))
    from Pipeline.unscopedBufs_held d fun b => m (d, b), main_eq]
  iintro ⟨#Hctx, Hst, ⟨Hb, Hheld, Hts, -⟩, -⟩
  iapply (StableHlo.wp_seq 𝒱 none Set.univ d (Pipeline.ucRefs τ sig) _ hostOps hostOps_sub hostOps_fresh (fun b => m (d, b))) $$ [Hb Hheld]
  · isplitl [Hb] <;> iassumption
  iintro ⟨Hb, Hheld⟩
  ihave Hh := (show (held (d.tc : Thread nD τ) (Pipeline.ucRefs τ sig) (StableHlo.after hostOps fun b => m (d, b)) : sProp 𝕄) ⊢ _
    from Entails.of_eq (held_split_arrs d (V5 m d))) $$ Hheld
  icases Hh with ⟨Harr, Hrest⟩
  simp only [wp_bind, wp_pure]
  iapply ((K (F := F)).wp_run (D (F := F)) 𝒱 (EH := EH) (P := P m) κ d 0) $$ [Hst Harr Hrest Hb Hts]
  isplitr; · iexact Hctx
  isplitl [Hst]; · iexact Hst
  isplitl [Harr]
  · rw [st0_eq]; iexact Harr
  iintro ⟨Hst, Hdn⟩
  ihave Hdn' := (Entails.of_eq (dn0_eq m d)) $$ Hdn
  imodintro
  isplitl [Hst]; · iexact Hst
  isplitr [Hb Hts]
  · iapply (fin_of m d) $$ [Hdn' Hrest]
    isplitl [Hdn'] <;> iassumption
  isplitl [Hb] <;> iassumption

def fq (d : Dev nD) (s' : Phys nD τ sig (Elt F)) : Prop := ∀ b ∈ Pipeline.ucRefs τ sig, s'.mem.mem (d, b) = V6 m d b

theorem hfin (d : Dev nD) (s' : Phys nD τ sig (Elt F)) : iprop(FIN m d ∗ SI s') ⊢ (⌜fq m d s'⌝ : sProp 𝕄) :=
  BI.sep_comm.trans (SI_pointsTo_bufs_agree (st := s') (qs := fun _ => fullShare) (F := V6 m d) (Pipeline.ucRefs τ sig))

/-! ## The program's run -/

/-- Every unscoped array at its last contents, every semaphore at zero. -/
def QC : PUnit × MemSt nD τ sig (Elt F) → Prop := fun r => (∀ d : Dev nD, ∀ b ∈ Pipeline.ucRefs τ sig, r.2.mem (d, b) = V6 m d b) ∧ r.2.sem = fun _ => 0

theorem run_main [∀ e, Nonempty (Elt F e)] :
    θ_run (Cert.CountIdeal.defs (F := F)) (Cert.CountIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.CountIdeal.Run

end
-- ==== Proof.CountRef.lean ====
/-
  The count's reference, entry by entry: its result is the kernel's function of the padded keys and the threshold.
-/
module

public import proofs.«01_k».proof.Proof.CountSetup
public import proofs.«01_k».proof.Proof.Gen.CountReferenceIdeal.Run
public import Idealize.ShloMosaic.Lib.StableHlo.Predicate
public import Idealize.ShloMosaic.Lib.Pointwise
public import Idealize.ShloMosaic.Lib.ValueLayout

@[expose] public section

set_option maxRecDepth 16384

noncomputable section

namespace Cert.CountReferenceIdeal.Value

open Idealize.ShloMosaic Idealize.ShloMosaic.TcCoe Idealize.SL.Sem Cert.CountReferenceIdeal.Gen
open Cert.GatherIdeal.Run (at1 at1_eq at1_val)
open Cert.CountIdeal.Run (hit total total_eq ownKeys counts countOut)

variable (keys : IVec S100352 32) (c : IVec S1 32)

theorem one_index (x y : S1.Idx) : x = y := by
  funext a
  match a with
  | 0 => exact Subsingleton.elim (α := Fin 1) _ _

/-- The comparison of every key with the threshold, a row for each tile. -/
def mask (p : CmpIPredicate) : IVec S16x6272 1 :=
  cmpi p (shapeCast S16x6272 keys shapeCasts_S100352_S16x6272) (broadcastInDim S16x6272 ![] bcast_S_S16x6272 (shapeCast S_ c shapeCasts_S1_S_))

theorem mask_apply (p : CmpIPredicate) (r : Fin 16) (q : Fin 6272) :
    mask keys c p (StableHlo.Predicate.ij r q) = IntOp.cmpi p (keys (at1 (by decide) (6272 * r.val + q.val))) (c (ix1 0)) := by
  have hr := r.isLt
  have hq := q.isLt
  refine congrArg₂ (IntOp.cmpi p) (shapeCast_apply keys shapeCasts_S100352_S16x6272 _ _ ?_) (congrArg c (one_index _ _))
  rw [Shape.rowMajor_val_one, Shape.rowMajor_val_two]
  show (6272 * r.val + q.val) % 100352 = r.val * 6272 + q.val
  omega

theorem ofNat_self (x : BitVec 32) : BitVec.ofNat 32 x.toNat = x := by simp

/-- A row's count is the tile's. -/
theorem row_count (p : CmpIPredicate) (j : S16.Idx) :
    Host.reduce IntOp.addi (extui 32 (mask keys c p) natLt_1_32) (constantI S_ 32 0#32) reducesTo_S16x6272_S16_d1 h_S_ j
      = BitVec.ofNat 32 (total p (ownKeys (j 0).val keys) (fun _ => c (ix1 0))) := by
  have h := StableHlo.Predicate.toNat_reduce_count_cols (n := 16) (m := 6272) (by decide) (mask keys c p) natLt_1_32 reducesTo_S16x6272_S16_d1 h_S_ j
  rw [← ofNat_self (Host.reduce IntOp.addi (extui 32 (mask keys c p) natLt_1_32) (constantI S_ 32 0#32) reducesTo_S16x6272_S16_d1 h_S_ j), h]
  refine congrArg (BitVec.ofNat 32) ?_
  rw [total_eq, Finset.card_filter, Finset.sum_range]
  refine Finset.sum_congr rfl fun q _ => ?_
  refine (congrArg (fun b : BitVec 1 => if b = 1#1 then 1 else 0) (mask_apply keys c p (j 0) q)).trans ?_
  unfold hit ownKeys
  rw [at1_val (by decide) q.isLt]

/-- A column of the rows' counts. -/
theorem column (v : IVec S16 32) (r : Fin 16) : broadcastInDim S16x1 ![0] bcast_S16_S16x1_0 v (ix2 r (0 : Fin 1)) = v (ix1 r) := by pointwise

/-- The reference's result. -/
theorem count_eq (b : S1.BroadcastsInDim ⟨1, ![16]⟩ ![0]) :
    shapeCast S256 (concatenate S16x16 1
      [⟨S16x2, concatenate S16x2 1
        [⟨S16x1, broadcastInDim S16x1 ![0] bcast_S16_S16x1_0 (Host.reduce IntOp.addi (extui 32 (mask keys c .sgt) natLt_1_32) (constantI S_ 32 0#32) reducesTo_S16x6272_S16_d1 h_S_)⟩,
          ⟨S16x1, broadcastInDim S16x1 ![0] bcast_S16_S16x1_0 (Host.reduce IntOp.addi (extui 32 (mask keys c .eq) natLt_1_32) (constantI S_ 32 0#32) reducesTo_S16x6272_S16_d1 h_S_)⟩]
          concatenates_S16x1_S16x1_S16x2_d1⟩,
        ⟨S16x14, broadcastInDim S16x14 ![] bcast_S_S16x14 (constantI S_ 32 0#32)⟩] concatenates_S16x2_S16x14_S16x16_d1) shapeCasts_S16x16_S256
      = countOut keys (broadcastInDim ⟨1, ![16]⟩ ![0] b c) := by
  funext y
  have hy : (y 0).val < 256 := (y 0).isLt
  let r : Fin 16 := ⟨(y 0).val / 16, by omega⟩
  let q : Fin 16 := ⟨(y 0).val % 16, by omega⟩
  rw [show broadcastInDim ⟨1, ![16]⟩ ![0] b c = fun _ => c (ix1 0) from funext fun _ => congrArg c (one_index _ _)]
  refine (shapeCast_apply _ shapeCasts_S16x16_S256 y (ix2 r q) ?_).trans ?_
  · rw [Shape.rowMajor_val_one, Shape.rowMajor_val_two]
    show (y 0).val / 16 * 16 + (y 0).val % 16 = (y 0).val
    omega
  have hq : ((at1 (N := 16) (by decide) ((y 0).val % 16)) 0).val = (y 0).val % 16 := at1_val _ (by omega)
  unfold countOut counts
  rw [hq]
  by_cases h0 : (y 0).val % 16 = 0
  · rw [if_pos h0]
    refine (concatenate_pair_apply_left (t := S16x16) (s₁ := S16x2) (s₂ := S16x14) 1 _ _ _ _ rfl (ix2 r (0 : Fin 2)) ?_).trans
      ((concatenate_pair_apply_left (t := S16x2) (s₁ := S16x1) (s₂ := S16x1) 1 _ _ _ _ rfl (ix2 r (0 : Fin 1)) ?_).trans ((column _ r).trans (row_count keys c .sgt (ix1 r))))
    · intro a
      match a with
      | 0 => rfl
      | 1 => exact h0.symm
    · intro a
      match a with
      | 0 => rfl
      | 1 => rfl
  rw [if_neg h0]
  by_cases h1 : (y 0).val % 16 = 1
  · rw [if_pos h1]
    refine (concatenate_pair_apply_left (t := S16x16) (s₁ := S16x2) (s₂ := S16x14) 1 _ _ _ _ rfl (ix2 r (1 : Fin 2)) ?_).trans
      ((concatenate_pair_apply_right (t := S16x2) (s₁ := S16x1) (s₂ := S16x1) 1 _ _ _ _ rfl rfl (ix2 r (0 : Fin 1)) ?_ rfl).trans ((column _ r).trans (row_count keys c .eq (ix1 r))))
    · intro a
      match a with
      | 0 => rfl
      | 1 => exact h1.symm
    · intro a ha
      match a with
      | 0 => rfl
      | 1 => exact absurd rfl ha
  rw [if_neg h1]
  refine (concatenate_pair_apply_right (t := S16x16) (s₁ := S16x2) (s₂ := S16x14) 1 _ _ _ _ rfl rfl (ix2 r (⟨(y 0).val % 16 - 2, by omega⟩ : Fin 14)) ?_ ?_).trans rfl
  · intro a ha
    match a with
    | 0 => rfl
    | 1 => exact absurd rfl ha
  · show (y 0).val % 16 - 2 + 2 = (y 0).val % 16
    omega

end Cert.CountReferenceIdeal.Value

end
-- ==== Proof.CountValue.lean ====
/-
  The count's claims: what the call starts from over the argument arrays, the arguments kept, the frames of the three
  programs, and the equation of the kernel's and the reference's results.
-/
module

public import proofs.«01_k».proof.Proof.CountLaunch
public import proofs.«01_k».proof.Proof.CountRef
public import proofs.«01_k».proof.Proof.Gen.Count
public import Idealize.ShloMosaic.Lib.Claim

@[expose] public section

set_option maxRecDepth 16384

noncomputable section

namespace Cert.CountIdeal.Run

open Cert.CountIdeal Cert.CountIdeal.Gen
open Idealize.ShloMosaic Idealize.ShloMosaic.TcCoe Idealize.SL.Sem

section

variable {F : FTy → Type} [FloatOps F]
variable (m : (ℓ : Loc nD τ sig) → Buf (Elt F) ℓ) (d : Dev nD)

/-- The host's operations leave the arguments alone. -/
theorem V5_arg0 : V5 m d (main_arg0 : DevRef τ sig) = m (d, main_arg0) := by unfold V5 hostOps; after_results <;> rfl
theorem V5_arg1 : V5 m d (main_arg1 : DevRef τ sig) = m (d, main_arg1) := by unfold V5 hostOps; after_results <;> rfl

/-- The keys, then 352 words of ones. -/
theorem keysA_eq : keysA m d = concatenate S100352 0 [⟨S100000, (m (d, main_arg0) : S100000.Idx → BitVec 32)⟩,
    ⟨S352, broadcastInDim S352 ![] bcast_S_S352 (constantI S_ 32 4294967295#32)⟩] concatenates_S100000_S352_S100352_d0 := by
  unfold keysA V5 hostOps; after_results <;> rfl

/-- Sixteen copies of the threshold. -/
theorem thrA_eq : thrA m d = broadcastInDim S16 ![0] bcast_S1_S16_0 (m (d, main_arg1) : S1.Idx → BitVec 32) := by
  unfold thrA V5 hostOps; after_results <;> rfl

theorem mem_uc (b : Ref sig .tc) (h : ¬ (Proc.devRef (τ := τ) .tc b).isScoped) : (Proc.devRef .tc b : DevRef τ sig) ∈ Pipeline.ucRefs τ sig :=
  Finset.mem_filter.mpr ⟨StableHlo.devRef_mem_tcRefs b, h⟩

variable {m} {r : PUnit × MemSt nD τ sig (Elt F)}

/-- An array the call does not write ends as the host's operations left it. -/
theorem QC.at (h : QC m r) (b : Ref sig .tc) (hb : ¬ (Proc.devRef (τ := τ) .tc b).isScoped)
    (h0 : Proc.devRef .tc b ≠ (main_v3 : DevRef τ sig)) :
    r.2.mem (d, Proc.devRef .tc b) = V5 m d (Proc.devRef .tc b) := (h.1 d _ (mem_uc b hb)).trans (V6_of_ne m d h0)

theorem QC.kept (h : QC m r) :
    r.2.mem ((d.tc : Thread nD τ).loc main_arg0) = m ((d.tc : Thread nD τ).loc main_arg0)
    ∧ r.2.mem ((d.tc : Thread nD τ).loc main_arg1) = m ((d.tc : Thread nD τ).loc main_arg1) :=
  ⟨(h.at d main_arg0 (by decide) (by decide)).trans (V5_arg0 m d), (h.at d main_arg1 (by decide) (by decide)).trans (V5_arg1 m d)⟩

end

/-- The count over the machine's words runs to its end with its arguments kept and every semaphore at zero. -/
theorem frame_bits : Cert.quiescent_Count := fun m ρ _ =>
  (θ_run Cert.CountIdeal.defs _ _).mono (fun _ h => ⟨fun c => QC.kept c h, h.2⟩) (run_main (F := Bits) m ρ)

/-- The same over the extended reals. -/
theorem frame_ideal : Cert.quiescent_CountIdeal := fun m ρ _ =>
  (θ_run Cert.CountIdeal.defs _ _).mono (fun _ h => ⟨fun c => QC.kept c h, h.2⟩) (run_main (F := Ideal) m ρ)

/-- The count's reference keeps its arguments. -/
theorem frame_reference : Cert.quiescent_CountReferenceIdeal := fun m ρ _ =>
  (θ_run Cert.CountReferenceIdeal.defs _ _).mono
    (fun r h => ⟨fun c => (h c).2, Idealize.ShloMosaic.sem_eq_zero_of_no_sems (by decide) r.2⟩)
    (Cert.CountReferenceIdeal.Value.run (F := Ideal) m ρ)

/-- Over the extended reals the count and its reference end with the same array. -/
theorem value : Cert.algebraic_CountIdeal_CountReferenceIdeal := by
  intro m g m' g' _ hagree
  refine ⟨fun c => new0 m c, ?_, ?_⟩
  · exact (θ_run Cert.CountIdeal.defs _ _).mono
      (fun _ h c => ⟨(h.1 c _ (mem_uc main_v3 (by decide))).trans (V6_new0 m c), QC.kept c h⟩) (run_main (F := Ideal) m g)
  · refine (θ_run Cert.CountReferenceIdeal.defs _ _).mono (fun r h c => ?_) (Cert.CountReferenceIdeal.Value.run (F := Ideal) m' g')
    obtain ⟨h0, rest⟩ := h c
    obtain ⟨e0, e1⟩ := hagree c
    rw [e0, e1] at h0
    beta_reduce
    unfold new0
    rw [keysA_eq, thrA_eq]
    exact ⟨h0.trans (Cert.CountReferenceIdeal.Value.count_eq _ _ _), rest⟩

end Cert.CountIdeal.Run

end
-- ==== Proof.PlaceSetup.lean ====
/-
  The place stage's launch: the program as the launch theorem sees it, the arrays, and the slot a tile gives each of its
  keys — the keys above the threshold in order from slot 0, after them the keys at the threshold up to slot 2000, and
  every other key a spare slot of its own.
-/
module

public import proofs.«01_k».proof.Proof.GatherWindows
public import proofs.«01_k».proof.Proof.Gen.PlaceIdeal
public import proofs.«01_k».proof.Proof.Gen.PlaceIdeal.Skeleton
public import Idealize.ShloMosaic.Lib.Routing.Ops
public import Idealize.ShloMosaic.Lib.ValueIdxCore
public import Idealize.ShloMosaic.Lib.Pipeline.Value
public import Idealize.ShloMosaic.Lib.Pointwise.ElementwiseCore

@[expose] public section

noncomputable section

namespace Cert.PlaceIdeal.Run

open Cert.PlaceIdeal Cert.PlaceIdeal.Gen
open Cert.GatherIdeal.Run (at1 at1_val at1_self at1_eq read_window cast_row)

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The resource algebra: the handshakes' rounds library, the transfers' counters. -/
abbrev UH : Type := URounds (GSem nD τ sig) ℕ
abbrev UU : Type := UH × Counters
abbrev EH : Emb UH (MT nD τ sig (HIx 1) (Elt F) ℕ UU ℕ) := embL

/-! ## The arrays, and a tile's buffers -/

abbrev keysLoc (d : Dev nD) : Loc nD τ sig := (SparseCore.T d).loc main_v1
abbrev parLoc (d : Dev nD) : Loc nD τ sig := (SparseCore.T d).loc main_v4
abbrev cntLoc (d : Dev nD) : Loc nD τ sig := (SparseCore.T d).loc main_arg3
abbrev outLoc (d : Dev nD) : Loc nD τ sig := (SparseCore.T d).loc main_v5

/-- The padded keys, the copies of the threshold and of the number of keys above it, the counts and the result, as a tile
    addresses them. -/
abbrev keysM : Memref sig .scVector .hbm S100352 .i32 := Memref.whole main_v1_scv
abbrev parM : Memref sig .scVector .hbm S32 .i32 := Memref.whole main_v4_scv
abbrev cntM : Memref sig .scVector .hbm S256 .i32 := Memref.whole main_arg3_scv
abbrev outM : Memref sig .scVector .hbm S102400 .i32 := Memref.whole main_v5_scv
/-- A tile's scratch: its keys, their slots, their numbers, its copy of the counts, its copy of the thresholds. -/
abbrev kyM : Memref sig .scVector .vmem S6272 .i32 := Memref.whole cc0_scratch0
abbrev plM : Memref sig .scVector .vmem S49x128 .i32 := Memref.whole cc0_scratch1
abbrev giM : Memref sig .scVector .vmem S49x128 .i32 := Memref.whole cc0_scratch2
abbrev cvM : Memref sig .scVector .vmem S256 .i32 := Memref.whole cc0_scratch3
abbrev pvM : Memref sig .scVector .vmem S32 .i32 := Memref.whole cc0_scratch4

/-! ## The slots a tile gives its keys -/

/-- One if the comparison of key and threshold holds, else zero. -/
def hit (p : CmpIPredicate) (k c : BitVec 32) : BitVec 32 := if IntOp.cmpi p k c = 1#1 then 1#32 else 0#32

/-- The threshold of key `i`'s lane. -/
def thrAt (par : S32.Idx → BitVec 32) (i : ℕ) : BitVec 32 := par (at1 (by decide) (i % 16))
/-- The number of keys above the threshold, from key `i`'s lane. -/
def overAt (par : S32.Idx → BitVec 32) (i : ℕ) : BitVec 32 := par (at1 (by decide) (16 + i % 16))

/-- Of the first `n` keys, those for which the comparison with the threshold holds. -/
def rank (p : CmpIPredicate) (kv : S6272.Idx → BitVec 32) (par : S32.Idx → BitVec 32) (n : ℕ) : BitVec 32 :=
  ∑ i ∈ Finset.range n, hit p (kv (at1 (by decide) i)) (thrAt par i)

/-- A word, or zero if it is negative. -/
def pos (c : BitVec 32) : BitVec 32 := if c.toNat < 2147483648 then c else 0#32

/-- Word `w` of the counts of the first `t` tiles, summed. -/
def before (cnt : S256.Idx → BitVec 32) (w t : ℕ) : BitVec 32 := ∑ j ∈ Finset.range t, pos (cnt (at1 (by decide) (16 * j + w)))

/-- Tile `t`'s own keys. -/
def ownKeys (t : ℕ) (keys : S100352.Idx → BitVec 32) : S6272.Idx → BitVec 32 := fun x => keys (at1 (by decide) (6272 * t + (x 0).val))

/-- A key's slot as one at the threshold. -/
def second (kv : S6272.Idx → BitVec 32) (par : S32.Idx → BitVec 32) (cnt : S256.Idx → BitVec 32) (t p : ℕ) : BitVec 32 :=
  overAt par p + before cnt 1 t + rank .eq kv par p

/-- The slot of tile `t`'s key `p`. -/
def place (kv : S6272.Idx → BitVec 32) (par : S32.Idx → BitVec 32) (cnt : S256.Idx → BitVec 32) (t p : ℕ) : BitVec 32 :=
  if IntOp.cmpi .sgt (kv (at1 (by decide) p)) (thrAt par p) = 1#1 then before cnt 0 t + rank .sgt kv par p
  else if IntOp.cmpi .eq (kv (at1 (by decide) p)) (thrAt par p) = 1#1 ∧ IntOp.cmpi .slt (second kv par cnt t p) 2000#32 = 1#1 then
    second kv par cnt t p
  else 2048#32 + BitVec.ofNat 32 (6272 * t + p)

/-- The slot of key `p` of tile `t`. -/
def slot (keys : S100352.Idx → BitVec 32) (par : S32.Idx → BitVec 32) (cnt : S256.Idx → BitVec 32) (t p : ℕ) : BitVec 32 :=
  place (ownKeys t keys) par cnt t p

/-! ## The running sums and maxima of sixteen lanes -/

/-- A running sum, at each lane, is the sum of the lanes up to it. -/
theorem scan_sum {v : S16.Idx → BitVec 32} {f : ℕ → BitVec 32} (h : ∀ x, v x = f (x 0).val) (x : S16.Idx) :
    scan .sum v x = ∑ l ∈ Finset.range ((x 0).val + 1), f l := by
  have key : ∀ j : Fin 16, ((List.finRange 16).filter fun k => decide (0 < k.val ∧ k.val ≤ j.val)).foldl (fun r k => IntOp.addi r (f k.val)) (f 0)
      = ∑ l ∈ Finset.range (j.val + 1), f l := by
    intro j
    fin_cases j <;> simp [List.finRange_succ, Finset.sum_range_succ, IntOp.addi, add_assoc]
  refine Eq.trans ?_ (key (x 0))
  have e : (fun k : Fin 16 => v (Shape.ofLane (d := ![16]) k)) = fun k => f k.val := funext fun k => h _
  exact congrArg (fun g : Fin 16 → BitVec 32 =>
    ((List.finRange 16).filter fun k => decide (0 < k.val ∧ k.val ≤ (x 0).val)).foldl (fun r k => IntOp.addi r (g k)) (g 0)) e

/-- The last lane of it is the sum of the lanes. -/
theorem scan_last {v : S16.Idx → BitVec 32} {f : ℕ → BitVec 32} (h : ∀ x, v x = f (x 0).val) :
    extractAt ![15] (scan .sum v) inpos_S16_p15 = ∑ l ∈ Finset.range 16, f l := scan_sum h _

/-- What a running maximum does with two words, one of them the least word shifted up. -/
theorem max_least (y : BitVec 32) : IntOp.maxui 2147483648#32 2147483648#32 = 2147483648#32
    ∧ IntOp.maxui (y ^^^ 2147483648#32) 2147483648#32 = pos y ^^^ 2147483648#32
    ∧ IntOp.maxui 2147483648#32 (y ^^^ 2147483648#32) = pos y ^^^ 2147483648#32
    ∧ IntOp.maxui (pos y ^^^ 2147483648#32) 2147483648#32 = pos y ^^^ 2147483648#32 := by
  have hz : (2147483648#32 : BitVec 32).msb = true := by decide
  have key : ∀ a : BitVec 32, 2147483648 ≤ a.toNat → IntOp.maxui a 2147483648#32 = a ∧ IntOp.maxui 2147483648#32 a = a := by
    intro a ha
    unfold IntOp.maxui
    constructor
    · split
      · rfl
      · rename_i h
        rw [BitVec.ult_iff_lt, BitVec.lt_def] at h
        apply BitVec.eq_of_toNat_eq
        simp only [BitVec.toNat_ofNat] at h ⊢
        omega
    · rw [if_neg]
      rw [BitVec.ult_iff_lt, BitVec.lt_def, BitVec.toNat_ofNat]
      omega
  by_cases h : y.toNat < 2147483648
  · have e : pos y = y := if_pos h
    have hm : (y ^^^ 2147483648#32).msb = true := by
      rw [BitVec.msb_xor, hz, (BitVec.msb_eq_false_iff_two_mul_lt (x := y)).2 (by omega)]; rfl
    have hg := (BitVec.msb_eq_true_iff_two_mul_ge (x := y ^^^ 2147483648#32)).1 hm
    obtain ⟨k1, k2⟩ := key _ (show 2147483648 ≤ (y ^^^ 2147483648#32).toNat by omega)
    rw [e]
    exact ⟨by decide, k1, k2, k1⟩
  · have e : pos y = 0#32 := if_neg h
    have hm : (y ^^^ 2147483648#32).msb = false := by
      rw [BitVec.msb_xor, hz, (BitVec.msb_eq_true_iff_two_mul_ge (x := y)).2 (by omega)]; rfl
    have hg := (BitVec.msb_eq_false_iff_two_mul_lt (x := y ^^^ 2147483648#32)).1 hm
    rw [e]
    refine ⟨by decide, ?_, ?_, by decide⟩
    · unfold IntOp.maxui
      rw [if_neg]
      · decide
      · rw [BitVec.ult_iff_lt, BitVec.lt_def, BitVec.toNat_ofNat]; omega
    · unfold IntOp.maxui
      rw [if_pos]
      · decide
      · rw [BitVec.ult_iff_lt, BitVec.lt_def, BitVec.toNat_ofNat]; omega

/-- A lane's number against a constant. -/
theorem lane_eq (x : S16.Idx) {c : ℕ} (hc : c < 16) :
    (IntOp.cmpi .eq (iota .scVector S16 32 [0] iota_S16_d0_w32_scVector x) (BitVec.ofNat 32 c) = 1#1) ↔ (x 0).val = c := by
  have hx : (x 0).val < 16 := (x 0).isLt
  rw [iota_single_apply, IntOp.cmpi_eq, ← BitVec.toNat_inj, BitVec.toNat_ofNat, BitVec.toNat_ofNat]
  omega

/-- The largest of sixteen words, each with its sign turned over, and turned back. -/
def shifted (g : Fin 16 → BitVec 32) : BitVec 32 :=
  IntOp.xori (((List.finRange 16).filter fun k => decide (0 < k.val ∧ k.val ≤ 15)).foldl
    (fun r k => IntOp.maxui r (IntOp.xori (g k) 2147483648#32)) (IntOp.xori (g 0) 2147483648#32)) 2147483648#32

/-- The largest of sixteen words of which all but that of lane `w` are zero. -/
theorem scan_max {v : S16.Idx → BitVec 32} {y : BitVec 32} {w : ℕ} (hw : w < 2) (h : ∀ x, v x = if (x 0).val = w then y else 0#32) :
    extractAt ![15] (xori (scan .max (xori v (broadcast S16 2147483648#32))) (broadcast S16 2147483648#32)) inpos_S16_p15 = pos y := by
  obtain ⟨h1, h2, h3, h4⟩ := max_least y
  have e : (fun k : Fin 16 => v (Shape.ofLane (d := ![16]) k)) = fun k => if k.val = w then y else 0#32 := funext fun k => h _
  refine Eq.trans (b := shifted fun k : Fin 16 => v (Shape.ofLane (d := ![16]) k)) rfl ?_
  rw [e]
  unfold shifted
  rw [show ((List.finRange 16).filter fun k => decide (0 < k.val ∧ k.val ≤ 15)) = [1, 2, 3, 4, 5, 6, 7, 8, 9, 10, 11, 12, 13, 14, 15] by decide]
  have hx : IntOp.xori 0#32 2147483648#32 = 2147483648#32 := rfl
  have hy : IntOp.xori y 2147483648#32 = y ^^^ 2147483648#32 := rfl
  have hz : IntOp.xori (pos y ^^^ 2147483648#32) 2147483648#32 = pos y := by
    show (pos y ^^^ 2147483648#32) ^^^ 2147483648#32 = pos y
    rw [BitVec.xor_assoc, BitVec.xor_self, BitVec.xor_zero]
  obtain rfl | rfl : w = 0 ∨ w = 1 := by omega
  all_goals
    simp [hx, hy, h1, h2, h3, h4, hz]

/-- The count of keys above the threshold read by every tile, and that of keys at it. -/
theorem read_over (c : S16.Idx → BitVec 32) : extractAt ![15] (k0_pay1 (F := F) c) inpos_S16_p15 = pos (c (at1 (by decide) 0)) := by
  refine scan_max (w := 0) (by decide) (fun x => ?_)
  show (if IntOp.cmpi .eq (iota .scVector S16 32 [0] iota_S16_d0_w32_scVector x) (BitVec.ofNat 32 0) = 1#1 then c x else 0#32) = _
  by_cases h : (x 0).val = 0
  · rw [if_pos ((lane_eq x (by decide)).2 h), if_pos h, at1_eq (by decide) x h]
  · rw [if_neg (fun e => h ((lane_eq x (by decide)).1 e)), if_neg h]

theorem read_at (c : S16.Idx → BitVec 32) : extractAt ![15] (k0_pay2 (F := F) c) inpos_S16_p15 = pos (c (at1 (by decide) 1)) := by
  refine scan_max (w := 1) (by decide) (fun x => ?_)
  show (if IntOp.cmpi .eq (iota .scVector S16 32 [0] iota_S16_d0_w32_scVector x) (BitVec.ofNat 32 1) = 1#1 then c x else 0#32) = _
  by_cases h : (x 0).val = 1
  · rw [if_pos ((lane_eq x (by decide)).2 h), if_pos h, at1_eq (by decide) x h]
  · rw [if_neg (fun e => h ((lane_eq x (by decide)).1 e)), if_neg h]

/-! ## The offsets of a tile -/

/-- Whether a tile comes before another. -/
theorem earlier : ∀ n t : Fin 16, Scalar.cmpi .slt (Scf.iv 0#32 1#32 n.val) (BitVec.ofNat 32 t.val) = if n.val < t.val then 1#1 else 0#1 := by
  decide +kernel

/-- One more tile's count added, if it comes before. -/
theorem before_step (cnt : S256.Idx → BitVec 32) (w : ℕ) {n t : ℕ} (hn : n < 16) (ht : t < 16) {a c : BitVec 32}
    (ha : a = before cnt w (min n t)) (hc : c = pos (cnt (at1 (by decide) (16 * n + w)))) :
    Scalar.addi a (Scalar.select (Scalar.cmpi .slt (Scf.iv 0#32 1#32 n) (BitVec.ofNat 32 t)) c 0#32) = before cnt w (min (n + 1) t) := by
  have he : Scalar.cmpi .slt (Scf.iv 0#32 1#32 n) (BitVec.ofNat 32 t) = if n < t then 1#1 else 0#1 := earlier ⟨n, hn⟩ ⟨t, ht⟩
  generalize Scalar.cmpi .slt (Scf.iv 0#32 1#32 n) (BitVec.ofNat 32 t) = q at he ⊢
  subst he
  rw [ha, hc]
  show before cnt w (min n t) + (if (if n < t then 1#1 else 0#1) = 1#1 then _ else 0#32) = _
  by_cases h : n < t
  · rw [if_pos h, if_pos rfl, Nat.min_eq_left h.le, Nat.min_eq_left (Nat.succ_le_of_lt h)]
    unfold before
    rw [Finset.sum_range_succ]
  · rw [if_neg h, if_neg (by decide), BitVec.add_zero, Nat.min_eq_right (by omega), Nat.min_eq_right (by omega)]

/-! ## One turn: sixteen keys placed -/

section

variable {kv : S6272.Idx → BitVec 32} {par : S32.Idx → BitVec 32} {n : ℕ} {k tv : S16.Idx → BitVec 32}

theorem rank_succ (p : CmpIPredicate) (kv : S6272.Idx → BitVec 32) (par : S32.Idx → BitVec 32) (m l : ℕ) :
    rank p kv par (m + l) = rank p kv par m + ∑ i ∈ Finset.range l, hit p (kv (at1 (by decide) (m + i))) (thrAt par (m + i)) := by
  unfold rank; rw [Finset.sum_range_add]

theorem lane_thr (par : S32.Idx → BitVec 32) (n : ℕ) (x : S16.Idx) : par (at1 (by decide) (x 0).val) = thrAt par (16 * n + (x 0).val) := by
  have hx : (x 0).val < 16 := (x 0).isLt
  unfold thrAt
  rw [show (16 * n + (x 0).val) % 16 = (x 0).val by omega]

/-- One lane's comparison, as a word. -/
theorem hit_lane (p : CmpIPredicate) (hk : ∀ x, k x = kv (at1 (by decide) (16 * n + (x 0).val))) (ht : ∀ x, tv x = par (at1 (by decide) (x 0).val)) (x : S16.Idx) :
    select (cmpi p k tv) (broadcast S16 1#32) (broadcast S16 0#32) x
      = hit p (kv (at1 (by decide) (16 * n + (x 0).val))) (thrAt par (16 * n + (x 0).val)) := by
  show (if IntOp.cmpi p (k x) (tv x) = 1#1 then 1#32 else 0#32) = _
  rw [hk x, ht x, lane_thr par n x]
  rfl

/-- Sixteen more keys ranked. -/
theorem rank_step (p : CmpIPredicate) (hk : ∀ x, k x = kv (at1 (by decide) (16 * n + (x 0).val))) (ht : ∀ x, tv x = par (at1 (by decide) (x 0).val))
    {a : BitVec 32} (ha : a = rank p kv par (16 * n)) :
    Scalar.addi a (extractAt ![15] (scan .sum (select (cmpi p k tv) (broadcast S16 1#32) (broadcast S16 0#32))) inpos_S16_p15)
      = rank p kv par (16 * (n + 1)) := by
  rw [scan_last (f := fun l => hit p (kv (at1 (by decide) (16 * n + l))) (thrAt par (16 * n + l))) (hit_lane p hk ht), ha, Nat.mul_succ, rank_succ]
  rfl

/-- The keys of the turn before lane `x`. -/
theorem lanes_before (p : CmpIPredicate) (hk : ∀ x, k x = kv (at1 (by decide) (16 * n + (x 0).val))) (ht : ∀ x, tv x = par (at1 (by decide) (x 0).val))
    (x : S16.Idx) :
    rank p kv par (16 * n) + (scan .sum (select (cmpi p k tv) (broadcast S16 1#32) (broadcast S16 0#32)) x
        - select (cmpi p k tv) (broadcast S16 1#32) (broadcast S16 0#32) x)
      = rank p kv par (16 * n + (x 0).val) := by
  rw [scan_sum (f := fun l => hit p (kv (at1 (by decide) (16 * n + l))) (thrAt par (16 * n + l))) (hit_lane p hk ht), hit_lane p hk ht,
    Finset.sum_range_succ, BitVec.add_sub_cancel, rank_succ]

/-- The numbers, among all keys, of the sixteen keys of turn `n`. -/
theorem number_lane (t n : ℕ) (x : S16.Idx) :
    (BitVec.ofNat 32 t * 6272#32 + Scf.iv 0#32 1#32 n * 16#32) + iota .scVector S16 32 [0] iota_S16_d0_w32_scVector x
      = BitVec.ofNat 32 (6272 * t + (16 * n + (x 0).val)) := by
  rw [iota_single_apply]
  apply BitVec.eq_of_toNat_eq
  simp only [Scf.iv, BitVec.toNat_add, BitVec.toNat_mul, BitVec.toNat_ofNat]
  omega

theorem numbered (L : grid0.Coords) (n : ℕ) (x : S16.Idx) :
    k0_pay3 L (Scalar.muli (Scf.iv 0#32 1#32 n) 16#32) x = BitVec.ofNat 32 (6272 * (L 1).val + (16 * n + (x 0).val)) :=
  number_lane (L 1).val n x

/-- The sixteen slots of turn `n`. -/
theorem placed (cnt : S256.Idx → BitVec 32) (t : ℕ) {ov : S16.Idx → BitVec 32}
    (hk : ∀ x, k x = kv (at1 (by decide) (16 * n + (x 0).val))) (ht : ∀ x, tv x = par (at1 (by decide) (x 0).val))
    (ho : ∀ x, ov x = par (at1 (by decide) (16 + (x 0).val))) {a b o q : BitVec 32} (ha : a = rank .sgt kv par (16 * n)) (hb : b = rank .eq kv par (16 * n))
    (hoo : o = before cnt 0 t) (hq : q = before cnt 1 t) (j : Fin k0_t2_loop.trips) (hj : j.val = n) (x : S16.Idx) :
    k0_pay10 (F := F) (Scalar.muli (BitVec.ofNat 32 t) 6272#32) (iota .scVector S16 32 [0] iota_S16_d0_w32_scVector) tv ov o q 0#32 1#32 j a b k x
      = place kv par cnt t (16 * n + (x 0).val) := by
  have hx : (x 0).val < 16 := (x 0).isLt
  have e1 := lanes_before .sgt hk ht x
  have e2 := lanes_before .eq hk ht x
  have ek : k x = kv (at1 (by decide) (16 * n + (x 0).val)) := hk x
  have et : tv x = thrAt par (16 * n + (x 0).val) := (ht x).trans (lane_thr par n x)
  have eo : ov x = overAt par (16 * n + (x 0).val) := by
    rw [ho x]; unfold overAt; rw [show (16 * n + (x 0).val) % 16 = (x 0).val by omega]
  have e7 := number_lane t n x
  have ef : before cnt 0 t + rank .sgt kv par (16 * n) + (scan .sum (select (cmpi .sgt k tv) (broadcast S16 1#32) (broadcast S16 0#32)) x
        - select (cmpi .sgt k tv) (broadcast S16 1#32) (broadcast S16 0#32) x) = before cnt 0 t + rank .sgt kv par (16 * n + (x 0).val) := by
    rw [BitVec.add_assoc, e1]
  have es : overAt par (16 * n + (x 0).val) + before cnt 1 t + rank .eq kv par (16 * n)
        + (scan .sum (select (cmpi .eq k tv) (broadcast S16 1#32) (broadcast S16 0#32)) x
        - select (cmpi .eq k tv) (broadcast S16 1#32) (broadcast S16 0#32) x) = second kv par cnt t (16 * n + (x 0).val) := by
    rw [BitVec.add_assoc, e2]; rfl
  subst ha hb hoo hq
  show (if IntOp.cmpi .sgt (k x) (tv x) = 1#1 then
      before cnt 0 t + rank .sgt kv par (16 * n) + (scan .sum (select (cmpi .sgt k tv) (broadcast S16 1#32) (broadcast S16 0#32)) x
        - select (cmpi .sgt k tv) (broadcast S16 1#32) (broadcast S16 0#32) x)
    else if IntOp.andi (IntOp.cmpi .eq (k x) (tv x)) (IntOp.cmpi .slt (ov x + before cnt 1 t + rank .eq kv par (16 * n)
        + (scan .sum (select (cmpi .eq k tv) (broadcast S16 1#32) (broadcast S16 0#32)) x
        - select (cmpi .eq k tv) (broadcast S16 1#32) (broadcast S16 0#32) x)) 2000#32) = 1#1 then
      ov x + before cnt 1 t + rank .eq kv par (16 * n) + (scan .sum (select (cmpi .eq k tv) (broadcast S16 1#32) (broadcast S16 0#32)) x
        - select (cmpi .eq k tv) (broadcast S16 1#32) (broadcast S16 0#32) x)
    else 2048#32 + ((BitVec.ofNat 32 t * 6272#32 + Scf.iv 0#32 1#32 j.val * 16#32) + iota .scVector S16 32 [0] iota_S16_d0_w32_scVector x)) = _
  rw [eo, ef, es, hj, e7, ek, et]
  unfold place
  exact if_congr Iff.rfl rfl (if_congr IntOp.andi_eq_one rfl rfl)

end

/-! ## The lists of slots and of numbers -/

section

variable [FloatOps F]

/-- The first `16 n` words of the list are `W`'s. -/
def Filled (W : ℕ → BitVec 32) (n : ℕ) (g : S49x128.Idx → BitVec 32) : Prop :=
  ∀ y, 128 * (y 0).val + (y 1).val < 16 * n → g y = W (128 * (y 0).val + (y 1).val)

theorem off4_eq : ∀ k : Fin k0_t2_loop.trips, k0_off4 k = ![k.val / 8, 16 * (k.val % 8)] := by decide +kernel

/-- Storing the sixteen words after the first `16 n`. -/
theorem filled_store {W : ℕ → BitVec 32} {n : ℕ} {g : S49x128.Idx → BitVec 32} (hg : Filled W n g)
    {off : Fin 2 → ℕ} (hoff : off = ![n / 8, 16 * (n % 8)]) (inb : ∀ a, off a + S1x16.size a ≤ S49x128.size a)
    (p : S16.Idx → BitVec 32) (h : S16.ShapeCasts S1x16) (hp : ∀ x, p x = W (16 * n + (x 0).val)) :
    Filled W (n + 1) ((plM.access (Rect.unit (s := S49x128) off S1x16.size inb)).write (Elt F) g (shapeCast S1x16 p h) Finset.univ) := by
  subst hoff
  intro y hy
  by_cases hm : y ∈ (Rect.unit (s := S49x128) ![n / 8, 16 * (n % 8)] S1x16.size inb).set
  · obtain ⟨x, rfl⟩ := LoadRect.exists_idx_of_mem _ hm
    have e0 := ValueKit.rect_emb_unit_val (s := S49x128) ![n / 8, 16 * (n % 8)] S1x16.size inb x 0
    have e1 := ValueKit.rect_emb_unit_val (s := S49x128) ![n / 8, 16 * (n % 8)] S1x16.size inb x 1
    have hx0 : (x 0).val < 1 := (x 0).isLt
    have hx1 : (x 1).val < 16 := (x 1).isLt
    refine (View.write_emb_of_mem (v := plM.access (Rect.unit (s := S49x128) ![n / 8, 16 * (n % 8)] S1x16.size inb)) (Val := Elt F) g
      (shapeCast S1x16 p h) (Finset.mem_univ x)).trans ?_
    rw [cast_eq]
    refine ((cast_row p h x).trans (hp _)).trans ?_
    congr 1
    show 16 * n + (x 1).val = 128 * ((Rect.unit (s := S49x128) ![n / 8, 16 * (n % 8)] S1x16.size inb).emb x 0).val
      + ((Rect.unit (s := S49x128) ![n / 8, 16 * (n % 8)] S1x16.size inb).emb x 1).val
    rw [e0, e1]
    show 16 * n + (x 1).val = 128 * (n / 8 + (x 0).val) + (16 * (n % 8) + (x 1).val)
    omega
  · rw [View.write_of_not_mem]
    · refine hg y ?_
      rw [Rect.mem_set_unit] at hm
      by_contra hc
      apply hm
      have h1 : (y 1).val < 128 := (y 1).isLt
      intro a
      match a with
      | 0 =>
        show n / 8 ≤ (y 0).val ∧ (y 0).val < n / 8 + 1
        omega
      | 1 =>
        show 16 * (n % 8) ≤ (y 1).val ∧ (y 1).val < 16 * (n % 8) + 16
        omega
    · intro hc
      obtain ⟨x, -, rfl⟩ := Finset.mem_map.mp hc
      exact hm (LoadRect.idx_mem _ x)

/-- The same for the list of numbers. -/
theorem filled_store_numbers {W : ℕ → BitVec 32} {n : ℕ} {g : S49x128.Idx → BitVec 32} (hg : Filled W n g)
    {off : Fin 2 → ℕ} (hoff : off = ![n / 8, 16 * (n % 8)]) (inb : ∀ a, off a + S1x16.size a ≤ S49x128.size a)
    (p : S16.Idx → BitVec 32) (h : S16.ShapeCasts S1x16) (hp : ∀ x, p x = W (16 * n + (x 0).val)) :
    Filled W (n + 1) ((giM.access (Rect.unit (s := S49x128) off S1x16.size inb)).write (Elt F) g (shapeCast S1x16 p h) Finset.univ) := by
  subst hoff
  intro y hy
  by_cases hm : y ∈ (Rect.unit (s := S49x128) ![n / 8, 16 * (n % 8)] S1x16.size inb).set
  · obtain ⟨x, rfl⟩ := LoadRect.exists_idx_of_mem _ hm
    have e0 := ValueKit.rect_emb_unit_val (s := S49x128) ![n / 8, 16 * (n % 8)] S1x16.size inb x 0
    have e1 := ValueKit.rect_emb_unit_val (s := S49x128) ![n / 8, 16 * (n % 8)] S1x16.size inb x 1
    have hx0 : (x 0).val < 1 := (x 0).isLt
    have hx1 : (x 1).val < 16 := (x 1).isLt
    refine (View.write_emb_of_mem (v := giM.access (Rect.unit (s := S49x128) ![n / 8, 16 * (n % 8)] S1x16.size inb)) (Val := Elt F) g
      (shapeCast S1x16 p h) (Finset.mem_univ x)).trans ?_
    rw [cast_eq]
    refine ((cast_row p h x).trans (hp _)).trans ?_
    congr 1
    show 16 * n + (x 1).val = 128 * ((Rect.unit (s := S49x128) ![n / 8, 16 * (n % 8)] S1x16.size inb).emb x 0).val
      + ((Rect.unit (s := S49x128) ![n / 8, 16 * (n % 8)] S1x16.size inb).emb x 1).val
    rw [e0, e1]
    show 16 * n + (x 1).val = 128 * (n / 8 + (x 0).val) + (16 * (n % 8) + (x 1).val)
    omega
  · rw [View.write_of_not_mem]
    · refine hg y ?_
      rw [Rect.mem_set_unit] at hm
      by_contra hc
      apply hm
      have h1 : (y 1).val < 128 := (y 1).isLt
      intro a
      match a with
      | 0 =>
        show n / 8 ≤ (y 0).val ∧ (y 0).val < n / 8 + 1
        omega
      | 1 =>
        show 16 * (n % 8) ≤ (y 1).val ∧ (y 1).val < 16 * (n % 8) + 16
        omega
    · intro hc
      obtain ⟨x, -, rfl⟩ := Finset.mem_map.mp hc
      exact hm (LoadRect.idx_mem _ x)

end

/-! ## The copies -/

section

variable [FloatOps F] {t : ℕ}

/-- The tile's copy of its keys. -/
theorem own_copied {keys : S100352.Idx → BitVec 32} {off : Fin 1 → ℕ} (hoff : off = ![6272 * t]) (inb) (h) (f : S6272.Idx → BitVec 32) :
    kyM.view.write (Elt F) f ((keysM.slice (Rect.unit (s := S100352) off S6272.size inb) h).view.read (Elt F) keys) Finset.univ = ownKeys t keys := by
  subst hoff
  refine (View.write_whole_univ _ _ _).trans (funext fun x => ?_)
  exact read_window (F := F) (N := 100352) (n := 6272) (by decide) keysM _ inb h keys x

end

end Cert.PlaceIdeal.Run

end
-- ==== Proof.PlaceScatter.lean ====
/-
  The place stage's scatter: the words of the result a tile owns — those its slots name — and what sending one row of
  its list of numbers to the slots in the same row of its list of slots makes of them.
-/
module

public import proofs.«01_k».proof.Proof.PlaceSetup
public import proofs.«01_k».proof.Proof.GatherWords
public import Idealize.ShloMosaic.Lib.SparseCore.Scatter

@[expose] public section

noncomputable section

namespace Cert.PlaceIdeal.Run

open Cert.PlaceIdeal Cert.PlaceIdeal.Gen
open Cert.GatherIdeal.Run (at1 at1_val at1_self at1_eq rows_apply)

open Idealize.ShloMosaic
open Idealize.ShloMosaic.SparseCore (S V T)

/-! ## Who owns which word of the result, and what it ends with -/

section

variable (w : ℕ → ℕ → BitVec 32)

/-- Slots `w t p` of keys `p` of tiles `t`: within the result, and no two keys the same one. -/
def Good : Prop :=
  (∀ t < 16, ∀ p < 6272, (w t p).toNat < 102400)
    ∧ ∀ t < 16, ∀ p < 6272, ∀ t' < 16, ∀ p' < 6272, (w t p).toNat = (w t' p').toNat → t = t' ∧ p = p'

/-- Key `a.2` of tile `a.1` has slot `y`. -/
def Has (y : S102400.Idx) (a : ℕ × ℕ) : Prop := a.1 < 16 ∧ a.2 < 6272 ∧ (w a.1 a.2).toNat = (y 0).val

open scoped Classical in
/-- The tile that has a key with slot `y`; the first if none has. -/
def owner (y : S102400.Idx) : Fin 16 := if h : ∃ a, Has w y a then ⟨h.choose.1, h.choose_spec.1⟩ else 0

/-- The words of the result that are tile `t`'s. -/
def own (t : ℕ) : Finset S102400.Idx := Finset.univ.filter fun y => (owner w y).val = t

open scoped Classical in
/-- The result: at each slot the number of its key, elsewhere what was there. -/
def numbers (old : S102400.Idx → BitVec 32) (y : S102400.Idx) : BitVec 32 :=
  if h : ∃ a, Has w y a then BitVec.ofNat 32 (6272 * h.choose.1 + h.choose.2) else old y

variable {w}

theorem mem_own {t : ℕ} {y : S102400.Idx} : y ∈ own w t ↔ (owner w y).val = t := by
  unfold own; rw [Finset.mem_filter]; exact and_iff_right (Finset.mem_univ y)

theorem has_unique (hg : Good w) {y : S102400.Idx} {a b : ℕ × ℕ} (ha : Has w y a) (hb : Has w y b) : a = b :=
  Prod.ext (hg.2 _ ha.1 _ ha.2.1 _ hb.1 _ hb.2.1 (ha.2.2.trans hb.2.2.symm)).1
    (hg.2 _ ha.1 _ ha.2.1 _ hb.1 _ hb.2.1 (ha.2.2.trans hb.2.2.symm)).2

theorem owner_of (hg : Good w) {y : S102400.Idx} {a : ℕ × ℕ} (ha : Has w y a) : (owner w y).val = a.1 := by
  have h : ∃ a, Has w y a := ⟨a, ha⟩
  unfold owner
  rw [dif_pos h]
  exact congrArg Prod.fst (has_unique hg h.choose_spec ha)

theorem numbers_of (hg : Good w) (old : S102400.Idx → BitVec 32) {y : S102400.Idx} {a : ℕ × ℕ} (ha : Has w y a) :
    numbers w old y = BitVec.ofNat 32 (6272 * a.1 + a.2) := by
  have h : ∃ a, Has w y a := ⟨a, ha⟩
  unfold numbers
  rw [dif_pos h, has_unique hg h.choose_spec ha]

theorem numbers_none (old : S102400.Idx → BitVec 32) {y : S102400.Idx} (h : ¬ ∃ a, Has w y a) : numbers w old y = old y := by
  unfold numbers
  rw [dif_neg h]

/-- The word a slot names. -/
def word (s : BitVec 32) : S102400.Idx := at1 (by decide) s.toNat

theorem word_val {s : BitVec 32} (h : s.toNat < 102400) : (word s 0).val = s.toNat := at1_val (by decide) h

theorem has_word (hg : Good w) {t p : ℕ} (ht : t < 16) (hp : p < 6272) : Has w (word (w t p)) (t, p) :=
  ⟨ht, hp, (word_val (hg.1 t ht p hp)).symm⟩

theorem word_mem (hg : Good w) {t p : ℕ} (ht : t < 16) (hp : p < 6272) : word (w t p) ∈ own w t :=
  mem_own.mpr (owner_of hg (has_word hg ht hp))

/-- The first `n` of tile `t`'s keys have sent their numbers to their slots; elsewhere the words are the old. -/
def Sent (w : ℕ → ℕ → BitVec 32) (old : S102400.Idx → BitVec 32) (t n : ℕ) (g : S102400.Idx → BitVec 32) : Prop :=
  (∀ p < n, g (word (w t p)) = BitVec.ofNat 32 (6272 * t + p)) ∧ ∀ y, (∀ p < n, y ≠ word (w t p)) → g y = old y

theorem sent_zero (old : S102400.Idx → BitVec 32) (t : ℕ) : Sent w old t 0 old :=
  ⟨fun _ h => absurd h (Nat.not_lt_zero _), fun _ _ => rfl⟩

/-- When all have, the tile's words are the result's. -/
theorem sent_all (hg : Good w) {old g : S102400.Idx → BitVec 32} {t : ℕ} (ht : t < 16) (hs : Sent w old t 6272 g) {y : S102400.Idx}
    (hy : y ∈ own w t) : g y = numbers w old y := by
  by_cases h : ∃ p, p < 6272 ∧ y = word (w t p)
  · obtain ⟨p, hp, rfl⟩ := h
    rw [hs.1 p hp, numbers_of hg old (has_word hg ht hp)]
  · rw [hs.2 y fun p hp e => h ⟨p, hp, e⟩, numbers_none]
    rintro ⟨a, ha⟩
    have e : a.1 = t := (owner_of hg ha).symm.trans (mem_own.mp hy)
    refine h ⟨a.2, ha.2.1, ?_⟩
    rw [← e]
    exact at1_eq (by decide) y ha.2.2.symm

end

/-! ## One row sent -/

section

variable {F : FTy → Type} [FloatOps F]

/-- Element `(r, c)` of a tile's list. -/
def at2 (r : Fin 49) (c : Fin 128) : S49x128.Idx := fun
  | 0 => r
  | 1 => c

/-- Row windows of the two lists, and the whole result, as a scatter addresses them. -/
abbrev srcW (off : Fin 2 → ℕ) (inb : ∀ a, off a + S1x128.size a ≤ S49x128.size a) (h : S1x128.Squeezes S128) : Memref sig .scVector .vmem S128 .i32 :=
  (giM.slice (Rect.unit (s := S49x128) off S1x128.size inb) (fun _ => rfl)).squeeze S128 h
abbrev lstW (off : Fin 2 → ℕ) (inb : ∀ a, off a + S1x128.size a ≤ S49x128.size a) (h : S1x128.Squeezes S128) : Memref sig .scVector .vmem S128 .i32 :=
  (plM.slice (Rect.unit (s := S49x128) off S1x128.size inb) (fun _ => rfl)).squeeze S128 h
abbrev outW (off : Fin 1 → ℕ) (inb : ∀ a, off a + S102400.size a ≤ S102400.size a) : Memref sig .scVector .hbm S102400 .i32 :=
  outM.slice (Rect.unit (s := S102400) off S102400.size inb) (fun _ => rfl)

theorem row_emb {k : Fin 49} {off : Fin 2 → ℕ} (hoff : off = ![k.val, 0]) (inb) (h : S1x128.Squeezes S128) (y : S128.Idx) :
    (Rect.unit (s := S49x128) off S1x128.size inb).emb (Shape.reshapeEquiv h.numel_eq y) = at2 k (y 0) := by
  subst hoff
  have e : Shape.reshapeEquiv h.numel_eq y = (Fin.cons ⟨0, Nat.one_pos⟩ y : S1x128.Idx) := Shape.reshapeEquiv_cons_one _ y
  funext a
  apply Fin.ext
  refine (ValueKit.rect_emb_unit_val (s := S49x128) ![k.val, 0] S1x128.size inb _ a).trans ?_
  erw [e]
  match a with
  | 0 => rfl
  | 1 => exact Nat.zero_add _

theorem lst_read {k : Fin 49} {off : Fin 2 → ℕ} (hoff : off = ![k.val, 0]) (inb) (h) (g : S49x128.Idx → BitVec 32) (y : S128.Idx) :
    (lstW off inb h).view.read (Elt F) g y = g (at2 k (y 0)) :=
  (View.read_apply _ _).trans ((cast_eq _ _).trans (congrArg g (row_emb hoff inb h y)))

theorem src_emb {k : Fin 49} {off : Fin 2 → ℕ} (hoff : off = ![k.val, 0]) (inb) (h) (y : S128.Idx) :
    (srcW off inb h).view.emb y = at2 k (y 0) := row_emb hoff inb h y

/-- Entry `k`'s payload is the number in place `k` of the row. -/
theorem payload_number (d : Dev nD) (ci : Fin τ.nSC) (cj : Fin τ.nSub) {r : Fin 49} {off : Fin 2 → ℕ} (hoff : off = ![r.val, 0]) (inb) (h)
    (hg : S102400.Gathers 0 S128) (fs : S49x128.Idx → BitVec 32) (k : Fin 128) (x : (S102400.rowShape hg.axis).Idx) :
    SparseCore.scatterRowPayload (F := F) (V d ci cj) (srcW off inb h) hg fs k x = fs (at2 r k) := by
  refine (View.read_apply _ _).trans ((cast_eq _ _).trans (congrArg fs ?_))
  have hm := View.emb_mem_set (((srcW off inb h).slice (S128.rowRect hg.axis' k) (S128.stride_rowRect _ _)).cast hg.rowShape_eq rfl).view x
  have hs : (((srcW off inb h).slice (S128.rowRect hg.axis' k) (S128.stride_rowRect _ _)).cast hg.rowShape_eq rfl).view.set
      = ((srcW off inb h).view.slice (S128.rowRect hg.axis' k)).set := View.set_cast (v := (srcW off inb h).view.slice (S128.rowRect hg.axis' k)) _ _
  rw [hs] at hm
  obtain ⟨x', -, e⟩ := Finset.mem_map.mp hm
  rw [← e]
  refine (src_emb hoff inb h ((S128.rowRect hg.axis' k).emb x')).trans ?_
  exact congrArg (at2 r) (Shape.rowRect_emb_axis hg.axis' k x')

/-- A row of the result, as a scatter addresses it, is one word. -/
theorem out_row {off : Fin 1 → ℕ} (hoff : off = ![0]) (inb) (hg : S102400.Gathers 0 S128) (k : Fin 102400) (x : (S102400.rowShape hg.axis).Idx) :
    ((outW off inb).view.slice (S102400.rowRect hg.axis k)).emb x = at1 (by decide) k.val := by
  subst hoff
  apply at1_eq
  refine (ValueKit.rect_emb_unit_val (s := S102400) ![0] S102400.size inb ((S102400.rowRect hg.axis k).emb x) 0).trans ((Nat.zero_add _).trans ?_)
  exact congrArg Fin.val (Shape.rowRect_emb_axis hg.axis k x)

theorem mem_out_row {off : Fin 1 → ℕ} (hoff : off = ![0]) (inb) (hg : S102400.Gathers 0 S128) (k : Fin 102400) (y : S102400.Idx) :
    y ∈ ((outW off inb).view.slice (S102400.rowRect hg.axis k)).set ↔ y = at1 (by decide) k.val := by
  constructor
  · intro hy
    obtain ⟨x, -, rfl⟩ := Finset.mem_map.mp hy
    exact out_row hoff inb hg k x
  · rintro rfl
    rw [← out_row hoff inb hg k (S102400.rowProj hg.axis (at1 (by decide) k.val))]
    exact View.emb_mem_set _ _

variable {w : ℕ → ℕ → BitVec 32} {t : ℕ} {fo fs : S49x128.Idx → BitVec 32} {r : Fin 49}
  {offT : Fin 1 → ℕ} {offO : Fin 2 → ℕ}

/-- The words of a row of the list of slots. -/
theorem lst_word (hf : Filled (w t) 392 fo) (hO : offO = ![r.val, 0]) (inbO) (h) (y : S128.Idx) :
    (lstW offO inbO h).view.read (Elt F) fo y = w t (128 * r.val + (y 0).val) := by
  have h1 : (y 0).val < 128 := (y 0).isLt
  have h2 := r.isLt
  rw [lst_read hO]
  exact hf _ (by show 128 * r.val + (y 0).val < 16 * 392; omega)

theorem lst_lt (hg : Good w) (ht : t < 16) (hf : Filled (w t) 392 fo) (hO : offO = ![r.val, 0]) (inbO) (h) (y : S128.Idx) :
    ((lstW offO inbO h).view.read (Elt F) fo y).toNat < 102400 := by
  have h1 : (y 0).val < 128 := (y 0).isLt
  have h2 := r.isLt
  rw [lst_word hf hO]
  exact hg.1 t ht _ (by omega)

theorem lst_inj (hg : Good w) (ht : t < 16) (hf : Filled (w t) 392 fo) (hO : offO = ![r.val, 0]) (inbO) (h) :
    Function.Injective fun y => ((lstW offO inbO h).view.read (Elt F) fo y).toNat := by
  intro y z e
  have h1 : (y 0).val < 128 := (y 0).isLt
  have h3 : (z 0).val < 128 := (z 0).isLt
  have h2 := r.isLt
  have e' : ((lstW offO inbO h).view.read (Elt F) fo y).toNat = ((lstW offO inbO h).view.read (Elt F) fo z).toNat := e
  rw [lst_word hf hO, lst_word hf hO] at e'
  have := (hg.2 t ht _ (by omega) t ht _ (by omega) e').2
  funext a
  match a with
  | 0 => exact Fin.ext (by omega)

theorem rows_val (hf : Filled (w t) 392 fo) (hO : offO = ![r.val, 0]) (inbO) (h) (hn : S128.numel = 128)
    (hin : ∀ x, ((lstW offO inbO h).view.read (Elt F) fo x).toNat < 102400) (k : Fin 128) :
    (SparseCore.rows (F := F) ((lstW offO inbO h).view.read (Elt F) fo) hn hin k).val = (w t (128 * r.val + k.val)).toNat := by
  refine (rows_apply (by decide) _ hn hin k).trans ?_
  rw [lst_word hf hO, at1_val (by decide) k.isLt]

/-- The words a row of the list names are the tile's. -/
theorem named_own (hgood : Good w) (ht : t < 16) (hf : Filled (w t) 392 fo) (hT : offT = ![0]) (inbT) (hO : offO = ![r.val, 0]) (inbO) (h)
    (d : Dev nD) (ci : Fin τ.nSC) (cj : Fin τ.nSub) (hg : S102400.Gathers 0 S128) (hn : S128.numel = 128)
    (hin : ∀ x, ((lstW offO inbO h).view.read (Elt F) fo x).toNat < 102400) :
    SparseCore.namedRows (V d ci cj) (outW offT inbT).view hg.axis (SparseCore.rows (F := F) ((lstW offO inbO h).view.read (Elt F) fo) hn hin) ⊆ own w t := by
  intro y hy
  have hr := r.isLt
  obtain ⟨k, -, hk⟩ := Finset.mem_biUnion.mp hy
  have e := (mem_out_row hT inbT hg _ y).mp hk
  have hk' := k.isLt
  change k.val < 128 at hk'
  have hv := rows_val hf hO inbO h hn hin k
  have e' : y = word (w t (128 * r.val + k.val)) := e.trans (congrArg (fun n => at1 (by decide) n) hv)
  rw [e']
  exact word_mem hgood ht (by omega)

/-- A row sent: a hundred and twenty-eight more numbers at their slots. -/
theorem sent_step (hgood : Good w) (ht : t < 16) (hf : Filled (w t) 392 fo) (hnum : Filled (fun p => BitVec.ofNat 32 (6272 * t + p)) 392 fs)
    (hT : offT = ![0]) (inbT) (hO : offO = ![r.val, 0]) (inbO) (h) {offS : Fin 2 → ℕ} (hS : offS = ![r.val, 0]) (inbS) (h')
    (d : Dev nD) (ci : Fin τ.nSC) (cj : Fin τ.nSub) (hg : S102400.Gathers 0 S128) (hn : S128.numel = 128)
    (hin : ∀ x, ((lstW offO inbO h).view.read (Elt F) fo x).toNat < 102400) {old g : S102400.Idx → BitVec 32} (hs : Sent w old t (128 * r.val) g) :
    Sent w old t (128 * (r.val + 1)) (SparseCore.scatterBuf (F := F) (V d ci cj) (outW offT inbT).view hg.axis
      (SparseCore.rows (F := F) ((lstW offO inbO h).view.read (Elt F) fo) hn hin)
      (SparseCore.scatterRowPayload (F := F) (V d ci cj) (srcW offS inbS h') hg fs) g) := by
  have hr := r.isLt
  have hinj : Function.Injective (SparseCore.rows (F := F) ((lstW offO inbO h).view.read (Elt F) fo) hn hin) :=
    SparseCore.rows_injective (lst_inj hgood ht hf hO inbO h)
  have hmem : ∀ (k : Fin 128) (y : S102400.Idx),
      y ∈ ((outW offT inbT).view.slice (S102400.rowRect hg.axis (SparseCore.rows (F := F) ((lstW offO inbO h).view.read (Elt F) fo) hn hin k))).set
        ↔ y = word (w t (128 * r.val + k.val)) := by
    intro k y
    refine (mem_out_row hT inbT hg _ y).trans (iff_of_eq (congrArg (fun n => y = at1 (by decide) n) ?_))
    exact rows_val hf hO inbO h hn hin k
  have hnone : ∀ y, (∀ k : Fin 128, y ≠ word (w t (128 * r.val + k.val))) → SparseCore.scatterBuf (F := F) (V d ci cj) (outW offT inbT).view hg.axis
      (SparseCore.rows (F := F) ((lstW offO inbO h).view.read (Elt F) fo) hn hin)
      (SparseCore.scatterRowPayload (F := F) (V d ci cj) (srcW offS inbS h') hg fs) g y = g y := by
    intro y hy
    refine SparseCore.scatterBuf_of_not_mem _ _ _ _ _ _ fun hc => ?_
    obtain ⟨k, -, hk⟩ := Finset.mem_biUnion.mp hc
    exact hy k ((hmem k y).mp hk)
  constructor
  · intro p hp
    by_cases hlt : p < 128 * r.val
    · refine (hnone _ fun k e => ?_).trans (hs.1 p hlt)
      have hk := k.isLt
      have ew := congrArg (fun y : S102400.Idx => (y 0).val) e
      change (word _ 0).val = (word _ 0).val at ew
      rw [word_val (hgood.1 t ht p (by omega)), word_val (hgood.1 t ht _ (by omega))] at ew
      have := (hgood.2 t ht p (by omega) t ht _ (by omega) ew).2
      omega
    · have hk : p - 128 * r.val < 128 := by omega
      have hp' : 128 * r.val + (⟨p - 128 * r.val, hk⟩ : Fin 128).val = p := by show 128 * r.val + (p - 128 * r.val) = p; omega
      have hy := (hmem ⟨p - 128 * r.val, hk⟩ (word (w t p))).mpr (by rw [hp'])
      refine (SparseCore.scatterBuf_of_mem (F := F) (V d ci cj) (outW offT inbT).view hg.axis _ hinj _ g hy).trans ?_
      obtain ⟨x, -, e⟩ := Finset.mem_map.mp hy
      rw [← e]
      refine (View.write_emb_of_mem (v := (outW offT inbT).view.slice (S102400.rowRect hg.axis (SparseCore.rows (F := F) ((lstW offO inbO h).view.read (Elt F) fo) hn hin ⟨p - 128 * r.val, hk⟩)))
        (Val := Elt F) g _ (Finset.mem_univ x)).trans ?_
      rw [cast_eq]
      refine (payload_number d ci cj hS inbS h' hg fs ⟨p - 128 * r.val, hk⟩ x).trans ?_
      refine (hnum _ ?_).trans ?_
      · show 128 * r.val + (p - 128 * r.val) < 16 * 392
        omega
      · show BitVec.ofNat 32 (6272 * t + (128 * r.val + (p - 128 * r.val))) = _
        congr 2
  · intro y hy
    refine (hnone y fun k => hy _ (by have := k.isLt; omega)).trans (hs.2 y fun p hp => hy p (by omega))

end

end Cert.PlaceIdeal.Run

end
-- ==== Proof.PlaceBody.lean ====
/-
  A tile's task: its keys, the thresholds and the counts copied in, the counts of the tiles before it added up, sixteen
  keys placed at each turn of a loop, their numbers sent to their slots a hundred and twenty-eight at a time.
-/
module

public import proofs.«01_k».proof.Proof.PlaceScatter
public import Idealize.ShloMosaic.Lib.SparseCore.Quiescent
public import Idealize.ShloMosaic.Lib.SparseCore.Ops
public import Idealize.ShloMosaic.Lib.SparseCore.Stream
public import Idealize.ShloMosaic.Lib.Scf
public import Idealize.ShloMosaic.Lib.Tactic

@[expose] public section

noncomputable section

namespace Cert.PlaceIdeal.Run

open Cert.PlaceIdeal Cert.PlaceIdeal.Gen
open Cert.GatherIdeal.Run (at1 at1_val at1_self at1_eq)

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]
local notation "𝕄" => MT nD τ sig (HIx 1) (Elt F) ℕ UU ℕ

abbrev cV (L : grid0.Coords) : Fin τ.nSC := (L 0).castLE hcore0
abbrev jV (L : grid0.Coords) : Fin τ.nSub := (L 1).castLE hsub0
/-- The thread that runs the tile at `L`. -/
abbrev thr (d : Dev nD) (L : grid0.Coords) : Thread nD τ := V d (cV L) (jV L)

/-- What a run of the rest of the body has to show. -/
abbrev Rest (d : Dev nD) (L : grid0.Coords) {α : Type} (p : Prog (TpuEff nD τ sig (Elt F) Λ₀ (thr d L).2) α) (Q : α → sProp 𝕄) : sProp 𝕄 :=
  wp frame (wpE (defs₀ (F := F)) 𝒱₀ (thr d L) none) Set.univ p Q

/-- What the tile owes while it runs: what it owed at entry, nothing waited on but its own transfers. -/
def Owe (d : Dev nD) (L : grid0.Coords) (O : CellTallies nD τ sig (HIx 1)) (W : Waits sig (HIx 1)) : sProp 𝕄 :=
  iprop(levAts (K (F := F)).L (K (F := F)).lev ∗ ∃ W', ⌜∀ p ∈ W', p ∈ W ∨ p.2 = none⌝ ∗ owes (thr d L) O W')

theorem rest_ret (d : Dev nD) (L : grid0.Coords) {Q : PUnit → sProp 𝕄} : Q ⟨⟩ ⊢ Rest d L (.ret ⟨⟩) Q := by
  unfold Rest
  rw [wp_ret]
  iintro H; imodintro; iexact H

/-- The tile's own transfer waited for: what it delivers, its counter back at zero. -/
theorem wp_landed (d : Dev nD) (L : grid0.Coords) {O : CellTallies nD τ sig (HIx 1)} {W : Waits sig (HIx 1)} (hO : ∀ g, O g none = 0)
    {sp sp' : Space} {s s' : Shape} {e e' : EltTy} {sem : DmaSem sig} {srcw : Memref sig (thr d L).2.kind sp' s' e'}
    {dstw : Memref sig (thr d L).2.kind sp s e} {hsrc : srcw.view.WordExact} {hdst : dstw.view.WordExact}
    {α : Type}
    {k : PUnit → Prog (TpuEff nD τ sig (Elt F) Λ₀ (thr d L).2) α} {N : ℕ} (hN : dstw.view.dmaCredit = N) {D : sProp 𝕄} {Q : α → sProp 𝕄} :
    iprop(Transfers.Flight countersEmb (thr d L) (.dma sem) (default : HIx 1) N D ∗ Owe d L O W)
      ⊢ iprop((iprop(D ∗ semVal (thr d L, .dma sem) 0 ∗ Owe d L O W) -∗ Rest d L (k ⟨⟩) Q)
          -∗ Rest d L (.op (.waitDma2 sem srcw dstw hsrc hdst) k) Q) := by
  unfold Owe Rest
  iintro ⟨Hfl, #Hlv, %W', %hW', HO⟩ Hk
  ihave #Hmw := ((K (F := F)).mayWaits_none (thr := thr d L) hO) $$ Hlv
  iapply (Transfers.wp_waitLocalO countersEmb 𝒱₀ (thr d L) none (default : HIx 1) hN) $$ [Hfl HO]
  · isplitl [Hfl]; · iexact Hfl
    isplitl [HO]; · iexact HO
    iapply (Transfers.MayWaits.elim (SemLoc.dma sem)) $$ Hmw
  iintro ⟨HD, Hsem, HO⟩
  iapply Hk
  isplitl [HD]; · iexact HD
  isplitl [Hsem]; · iexact Hsem
  isplitr; · iexact Hlv
  iexists _; isplitr
  swap; · iexact HO
  ipureintro; intro p hp
  rcases Finset.mem_insert.mp hp with hp | hp; · exact .inr (hp ▸ rfl)
  exact hW' p hp

/-- A copy and its wait. -/
theorem wp_copy (d : Dev nD) (L : grid0.Coords) {O : CellTallies nD τ sig (HIx 1)} {W : Waits sig (HIx 1)} (hO : ∀ g, O g none = 0)
    {sp sp' : Space} {s : Shape} {e : EltTy} {sem : DmaSem sig} {src : Memref sig (thr d L).2.kind sp s e}
    {dst : Memref sig (thr d L).2.kind sp' s e} {h1 : src.view.WordExact} {h2 : dst.view.WordExact}
    {h3 : DmaTarget.Typed (nD := nD) (τ := τ) (p := (thr d L).2) sp (SemLoc.dma sem) (.here dst)}
    {h4 : src.view.WordExact} {h5 : dst.view.WordExact}
    {k : PUnit → Prog (TpuEff nD τ sig (Elt F) Λ₀ (thr d L).2) PUnit} {Q : PUnit → sProp 𝕄}
    {q : PosShare TreeShare} {Ss : Finset (Idx (src.view.loc (thr d L)))} {fs : Buf (Elt F) (src.view.loc (thr d L))}
    {Sd : Finset (Idx (dst.view.loc (thr d L)))} {fd : Buf (Elt F) (dst.view.loc (thr d L))}
    (hSs : src.view.set ⊆ Ss) (hSd : dst.view.set ⊆ Sd) (hN0 : 0 < dst.view.dmaCredit) :
    iprop((src.view.loc (thr d L) ↦[Ss]{q} fs) ∗ (dst.view.loc (thr d L) ↦[Sd]{fullShare} fd)
        ∗ semVal (thr d L, .dma sem) 0 ∗ Owe d L O W)
      ⊢ iprop((iprop((src.view.loc (thr d L) ↦[Ss]{q} fs)
        ∗ (dst.view.loc (thr d L) ↦[Sd]{fullShare} dst.view.write (Elt F) fd (src.view.read (Elt F) fs) Finset.univ)
        ∗ semVal (thr d L, .dma sem) 0 ∗ Owe d L O W) -∗ Rest d L (k ⟨⟩) Q)
      -∗ Rest d L (.op (.enqueueDma src (.here dst) (.dma sem) h1 h2 h3) fun _ => .op (.waitDma2 sem src dst h4 h5) k) Q) := by
  iintro ⟨Hs, Hd, Hsem, HO⟩ Hk
  ihave Hs' := (pointsTo_split_subset (q := q) (f := fs) (S := Ss) hSs).1 $$ Hs
  icases Hs' with ⟨Hs, Hr⟩
  iapply (Transfers.wp_dmaLocal countersEmb 𝒱₀ (thr d L) none (via := .same) (default : HIx 1) dst.view.dmaCredit rfl hN0 hSd) $$ [Hs Hd Hsem]
  · isplitl [Hs]; · iexact Hs
    isplitl [Hd]; · iexact Hd
    iexact Hsem
  iintro Hfl
  iapply (wp_landed d L hO rfl) $$ [Hfl HO]
  · isplitl [Hfl]; · iexact Hfl
    iexact HO
  iintro ⟨⟨Hd, Hs⟩, Hsem, HO⟩
  ihave Hs' := (pointsTo_split_subset (q := q) (f := fs) (S := Ss) hSs).2 $$ [Hs Hr]; · isplitl [Hs] <;> iassumption
  iapply Hk
  isplitl [Hs']; · iexact Hs'
  isplitl [Hd]; · iexact Hd
  isplitl [Hsem]; · iexact Hsem
  iexact HO

/-- A scatter and its wait: the words it names are among those held of the target. -/
theorem wp_scatter (d : Dev nD) (L : grid0.Coords) {O : CellTallies nD τ sig (HIx 1)} {W : Waits sig (HIx 1)} (hO : ∀ g, O g none = 0)
    {s₀ s si : Shape} {e : EltTy} {sem : DmaSem sig} {src : Memref sig (thr d L).2.kind .vmem s e}
    {dst : Memref sig (thr d L).2.kind .hbm s₀ e} {hg : s₀.Gathers 0 s} {offs : Memref sig (thr d L).2.kind .vmem si .i32}
    {hn : si.numel = s.size hg.axis'} {hp : (thr d L).2.kind = .scVector} {he : e.bits = 32}
    {hsp : Space.hbm = .hbm ∨ Space.hbm = .shared} {hr : s₀.StreamRows 0} {h2 : src.view.WordExact} {h3 : dst.view.WordExact} {α : Type}
    {k : PUnit → Prog (TpuEff nD τ sig (Elt F) Λ₀ (thr d L).2) α} {Q : α → sProp 𝕄}
    {fs : Buf (Elt F) (src.view.loc (thr d L))} {fd : Buf (Elt F) (dst.view.loc (thr d L))} {fo : Buf (Elt F) (offs.view.loc (thr d L))}
    {Sd : Finset (Idx (dst.view.loc (thr d L)))} (hs : 0 < s.numel) (hin : ∀ x, (offs.view.read (Elt F) fo x).toNat < s₀.size hg.axis)
    (hinj : Function.Injective (SparseCore.rows (F := F) (offs.view.read (Elt F) fo) hn hin))
    (hN : ∑ j, (dst.slice (s₀.rowRect hg.axis (SparseCore.rows (F := F) (offs.view.read (Elt F) fo) hn hin j)) (s₀.stride_rowRect hg.axis _)).view.dmaCredit
      = src.view.dmaCredit)
    (hSd : SparseCore.namedRows (thr d L) dst.view hg.axis (SparseCore.rows (F := F) (offs.view.read (Elt F) fo) hn hin) ⊆ Sd) :
    iprop((src.view.loc (thr d L) ↦{fullShare} fs) ∗ (offs.view.loc (thr d L) ↦{fullShare} fo) ∗ (dst.view.loc (thr d L) ↦[Sd]{fullShare} fd)
        ∗ semVal (thr d L, .dma sem) 0 ∗ Owe d L O W)
      ⊢ iprop((iprop((src.view.loc (thr d L) ↦{fullShare} fs) ∗ (offs.view.loc (thr d L) ↦{fullShare} fo)
        ∗ (dst.view.loc (thr d L) ↦[Sd]{fullShare} SparseCore.scatterBuf (thr d L) dst.view hg.axis
            (SparseCore.rows (F := F) (offs.view.read (Elt F) fo) hn hin) (SparseCore.scatterRowPayload (thr d L) src hg fs) fd)
        ∗ semVal (thr d L, .dma sem) 0 ∗ Owe d L O W) -∗ Rest d L (k ⟨⟩) Q)
      -∗ Rest d L (SparseCore.enqueueIndirectScatter hp src dst hg offs hn sem he hsp hr >>= fun _ =>
          SparseCore.waitIndirectScatter sem src dst h2 h3 >>= k) Q) := by
  iintro ⟨Hs, Ho, Hd, Hsem, HO⟩ Hk
  ihave Hs' := (pointsTo_split_subset (q := fullShare) (f := fs) (S := Finset.univ) (Finset.subset_univ src.view.set)).1 $$ Hs
  icases Hs' with ⟨Hs, Hsr⟩
  ihave Ho' := (pointsTo_split_subset (q := fullShare) (f := fo) (S := Finset.univ) (Finset.subset_univ offs.view.set)).1 $$ Ho
  icases Ho' with ⟨Ho, Hor⟩
  ihave Hd' := (SparseCore.pointsTo_namedRows_split (thr d L) dst.view hg.axis _ hSd fd).1 $$ Hd
  icases Hd' with ⟨Hd, Hdr⟩
  iapply (SparseCore.wp_indirectScatterLocal countersEmb 𝒱₀ (thr d L) none (hg := hg) (default : HIx 1) src.view.dmaCredit hs hin hinj hN) $$ [Hs Ho Hd Hsem]
  · isplitl [Hs]; · iexact Hs
    isplitl [Hd]; · iexact Hd
    isplitl [Ho]; · iexact Ho
    iexact Hsem
  iintro Hfl
  rw [SparseCore.waitIndirectScatter_bind]
  iapply (wp_landed d L hO rfl) $$ [Hfl HO]
  · isplitl [Hfl]; · iexact Hfl
    iexact HO
  iintro ⟨⟨Hd, Hs, Ho⟩, Hsem, HO⟩
  ihave Hs' := (pointsTo_split_subset (q := fullShare) (f := fs) (S := Finset.univ) (Finset.subset_univ src.view.set)).2 $$ [Hs Hsr]; · isplitl [Hs] <;> iassumption
  ihave Ho' := (pointsTo_split_subset (q := fullShare) (f := fo) (S := Finset.univ) (Finset.subset_univ offs.view.set)).2 $$ [Ho Hor]; · isplitl [Ho] <;> iassumption
  ihave Hdr' := (Entails.of_eq (SparseCore.pointsTo_rest_scatterBuf (F := F) (thr d L) dst.view hg.axis
    (SparseCore.rows (F := F) (offs.view.read (Elt F) fo) hn hin) (SparseCore.scatterRowPayload (thr d L) src hg fs) fd Sd)) $$ Hdr
  ihave Hd' := (SparseCore.pointsTo_namedRows_split (thr d L) dst.view hg.axis _ hSd (SparseCore.scatterBuf (thr d L) dst.view hg.axis
    (SparseCore.rows (F := F) (offs.view.read (Elt F) fo) hn hin) (SparseCore.scatterRowPayload (thr d L) src hg fs) fd)).2 $$ [Hd Hdr']
  · isplitl [Hd] <;> iassumption
  iapply Hk
  isplitl [Hs']; · iexact Hs'
  isplitl [Ho']; · iexact Ho'
  isplitl [Hd']; · iexact Hd'
  isplitl [Hsem]; · iexact Hsem
  iexact HO

/-- The tile's number among the sixteen. -/
abbrev tl (L : grid0.Coords) : ℕ := (L 1).val

theorem tl_lt (L : grid0.Coords) : tl L < 16 := (L 1).isLt

/-- The counter of the tile's transfers numbered `j`. -/
abbrev semOf (d : Dev nD) (L : grid0.Coords) (j : Fin 5) : GSem nD τ sig := (thr d L, .dma j)

/-- The tile's five counters, at zero. -/
def Sems (d : Dev nD) (L : grid0.Coords) : sProp 𝕄 :=
  iprop(semVal (semOf d L 0) 0 ∗ semVal (semOf d L 1) 0 ∗ semVal (semOf d L 2) 0 ∗ semVal (semOf d L 3) 0 ∗ semVal (semOf d L 4) 0)

/-- Its five buffers, at any contents. -/
def Bufs (d : Dev nD) (L : grid0.Coords) : sProp 𝕄 :=
  iprop((∃ f, kyM.view.loc (thr d L) ↦{fullShare} f) ∗ (∃ f, plM.view.loc (thr d L) ↦{fullShare} f)
    ∗ (∃ f, giM.view.loc (thr d L) ↦{fullShare} f) ∗ (∃ f, cvM.view.loc (thr d L) ↦{fullShare} f) ∗ (∃ f, pvM.view.loc (thr d L) ↦{fullShare} f))

/-- The arrays it reads: a share of the keys, of the thresholds and of the counts. -/
def Ins (d : Dev nD) (L : grid0.Coords) (q : PosShare TreeShare) (keys : S100352.Idx → BitVec 32) (par : S32.Idx → BitVec 32)
    (cnt : S256.Idx → BitVec 32) : sProp 𝕄 :=
  iprop((keysM.view.loc (thr d L) ↦{q} keys) ∗ (parM.view.loc (thr d L) ↦{q} par) ∗ (cntM.view.loc (thr d L) ↦{q} cnt))

/-- Its words of the result, those its slots name. -/
def Outs (d : Dev nD) (L : grid0.Coords) (w : ℕ → ℕ → BitVec 32) (f : S102400.Idx → BitVec 32) : sProp 𝕄 :=
  iprop(outM.view.loc (thr d L) ↦[own w (tl L)]{fullShare} f)

/-! ## What the loads read -/

/-- Sixteen words of a list, from word `m`. -/
theorem window_read {N : ℕ} (hN : 0 < N) {sp : Space} (b : Memref sig .scVector sp (⟨1, ![N]⟩ : Shape) .i32) (f : b.view.ty.Contents (Elt F)) {m : ℕ}
    {off : Fin 1 → ℕ} (hoff : off = ![m]) (inb : ∀ a, off a + S16.size a ≤ (⟨1, ![N]⟩ : Shape).size a) (x : S16.Idx) :
    b.view.readAt (Elt F) (Rect.unit (s := (⟨1, ![N]⟩ : Shape)) off S16.size inb).toLoadRect f x = b.view.read (Elt F) f (at1 hN (m + (x 0).val)) := by
  subst hoff
  show b.view.read (Elt F) f _ = b.view.read (Elt F) f _
  congr 1
  exact at1_eq hN _ (ValueKit.rect_emb_unit_val (s := (⟨1, ![N]⟩ : Shape)) ![m] S16.size inb x 0)

/-! ## The counts of the tiles before -/

/-- What holds before turn `n` of the first loop: the counts are there, and the accumulators hold the sums over the
    tiles before the tile, of the first `n`. -/
def Turn1 (d : Dev nD) (L : grid0.Coords) (cnt : S256.Idx → BitVec 32) (n : ℕ) (acc : BitVec 32 × BitVec 32) : sProp 𝕄 :=
  iprop(⌜acc.1 = before cnt 0 (min n (tl L)) ∧ acc.2 = before cnt 1 (min n (tl L))⌝ ∗ (cvM.view.loc (thr d L) ↦{fullShare} cnt))

/-- One turn of the first loop. -/
theorem wp_turn1 (d : Dev nD) (L : grid0.Coords) (cnt : S256.Idx → BitVec 32) (r0 r1 r2 r3 : DmaSems sig S_)
    (k : Fin k0_t1_loop.trips) (acc : BitVec 32 × BitVec 32) :
    (Turn1 d L cnt k.val acc : sProp 𝕄) ⊢ Rest (F := F) d L
      (k0_t1_body (F := F) L keysM (Memref.isWhole_whole _) parM (Memref.isWhole_whole _) cntM (Memref.isWhole_whole _) outM (Memref.isWhole_whole _)
        kyM (Memref.isWhole_whole _) plM (Memref.isWhole_whole _) giM (Memref.isWhole_whole _) cvM (Memref.isWhole_whole _) pvM (Memref.isWhole_whole _) cc0_scratch5 r0 r1 r2 r3 (BitVec.ofNat 32 (tl L)) k acc)
      (Turn1 d L cnt (k.val + 1)) := by
  obtain ⟨a, b⟩ := acc
  have hk : k.val < 16 := lt_of_lt_of_le k.isLt (show k0_t1_loop.trips ≤ 16 by decide +kernel)
  unfold k0_t1_body Rest
  simp only [Prog.lift, Prog.bind_op, Prog.bind_ret, Prog.pure_eq_ret, Prog.bind_assoc]
  conv => lhs; unfold Turn1
  iintro ⟨%hc, HC⟩
  iapply (wp_load 𝒱₀ (thr d L) none Set.univ (m := cvM) (S := Finset.univ) (q := fullShare) (Finset.subset_univ _)) $$ HC
  iintro HC
  rw [wp_ret]
  imodintro
  unfold Turn1
  isplitr
  · ipureintro
    exact ⟨before_step cnt 0 hk (tl_lt L) hc.1 ((read_over (F := F) _).trans (congrArg pos (window_read (F := F) (by decide) cvM cnt (k0_off2_eq k) _ _))),
      before_step cnt 1 hk (tl_lt L) hc.2 ((read_at (F := F) _).trans (congrArg pos (window_read (F := F) (by decide) cvM cnt (k0_off2_eq k) _ _)))⟩
  iexact HC

/-- The first loop: the counts of the tiles before added up. -/
theorem wp_offsets (d : Dev nD) (L : grid0.Coords) (cnt : S256.Idx → BitVec 32) (r0 r1 r2 r3 : DmaSems sig S_)
    {kk : BitVec 32 × BitVec 32 → Prog (TpuEff nD τ sig (Elt F) Λ₀ (thr d L).2) PUnit} {Q : PUnit → sProp 𝕄} :
    (iprop(cvM.view.loc (thr d L) ↦{fullShare} cnt) : sProp 𝕄)
      ⊢ iprop((∀ acc, Turn1 d L cnt 16 acc -∗ Rest d L (kk acc) Q)
        -∗ Rest (F := F) d L (Scf.Loop.for k0_t1_loop k0_t1_ok (0#32, 0#32)
          (k0_t1_body (F := F) L keysM (Memref.isWhole_whole _) parM (Memref.isWhole_whole _) cntM (Memref.isWhole_whole _) outM (Memref.isWhole_whole _)
        kyM (Memref.isWhole_whole _) plM (Memref.isWhole_whole _) giM (Memref.isWhole_whole _) cvM (Memref.isWhole_whole _) pvM (Memref.isWhole_whole _) cc0_scratch5 r0 r1 r2 r3 (BitVec.ofNat 32 (tl L))) >>= kk) Q) := by
  iintro HC
  iapply (Scf.wp_for_bind frame (wpE (defs₀ (F := F)) 𝒱₀ (thr d L) none) Set.univ k0_t1_loop.lb k0_t1_loop.ub k0_t1_loop.st k0_t1_ok (0#32, 0#32) _
    (Turn1 d L cnt) (wp_turn1 d L cnt r0 r1 r2 r3))
  unfold Turn1
  isplitr
  · ipureintro
    rw [Nat.zero_min]
    exact ⟨rfl, rfl⟩
  iexact HC

/-! ## The keys placed -/

/-- What holds before turn `n` of the second loop: the keys are there, `16 n` of them are placed and numbered, and the
    accumulators hold how many of these lie above the threshold and at it. -/
def Turn2 (d : Dev nD) (L : grid0.Coords) (kv : S6272.Idx → BitVec 32) (par : S32.Idx → BitVec 32) (cnt : S256.Idx → BitVec 32) (n : ℕ)
    (acc : BitVec 32 × BitVec 32) : sProp 𝕄 :=
  iprop(⌜acc.1 = rank .sgt kv par (16 * n) ∧ acc.2 = rank .eq kv par (16 * n)⌝ ∗ (kyM.view.loc (thr d L) ↦{fullShare} kv)
    ∗ (∃ g, ⌜Filled (place kv par cnt (tl L)) n g⌝ ∗ (plM.view.loc (thr d L) ↦{fullShare} g))
    ∗ ∃ g, ⌜Filled (fun p => BitVec.ofNat 32 (6272 * tl L + p)) n g⌝ ∗ (giM.view.loc (thr d L) ↦{fullShare} g))

/-- One turn of the second loop. -/
theorem wp_turn2 (d : Dev nD) (L : grid0.Coords) (kv : S6272.Idx → BitVec 32) (par : S32.Idx → BitVec 32) (cnt : S256.Idx → BitVec 32)
    {tv ov : S16.Idx → BitVec 32} (ht : ∀ x, tv x = par (at1 (by decide) (x 0).val)) (ho : ∀ x, ov x = par (at1 (by decide) (16 + (x 0).val)))
    {o q : BitVec 32} (hoo : o = before cnt 0 (tl L)) (hq : q = before cnt 1 (tl L)) (r0 r1 r2 r3 : DmaSems sig S_)
    (k : Fin k0_t2_loop.trips) (acc : BitVec 32 × BitVec 32) :
    (Turn2 d L kv par cnt k.val acc : sProp 𝕄) ⊢ Rest (F := F) d L
      (k0_t2_body (F := F) L keysM (Memref.isWhole_whole _) parM (Memref.isWhole_whole _) cntM (Memref.isWhole_whole _) outM (Memref.isWhole_whole _)
        kyM (Memref.isWhole_whole _) plM (Memref.isWhole_whole _) giM (Memref.isWhole_whole _) cvM (Memref.isWhole_whole _) pvM (Memref.isWhole_whole _) cc0_scratch5 r0 r1 r2 r3 (Scalar.muli (BitVec.ofNat 32 (tl L)) 6272#32) (iota .scVector S16 32 [0] iota_S16_d0_w32_scVector) tv ov o q k acc)
      (Turn2 d L kv par cnt (k.val + 1)) := by
  obtain ⟨a, b⟩ := acc
  unfold k0_t2_body Rest
  simp only [k0_part1_eq_skeleton, k0_part1_skel, Prog.lift, Prog.bind_op, Prog.bind_ret, Prog.pure_eq_ret, Prog.bind_assoc]
  conv => lhs; unfold Turn2
  iintro ⟨%hc, HK, ⟨%g, %hg, HP⟩, %gi, %hgi, HG⟩
  iapply (wp_load 𝒱₀ (thr d L) none Set.univ (m := kyM) (S := Finset.univ) (q := fullShare) (Finset.subset_univ _)) $$ HK
  iintro HK
  iapply (wp_load 𝒱₀ (thr d L) none Set.univ (m := plM) (S := Finset.univ) (q := fullShare) (Finset.subset_univ _)) $$ HP
  iintro HP
  have hk := window_read (F := F) (N := 6272) (by decide) kyM kv (k0_off3_eq k) (k0_off3_inb k)
  generalize hw : kyM.view.readAt (Elt F) (Rect.unit (s := S6272) (k0_off3 k) S16.size (k0_off3_inb k)).toLoadRect kv = w at hk ⊢
  have hs := filled_store (F := F) hg (off4_eq k) (k0_off4_inb k) (k0_pay10 (F := F) (Scalar.muli (BitVec.ofNat 32 (tl L)) 6272#32) (iota .scVector S16 32 [0] iota_S16_d0_w32_scVector) tv ov o q 0#32 1#32 k a b w)
    shapeCasts_S16_S1x16 (placed (F := F) cnt (tl L) hk ht ho hc.1 hc.2 hoo hq k rfl)
  have hsi := filled_store_numbers (F := F) hgi (off4_eq k) (k0_off4_inb k) (k0_pay3 L (Scalar.muli (Scf.iv 0#32 1#32 k.val) 16#32))
    shapeCasts_S16_S1x16 (numbered L k.val)
  iapply (wp_store 𝒱₀ (thr d L) none Set.univ (m := plM) (r := Rect.unit (s := S49x128) (k0_off4 k) S1x16.size (k0_off4_inb k)) (Mk := Finset.univ) (f := g) (S := Finset.univ) (Finset.subset_univ _)) $$ HP
  iintro HP
  iapply (wp_load 𝒱₀ (thr d L) none Set.univ (m := giM) (S := Finset.univ) (q := fullShare) (Finset.subset_univ _)) $$ HG
  iintro HG
  iapply (wp_store 𝒱₀ (thr d L) none Set.univ (m := giM) (r := Rect.unit (s := S49x128) (k0_off4 k) S1x16.size (k0_off4_inb k)) (Mk := Finset.univ) (f := gi) (S := Finset.univ) (Finset.subset_univ _)) $$ HG
  iintro HG
  rw [wp_ret]
  imodintro
  unfold Turn2
  isplitr
  · ipureintro
    exact ⟨rank_step .sgt hk ht hc.1, rank_step .eq hk ht hc.2⟩
  isplitl [HK]; · iexact HK
  isplitl [HP]
  · iexists _
    isplitr
    · ipureintro; exact hs
    iexact HP
  iexists _
  isplitr
  · ipureintro; exact hsi
  iexact HG

/-- The second loop: all the tile's keys placed. -/
theorem wp_placing (d : Dev nD) (L : grid0.Coords) (kv : S6272.Idx → BitVec 32) (par : S32.Idx → BitVec 32) (cnt : S256.Idx → BitVec 32)
    {tv ov : S16.Idx → BitVec 32} (ht : ∀ x, tv x = par (at1 (by decide) (x 0).val)) (ho : ∀ x, ov x = par (at1 (by decide) (16 + (x 0).val)))
    {o q : BitVec 32} (hoo : o = before cnt 0 (tl L)) (hq : q = before cnt 1 (tl L)) (r0 r1 r2 r3 : DmaSems sig S_)
    {kk : BitVec 32 × BitVec 32 → Prog (TpuEff nD τ sig (Elt F) Λ₀ (thr d L).2) PUnit} {Q : PUnit → sProp 𝕄} (g gi : S49x128.Idx → BitVec 32) :
    (iprop((kyM.view.loc (thr d L) ↦{fullShare} kv) ∗ (plM.view.loc (thr d L) ↦{fullShare} g) ∗ (giM.view.loc (thr d L) ↦{fullShare} gi)) : sProp 𝕄)
      ⊢ iprop((∀ acc, Turn2 d L kv par cnt 392 acc -∗ Rest d L (kk acc) Q)
        -∗ Rest (F := F) d L (Scf.Loop.for k0_t2_loop k0_t2_ok (0#32, 0#32)
          (k0_t2_body (F := F) L keysM (Memref.isWhole_whole _) parM (Memref.isWhole_whole _) cntM (Memref.isWhole_whole _) outM (Memref.isWhole_whole _)
        kyM (Memref.isWhole_whole _) plM (Memref.isWhole_whole _) giM (Memref.isWhole_whole _) cvM (Memref.isWhole_whole _) pvM (Memref.isWhole_whole _) cc0_scratch5 r0 r1 r2 r3 (Scalar.muli (BitVec.ofNat 32 (tl L)) 6272#32) (iota .scVector S16 32 [0] iota_S16_d0_w32_scVector) tv ov o q) >>= kk) Q) := by
  iintro ⟨HK, HP, HG⟩
  iapply (Scf.wp_for_bind frame (wpE (defs₀ (F := F)) 𝒱₀ (thr d L) none) Set.univ k0_t2_loop.lb k0_t2_loop.ub k0_t2_loop.st k0_t2_ok (0#32, 0#32) _
    (Turn2 d L kv par cnt) (wp_turn2 d L kv par cnt ht ho hoo hq r0 r1 r2 r3))
  unfold Turn2
  isplitr
  · ipureintro; exact ⟨rfl, rfl⟩
  isplitl [HK]; · iexact HK
  isplitl [HP]
  · iexists g
    isplitr
    · ipureintro
      intro y hy
      exact absurd hy (by omega)
    iexact HP
  iexists gi
  isplitr
  · ipureintro
    intro y hy
    exact absurd hy (by omega)
  iexact HG

/-! ## The numbers sent -/

theorem pos_S128 : 0 < S128.numel := by decide

theorem off5_eq : ∀ k : Fin k0_t3_loop.trips, k0_off5 k = ![k.val, 0] := by decide +kernel

/-- What holds before turn `n` of the third loop: the lists are there, and `128 n` numbers are at their slots. -/
def Turn3 (d : Dev nD) (L : grid0.Coords) (O : CellTallies nD τ sig (HIx 1)) (W : Waits sig (HIx 1)) (w : ℕ → ℕ → BitVec 32)
    (old : S102400.Idx → BitVec 32) (fo fs : S49x128.Idx → BitVec 32) (n : ℕ) (_ : BitVec 32) : sProp 𝕄 :=
  iprop((giM.view.loc (thr d L) ↦{fullShare} fs) ∗ (plM.view.loc (thr d L) ↦{fullShare} fo)
    ∗ (∃ g, ⌜Sent w old (tl L) (128 * n) g⌝ ∗ (outM.view.loc (thr d L) ↦[own w (tl L)]{fullShare} g))
    ∗ semVal (semOf d L 4) 0 ∗ Owe d L O W)

/-- One turn of the third loop. -/
theorem wp_turn3 (d : Dev nD) (L : grid0.Coords) {O : CellTallies nD τ sig (HIx 1)} {W : Waits sig (HIx 1)} (hO : ∀ g, O g none = 0)
    {w : ℕ → ℕ → BitVec 32} (hgood : Good w) (old : S102400.Idx → BitVec 32) {fo fs : S49x128.Idx → BitVec 32} (hf : Filled (w (tl L)) 392 fo)
    (hnum : Filled (fun p => BitVec.ofNat 32 (6272 * tl L + p)) 392 fs) (r0 r1 r2 : DmaSems sig S_)
    (k : Fin k0_t3_loop.trips) (acc : BitVec 32) :
    (Turn3 d L O W w old fo fs k.val acc : sProp 𝕄) ⊢ Rest (F := F) d L
      (k0_t3_body (F := F) L keysM (Memref.isWhole_whole _) parM (Memref.isWhole_whole _) cntM (Memref.isWhole_whole _) outM (Memref.isWhole_whole _)
        kyM (Memref.isWhole_whole _) plM (Memref.isWhole_whole _) giM (Memref.isWhole_whole _) cvM (Memref.isWhole_whole _) pvM (Memref.isWhole_whole _) cc0_scratch5 r0 r1 r2 cc0_scoped3 k acc)
      (Turn3 d L O W w old fo fs (k.val + 1)) := by
  have hk : k.val < 49 := lt_of_lt_of_le k.isLt (show k0_t3_loop.trips ≤ 49 by decide +kernel)
  have hoff : k0_off5 k = ![(⟨k.val, hk⟩ : Fin 49).val, 0] := off5_eq k
  unfold k0_t3_body
  conv => lhs; unfold Turn3
  iintro ⟨HG, HP, ⟨%g, %hg, HO⟩, Hsem, Howe⟩
  iapply (wp_scatter d L hO (src := srcW (k0_off5 k) (k0_off5_inb k) squeezes_S1x128_S128) (dst := outW ![0] inb_S102400_S102400_0)
    (offs := lstW (k0_off5 k) (k0_off5_inb k) squeezes_S1x128_S128) (hg := gathers_S102400_S128) (fs := fs) (fd := g) (fo := fo) (Sd := own w (tl L))
    pos_S128 (lst_lt hgood (tl_lt L) hf hoff (k0_off5_inb k) squeezes_S1x128_S128)
    (SparseCore.rows_injective (lst_inj hgood (tl_lt L) hf hoff (k0_off5_inb k) squeezes_S1x128_S128))
    (SparseCore.sum_scatterCredit_eq_srcCredit (thr d L) _ _ gathers_S102400_S128 rfl _ (fun _ => rfl) (fun _ => rfl))
    (named_own hgood (tl_lt L) hf rfl inb_S102400_S102400_0 hoff (k0_off5_inb k) squeezes_S1x128_S128 d (cV L) (jV L) gathers_S102400_S128 rfl _)) $$ [HG HP HO Hsem Howe]
  · isplitl [HG]; · iexact HG
    isplitl [HP]; · iexact HP
    isplitl [HO]; · iexact HO
    isplitl [Hsem]; · iexact Hsem
    iexact Howe
  iintro ⟨HG, HP, HO, Hsem, Howe⟩
  unfold Rest
  rw [Prog.pure_eq_ret, wp_ret]
  imodintro
  unfold Turn3
  isplitl [HG]; · iexact HG
  isplitl [HP]; · iexact HP
  isplitl [HO]
  · iexists _
    isplitr
    swap; · iexact HO
    ipureintro
    exact sent_step hgood (tl_lt L) hf hnum rfl inb_S102400_S102400_0 hoff (k0_off5_inb k) squeezes_S1x128_S128 hoff (k0_off5_inb k) squeezes_S1x128_S128
      d (cV L) (jV L) gathers_S102400_S128 rfl _ hg
  isplitl [Hsem]; · iexact Hsem
  iexact Howe

/-- The third loop: all the tile's numbers at their slots. -/
theorem wp_sending (d : Dev nD) (L : grid0.Coords) {O : CellTallies nD τ sig (HIx 1)} {W : Waits sig (HIx 1)} (hO : ∀ g, O g none = 0)
    {w : ℕ → ℕ → BitVec 32} (hgood : Good w) (old : S102400.Idx → BitVec 32) {fo fs : S49x128.Idx → BitVec 32} (hf : Filled (w (tl L)) 392 fo)
    (hnum : Filled (fun p => BitVec.ofNat 32 (6272 * tl L + p)) 392 fs) (r0 r1 r2 : DmaSems sig S_)
    {kk : BitVec 32 → Prog (TpuEff nD τ sig (Elt F) Λ₀ (thr d L).2) PUnit} {Q : PUnit → sProp 𝕄} :
    (iprop((giM.view.loc (thr d L) ↦{fullShare} fs) ∗ (plM.view.loc (thr d L) ↦{fullShare} fo)
        ∗ (outM.view.loc (thr d L) ↦[own w (tl L)]{fullShare} old) ∗ semVal (semOf d L 4) 0 ∗ Owe d L O W) : sProp 𝕄)
      ⊢ iprop((∀ acc, Turn3 d L O W w old fo fs 49 acc -∗ Rest d L (kk acc) Q)
        -∗ Rest (F := F) d L (Scf.Loop.for k0_t3_loop k0_t3_ok 0#32
          (k0_t3_body (F := F) L keysM (Memref.isWhole_whole _) parM (Memref.isWhole_whole _) cntM (Memref.isWhole_whole _) outM (Memref.isWhole_whole _)
        kyM (Memref.isWhole_whole _) plM (Memref.isWhole_whole _) giM (Memref.isWhole_whole _) cvM (Memref.isWhole_whole _) pvM (Memref.isWhole_whole _) cc0_scratch5 r0 r1 r2 cc0_scoped3) >>= kk) Q) := by
  iintro ⟨HG, HP, HO, Hsem, Howe⟩
  iapply (Scf.wp_for_bind frame (wpE (defs₀ (F := F)) 𝒱₀ (thr d L) none) Set.univ k0_t3_loop.lb k0_t3_loop.ub k0_t3_loop.st k0_t3_ok 0#32 _
    (Turn3 d L O W w old fo fs) (wp_turn3 d L hO hgood old hf hnum r0 r1 r2))
  unfold Turn3
  isplitl [HG]; · iexact HG
  isplitl [HP]; · iexact HP
  isplitl [HO]
  · iexists old
    isplitr
    · ipureintro; exact sent_zero old (tl L)
    iexact HO
  isplitl [Hsem]; · iexact Hsem
  iexact Howe

/-! ## The task -/

theorem pos_S6272 : 0 < S6272.numel := by decide
theorem pos_S32 : 0 < S32.numel := by decide
theorem pos_S256 : 0 < S256.numel := by decide

set_option maxHeartbeats 4000000 in
set_option maxRecDepth 16384 in
/-- The tile's task. -/
theorem tile_run (d : Dev nD) (L : grid0.Coords) {O : CellTallies nD τ sig (HIx 1)} {W : Waits sig (HIx 1)} (hO : ∀ g, O g none = 0)
    {q : PosShare TreeShare} {keys : S100352.Idx → BitVec 32} {par : S32.Idx → BitVec 32} {cnt : S256.Idx → BitVec 32} {f : S102400.Idx → BitVec 32}
    (hgood : Good (slot keys par cnt)) :
    (iprop(Ins d L q keys par cnt ∗ Outs d L (slot keys par cnt) f ∗ Bufs d L ∗ Sems d L ∗ Owe d L O W) : sProp 𝕄)
      ⊢ Rest (F := F) d L
          (cc0__place_body (F := F) L keysM (Memref.isWhole_whole _) parM (Memref.isWhole_whole _) cntM (Memref.isWhole_whole _) outM (Memref.isWhole_whole _)
        kyM (Memref.isWhole_whole _) plM (Memref.isWhole_whole _) giM (Memref.isWhole_whole _) cvM (Memref.isWhole_whole _) pvM (Memref.isWhole_whole _) cc0_scratch5 cc0_scoped0 cc0_scoped1 cc0_scoped2 cc0_scoped3)
          fun _ => iprop(Ins d L q keys par cnt ∗ Outs d L (slot keys par cnt) (numbers (slot keys par cnt) f) ∗ Bufs d L ∗ Sems d L ∗ Owe d L O W) := by
  simp only [cc0__place_body_eq_skeleton, cc0__place_body_skel,
    Prog.lift, Prog.bind_op, Prog.bind_ret, Prog.pure_eq_ret, Prog.bind_assoc]
  unfold Ins Outs Bufs Sems
  iintro ⟨⟨Hkeys, Hpar, Hcnt⟩, Hout, ⟨⟨%fk, Hky⟩, ⟨%fp, Hpl⟩, ⟨%fi, Hgi⟩, ⟨%fc, Hcv⟩, ⟨%ft, Hpv⟩⟩, ⟨Hs0, Hs1, Hs2, Hs3, Hs4⟩, Howe⟩
  iapply (wp_copy d L hO (q := q) (Ss := Finset.univ) (fs := keys) (Sd := Finset.univ) (fd := fk) (Finset.subset_univ _) (Finset.subset_univ _)
    (View.dmaCredit_pos _ pos_S6272)) $$ [Hkeys Hky Hs1 Howe]
  · iframe Hkeys Hky Hs1 Howe
  iintro ⟨Hkeys, Hky, Hs1, Howe⟩
  rw [own_copied (t := tl L) (k0_off1_eq L)]
  iapply (wp_copy d L hO (q := q) (Ss := Finset.univ) (fs := par) (Sd := Finset.univ) (fd := ft) (Finset.subset_univ _) (Finset.subset_univ _)
    (View.dmaCredit_pos _ pos_S32)) $$ [Hpar Hpv Hs2 Howe]
  · iframe Hpar Hpv Hs2 Howe
  iintro ⟨Hpar, Hpv, Hs2, Howe⟩
  rw [show pvM.view.write (Elt F) ft (parM.view.read (Elt F) par) Finset.univ = par from View.write_whole_univ _ _ _]
  unfold Rest
  iapply (wp_load 𝒱₀ (thr d L) none Set.univ (m := pvM) (S := Finset.univ) (q := fullShare) (Finset.subset_univ _)) $$ Hpv
  iintro Hpv
  iapply (wp_load 𝒱₀ (thr d L) none Set.univ (m := pvM) (S := Finset.univ) (q := fullShare) (Finset.subset_univ _)) $$ Hpv
  iintro Hpv
  have ht : ∀ x, pvM.view.readAt (Elt F) (Rect.unit (s := S32) ![0] S16.size inb_S32_S16_0).toLoadRect par x = par (at1 (by decide) (x 0).val) := fun x =>
    (window_read (F := F) (N := 32) (by decide) pvM par rfl inb_S32_S16_0 x).trans (by rw [Nat.zero_add]; rfl)
  have ho : ∀ x, pvM.view.readAt (Elt F) (Rect.unit (s := S32) ![16] S16.size inb_S32_S16_16).toLoadRect par x = par (at1 (by decide) (16 + (x 0).val)) := fun x =>
    window_read (F := F) (N := 32) (by decide) pvM par rfl inb_S32_S16_16 x
  generalize pvM.view.readAt (Elt F) (Rect.unit (s := S32) ![0] S16.size inb_S32_S16_0).toLoadRect par = tv at ht ⊢
  generalize pvM.view.readAt (Elt F) (Rect.unit (s := S32) ![16] S16.size inb_S32_S16_16).toLoadRect par = ov at ho ⊢
  iapply (wp_copy d L hO (q := q) (Ss := Finset.univ) (fs := cnt) (Sd := Finset.univ) (fd := fc) (Finset.subset_univ _) (Finset.subset_univ _)
    (View.dmaCredit_pos _ pos_S256)) $$ [Hcnt Hcv Hs3 Howe]
  · iframe Hcnt Hcv Hs3 Howe
  iintro ⟨Hcnt, Hcv, Hs3, Howe⟩
  rw [show cvM.view.write (Elt F) fc (cntM.view.read (Elt F) cnt) Finset.univ = cnt from View.write_whole_univ _ _ _]
  iapply (wp_offsets d L cnt cc0_scoped0 cc0_scoped1 cc0_scoped2 cc0_scoped3) $$ [Hcv]
  · iexact Hcv
  iintro %acc HT
  rcases acc with ⟨o, p⟩
  simp only [Prog.lift, Prog.bind_op, Prog.bind_ret, Prog.pure_eq_ret, Prog.bind_assoc]
  unfold Turn1
  icases HT with ⟨%hc, Hcv⟩
  have hmin : min 16 (tl L) = tl L := Nat.min_eq_right (tl_lt L).le
  rw [hmin] at hc
  iapply (wp_placing d L (ownKeys (tl L) keys) par cnt ht ho hc.1 hc.2 cc0_scoped0 cc0_scoped1 cc0_scoped2 cc0_scoped3 fp fi) $$ [Hky Hpl Hgi]
  · iframe Hky Hpl Hgi
  iintro %acc HT
  rcases acc with ⟨a, b⟩
  simp only [Prog.lift, Prog.bind_op, Prog.bind_ret, Prog.pure_eq_ret, Prog.bind_assoc]
  unfold Turn2
  icases HT with ⟨%_, Hky, ⟨%gp, %hg, Hpl⟩, %gi, %hgi, Hgi⟩
  iapply (wp_sending d L hO hgood f hg hgi cc0_scoped0 cc0_scoped1 cc0_scoped2) $$ [Hgi Hpl Hout Hs4 Howe]
  · iframe Hgi Hpl Hout Hs4 Howe
  iintro %acc HT
  simp only [Prog.lift, Prog.bind_op, Prog.bind_ret, Prog.pure_eq_ret, Prog.bind_assoc]
  unfold Turn3
  icases HT with ⟨Hgi, Hpl, ⟨%go, %hsent, Hout⟩, Hs4, Howe⟩
  ihave Hout := (Entails.of_eq (pointsTo_congr fun y hy => sent_all hgood (tl_lt L) hsent hy)) $$ Hout
  iapply (rest_ret d L)
  iframe Hkeys Hpar Hcnt Hout Hs0 Hs1 Hs2 Hs3 Hs4 Howe
  isplitl [Hky]; · iexists _; iexact Hky
  isplitl [Hpl]; · iexists _; iexact Hpl
  isplitl [Hgi]; · iexists _; iexact Hgi
  isplitl [Hcv]; · iexists _; iexact Hcv
  iexists _; iexact Hpv

end Cert.PlaceIdeal.Run

end
-- ==== Proof.PlaceTask.lean ====
/-
  The place stage's task as the launch theorem asks for it: what a tile owns of its own — five scratch buffers and five
  counters — and the task's run (PlaceBody.lean) over it.
-/
module

public import proofs.«01_k».proof.Proof.PlaceBody
public import proofs.«01_k».proof.Proof.GatherTask

@[expose] public section

noncomputable section

namespace Cert.PlaceIdeal.Run

open Cert.PlaceIdeal Cert.PlaceIdeal.Gen
open Cert.GatherIdeal.Run (at1 shr)

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay ownBufs ownSems0 ownCells ownRefs mem_ownCells mem_ownRefs)

variable {F : FTy → Type} [FloatOps F]
local notation "𝕄" => MT nD τ sig (HIx 1) (Elt F) ℕ UU ℕ

/-- A family over a set that contains the values of an injective list: those values' members, and the rest. -/
theorem bigSep_listed {I : Type} [DecidableEq I] {n : ℕ} {s : Finset I} (e : Fin n ↪ I) (sub : ∀ j, e j ∈ s) (Φ : I → sProp 𝕄) :
    bigSep s Φ = iprop((bigSep Finset.univ fun j => Φ (e j)) ∗ bigSep (s \ Finset.univ.map e) Φ) := by
  have h : Finset.univ.map e ⊆ s := fun b hb => by
    obtain ⟨j, -, rfl⟩ := Finset.mem_map.mp hb
    exact sub j
  rw [SparseCore.bigSep_sdiff_split' h, bigSep_map]

theorem semOf_injective (d : Dev nD) (L : grid0.Coords) : Function.Injective (semOf d L) := fun a b e =>
  SemLoc.dma.inj (Prod.mk.inj e).2

/-- The tile's five counters are among those it owns at the start. -/
theorem semOf_mem (d : Dev nD) (L : grid0.Coords) (j : Fin 5) : semOf d L j ∈ ownCells (thr d L) :=
  mem_ownCells.mpr ⟨rfl, (show ∀ j : Fin 5, (SemLoc.dma j : SemLoc sig).isScoped .scVector = true by decide) j⟩

theorem ownSems0_tile (d : Dev nD) (L : grid0.Coords) :
    (ownSems0 (thr d L) : sProp 𝕄)
      = iprop(Sems d L ∗ bigSep (ownCells (thr d L) \ Finset.univ.map ⟨semOf d L, semOf_injective d L⟩) fun g => semVal g 0) := by
  unfold SparseCore.Cfg.ownSems0 Sems
  rw [bigSep_listed ⟨semOf d L, semOf_injective d L⟩ (semOf_mem d L),
    bigSep_univ_eq_bigSepL [0, 1, 2, 3, 4] (by decide) (by decide)]
  rfl

/-- The tile's scratch buffers as the device lists them. -/
def scratch (L : grid0.Coords) : Fin 5 → DevRef τ sig := fun i =>
  (Proc.scVector (cV L) (jV L)).devRef ((![cc0_scratch0, cc0_scratch1, cc0_scratch2, cc0_scratch3, cc0_scratch4] : Fin 5 → Ref sig .scVector) i)

theorem scratch_injective (L : grid0.Coords) : Function.Injective (scratch L) := fun i j e =>
  (show Function.Injective (![cc0_scratch0, cc0_scratch1, cc0_scratch2, cc0_scratch3, cc0_scratch4] : Fin 5 → Ref sig .scVector) by decide) (Proc.devRef_injective _ e)

theorem scratch_mem (d : Dev nD) (L : grid0.Coords) (i : Fin 5) : scratch L i ∈ ownRefs (thr d L).2 := by
  fin_cases i <;> exact SparseCore.Cfg.mem_ownRefs_of_owner (p := Proc.scVector (cV L) (jV L)) rfl

theorem ownBufs_tile (d : Dev nD) (L : grid0.Coords) :
    (ownBufs (thr d L) : sProp 𝕄)
      = iprop(Bufs d L ∗ bigSep (ownRefs (thr d L).2 \ Finset.univ.map ⟨scratch L, scratch_injective L⟩) fun b => iprop(∃ f, ((d, b) : Loc nD τ sig) ↦{fullShare} f)) := by
  unfold SparseCore.Cfg.ownBufs Bufs
  rw [bigSep_listed ⟨scratch L, scratch_injective L⟩ (scratch_mem d L),
    bigSep_univ_eq_bigSepL [0, 1, 2, 3, 4] (by decide) (by decide)]
  rfl

/-! ## A tile's part of the four arrays -/

abbrev jL (L : grid0.Coords) : Fin 16 := Fin.cast (show grid0.bound 1 = 16 from rfl) (L 1)

/-- Tile `i`'s part: a share of the padded keys, of the thresholds and of the counts; its words of the
    result, those its slots name. -/
abbrev part (d : Dev nD) (i : Fin 16) (keys : S100352.Idx → BitVec 32) (par : S32.Idx → BitVec 32)
    (cnt : S256.Idx → BitVec 32) (f : S102400.Idx → BitVec 32) : sProp 𝕄 :=
  iprop((keysLoc d ↦{shr i} keys) ∗ (parLoc d ↦{shr i} par) ∗ (cntLoc d ↦{shr i} cnt) ∗ (outLoc d ↦[own (slot keys par cnt) i.val]{fullShare} f))

theorem part_open (d : Dev nD) (L : grid0.Coords) {keys : S100352.Idx → BitVec 32} {par : S32.Idx → BitVec 32}
    {cnt : S256.Idx → BitVec 32} {f : S102400.Idx → BitVec 32} :
    (part d (jL L) keys par cnt f : sProp 𝕄) ⊢ iprop(Ins d L (shr (jL L)) keys par cnt ∗ Outs d L (slot keys par cnt) f) := by
  unfold Ins Outs
  iintro ⟨Hk, Ht, Hc, Ho⟩
  isplitl [Hk Ht Hc]
  · isplitl [Hk]; · iexact Hk
    isplitl [Ht]; · iexact Ht
    iexact Hc
  iexact Ho

theorem part_close (d : Dev nD) (L : grid0.Coords) {keys : S100352.Idx → BitVec 32} {par : S32.Idx → BitVec 32}
    {cnt : S256.Idx → BitVec 32} {f : S102400.Idx → BitVec 32} :
    (iprop(Ins d L (shr (jL L)) keys par cnt ∗ Outs d L (slot keys par cnt) f) : sProp 𝕄) ⊢ part d (jL L) keys par cnt f := by
  unfold Ins Outs
  iintro ⟨⟨Hk, Ht, Hc⟩, Ho⟩
  isplitl [Hk]; · iexact Hk
  isplitl [Ht]; · iexact Ht
  isplitl [Hc]; · iexact Hc
  iexact Ho

/-- The tile's task over what the launch gives it: its part of the arrays comes back with its words of the result written,
    its own buffers and counters as they were. -/
theorem tile_body (d : Dev nD) (L : grid0.Coords) (hF : (K (F := F)).Facts)
    {keys : S100352.Idx → BitVec 32} {par : S32.Idx → BitVec 32}
    {cnt : S256.Idx → BitVec 32} {f : S102400.Idx → BitVec 32}
    (hgood : Good (slot keys par cnt)) (O : CellTallies nD τ sig (HIx 1)) (W : Waits sig (HIx 1)) (hO : ∀ g, O g none = 0) :
    (iprop(levAts (K (F := F)).L (K (F := F)).lev ∗ emp ∗ part d (jL L) keys par cnt f
        ∗ scopedBufs (thr d L) ∗ scopedSems0 (thr d L) ∗ owes (thr d L) O W) : sProp 𝕄)
      ⊢ Rest (F := F) d L
          (cc0__place_body (F := F) L keysM (Memref.isWhole_whole _) parM (Memref.isWhole_whole _) cntM (Memref.isWhole_whole _) outM (Memref.isWhole_whole _)
            kyM (Memref.isWhole_whole _) plM (Memref.isWhole_whole _) giM (Memref.isWhole_whole _) cvM (Memref.isWhole_whole _) pvM (Memref.isWhole_whole _)
            cc0_scratch5 cc0_scoped0 cc0_scoped1 cc0_scoped2 cc0_scoped3)
          fun _ => iprop(part d (jL L) keys par cnt (numbers (slot keys par cnt) f)
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_tile, ownBufs_tile]
  iintro ⟨Hl, -, Hpart, ⟨Hbufs, Hbrest⟩, ⟨Hsems, Hsrest⟩, How⟩
  ihave HIO := (part_open d L) $$ Hpart
  icases HIO with ⟨Hins, Houts⟩
  ihave Hrun := (tile_run (F := F) d L hO (W := W) hgood) $$ [Hins Houts Hbufs Hsems Hl How]
  · isplitl [Hins]; · iexact Hins
    isplitl [Houts]; · iexact Houts
    isplitl [Hbufs]; · iexact Hbufs
    isplitl [Hsems]; · iexact Hsems
    unfold Owe
    isplitl [Hl]; · iexact Hl
    iexists W
    isplitr
    · ipureintro; exact fun p hp => Or.inl hp
    iexact How
  iapply (wp_wand frame _ _) $$ Hrun
  iintro %_ ⟨Hins, Houts, Hbufs, Hsems, Howe⟩
  unfold Owe
  icases Howe with ⟨-, Howe⟩
  isplitl [Hins Houts]
  · iapply (part_close d L) $$ [Hins Houts]
    isplitl [Hins]; · iexact Hins
    iexact Houts
  isplitl [Hbufs Hbrest]
  · isplitl [Hbufs]; · iexact Hbufs
    iexact Hbrest
  isplitl [Hsems Hsrest]
  · isplitl [Hsems]; · iexact Hsems
    iexact Hsrest
  iexact Howe

end Cert.PlaceIdeal.Run

end
-- ==== Proof.PlaceLaunch.lean ====
/-
  The place stage's launch and run: the host's six operations, the one call over the four arrays its tiles share out, the
  host's cut of the result, and what every unscoped array of the device holds at the end.
-/
module

public import proofs.«01_k».proof.Proof.PlaceTask

@[expose] public section

noncomputable section

namespace Cert.PlaceIdeal.Run

open Cert.PlaceIdeal Cert.PlaceIdeal.Gen
open Cert.GatherIdeal.Run (at1 shr)

open Idealize.ShloMosaic Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.SparseCore.Cfg (HIx Pay)

variable {F : FTy → Type} [FloatOps F]
local notation "𝕄" => MT nD τ sig (HIx 1) (Elt F) ℕ UU ℕ

/-! ## The host's operations and the arrays the call starts from -/

/-- The host's operations before the call: the padded keys, sixteen copies of the threshold and sixteen of the number of
    keys above it. -/
def hostOps : List (HloOp τ sig (Elt F)) := [
    StableHlo.nullary main_c (constantI S_ 32 4294967295#32),
    StableHlo.unary main_c main_v0 (broadcastInDim S352 ![] bcast_S_S352 : (⟨S_, .i32⟩ : BufTy).Contents (Elt F) → (⟨S352, .i32⟩ : BufTy).Contents (Elt F)),
    StableHlo.binary main_arg0 main_v0 main_v1 ((fun a b => concatenate S100352 0 [⟨S100000, a⟩, ⟨S352, b⟩] concatenates_S100000_S352_S100352_d0) : (⟨S100000, .i32⟩ : BufTy).Contents (Elt F) → (⟨S352, .i32⟩ : BufTy).Contents (Elt F) → (⟨S100352, .i32⟩ : BufTy).Contents (Elt F)),
    StableHlo.unary main_arg1 main_v2 (broadcastInDim S16 ![0] bcast_S1_S16_0 : (⟨S1, .i32⟩ : BufTy).Contents (Elt F) → (⟨S16, .i32⟩ : BufTy).Contents (Elt F)),
    StableHlo.unary main_arg2 main_v3 (broadcastInDim S16 ![0] bcast_S1_S16_0 : (⟨S1, .i32⟩ : BufTy).Contents (Elt F) → (⟨S16, .i32⟩ : BufTy).Contents (Elt F)),
    StableHlo.binary main_v2 main_v3 main_v4 ((fun a b => concatenate S32 0 [⟨S16, a⟩, ⟨S16, b⟩] concatenates_S16_S16_S32_d0) : (⟨S16, .i32⟩ : BufTy).Contents (Elt F) → (⟨S16, .i32⟩ : BufTy).Contents (Elt F) → (⟨S32, .i32⟩ : BufTy).Contents (Elt F))]

/-- The host's operation after it: the first two thousand words. -/
def hostCut : List (HloOp τ sig (Elt F)) := [
    StableHlo.unary main_v5 main_v6 ((extractStridedSlice S2000 ![0] · slices_S102400_S2000_0) : (⟨S102400, .i32⟩ : BufTy).Contents (Elt F) → (⟨S2000, .i32⟩ : BufTy).Contents (Elt F))]

theorem main_eq (d : Dev nD) : main (F := F) d
    = (StableHlo.seq hostOps >>= fun _ => (sc (F := F)).run d 0 >>= fun _ => StableHlo.seq hostCut >>= fun _ => pure ⟨⟩) := rfl

variable (m : (ℓ : Loc nD τ sig) → Buf (Elt F) ℓ) (ρ : Dev nD → PrngReg)

/-- The device's arrays when the call starts. -/
def V5 (d : Dev nD) : Valuation τ sig (Elt F) := StableHlo.after hostOps fun b => m (d, b)

abbrev keysA (d : Dev nD) : S100352.Idx → BitVec 32 := V5 m d (main_v1 : DevRef τ sig)
abbrev parA (d : Dev nD) : S32.Idx → BitVec 32 := V5 m d (main_v4 : DevRef τ sig)
abbrev cntA (d : Dev nD) : S256.Idx → BitVec 32 := V5 m d (main_arg3 : DevRef τ sig)
abbrev old0 (d : Dev nD) : S102400.Idx → BitVec 32 := V5 m d (main_v5 : DevRef τ sig)
abbrev new0 (d : Dev nD) : S102400.Idx → BitVec 32 := numbers (slot (keysA m d) (parA m d) (cntA m d)) (old0 m d)

/-- The device's arrays when the call is over: its result written. -/
def V6 (d : Dev nD) : Valuation τ sig (Elt F) := Function.update (V5 m d) (main_v5 : DevRef τ sig) (new0 m d)

/-- The device's arrays at the end. -/
def V7 (d : Dev nD) : Valuation τ sig (Elt F) := StableHlo.after hostCut (V6 m d)

/-- No two keys have the same slot. -/
def AllGood : Prop := ∀ d, Good (slot (keysA m d) (parA m d) (cntA m d))

/-! ## The arrays shared out among the tiles -/

theorem pts_blocks {ℓ : Loc nD τ sig} {q : PosShare TreeShare} {f : Buf (Elt F) ℓ} (B : Fin 16 → Finset (Idx ℓ)) (key : Idx ℓ → Fin 16)
    (hB : ∀ i y, y ∈ B i ↔ key y = i) : (ℓ ↦{q} f : sProp 𝕄) = bigSep Finset.univ fun i : Fin 16 => ℓ ↦[B i]{q} f := by
  have hc : (Finset.univ : Finset (Fin 16)).biUnion B = Finset.univ :=
    Finset.eq_univ_iff_forall.mpr fun y => Finset.mem_biUnion.mpr ⟨key y, Finset.mem_univ _, (hB _ _).mpr rfl⟩
  rw [← pointsTo_biUnion Finset.univ B fun i _ j _ hij => Finset.disjoint_left.mpr fun y hi hj =>
    hij (((hB _ _).mp hi).symm.trans ((hB _ _).mp hj)), hc]

theorem pts_shares {ℓ : Loc nD τ sig} {f : Buf (Elt F) ℓ} :
    (ℓ ↦{fullShare} f : sProp 𝕄) = bigSep Finset.univ fun i : Fin 16 => ℓ ↦{shr i} f :=
  pointsTo_piecesOf Finset.univ f (by decide) fullShare

/-- The four arrays of the call, whole. -/
abbrev whole (d : Dev nD) (keys : S100352.Idx → BitVec 32) (par : S32.Idx → BitVec 32)
    (cnt : S256.Idx → BitVec 32) (f : S102400.Idx → BitVec 32) : sProp 𝕄 :=
  iprop((keysLoc d ↦{fullShare} keys) ∗ (parLoc d ↦{fullShare} par) ∗ (cntLoc d ↦{fullShare} cnt) ∗ (outLoc d ↦{fullShare} f))

/-- Whole they are the sixteen tiles' parts. -/
theorem whole_eq (d : Dev nD) (keys : S100352.Idx → BitVec 32) (par : S32.Idx → BitVec 32)
    (cnt : S256.Idx → BitVec 32) (f : S102400.Idx → BitVec 32) :
    (whole d keys par cnt f : sProp 𝕄) = bigSep Finset.univ fun i : Fin 16 => part d i keys par cnt f := by
  have h0 := pts_blocks (F := F) (ℓ := outLoc d) (q := fullShare) (f := f) (fun i => own (slot keys par cnt) i.val)
    (owner (slot keys par cnt)) (fun i y => mem_own.trans (by rw [Fin.ext_iff]))
  unfold whole part
  rw [bigSep_sep', bigSep_sep', bigSep_sep', ← h0, ← pts_shares, ← pts_shares, ← pts_shares]

/-! ## What the handshakes carry -/

/-- The call takes the four arrays whole and brings them back with the result written; each tile its part of them. -/
def P : (K (F := F)).Pay (nD := nD) (Val := Elt F) (Name := ℕ) (U := UU) where
  st := fun q d _ => match q with | 0 => whole d (keysA m d) (parA m d) (cntA m d) (old0 m d)
  dn := fun q d _ => match q with | 0 => whole d (keysA m d) (parA m d) (cntA m d) (new0 m d)
  go := fun q d _ i => match q with
    | 0 => part d (Fin.cast nSub_zero i) (keysA m d) (parA m d) (cntA m d) (old0 m d)
  td := fun q d _ i => match q with
    | 0 => part d (Fin.cast nSub_zero i) (keysA m d) (parA m d) (cntA m d) (new0 m d)
  x := fun _ _ => iprop(emp)

instance P_storable : (P (F := F) m).IsStorable where
  st q d _ := match q with
    | 0 => (inferInstance : BI.Storable (upEmb : UEmb _ 𝕄) (whole d (keysA m d) (parA m d) (cntA m d) (old0 m d)))
  dn q d _ := match q with
    | 0 => (inferInstance : BI.Storable (upEmb : UEmb _ 𝕄) (whole d (keysA m d) (parA m d) (cntA m d) (new0 m d)))
  go q d _ i := match q with
    | 0 => (inferInstance : BI.Storable (upEmb : UEmb _ 𝕄)
      (part d (Fin.cast nSub_zero i) (keysA m d) (parA m d) (cntA m d) (old0 m d)))
  td q d _ i := match q with
    | 0 => (inferInstance : BI.Storable (upEmb : UEmb _ 𝕄)
      (part d (Fin.cast nSub_zero i) (keysA m d) (parA m d) (cntA m d) (new0 m d)))

/-! ## The tiles' obligation -/

def coordsV (c : Fin (grid0.bound 0)) (s : Fin (grid0.bound 1)) : grid0.Coords
  | 0 => c
  | 1 => s
  | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s =>
      cc0__place_body (F := F) (coordsV c s) keysM (Memref.isWhole_whole _) parM (Memref.isWhole_whole _) cntM (Memref.isWhole_whole _) outM (Memref.isWhole_whole _)
            kyM (Memref.isWhole_whole _) plM (Memref.isWhole_whole _) giM (Memref.isWhole_whole _) cvM (Memref.isWhole_whole _) pvM (Memref.isWhole_whole _)
            cc0_scratch5 cc0_scoped0 cc0_scoped1 cc0_scoped2 cc0_scoped3) ⟨⟩ c s := rfl

theorem obl_post {A B C : sProp 𝕄} {thr : Thread nD τ} {O : CellTallies nD τ sig (HIx 1)} {W : Waits sig (HIx 1)} {q : HIx 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = q⌝ ∗ owes thr O W') := by
  iintro ⟨HA, HB, HC, %W', %hW, HO⟩
  isplitl [HA]; · iexact HA
  isplitl [HB]; · iexact HB
  isplitl [HC]; · iexact HC
  iexists W'
  isplitr
  · ipureintro; exact fun p hp => (hW p hp).imp_right Or.inl
  iexact HO

set_option maxRecDepth 16384 in
theorem tileObl (hg : AllGood m) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body d (coordsV ⟨_, hci.1⟩ ⟨_, hci.2⟩) hF (hg d) O W hO).trans (wp_mono frame _ _ fun _ => obl_post)

/-! ## The call's own split and the launch's ghost state -/

theorem bigSep_tasks (Φ : Fin 16 → sProp 𝕄) : (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show whole d (keysA m d) (parA m d) (cntA m d) (old0 m d) ⊢ |={Set.univ}=> iprop(
      (bigSep Finset.univ fun i : Fin ((K (F := F)).nSub 0) =>
        part d (Fin.cast nSub_zero i) (keysA m d) (parA m d) (cntA m d) (old0 m d))
      ∗ ((bigSep Finset.univ fun i : Fin ((K (F := F)).nSub 0) =>
          part d (Fin.cast nSub_zero i) (keysA m d) (parA m d) (cntA m d) (new0 m d))
          -∗ whole d (keysA m d) (parA m d) (cntA m d) (new0 m d)))
  rw [bigSep_tasks (F := F) (fun i => part d i (keysA m d) (parA m d) (cntA m d) (old0 m d)),
    bigSep_tasks (F := F) (fun i => part d i (keysA m d) (parA m d) (cntA m d) (new0 m d)), whole_eq, whole_eq]
  iintro H; imodintro
  isplitl [H]; · iexact H
  iintro H
  iexact H

def u₀ : UU := (initOf (K (F := F)).hsCells (K (F := F)).hsToks, 1)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## @main on the TensorCore -/

/-- The four arrays of the call, as the device lists them. -/
def arrRefs : Fin 4 → DevRef τ sig := fun i =>
  Proc.devRef .tc ((![main_v1, main_v4, main_arg3, main_v5] : Fin 4 → Ref sig .tc) i)

theorem arrRefs_injective : Function.Injective arrRefs := fun i j e =>
  (show Function.Injective (![main_v1, main_v4, main_arg3, main_v5] : Fin 4 → Ref sig .tc) by decide)
    (Proc.devRef_injective _ e)

theorem arrRefs_mem (i : Fin 4) : arrRefs i ∈ Pipeline.ucRefs τ sig :=
  Finset.mem_filter.mpr ⟨StableHlo.devRef_mem_tcRefs _,
    (show ∀ i : Fin 4, ¬ (Proc.devRef (τ := τ) .tc ((![main_v1, main_v4, main_arg3, main_v5] : Fin 4 → Ref sig .tc) i)).isScoped by decide) i⟩

abbrev others : Finset (DevRef τ sig) := Pipeline.ucRefs τ sig \ Finset.univ.map ⟨arrRefs, arrRefs_injective⟩

/-- The device's unscoped arrays are the call's four and the others. -/
theorem held_split_arrs (d : Dev nD) (W : Valuation τ sig (Elt F)) :
    (held (SparseCore.T d) (Pipeline.ucRefs τ sig) W : sProp 𝕄)
      = iprop(whole d (W (main_v1 : DevRef τ sig)) (W (main_v4 : DevRef τ sig)) (W (main_arg3 : DevRef τ sig)) (W (main_v5 : DevRef τ sig)) ∗ held (SparseCore.T d) others W) := by
  unfold held
  rw [bigSep_listed ⟨arrRefs, arrRefs_injective⟩ arrRefs_mem, bigSep_univ_eq_bigSepL [0, 1, 2, 3] (by decide) (by decide)]
  rfl

theorem V6_of_ne (d : Dev nD) {b : DevRef τ sig} (h0 : b ≠ main_v5) : V6 m d b = V5 m d b := by
  unfold V6
  rw [Function.update_of_ne h0]
theorem V6_new0 (d : Dev nD) : V6 m d (main_v5 : DevRef τ sig) = new0 m d := by
  unfold V6
  rw [Function.update_self]

theorem held_others (d : Dev nD) : (held (SparseCore.T d) others (V6 m d) : sProp 𝕄) = held (SparseCore.T d) others (V5 m d) :=
  StableHlo.held_congr _ fun b hb => by
    have hn (i : Fin 4) : b ≠ arrRefs i := fun e => (Finset.mem_sdiff.mp hb).2 (Finset.mem_map.mpr ⟨i, Finset.mem_univ _, e.symm⟩)
    exact V6_of_ne m d (hn 3)

theorem st0_eq (d : Dev nD) : (bigSep Finset.univ fun c : Fin ((K (F := F)).nCore 0) => (P m).st 0 d c)
    = whole d (keysA m d) (parA m d) (cntA m d) (old0 m d) := bigSep_univ_of_subsingleton (0 : Fin 1)
theorem dn0_eq (d : Dev nD) : (bigSep Finset.univ fun c : Fin ((K (F := F)).nCore 0) => (P m).dn 0 d c)
    = whole d (keysA m d) (parA m d) (cntA m d) (new0 m d) := bigSep_univ_of_subsingleton (0 : Fin 1)

abbrev MID (d : Dev nD) : sProp 𝕄 := held (d.tc : Thread nD τ) (Pipeline.ucRefs τ sig) (V6 m d)
abbrev FIN (d : Dev nD) : sProp 𝕄 := held (SparseCore.T d) (Pipeline.ucRefs τ sig) (V7 m d)

theorem mid_of (d : Dev nD) : (iprop(whole d (keysA m d) (parA m d) (cntA m d) (new0 m d)
    ∗ held (SparseCore.T d) others (V5 m d)) : sProp 𝕄) ⊢ MID m d := by
  unfold MID
  rw [show (d.tc : Thread nD τ) = SparseCore.T d from rfl, held_split_arrs, held_others, V6_new0, V6_of_ne m d (b := main_v1) (by decide), V6_of_ne m d (b := main_v4) (by decide), V6_of_ne m d (b := main_arg3) (by decide)]

theorem hostOps_sub : ∀ op ∈ hostOps (F := F), op.bufs ⊆ Pipeline.ucRefs τ sig := by
  have h : (hostOps (F := F)).Forall fun op => op.bufs ⊆ StableHlo.tcRefs τ sig := by
    unfold hostOps
    simp only [List.forall_cons, List.Forall, StableHlo.nullary_bufs_sub, StableHlo.unary_bufs_sub, StableHlo.binary_bufs_sub, and_self]
  exact fun op ho => Pipeline.sub_ucRefs op (List.forall_iff_forall_mem.mp h op ho)

theorem hostOps_fresh : ∀ op ∈ hostOps (F := F), op.fresh = ∅ := by
  have h : (hostOps (F := F)).Forall fun op => op.fresh = ∅ := by
    unfold hostOps
    exact ⟨rfl, rfl, rfl, rfl, rfl, rfl⟩
  exact fun op ho => List.forall_iff_forall_mem.mp h op ho

theorem hostCut_sub : ∀ op ∈ hostCut (F := F), op.bufs ⊆ Pipeline.ucRefs τ sig := by
  have h : (hostCut (F := F)).Forall fun op => op.bufs ⊆ StableHlo.tcRefs τ sig := by
    unfold hostCut
    simp only [List.forall_cons, List.Forall, StableHlo.unary_bufs_sub, and_self]
  exact fun op ho => Pipeline.sub_ucRefs op (List.forall_iff_forall_mem.mp h op ho)

theorem hostCut_fresh : ∀ op ∈ hostCut (F := F), op.fresh = ∅ := by
  have h : (hostCut (F := F)).Forall fun op => op.fresh = ∅ := by
    unfold hostCut
    exact rfl
  exact fun op ho => List.forall_iff_forall_mem.mp h op ho

/-- @main: the host's operations, the call from the four arrays, the cut; every unscoped array kept at its last contents. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (fun b => m (d, b))
    from Pipeline.unscopedBufs_held d fun b => m (d, b), main_eq]
  iintro ⟨#Hctx, Hst, ⟨Hb, Hheld, Hts, -⟩, -⟩
  iapply (StableHlo.wp_seq 𝒱 none Set.univ d (Pipeline.ucRefs τ sig) _ hostOps hostOps_sub hostOps_fresh (fun b => m (d, b))) $$ [Hb Hheld]
  · isplitl [Hb] <;> iassumption
  iintro ⟨Hb, Hheld⟩
  ihave Hh := (show (held (d.tc : Thread nD τ) (Pipeline.ucRefs τ sig) (StableHlo.after hostOps fun b => m (d, b)) : sProp 𝕄) ⊢ _
    from Entails.of_eq (held_split_arrs d (V5 m d))) $$ Hheld
  icases Hh with ⟨Harr, Hrest⟩
  rw [wp_bind]
  iapply ((K (F := F)).wp_run (D (F := F)) 𝒱 (EH := EH) (P := P m) κ d 0) $$ [Hst Harr Hrest Hb Hts]
  isplitr; · iexact Hctx
  isplitl [Hst]; · iexact Hst
  isplitl [Harr]
  · rw [st0_eq]; iexact Harr
  iintro ⟨Hst, Hdn⟩
  ihave Hdn' := (Entails.of_eq (dn0_eq m d)) $$ Hdn
  ihave Hheld := (mid_of m d) $$ [Hdn' Hrest]
  · isplitl [Hdn'] <;> iassumption
  iapply (StableHlo.wp_seq 𝒱 none Set.univ d (Pipeline.ucRefs τ sig) _ hostCut hostCut_sub hostCut_fresh (V6 m d)) $$ [Hb Hheld]
  · isplitl [Hb] <;> iassumption
  iintro ⟨Hb, Hheld⟩
  rw [wp_pure]
  imodintro
  isplitl [Hst]; · iexact Hst
  isplitl [Hheld]; · iexact Hheld
  isplitl [Hb] <;> iassumption

def fq (d : Dev nD) (s' : Phys nD τ sig (Elt F)) : Prop := ∀ b ∈ Pipeline.ucRefs τ sig, s'.mem.mem (d, b) = V7 m d b

theorem hfin (d : Dev nD) (s' : Phys nD τ sig (Elt F)) : iprop(FIN m d ∗ SI s') ⊢ (⌜fq m d s'⌝ : sProp 𝕄) :=
  BI.sep_comm.trans (SI_pointsTo_bufs_agree (st := s') (qs := fun _ => fullShare) (F := V7 m d) (Pipeline.ucRefs τ sig))

/-! ## The program's run -/

/-- Every unscoped array at its last contents, every semaphore at zero. -/
def QC : PUnit × MemSt nD τ sig (Elt F) → Prop := fun r => (∀ d : Dev nD, ∀ b ∈ Pipeline.ucRefs τ sig, r.2.mem (d, b) = V7 m d b) ∧ r.2.sem = fun _ => 0

theorem run_main [∀ e, Nonempty (Elt F e)] (hg : AllGood m) :
    θ_run (Cert.PlaceIdeal.defs (F := F)) (Cert.PlaceIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hg facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.PlaceIdeal.Run

end
-- ==== Proof.PlaceCount.lean ====
/-
  The place stage's counting: the slots of the keys in the order of their numbers — the keys above the threshold first,
  then those at it while there is room, each other key at its own spare place — are all different, and every one of the
  first two thousand places is some key's.
-/
module

public import proofs.«01_k».proof.Proof.PlaceScatter
public import Mathlib.Data.Nat.Count

@[expose] public section

noncomputable section

namespace Cert.PlaceIdeal.Run

open Cert.GatherIdeal.Run (at1 at1_val)
open Idealize.ShloMosaic

/-! ## Numbers -/

section

variable (P Q : ℕ → Prop) [DecidablePred P] [DecidablePred Q]

/-- The place of number `n`, when `A` numbers satisfy `P`. -/
def placeOf (A n : ℕ) : ℕ :=
  if P n then Nat.count P n else if Q n ∧ A + Nat.count Q n < 2000 then A + Nat.count Q n else 2048 + n

variable {P Q}

theorem count_lt {n N : ℕ} (h : P n) (hn : n < N) : Nat.count P n < Nat.count P N := Nat.count_strict_mono h hn

theorem count_inj {m n : ℕ} (hm : P m) (hn : P n) (h : Nat.count P m = Nat.count P n) : m = n := by
  rcases Nat.lt_trichotomy m n with hlt | heq | hlt
  · have := count_lt hm hlt; omega
  · exact heq
  · have := count_lt hn hlt; omega

/-- Every number below the count is the count at some number that satisfies the predicate. -/
theorem count_hits {N v : ℕ} (h : v < Nat.count P N) : ∃ n < N, P n ∧ Nat.count P n = v := by
  induction N with
  | zero => rw [Nat.count_zero] at h; omega
  | succ N ih =>
    rw [Nat.count_succ] at h
    by_cases hv : v < Nat.count P N
    · obtain ⟨n, hn, hp⟩ := ih hv
      exact ⟨n, by omega, hp⟩
    · by_cases hP : P N
      · rw [if_pos hP] at h
        exact ⟨N, by omega, hP, by omega⟩
      · rw [if_neg hP] at h
        omega

variable {N : ℕ}

theorem placeOf_lt (hA : Nat.count P N < 2000) {n : ℕ} (hn : n < N) : placeOf P Q (Nat.count P N) n < 2048 + N := by
  unfold placeOf
  split
  · next h => have := count_lt h hn; omega
  · split
    · omega
    · omega

theorem placeOf_inj (hA : Nat.count P N < 2000) {m n : ℕ} (hm : m < N) (hn : n < N)
    (h : placeOf P Q (Nat.count P N) m = placeOf P Q (Nat.count P N) n) : m = n := by
  unfold placeOf at h
  by_cases pm : P m
  · rw [if_pos pm] at h
    have lm := count_lt pm hm
    by_cases pn : P n
    · rw [if_pos pn] at h
      exact count_inj pm pn h
    · rw [if_neg pn] at h
      split at h <;> omega
  · rw [if_neg pm] at h
    by_cases pn : P n
    · rw [if_pos pn] at h
      have ln := count_lt pn hn
      split at h <;> omega
    · rw [if_neg pn] at h
      split at h
      · next qm =>
        split at h
        · next qn => exact count_inj qm.1 qn.1 (by omega)
        · omega
      · split at h <;> omega

theorem placeOf_hits (hd : ∀ n, Q n → ¬ P n) (hA : 2000 ≤ Nat.count P N + Nat.count Q N) {v : ℕ} (hv : v < 2000) :
    ∃ n < N, placeOf P Q (Nat.count P N) n = v := by
  by_cases h : v < Nat.count P N
  · obtain ⟨n, hn, hp, hc⟩ := count_hits h
    exact ⟨n, hn, by unfold placeOf; rw [if_pos hp, hc]⟩
  · obtain ⟨n, hn, hq, hc⟩ := count_hits (P := Q) (N := N) (v := v - Nat.count P N) (by omega)
    exact ⟨n, hn, by unfold placeOf; rw [if_neg (hd n hq), if_pos ⟨hq, by omega⟩]; omega⟩

end

/-! ## Words -/

/-- The comparison of key `n` with the threshold holds. -/
def Holds (p : CmpIPredicate) (keys : S100352.Idx → BitVec 32) (c : BitVec 32) (n : ℕ) : Prop :=
  IntOp.cmpi p (keys (at1 (by decide) n)) c = 1#1

instance (p : CmpIPredicate) (keys : S100352.Idx → BitVec 32) (c : BitVec 32) : DecidablePred (Holds p keys c) :=
  fun n => inferInstanceAs (Decidable (IntOp.cmpi p (keys (at1 (by decide) n)) c = 1#1))

theorem sum_ofNat (f : ℕ → ℕ) (n : ℕ) : ∑ i ∈ Finset.range n, BitVec.ofNat 32 (f i) = BitVec.ofNat 32 (∑ i ∈ Finset.range n, f i) := by
  induction n with
  | zero => rfl
  | succ n ih => rw [Finset.sum_range_succ, Finset.sum_range_succ, ih, ← BitVec.ofNat_add]

theorem sum_count (P : ℕ → Prop) [DecidablePred P] (n : ℕ) : ∑ i ∈ Finset.range n, (if P i then 1 else 0) = Nat.count P n := by
  induction n with
  | zero => rfl
  | succ n ih => rw [Finset.sum_range_succ, Nat.count_succ, ih]

variable (keys : S100352.Idx → BitVec 32) (par : S32.Idx → BitVec 32) (cnt : S256.Idx → BitVec 32) (c : BitVec 32)

/-- Of tile `t`'s first `n` keys, those for which the comparison holds. -/
theorem hits_count (p : CmpIPredicate) (t : ℕ) {n : ℕ} (hn : n ≤ 6272) :
    ∑ i ∈ Finset.range n, hit p (ownKeys t keys (at1 (by decide) i)) c = BitVec.ofNat 32 (Nat.count (fun i => Holds p keys c (6272 * t + i)) n) := by
  rw [← sum_count, ← sum_ofNat]
  refine Finset.sum_congr rfl fun i hi => ?_
  have hi' := Finset.mem_range.mp hi
  have hk : ownKeys t keys (at1 (by decide) i) = keys (at1 (by decide) (6272 * t + i)) := by
    unfold ownKeys
    rw [at1_val (by decide) (by omega : i < 6272)]
  rw [hk]
  by_cases h : Holds p keys c (6272 * t + i)
  · exact (if_pos h).trans (congrArg (BitVec.ofNat 32) (if_pos h).symm)
  · exact (if_neg h).trans (congrArg (BitVec.ofNat 32) (if_neg h).symm)

/-- The tiles' counts, one after another, are the count over their keys. -/
theorem counts_sum (P : ℕ → Prop) [DecidablePred P] (t : ℕ) :
    ∑ j ∈ Finset.range t, Nat.count (fun i => P (6272 * j + i)) 6272 = Nat.count P (6272 * t) := by
  induction t with
  | zero => rfl
  | succ t ih => rw [Finset.sum_range_succ, ih, show 6272 * (t + 1) = 6272 * t + 6272 by omega, Nat.count_add]

variable {keys par cnt c}

/-- The counts are those of the keys; fewer than two thousand keys are above the threshold, and with those at it there are
    enough. -/
structure Fits (keys : S100352.Idx → BitVec 32) (par : S32.Idx → BitVec 32) (cnt : S256.Idx → BitVec 32) (c : BitVec 32) : Prop where
  thr : ∀ i, thrAt par i = c
  above : ∀ i, overAt par i = BitVec.ofNat 32 (Nat.count (Holds .sgt keys c) 100352)
  over : ∀ t < 16, cnt (at1 (by decide) (16 * t + 0)) = BitVec.ofNat 32 (Nat.count (fun i => Holds .sgt keys c (6272 * t + i)) 6272)
  same : ∀ t < 16, cnt (at1 (by decide) (16 * t + 1)) = BitVec.ofNat 32 (Nat.count (fun i => Holds .eq keys c (6272 * t + i)) 6272)
  few : Nat.count (Holds .sgt keys c) 100352 < 2000
  enough : 2000 ≤ Nat.count (Holds .sgt keys c) 100352 + Nat.count (Holds .eq keys c) 100352

theorem before_count {w : ℕ} {P : ℕ → Prop} [DecidablePred P]
    (h : ∀ t < 16, cnt (at1 (by decide) (16 * t + w)) = BitVec.ofNat 32 (Nat.count (fun i => P (6272 * t + i)) 6272)) {t : ℕ} (ht : t ≤ 16) :
    before cnt w t = BitVec.ofNat 32 (Nat.count P (6272 * t)) := by
  unfold before
  rw [← counts_sum P t, ← sum_ofNat]
  refine Finset.sum_congr rfl fun j hj => ?_
  rw [h j (by have := Finset.mem_range.mp hj; omega)]
  refine if_pos ?_
  have hle : Nat.count (fun i => P (6272 * j + i)) 6272 ≤ 6272 := Nat.count_le _
  rw [BitVec.toNat_ofNat]
  omega

/-- A key's slot, as a number. -/
theorem slot_eq (h : Fits keys par cnt c) {t p : ℕ} (ht : t < 16) (hp : p < 6272) :
    slot keys par cnt t p = BitVec.ofNat 32 (placeOf (Holds .sgt keys c) (Holds .eq keys c) (Nat.count (Holds .sgt keys c) 100352) (6272 * t + p)) := by
  have hkey : ∀ q, IntOp.cmpi q (ownKeys t keys (at1 (by decide) p)) c = 1#1 ↔ Holds q keys c (6272 * t + p) := fun q => by
    unfold ownKeys Holds
    rw [at1_val (by decide) hp]
  have hrank : ∀ q, rank q (ownKeys t keys) par p = BitVec.ofNat 32 (Nat.count (fun i => Holds q keys c (6272 * t + i)) p) := fun q => by
    unfold rank
    simp only [h.thr]
    exact hits_count keys c q t hp.le
  have h1 : before cnt 0 t + rank .sgt (ownKeys t keys) par p = BitVec.ofNat 32 (Nat.count (Holds .sgt keys c) (6272 * t + p)) := by
    rw [before_count (P := Holds .sgt keys c) h.over ht.le, hrank, ← BitVec.ofNat_add, Nat.count_add]
  have h2 : second (ownKeys t keys) par cnt t p
      = BitVec.ofNat 32 (Nat.count (Holds .sgt keys c) 100352 + Nat.count (Holds .eq keys c) (6272 * t + p)) := by
    unfold second
    rw [h.above, before_count (P := Holds .eq keys c) h.same ht.le, hrank, ← BitVec.ofNat_add, ← BitVec.ofNat_add, Nat.count_add, Nat.add_assoc]
  have hlt : IntOp.cmpi .slt (second (ownKeys t keys) par cnt t p) 2000#32 = 1#1
      ↔ Nat.count (Holds .sgt keys c) 100352 + Nat.count (Holds .eq keys c) (6272 * t + p) < 2000 := by
    have hle : Nat.count (Holds .eq keys c) (6272 * t + p) ≤ 6272 * t + p := Nat.count_le _
    have hf := h.few
    rw [h2, IntOp.cmpi_slt]
    simp only [BitVec.toInt_eq_toNat_cond, BitVec.toNat_ofNat, Nat.reducePow, Nat.reduceMod]
    omega
  unfold slot place placeOf
  rw [h.thr]
  by_cases g1 : Holds .sgt keys c (6272 * t + p)
  · rw [if_pos g1, if_pos ((hkey .sgt).mpr g1), h1]
  · rw [if_neg g1, if_neg (fun e => g1 ((hkey .sgt).mp e))]
    by_cases g2 : Holds .eq keys c (6272 * t + p) ∧ Nat.count (Holds .sgt keys c) 100352 + Nat.count (Holds .eq keys c) (6272 * t + p) < 2000
    · rw [if_pos g2, if_pos ⟨(hkey .eq).mpr g2.1, hlt.mpr g2.2⟩, h2]
    · rw [if_neg g2, if_neg (fun e => g2 ⟨(hkey .eq).mp e.1, hlt.mp e.2⟩), ← BitVec.ofNat_add]

theorem slot_val (h : Fits keys par cnt c) {t p : ℕ} (ht : t < 16) (hp : p < 6272) :
    (slot keys par cnt t p).toNat = placeOf (Holds .sgt keys c) (Holds .eq keys c) (Nat.count (Holds .sgt keys c) 100352) (6272 * t + p) := by
  have hl := placeOf_lt (P := Holds .sgt keys c) (Q := Holds .eq keys c) (N := 100352) h.few (n := 6272 * t + p) (by omega)
  rw [slot_eq h ht hp, BitVec.toNat_ofNat]
  omega

/-- No two keys have the same slot. -/
theorem good (h : Fits keys par cnt c) : Good (slot keys par cnt) := by
  refine ⟨fun t ht p hp => ?_, fun t ht p hp t' ht' p' hp' e => ?_⟩
  · rw [slot_val h ht hp]
    exact placeOf_lt (N := 100352) h.few (by omega)
  · rw [slot_val h ht hp, slot_val h ht' hp'] at e
    have := placeOf_inj (N := 100352) h.few (by omega) (by omega) e
    omega

theorem not_both {n : ℕ} (h : Holds .eq keys c n) : ¬ Holds .sgt keys c n := by
  unfold Holds at *
  rw [IntOp.cmpi_eq] at h
  rw [h, IntOp.cmpi_sgt]
  omega

/-- Each of the first two thousand places is some key's slot. -/
theorem filled_first (h : Fits keys par cnt c) {v : ℕ} (hv : v < 2000) : ∃ t < 16, ∃ p < 6272, (slot keys par cnt t p).toNat = v := by
  obtain ⟨n, hn, e⟩ := placeOf_hits (P := Holds .sgt keys c) (Q := Holds .eq keys c) (N := 100352) (fun _ => not_both) h.enough hv
  refine ⟨n / 6272, by omega, n % 6272, by omega, ?_⟩
  rw [slot_val h (by omega) (by omega), ← e]
  exact congrArg _ (by omega)

end Cert.PlaceIdeal.Run

end
-- ==== Proof.PlaceRef.lean ====
/-
  The place stage's reference, entry by entry: when the counts are those of the keys, its result is the first two thousand
  words of the kernel's; and the precondition, which says that they are.
-/
module

public import proofs.«01_k».proof.Proof.PlaceCount
public import proofs.«01_k».proof.Proof.Gen.PlaceReferenceIdeal.Run
public import proofs.«01_k».proof.Proof.Gen.Pre_counts_of_keys
public import Idealize.ShloMosaic.Lib.Routing.OpsOne
public import Idealize.ShloMosaic.Lib.StableHlo.Predicate
public import Idealize.ShloMosaic.Lib.Pointwise
public import Idealize.ShloMosaic.Lib.WordCmp
public import Idealize.ShloMosaic.Lib.ReduceAll
public import Idealize.ShloMosaic.Lib.ValueLayout

@[expose] public section

set_option maxRecDepth 16384

noncomputable section

namespace Cert.PlaceReferenceIdeal.Value

open Idealize.ShloMosaic Idealize.ShloMosaic.TcCoe Idealize.SL.Sem Cert.PlaceReferenceIdeal.Gen
open Cert.GatherIdeal.Run (at1 at1_eq at1_val)
open Cert.PlaceIdeal.Run (hit thrAt overAt rank pos before ownKeys second place slot Holds Fits Good Has numbers numbers_of good filled_first)

variable (keys : IVec S100352 32) (c a : IVec S1 32) (cnt : IVec S256 32)

theorem one_index (x y : S1.Idx) : x = y := by
  funext a
  match a with
  | 0 => exact Subsingleton.elim (α := Fin 1) _ _

/-! ## The reference's parts -/

/-- The padded keys, a column for each tile. -/
def cols : IVec S6272x16 32 := transpose S6272x16 [1, 0] (shapeCast S16x6272 keys shapeCasts_S100352_S16x6272) transposes_S16x6272_S6272x16_1_0

/-- The comparison of every key with the threshold. -/
def mask (p : CmpIPredicate) : IVec S6272x16 1 :=
  cmpi p (cols keys) (broadcastInDim S6272x16 ![] bcast_S_S6272x16 (shapeCast S_ c shapeCasts_S1_S_))

/-- Its running sum down each column, the entry itself left out. -/
def ranks (p : CmpIPredicate) : IVec S6272x16 32 :=
  subi (Host.reduceWindow IntOp.addi ![6272, 1] ![1, 1] ![6271, 0] ![0, 0] (extui 32 (mask keys c p) natLt_1_32)
    (broadcastInDim S_ ![] bcast_S_S_ (constantI S_ 32 0#32)) reduceWindows_S6272x16_S6272x16_w6272s1p6271_0_w1s1p0_0 h_S_)
    (extui 32 (mask keys c p) natLt_1_32)

/-- The tiles' first counts, and their second. -/
def overs : IVec S16 32 := shapeCast S16 (extractStridedSlice S16x1 ![0, 0] (shapeCast S16x16 cnt shapeCasts_S256_S16x16) slices_S16x16_S16x1_0_0) shapeCasts_S16x1_S16
def ats : IVec S16 32 := shapeCast S16 (extractStridedSlice S16x1 ![0, 1] (shapeCast S16x16 cnt shapeCasts_S256_S16x16) slices_S16x16_S16x1_0_1) shapeCasts_S16x1_S16

/-- The sums over the tiles before. -/
def sums (v : IVec S16 32) : IVec S16 32 :=
  subi (Host.reduceWindow IntOp.addi ![16] ![1] ![15] ![0] v (broadcastInDim S_ ![] bcast_S_S_ (constantI S_ 32 0#32)) reduceWindows_S16_S16_w16s1p15_0 h_S_) v

/-- The slots of the keys above the threshold, of those at it, and the spare slots. -/
def slot1 : IVec S6272x16 32 :=
  addi (broadcastInDim S6272x16 ![0, 1] bcast_S1x16_S6272x16_0_1 (broadcastInDim S1x16 ![1] bcast_S16_S1x16_1 (sums (overs cnt)))) (ranks keys c .sgt)
def slot2 : IVec S6272x16 32 :=
  addi (broadcastInDim S6272x16 ![0, 1] bcast_S1x16_S6272x16_0_1 (addi (broadcastInDim S1x16 ![] bcast_S_S1x16 (shapeCast S_ a shapeCasts_S1_S_))
    (broadcastInDim S1x16 ![1] bcast_S16_S1x16_1 (sums (ats cnt))))) (ranks keys c .eq)
/-- The keys' numbers, a column for each tile. -/
def number : IVec S6272x16 32 :=
  addi (broadcastInDim S6272x16 ![0, 1] bcast_S6272x1_S6272x16_0_1 (broadcastInDim S6272x1 ![0] bcast_S6272_S6272x1_0 (iotaInDim S6272 32 0)))
    (broadcastInDim S6272x16 ![0, 1] bcast_S1x16_S6272x16_0_1 (muli (broadcastInDim S1x16 ![] bcast_S_S1x16 (constantI S_ 32 6272#32))
      (broadcastInDim S1x16 ![1] bcast_S16_S1x16_1 (iotaInDim S16 32 0))))
def slot3 : IVec S6272x16 32 := addi (broadcastInDim S6272x16 ![] bcast_S_S6272x16 (constantI S_ 32 2048#32)) number

/-- The slots, a column for each tile. -/
def slots : IVec S6272x16 32 :=
  select (mask keys c .sgt) (slot1 keys c cnt)
    (select (andi (mask keys c .eq) (cmpi .slt (slot2 keys c a cnt) (broadcastInDim S6272x16 ![] bcast_S_S6272x16 (constantI S_ 32 2000#32))))
      (slot2 keys c a cnt) slot3)

/-- For each place and each key, the key's number if the place is its slot, else zero. -/
def chosen : IVec S2000x6272x16 32 :=
  select (cmpi .eq (broadcastInDim S2000x6272x16 ![0, 1, 2] bcast_S1x6272x16_S2000x6272x16_0_1_2
      (broadcastInDim S1x6272x16 ![1, 2] bcast_S6272x16_S1x6272x16_1_2 (slots keys c a cnt)))
    (broadcastInDim S2000x6272x16 ![0, 1, 2] bcast_S2000x1x1_S2000x6272x16_0_1_2 (broadcastInDim S2000x1x1 ![0] bcast_S2000_S2000x1x1_0 (iotaInDim S2000 32 0))))
    (broadcastInDim S2000x6272x16 ![0, 1, 2] bcast_S1x6272x16_S2000x6272x16_0_1_2 (broadcastInDim S1x6272x16 ![1, 2] bcast_S6272x16_S1x6272x16_1_2 number))
    (broadcastInDim S2000x6272x16 ![] bcast_S_S2000x6272x16 (constantI S_ 32 0#32))

def result : IVec S2000 32 :=
  Host.reduce IntOp.addi (chosen keys c a cnt) (constantI S_ 32 0#32) reducesTo_S2000x6272x16_S2000_d1_2 h_S_

/-! ## The parts, entry by entry -/

theorem cols_apply (q : Fin 6272) (r : Fin 16) : cols keys (ix2 q r) = ownKeys r.val keys (at1 (by decide) q.val) := by
  have hr := r.isLt
  have hq := q.isLt
  unfold cols ownKeys
  refine Eq.trans (b := shapeCast S16x6272 keys shapeCasts_S100352_S16x6272 (ix2 r q)) (by pointwise) ?_
  refine shapeCast_apply keys shapeCasts_S100352_S16x6272 _ _ ?_
  rw [Shape.rowMajor_val_one, Shape.rowMajor_val_two]
  show (6272 * r.val + q.val % 6272) % 100352 = r.val * 6272 + q.val
  omega

theorem mask_apply (p : CmpIPredicate) (q : Fin 6272) (r : Fin 16) :
    mask keys c p (ix2 q r) = IntOp.cmpi p (ownKeys r.val keys (at1 (by decide) q.val)) (c (ix1 0)) :=
  congrArg₂ (IntOp.cmpi p) (cols_apply keys q r) (congrArg c (one_index _ _))

/-- The terms up to one, that one left out. -/
theorem sum_before {n : ℕ} (f : ℕ → BitVec 32) (w : Fin n) : (∑ i : Fin n, if i ≤ w then f i.val else 0) - f w.val = ∑ i ∈ Finset.range w.val, f i := by
  have hw := w.isLt
  have h : (∑ i : Fin n, if i ≤ w then f i.val else 0) = ∑ i ∈ Finset.range (w.val + 1), f i := by
    rw [show (∑ i : Fin n, if i ≤ w then f i.val else 0) = ∑ i ∈ Finset.range n, if i ≤ w.val then f i else 0 from
      Fin.sum_univ_eq_sum_range (fun i => if i ≤ w.val then f i else 0) n, ← Finset.sum_filter]
    refine Finset.sum_congr ?_ fun _ _ => rfl
    ext i
    rw [Finset.mem_filter, Finset.mem_range, Finset.mem_range]
    omega
  rw [h, Finset.sum_range_succ, BitVec.add_sub_cancel]

theorem zero_init : (broadcastInDim S_ ![] bcast_S_S_ (constantI S_ 32 0#32)) ix0 = 0#32 := rfl

theorem extui_hit (b : BitVec 1) : BitVec.setWidth 32 b = if b = 1#1 then 1#32 else 0#32 := by
  revert b; decide

theorem ranks_apply (p : CmpIPredicate) (q : Fin 6272) (r : Fin 16) :
    ranks keys c p (ix2 q r) = ∑ i ∈ Finset.range q.val, hit p (ownKeys r.val keys (at1 (by decide) i)) (c (ix1 0)) := by
  have he : ∀ i : Fin 6272, extui 32 (mask keys c p) natLt_1_32 (ix2 i r) = hit p (ownKeys r.val keys (at1 (by decide) i.val)) (c (ix1 0)) := by
    intro i
    refine Eq.trans (b := BitVec.setWidth 32 (mask keys c p (ix2 i r))) rfl ?_
    rw [extui_hit, mask_apply]
    rfl
  rw [← sum_before (fun i => hit p (ownKeys r.val keys (at1 (by decide) i)) (c (ix1 0))) q]
  unfold ranks
  refine congrArg₂ (fun x y : BitVec 32 => x - y) ?_ (he q)
  refine (Routing.cumsum_rows_sum (A := 6272) (Am1 := 6271) (N := 16) rfl (extui 32 (mask keys c p) natLt_1_32)
    (broadcastInDim S_ ![] bcast_S_S_ (constantI S_ 32 0#32)) zero_init _ h_S_ q r).trans ?_
  refine Finset.sum_congr rfl fun i _ => ?_
  exact congrArg (fun z : BitVec 32 => if i ≤ q then z else 0) (he i)

theorem overs_apply (r : Fin 16) : overs cnt (ix1 r) = cnt (at1 (by decide) (16 * r.val + 0)) := by
  have hr := r.isLt
  unfold overs
  refine (shapeCast_apply _ shapeCasts_S16x1_S16 (ix1 r) (ix2 r (0 : Fin 1)) ?_).trans ?_
  · rw [Shape.rowMajor_val_one, Shape.rowMajor_val_two]
    show r.val * 1 + 0 = r.val
    omega
  refine Eq.trans (b := shapeCast S16x16 cnt shapeCasts_S256_S16x16 (ix2 r (0 : Fin 16))) (congrArg (shapeCast S16x16 cnt shapeCasts_S256_S16x16) ?_) ?_
  · funext a
    match a with
    | 0 => exact Fin.ext (Nat.zero_add _)
    | 1 => rfl
  refine shapeCast_apply cnt shapeCasts_S256_S16x16 _ _ ?_
  rw [Shape.rowMajor_val_one, Shape.rowMajor_val_two]
  show (16 * r.val + 0) % 256 = r.val * 16 + 0
  omega

theorem ats_apply (r : Fin 16) : ats cnt (ix1 r) = cnt (at1 (by decide) (16 * r.val + 1)) := by
  have hr := r.isLt
  unfold ats
  refine (shapeCast_apply _ shapeCasts_S16x1_S16 (ix1 r) (ix2 r (0 : Fin 1)) ?_).trans ?_
  · rw [Shape.rowMajor_val_one, Shape.rowMajor_val_two]
    show r.val * 1 + 0 = r.val
    omega
  refine Eq.trans (b := shapeCast S16x16 cnt shapeCasts_S256_S16x16 (ix2 r (1 : Fin 16))) (congrArg (shapeCast S16x16 cnt shapeCasts_S256_S16x16) ?_) ?_
  · funext a
    match a with
    | 0 => exact Fin.ext (Nat.zero_add _)
    | 1 => rfl
  refine shapeCast_apply cnt shapeCasts_S256_S16x16 _ _ ?_
  rw [Shape.rowMajor_val_one, Shape.rowMajor_val_two]
  show (16 * r.val + 1) % 256 = r.val * 16 + 1
  omega

variable {cnt} in
theorem sums_apply {v : IVec S16 32} {w : ℕ} (hc : ∀ r : Fin 16, (cnt (at1 (by decide) (16 * r.val + w))).toNat < 2147483648) (hv : ∀ r : Fin 16, v (ix1 r) = cnt (at1 (by decide) (16 * r.val + w)))
    (r : Fin 16) : sums v (ix1 r) = before cnt w r.val := by
  have hp : ∀ r : Fin 16, v (ix1 r) = pos (cnt (at1 (by decide) (16 * r.val + w))) := fun r => (hv r).trans (if_pos (hc r)).symm
  unfold before
  rw [← sum_before (fun j => pos (cnt (at1 (by decide) (16 * j + w)))) r]
  unfold sums
  refine congrArg₂ (fun x y : BitVec 32 => x - y) ?_ (hp r)
  refine (Routing.cumsum_vec (N := 16) (Nm1 := 15) rfl v
    (broadcastInDim S_ ![] bcast_S_S_ (constantI S_ 32 0#32)) zero_init _ h_S_ r).trans ?_
  refine Finset.sum_congr rfl fun i _ => ?_
  exact congrArg (fun z : BitVec 32 => if i ≤ r then z else 0) (hp i)

/-! ## The result -/

/-- The thirty-two words the kernel reads: copies of the threshold, then of the number of keys above it. -/
def words : Cert.PlaceIdeal.S32.Idx → BitVec 32 := fun x => if (x 0).val < 16 then c (ix1 0) else a (ix1 0)

theorem words_thr (i : ℕ) : thrAt (words c a) i = c (ix1 0) := by
  unfold thrAt words
  rw [at1_val (by decide) (by omega), if_pos (by omega)]

theorem words_over (i : ℕ) : overAt (words c a) i = a (ix1 0) := by
  unfold overAt words
  rw [at1_val (by decide) (by omega), if_neg (by omega)]

variable {cnt} in
theorem slot1_apply (hc : ∀ r : Fin 16, (cnt (at1 (by decide) (16 * r.val + 0))).toNat < 2147483648) (q : Fin 6272) (r : Fin 16) :
    slot1 keys c cnt (ix2 q r) = before cnt 0 r.val + rank .sgt (ownKeys r.val keys) (words c a) q.val := by
  unfold slot1 rank
  simp only [words_thr]
  rw [← ranks_apply, ← sums_apply hc (overs_apply cnt) r]
  generalize ranks keys c .sgt = R
  generalize sums (overs cnt) = B
  pointwise
  rfl

variable {cnt} in
theorem slot2_apply (hc : ∀ r : Fin 16, (cnt (at1 (by decide) (16 * r.val + 1))).toNat < 2147483648) (q : Fin 6272) (r : Fin 16) :
    slot2 keys c a cnt (ix2 q r) = second (ownKeys r.val keys) (words c a) cnt r.val q.val := by
  unfold slot2 second rank
  simp only [words_thr, words_over]
  rw [← ranks_apply, ← sums_apply hc (ats_apply cnt) r]
  generalize ranks keys c .eq = R
  generalize sums (ats cnt) = B
  rw [show shapeCast S_ a shapeCasts_S1_S_ = fun _ => a (ix1 0) from funext fun _ => congrArg a (one_index _ _)]
  pointwise
  rfl

theorem number_apply (q : Fin 6272) (r : Fin 16) : number (ix2 q r) = BitVec.ofNat 32 (6272 * r.val + q.val) := by
  refine Eq.trans (b := BitVec.ofNat 32 q.val + 6272#32 * BitVec.ofNat 32 r.val) ?_ ?_
  · unfold number
    pointwise
    rfl
  · rw [BitVec.add_comm, BitVec.ofNat_add, BitVec.ofNat_mul]

theorem slot3_apply (q : Fin 6272) (r : Fin 16) : slot3 (ix2 q r) = 2048#32 + BitVec.ofNat 32 (6272 * r.val + q.val) :=
  congrArg (fun z : BitVec 32 => 2048#32 + z) (number_apply q r)

variable {cnt} in
/-- A key's slot is the one its tile gives it. -/
theorem slots_apply (h0 : ∀ r : Fin 16, (cnt (at1 (by decide) (16 * r.val + 0))).toNat < 2147483648)
    (h1 : ∀ r : Fin 16, (cnt (at1 (by decide) (16 * r.val + 1))).toNat < 2147483648) (q : Fin 6272) (r : Fin 16) :
    slots keys c a cnt (ix2 q r) = place (ownKeys r.val keys) (words c a) cnt r.val q.val := by
  refine Eq.trans (b := if mask keys c .sgt (ix2 q r) = 1#1 then slot1 keys c cnt (ix2 q r)
    else if IntOp.andi (mask keys c .eq (ix2 q r)) (IntOp.cmpi .slt (slot2 keys c a cnt (ix2 q r)) 2000#32) = 1#1 then slot2 keys c a cnt (ix2 q r)
      else slot3 (ix2 q r)) rfl ?_
  rw [mask_apply, mask_apply, slot1_apply keys c a h0, slot2_apply keys c a h1, slot3_apply]
  unfold place
  rw [words_thr]
  exact if_congr Iff.rfl rfl (if_congr IntOp.andi_eq_one rfl rfl)

/-- A sum with at most one term that is not zero. -/
theorem reduce_one {s t u : Shape} {axes : List (Fin s.rank)} (x : s.Idx → BitVec 32) (init : u.Idx → BitVec 32) (h : s.ReducesTo axes t) (hu : 0 < u.numel)
    (j : t.Idx) (hi : init (Shape.Idx.first hu) = 0#32) (i0 : s.Idx) (hd : h.drop i0 = j) (hz : ∀ i, h.drop i = j → i ≠ i0 → x i = 0#32) :
    Host.reduce IntOp.addi x init h hu j = x i0 := by
  classical
  rw [Host.reduce_eq_fold, hi]
  refine Eq.trans (b := ∑ i ∈ Finset.univ.filter (fun i => h.drop i = j), x i) ?_ ?_
  · exact (Finset.sum_eq_fold _ _).symm
  · refine Finset.sum_eq_single i0 (fun i hm hn => hz i (Finset.mem_filter.mp hm).2 hn) fun hn => (hn (Finset.mem_filter.mpr ⟨Finset.mem_univ i0, hd⟩)).elim

theorem chosen_apply (v : Fin 2000) (q : Fin 6272) (r : Fin 16) :
    chosen keys c a cnt (ix3 v q r) = if IntOp.cmpi .eq (slots keys c a cnt (ix2 q r)) (BitVec.ofNat 32 v.val) = 1#1 then number (ix2 q r) else 0#32 := by
  unfold chosen
  generalize slots keys c a cnt = S
  generalize number = N
  pointwise
  rfl

variable {keys c a cnt} in
/-- The reference's result. -/
theorem place_eq (h : Fits keys (words c a) cnt (c (ix1 0))) (old : Cert.PlaceIdeal.S102400.Idx → BitVec 32) (v : Fin 2000) :
    result keys c a cnt (ix1 v) = numbers (slot keys (words c a) cnt) old (at1 (by decide) v.val) := by
  have hv := v.isLt
  have h0 : ∀ r : Fin 16, (cnt (at1 (by decide) (16 * r.val + 0))).toNat < 2147483648 := fun r => by
    rw [h.over r.val r.isLt, BitVec.toNat_ofNat]
    have hle : Nat.count (fun i => Holds .sgt keys (c (ix1 0)) (6272 * r.val + i)) 6272 ≤ 6272 := Nat.count_le _
    omega
  have h1 : ∀ r : Fin 16, (cnt (at1 (by decide) (16 * r.val + 1))).toNat < 2147483648 := fun r => by
    rw [h.same r.val r.isLt, BitVec.toNat_ofNat]
    have hle : Nat.count (fun i => Holds .eq keys (c (ix1 0)) (6272 * r.val + i)) 6272 ≤ 6272 := Nat.count_le _
    omega
  have hs : ∀ (q : Fin 6272) (r : Fin 16), slots keys c a cnt (ix2 q r) = slot keys (words c a) cnt r.val q.val := slots_apply keys c a h0 h1
  obtain ⟨t, ht, p, hp, e⟩ := filled_first h hv
  rw [numbers_of (good h) old (a := (t, p)) ⟨ht, hp, e.trans (at1_val (by decide) (by omega)).symm⟩]
  have hsame : ∀ (q : Fin 6272) (r : Fin 16), IntOp.cmpi .eq (slots keys c a cnt (ix2 q r)) (BitVec.ofNat 32 v.val) = 1#1 ↔ r.val = t ∧ q.val = p := by
    intro q r
    rw [IntOp.cmpi_eq, hs]
    constructor
    · intro hw
      refine (good h).2 _ r.isLt _ q.isLt _ ht _ hp ?_
      rw [hw, e, BitVec.toNat_ofNat]
      omega
    · rintro ⟨rfl, rfl⟩
      rw [← e]
      simp
  unfold result
  refine (reduce_one (chosen keys c a cnt) _ reducesTo_S2000x6272x16_S2000_d1_2 h_S_ (ix1 v) rfl (ix3 v ⟨p, hp⟩ ⟨t, ht⟩) ?_ ?_).trans ?_
  · funext b
    match b with
    | 0 => exact Fin.ext (Shape.ReducesTo.drop_apply_val reducesTo_S2000x6272x16_S2000_d1_2 (ix3 v ⟨p, hp⟩ ⟨t, ht⟩) 0)
  · intro i hi hne
    have hi0 : i 0 = v := Fin.ext ((Shape.ReducesTo.drop_apply_val reducesTo_S2000x6272x16_S2000_d1_2 i 0).symm.trans (congrArg (fun z : S2000.Idx => (z 0).val) hi))
    have hie : i = ix3 v (i 1) (i 2) := by
      funext b
      match b with
      | 0 => exact hi0
      | 1 => rfl
      | 2 => rfl
    rw [hie]
    refine (chosen_apply keys c a cnt v (i 1) (i 2)).trans (if_neg fun hw => hne ?_)
    obtain ⟨e2, e1⟩ := (hsame (i 1) (i 2)).mp hw
    funext b
    match b with
    | 0 => exact hi0
    | 1 => exact Fin.ext e1
    | 2 => exact Fin.ext e2
  · refine (chosen_apply keys c a cnt v ⟨p, hp⟩ ⟨t, ht⟩).trans ((if_pos ((hsame ⟨p, hp⟩ ⟨t, ht⟩).mpr ⟨rfl, rfl⟩)).trans ?_)
    exact number_apply ⟨p, hp⟩ ⟨t, ht⟩

set_option maxHeartbeats 4000000 in
/-- The program's result is that of these parts. -/
theorem res_eq {F : FTy → Type} [FloatOps F] (m : (ℓ : Loc nD τ sig) → Buf (Elt F) ℓ) (d : Dev nD) :
    res_main_v64 m d = result (concatenate S100352 0 [⟨S100000, (m ((d.tc : Thread nD τ).loc main_arg0) : IVec S100000 32)⟩,
      ⟨S352, broadcastInDim S352 ![] bcast_S_S352 (constantI S_ 32 4294967295#32)⟩] concatenates_S100000_S352_S100352_d0)
      (m ((d.tc : Thread nD τ).loc main_arg1)) (m ((d.tc : Thread nD τ).loc main_arg2)) (m ((d.tc : Thread nD τ).loc main_arg3)) := rfl

end Cert.PlaceReferenceIdeal.Value

namespace Cert.Pre_counts_of_keys.Value

open Idealize.ShloMosaic Idealize.ShloMosaic.TcCoe Cert.Pre_counts_of_keys.Gen
open Cert.GatherIdeal.Run (at1 at1_val)
open Cert.PlaceIdeal.Run (Holds Fits counts_sum)
open Cert.PlaceReferenceIdeal.Value (one_index words words_thr words_over overs ats overs_apply ats_apply)

variable (keys : IVec S100352 32) (c a : IVec S1 32) (cnt : IVec S256 32)

/-- The comparison of every key with the threshold, a row for each tile. -/
def mask (p : CmpIPredicate) : IVec S16x6272 1 :=
  cmpi p (shapeCast S16x6272 keys shapeCasts_S100352_S16x6272) (broadcastInDim S16x6272 ![] bcast_S_S16x6272 (shapeCast S_ c shapeCasts_S1_S_))

/-- How many of each tile's keys it holds for, and of all. -/
def rows (p : CmpIPredicate) : IVec S16 32 :=
  Host.reduce IntOp.addi (extui 32 (mask keys c p) natLt_1_32) (constantI S_ 32 0#32) reducesTo_S16x6272_S16_d1 h_S_
def total (p : CmpIPredicate) : IVec S_ 32 :=
  Host.reduce IntOp.addi (rows keys c p) (constantI S_ 32 0#32) reducesTo_S16_S_d0 h_S_

/-- Two vectors agree. -/
def agree (x y : IVec S16 32) : IVec S_ 1 :=
  Host.reduce IntOp.andi (cmpi .eq x y) (constantI S_ 1 1#1) reducesTo_S16_S_d0 h_S_

theorem fn_eq {F : FTy → Type} [FloatOps F] (k : IVec S100000 32)
    (hk : keys = concatenate S100352 0 [⟨S100000, k⟩, ⟨S352, broadcastInDim S352 ![] bcast_S_S352 (constantI S_ 32 4294967295#32)⟩] concatenates_S100000_S352_S100352_d0) :
    fn (F := F) k c a cnt
      = andi (andi (andi (andi (agree (overs cnt) (rows keys c .sgt)) (agree (ats cnt) (rows keys c .eq)))
          (cmpi .eq (shapeCast S_ a shapeCasts_S1_S_) (total keys c .sgt)))
          (cmpi .slt (shapeCast S_ a shapeCasts_S1_S_) (constantI S_ 32 2000#32)))
          (cmpi .sge (addi (shapeCast S_ a shapeCasts_S1_S_) (total keys c .eq)) (constantI S_ 32 2000#32)) := by
  rw [hk]; rfl

theorem mask_apply (p : CmpIPredicate) (r : Fin 16) (q : Fin 6272) : mask keys c p (ix2 r q) = 1#1 ↔ Holds p keys (c (ix1 0)) (6272 * r.val + q.val) := by
  have hr := r.isLt
  have hq := q.isLt
  refine iff_of_eq (congrArg (fun z : BitVec 1 => z = 1#1) (congrArg₂ (IntOp.cmpi p) (shapeCast_apply keys shapeCasts_S100352_S16x6272 _ _ ?_) (congrArg c (one_index _ _))))
  rw [Shape.rowMajor_val_one, Shape.rowMajor_val_two]
  show (6272 * r.val + q.val) % 100352 = r.val * 6272 + q.val
  omega

theorem rows_apply (p : CmpIPredicate) (r : Fin 16) :
    rows keys c p (ix1 r) = BitVec.ofNat 32 (Nat.count (fun i => Holds p keys (c (ix1 0)) (6272 * r.val + i)) 6272) :=
  Routing.reduce_count (n := 16) (m := 6272) (by decide) (mask keys c p) natLt_1_32 reducesTo_S16x6272_S16_d1 h_S_ r _ (mask_apply keys c p r)

theorem list_sum (f : ℕ → ℕ) (n : ℕ) : ((List.range n).map f).sum = ∑ i ∈ Finset.range n, f i := by
  induction n with
  | zero => rfl
  | succ n ih => rw [List.range_succ, List.map_append, List.sum_append, ih, Finset.sum_range_succ]; simp

theorem total_apply (p : CmpIPredicate) : total keys c p ix0 = BitVec.ofNat 32 (Nat.count (Holds p keys (c (ix1 0))) 100352) := by
  refine (Routing.reduce_sum (N := 16) (rows keys c p) (fun j => Nat.count (fun i => Holds p keys (c (ix1 0)) (6272 * j + i)) 6272) (rows_apply keys c p)
    reducesTo_S16_S_d0 h_S_).trans ?_
  rw [list_sum, counts_sum (Holds p keys (c (ix1 0))) 16]

theorem agree_apply {x y : IVec S16 32} (h : agree x y ix0 = 1#1) (r : Fin 16) : x (ix1 r) = y (ix1 r) := by
  haveI : Subsingleton S_.Idx := ⟨fun a b => funext fun d => d.elim0⟩
  exact IntOp.cmpi_eq.1 (show IntOp.cmpi .eq (x (ix1 r)) (y (ix1 r)) = 1#1 from Host.reduce_andi_all _ _ _ _ _ h (ix1 r))

/-- The precondition says that the counts are those of the keys, that fewer than two thousand keys are above the threshold,
    and that with those at it there are enough. -/
theorem fits {F : FTy → Type} [FloatOps F] (k : IVec S100000 32)
    (hk : keys = concatenate S100352 0 [⟨S100000, k⟩, ⟨S352, broadcastInDim S352 ![] bcast_S_S352 (constantI S_ 32 4294967295#32)⟩] concatenates_S100000_S352_S100352_d0)
    (h : fn (F := F) k c a cnt = fun _ => 1#1) : Fits keys (words c a) cnt (c (ix1 0)) := by
  rw [fn_eq keys c a cnt k hk] at h
  have h0 := congrFun h ix0
  obtain ⟨h1, e5⟩ := IntOp.andi_eq_one.1 h0
  obtain ⟨h2, e4⟩ := IntOp.andi_eq_one.1 h1
  obtain ⟨h3, e3⟩ := IntOp.andi_eq_one.1 h2
  obtain ⟨e1, e2⟩ := IntOp.andi_eq_one.1 h3
  have ha : shapeCast S_ a shapeCasts_S1_S_ ix0 = a (ix1 0) := congrArg a (one_index _ _)
  have hA : a (ix1 0) = BitVec.ofNat 32 (Nat.count (Holds .sgt keys (c (ix1 0))) 100352) :=
    ha.symm.trans ((IntOp.cmpi_eq.1 e3).trans (total_apply keys c .sgt))
  have l1 : Nat.count (Holds .sgt keys (c (ix1 0))) 100352 ≤ 100352 := Nat.count_le _
  have l2 : Nat.count (Holds .eq keys (c (ix1 0))) 100352 ≤ 100352 := Nat.count_le _
  have f4 : IntOp.cmpi .slt (a (ix1 0)) 2000#32 = 1#1 := (congrArg (fun z => IntOp.cmpi .slt z 2000#32) ha).symm.trans e4
  have f5 : IntOp.cmpi .sge (a (ix1 0) + BitVec.ofNat 32 (Nat.count (Holds .eq keys (c (ix1 0))) 100352)) 2000#32 = 1#1 :=
    (congrArg₂ (fun z w => IntOp.cmpi .sge (z + w) 2000#32) ha (total_apply keys c .eq)).symm.trans e5
  rw [hA] at f4 f5
  rw [← BitVec.ofNat_add] at f5
  have g4 := IntOp.cmpi_slt.1 f4
  have g5 := IntOp.cmpi_sge.1 f5
  simp only [BitVec.toInt_eq_toNat_cond, BitVec.toNat_ofNat, Nat.reducePow, Nat.reduceMod] at g4 g5
  exact {
    thr := words_thr c a
    above := fun i => (words_over c a i).trans hA
    over := fun t ht => (overs_apply cnt ⟨t, ht⟩).symm.trans ((agree_apply e1 ⟨t, ht⟩).trans (rows_apply keys c .sgt ⟨t, ht⟩))
    same := fun t ht => (ats_apply cnt ⟨t, ht⟩).symm.trans ((agree_apply e2 ⟨t, ht⟩).trans (rows_apply keys c .eq ⟨t, ht⟩))
    few := by omega
    enough := by omega }

end Cert.Pre_counts_of_keys.Value

end
-- ==== Proof.PlaceValue.lean ====
/-
  The place stage's claims: what the call starts from over the argument arrays, the arguments kept, the frames of the three
  programs, and under the precondition the equation of the kernel's and the reference's results.
-/
module

public import proofs.«01_k».proof.Proof.PlaceLaunch
public import proofs.«01_k».proof.Proof.PlaceRef
public import proofs.«01_k».proof.Proof.Gen.Place
public import Idealize.ShloMosaic.Lib.Claim

@[expose] public section

set_option maxRecDepth 16384

noncomputable section

namespace Cert.PlaceIdeal.Run

open Cert.PlaceIdeal Cert.PlaceIdeal.Gen
open Cert.GatherIdeal.Run (at1 at1_val)
open Idealize.ShloMosaic Idealize.ShloMosaic.TcCoe Idealize.SL.Sem

section

variable {F : FTy → Type} [FloatOps F]
variable (m : (ℓ : Loc nD τ sig) → Buf (Elt F) ℓ) (d : Dev nD)

/-- The host's operations leave the arguments alone. -/
theorem V5_arg0 : V5 m d (main_arg0 : DevRef τ sig) = m (d, main_arg0) := by unfold V5 hostOps; after_results <;> rfl
theorem V5_arg1 : V5 m d (main_arg1 : DevRef τ sig) = m (d, main_arg1) := by unfold V5 hostOps; after_results <;> rfl
theorem V5_arg2 : V5 m d (main_arg2 : DevRef τ sig) = m (d, main_arg2) := by unfold V5 hostOps; after_results <;> rfl
theorem V5_arg3 : V5 m d (main_arg3 : DevRef τ sig) = m (d, main_arg3) := by unfold V5 hostOps; after_results <;> rfl

/-- The keys, then 352 words of ones. -/
theorem keysA_eq : keysA m d = concatenate S100352 0 [⟨S100000, (m (d, main_arg0) : S100000.Idx → BitVec 32)⟩,
    ⟨S352, broadcastInDim S352 ![] bcast_S_S352 (constantI S_ 32 4294967295#32)⟩] concatenates_S100000_S352_S100352_d0 := by
  unfold keysA V5 hostOps; after_results <;> rfl

/-- Sixteen copies of the threshold, then sixteen of the number of keys above it. -/
theorem parA_eq : parA m d = Cert.PlaceReferenceIdeal.Value.words (m (d, main_arg1) : S1.Idx → BitVec 32) (m (d, main_arg2) : S1.Idx → BitVec 32) := by
  have h : parA m d = concatenate S32 0 [⟨S16, broadcastInDim S16 ![0] bcast_S1_S16_0 (m (d, main_arg1) : S1.Idx → BitVec 32)⟩,
      ⟨S16, broadcastInDim S16 ![0] bcast_S1_S16_0 (m (d, main_arg2) : S1.Idx → BitVec 32)⟩] concatenates_S16_S16_S32_d0 := by
    unfold parA V5 hostOps; after_results <;> rfl
  rw [h]
  funext x
  have hx : (x 0).val < 32 := (x 0).isLt
  unfold Cert.PlaceReferenceIdeal.Value.words
  by_cases h16 : (x 0).val < 16
  · rw [if_pos h16]
    refine (concatenate_pair_apply_left (t := S32) (s₁ := S16) (s₂ := S16) 0 _ _ _ _ rfl (at1 (by decide) (x 0).val) ?_).trans
      (congrArg (m (d, main_arg1) : S1.Idx → BitVec 32) (Cert.PlaceReferenceIdeal.Value.one_index _ _))
    intro a
    match a with
    | 0 => exact at1_val (N := 16) (by decide) h16
  · rw [if_neg h16]
    refine (concatenate_pair_apply_right (t := S32) (s₁ := S16) (s₂ := S16) 0 _ _ _ _ rfl rfl (at1 (by decide) ((x 0).val - 16)) ?_ ?_).trans
      (congrArg (m (d, main_arg2) : S1.Idx → BitVec 32) (Cert.PlaceReferenceIdeal.Value.one_index _ _))
    · intro a ha
      match a with
      | 0 => exact absurd rfl ha
    · show ((at1 (N := 16) (by decide) ((x 0).val - 16)) 0).val + 16 = (x 0).val
      rw [at1_val (by decide) (by omega)]
      omega

/-- Nor does the host's cut change them. -/
theorem V7_arg0 : V7 m d (main_arg0 : DevRef τ sig) = V6 m d main_arg0 := by unfold V7 hostCut; after_results <;> rfl
theorem V7_arg1 : V7 m d (main_arg1 : DevRef τ sig) = V6 m d main_arg1 := by unfold V7 hostCut; after_results <;> rfl
theorem V7_arg2 : V7 m d (main_arg2 : DevRef τ sig) = V6 m d main_arg2 := by unfold V7 hostCut; after_results <;> rfl
theorem V7_arg3 : V7 m d (main_arg3 : DevRef τ sig) = V6 m d main_arg3 := by unfold V7 hostCut; after_results <;> rfl

/-- The call's result, cut to its first two thousand words. -/
def cut : S2000.Idx → BitVec 32 := extractStridedSlice S2000 ![0] (new0 m d) slices_S102400_S2000_0

theorem V7_cut : V7 m d (main_v6 : DevRef τ sig) = cut m d := by
  have h : V7 m d (main_v6 : DevRef τ sig) = extractStridedSlice S2000 ![0] (V6 m d main_v5) slices_S102400_S2000_0 := by
    unfold V7 hostCut; after_results <;> rfl
  rw [h, V6_new0]
  rfl

theorem cut_apply (v : Fin 2000) : cut m d (ix1 v) = new0 m d (at1 (by decide) v.val) := by
  have hv := v.isLt
  unfold cut
  refine congrArg (new0 m d) (funext fun b => ?_)
  match b with
  | 0 =>
    apply Fin.ext
    refine Eq.trans ?_ (at1_val (N := 102400) (by decide) (by omega)).symm
    exact Nat.zero_add _

/-- Under the precondition the counts are those of the keys. -/
theorem fits (h : Cert.Pre_counts_of_keys.fn (F := F) (m ((d.tc : Thread nD τ).loc main_arg0)) (m ((d.tc : Thread nD τ).loc main_arg1))
      (m ((d.tc : Thread nD τ).loc main_arg2)) (m ((d.tc : Thread nD τ).loc main_arg3)) = fun _ => 1#1) :
    Fits (keysA m d) (parA m d) (cntA m d) ((m (d, main_arg1) : S1.Idx → BitVec 32) (ix1 0)) := by
  rw [parA_eq, show cntA m d = m (d, main_arg3) from V5_arg3 m d]
  exact Cert.Pre_counts_of_keys.Value.fits (keysA m d) _ _ _ _ (keysA_eq m d) h

theorem mem_uc (b : Ref sig .tc) (h : ¬ (Proc.devRef (τ := τ) .tc b).isScoped) : (Proc.devRef .tc b : DevRef τ sig) ∈ Pipeline.ucRefs τ sig :=
  Finset.mem_filter.mpr ⟨StableHlo.devRef_mem_tcRefs b, h⟩

variable {m} {r : PUnit × MemSt nD τ sig (Elt F)}

/-- An argument ends as the run found it. -/
theorem QC.at (h : QC m r) (b : Ref sig .tc) (hb : ¬ (Proc.devRef (τ := τ) .tc b).isScoped) (h6 : V7 m d (Proc.devRef .tc b) = V6 m d (Proc.devRef .tc b))
    (h0 : Proc.devRef .tc b ≠ (main_v5 : DevRef τ sig)) :
    r.2.mem (d, Proc.devRef .tc b) = V5 m d (Proc.devRef .tc b) := ((h.1 d _ (mem_uc b hb)).trans h6).trans (V6_of_ne m d h0)

theorem QC.kept (h : QC m r) :
    r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3) :=
  ⟨(h.at d main_arg0 (by decide) (V7_arg0 m d) (by decide)).trans (V5_arg0 m d), (h.at d main_arg1 (by decide) (V7_arg1 m d) (by decide)).trans (V5_arg1 m d),
    (h.at d main_arg2 (by decide) (V7_arg2 m d) (by decide)).trans (V5_arg2 m d), (h.at d main_arg3 (by decide) (V7_arg3 m d) (by decide)).trans (V5_arg3 m d)⟩

end

/-- The place stage over the machine's words runs to its end with its arguments kept and every semaphore at zero. -/
theorem frame_bits : Cert.quiescent_Place := fun m ρ hpre =>
  (θ_run Cert.PlaceIdeal.defs _ _).mono (fun _ h => ⟨fun c => QC.kept c h, h.2⟩) (run_main (F := Bits) m ρ fun c => good (fits (F := Bits) m c (hpre c)))

/-- The same over the extended reals. -/
theorem frame_ideal : Cert.quiescent_PlaceIdeal := fun m ρ hpre =>
  (θ_run Cert.PlaceIdeal.defs _ _).mono (fun _ h => ⟨fun c => QC.kept c h, h.2⟩) (run_main (F := Ideal) m ρ fun c => good (fits (F := Ideal) m c (hpre c)))

/-- The place stage's reference keeps its arguments. -/
theorem frame_reference : Cert.quiescent_PlaceReferenceIdeal := fun m ρ _ =>
  (θ_run Cert.PlaceReferenceIdeal.defs _ _).mono
    (fun r h => ⟨fun c => (h c).2, Idealize.ShloMosaic.sem_eq_zero_of_no_sems (by decide) r.2⟩)
    (Cert.PlaceReferenceIdeal.Value.run (F := Ideal) m ρ)

/-- Over the extended reals the place stage and its reference end with the same array. -/
theorem value : Cert.algebraic_PlaceIdeal_PlaceReferenceIdeal := by
  intro m g m' g' hpre hagree
  have hf : ∀ c, Fits (keysA m c) (parA m c) (cntA m c) ((m (c, main_arg1) : S1.Idx → BitVec 32) (ix1 0)) := fun c => fits (F := Ideal) m c (hpre c)
  refine ⟨fun c => cut m c, ?_, ?_⟩
  · exact (θ_run Cert.PlaceIdeal.defs _ _).mono
      (fun _ h c => ⟨(h.1 c _ (mem_uc main_v6 (by decide))).trans (V7_cut m c), QC.kept c h⟩) (run_main (F := Ideal) m g fun c => good (hf c))
  · refine (θ_run Cert.PlaceReferenceIdeal.defs _ _).mono (fun r h c => ?_) (Cert.PlaceReferenceIdeal.Value.run (F := Ideal) m' g')
    obtain ⟨h0, rest⟩ := h c
    obtain ⟨e0, e1, e2, e3⟩ := hagree c
    rw [Cert.PlaceReferenceIdeal.Value.res_eq, e0, e1, e2, e3] at h0
    refine ⟨h0.trans ?_, rest⟩
    have hc := hf c
    rw [parA_eq, show cntA m c = m (c, main_arg3) from V5_arg3 m c] at hc
    funext y
    have hy : y = ix1 (y 0) := funext fun b => match b with | 0 => rfl
    rw [hy]
    refine Eq.trans ?_ (cut_apply m c (y 0)).symm
    unfold new0
    rw [parA_eq, show cntA m c = m (c, main_arg3) from V5_arg3 m c]
    refine Eq.trans ?_ (Cert.PlaceReferenceIdeal.Value.place_eq hc (old0 m c) (y 0))
    rw [keysA_eq]
    rfl

end Cert.PlaceIdeal.Run

end
-- ==== Proof.ThrSetup.lean ====
/-
  The threshold search's launch: the program as the launch theorem sees it, the arrays, and what a tile computes — a walk
  down a histogram, sixteen buckets at a turn, for each of the three histograms, and the sixteen words it publishes.
-/
module

public import proofs.«01_k».proof.Proof.GatherWindows
public import proofs.«01_k».proof.Proof.Gen.ThrIdeal
public import proofs.«01_k».proof.Proof.Gen.ThrIdeal.Skeleton
public import Idealize.ShloMosaic.Lib.Routing.Ops
public import Idealize.ShloMosaic.Lib.ValueIdxCore
public import Idealize.ShloMosaic.Lib.Pipeline.Value
public import Idealize.ShloMosaic.Lib.Pointwise.ElementwiseCore

@[expose] public section

noncomputable section

namespace Cert.ThrIdeal.Run

open Cert.ThrIdeal Cert.ThrIdeal.Gen
open Cert.GatherIdeal.Run (at1 at1_val at1_self at1_eq blk mem_blk window_emb window_blk read_window write_window)

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The resource algebra: the handshakes' rounds library, the transfers' counters. -/
abbrev UH : Type := URounds (GSem nD τ sig) ℕ
abbrev UU : Type := UH × Counters
abbrev EH : Emb UH (MT nD τ sig (HIx 1) (Elt F) ℕ UU ℕ) := embL

/-! ## The arrays, and a tile's buffers -/

abbrev aLoc (d : Dev nD) : Loc nD τ sig := (SparseCore.T d).loc main_arg0
abbrev bLoc (d : Dev nD) : Loc nD τ sig := (SparseCore.T d).loc main_arg1
abbrev cLoc (d : Dev nD) : Loc nD τ sig := (SparseCore.T d).loc main_arg2
abbrev outLoc (d : Dev nD) : Loc nD τ sig := (SparseCore.T d).loc main_v0

/-- The three histograms and the result, as a tile addresses them. -/
abbrev aM : Memref sig .scVector .hbm S2048 .i32 := Memref.whole main_arg0_scv
abbrev bM : Memref sig .scVector .hbm S1024 .i32 := Memref.whole main_arg1_scv
abbrev cM : Memref sig .scVector .hbm S1024 .i32 := Memref.whole main_arg2_scv
abbrev outM : Memref sig .scVector .hbm S256 .i32 := Memref.whole main_v0_scv
/-- A tile's scratch: the histogram it walks, the words it publishes. -/
abbrev hvM : Memref sig .scVector .vmem S2048 .i32 := Memref.whole cc0_scratch0
abbrev kvM : Memref sig .scVector .vmem S128 .i32 := Memref.whole cc0_scratch1

/-! ## What a tile computes -/

/-- The lanes' numbers. -/
def lanes : IVec S16 32 := iota .scVector S16 32 [0] iota_S16_d0_w32_scVector

/-- The largest of sixteen words read signed, as a running maximum of words read unsigned finds it. -/
def top (v : IVec S16 32) : BitVec 32 :=
  extractAt ![15] (xori (scan .max (xori v (broadcast S16 2147483648#32))) (broadcast S16 2147483648#32)) inpos_S16_p15

/-- The buckets from the last down at turn `k`: that turn's first. -/
def blockAt (last : BitVec 32) (k : ℕ) : BitVec 32 := Scalar.subi last (Scf.iv 0#32 1#32 k)

/-- The buckets read at turn `k`, from the highest down. -/
def places (last : BitVec 32) (k : ℕ) : IVec S16 32 :=
  subi (broadcast S16 (Scalar.addi (Scalar.muli (blockAt last k) 16#32) 15#32)) lanes

/-- What they hold. -/
def heldAt (hv : S2048.Idx → BitVec 32) (last : BitVec 32) (k : ℕ) : IVec S16 32 := fun x => hv (at1 (by decide) (places last k x).toNat)

/-- The lanes up to which, with what came before, at least `need` keys lie. -/
def reached (need acc : BitVec 32) (v : IVec S16 32) : IVec S16 1 :=
  cmpi .sge (addi (broadcast S16 acc) (scan .sum v)) (broadcast S16 need)

/-- A one at each of them. -/
def marks (need acc : BitVec 32) (v : IVec S16 32) : IVec S16 32 :=
  select (reached need acc v) (broadcast S16 1#32) (broadcast S16 0#32)

/-- The first of them. -/
def firstOf (need acc : BitVec 32) (v : IVec S16 32) : IVec S16 1 :=
  andi (reached need acc v) (cmpi .eq (scan .sum (marks need acc v)) (broadcast S16 1#32))

/-- The walk's state: whether the bucket is found, the bucket, the keys above it, the keys walked over. -/
abbrev St : Type := BitVec 32 × BitVec 32 × BitVec 32 × BitVec 32

/-- One turn over sixteen buckets. -/
def turn (block need : BitVec 32) (v : IVec S16 32) (s : St) : St :=
  let any := top (marks need s.2.2.2 v)
  let new := Scalar.andi (Scalar.cmpi .eq s.1 0#32) (Scalar.cmpi .eq any 1#32)
  (Scalar.ori s.1 any,
    Scalar.select new (Scalar.subi (Scalar.addi (Scalar.muli 16#32 block) 15#32)
      (top (select (firstOf need s.2.2.2 v) lanes (broadcast S16 0#32)))) s.2.1,
    Scalar.select new (Scalar.subi
      (top (select (firstOf need s.2.2.2 v) (addi (broadcast S16 s.2.2.2) (scan .sum v)) (broadcast S16 0#32)))
      (top (select (firstOf need s.2.2.2 v) v (broadcast S16 0#32)))) s.2.2.1,
    Scalar.addi s.2.2.2 (top (scan .sum v)))

/-- The state after `n` turns. -/
def walk (hv : S2048.Idx → BitVec 32) (last need : BitVec 32) : ℕ → St
  | 0 => (0#32, 0#32, 0#32, 0#32)
  | n + 1 => turn (blockAt last n) need (heldAt hv last n) (walk hv last need n)

/-- A histogram of 1024 buckets over the first 1024 words of the buffer. -/
def laid (b : S1024.Idx → BitVec 32) (f : S2048.Idx → BitVec 32) : S2048.Idx → BitVec 32 := fun x =>
  if (x 0).val < 1024 then b (at1 (by decide) (x 0).val) else f x

/-- The walks down the three histograms, each from what the one before leaves to be found. -/
def walkA (a : S2048.Idx → BitVec 32) : St := walk a 127#32 2000#32 128
def needB (a : S2048.Idx → BitVec 32) : BitVec 32 := Scalar.subi 2000#32 (walkA a).2.2.1
def walkB (a : S2048.Idx → BitVec 32) (b : S1024.Idx → BitVec 32) : St := walk (laid b a) 63#32 (needB a) 64
def needC (a : S2048.Idx → BitVec 32) (b : S1024.Idx → BitVec 32) : BitVec 32 := Scalar.subi (needB a) (walkB a b).2.2.1
def walkC (a : S2048.Idx → BitVec 32) (b c : S1024.Idx → BitVec 32) : St := walk (laid c (laid b a)) 63#32 (needC a b) 64

/-- The sixteen words published. -/
def words (a : S2048.Idx → BitVec 32) (b c : S1024.Idx → BitVec 32) : IVec S16 32 :=
  k0_pay3 lanes (walkA a).2.1 (walkA a).2.2.1 (walkB a b).2.1 (walkB a b).2.2.1 (walkC a b c).2.1 (walkC a b c).2.2.1

/-- The result: the same sixteen words of each tile. -/
def thrOut (a : S2048.Idx → BitVec 32) (b c : S1024.Idx → BitVec 32) : S256.Idx → BitVec 32 := fun y =>
  words a b c (at1 (by decide) ((y 0).val % 16))

/-- The buckets read at turn `k`. -/
theorem places_val {j k : ℕ} (hj : j < 128) (hk : k ≤ j) (x : S16.Idx) :
    (places (BitVec.ofNat 32 j) k x).toNat = 16 * (j - k) + 15 - (x 0).val := by
  have hx : (x 0).val < 16 := (x 0).isLt
  have e : lanes x = BitVec.ofNat 32 (x 0).val := iota_single_apply ..
  show ((BitVec.ofNat 32 j - (0#32 + BitVec.ofNat 32 k * 1#32)) * 16#32 + 15#32 - lanes x).toNat = _
  rw [e]
  simp only [BitVec.toNat_sub, BitVec.toNat_add, BitVec.toNat_mul, BitVec.toNat_ofNat]
  omega

theorem places_lt {j k : ℕ} (hj : j < 128) (hk : k ≤ j) : ∀ (a : Fin 1) (x : S16.Idx), ((![places (BitVec.ofNat 32 j) k] : Fin 1 → IVec S16 32) a x).toNat < S2048.size a := by
  intro a x
  match a with
  | 0 =>
    have hx : (x 0).val < 16 := (x 0).isLt
    show (places (BitVec.ofNat 32 j) k x).toNat < 2048
    rw [places_val hj hk]
    omega

/-- What a gather at them reads. -/
theorem gathered (hv : S2048.Idx → BitVec 32) (last : BitVec 32) (k : ℕ)
    (h : ∀ (a : Fin 1) (x : S16.Idx), ((![places last k] : Fin 1 → IVec S16 32) a x).toNat < S2048.size a) :
    (fun x => hv (fun a => ⟨((![places last k] : Fin 1 → IVec S16 32) a x).toNat, h a x⟩)) = heldAt hv last k := by
  funext x
  unfold heldAt
  exact congrArg hv (at1_eq (by decide) _ rfl)

/-! ## The copies -/

section

variable [FloatOps F] {t : ℕ}

/-- A histogram copied over the buffer's first words. -/
theorem copied {n : ℕ} (hn : 0 < n) (inb : ∀ a, (![0] : Fin 1 → ℕ) a + ![n] a ≤ ![2048] a) (h) (f : S2048.Idx → BitVec 32) (g : (⟨1, ![n]⟩ : Shape).Idx → BitVec 32) :
    (hvM.slice (Rect.unit (s := ⟨1, ![2048]⟩) ![0] ![n] inb) h).view.write (Elt F) f g Finset.univ
      = fun y => if (y 0).val < n then g (at1 hn (y 0).val) else f y := by
  funext y
  by_cases hy : (y 0).val < n
  · rw [if_pos hy]
    refine (write_window (F := F) (N := 2048) (n := n) (j := 0) hn (by decide) hvM (by rw [Nat.mul_zero]) inb h f g (mem_blk.mpr (Nat.div_eq_of_lt hy))).trans ?_
    rw [Nat.mod_eq_of_lt hy]
  · rw [if_neg hy]
    refine View.write_of_not_mem (Val := Elt F) _ _ _ fun hm => hy ?_
    obtain ⟨x, -, rfl⟩ := Finset.mem_map.mp hm
    have hx : (x 0).val < n := (x 0).isLt
    have e := congrArg (fun z => (z 0).val) (window_emb (N := 2048) (n := n) (by decide) ![0] inb x)
    have e' := at1_val (N := 2048) (by decide) (n := (![0] : Fin 1 → ℕ) 0 + (x 0).val) (by have := inb 0; simp at this; simp; omega)
    show ((Rect.unit (s := ⟨1, ![2048]⟩) ![0] ![n] inb).emb x 0).val < n
    have e2 : ((Rect.unit (s := ⟨1, ![2048]⟩) ![0] ![n] inb).emb x 0).val = (![0] : Fin 1 → ℕ) 0 + (x 0).val := e.trans e'
    rw [e2]
    simpa using hx

theorem copied_a (a f : S2048.Idx → BitVec 32) (inb) (h) :
    (hvM.slice (Rect.unit (s := S2048) ![0] S2048.size inb) h).view.write (Elt F) f (aM.view.read (Elt F) a) Finset.univ = a := by
  refine (copied (F := F) (n := 2048) (by decide) inb h f a).trans (funext fun y => ?_)
  exact (if_pos (show (y 0).val < 2048 from (y 0).isLt)).trans (congrArg a (at1_self (by decide) y))

theorem copied_b (b : S1024.Idx → BitVec 32) (f : S2048.Idx → BitVec 32) (inb) (h) :
    (hvM.slice (Rect.unit (s := S2048) ![0] S1024.size inb) h).view.write (Elt F) f (bM.view.read (Elt F) b) Finset.univ = laid b f :=
  copied (F := F) (n := 1024) (by decide) inb h f b

theorem copied_c (c : S1024.Idx → BitVec 32) (f : S2048.Idx → BitVec 32) (inb) (h) :
    (hvM.slice (Rect.unit (s := S2048) ![0] S1024.size inb) h).view.write (Elt F) f (cM.view.read (Elt F) c) Finset.univ = laid c f :=
  copied (F := F) (n := 1024) (by decide) inb h f c

/-- The tile's words copied out. -/
theorem words_out {w : S16.Idx → BitVec 32} {off : Fin 1 → ℕ} (hoff : off = ![16 * t]) (inb) (h) (f : S256.Idx → BitVec 32)
    {g : S16.Idx → BitVec 32} (hg : g = w) {y : S256.Idx} (hy : y ∈ blk 256 16 t) :
    (outM.slice (Rect.unit (s := S256) off S16.size inb) h).view.write (Elt F) f g Finset.univ y = w (at1 (by decide) ((y 0).val % 16)) := by
  subst hg
  exact write_window (F := F) (N := 256) (n := 16) (by decide) (by decide) outM hoff inb h f _ hy

theorem out_window {off : Fin 1 → ℕ} (hoff : off = ![16 * t]) (inb) (h) :
    (outM.slice (Rect.unit (s := S256) off S16.size inb) h).view.set ⊆ blk 256 16 t := by
  intro y hy
  obtain ⟨x, -, rfl⟩ := Finset.mem_map.mp hy
  exact window_blk (N := 256) (n := 16) (by decide) hoff inb x

end

end Cert.ThrIdeal.Run

end
-- ==== Proof.ThrBody.lean ====
/-
  A tile's task: each histogram copied in and walked down, sixteen buckets at each turn of its loop, and the words found
  copied out.
-/
module

public import proofs.«01_k».proof.Proof.ThrSetup
public import Idealize.ShloMosaic.Lib.SparseCore.Quiescent
public import Idealize.ShloMosaic.Lib.SparseCore.Ops
public import Idealize.ShloMosaic.Lib.SparseCore.Stream
public import Idealize.ShloMosaic.Lib.Scf
public import Idealize.ShloMosaic.Lib.Tactic

@[expose] public section

noncomputable section

namespace Cert.ThrIdeal.Run

open Cert.ThrIdeal Cert.ThrIdeal.Gen
open Cert.GatherIdeal.Run (at1 at1_val at1_self at1_eq blk mem_blk)

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]
local notation "𝕄" => MT nD τ sig (HIx 1) (Elt F) ℕ UU ℕ

abbrev cV (L : grid0.Coords) : Fin τ.nSC := (L 0).castLE hcore0
abbrev jV (L : grid0.Coords) : Fin τ.nSub := (L 1).castLE hsub0
/-- The thread that runs the tile at `L`. -/
abbrev thr (d : Dev nD) (L : grid0.Coords) : Thread nD τ := V d (cV L) (jV L)

/-- What a run of the rest of the body has to show. -/
abbrev Rest (d : Dev nD) (L : grid0.Coords) {α : Type} (p : Prog (TpuEff nD τ sig (Elt F) Λ₀ (thr d L).2) α) (Q : α → sProp 𝕄) : sProp 𝕄 :=
  wp frame (wpE (defs₀ (F := F)) 𝒱₀ (thr d L) none) Set.univ p Q

/-- What the tile owes while it runs: what it owed at entry, nothing waited on but its own transfers. -/
def Owe (d : Dev nD) (L : grid0.Coords) (O : CellTallies nD τ sig (HIx 1)) (W : Waits sig (HIx 1)) : sProp 𝕄 :=
  iprop(levAts (K (F := F)).L (K (F := F)).lev ∗ ∃ W', ⌜∀ p ∈ W', p ∈ W ∨ p.2 = none⌝ ∗ owes (thr d L) O W')

theorem rest_ret (d : Dev nD) (L : grid0.Coords) {Q : PUnit → sProp 𝕄} : Q ⟨⟩ ⊢ Rest d L (.ret ⟨⟩) Q := by
  unfold Rest
  rw [wp_ret]
  iintro H; imodintro; iexact H

/-- The tile's own transfer waited for: what it delivers, its counter back at zero. -/
theorem wp_landed (d : Dev nD) (L : grid0.Coords) {O : CellTallies nD τ sig (HIx 1)} {W : Waits sig (HIx 1)} (hO : ∀ g, O g none = 0)
    {sp sp' : Space} {s s' : Shape} {e e' : EltTy} {sem : DmaSem sig} {srcw : Memref sig (thr d L).2.kind sp' s' e'}
    {dstw : Memref sig (thr d L).2.kind sp s e} {hsrc : srcw.view.WordExact} {hdst : dstw.view.WordExact}
    {k : PUnit → Prog (TpuEff nD τ sig (Elt F) Λ₀ (thr d L).2) PUnit} {N : ℕ} (hN : dstw.view.dmaCredit = N) {D : sProp 𝕄} {Q : PUnit → sProp 𝕄} :
    iprop(Transfers.Flight countersEmb (thr d L) (.dma sem) (default : HIx 1) N D ∗ Owe d L O W)
      ⊢ iprop((iprop(D ∗ semVal (thr d L, .dma sem) 0 ∗ Owe d L O W) -∗ Rest d L (k ⟨⟩) Q)
          -∗ Rest d L (.op (.waitDma2 sem srcw dstw hsrc hdst) k) Q) := by
  unfold Owe Rest
  iintro ⟨Hfl, #Hlv, %W', %hW', HO⟩ Hk
  ihave #Hmw := ((K (F := F)).mayWaits_none (thr := thr d L) hO) $$ Hlv
  iapply (Transfers.wp_waitLocalO countersEmb 𝒱₀ (thr d L) none (default : HIx 1) hN) $$ [Hfl HO]
  · isplitl [Hfl]; · iexact Hfl
    isplitl [HO]; · iexact HO
    iapply (Transfers.MayWaits.elim (SemLoc.dma sem)) $$ Hmw
  iintro ⟨HD, Hsem, HO⟩
  iapply Hk
  isplitl [HD]; · iexact HD
  isplitl [Hsem]; · iexact Hsem
  isplitr; · iexact Hlv
  iexists _; isplitr
  swap; · iexact HO
  ipureintro; intro p hp
  rcases Finset.mem_insert.mp hp with hp | hp; · exact .inr (hp ▸ rfl)
  exact hW' p hp

/-- A copy and its wait. -/
theorem wp_copy (d : Dev nD) (L : grid0.Coords) {O : CellTallies nD τ sig (HIx 1)} {W : Waits sig (HIx 1)} (hO : ∀ g, O g none = 0)
    {sp sp' : Space} {s : Shape} {e : EltTy} {sem : DmaSem sig} {src : Memref sig (thr d L).2.kind sp s e}
    {dst : Memref sig (thr d L).2.kind sp' s e} {h1 : src.view.WordExact} {h2 : dst.view.WordExact}
    {h3 : DmaTarget.Typed (nD := nD) (τ := τ) (p := (thr d L).2) sp (SemLoc.dma sem) (.here dst)}
    {h4 : src.view.WordExact} {h5 : dst.view.WordExact}
    {k : PUnit → Prog (TpuEff nD τ sig (Elt F) Λ₀ (thr d L).2) PUnit} {Q : PUnit → sProp 𝕄}
    {q : PosShare TreeShare} {Ss : Finset (Idx (src.view.loc (thr d L)))} {fs : Buf (Elt F) (src.view.loc (thr d L))}
    {Sd : Finset (Idx (dst.view.loc (thr d L)))} {fd : Buf (Elt F) (dst.view.loc (thr d L))}
    (hSs : src.view.set ⊆ Ss) (hSd : dst.view.set ⊆ Sd) (hN0 : 0 < dst.view.dmaCredit) :
    iprop((src.view.loc (thr d L) ↦[Ss]{q} fs) ∗ (dst.view.loc (thr d L) ↦[Sd]{fullShare} fd)
        ∗ semVal (thr d L, .dma sem) 0 ∗ Owe d L O W)
      ⊢ iprop((iprop((src.view.loc (thr d L) ↦[Ss]{q} fs)
        ∗ (dst.view.loc (thr d L) ↦[Sd]{fullShare} dst.view.write (Elt F) fd (src.view.read (Elt F) fs) Finset.univ)
        ∗ semVal (thr d L, .dma sem) 0 ∗ Owe d L O W) -∗ Rest d L (k ⟨⟩) Q)
      -∗ Rest d L (.op (.enqueueDma src (.here dst) (.dma sem) h1 h2 h3) fun _ => .op (.waitDma2 sem src dst h4 h5) k) Q) := by
  iintro ⟨Hs, Hd, Hsem, HO⟩ Hk
  ihave Hs' := (pointsTo_split_subset (q := q) (f := fs) (S := Ss) hSs).1 $$ Hs
  icases Hs' with ⟨Hs, Hr⟩
  iapply (Transfers.wp_dmaLocal countersEmb 𝒱₀ (thr d L) none (via := .same) (default : HIx 1) dst.view.dmaCredit rfl hN0 hSd) $$ [Hs Hd Hsem]
  · isplitl [Hs]; · iexact Hs
    isplitl [Hd]; · iexact Hd
    iexact Hsem
  iintro Hfl
  iapply (wp_landed d L hO rfl) $$ [Hfl HO]
  · isplitl [Hfl]; · iexact Hfl
    iexact HO
  iintro ⟨⟨Hd, Hs⟩, Hsem, HO⟩
  ihave Hs' := (pointsTo_split_subset (q := q) (f := fs) (S := Ss) hSs).2 $$ [Hs Hr]; · isplitl [Hs] <;> iassumption
  iapply Hk
  isplitl [Hs']; · iexact Hs'
  isplitl [Hd]; · iexact Hd
  isplitl [Hsem]; · iexact Hsem
  iexact HO

/-- The tile's number among the sixteen. -/
abbrev tl (L : grid0.Coords) : ℕ := (L 1).val

theorem tl_lt (L : grid0.Coords) : tl L < 16 := (L 1).isLt

/-- The counter of the tile's transfers numbered `j`. -/
abbrev semOf (d : Dev nD) (L : grid0.Coords) (j : Fin 5) : GSem nD τ sig := (thr d L, .dma j)

/-- The tile's five counters, at zero. -/
def Sems (d : Dev nD) (L : grid0.Coords) : sProp 𝕄 :=
  iprop(semVal (semOf d L 0) 0 ∗ semVal (semOf d L 1) 0 ∗ semVal (semOf d L 2) 0 ∗ semVal (semOf d L 3) 0 ∗ semVal (semOf d L 4) 0)

/-- Its two buffers, at any contents. -/
def Bufs (d : Dev nD) (L : grid0.Coords) : sProp 𝕄 :=
  iprop((∃ f, hvM.view.loc (thr d L) ↦{fullShare} f) ∗ (∃ f, kvM.view.loc (thr d L) ↦{fullShare} f))

/-- The arrays it reads: a share of each histogram. -/
def Ins (d : Dev nD) (L : grid0.Coords) (q : PosShare TreeShare) (a : S2048.Idx → BitVec 32) (b c : S1024.Idx → BitVec 32) : sProp 𝕄 :=
  iprop((aM.view.loc (thr d L) ↦{q} a) ∗ (bM.view.loc (thr d L) ↦{q} b) ∗ (cM.view.loc (thr d L) ↦{q} c))

/-- Its block of the result. -/
def Outs (d : Dev nD) (L : grid0.Coords) (f : S256.Idx → BitVec 32) : sProp 𝕄 :=
  iprop(outM.view.loc (thr d L) ↦[blk 256 16 (tl L)]{fullShare} f)

/-! ## The loops -/

/-- What holds before turn `n`: the histogram is there, and the state is the walk's. -/
def Turn (d : Dev nD) (L : grid0.Coords) (hv : S2048.Idx → BitVec 32) (last need : BitVec 32) (n : ℕ) (acc : St) : sProp 𝕄 :=
  iprop(⌜acc = walk hv last need n⌝ ∗ (hvM.view.loc (thr d L) ↦{fullShare} hv))

/-- A turn's registers are the turn's state. -/
theorem stepped1 (k : Fin k0_t1_loop.trips) (v : IVec S16 32) (s0 s1 s2 s3 : BitVec 32) :
    ((Scalar.ori s0 (extractAt ![15] (k0_pay9 (F := F) 2000#32 s3 v) inpos_S16_p15),
      Scalar.select (Scalar.andi (Scalar.cmpi .eq s0 0#32) (Scalar.cmpi .eq (extractAt ![15] (k0_pay9 (F := F) 2000#32 s3 v) inpos_S16_p15) 1#32))
        (Scalar.subi (Scalar.addi (Scalar.muli 16#32 (Scalar.subi 127#32 (Scf.iv 0#32 1#32 k.val))) 15#32)
          (extractAt ![15] (k0_pay29 (k0_pay10 (F := F) 2000#32 s3 v)) inpos_S16_p15)) s1,
      Scalar.select (Scalar.andi (Scalar.cmpi .eq s0 0#32) (Scalar.cmpi .eq (extractAt ![15] (k0_pay9 (F := F) 2000#32 s3 v) inpos_S16_p15) 1#32))
        (Scalar.subi (extractAt ![15] (k0_pay11 (F := F) 2000#32 s3 v) inpos_S16_p15)
          (extractAt ![15] (k0_pay28 (F := F) v (k0_pay10 (F := F) 2000#32 s3 v) 0#32) inpos_S16_p15)) s2,
      Scalar.addi s3 (extractAt ![15] (k0_pay6 (F := F) v) inpos_S16_p15)) : St)
      = turn (blockAt 127#32 k.val) 2000#32 v (s0, s1, s2, s3) := rfl

/-- One turn down the first histogram. -/
theorem wp_turn1 (d : Dev nD) (L : grid0.Coords) (hv : S2048.Idx → BitVec 32) (r0 r1 r2 r3 : DmaSems sig S_)
    (k : Fin k0_t1_loop.trips) (acc : St) :
    (Turn d L hv 127#32 2000#32 k.val acc : sProp 𝕄) ⊢ Rest (F := F) d L
      (k0_t1_body (F := F) L aM (Memref.isWhole_whole _) bM (Memref.isWhole_whole _) cM (Memref.isWhole_whole _) outM (Memref.isWhole_whole _)
        hvM (Memref.isWhole_whole _) kvM (Memref.isWhole_whole _) cc0_scratch2 r0 r1 r2 r3 lanes k acc)
      (Turn d L hv 127#32 2000#32 (k.val + 1)) := by
  have hk : k.val ≤ 127 := Nat.le_of_lt_succ (Nat.lt_of_lt_of_eq k.isLt (by decide))
  have hlt := places_lt (j := 127) (k := k.val) (by decide) hk
  obtain ⟨s0, s1, s2, s3⟩ := acc
  unfold k0_t1_body Rest
  simp only [k0_part1_eq_skeleton, k0_part1_skel, Prog.lift, Prog.bind_op, Prog.bind_ret, Prog.pure_eq_ret, Prog.bind_assoc]
  conv => lhs; unfold Turn
  iintro ⟨%hc, HK⟩
  rw [wp_assume_of _ _ _ _ (show k0_chk1 (k0_pay4 lanes 0#32 1#32 k) from hlt)]
  iapply (SparseCore.wp_vectorLoadIdx 𝒱₀ (thr d L) none Set.univ (base := hvM) (S := Finset.univ) (q := fullShare) (f := hv) (Finset.subset_univ _)) $$ HK
  iintro HK
  rw [wp_ret]
  imodintro
  unfold Turn
  isplitr
  · ipureintro
    refine (stepped1 (F := F) k _ s0 s1 s2 s3).trans ?_
    exact congrArg₂ (turn (blockAt 127#32 k.val) 2000#32) ((congrArg (fun f => loadIdx f _ _) (Memref.read_access_whole (Elt F) cc0_scratch0 hv)).trans (gathered hv 127#32 k.val hlt)) hc
  iexact HK

/-- The walk down the first histogram. -/
theorem wp_walk1 (d : Dev nD) (L : grid0.Coords) (hv : S2048.Idx → BitVec 32) (r0 r1 r2 r3 : DmaSems sig S_)
    {kk : St → Prog (TpuEff nD τ sig (Elt F) Λ₀ (thr d L).2) PUnit} {Q : PUnit → sProp 𝕄} :
    (hvM.view.loc (thr d L) ↦{fullShare} hv : sProp 𝕄)
      ⊢ iprop(((hvM.view.loc (thr d L) ↦{fullShare} hv) -∗ Rest d L (kk (walk hv 127#32 2000#32 128)) Q)
        -∗ Rest (F := F) d L (Scf.Loop.for k0_t1_loop k0_t1_ok (0#32, 0#32, 0#32, 0#32)
          (k0_t1_body (F := F) L aM (Memref.isWhole_whole _) bM (Memref.isWhole_whole _) cM (Memref.isWhole_whole _) outM (Memref.isWhole_whole _)
        hvM (Memref.isWhole_whole _) kvM (Memref.isWhole_whole _) cc0_scratch2 r0 r1 r2 r3 lanes) >>= kk) Q) := by
  iintro HK Hk
  iapply (Scf.wp_for_bind frame (wpE (defs₀ (F := F)) 𝒱₀ (thr d L) none) Set.univ k0_t1_loop.lb k0_t1_loop.ub k0_t1_loop.st k0_t1_ok (0#32, 0#32, 0#32, 0#32) _
    (Turn d L hv 127#32 2000#32) (wp_turn1 d L hv r0 r1 r2 r3)) $$ [HK]
  · unfold Turn
    isplitr; · ipureintro; rfl
    iexact HK
  iintro %acc HT
  unfold Turn
  icases HT with ⟨%hc, HK⟩
  have hc' : acc = walk hv 127#32 2000#32 128 := hc
  subst hc'
  iapply Hk
  iexact HK

/-- A turn's registers are the turn's state. -/
theorem stepped2 (need : BitVec 32) (k : Fin k0_t2_loop.trips) (v : IVec S16 32) (s0 s1 s2 s3 : BitVec 32) :
    ((Scalar.ori s0 (extractAt ![15] (k0_pay17 (F := F) need s3 v) inpos_S16_p15),
      Scalar.select (Scalar.andi (Scalar.cmpi .eq s0 0#32) (Scalar.cmpi .eq (extractAt ![15] (k0_pay17 (F := F) need s3 v) inpos_S16_p15) 1#32))
        (Scalar.subi (Scalar.addi (Scalar.muli 16#32 (Scalar.subi 63#32 (Scf.iv 0#32 1#32 k.val))) 15#32)
          (extractAt ![15] (k0_pay31 (k0_pay18 (F := F) need s3 v)) inpos_S16_p15)) s1,
      Scalar.select (Scalar.andi (Scalar.cmpi .eq s0 0#32) (Scalar.cmpi .eq (extractAt ![15] (k0_pay17 (F := F) need s3 v) inpos_S16_p15) 1#32))
        (Scalar.subi (extractAt ![15] (k0_pay19 (F := F) need s3 v) inpos_S16_p15)
          (extractAt ![15] (k0_pay30 (F := F) v (k0_pay18 (F := F) need s3 v) 0#32) inpos_S16_p15)) s2,
      Scalar.addi s3 (extractAt ![15] (k0_pay14 (F := F) v) inpos_S16_p15)) : St)
      = turn (blockAt 63#32 k.val) need v (s0, s1, s2, s3) := rfl

/-- One turn down the second. -/
theorem wp_turn2 (d : Dev nD) (L : grid0.Coords) (hv : S2048.Idx → BitVec 32) (need : BitVec 32) (r0 r1 r2 r3 : DmaSems sig S_)
    (k : Fin k0_t2_loop.trips) (acc : St) :
    (Turn d L hv 63#32 need k.val acc : sProp 𝕄) ⊢ Rest (F := F) d L
      (k0_t2_body (F := F) L aM (Memref.isWhole_whole _) bM (Memref.isWhole_whole _) cM (Memref.isWhole_whole _) outM (Memref.isWhole_whole _)
        hvM (Memref.isWhole_whole _) kvM (Memref.isWhole_whole _) cc0_scratch2 r0 r1 r2 r3 lanes need k acc)
      (Turn d L hv 63#32 need (k.val + 1)) := by
  have hk : k.val ≤ 63 := Nat.le_of_lt_succ (Nat.lt_of_lt_of_eq k.isLt (by decide))
  have hlt := places_lt (j := 63) (k := k.val) (by decide) hk
  obtain ⟨s0, s1, s2, s3⟩ := acc
  unfold k0_t2_body Rest
  simp only [k0_part2_eq_skeleton, k0_part2_skel, Prog.lift, Prog.bind_op, Prog.bind_ret, Prog.pure_eq_ret, Prog.bind_assoc]
  conv => lhs; unfold Turn
  iintro ⟨%hc, HK⟩
  rw [wp_assume_of _ _ _ _ (show k0_chk2 (k0_pay12 lanes 0#32 1#32 k) from hlt)]
  iapply (SparseCore.wp_vectorLoadIdx 𝒱₀ (thr d L) none Set.univ (base := hvM) (S := Finset.univ) (q := fullShare) (f := hv) (Finset.subset_univ _)) $$ HK
  iintro HK
  rw [wp_ret]
  imodintro
  unfold Turn
  isplitr
  · ipureintro
    refine (stepped2 (F := F) need k _ s0 s1 s2 s3).trans ?_
    exact congrArg₂ (turn (blockAt 63#32 k.val) need) ((congrArg (fun f => loadIdx f _ _) (Memref.read_access_whole (Elt F) cc0_scratch0 hv)).trans (gathered hv 63#32 k.val hlt)) hc
  iexact HK

/-- The walk down the second. -/
theorem wp_walk2 (d : Dev nD) (L : grid0.Coords) (hv : S2048.Idx → BitVec 32) (need : BitVec 32) (r0 r1 r2 r3 : DmaSems sig S_)
    {kk : St → Prog (TpuEff nD τ sig (Elt F) Λ₀ (thr d L).2) PUnit} {Q : PUnit → sProp 𝕄} :
    (hvM.view.loc (thr d L) ↦{fullShare} hv : sProp 𝕄)
      ⊢ iprop(((hvM.view.loc (thr d L) ↦{fullShare} hv) -∗ Rest d L (kk (walk hv 63#32 need 64)) Q)
        -∗ Rest (F := F) d L (Scf.Loop.for k0_t2_loop k0_t2_ok (0#32, 0#32, 0#32, 0#32)
          (k0_t2_body (F := F) L aM (Memref.isWhole_whole _) bM (Memref.isWhole_whole _) cM (Memref.isWhole_whole _) outM (Memref.isWhole_whole _)
        hvM (Memref.isWhole_whole _) kvM (Memref.isWhole_whole _) cc0_scratch2 r0 r1 r2 r3 lanes need) >>= kk) Q) := by
  iintro HK Hk
  iapply (Scf.wp_for_bind frame (wpE (defs₀ (F := F)) 𝒱₀ (thr d L) none) Set.univ k0_t2_loop.lb k0_t2_loop.ub k0_t2_loop.st k0_t2_ok (0#32, 0#32, 0#32, 0#32) _
    (Turn d L hv 63#32 need) (wp_turn2 d L hv need r0 r1 r2 r3)) $$ [HK]
  · unfold Turn
    isplitr; · ipureintro; rfl
    iexact HK
  iintro %acc HT
  unfold Turn
  icases HT with ⟨%hc, HK⟩
  have hc' : acc = walk hv 63#32 need 64 := hc
  subst hc'
  iapply Hk
  iexact HK

/-- A turn's registers are the turn's state. -/
theorem stepped3 (need : BitVec 32) (k : Fin k0_t3_loop.trips) (v : IVec S16 32) (s0 s1 s2 s3 : BitVec 32) :
    ((Scalar.ori s0 (extractAt ![15] (k0_pay25 (F := F) need s3 v) inpos_S16_p15),
      Scalar.select (Scalar.andi (Scalar.cmpi .eq s0 0#32) (Scalar.cmpi .eq (extractAt ![15] (k0_pay25 (F := F) need s3 v) inpos_S16_p15) 1#32))
        (Scalar.subi (Scalar.addi (Scalar.muli 16#32 (Scalar.subi 63#32 (Scf.iv 0#32 1#32 k.val))) 15#32)
          (extractAt ![15] (k0_pay2 lanes (k0_pay26 (F := F) need s3 v)) inpos_S16_p15)) s1,
      Scalar.select (Scalar.andi (Scalar.cmpi .eq s0 0#32) (Scalar.cmpi .eq (extractAt ![15] (k0_pay25 (F := F) need s3 v) inpos_S16_p15) 1#32))
        (Scalar.subi (extractAt ![15] (k0_pay27 (F := F) need s3 v) inpos_S16_p15)
          (extractAt ![15] (k0_pay1 (F := F) v (k0_pay26 (F := F) need s3 v) 0#32) inpos_S16_p15)) s2,
      Scalar.addi s3 (extractAt ![15] (k0_pay22 (F := F) v) inpos_S16_p15)) : St)
      = turn (blockAt 63#32 k.val) need v (s0, s1, s2, s3) := rfl

/-- One turn down the third. -/
theorem wp_turn3 (d : Dev nD) (L : grid0.Coords) (hv : S2048.Idx → BitVec 32) (need : BitVec 32) (r0 r1 r2 r3 : DmaSems sig S_)
    (k : Fin k0_t3_loop.trips) (acc : St) :
    (Turn d L hv 63#32 need k.val acc : sProp 𝕄) ⊢ Rest (F := F) d L
      (k0_t3_body (F := F) L aM (Memref.isWhole_whole _) bM (Memref.isWhole_whole _) cM (Memref.isWhole_whole _) outM (Memref.isWhole_whole _)
        hvM (Memref.isWhole_whole _) kvM (Memref.isWhole_whole _) cc0_scratch2 r0 r1 r2 r3 lanes need k acc)
      (Turn d L hv 63#32 need (k.val + 1)) := by
  have hk : k.val ≤ 63 := Nat.le_of_lt_succ (Nat.lt_of_lt_of_eq k.isLt (by decide))
  have hlt := places_lt (j := 63) (k := k.val) (by decide) hk
  obtain ⟨s0, s1, s2, s3⟩ := acc
  unfold k0_t3_body Rest
  simp only [k0_part3_eq_skeleton, k0_part3_skel, Prog.lift, Prog.bind_op, Prog.bind_ret, Prog.pure_eq_ret, Prog.bind_assoc]
  conv => lhs; unfold Turn
  iintro ⟨%hc, HK⟩
  rw [wp_assume_of _ _ _ _ (show k0_chk3 (k0_pay20 lanes 0#32 1#32 k) from hlt)]
  iapply (SparseCore.wp_vectorLoadIdx 𝒱₀ (thr d L) none Set.univ (base := hvM) (S := Finset.univ) (q := fullShare) (f := hv) (Finset.subset_univ _)) $$ HK
  iintro HK
  rw [wp_ret]
  imodintro
  unfold Turn
  isplitr
  · ipureintro
    refine (stepped3 (F := F) need k _ s0 s1 s2 s3).trans ?_
    exact congrArg₂ (turn (blockAt 63#32 k.val) need) ((congrArg (fun f => loadIdx f _ _) (Memref.read_access_whole (Elt F) cc0_scratch0 hv)).trans (gathered hv 63#32 k.val hlt)) hc
  iexact HK

/-- The walk down the third. -/
theorem wp_walk3 (d : Dev nD) (L : grid0.Coords) (hv : S2048.Idx → BitVec 32) (need : BitVec 32) (r0 r1 r2 r3 : DmaSems sig S_)
    {kk : St → Prog (TpuEff nD τ sig (Elt F) Λ₀ (thr d L).2) PUnit} {Q : PUnit → sProp 𝕄} :
    (hvM.view.loc (thr d L) ↦{fullShare} hv : sProp 𝕄)
      ⊢ iprop(((hvM.view.loc (thr d L) ↦{fullShare} hv) -∗ Rest d L (kk (walk hv 63#32 need 64)) Q)
        -∗ Rest (F := F) d L (Scf.Loop.for k0_t3_loop k0_t3_ok (0#32, 0#32, 0#32, 0#32)
          (k0_t3_body (F := F) L aM (Memref.isWhole_whole _) bM (Memref.isWhole_whole _) cM (Memref.isWhole_whole _) outM (Memref.isWhole_whole _)
        hvM (Memref.isWhole_whole _) kvM (Memref.isWhole_whole _) cc0_scratch2 r0 r1 r2 r3 lanes need) >>= kk) Q) := by
  iintro HK Hk
  iapply (Scf.wp_for_bind frame (wpE (defs₀ (F := F)) 𝒱₀ (thr d L) none) Set.univ k0_t3_loop.lb k0_t3_loop.ub k0_t3_loop.st k0_t3_ok (0#32, 0#32, 0#32, 0#32) _
    (Turn d L hv 63#32 need) (wp_turn3 d L hv need r0 r1 r2 r3)) $$ [HK]
  · unfold Turn
    isplitr; · ipureintro; rfl
    iexact HK
  iintro %acc HT
  unfold Turn
  icases HT with ⟨%hc, HK⟩
  have hc' : acc = walk hv 63#32 need 64 := hc
  subst hc'
  iapply Hk
  iexact HK

/-! ## The task -/

/-- The words stored, as the copy out reads them. -/
theorem stored_read (inb) (h) (g : S128.Idx → BitVec 32) (w : S16.Idx → BitVec 32) :
    (kvM.slice (Rect.unit (s := S128) ![0] S16.size inb) h).view.read (Elt F)
      ((kvM.access (Rect.unit (s := S128) ![0] S16.size inb)).write (Elt F) g w Finset.univ) = w := by
  funext x
  exact View.read_slice_write_emb (Val := Elt F) (v := kvM.view) (Rect.unit (s := S128) ![0] S16.size inb) g w (Finset.mem_univ x)

theorem pos_S2048 : 0 < S2048.numel := by decide
theorem pos_S1024 : 0 < S1024.numel := by decide
theorem pos_S16 : 0 < S16.numel := by decide

set_option maxHeartbeats 4000000 in
set_option maxRecDepth 16384 in
/-- The tile's task. -/
theorem tile_run (d : Dev nD) (L : grid0.Coords) {O : CellTallies nD τ sig (HIx 1)} {W : Waits sig (HIx 1)} (hO : ∀ g, O g none = 0)
    {q : PosShare TreeShare} {a : S2048.Idx → BitVec 32} {b c : S1024.Idx → BitVec 32} {f : S256.Idx → BitVec 32} :
    (iprop(Ins d L q a b c ∗ Outs d L f ∗ Bufs d L ∗ Sems d L ∗ Owe d L O W) : sProp 𝕄)
      ⊢ Rest (F := F) d L
          (cc0__thr_body (F := F) L aM (Memref.isWhole_whole _) bM (Memref.isWhole_whole _) cM (Memref.isWhole_whole _) outM (Memref.isWhole_whole _)
            hvM (Memref.isWhole_whole _) kvM (Memref.isWhole_whole _) cc0_scratch2 cc0_scoped0 cc0_scoped1 cc0_scoped2 cc0_scoped3)
          fun _ => iprop(Ins d L q a b c ∗ Outs d L (thrOut a b c) ∗ Bufs d L ∗ Sems d L ∗ Owe d L O W) := by
  simp only [cc0__thr_body_eq_skeleton, cc0__thr_body_skel, k0_part4_eq_skeleton, k0_part4_skel,
    Prog.lift, Prog.bind_op, Prog.bind_ret, Prog.pure_eq_ret, Prog.bind_assoc]
  unfold Ins Outs Bufs Sems
  iintro ⟨⟨Ha, Hb, Hc⟩, Hout, ⟨⟨%fh, Hhv⟩, ⟨%fk, Hkv⟩⟩, ⟨Hs0, Hs1, Hs2, Hs3, Hs4⟩, Howe⟩
  iapply (wp_copy d L hO (src := aM) (dst := hvM.slice (Rect.unit (s := S2048) ![0] S2048.size inb_S2048_S2048_0) (fun _ => rfl)) (q := q) (Ss := Finset.univ) (fs := a)
    (Sd := Finset.univ) (fd := fh) (Finset.subset_univ _) (Finset.subset_univ _) (View.dmaCredit_pos _ pos_S2048)) $$ [Ha Hhv Hs1 Howe]
  · iframe Ha Hhv Hs1 Howe
  iintro ⟨Ha, Hhv, Hs1, Howe⟩
  rw [copied_a]
  iapply (wp_walk1 d L a cc0_scoped0 cc0_scoped1 cc0_scoped2 cc0_scoped3) $$ Hhv
  iintro Hhv
  simp only [Prog.lift, Prog.bind_op, Prog.bind_ret, Prog.pure_eq_ret, Prog.bind_assoc]
  iapply (wp_copy d L hO (src := bM) (dst := hvM.slice (Rect.unit (s := S2048) ![0] S1024.size inb_S2048_S1024_0) (fun _ => rfl)) (q := q) (Ss := Finset.univ) (fs := b)
    (Sd := Finset.univ) (fd := a) (Finset.subset_univ _) (Finset.subset_univ _) (View.dmaCredit_pos _ pos_S1024)) $$ [Hb Hhv Hs2 Howe]
  · iframe Hb Hhv Hs2 Howe
  iintro ⟨Hb, Hhv, Hs2, Howe⟩
  rw [copied_b]
  iapply (wp_walk2 d L (laid b a) (needB a) cc0_scoped0 cc0_scoped1 cc0_scoped2 cc0_scoped3) $$ Hhv
  iintro Hhv
  simp only [Prog.lift, Prog.bind_op, Prog.bind_ret, Prog.pure_eq_ret, Prog.bind_assoc]
  iapply (wp_copy d L hO (src := cM) (dst := hvM.slice (Rect.unit (s := S2048) ![0] S1024.size inb_S2048_S1024_0) (fun _ => rfl)) (q := q) (Ss := Finset.univ) (fs := c)
    (Sd := Finset.univ) (fd := laid b a) (Finset.subset_univ _) (Finset.subset_univ _) (View.dmaCredit_pos _ pos_S1024)) $$ [Hc Hhv Hs3 Howe]
  · iframe Hc Hhv Hs3 Howe
  iintro ⟨Hc, Hhv, Hs3, Howe⟩
  rw [copied_c]
  iapply (wp_walk3 d L (laid c (laid b a)) (needC a b) cc0_scoped0 cc0_scoped1 cc0_scoped2 cc0_scoped3) $$ Hhv
  iintro Hhv
  simp only [Prog.lift, Prog.bind_op, Prog.bind_ret, Prog.pure_eq_ret, Prog.bind_assoc]
  unfold Rest
  iapply (wp_load 𝒱₀ (thr d L) none Set.univ (m := kvM) (S := Finset.univ) (q := fullShare) (Finset.subset_univ _)) $$ Hkv
  iintro Hkv
  iapply (wp_store 𝒱₀ (thr d L) none Set.univ (m := kvM) (r := Rect.unit (s := S128) ![0] S16.size inb_S128_S16_0) (Mk := Finset.univ) (f := fk) (S := Finset.univ) (Finset.subset_univ _)) $$ Hkv
  iintro Hkv
  iapply (wp_copy d L hO (src := kvM.slice (Rect.unit (s := S128) ![0] S16.size inb_S128_S16_0) (fun _ => rfl))
    (dst := outM.slice (Rect.unit (s := S256) (k0_off1 L) S16.size (k0_off1_inb L)) (fun _ => rfl)) (q := fullShare) (Ss := Finset.univ)
    (fs := (kvM.access (Rect.unit (s := S128) ![0] S16.size inb_S128_S16_0)).write (Elt F) fk (words a b c) Finset.univ)
    (Sd := blk 256 16 (tl L)) (fd := f) (Finset.subset_univ _)
    (out_window (k0_off1_eq L) _ _) (View.dmaCredit_pos _ pos_S16)) $$ [Hkv Hout Hs4 Howe]
  · iframe Hkv Hout Hs4 Howe
  iintro ⟨Hkv, Hout, Hs4, Howe⟩
  ihave Hout := (Entails.of_eq (pointsTo_congr (g := thrOut a b c) fun y hy => words_out (F := F) (t := tl L) (k0_off1_eq L) _ _ f
    (stored_read (F := F) _ _ fk (words a b c)) hy)) $$ Hout
  iapply (rest_ret d L)
  iframe Ha Hb Hc Hout Hs0 Hs1 Hs2 Hs3 Hs4 Howe
  isplitl [Hhv]; · iexists _; iexact Hhv
  iexists _; iexact Hkv

end Cert.ThrIdeal.Run

end
-- ==== Proof.ThrTask.lean ====
/-
  The threshold search's task as the launch theorem asks for it: what a tile owns of its own — two scratch buffers and five
  counters — and the task's run (ThrBody.lean) over it.
-/
module

public import proofs.«01_k».proof.Proof.ThrBody
public import proofs.«01_k».proof.Proof.GatherTask

@[expose] public section

noncomputable section

namespace Cert.ThrIdeal.Run

open Cert.ThrIdeal Cert.ThrIdeal.Gen
open Cert.GatherIdeal.Run (at1 blk mem_blk shr)

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay ownBufs ownSems0 ownCells ownRefs mem_ownCells mem_ownRefs)

variable {F : FTy → Type} [FloatOps F]
local notation "𝕄" => MT nD τ sig (HIx 1) (Elt F) ℕ UU ℕ

/-- A family over a set that contains the values of an injective list: those values' members, and the rest. -/
theorem bigSep_listed {I : Type} [DecidableEq I] {n : ℕ} {s : Finset I} (e : Fin n ↪ I) (sub : ∀ j, e j ∈ s) (Φ : I → sProp 𝕄) :
    bigSep s Φ = iprop((bigSep Finset.univ fun j => Φ (e j)) ∗ bigSep (s \ Finset.univ.map e) Φ) := by
  have h : Finset.univ.map e ⊆ s := fun b hb => by
    obtain ⟨j, -, rfl⟩ := Finset.mem_map.mp hb
    exact sub j
  rw [SparseCore.bigSep_sdiff_split' h, bigSep_map]

theorem semOf_injective (d : Dev nD) (L : grid0.Coords) : Function.Injective (semOf d L) := fun a b e =>
  SemLoc.dma.inj (Prod.mk.inj e).2

/-- The tile's five counters are among those it owns at the start. -/
theorem semOf_mem (d : Dev nD) (L : grid0.Coords) (j : Fin 5) : semOf d L j ∈ ownCells (thr d L) :=
  mem_ownCells.mpr ⟨rfl, (show ∀ j : Fin 5, (SemLoc.dma j : SemLoc sig).isScoped .scVector = true by decide) j⟩

theorem ownSems0_tile (d : Dev nD) (L : grid0.Coords) :
    (ownSems0 (thr d L) : sProp 𝕄)
      = iprop(Sems d L ∗ bigSep (ownCells (thr d L) \ Finset.univ.map ⟨semOf d L, semOf_injective d L⟩) fun g => semVal g 0) := by
  unfold SparseCore.Cfg.ownSems0 Sems
  rw [bigSep_listed ⟨semOf d L, semOf_injective d L⟩ (semOf_mem d L),
    bigSep_univ_eq_bigSepL [0, 1, 2, 3, 4] (by decide) (by decide)]
  rfl

/-- The tile's scratch buffers as the device lists them. -/
def scratch (L : grid0.Coords) : Fin 2 → DevRef τ sig := fun i =>
  (Proc.scVector (cV L) (jV L)).devRef ((![cc0_scratch0, cc0_scratch1] : Fin 2 → Ref sig .scVector) i)

theorem scratch_injective (L : grid0.Coords) : Function.Injective (scratch L) := fun i j e =>
  (show Function.Injective (![cc0_scratch0, cc0_scratch1] : Fin 2 → Ref sig .scVector) by decide) (Proc.devRef_injective _ e)

theorem scratch_mem (d : Dev nD) (L : grid0.Coords) (i : Fin 2) : scratch L i ∈ ownRefs (thr d L).2 := by
  fin_cases i <;> exact SparseCore.Cfg.mem_ownRefs_of_owner (p := Proc.scVector (cV L) (jV L)) rfl

theorem ownBufs_tile (d : Dev nD) (L : grid0.Coords) :
    (ownBufs (thr d L) : sProp 𝕄)
      = iprop(Bufs d L ∗ bigSep (ownRefs (thr d L).2 \ Finset.univ.map ⟨scratch L, scratch_injective L⟩) fun b => iprop(∃ f, ((d, b) : Loc nD τ sig) ↦{fullShare} f)) := by
  unfold SparseCore.Cfg.ownBufs Bufs
  rw [bigSep_listed ⟨scratch L, scratch_injective L⟩ (scratch_mem d L),
    bigSep_univ_eq_bigSepL [0, 1] (by decide) (by decide)]
  rfl

/-! ## A tile's part of the four arrays -/

abbrev jL (L : grid0.Coords) : Fin 16 := Fin.cast (show grid0.bound 1 = 16 from rfl) (L 1)

/-- Tile `i`'s part: a share of each of the three histograms; its block of the result. -/
abbrev part (d : Dev nD) (i : Fin 16) (a : S2048.Idx → BitVec 32) (b c : S1024.Idx → BitVec 32) (f : S256.Idx → BitVec 32) : sProp 𝕄 :=
  iprop((aLoc d ↦{shr i} a) ∗ (bLoc d ↦{shr i} b) ∗ (cLoc d ↦{shr i} c) ∗ (outLoc d ↦[blk 256 16 i.val]{fullShare} f))

theorem part_open (d : Dev nD) (L : grid0.Coords) {a : S2048.Idx → BitVec 32} {b c : S1024.Idx → BitVec 32} {f : S256.Idx → BitVec 32} :
    (part d (jL L) a b c f : sProp 𝕄) ⊢ iprop(Ins d L (shr (jL L)) a b c ∗ Outs d L f) := by
  unfold Ins Outs
  iintro ⟨Ha, Hb, Hc, Ho⟩
  isplitl [Ha Hb Hc]
  · isplitl [Ha]; · iexact Ha
    isplitl [Hb]; · iexact Hb
    iexact Hc
  iexact Ho

theorem part_close (d : Dev nD) (L : grid0.Coords) {a : S2048.Idx → BitVec 32} {b c : S1024.Idx → BitVec 32} {f : S256.Idx → BitVec 32} :
    (iprop(Ins d L (shr (jL L)) a b c ∗ Outs d L f) : sProp 𝕄) ⊢ part d (jL L) a b c f := by
  unfold Ins Outs
  iintro ⟨⟨Ha, Hb, Hc⟩, Ho⟩
  isplitl [Ha]; · iexact Ha
  isplitl [Hb]; · iexact Hb
  isplitl [Hc]; · iexact Hc
  iexact Ho

/-- The tile's task over what the launch gives it: its part of the arrays comes back with the result's block written,
    its own buffers and counters as they were. -/
theorem tile_body (d : Dev nD) (L : grid0.Coords) (hF : (K (F := F)).Facts)
    {a : S2048.Idx → BitVec 32} {b c : S1024.Idx → BitVec 32} {f : S256.Idx → BitVec 32}
    (O : CellTallies nD τ sig (HIx 1)) (W : Waits sig (HIx 1)) (hO : ∀ g, O g none = 0) :
    (iprop(levAts (K (F := F)).L (K (F := F)).lev ∗ emp ∗ part d (jL L) a b c f
        ∗ scopedBufs (thr d L) ∗ scopedSems0 (thr d L) ∗ owes (thr d L) O W) : sProp 𝕄)
      ⊢ Rest (F := F) d L
          (cc0__thr_body (F := F) L aM (Memref.isWhole_whole _) bM (Memref.isWhole_whole _) cM (Memref.isWhole_whole _) outM (Memref.isWhole_whole _)
            hvM (Memref.isWhole_whole _) kvM (Memref.isWhole_whole _) cc0_scratch2 cc0_scoped0 cc0_scoped1 cc0_scoped2 cc0_scoped3)
          fun _ => iprop(part d (jL L) a b c (thrOut a b c)
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_tile, ownBufs_tile]
  iintro ⟨Hl, -, Hpart, ⟨Hbufs, Hbrest⟩, ⟨Hsems, Hsrest⟩, How⟩
  ihave HIO := (part_open d L) $$ Hpart
  icases HIO with ⟨Hins, Houts⟩
  ihave Hrun := (tile_run (F := F) d L hO (W := W)) $$ [Hins Houts Hbufs Hsems Hl How]
  · isplitl [Hins]; · iexact Hins
    isplitl [Houts]; · iexact Houts
    isplitl [Hbufs]; · iexact Hbufs
    isplitl [Hsems]; · iexact Hsems
    unfold Owe
    isplitl [Hl]; · iexact Hl
    iexists W
    isplitr
    · ipureintro; exact fun p hp => Or.inl hp
    iexact How
  iapply (wp_wand frame _ _) $$ Hrun
  iintro %_ ⟨Hins, Houts, Hbufs, Hsems, Howe⟩
  unfold Owe
  icases Howe with ⟨-, Howe⟩
  isplitl [Hins Houts]
  · iapply (part_close d L) $$ [Hins Houts]
    isplitl [Hins]; · iexact Hins
    iexact Houts
  isplitl [Hbufs Hbrest]
  · isplitl [Hbufs]; · iexact Hbufs
    iexact Hbrest
  isplitl [Hsems Hsrest]
  · isplitl [Hsems]; · iexact Hsems
    iexact Hsrest
  iexact Howe

end Cert.ThrIdeal.Run

end
-- ==== Proof.ThrLaunch.lean ====
/-
  The threshold search's launch and run: the one call over the four arrays its tiles share out, and
  what every unscoped array of the device holds at the end.
-/
module

public import proofs.«01_k».proof.Proof.ThrTask

@[expose] public section

noncomputable section

namespace Cert.ThrIdeal.Run

open Cert.ThrIdeal Cert.ThrIdeal.Gen
open Cert.GatherIdeal.Run (at1 blk mem_blk shr)

open Idealize.ShloMosaic Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.SparseCore.Cfg (HIx Pay)

variable {F : FTy → Type} [FloatOps F]
local notation "𝕄" => MT nD τ sig (HIx 1) (Elt F) ℕ UU ℕ

/-! ## The arrays the call starts from -/

theorem main_eq (d : Dev nD) : main (F := F) d = ((sc (F := F)).run d 0 >>= fun _ => pure ⟨⟩) := rfl

variable (m : (ℓ : Loc nD τ sig) → Buf (Elt F) ℓ) (ρ : Dev nD → PrngReg)

/-- The device's arrays when the call starts. -/
def V5 (d : Dev nD) : Valuation τ sig (Elt F) := fun b => m (d, b)

abbrev histA (d : Dev nD) : S2048.Idx → BitVec 32 := V5 m d (main_arg0 : DevRef τ sig)
abbrev histB (d : Dev nD) : S1024.Idx → BitVec 32 := V5 m d (main_arg1 : DevRef τ sig)
abbrev histC (d : Dev nD) : S1024.Idx → BitVec 32 := V5 m d (main_arg2 : DevRef τ sig)
abbrev old0 (d : Dev nD) : S256.Idx → BitVec 32 := V5 m d (main_v0 : DevRef τ sig)
abbrev new0 (d : Dev nD) : S256.Idx → BitVec 32 := thrOut (histA m d) (histB m d) (histC m d)

/-- The device's arrays at the end: the result written. -/
def V6 (d : Dev nD) : Valuation τ sig (Elt F) := Function.update (V5 m d) (main_v0 : DevRef τ sig) (new0 m d)

/-! ## The arrays shared out among the tiles -/

theorem pts_blocks {ℓ : Loc nD τ sig} {q : PosShare TreeShare} {f : Buf (Elt F) ℓ} (B : Fin 16 → Finset (Idx ℓ)) (key : Idx ℓ → Fin 16)
    (hB : ∀ i y, y ∈ B i ↔ key y = i) : (ℓ ↦{q} f : sProp 𝕄) = bigSep Finset.univ fun i : Fin 16 => ℓ ↦[B i]{q} f := by
  have hc : (Finset.univ : Finset (Fin 16)).biUnion B = Finset.univ :=
    Finset.eq_univ_iff_forall.mpr fun y => Finset.mem_biUnion.mpr ⟨key y, Finset.mem_univ _, (hB _ _).mpr rfl⟩
  rw [← pointsTo_biUnion Finset.univ B fun i _ j _ hij => Finset.disjoint_left.mpr fun y hi hj =>
    hij (((hB _ _).mp hi).symm.trans ((hB _ _).mp hj)), hc]

theorem pts_shares {ℓ : Loc nD τ sig} {f : Buf (Elt F) ℓ} :
    (ℓ ↦{fullShare} f : sProp 𝕄) = bigSep Finset.univ fun i : Fin 16 => ℓ ↦{shr i} f :=
  pointsTo_piecesOf Finset.univ f (by decide) fullShare

/-- The four arrays of the call, whole. -/
abbrev whole (d : Dev nD) (a : S2048.Idx → BitVec 32) (b c : S1024.Idx → BitVec 32) (f : S256.Idx → BitVec 32) : sProp 𝕄 :=
  iprop((aLoc d ↦{fullShare} a) ∗ (bLoc d ↦{fullShare} b) ∗ (cLoc d ↦{fullShare} c) ∗ (outLoc d ↦{fullShare} f))

/-- Whole they are the sixteen tiles' parts. -/
theorem whole_eq (d : Dev nD) (a : S2048.Idx → BitVec 32) (b c : S1024.Idx → BitVec 32) (f : S256.Idx → BitVec 32) :
    (whole d a b c f : sProp 𝕄) = bigSep Finset.univ fun i : Fin 16 => part d i a b c f := by
  have h0 := pts_blocks (F := F) (ℓ := outLoc d) (q := fullShare) (f := f) (fun i => blk 256 16 i.val)
    (fun y => ⟨(y 0).val / 16, by have := (y 0).isLt; change _ < 256 at this; omega⟩) (fun i y => mem_blk.trans (by rw [Fin.ext_iff]))
  unfold whole part
  rw [bigSep_sep', bigSep_sep', bigSep_sep', ← h0, ← pts_shares, ← pts_shares, ← pts_shares]

/-! ## What the handshakes carry -/

/-- The call takes the four arrays whole and brings them back with the result written; each tile its part of them. -/
def P : (K (F := F)).Pay (nD := nD) (Val := Elt F) (Name := ℕ) (U := UU) where
  st := fun q d _ => match q with | 0 => whole d (histA m d) (histB m d) (histC m d) (old0 m d)
  dn := fun q d _ => match q with | 0 => whole d (histA m d) (histB m d) (histC m d) (new0 m d)
  go := fun q d _ i => match q with
    | 0 => part d (Fin.cast nSub_zero i) (histA m d) (histB m d) (histC m d) (old0 m d)
  td := fun q d _ i => match q with
    | 0 => part d (Fin.cast nSub_zero i) (histA m d) (histB m d) (histC m d) (new0 m d)
  x := fun _ _ => iprop(emp)

instance P_storable : (P (F := F) m).IsStorable where
  st q d _ := match q with
    | 0 => (inferInstance : BI.Storable (upEmb : UEmb _ 𝕄) (whole d (histA m d) (histB m d) (histC m d) (old0 m d)))
  dn q d _ := match q with
    | 0 => (inferInstance : BI.Storable (upEmb : UEmb _ 𝕄) (whole d (histA m d) (histB m d) (histC m d) (new0 m d)))
  go q d _ i := match q with
    | 0 => (inferInstance : BI.Storable (upEmb : UEmb _ 𝕄)
      (part d (Fin.cast nSub_zero i) (histA m d) (histB m d) (histC m d) (old0 m d)))
  td q d _ i := match q with
    | 0 => (inferInstance : BI.Storable (upEmb : UEmb _ 𝕄)
      (part d (Fin.cast nSub_zero i) (histA m d) (histB m d) (histC m d) (new0 m d)))

/-! ## The tiles' obligation -/

def coordsV (c : Fin (grid0.bound 0)) (s : Fin (grid0.bound 1)) : grid0.Coords
  | 0 => c
  | 1 => s
  | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s =>
      cc0__thr_body (F := F) (coordsV c s) aM (Memref.isWhole_whole _) bM (Memref.isWhole_whole _) cM (Memref.isWhole_whole _) outM (Memref.isWhole_whole _)
            hvM (Memref.isWhole_whole _) kvM (Memref.isWhole_whole _) cc0_scratch2 cc0_scoped0 cc0_scoped1 cc0_scoped2 cc0_scoped3) ⟨⟩ c s := rfl

theorem obl_post {A B C : sProp 𝕄} {thr : Thread nD τ} {O : CellTallies nD τ sig (HIx 1)} {W : Waits sig (HIx 1)} {q : HIx 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = q⌝ ∗ owes thr O W') := by
  iintro ⟨HA, HB, HC, %W', %hW, HO⟩
  isplitl [HA]; · iexact HA
  isplitl [HB]; · iexact HB
  isplitl [HC]; · iexact HC
  iexists W'
  isplitr
  · ipureintro; exact fun p hp => (hW p hp).imp_right Or.inl
  iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body d (coordsV ⟨_, hci.1⟩ ⟨_, hci.2⟩) hF O W hO).trans (wp_mono frame _ _ fun _ => obl_post)

/-! ## The call's own split and the launch's ghost state -/

theorem bigSep_tasks (Φ : Fin 16 → sProp 𝕄) : (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show whole d (histA m d) (histB m d) (histC m d) (old0 m d) ⊢ |={Set.univ}=> iprop(
      (bigSep Finset.univ fun i : Fin ((K (F := F)).nSub 0) =>
        part d (Fin.cast nSub_zero i) (histA m d) (histB m d) (histC m d) (old0 m d))
      ∗ ((bigSep Finset.univ fun i : Fin ((K (F := F)).nSub 0) =>
          part d (Fin.cast nSub_zero i) (histA m d) (histB m d) (histC m d) (new0 m d))
          -∗ whole d (histA m d) (histB m d) (histC m d) (new0 m d)))
  rw [bigSep_tasks (F := F) (fun i => part d i (histA m d) (histB m d) (histC m d) (old0 m d)),
    bigSep_tasks (F := F) (fun i => part d i (histA m d) (histB m d) (histC m d) (new0 m d)), whole_eq, whole_eq]
  iintro H; imodintro
  isplitl [H]; · iexact H
  iintro H
  iexact H

def u₀ : UU := (initOf (K (F := F)).hsCells (K (F := F)).hsToks, 1)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## @main on the TensorCore -/

/-- The four arrays of the call, as the device lists them. -/
def arrRefs : Fin 4 → DevRef τ sig := fun i =>
  Proc.devRef .tc ((![main_arg0, main_arg1, main_arg2, main_v0] : Fin 4 → Ref sig .tc) i)

theorem arrRefs_injective : Function.Injective arrRefs := fun i j e =>
  (show Function.Injective (![main_arg0, main_arg1, main_arg2, main_v0] : Fin 4 → Ref sig .tc) by decide)
    (Proc.devRef_injective _ e)

theorem arrRefs_mem (i : Fin 4) : arrRefs i ∈ Pipeline.ucRefs τ sig :=
  Finset.mem_filter.mpr ⟨StableHlo.devRef_mem_tcRefs _,
    (show ∀ i : Fin 4, ¬ (Proc.devRef (τ := τ) .tc ((![main_arg0, main_arg1, main_arg2, main_v0] : Fin 4 → Ref sig .tc) i)).isScoped by decide) i⟩

abbrev others : Finset (DevRef τ sig) := Pipeline.ucRefs τ sig \ Finset.univ.map ⟨arrRefs, arrRefs_injective⟩

/-- The device's unscoped arrays are the call's four and the others. -/
theorem held_split_arrs (d : Dev nD) (W : Valuation τ sig (Elt F)) :
    (held (SparseCore.T d) (Pipeline.ucRefs τ sig) W : sProp 𝕄)
      = iprop(whole d (W (main_arg0 : DevRef τ sig)) (W (main_arg1 : DevRef τ sig)) (W (main_arg2 : DevRef τ sig)) (W (main_v0 : DevRef τ sig)) ∗ held (SparseCore.T d) others W) := by
  unfold held
  rw [bigSep_listed ⟨arrRefs, arrRefs_injective⟩ arrRefs_mem, bigSep_univ_eq_bigSepL [0, 1, 2, 3] (by decide) (by decide)]
  rfl

theorem V6_of_ne (d : Dev nD) {b : DevRef τ sig} (h0 : b ≠ main_v0) : V6 m d b = V5 m d b := by
  unfold V6
  rw [Function.update_of_ne h0]
theorem V6_new0 (d : Dev nD) : V6 m d (main_v0 : DevRef τ sig) = new0 m d := by
  unfold V6
  rw [Function.update_self]

theorem held_others (d : Dev nD) : (held (SparseCore.T d) others (V6 m d) : sProp 𝕄) = held (SparseCore.T d) others (V5 m d) :=
  StableHlo.held_congr _ fun b hb => by
    have hn (i : Fin 4) : b ≠ arrRefs i := fun e => (Finset.mem_sdiff.mp hb).2 (Finset.mem_map.mpr ⟨i, Finset.mem_univ _, e.symm⟩)
    exact V6_of_ne m d (hn 3)

theorem st0_eq (d : Dev nD) : (bigSep Finset.univ fun c : Fin ((K (F := F)).nCore 0) => (P m).st 0 d c)
    = whole d (histA m d) (histB m d) (histC m d) (old0 m d) := bigSep_univ_of_subsingleton (0 : Fin 1)
theorem dn0_eq (d : Dev nD) : (bigSep Finset.univ fun c : Fin ((K (F := F)).nCore 0) => (P m).dn 0 d c)
    = whole d (histA m d) (histB m d) (histC m d) (new0 m d) := bigSep_univ_of_subsingleton (0 : Fin 1)

abbrev FIN (d : Dev nD) : sProp 𝕄 := held (SparseCore.T d) (Pipeline.ucRefs τ sig) (V6 m d)

theorem fin_of (d : Dev nD) : (iprop(whole d (histA m d) (histB m d) (histC m d) (new0 m d)
    ∗ held (SparseCore.T d) others (V5 m d)) : sProp 𝕄) ⊢ FIN m d := by
  unfold FIN
  rw [held_split_arrs, held_others, V6_new0, V6_of_ne m d (b := main_arg0) (by decide),
    V6_of_ne m d (b := main_arg1) (by decide), V6_of_ne m d (b := main_arg2) (by decide)]

/-- @main: the call from the four arrays; every unscoped array kept at its last contents. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (fun b => m (d, b))
    from Pipeline.unscopedBufs_held d fun b => m (d, b), main_eq]
  iintro ⟨#Hctx, Hst, ⟨Hb, Hheld, Hts, -⟩, -⟩
  ihave Hh := (show (held (d.tc : Thread nD τ) (Pipeline.ucRefs τ sig) (fun b => m (d, b)) : sProp 𝕄) ⊢ _
    from Entails.of_eq (held_split_arrs d (V5 m d))) $$ Hheld
  icases Hh with ⟨Harr, Hrest⟩
  simp only [wp_bind, wp_pure]
  iapply ((K (F := F)).wp_run (D (F := F)) 𝒱 (EH := EH) (P := P m) κ d 0) $$ [Hst Harr Hrest Hb Hts]
  isplitr; · iexact Hctx
  isplitl [Hst]; · iexact Hst
  isplitl [Harr]
  · rw [st0_eq]; iexact Harr
  iintro ⟨Hst, Hdn⟩
  ihave Hdn' := (Entails.of_eq (dn0_eq m d)) $$ Hdn
  imodintro
  isplitl [Hst]; · iexact Hst
  isplitr [Hb Hts]
  · iapply (fin_of m d) $$ [Hdn' Hrest]
    isplitl [Hdn'] <;> iassumption
  isplitl [Hb] <;> iassumption

def fq (d : Dev nD) (s' : Phys nD τ sig (Elt F)) : Prop := ∀ b ∈ Pipeline.ucRefs τ sig, s'.mem.mem (d, b) = V6 m d b

theorem hfin (d : Dev nD) (s' : Phys nD τ sig (Elt F)) : iprop(FIN m d ∗ SI s') ⊢ (⌜fq m d s'⌝ : sProp 𝕄) :=
  BI.sep_comm.trans (SI_pointsTo_bufs_agree (st := s') (qs := fun _ => fullShare) (F := V6 m d) (Pipeline.ucRefs τ sig))

/-! ## The program's run -/

/-- Every unscoped array at its last contents, every semaphore at zero. -/
def QC : PUnit × MemSt nD τ sig (Elt F) → Prop := fun r => (∀ d : Dev nD, ∀ b ∈ Pipeline.ucRefs τ sig, r.2.mem (d, b) = V6 m d b) ∧ r.2.sem = fun _ => 0

theorem run_main [∀ e, Nonempty (Elt F e)] :
    θ_run (Cert.ThrIdeal.defs (F := F)) (Cert.ThrIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.ThrIdeal.Run

end
-- ==== Proof.ThrCount.lean ====
/-
  What the search's walks find, by numbers: down from the last bucket, the first from which on there are as many keys as
  wanted, and the keys in the buckets above it.
-/
module

public import proofs.«01_k».proof.Proof.ThrSetup
public import proofs.«01_k».proof.Proof.PlaceSetup

@[expose] public section

set_option maxRecDepth 16384

noncomputable section

namespace Cert.ThrIdeal.Run

open Cert.ThrIdeal Cert.ThrIdeal.Gen
open Cert.GatherIdeal.Run (at1 at1_val at1_self at1_eq)
open Idealize.ShloMosaic

/-! ## The answer -/

/-- The keys in the `n` highest of `N` buckets. -/
def suf (H : ℕ → ℕ) (N n : ℕ) : ℕ := ∑ p ∈ Finset.range n, H (N - 1 - p)

/-- The bucket is the highest with `need` keys from it on, `above` the keys above it; both are zero if there is none. -/
def Ans (H : ℕ → ℕ) (N : ℕ) (need b a : BitVec 32) : Prop :=
  (∃ p < N, need.toInt ≤ (suf H N (p + 1) : ℤ) ∧ (∀ q < p, (suf H N (q + 1) : ℤ) < need.toInt)
    ∧ b = BitVec.ofNat 32 (N - 1 - p) ∧ a = BitVec.ofNat 32 (suf H N p))
  ∨ ((∀ q < N, (suf H N (q + 1) : ℤ) < need.toInt) ∧ b = 0#32 ∧ a = 0#32)

/-- There is one answer. -/
theorem Ans.unique {H : ℕ → ℕ} {N : ℕ} {need b a b' a' : BitVec 32} (h : Ans H N need b a) (h' : Ans H N need b' a') : b = b' ∧ a = a' := by
  rcases h with ⟨p, hp, h1, h2, h3, h4⟩ | ⟨h1, h3, h4⟩ <;> rcases h' with ⟨p', hp', h1', h2', h3', h4'⟩ | ⟨h1', h3', h4'⟩
  · have e : p = p' := by
      rcases Nat.lt_trichotomy p p' with h | h | h
      · exact absurd h1 (not_le.mpr (h2' p h))
      · exact h
      · exact absurd h1' (not_le.mpr (h2 p' h))
    subst e
    exact ⟨h3.trans h3'.symm, h4.trans h4'.symm⟩
  · exact absurd h1 (not_le.mpr (h1' p hp))
  · exact absurd h1' (not_le.mpr (h1 p' hp'))
  · exact ⟨h3.trans h3'.symm, h4.trans h4'.symm⟩

theorem Ans.bucket_lt {H : ℕ → ℕ} {N : ℕ} {need b a : BitVec 32} (h : Ans H N need b a) (h0 : 0 < N) (hN : N ≤ 2048) : b.toNat < N := by
  rcases h with ⟨p, hp, -, -, h3, -⟩ | ⟨-, h3, -⟩
  · rw [h3, BitVec.toNat_ofNat]; omega
  · rw [h3]; exact h0

theorem suf_add (H : ℕ → ℕ) (N n k : ℕ) : suf H N (n + k) = suf H N n + ∑ i ∈ Finset.range k, H (N - 1 - (n + i)) :=
  Finset.sum_range_add _ n k

theorem suf_le {H : ℕ → ℕ} (hH : ∀ i, H i ≤ 100352) (N : ℕ) {n : ℕ} (hn : n ≤ 2048) : suf H N n < 2147483648 := by
  have h : suf H N n ≤ ∑ p ∈ Finset.range n, 100352 := Finset.sum_le_sum fun p _ => hH _
  rw [Finset.sum_const, Finset.card_range, smul_eq_mul] at h
  omega

/-! ## Words -/

theorem toInt_small {n : ℕ} (h : n < 2147483648) : (BitVec.ofNat 32 n).toInt = (n : ℤ) := by
  rw [BitVec.toInt_eq_toNat_cond, BitVec.toNat_ofNat]
  split <;> omega

theorem flip_toNat {x : BitVec 32} (h : x.toNat < 2147483648) : (x ^^^ 2147483648#32).toNat = x.toNat + 2147483648 := by
  have h1 : (x.toNat ^^^ 2147483648) / 2 ^ 31 = 1 := by
    rw [Nat.xor_div_two_pow, Nat.div_eq_of_lt (show x.toNat < 2 ^ 31 from h)]
    rfl
  have h2 : (x.toNat ^^^ 2147483648) % 2 ^ 31 = x.toNat := by
    rw [Nat.xor_mod_two_pow, Nat.mod_eq_of_lt (show x.toNat < 2 ^ 31 from h)]
    exact Nat.xor_zero _
  rw [BitVec.toNat_xor]
  show x.toNat ^^^ 2147483648 = _
  omega

/-- A running maximum of words read unsigned is one of them and at least each. -/
theorem foldl_maxui {ι : Type} (g : ι → BitVec 32) (l : List ι) (z : BitVec 32) :
    z.toNat ≤ (l.foldl (fun r k => IntOp.maxui r (g k)) z).toNat ∧ (∀ k ∈ l, (g k).toNat ≤ (l.foldl (fun r k => IntOp.maxui r (g k)) z).toNat)
      ∧ (l.foldl (fun r k => IntOp.maxui r (g k)) z = z ∨ ∃ k ∈ l, l.foldl (fun r k => IntOp.maxui r (g k)) z = g k) := by
  induction l generalizing z with
  | nil => exact ⟨le_refl _, fun _ h => absurd h List.not_mem_nil, Or.inl rfl⟩
  | cons k l ih =>
    obtain ⟨h1, h2, h3⟩ := ih (IntOp.maxui z (g k))
    have hm : z.toNat ≤ (IntOp.maxui z (g k)).toNat ∧ (g k).toNat ≤ (IntOp.maxui z (g k)).toNat ∧ (IntOp.maxui z (g k) = z ∨ IntOp.maxui z (g k) = g k) := by
      unfold IntOp.maxui
      by_cases h : (g k).ult z = true
      · rw [if_pos h]
        exact ⟨le_refl _, le_of_lt (BitVec.ult_iff_toNat_lt.1 h), Or.inl rfl⟩
      · rw [if_neg h]
        exact ⟨not_lt.1 fun h' => h (BitVec.ult_iff_toNat_lt.2 h'), le_refl _, Or.inr rfl⟩
    rw [List.foldl_cons]
    refine ⟨hm.1.trans h1, fun j hj => ?_, ?_⟩
    · rcases List.mem_cons.1 hj with rfl | hj
      · exact hm.2.1.trans h1
      · exact h2 j hj
    · rcases h3 with h3 | ⟨j, hj, h3⟩
      · rcases hm.2.2 with h | h
        · exact Or.inl (h3.trans h)
        · exact Or.inr ⟨k, List.mem_cons_self, h3.trans h⟩
      · exact Or.inr ⟨j, List.mem_cons_of_mem _ hj, h3⟩

/-- The largest of sixteen small numbers. -/
theorem top_eq {v : IVec S16 32} {a : ℕ → ℕ} {M l : ℕ} (hv : ∀ x, v x = BitVec.ofNat 32 (a (x 0).val)) (ha : ∀ i < 16, a i ≤ M)
    (hM : M < 2147483648) (hl : l < 16) (hal : a l = M) : top v = BitVec.ofNat 32 M := by
  let g : Fin 16 → BitVec 32 := fun k => v (Shape.ofLane (d := ![16]) k) ^^^ 2147483648#32
  have hg : ∀ k : Fin 16, g k = BitVec.ofNat 32 (a k.val) ^^^ 2147483648#32 := fun k => congrArg (· ^^^ 2147483648#32) (hv _)
  have hn : ∀ k : Fin 16, (g k).toNat = a k.val + 2147483648 := fun k => by
    have := ha k.val k.isLt
    rw [hg, flip_toNat] <;> rw [BitVec.toNat_ofNat] <;> omega
  let R : BitVec 32 := ((List.finRange 16).filter fun k => decide (0 < k.val ∧ k.val ≤ 15)).foldl (fun r k => IntOp.maxui r (g k)) (g 0)
  have ht : top v = R ^^^ 2147483648#32 := rfl
  obtain ⟨h1, h2, h3⟩ := foldl_maxui g ((List.finRange 16).filter fun k => decide (0 < k.val ∧ k.val ≤ 15)) (g 0)
  have hge : M + 2147483648 ≤ R.toNat := by
    rw [← hal, ← hn ⟨l, hl⟩]
    by_cases h0 : l = 0
    · subst h0; exact h1
    · exact h2 _ (List.mem_filter.2 ⟨List.mem_finRange _, decide_eq_true ⟨Nat.pos_of_ne_zero h0, Nat.le_of_lt_succ hl⟩⟩)
  obtain ⟨k, hk⟩ : ∃ k : Fin 16, R = g k := by
    rcases h3 with h | ⟨k, -, h⟩
    · exact ⟨0, h⟩
    · exact ⟨k, h⟩
  have hak : a k.val = M := by
    have := ha k.val k.isLt
    have := hn k
    rw [hk] at hge
    omega
  rw [ht, hk, hg, BitVec.xor_assoc, BitVec.xor_self, BitVec.xor_zero, hak]

theorem scan_sum {v : IVec S16 32} {f : ℕ → ℕ} (h : ∀ x, v x = BitVec.ofNat 32 (f (x 0).val)) (x : S16.Idx) :
    scan .sum v x = BitVec.ofNat 32 (∑ l ∈ Finset.range ((x 0).val + 1), f l) := by
  refine (Cert.PlaceIdeal.Run.scan_sum (f := fun l => BitVec.ofNat 32 (f l)) h x).trans ?_
  generalize (x 0).val + 1 = n
  induction n with
  | zero => rfl
  | succ n ih => rw [Finset.sum_range_succ, Finset.sum_range_succ, ih, BitVec.ofNat_add]

/-! ## A turn -/

section

variable {f : ℕ → ℕ} {A : ℕ} {need : BitVec 32} {v : IVec S16 32}

/-- The keys up to lane `l`. -/
def upTo (A : ℕ) (f : ℕ → ℕ) (l : ℕ) : ℕ := A + ∑ i ∈ Finset.range (l + 1), f i

theorem upTo_le {l k : ℕ} (h : l ≤ k) : upTo A f l ≤ upTo A f k :=
  Nat.add_le_add_left (Finset.sum_le_sum_of_subset (Finset.range_mono (Nat.add_le_add_right h 1))) _

theorem upTo_apply (hv : ∀ x, v x = BitVec.ofNat 32 (f (x 0).val)) (x : S16.Idx) :
    addi (broadcast S16 (BitVec.ofNat 32 A)) (scan .sum v) x = BitVec.ofNat 32 (upTo A f (x 0).val) := by
  refine (congrArg (fun z : BitVec 32 => BitVec.ofNat 32 A + z) (scan_sum hv x)).trans ?_
  unfold upTo
  rw [BitVec.ofNat_add]

theorem reached_iff (hv : ∀ x, v x = BitVec.ofNat 32 (f (x 0).val)) (hb : upTo A f 15 < 2147483648) (x : S16.Idx) :
    reached need (BitVec.ofNat 32 A) v x = 1#1 ↔ need.toInt ≤ (upTo A f (x 0).val : ℤ) := by
  have hx : (x 0).val < 16 := (x 0).isLt
  have hle : upTo A f (x 0).val ≤ upTo A f 15 := upTo_le (by omega)
  refine (show reached need (BitVec.ofNat 32 A) v x = 1#1 ↔ IntOp.cmpi .sge (addi (broadcast S16 (BitVec.ofNat 32 A)) (scan .sum v) x) need = 1#1 from Iff.rfl).trans ?_
  rw [upTo_apply hv x, IntOp.cmpi_sge, toInt_small (by omega)]

/-- A one where enough keys are reached. -/
def one (need : BitVec 32) (A : ℕ) (f : ℕ → ℕ) (l : ℕ) : ℕ := if need.toInt ≤ (upTo A f l : ℤ) then 1 else 0

theorem marks_apply (hv : ∀ x, v x = BitVec.ofNat 32 (f (x 0).val)) (hb : upTo A f 15 < 2147483648) (x : S16.Idx) :
    marks need (BitVec.ofNat 32 A) v x = BitVec.ofNat 32 (one need A f (x 0).val) := by
  refine (show marks need (BitVec.ofNat 32 A) v x = if reached need (BitVec.ofNat 32 A) v x = 1#1 then 1#32 else 0#32 from rfl).trans ?_
  unfold one
  by_cases h : need.toInt ≤ (upTo A f (x 0).val : ℤ)
  · rw [if_pos ((reached_iff hv hb x).2 h), if_pos h]
  · rw [if_neg fun h' => h ((reached_iff hv hb x).1 h'), if_neg h]

/-- The first lane of the reached ones is the one with a single mark up to it. -/
theorem firstOf_iff (hv : ∀ x, v x = BitVec.ofNat 32 (f (x 0).val)) (hb : upTo A f 15 < 2147483648) {l : ℕ}
    (h1 : need.toInt ≤ (upTo A f l : ℤ)) (h2 : ∀ q < l, (upTo A f q : ℤ) < need.toInt) (x : S16.Idx) :
    firstOf need (BitVec.ofNat 32 A) v x = 1#1 ↔ (x 0).val = l := by
  have hx : (x 0).val < 16 := (x 0).isLt
  refine (show firstOf need (BitVec.ofNat 32 A) v x = 1#1 ↔ IntOp.andi (reached need (BitVec.ofNat 32 A) v x)
    (IntOp.cmpi .eq (scan .sum (marks need (BitVec.ofNat 32 A) v) x) 1#32) = 1#1 from Iff.rfl).trans ?_
  rw [IntOp.andi_eq_one, reached_iff hv hb, scan_sum (marks_apply hv hb), IntOp.cmpi_eq]
  have hz : ∑ i ∈ Finset.range l, one need A f i = 0 := Finset.sum_eq_zero fun i hi => if_neg (not_le.mpr (h2 i (Finset.mem_range.1 hi)))
  have hl : one need A f l = 1 := if_pos h1
  constructor
  · rintro ⟨ha, hb'⟩
    have hge : l ≤ (x 0).val := not_lt.1 fun h => absurd ha (not_le.mpr (h2 _ h))
    by_contra hne
    have hlt : l < (x 0).val := lt_of_le_of_ne hge (Ne.symm hne)
    have hs : 1 ≤ ∑ i ∈ Finset.range (x 0).val, one need A f i := by
      rw [← hl]
      exact Finset.single_le_sum (f := one need A f) (fun _ _ => Nat.zero_le _) (Finset.mem_range.2 hlt)
    have hu : ∑ i ∈ Finset.range (x 0).val, one need A f i ≤ 16 := by
      refine (Finset.sum_le_sum (g := fun _ => 1) fun i _ => ?_).trans ?_
      · unfold one; split <;> omega
      · rw [Finset.sum_const, Finset.card_range, smul_eq_mul]; omega
    rw [Finset.sum_range_succ, show one need A f (x 0).val = 1 from if_pos ha] at hb'
    have := congrArg BitVec.toNat hb'
    simp only [BitVec.toNat_ofNat] at this
    omega
  · intro h
    rw [h, Finset.sum_range_succ, hz, hl]
    exact ⟨h1, rfl⟩

/-- The largest of the words kept at one lane. -/
theorem top_at {c : IVec S16 1} {w : IVec S16 32} {l n : ℕ} (hc : ∀ x, c x = 1#1 ↔ (x 0).val = l) (hl : l < 16) (hw : ∀ x : S16.Idx, (x 0).val = l → w x = BitVec.ofNat 32 n)
    (hn : n < 2147483648) : top (select c w (broadcast S16 0#32)) = BitVec.ofNat 32 n := by
  refine top_eq (a := fun i => if i = l then n else 0) (l := l) (fun x => ?_) (fun i _ => by split <;> omega) hn hl (if_pos rfl)
  refine (show select c w (broadcast S16 0#32) x = if c x = 1#1 then w x else 0#32 from rfl).trans ?_
  by_cases h : (x 0).val = l
  · rw [if_pos ((hc x).2 h), if_pos h, hw x h]
  · rw [if_neg fun h' => h ((hc x).1 h'), if_neg h]

end

/-- Where the walk is after `n` buckets. -/
def Inv (H : ℕ → ℕ) (N : ℕ) (need : BitVec 32) (n : ℕ) (s : St) : Prop :=
  s.2.2.2 = BitVec.ofNat 32 (suf H N n)
  ∧ ((s.1 = 1#32 ∧ ∃ p < n, need.toInt ≤ (suf H N (p + 1) : ℤ) ∧ (∀ q < p, (suf H N (q + 1) : ℤ) < need.toInt)
        ∧ s.2.1 = BitVec.ofNat 32 (N - 1 - p) ∧ s.2.2.1 = BitVec.ofNat 32 (suf H N p))
    ∨ (s.1 = 0#32 ∧ (∀ q < n, (suf H N (q + 1) : ℤ) < need.toInt) ∧ s.2.1 = 0#32 ∧ s.2.2.1 = 0#32))

/-- A turn keeps it. -/
theorem turn_inv {H : ℕ → ℕ} (hH : ∀ i, H i ≤ 100352) {j k : ℕ} (hj : j < 128) (hk : k ≤ j) {need : BitVec 32} {v : IVec S16 32}
    (hv : ∀ x, v x = BitVec.ofNat 32 (H (16 * (j + 1) - 1 - (16 * k + (x 0).val)))) {s : St} (h : Inv H (16 * (j + 1)) need (16 * k) s) :
    Inv H (16 * (j + 1)) need (16 * (k + 1)) (turn (blockAt (BitVec.ofNat 32 j) k) need v s) := by
  obtain ⟨s0, s1, s2, s3⟩ := s
  obtain ⟨hacc, hs⟩ := h
  dsimp only at hacc hs
  subst hacc
  generalize hN : 16 * (j + 1) = N at *
  let f : ℕ → ℕ := fun i => H (N - 1 - (16 * k + i))
  have hv' : ∀ x, v x = BitVec.ofNat 32 (f (x 0).val) := hv
  have hup : ∀ l, upTo (suf H N (16 * k)) f l = suf H N (16 * k + l + 1) := fun l => by
    rw [Nat.add_assoc, suf_add]; rfl
  have hb : upTo (suf H N (16 * k)) f 15 < 2147483648 := by rw [hup]; exact suf_le hH N (by omega)
  have htot : top (scan .sum v) = BitVec.ofNat 32 (∑ i ∈ Finset.range 16, f i) := by
    refine top_eq (a := fun l => ∑ i ∈ Finset.range (l + 1), f i) (l := 15) (scan_sum hv') (fun i hi => ?_) ?_ (by decide) rfl
    · exact Finset.sum_le_sum_of_subset (Finset.range_mono (by omega))
    · have : upTo (suf H N (16 * k)) f 15 = suf H N (16 * k) + ∑ i ∈ Finset.range 16, f i := rfl
      omega
  have hacc' : Scalar.addi (BitVec.ofNat 32 (suf H N (16 * k))) (top (scan .sum v)) = BitVec.ofNat 32 (suf H N (16 * (k + 1))) := by
    rw [htot, Nat.mul_add, suf_add, BitVec.ofNat_add]
    rfl
  refine ⟨hacc', ?_⟩
  unfold turn
  dsimp only
  by_cases hex : ∃ l, l < 16 ∧ need.toInt ≤ (upTo (suf H N (16 * k)) f l : ℤ)
  · classical
    obtain ⟨hl, h1⟩ := Nat.find_spec hex
    have hmin : ∀ q < Nat.find hex, (upTo (suf H N (16 * k)) f q : ℤ) < need.toInt := fun q hq =>
      not_le.1 fun hle => Nat.find_min hex hq ⟨hq.trans hl, hle⟩
    generalize Nat.find hex = l at *
    have hany : top (marks need (BitVec.ofNat 32 (suf H N (16 * k))) v) = 1#32 :=
      top_eq (a := one need (suf H N (16 * k)) f) (M := 1) (l := l) (marks_apply hv' hb) (fun i _ => by unfold one; split <;> omega) (by decide) hl (if_pos h1)
    rw [hany]
    left
    rcases hs with ⟨e0, p, hp, hp1, hp2, e1, e2⟩ | ⟨e0, hbelow, e1, e2⟩
    · subst e0
      exact ⟨rfl, p, by omega, hp1, hp2, e1, e2⟩
    · subst e0
      have hfirst := firstOf_iff (need := need) hv' hb h1 hmin
      have hle : upTo (suf H N (16 * k)) f l ≤ upTo (suf H N (16 * k)) f 15 := upTo_le (by omega)
      have hfl : f l ≤ 100352 := hH _
      have t1 : top (select (firstOf need (BitVec.ofNat 32 (suf H N (16 * k))) v) lanes (broadcast S16 0#32)) = BitVec.ofNat 32 l :=
        top_at hfirst hl (fun x hx => (iota_single_apply ..).trans (congrArg (BitVec.ofNat 32) hx)) (by omega)
      have t2 : top (select (firstOf need (BitVec.ofNat 32 (suf H N (16 * k))) v) (addi (broadcast S16 (BitVec.ofNat 32 (suf H N (16 * k)))) (scan .sum v)) (broadcast S16 0#32))
          = BitVec.ofNat 32 (upTo (suf H N (16 * k)) f l) :=
        top_at hfirst hl (fun x hx => (upTo_apply hv' x).trans (congrArg (fun i => BitVec.ofNat 32 (upTo (suf H N (16 * k)) f i)) hx)) (by omega)
      have t3 : top (select (firstOf need (BitVec.ofNat 32 (suf H N (16 * k))) v) v (broadcast S16 0#32)) = BitVec.ofNat 32 (f l) :=
        top_at hfirst hl (fun x hx => (hv' x).trans (congrArg (fun i => BitVec.ofNat 32 (f i)) hx)) (by omega)
      rw [t1, t2, t3]
      refine ⟨rfl, 16 * k + l, by omega, ?_, ?_, ?_, ?_⟩
      · rw [← hup]; exact h1
      · intro q hq
        by_cases hq' : q < 16 * k
        · exact hbelow q hq'
        · have := hmin (q - 16 * k) (by omega)
          rw [hup, show 16 * k + (q - 16 * k) + 1 = q + 1 by omega] at this
          exact this
      · show (16#32 * (BitVec.ofNat 32 j - (0#32 + BitVec.ofNat 32 k * 1#32)) + 15#32) - BitVec.ofNat 32 l = _
        apply BitVec.eq_of_toNat_eq
        simp only [BitVec.toNat_sub, BitVec.toNat_add, BitVec.toNat_mul, BitVec.toNat_ofNat]
        omega
      · show BitVec.ofNat 32 (upTo (suf H N (16 * k)) f l) - BitVec.ofNat 32 (f l) = _
        have e : upTo (suf H N (16 * k)) f l = suf H N (16 * k + l) + f l := by
          unfold upTo
          rw [Finset.sum_range_succ, ← Nat.add_assoc, suf_add]
        rw [e, BitVec.ofNat_add, BitVec.add_sub_cancel]
  · have hno : ∀ l < 16, (upTo (suf H N (16 * k)) f l : ℤ) < need.toInt := fun l hl => not_le.1 fun h => hex ⟨l, hl, h⟩
    have hany : top (marks need (BitVec.ofNat 32 (suf H N (16 * k))) v) = 0#32 :=
      top_eq (a := one need (suf H N (16 * k)) f) (M := 0) (l := 0) (marks_apply hv' hb)
        (fun i hi => le_of_eq (if_neg (not_le.mpr (hno i hi)))) (by decide) (by decide) (if_neg (not_le.mpr (hno 0 (by decide))))
    rw [hany]
    rcases hs with ⟨e0, p, hp, hp1, hp2, e1, e2⟩ | ⟨e0, hbelow, e1, e2⟩
    · subst e0
      exact Or.inl ⟨rfl, p, by omega, hp1, hp2, e1, e2⟩
    · subst e0
      refine Or.inr ⟨rfl, fun q hq => ?_, e1, e2⟩
      by_cases hq' : q < 16 * k
      · exact hbelow q hq'
      · have := hno (q - 16 * k) (by omega)
        rw [hup, show 16 * k + (q - 16 * k) + 1 = q + 1 by omega] at this
        exact this

/-- The walk over the whole histogram finds the answer. -/
theorem walk_ans {H : ℕ → ℕ} (hH : ∀ i, H i ≤ 100352) {j : ℕ} (hj : j < 128) {need : BitVec 32} {hv : S2048.Idx → BitVec 32}
    (hh : ∀ i < 16 * (j + 1), hv (at1 (by decide) i) = BitVec.ofNat 32 (H i)) :
    Ans H (16 * (j + 1)) need (walk hv (BitVec.ofNat 32 j) need (j + 1)).2.1 (walk hv (BitVec.ofNat 32 j) need (j + 1)).2.2.1 := by
  have key : ∀ n ≤ j + 1, Inv H (16 * (j + 1)) need (16 * n) (walk hv (BitVec.ofNat 32 j) need n) := by
    intro n
    induction n with
    | zero => exact fun _ => ⟨rfl, Or.inr ⟨rfl, fun q hq => absurd hq (Nat.not_lt_zero _), rfl, rfl⟩⟩
    | succ n ih =>
      intro hn
      refine turn_inv hH hj (by omega) (fun x => ?_) (ih (by omega))
      have hx : (x 0).val < 16 := (x 0).isLt
      show hv (at1 (by decide) (places (BitVec.ofNat 32 j) n x).toNat) = _
      rw [places_val hj (by omega), hh _ (by omega)]
      congr 2
      omega
  rcases (key (j + 1) (le_refl _)).2 with ⟨-, h⟩ | ⟨-, h⟩
  · exact Or.inl h
  · exact Or.inr h

end Cert.ThrIdeal.Run

end
-- ==== Proof.ThrRef.lean ====
/-
  The threshold search's reference: each of its three searches has the walk's answer, and its result is the kernel's; and
  the precondition, which says that every bucket holds a number of keys.
-/
module

public import proofs.«01_k».proof.Proof.ThrCount
public import proofs.«01_k».proof.Proof.Gen.ThrReferenceIdeal.Run
public import proofs.«01_k».proof.Proof.Gen.Pre_buckets_hold_keys
public import Idealize.ShloMosaic.Lib.Routing.OpsOne
public import Idealize.ShloMosaic.Lib.SortNet.Extract
public import Idealize.ShloMosaic.Lib.Pointwise
public import Idealize.ShloMosaic.Lib.WordCmp
public import Idealize.ShloMosaic.Lib.ReduceAll
public import Idealize.ShloMosaic.Lib.ValueLayout

@[expose] public section

set_option maxRecDepth 16384

noncomputable section

namespace Cert.ThrReferenceIdeal.Value

open Idealize.ShloMosaic Idealize.ShloMosaic.TcCoe Idealize.SL.Sem Cert.ThrReferenceIdeal.Gen
open Cert.GatherIdeal.Run (at1 at1_eq at1_val)
open Cert.ThrIdeal.Run (suf Ans suf_le toInt_small lanes words thrOut)

/-! ## A search -/

section

variable {N M : ℕ} (h : IVec ⟨1, ![N]⟩ 32) (need : IVec S_ 32) (hb : S_.BroadcastsInDim ⟨1, ![N]⟩ ![])
  (hr : Shape.ReducesTo ⟨1, ![N]⟩ [0] S_) (hw : Shape.ReduceWindows ⟨1, ![N]⟩ (![N] : Fin 1 → ℕ) ![1] ![M] ![0] ⟨1, ![N]⟩)

/-- The keys from each bucket on. -/
def after : IVec ⟨1, ![N]⟩ 32 :=
  subi (broadcastInDim ⟨1, ![N]⟩ ![] hb (Host.reduce IntOp.addi h (constantI S_ 32 0#32) hr h_S_))
    (subi (Host.reduceWindow IntOp.addi ![N] ![1] ![M] ![0] h (broadcastInDim S_ ![] bcast_S_S_ (constantI S_ 32 0#32)) hw h_S_) h)

/-- The buckets from which on there are as many as wanted; minus one at the others. -/
def marked : IVec ⟨1, ![N]⟩ 32 :=
  select (cmpi .sge (after h hb hr hw) (broadcastInDim ⟨1, ![N]⟩ ![] hb need)) (iotaInDim ⟨1, ![N]⟩ 32 0)
    (broadcastInDim ⟨1, ![N]⟩ ![] hb (id (constantI S_ 32 4294967295#32)))

/-- The last of them. -/
def start : IVec S_ 32 := Host.reduce IntOp.maxsi (marked h need hb hr hw) (constantI S_ 32 2147483648#32) hr h_S_

/-- The buckets after it. -/
def higher : IVec ⟨1, ![N]⟩ 32 :=
  select (cmpi .sgt (iotaInDim ⟨1, ![N]⟩ 32 0) (broadcastInDim ⟨1, ![N]⟩ ![] hb (start h need hb hr hw))) h
    (broadcastInDim ⟨1, ![N]⟩ ![] hb (id (constantI S_ 32 0#32)))

def bucket : IVec S_ 32 :=
  select (cmpi .sge (start h need hb hr hw) (constantI S_ 32 0#32)) (start h need hb hr hw) (id (constantI S_ 32 0#32))
def above : IVec S_ 32 :=
  select (cmpi .sge (start h need hb hr hw) (constantI S_ 32 0#32))
    (Host.reduce IntOp.addi (higher h need hb hr hw) (constantI S_ 32 0#32) hr h_S_) (id (constantI S_ 32 0#32))

end

/-! ## What a search finds -/

theorem list_sum (f : ℕ → ℕ) (n : ℕ) : ((List.range n).map f).sum = ∑ i ∈ Finset.range n, f i := by
  induction n with
  | zero => rfl
  | succ n ih => rw [List.range_succ, List.map_append, List.sum_append, ih, Finset.sum_range_succ]; simp

/-- The buckets below and those above are all. -/
theorem below_suf (H : ℕ → ℕ) (N : ℕ) {n : ℕ} (hn : n ≤ N) : ∑ i ∈ Finset.range (N - n), H i + suf H N n = ∑ i ∈ Finset.range N, H i := by
  induction n with
  | zero => rfl
  | succ n ih =>
    have e := ih (by omega)
    rw [show N - n = (N - (n + 1)) + 1 by omega, Finset.sum_range_succ] at e
    unfold suf at e ⊢
    rw [Finset.sum_range_succ, show N - 1 - n = N - (n + 1) by omega]
    omega

theorem above_sum (H : ℕ → ℕ) (b n : ℕ) :
    ∑ i ∈ Finset.range n, (if b < i then H i else 0) + ∑ i ∈ Finset.range (min n (b + 1)), H i = ∑ i ∈ Finset.range n, H i := by
  induction n with
  | zero => rfl
  | succ n ih =>
    rw [Finset.sum_range_succ, Finset.sum_range_succ _ n]
    by_cases h : b < n
    · rw [if_pos h, show min (n + 1) (b + 1) = min n (b + 1) by omega]
      omega
    · rw [if_neg h, show min (n + 1) (b + 1) = n + 1 by omega, Finset.sum_range_succ]
      rw [show min n (b + 1) = n by omega] at ih
      omega

section

variable {N M : ℕ} {h : IVec ⟨1, ![N]⟩ 32} {need : IVec S_ 32} {hb : S_.BroadcastsInDim ⟨1, ![N]⟩ ![]}
  {hr : Shape.ReducesTo ⟨1, ![N]⟩ [0] S_} {hw : Shape.ReduceWindows ⟨1, ![N]⟩ (![N] : Fin 1 → ℕ) ![1] ![M] ![0] ⟨1, ![N]⟩}
  {H : ℕ → ℕ}

theorem after_apply (hM : M + 1 = N) (hh : ∀ i : Fin N, h (ix1 i) = BitVec.ofNat 32 (H i.val)) (i : Fin N) :
    after h hb hr hw (ix1 i) = BitVec.ofNat 32 (suf H N (N - i.val)) := by
  have hi := i.isLt
  have e1 : Host.reduce IntOp.addi h (constantI S_ 32 0#32) hr h_S_ ix0 = BitVec.ofNat 32 (∑ i ∈ Finset.range N, H i) :=
    (Routing.reduce_sum h H hh hr h_S_).trans (congrArg (BitVec.ofNat 32) (list_sum H N))
  have e2 : Host.reduceWindow IntOp.addi ![N] ![1] ![M] ![0] h (broadcastInDim S_ ![] bcast_S_S_ (constantI S_ 32 0#32)) hw h_S_ (ix1 i)
      = BitVec.ofNat 32 (∑ i ∈ Finset.range (i.val + 1), H i) :=
    (Routing.cumsum1 hM h H hh _ rfl hw h_S_ i).trans (congrArg (BitVec.ofNat 32) (list_sum H _))
  refine Eq.trans (b := Host.reduce IntOp.addi h (constantI S_ 32 0#32) hr h_S_ ix0
    - (Host.reduceWindow IntOp.addi ![N] ![1] ![M] ![0] h (broadcastInDim S_ ![] bcast_S_S_ (constantI S_ 32 0#32)) hw h_S_ (ix1 i) - h (ix1 i))) ?_ ?_
  · refine congrArg (fun z : S_.Idx => Host.reduce IntOp.addi h (constantI S_ 32 0#32) hr h_S_ z
      - (Host.reduceWindow IntOp.addi ![N] ![1] ![M] ![0] h (broadcastInDim S_ ![] bcast_S_S_ (constantI S_ 32 0#32)) hw h_S_ (ix1 i) - h (ix1 i))) ?_
    exact Subsingleton.elim _ _
  · have hs := below_suf H N (n := N - i.val) (by omega)
    rw [show N - (N - i.val) = i.val by omega] at hs
    rw [e1, e2, hh, Finset.sum_range_succ, BitVec.ofNat_add, BitVec.add_sub_cancel, ← hs, Nat.add_comm, BitVec.ofNat_add, BitVec.add_sub_cancel]

theorem marked_apply (hM : M + 1 = N) (hN : N ≤ 2048) (hH : ∀ i, H i ≤ 100352) (hh : ∀ i : Fin N, h (ix1 i) = BitVec.ofNat 32 (H i.val)) (i : Fin N) :
    (need ix0).toInt ≤ (suf H N (N - i.val) : ℤ) ∧ marked h need hb hr hw (ix1 i) = BitVec.ofNat 32 i.val
    ∨ (suf H N (N - i.val) : ℤ) < (need ix0).toInt ∧ marked h need hb hr hw (ix1 i) = 4294967295#32 := by
  have e : marked h need hb hr hw (ix1 i) = if IntOp.cmpi .sge (after h hb hr hw (ix1 i)) (need ix0) = 1#1 then BitVec.ofNat 32 i.val else 4294967295#32 := by
    refine congrArg (fun z : S_.Idx => if IntOp.cmpi .sge (after h hb hr hw (ix1 i)) (need z) = 1#1 then BitVec.ofNat 32 i.val else 4294967295#32) ?_
    exact Subsingleton.elim _ _
  rw [e, after_apply hM hh]
  have hs := toInt_small (suf_le hH N (n := N - i.val) (by omega))
  by_cases hc : (need ix0).toInt ≤ (suf H N (N - i.val) : ℤ)
  · exact Or.inl ⟨hc, if_pos (IntOp.cmpi_sge.2 (hs.symm ▸ hc))⟩
  · exact Or.inr ⟨not_le.1 hc, if_neg fun h' => hc (hs ▸ IntOp.cmpi_sge.1 h')⟩

/-- A search has the answer. -/
theorem search_ans (hM : M + 1 = N) (hN : N ≤ 2048) (hH : ∀ i, H i ≤ 100352) (hh : ∀ i : Fin N, h (ix1 i) = BitVec.ofNat 32 (H i.val)) :
    Ans H N (need ix0) (bucket h need hb hr hw ix0) (above h need hb hr hw ix0) := by
  classical
  have hfold : start h need hb hr hw ix0 = (Finset.univ.filter fun i => hr.drop i = ix0).fold IntOp.maxsi 2147483648#32 (marked h need hb hr hw) :=
    Host.reduce_eq_fold _ _ _ _ _ _
  obtain ⟨-, h2, h3⟩ := SortNet.fold_maxsi_spec (marked h need hb hr hw) (Finset.univ.filter fun i => hr.drop i = ix0) 2147483648#32
  rw [← hfold] at h2 h3
  have hge : ∀ i : Fin N, (marked h need hb hr hw (ix1 i)).toInt ≤ (start h need hb hr hw ix0).toInt := fun i =>
    h2 _ (Finset.mem_filter.2 ⟨Finset.mem_univ _, Subsingleton.elim _ _⟩)
  have hmk := fun i : Fin N => marked_apply (h := h) (need := need) (hb := hb) (hr := hr) (hw := hw) hM hN hH hh i
  have hN0 : 0 < N := by omega
  have hneg : (-1 : ℤ) ≤ (start h need hb hr hw ix0).toInt := by
    refine le_trans ?_ (hge ⟨0, hN0⟩)
    rcases hmk ⟨0, hN0⟩ with ⟨-, e⟩ | ⟨-, e⟩
    · rw [e]
      show (-1 : ℤ) ≤ (BitVec.ofNat 32 0).toInt
      decide
    · rw [e]
      decide
  have hone : ∃ i : Fin N, start h need hb hr hw ix0 = marked h need hb hr hw (ix1 i) := by
    rcases h3 with h3 | ⟨x, -, h3⟩
    · rw [h3] at hneg
      exact absurd hneg (by decide)
    · refine ⟨x 0, h3.trans (congrArg (marked h need hb hr hw) ?_)⟩
      funext a
      match a with
      | 0 => rfl
  have hbk : bucket h need hb hr hw ix0 = if IntOp.cmpi .sge (start h need hb hr hw ix0) 0#32 = 1#1 then start h need hb hr hw ix0 else 0#32 := rfl
  have hab : above h need hb hr hw ix0 = if IntOp.cmpi .sge (start h need hb hr hw ix0) 0#32 = 1#1
      then Host.reduce IntOp.addi (higher h need hb hr hw) (constantI S_ 32 0#32) hr h_S_ ix0 else 0#32 := rfl
  obtain ⟨i, hi⟩ := hone
  have hiN := i.isLt
  rcases hmk i with ⟨hle, e⟩ | ⟨hlt, e⟩
  · have hs : start h need hb hr hw ix0 = BitVec.ofNat 32 i.val := hi.trans e
    have hsi : (start h need hb hr hw ix0).toInt = (i.val : ℤ) := by rw [hs]; exact toInt_small (by omega)
    have hpos : IntOp.cmpi .sge (start h need hb hr hw ix0) 0#32 = 1#1 := IntOp.cmpi_sge.2 (by rw [hsi]; exact Int.natCast_nonneg _)
    rw [hbk, hab, if_pos hpos, if_pos hpos]
    refine Or.inl ⟨N - 1 - i.val, by omega, ?_, fun q hq => ?_, ?_, ?_⟩
    · rw [show N - 1 - i.val + 1 = N - i.val by omega]; exact hle
    · have hk : N - 1 - q < N := by omega
      rcases hmk ⟨N - 1 - q, hk⟩ with ⟨-, e'⟩ | ⟨hlt, -⟩
      · have := hge ⟨N - 1 - q, hk⟩
        rw [e', hsi] at this
        have e3 : (BitVec.ofNat 32 (N - 1 - q)).toInt = ((N - 1 - q : ℕ) : ℤ) := toInt_small (by omega)
        change (BitVec.ofNat 32 (N - 1 - q)).toInt ≤ _ at this
        omega
      · rw [show N - (N - 1 - q) = q + 1 by omega] at hlt
        exact hlt
    · rw [hs, show N - 1 - (N - 1 - i.val) = i.val by omega]
    · have hhi : ∀ k : Fin N, higher h need hb hr hw (ix1 k) = BitVec.ofNat 32 (if i.val < k.val then H k.val else 0) := by
        intro k
        have hkN := k.isLt
        have e4 : higher h need hb hr hw (ix1 k) = if IntOp.cmpi .sgt (BitVec.ofNat 32 k.val) (start h need hb hr hw ix0) = 1#1 then h (ix1 k) else 0#32 := by
          refine congrArg (fun z : S_.Idx => if IntOp.cmpi .sgt (BitVec.ofNat 32 k.val) (start h need hb hr hw z) = 1#1 then h (ix1 k) else 0#32) ?_
          exact Subsingleton.elim _ _
        have hk : (BitVec.ofNat 32 k.val).toInt = (k.val : ℤ) := toInt_small (by omega)
        rw [e4, hh]
        by_cases hc : i.val < k.val
        · rw [if_pos (IntOp.cmpi_sgt.2 (by rw [hsi, hk]; exact_mod_cast hc)), if_pos hc]
        · rw [if_neg fun h' => hc (by have := IntOp.cmpi_sgt.1 h'; rw [hsi, hk] at this; exact_mod_cast this), if_neg hc]
      refine (Routing.reduce_sum (higher h need hb hr hw) (fun k => if i.val < k then H k else 0) hhi hr h_S_).trans (congrArg (BitVec.ofNat 32) ?_)
      rw [list_sum]
      have a1 := above_sum H i.val N
      have a2 := below_suf H N (n := N - 1 - i.val) (by omega)
      rw [show min N (i.val + 1) = N - (N - 1 - i.val) by omega] at a1
      omega
  · have hs : start h need hb hr hw ix0 = 4294967295#32 := hi.trans e
    have hnot : ¬ IntOp.cmpi .sge (start h need hb hr hw ix0) 0#32 = 1#1 := by rw [hs]; decide
    rw [hbk, hab, if_neg hnot, if_neg hnot]
    refine Or.inr ⟨fun q hq => ?_, rfl, rfl⟩
    have hk : N - 1 - q < N := by omega
    rcases hmk ⟨N - 1 - q, hk⟩ with ⟨-, e'⟩ | ⟨hlt, -⟩
    · have := hge ⟨N - 1 - q, hk⟩
      rw [e', hs] at this
      have e3 : (BitVec.ofNat 32 (N - 1 - q)).toInt = ((N - 1 - q : ℕ) : ℤ) := toInt_small (by omega)
      change (BitVec.ofNat 32 (N - 1 - q)).toInt ≤ _ at this
      rw [e3, show (4294967295#32 : BitVec 32).toInt = -1 by decide] at this
      omega
    · rw [show N - (N - 1 - q) = q + 1 by omega] at hlt
      exact hlt

end

/-! ## The result -/

section

variable (a : IVec S2048 32) (b c : IVec S1024 32)

/-- The three searches, each for what the one before leaves to be found. -/
def need1 : IVec S_ 32 := constantI S_ 32 2000#32
def bucketA : IVec S_ 32 := bucket a need1 bcast_S_S2048 reducesTo_S2048_S_d0 reduceWindows_S2048_S2048_w2048s1p2047_0
def aboveA : IVec S_ 32 := above a need1 bcast_S_S2048 reducesTo_S2048_S_d0 reduceWindows_S2048_S2048_w2048s1p2047_0
def need2 : IVec S_ 32 := subi need1 (aboveA a)
def bucketB : IVec S_ 32 := bucket b (need2 a) bcast_S_S1024 reducesTo_S1024_S_d0 reduceWindows_S1024_S1024_w1024s1p1023_0
def aboveB : IVec S_ 32 := above b (need2 a) bcast_S_S1024 reducesTo_S1024_S_d0 reduceWindows_S1024_S1024_w1024s1p1023_0
def need3 : IVec S_ 32 := subi (need2 a) (aboveB a b)
def bucketC : IVec S_ 32 := bucket c (need3 a b) bcast_S_S1024 reducesTo_S1024_S_d0 reduceWindows_S1024_S1024_w1024s1p1023_0
def aboveC : IVec S_ 32 := above c (need3 a b) bcast_S_S1024 reducesTo_S1024_S_d0 reduceWindows_S1024_S1024_w1024s1p1023_0

/-- The row every tile publishes. -/
def row : IVec S16 32 :=
  concatenate S16 0 [⟨S2, concatenate S2 0 [
      ⟨S1, broadcastInDim S1 ![] bcast_S_S1 (addi (addi (muli (bucketA a) (constantI S_ 32 1048576#32)) (muli (bucketB a b) (constantI S_ 32 1024#32))) (bucketC a b c))⟩,
      ⟨S1, broadcastInDim S1 ![] bcast_S_S1 (addi (addi (aboveA a) (aboveB a b)) (aboveC a b c))⟩] concatenates_S1_S1_S2_d0⟩,
    ⟨S14, broadcastInDim S14 ![] bcast_S_S14 (constantI S_ 32 0#32)⟩] concatenates_S2_S14_S16_d0

/-- The reference's result. -/
def result : IVec S256 32 :=
  shapeCast S256 (broadcastInDim S16x16 ![0, 1] bcast_S1x16_S16x16_0_1 (broadcastInDim S1x16 ![1] bcast_S16_S1x16_1 (row a b c))) shapeCasts_S16x16_S256

theorem row_apply (x : S16.Idx) : row a b c x = if (x 0).val = 0
    then bucketA a ix0 * 1048576#32 + bucketB a b ix0 * 1024#32 + bucketC a b c ix0
    else if (x 0).val = 1 then aboveA a ix0 + aboveB a b ix0 + aboveC a b c ix0 else 0#32 := by
  have hx : (x 0).val < 16 := (x 0).isLt
  unfold row
  by_cases h0 : (x 0).val = 0
  · rw [if_pos h0]
    refine (concatenate_pair_apply_left (t := S16) (s₁ := S2) (s₂ := S14) 0 _ _ _ _ rfl (ix1 (0 : Fin 2)) ?_).trans
      ((concatenate_pair_apply_left (t := S2) (s₁ := S1) (s₂ := S1) 0 _ _ _ _ rfl (ix1 (0 : Fin 1)) ?_).trans ?_)
    · intro k
      match k with
      | 0 => exact h0.symm
    · intro k
      match k with
      | 0 => rfl
    · refine congrArg (fun z : S_.Idx => bucketA a z * 1048576#32 + bucketB a b z * 1024#32 + bucketC a b c z) ?_
      exact Subsingleton.elim _ _
  rw [if_neg h0]
  by_cases h1 : (x 0).val = 1
  · rw [if_pos h1]
    refine (concatenate_pair_apply_left (t := S16) (s₁ := S2) (s₂ := S14) 0 _ _ _ _ rfl (ix1 (1 : Fin 2)) ?_).trans
      ((concatenate_pair_apply_right (t := S2) (s₁ := S1) (s₂ := S1) 0 _ _ _ _ rfl rfl (ix1 (0 : Fin 1)) ?_ rfl).trans ?_)
    · intro k
      match k with
      | 0 => exact h1.symm
    · intro k hk
      match k with
      | 0 => exact absurd rfl hk
    · refine congrArg (fun z : S_.Idx => aboveA a z + aboveB a b z + aboveC a b c z) ?_
      exact Subsingleton.elim _ _
  rw [if_neg h1]
  refine (concatenate_pair_apply_right (t := S16) (s₁ := S2) (s₂ := S14) 0 _ _ _ _ rfl rfl (ix1 (⟨(x 0).val - 2, by omega⟩ : Fin 14)) ?_ ?_).trans rfl
  · intro k hk
    match k with
    | 0 => exact absurd rfl hk
  · show (x 0).val - 2 + 2 = (x 0).val
    omega

/-- Three numbers side by side in a word. -/
theorem packed {p q r : BitVec 32} (hp : p.toNat < 2048) (hq : q.toNat < 1024) (hr : r.toNat < 1024) :
    Scalar.ori (Scalar.ori (Scalar.shli p 20#32) (Scalar.shli q 10#32)) r = p * 1048576#32 + q * 1024#32 + r := by
  have e1 : (Scalar.shli p 20#32).toNat = p.toNat <<< 20 := by
    refine (show (Scalar.shli p 20#32).toNat = (p <<< 20).toNat from rfl).trans ?_
    rw [BitVec.toNat_shiftLeft, Nat.shiftLeft_eq]
    omega
  have e2 : (Scalar.shli q 10#32).toNat = q.toNat <<< 10 := by
    refine (show (Scalar.shli q 10#32).toNat = (q <<< 10).toNat from rfl).trans ?_
    rw [BitVec.toNat_shiftLeft, Nat.shiftLeft_eq]
    omega
  have e3 : q.toNat <<< 10 ||| r.toNat = q.toNat <<< 10 + r.toNat := (Nat.shiftLeft_add_eq_or_of_lt (by omega) _).symm
  have e4 : p.toNat <<< 20 ||| (q.toNat <<< 10 + r.toNat) = p.toNat <<< 20 + (q.toNat <<< 10 + r.toNat) :=
    (Nat.shiftLeft_add_eq_or_of_lt (by rw [Nat.shiftLeft_eq]; omega) _).symm
  apply BitVec.eq_of_toNat_eq
  refine (show (Scalar.ori (Scalar.ori (Scalar.shli p 20#32) (Scalar.shli q 10#32)) r).toNat
    = ((Scalar.shli p 20#32) ||| (Scalar.shli q 10#32) ||| r).toNat from rfl).trans ?_
  rw [BitVec.toNat_or, BitVec.toNat_or, e1, e2, Nat.or_assoc, e3, e4, Nat.shiftLeft_eq, Nat.shiftLeft_eq]
  simp only [BitVec.toNat_add, BitVec.toNat_mul, BitVec.toNat_ofNat]
  omega

/-- A lane's number against a constant. -/
theorem lane_eq (x : S16.Idx) {k : ℕ} (hk : k < 16) : (IntOp.cmpi .eq (lanes x) (BitVec.ofNat 32 k) = 1#1) ↔ (x 0).val = k := by
  have hx : (x 0).val < 16 := (x 0).isLt
  rw [show lanes x = BitVec.ofNat 32 (x 0).val from iota_single_apply .., IntOp.cmpi_eq, ← BitVec.toNat_inj, BitVec.toNat_ofNat, BitVec.toNat_ofNat]
  omega

theorem words_apply (p1 a1 p2 a2 p3 a3 : BitVec 32) (x : S16.Idx) :
    Cert.ThrIdeal.Gen.k0_pay3 lanes p1 a1 p2 a2 p3 a3 x = if (x 0).val = 0
      then Scalar.ori (Scalar.ori (Scalar.shli p1 20#32) (Scalar.shli p2 10#32)) p3
      else if (x 0).val = 1 then a1 + a2 + a3 else 0#32 :=
  if_congr (lane_eq x (k := 0) (by decide)) rfl (if_congr (lane_eq x (k := 1) (by decide)) rfl rfl)

variable {a b c}

/-- What a histogram holds, as numbers. -/
def held1 (a : IVec S2048 32) (i : ℕ) : ℕ := (a (at1 (by decide) i)).toNat
def held2 (b : IVec S1024 32) (i : ℕ) : ℕ := (b (at1 (by decide) i)).toNat

theorem ofNat_self (x : BitVec 32) : BitVec.ofNat 32 x.toNat = x := by simp

theorem laid_apply (b : IVec S1024 32) (f : IVec S2048 32) {i : ℕ} (hi : i < 16 * (63 + 1)) :
    Cert.ThrIdeal.Run.laid b f (at1 (by decide) i) = BitVec.ofNat 32 (held2 b i) := by
  have hv : ((at1 (N := 2048) (by decide) i) 0).val = i := at1_val _ (by omega)
  unfold Cert.ThrIdeal.Run.laid held2
  rw [hv, if_pos (by omega), ofNat_self]

/-- The walk down the first histogram, and those down the others, find what the searches do. -/
theorem found1 (ha : ∀ x, (a x).toNat ≤ 100352) :
    (Cert.ThrIdeal.Run.walkA a).2.1 = bucketA a ix0 ∧ (Cert.ThrIdeal.Run.walkA a).2.2.1 = aboveA a ix0 :=
  Ans.unique (Cert.ThrIdeal.Run.walk_ans (j := 127) (need := 2000#32) (hv := a) (H := held1 a) (fun _ => ha _) (by decide) (fun i _ => (ofNat_self _).symm))
    (search_ans (need := need1) (hb := bcast_S_S2048) (hr := reducesTo_S2048_S_d0) (hw := reduceWindows_S2048_S2048_w2048s1p2047_0)
      (h := a) (H := held1 a) rfl (by decide) (fun _ => ha _) (fun i => by
        rw [held1, ofNat_self]; exact congrArg a (at1_eq (by decide) (ix1 i) rfl)))

theorem found2 (hb : ∀ x, (b x).toNat ≤ 100352) (f : IVec S2048 32) (need : IVec S_ 32) {nd : BitVec 32} (hn : nd = need ix0) :
    (Cert.ThrIdeal.Run.walk (Cert.ThrIdeal.Run.laid b f) 63#32 nd 64).2.1
        = bucket b need bcast_S_S1024 reducesTo_S1024_S_d0 reduceWindows_S1024_S1024_w1024s1p1023_0 ix0
      ∧ (Cert.ThrIdeal.Run.walk (Cert.ThrIdeal.Run.laid b f) 63#32 nd 64).2.2.1
        = above b need bcast_S_S1024 reducesTo_S1024_S_d0 reduceWindows_S1024_S1024_w1024s1p1023_0 ix0 := by
  subst hn
  exact Ans.unique (Cert.ThrIdeal.Run.walk_ans (j := 63) (need := need ix0) (hv := Cert.ThrIdeal.Run.laid b f) (H := held2 b) (fun _ => hb _) (by decide)
      (fun i hi => laid_apply b f hi))
    (search_ans (need := need) (hb := bcast_S_S1024) (hr := reducesTo_S1024_S_d0) (hw := reduceWindows_S1024_S1024_w1024s1p1023_0)
      (h := b) (H := held2 b) rfl (by decide) (fun _ => hb _) (fun i => by
        rw [held2, ofNat_self]; exact congrArg b (at1_eq (by decide) (ix1 i) rfl)))

theorem bucket_lt1 (ha : ∀ x, (a x).toNat ≤ 100352) : (bucketA a ix0).toNat < 2048 :=
  Ans.bucket_lt (search_ans (need := need1) (hb := bcast_S_S2048) (hr := reducesTo_S2048_S_d0) (hw := reduceWindows_S2048_S2048_w2048s1p2047_0)
      (h := a) (H := held1 a) rfl (by decide) (fun _ => ha _) (fun i => by
        rw [held1, ofNat_self]; exact congrArg a (at1_eq (by decide) (ix1 i) rfl))) (by decide) (by decide)

theorem bucket_lt2 (hb : ∀ x, (b x).toNat ≤ 100352) (need : IVec S_ 32) :
    (bucket b need bcast_S_S1024 reducesTo_S1024_S_d0 reduceWindows_S1024_S1024_w1024s1p1023_0 ix0).toNat < 1024 :=
  Ans.bucket_lt (search_ans (need := need) (hb := bcast_S_S1024) (hr := reducesTo_S1024_S_d0) (hw := reduceWindows_S1024_S1024_w1024s1p1023_0)
      (h := b) (H := held2 b) rfl (by decide) (fun _ => hb _) (fun i => by
        rw [held2, ofNat_self]; exact congrArg b (at1_eq (by decide) (ix1 i) rfl))) (by decide) (by decide)

/-- The reference's result is the kernel's. -/
theorem result_eq (ha : ∀ x, (a x).toNat ≤ 100352) (hb : ∀ x, (b x).toNat ≤ 100352) (hc : ∀ x, (c x).toNat ≤ 100352) :
    result a b c = thrOut a b c := by
  obtain ⟨pa, qa⟩ := found1 ha
  have e2 : Cert.ThrIdeal.Run.needB a = need2 a ix0 := congrArg (fun z : BitVec 32 => 2000#32 - z) qa
  obtain ⟨pb, qb⟩ := found2 hb a (need2 a) e2
  have e3 : Cert.ThrIdeal.Run.needC a b = need3 a b ix0 := congrArg₂ (fun y z : BitVec 32 => y - z) e2 qb
  obtain ⟨pc, qc⟩ := found2 hc (Cert.ThrIdeal.Run.laid b a) (need3 a b) e3
  have hw : words a b c = row a b c := by
    funext x
    refine (words_apply _ _ _ _ _ _ x).trans ((row_apply a b c x).trans ?_).symm
    refine Eq.symm ?_
    unfold Cert.ThrIdeal.Run.walkB Cert.ThrIdeal.Run.walkC
    rw [pa, qa, pb, qb, pc, qc]
    by_cases h0 : (x 0).val = 0
    · rw [if_pos h0, if_pos h0]
      exact packed (bucket_lt1 ha) (bucket_lt2 hb _) (bucket_lt2 hc _)
    · rw [if_neg h0, if_neg h0]
      rfl
  funext y
  have hy : (y 0).val < 256 := (y 0).isLt
  unfold thrOut
  rw [hw]
  unfold result
  generalize row a b c = R
  let r : Fin 16 := ⟨(y 0).val / 16, by omega⟩
  let q : Fin 16 := ⟨(y 0).val % 16, by omega⟩
  refine (shapeCast_apply _ shapeCasts_S16x16_S256 y (ix2 r q) ?_).trans ?_
  · rw [Shape.rowMajor_val_one, Shape.rowMajor_val_two]
    show (y 0).val / 16 * 16 + (y 0).val % 16 = (y 0).val
    omega
  refine Eq.trans (b := R (ix1 q)) (by pointwise) (congrArg R (at1_eq (by decide) (ix1 q) (show ((ix1 q) 0).val = (y 0).val % 16 from rfl)))

/-- The generated run's term is that result. -/
theorem res_eq {F : FTy → Type} [FloatOps F] (m : (ℓ : Loc nD τ sig) → Buf (Elt F) ℓ) (d : Dev nD) :
    res_main_v70 m d = result (m ((d.tc : Thread nD τ).loc main_arg0)) (m ((d.tc : Thread nD τ).loc main_arg1)) (m ((d.tc : Thread nD τ).loc main_arg2)) := rfl

end

end Cert.ThrReferenceIdeal.Value

namespace Cert.Pre_buckets_hold_keys.Value

open Idealize.ShloMosaic Idealize.ShloMosaic.TcCoe Cert.Pre_buckets_hold_keys.Gen

theorem held_le {x : BitVec 32} (h : IntOp.andi (IntOp.cmpi .sge x 0#32) (IntOp.cmpi .sle x 100352#32) = 1#1) : x.toNat ≤ 100352 := by
  obtain ⟨h1, h2⟩ := IntOp.andi_eq_one.1 h
  have h1 := IntOp.cmpi_sge.1 h1
  have h2 := IntOp.cmpi_sle.1 h2
  rw [show (0#32 : BitVec 32).toInt = 0 by decide] at h1
  rw [show (100352#32 : BitVec 32).toInt = 100352 by decide] at h2
  rw [BitVec.toInt_eq_toNat_cond] at h1 h2
  have := x.isLt
  split at h1 <;> split at h2 <;> omega

/-- The precondition says that no bucket holds a negative number of keys or more than there are. -/
theorem holds {F : FTy → Type} [FloatOps F] {a : IVec S2048 32} {b c : IVec S1024 32} (h : fn (F := F) a b c = fun _ => 1#1) :
    (∀ x, (a x).toNat ≤ 100352) ∧ (∀ x, (b x).toNat ≤ 100352) ∧ ∀ x, (c x).toNat ≤ 100352 := by
  obtain ⟨h12, h3⟩ := IntOp.andi_eq_one.1 (congrFun h ix0)
  obtain ⟨h1, h2⟩ := IntOp.andi_eq_one.1 h12
  exact ⟨fun x => held_le (Host.reduce_andi_all _ _ _ _ _ h1 x), fun x => held_le (Host.reduce_andi_all _ _ _ _ _ h2 x),
    fun x => held_le (Host.reduce_andi_all _ _ _ _ _ h3 x)⟩

end Cert.Pre_buckets_hold_keys.Value

end
-- ==== Proof.ThrValue.lean ====
/-
  The threshold search's claims: the arguments kept, the frames of the three
  programs, and the equation of the kernel's and the reference's results.
-/
module

public import proofs.«01_k».proof.Proof.ThrLaunch
public import proofs.«01_k».proof.Proof.ThrRef
public import proofs.«01_k».proof.Proof.Gen.Thr
public import Idealize.ShloMosaic.Lib.Claim

@[expose] public section

set_option maxRecDepth 16384

noncomputable section

namespace Cert.ThrIdeal.Run

open Cert.ThrIdeal Cert.ThrIdeal.Gen
open Idealize.ShloMosaic Idealize.ShloMosaic.TcCoe Idealize.SL.Sem

section

variable {F : FTy → Type} [FloatOps F]
variable (m : (ℓ : Loc nD τ sig) → Buf (Elt F) ℓ) (d : Dev nD)

theorem mem_uc (b : Ref sig .tc) (h : ¬ (Proc.devRef (τ := τ) .tc b).isScoped) : (Proc.devRef .tc b : DevRef τ sig) ∈ Pipeline.ucRefs τ sig :=
  Finset.mem_filter.mpr ⟨StableHlo.devRef_mem_tcRefs b, h⟩

variable {m} {r : PUnit × MemSt nD τ sig (Elt F)}

/-- An array the call does not write ends as it started. -/
theorem QC.at (h : QC m r) (b : Ref sig .tc) (hb : ¬ (Proc.devRef (τ := τ) .tc b).isScoped)
    (h0 : Proc.devRef .tc b ≠ (main_v0 : DevRef τ sig)) :
    r.2.mem (d, Proc.devRef .tc b) = V5 m d (Proc.devRef .tc b) := (h.1 d _ (mem_uc b hb)).trans (V6_of_ne m d h0)

theorem QC.kept (h : QC m r) :
    r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2) :=
  ⟨h.at d main_arg0 (by decide) (by decide), h.at d main_arg1 (by decide) (by decide), h.at d main_arg2 (by decide) (by decide)⟩

end

/-- The search over the machine's words runs to its end with its arguments kept and every semaphore at zero. -/
theorem frame_bits : Cert.quiescent_Thr := fun m ρ _ =>
  (θ_run Cert.ThrIdeal.defs _ _).mono (fun _ h => ⟨fun c => QC.kept c h, h.2⟩) (run_main (F := Bits) m ρ)

/-- The same over the extended reals. -/
theorem frame_ideal : Cert.quiescent_ThrIdeal := fun m ρ _ =>
  (θ_run Cert.ThrIdeal.defs _ _).mono (fun _ h => ⟨fun c => QC.kept c h, h.2⟩) (run_main (F := Ideal) m ρ)

/-- The search's reference keeps its arguments. -/
theorem frame_reference : Cert.quiescent_ThrReferenceIdeal := fun m ρ _ =>
  (θ_run Cert.ThrReferenceIdeal.defs _ _).mono
    (fun r h => ⟨fun c => (h c).2, Idealize.ShloMosaic.sem_eq_zero_of_no_sems (by decide) r.2⟩)
    (Cert.ThrReferenceIdeal.Value.run (F := Ideal) m ρ)

/-- Where every bucket holds a number of keys, over the extended reals the search and its reference end with the same array. -/
theorem value : Cert.algebraic_ThrIdeal_ThrReferenceIdeal_pre_buckets_hold_keys := by
  intro m g m' g' hpre hagree
  refine ⟨fun c => new0 m c, ?_, ?_⟩
  · exact (θ_run Cert.ThrIdeal.defs _ _).mono
      (fun _ h c => ⟨(h.1 c _ (mem_uc main_v0 (by decide))).trans (V6_new0 m c), QC.kept c h⟩) (run_main (F := Ideal) m g)
  · refine (θ_run Cert.ThrReferenceIdeal.defs _ _).mono (fun r h c => ?_) (Cert.ThrReferenceIdeal.Value.run (F := Ideal) m' g')
    obtain ⟨h0, rest⟩ := h c
    obtain ⟨e0, e1, e2⟩ := hagree c
    obtain ⟨ha, hb, hc⟩ := Cert.Pre_buckets_hold_keys.Value.holds (hpre c)
    refine ⟨h0.trans ((Cert.ThrReferenceIdeal.Value.res_eq m' c).trans ?_), rest⟩
    rw [e0, e1, e2]
    exact Cert.ThrReferenceIdeal.Value.result_eq ha hb hc

end Cert.ThrIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.GatherReferenceIdeal
public import proofs.«01_k».proof.Proof.Gen.GatherReferenceIdeal.Run
public import proofs.«01_k».proof.Proof.Gen.Count
public import proofs.«01_k».proof.Proof.Gen.Count.Skeleton
public import proofs.«01_k».proof.Proof.Gen.CountIdeal
public import proofs.«01_k».proof.Proof.Gen.CountIdeal.Skeleton
public import proofs.«01_k».proof.Proof.Gen.CountReferenceIdeal
public import proofs.«01_k».proof.Proof.Gen.CountReferenceIdeal.Run
public import proofs.«01_k».proof.Proof.Gen.Place
public import proofs.«01_k».proof.Proof.Gen.Place.Skeleton
public import proofs.«01_k».proof.Proof.Gen.PlaceIdeal
public import proofs.«01_k».proof.Proof.Gen.PlaceIdeal.Skeleton
public import proofs.«01_k».proof.Proof.Gen.PlaceReferenceIdeal
public import proofs.«01_k».proof.Proof.Gen.PlaceReferenceIdeal.Run
public import proofs.«01_k».proof.Proof.Gen.Thr
public import proofs.«01_k».proof.Proof.Gen.Thr.Skeleton
public import proofs.«01_k».proof.Proof.Gen.ThrIdeal
public import proofs.«01_k».proof.Proof.Gen.ThrIdeal.Skeleton
public import proofs.«01_k».proof.Proof.Gen.ThrReferenceIdeal
public import proofs.«01_k».proof.Proof.Gen.ThrReferenceIdeal.Run
public import proofs.«01_k».proof.Proof.Gen.Pre_buckets_hold_keys
public import proofs.«01_k».proof.Proof.Gen.Pre_counts_of_keys
public import proofs.«01_k».proof.Proof.Gen.Pre_keys_and_areas
public import proofs.«01_k».proof.Proof.Gen.Pre_indices_in_range
public import proofs.«01_k».proof.Proof.Value
public import Idealize.ShloMosaic.Adequacy
public import Idealize.ShloMosaic.Init
public import proofs.«01_k».proof.Proof.GatherValue
public import proofs.«01_k».proof.Proof.CountValue
public import proofs.«01_k».proof.Proof.PlaceValue
public import proofs.«01_k».proof.Proof.ThrValue

@[expose] public section

set_option maxRecDepth 16384

noncomputable section

namespace Cert.Proof

open Idealize.ShloMosaic Idealize.SL.Sem Cert.Kernel

/-- The kernel runs to its end and leaves its arguments as they were, and every semaphore at zero. -/
theorem frame_p : Cert.quiescent_Kernel := fun m ρ _ => Cert.Kernel.Gen.frame m ρ

/-- The same of the kernel over the extended reals. -/
theorem frame_pi : Cert.quiescent_KernelIdeal := fun m ρ _ => Cert.KernelIdeal.Gen.frame m ρ

/-- The same of the reference over the extended reals. -/
theorem frame_ri : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- Over the extended reals the kernel and the reference end with the same four arrays. -/
theorem value : Cert.algebraic_KernelIdeal_ReferenceIdeal_pre_keys_and_areas := by
  pair_intro
  · run_from Cert.KernelIdeal.Gen.run m g
  · refine (θ_run Cert.ReferenceIdeal.defs _ _).mono (fun r h c => ?_) (Cert.ReferenceIdeal.Value.run_named m' g')
    obtain ⟨hk, ha⟩ := Cert.Pre_keys_and_areas.Value.rows _ _ _ (hpre c)
    obtain ⟨h0, h1, h2, h3, rest⟩ := h c
    obtain ⟨e0, e1, -⟩ := hagree c
    rw [e0, e1] at h0 h1 h2 h3
    exact ⟨h0.trans (Cert.ReferenceIdeal.Value.rois_eq _ _ hk), h1.trans (Cert.ReferenceIdeal.Value.byLevel_eq _ _ hk _ ha),
      h2.trans (Cert.ReferenceIdeal.Value.places_eq _ _ hk _ ha), h3.trans (Cert.ReferenceIdeal.Value.sizes_eq _ _ hk _ ha), rest⟩

theorem claim : Cert.Claim := ⟨Cert.Kernel.Gen.facts, Cert.KernelIdeal.Gen.facts, Cert.ReferenceIdeal.Gen.facts, Cert.Gather.Gen.facts,
  Cert.GatherIdeal.Gen.facts, Cert.GatherReferenceIdeal.Gen.facts, Cert.Count.Gen.facts, Cert.CountIdeal.Gen.facts, Cert.CountReferenceIdeal.Gen.facts,
  Cert.Place.Gen.facts, Cert.PlaceIdeal.Gen.facts, Cert.PlaceReferenceIdeal.Gen.facts,
  Cert.Thr.Gen.facts, Cert.ThrIdeal.Gen.facts, Cert.ThrReferenceIdeal.Gen.facts,
  Cert.Pre_keys_and_areas.Gen.facts, Cert.Pre_indices_in_range.Gen.facts, Cert.Pre_counts_of_keys.Gen.facts, Cert.Pre_buckets_hold_keys.Gen.facts,
  frame_p, frame_pi, fun m ρ _ => frame_pi m ρ trivial, frame_ri, fun m ρ _ => frame_ri m ρ trivial,
  Cert.GatherIdeal.Run.frame_bits, Cert.GatherIdeal.Run.frame_ideal, Cert.GatherIdeal.Run.frame_reference,
  fun m ρ _ => Cert.GatherIdeal.Run.frame_reference m ρ trivial,
  Cert.CountIdeal.Run.frame_bits, Cert.CountIdeal.Run.frame_ideal, Cert.CountIdeal.Run.frame_reference,
  Cert.PlaceIdeal.Run.frame_bits, Cert.PlaceIdeal.Run.frame_ideal, Cert.PlaceIdeal.Run.frame_reference,
  fun m ρ _ => Cert.PlaceIdeal.Run.frame_reference m ρ trivial,
  Cert.ThrIdeal.Run.frame_bits, Cert.ThrIdeal.Run.frame_ideal, fun m ρ _ => Cert.ThrIdeal.Run.frame_ideal m ρ trivial,
  Cert.ThrIdeal.Run.frame_reference, fun m ρ _ => Cert.ThrIdeal.Run.frame_reference m ρ trivial,
  trivial, value, trivial, Cert.GatherIdeal.Run.value, trivial, Cert.CountIdeal.Run.value, trivial, Cert.PlaceIdeal.Run.value, trivial,
  Cert.ThrIdeal.Run.value⟩

end Cert.Proof

end
